-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).2.2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).2.2.2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).2.2.2.2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7))).2.2.2.2.2.2 = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).2.2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).2.2.2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).2.2.2.2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7))).2.2.2.2.2.2 = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_pool [hPre_finite_pool : Cert.Pre_finite_pool.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.1 = (fun _ => 1#1)
    ∧ (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.2 = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_pool [hPre_finite_pool : Cert.Pre_finite_pool.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.1 = (fun _ => 1#1)
    ∧ (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.2 = (fun _ => 1#1)

def Pre_KernelLru (m : (ℓ : Loc Cert.KernelLru.nD Cert.KernelLru.τ Cert.KernelLru.sig) → Buf (Elt Bits) ℓ) : Prop :=
  True

def Pre_KernelLruIdeal (m : (ℓ : Loc Cert.KernelLruIdeal.nD Cert.KernelLruIdeal.τ Cert.KernelLruIdeal.sig) → Buf (Elt Ideal) ℓ) : Prop :=
  True

def Pre_KernelLruIdeal_finite_lru [hPre_finite_lru : Cert.Pre_finite_lru.Facts] (m : (ℓ : Loc Cert.KernelLruIdeal.nD Cert.KernelLruIdeal.τ Cert.KernelLruIdeal.sig) → Buf (Elt Ideal) ℓ) : Prop :=
  ∀ c : Dev Cert.KernelLruIdeal.nD,
    (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.2.2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.2.2.2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.2.2.2.2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.2.2.2.2.2.1 = (fun _ => 1#1)
    ∧ (Cert.Pre_finite_lru.fn (F := Ideal) (m ((c.tc : Thread Cert.KernelLruIdeal.nD Cert.KernelLruIdeal.τ).loc Cert.KernelLruIdeal.main_arg0)) (m ((c.tc : Thread Cert.KernelLruIdeal.nD Cert.KernelLruIdeal.τ).loc Cert.KernelLruIdeal.main_arg1)) (m ((c.tc : Thread Cert.KernelLruIdeal.nD Cert.KernelLruIdeal.τ).loc Cert.KernelLruIdeal.main_arg2)) (m ((c.tc : Thread Cert.KernelLruIdeal.nD Cert.KernelLruIdeal.τ).loc Cert.KernelLruIdeal.main_arg3)) (m ((c.tc : Thread Cert.KernelLruIdeal.nD Cert.KernelLruIdeal.τ).loc Cert.KernelLruIdeal.main_arg4)) (m ((c.tc : Thread Cert.KernelLruIdeal.nD Cert.KernelLruIdeal.τ).loc Cert.KernelLruIdeal.main_arg5)) (m ((c.tc : Thread Cert.KernelLruIdeal.nD Cert.KernelLruIdeal.τ).loc Cert.KernelLruIdeal.main_arg6)) (m ((c.tc : Thread Cert.KernelLruIdeal.nD Cert.KernelLruIdeal.τ).loc Cert.KernelLruIdeal.main_arg7)) (m ((c.tc : Thread Cert.KernelLruIdeal.nD Cert.KernelLruIdeal.τ).loc Cert.KernelLruIdeal.main_arg8))).2.2.2.2.2.2.2.2 = (fun _ => 1#1)

def Pre_ReferenceLruIdeal (m : (ℓ : Loc Cert.ReferenceLruIdeal.nD Cert.ReferenceLruIdeal.τ Cert.ReferenceLruIdeal.sig) → Buf (Elt Ideal) ℓ) : Prop :=
  True

def Pre_ReferenceLruIdeal_finite_lru [hPre_finite_lru : Cert.Pre_finite_lru.Facts] (m : (ℓ : Loc Cert.ReferenceLruIdeal.nD Cert.ReferenceLruIdeal.τ Cert.ReferenceLruIdeal.sig) → Buf (Elt Ideal) ℓ) : Prop :=
  ∀ c : Dev Cert.ReferenceLruIdeal.nD,
    (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.2.2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.2.2.2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.2.2.2.2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.2.2.2.2.2.1 = (fun _ => 1#1)
    ∧ (Cert.Pre_finite_lru.fn (F := Ideal) (m ((c.tc : Thread Cert.ReferenceLruIdeal.nD Cert.ReferenceLruIdeal.τ).loc Cert.ReferenceLruIdeal.main_arg0)) (m ((c.tc : Thread Cert.ReferenceLruIdeal.nD Cert.ReferenceLruIdeal.τ).loc Cert.ReferenceLruIdeal.main_arg1)) (m ((c.tc : Thread Cert.ReferenceLruIdeal.nD Cert.ReferenceLruIdeal.τ).loc Cert.ReferenceLruIdeal.main_arg2)) (m ((c.tc : Thread Cert.ReferenceLruIdeal.nD Cert.ReferenceLruIdeal.τ).loc Cert.ReferenceLruIdeal.main_arg3)) (m ((c.tc : Thread Cert.ReferenceLruIdeal.nD Cert.ReferenceLruIdeal.τ).loc Cert.ReferenceLruIdeal.main_arg4)) (m ((c.tc : Thread Cert.ReferenceLruIdeal.nD Cert.ReferenceLruIdeal.τ).loc Cert.ReferenceLruIdeal.main_arg5)) (m ((c.tc : Thread Cert.ReferenceLruIdeal.nD Cert.ReferenceLruIdeal.τ).loc Cert.ReferenceLruIdeal.main_arg6)) (m ((c.tc : Thread Cert.ReferenceLruIdeal.nD Cert.ReferenceLruIdeal.τ).loc Cert.ReferenceLruIdeal.main_arg7)) (m ((c.tc : Thread Cert.ReferenceLruIdeal.nD Cert.ReferenceLruIdeal.τ).loc Cert.ReferenceLruIdeal.main_arg8))).2.2.2.2.2.2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.2.2.2 = (fun _ => 1#1)

def Pre_KernelMlpx (m : (ℓ : Loc Cert.KernelMlpx.nD Cert.KernelMlpx.τ Cert.KernelMlpx.sig) → Buf (Elt Bits) ℓ) : Prop :=
  True

def Pre_KernelMlpxIdeal (m : (ℓ : Loc Cert.KernelMlpxIdeal.nD Cert.KernelMlpxIdeal.τ Cert.KernelMlpxIdeal.sig) → Buf (Elt Ideal) ℓ) : Prop :=
  True

def Pre_ReferenceMlpxIdeal (m : (ℓ : Loc Cert.ReferenceMlpxIdeal.nD Cert.ReferenceMlpxIdeal.τ Cert.ReferenceMlpxIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_KernelMergeIdeal_finite_merge [hPre_finite_merge : Cert.Pre_finite_merge.Facts] (m : (ℓ : Loc Cert.KernelMergeIdeal.nD Cert.KernelMergeIdeal.τ Cert.KernelMergeIdeal.sig) → Buf (Elt Ideal) ℓ) : Prop :=
  ∀ c : Dev Cert.KernelMergeIdeal.nD,
    (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.2.2.2.2.2.1 = (fun _ => 1#1)
    ∧ (Cert.Pre_finite_merge.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2.2.2.2.2.2.2.2.2.2 = (fun _ => 1#1)

def Pre_ReferenceMergeIdeal (m : (ℓ : Loc Cert.ReferenceMergeIdeal.nD Cert.ReferenceMergeIdeal.τ Cert.ReferenceMergeIdeal.sig) → Buf (Elt Ideal) ℓ) : Prop :=
  True

def Pre_ReferenceMergeIdeal_finite_merge [hPre_finite_merge : Cert.Pre_finite_merge.Facts] (m : (ℓ : Loc Cert.ReferenceMergeIdeal.nD Cert.ReferenceMergeIdeal.τ Cert.ReferenceMergeIdeal.sig) → Buf (Elt Ideal) ℓ) : Prop :=
  ∀ c : Dev Cert.ReferenceMergeIdeal.nD,
    (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.2.2.2.2.2.1 = (fun _ => 1#1)
    ∧ (Cert.Pre_finite_merge.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2.2.2.2.2.2.2.2.2.2 = (fun _ => 1#1)

def Pre_KernelFmerge (m : (ℓ : Loc Cert.KernelFmerge.nD Cert.KernelFmerge.τ Cert.KernelFmerge.sig) → Buf (Elt Bits) ℓ) : Prop :=
  True

def Pre_KernelFmergeIdeal (m : (ℓ : Loc Cert.KernelFmergeIdeal.nD Cert.KernelFmergeIdeal.τ Cert.KernelFmergeIdeal.sig) → Buf (Elt Ideal) ℓ) : Prop :=
  True

def Pre_ReferenceFmergeIdeal (m : (ℓ : Loc Cert.ReferenceFmergeIdeal.nD Cert.ReferenceFmergeIdeal.τ Cert.ReferenceFmergeIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_finite_pool [hKernelPoolIdeal : Cert.KernelPoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_pool m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_finite_pool [hReferencePoolIdeal : Cert.ReferencePoolIdeal.Facts] [hPre_finite_pool : Cert.Pre_finite_pool.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_pool m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelLru [hKernelLru : Cert.KernelLru.Facts] : Prop :=
  ∀ (m : (ℓ : Loc Cert.KernelLru.nD Cert.KernelLru.τ Cert.KernelLru.sig) → Buf (Elt Bits) ℓ) (g : Dev Cert.KernelLru.nD → PrngReg), Pre_KernelLru m →
    θ_run (Cert.KernelLru.defs (F := Bits)) (onTc (τ := Cert.KernelLru.τ) (Cert.KernelLru.main (F := Bits))) ⟨m, fun _ => 0, g⟩ (fun r => (∀ c : Dev Cert.KernelLru.nD,
      r.2.mem ((c.tc : Thread Cert.KernelLru.nD Cert.KernelLru.τ).loc Cert.KernelLru.main_arg0) = m ((c.tc : Thread Cert.KernelLru.nD Cert.KernelLru.τ).loc Cert.KernelLru.main_arg0)
      ∧ r.2.mem ((c.tc : Thread Cert.KernelLru.nD Cert.KernelLru.τ).loc Cert.KernelLru.main_arg1) = m ((c.tc : Thread Cert.KernelLru.nD Cert.KernelLru.τ).loc Cert.KernelLru.main_arg1)
      ∧ r.2.mem ((c.tc : Thread Cert.KernelLru.nD Cert.KernelLru.τ).loc Cert.KernelLru.main_arg2) = m ((c.tc : Thread Cert.KernelLru.nD Cert.KernelLru.τ).loc Cert.KernelLru.main_arg2)
      ∧ r.2.mem ((c.tc : Thread Cert.KernelLru.nD Cert.KernelLru.τ).loc Cert.KernelLru.main_arg3) = m ((c.tc : Thread Cert.KernelLru.nD Cert.KernelLru.τ).loc Cert.KernelLru.main_arg3)
      ∧ r.2.mem ((c.tc : Thread Cert.KernelLru.nD Cert.KernelLru.τ).loc Cert.KernelLru.main_arg4) = m ((c.tc : Thread Cert.KernelLru.nD Cert.KernelLru.τ).loc Cert.KernelLru.main_arg4)
      ∧ r.2.mem ((c.tc : Thread Cert.KernelLru.nD Cert.KernelLru.τ).loc Cert.KernelLru.main_arg5) = m ((c.tc : Thread Cert.KernelLru.nD Cert.KernelLru.τ).loc Cert.KernelLru.main_arg5)
      ∧ r.2.mem ((c.tc : Thread Cert.KernelLru.nD Cert.KernelLru.τ).loc Cert.KernelLru.main_arg6) = m ((c.tc : Thread Cert.KernelLru.nD Cert.KernelLru.τ).loc Cert.KernelLru.main_arg6)
      ∧ r.2.mem ((c.tc : Thread Cert.KernelLru.nD Cert.KernelLru.τ).loc Cert.KernelLru.main_arg7) = m ((c.tc : Thread Cert.KernelLru.nD Cert.KernelLru.τ).loc Cert.KernelLru.main_arg7)
      ∧ r.2.mem ((c.tc : Thread Cert.KernelLru.nD Cert.KernelLru.τ).loc Cert.KernelLru.main_arg8) = m ((c.tc : Thread Cert.KernelLru.nD Cert.KernelLru.τ).loc Cert.KernelLru.main_arg8))
      ∧ r.2.sem = fun _ => 0)

def quiescent_KernelLruIdeal [hKernelLruIdeal : Cert.KernelLruIdeal.Facts] : Prop :=
  ∀ (m : (ℓ : Loc Cert.KernelLruIdeal.nD Cert.KernelLruIdeal.τ Cert.KernelLruIdeal.sig) → Buf (Elt Ideal) ℓ) (g : Dev Cert.KernelLruIdeal.nD → PrngReg), Pre_KernelLruIdeal m →
    θ_run (Cert.KernelLruIdeal.defs (F := Ideal)) (onTc (τ := Cert.KernelLruIdeal.τ) (Cert.KernelLruIdeal.main (F := Ideal))) ⟨m, fun _ => 0, g⟩ (fun r => (∀ c : Dev Cert.KernelLruIdeal.nD,
      r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
      ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1)
      ∧ r.2.mem ((c.tc : Thread Cert.KernelLruIdeal.nD Cert.KernelLruIdeal.τ).loc Cert.KernelLruIdeal.main_arg2) = m ((c.tc : Thread Cert.KernelLruIdeal.nD Cert.KernelLruIdeal.τ).loc Cert.KernelLruIdeal.main_arg2)
      ∧ r.2.mem ((c.tc : Thread Cert.KernelLruIdeal.nD Cert.KernelLruIdeal.τ).loc Cert.KernelLruIdeal.main_arg3) = m ((c.tc : Thread Cert.KernelLruIdeal.nD Cert.KernelLruIdeal.τ).loc Cert.KernelLruIdeal.main_arg3)
      ∧ r.2.mem ((c.tc : Thread Cert.KernelLruIdeal.nD Cert.KernelLruIdeal.τ).loc Cert.KernelLruIdeal.main_arg4) = m ((c.tc : Thread Cert.KernelLruIdeal.nD Cert.KernelLruIdeal.τ).loc Cert.KernelLruIdeal.main_arg4)
      ∧ r.2.mem ((c.tc : Thread Cert.KernelLruIdeal.nD Cert.KernelLruIdeal.τ).loc Cert.KernelLruIdeal.main_arg5) = m ((c.tc : Thread Cert.KernelLruIdeal.nD Cert.KernelLruIdeal.τ).loc Cert.KernelLruIdeal.main_arg5)
      ∧ r.2.mem ((c.tc : Thread Cert.KernelLruIdeal.nD Cert.KernelLruIdeal.τ).loc Cert.KernelLruIdeal.main_arg6) = m ((c.tc : Thread Cert.KernelLruIdeal.nD Cert.KernelLruIdeal.τ).loc Cert.KernelLruIdeal.main_arg6)
      ∧ r.2.mem ((c.tc : Thread Cert.KernelLruIdeal.nD Cert.KernelLruIdeal.τ).loc Cert.KernelLruIdeal.main_arg7) = m ((c.tc : Thread Cert.KernelLruIdeal.nD Cert.KernelLruIdeal.τ).loc Cert.KernelLruIdeal.main_arg7)
      ∧ r.2.mem ((c.tc : Thread Cert.KernelLruIdeal.nD Cert.KernelLruIdeal.τ).loc Cert.KernelLruIdeal.main_arg8) = m ((c.tc : Thread Cert.KernelLruIdeal.nD Cert.KernelLruIdeal.τ).loc Cert.KernelLruIdeal.main_arg8))
      ∧ r.2.sem = fun _ => 0)

def quiescent_KernelLruIdeal_pre_finite_lru [hKernelLruIdeal : Cert.KernelLruIdeal.Facts] [hPre_finite_lru : Cert.Pre_finite_lru.Facts] : Prop :=
  ∀ (m : (ℓ : Loc Cert.KernelLruIdeal.nD Cert.KernelLruIdeal.τ Cert.KernelLruIdeal.sig) → Buf (Elt Ideal) ℓ) (g : Dev Cert.KernelLruIdeal.nD → PrngReg), Pre_KernelLruIdeal_finite_lru m →
    θ_run (Cert.KernelLruIdeal.defs (F := Ideal)) (onTc (τ := Cert.KernelLruIdeal.τ) (Cert.KernelLruIdeal.main (F := Ideal))) ⟨m, fun _ => 0, g⟩ (fun r => (∀ c : Dev Cert.KernelLruIdeal.nD,
      r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
      ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1)
      ∧ r.2.mem ((c.tc : Thread Cert.KernelLruIdeal.nD Cert.KernelLruIdeal.τ).loc Cert.KernelLruIdeal.main_arg2) = m ((c.tc : Thread Cert.KernelLruIdeal.nD Cert.KernelLruIdeal.τ).loc Cert.KernelLruIdeal.main_arg2)
      ∧ r.2.mem ((c.tc : Thread Cert.KernelLruIdeal.nD Cert.KernelLruIdeal.τ).loc Cert.KernelLruIdeal.main_arg3) = m ((c.tc : Thread Cert.KernelLruIdeal.nD Cert.KernelLruIdeal.τ).loc Cert.KernelLruIdeal.main_arg3)
      ∧ r.2.mem ((c.tc : Thread Cert.KernelLruIdeal.nD Cert.KernelLruIdeal.τ).loc Cert.KernelLruIdeal.main_arg4) = m ((c.tc : Thread Cert.KernelLruIdeal.nD Cert.KernelLruIdeal.τ).loc Cert.KernelLruIdeal.main_arg4)
      ∧ r.2.mem ((c.tc : Thread Cert.KernelLruIdeal.nD Cert.KernelLruIdeal.τ).loc Cert.KernelLruIdeal.main_arg5) = m ((c.tc : Thread Cert.KernelLruIdeal.nD Cert.KernelLruIdeal.τ).loc Cert.KernelLruIdeal.main_arg5)
      ∧ r.2.mem ((c.tc : Thread Cert.KernelLruIdeal.nD Cert.KernelLruIdeal.τ).loc Cert.KernelLruIdeal.main_arg6) = m ((c.tc : Thread Cert.KernelLruIdeal.nD Cert.KernelLruIdeal.τ).loc Cert.KernelLruIdeal.main_arg6)
      ∧ r.2.mem ((c.tc : Thread Cert.KernelLruIdeal.nD Cert.KernelLruIdeal.τ).loc Cert.KernelLruIdeal.main_arg7) = m ((c.tc : Thread Cert.KernelLruIdeal.nD Cert.KernelLruIdeal.τ).loc Cert.KernelLruIdeal.main_arg7)
      ∧ r.2.mem ((c.tc : Thread Cert.KernelLruIdeal.nD Cert.KernelLruIdeal.τ).loc Cert.KernelLruIdeal.main_arg8) = m ((c.tc : Thread Cert.KernelLruIdeal.nD Cert.KernelLruIdeal.τ).loc Cert.KernelLruIdeal.main_arg8))
      ∧ r.2.sem = fun _ => 0)

def quiescent_ReferenceLruIdeal [hReferenceLruIdeal : Cert.ReferenceLruIdeal.Facts] : Prop :=
  ∀ (m : (ℓ : Loc Cert.ReferenceLruIdeal.nD Cert.ReferenceLruIdeal.τ Cert.ReferenceLruIdeal.sig) → Buf (Elt Ideal) ℓ) (g : Dev Cert.ReferenceLruIdeal.nD → PrngReg), Pre_ReferenceLruIdeal m →
    θ_run (Cert.ReferenceLruIdeal.defs (F := Ideal)) (onTc (τ := Cert.ReferenceLruIdeal.τ) (Cert.ReferenceLruIdeal.main (F := Ideal))) ⟨m, fun _ => 0, g⟩ (fun r => (∀ c : Dev Cert.ReferenceLruIdeal.nD,
      r.2.mem ((c.tc : Thread Cert.ReferenceLruIdeal.nD Cert.ReferenceLruIdeal.τ).loc Cert.ReferenceLruIdeal.main_arg0) = m ((c.tc : Thread Cert.ReferenceLruIdeal.nD Cert.ReferenceLruIdeal.τ).loc Cert.ReferenceLruIdeal.main_arg0)
      ∧ r.2.mem ((c.tc : Thread Cert.ReferenceLruIdeal.nD Cert.ReferenceLruIdeal.τ).loc Cert.ReferenceLruIdeal.main_arg1) = m ((c.tc : Thread Cert.ReferenceLruIdeal.nD Cert.ReferenceLruIdeal.τ).loc Cert.ReferenceLruIdeal.main_arg1)
      ∧ r.2.mem ((c.tc : Thread Cert.ReferenceLruIdeal.nD Cert.ReferenceLruIdeal.τ).loc Cert.ReferenceLruIdeal.main_arg2) = m ((c.tc : Thread Cert.ReferenceLruIdeal.nD Cert.ReferenceLruIdeal.τ).loc Cert.ReferenceLruIdeal.main_arg2)
      ∧ r.2.mem ((c.tc : Thread Cert.ReferenceLruIdeal.nD Cert.ReferenceLruIdeal.τ).loc Cert.ReferenceLruIdeal.main_arg3) = m ((c.tc : Thread Cert.ReferenceLruIdeal.nD Cert.ReferenceLruIdeal.τ).loc Cert.ReferenceLruIdeal.main_arg3)
      ∧ r.2.mem ((c.tc : Thread Cert.ReferenceLruIdeal.nD Cert.ReferenceLruIdeal.τ).loc Cert.ReferenceLruIdeal.main_arg4) = m ((c.tc : Thread Cert.ReferenceLruIdeal.nD Cert.ReferenceLruIdeal.τ).loc Cert.ReferenceLruIdeal.main_arg4)
      ∧ r.2.mem ((c.tc : Thread Cert.ReferenceLruIdeal.nD Cert.ReferenceLruIdeal.τ).loc Cert.ReferenceLruIdeal.main_arg5) = m ((c.tc : Thread Cert.ReferenceLruIdeal.nD Cert.ReferenceLruIdeal.τ).loc Cert.ReferenceLruIdeal.main_arg5)
      ∧ r.2.mem ((c.tc : Thread Cert.ReferenceLruIdeal.nD Cert.ReferenceLruIdeal.τ).loc Cert.ReferenceLruIdeal.main_arg6) = m ((c.tc : Thread Cert.ReferenceLruIdeal.nD Cert.ReferenceLruIdeal.τ).loc Cert.ReferenceLruIdeal.main_arg6)
      ∧ r.2.mem ((c.tc : Thread Cert.ReferenceLruIdeal.nD Cert.ReferenceLruIdeal.τ).loc Cert.ReferenceLruIdeal.main_arg7) = m ((c.tc : Thread Cert.ReferenceLruIdeal.nD Cert.ReferenceLruIdeal.τ).loc Cert.ReferenceLruIdeal.main_arg7)
      ∧ r.2.mem ((c.tc : Thread Cert.ReferenceLruIdeal.nD Cert.ReferenceLruIdeal.τ).loc Cert.ReferenceLruIdeal.main_arg8) = m ((c.tc : Thread Cert.ReferenceLruIdeal.nD Cert.ReferenceLruIdeal.τ).loc Cert.ReferenceLruIdeal.main_arg8))
      ∧ r.2.sem = fun _ => 0)

def quiescent_ReferenceLruIdeal_pre_finite_lru [hReferenceLruIdeal : Cert.ReferenceLruIdeal.Facts] [hPre_finite_lru : Cert.Pre_finite_lru.Facts] : Prop :=
  ∀ (m : (ℓ : Loc Cert.ReferenceLruIdeal.nD Cert.ReferenceLruIdeal.τ Cert.ReferenceLruIdeal.sig) → Buf (Elt Ideal) ℓ) (g : Dev Cert.ReferenceLruIdeal.nD → PrngReg), Pre_ReferenceLruIdeal_finite_lru m →
    θ_run (Cert.ReferenceLruIdeal.defs (F := Ideal)) (onTc (τ := Cert.ReferenceLruIdeal.τ) (Cert.ReferenceLruIdeal.main (F := Ideal))) ⟨m, fun _ => 0, g⟩ (fun r => (∀ c : Dev Cert.ReferenceLruIdeal.nD,
      r.2.mem ((c.tc : Thread Cert.ReferenceLruIdeal.nD Cert.ReferenceLruIdeal.τ).loc Cert.ReferenceLruIdeal.main_arg0) = m ((c.tc : Thread Cert.ReferenceLruIdeal.nD Cert.ReferenceLruIdeal.τ).loc Cert.ReferenceLruIdeal.main_arg0)
      ∧ r.2.mem ((c.tc : Thread Cert.ReferenceLruIdeal.nD Cert.ReferenceLruIdeal.τ).loc Cert.ReferenceLruIdeal.main_arg1) = m ((c.tc : Thread Cert.ReferenceLruIdeal.nD Cert.ReferenceLruIdeal.τ).loc Cert.ReferenceLruIdeal.main_arg1)
      ∧ r.2.mem ((c.tc : Thread Cert.ReferenceLruIdeal.nD Cert.ReferenceLruIdeal.τ).loc Cert.ReferenceLruIdeal.main_arg2) = m ((c.tc : Thread Cert.ReferenceLruIdeal.nD Cert.ReferenceLruIdeal.τ).loc Cert.ReferenceLruIdeal.main_arg2)
      ∧ r.2.mem ((c.tc : Thread Cert.ReferenceLruIdeal.nD Cert.ReferenceLruIdeal.τ).loc Cert.ReferenceLruIdeal.main_arg3) = m ((c.tc : Thread Cert.ReferenceLruIdeal.nD Cert.ReferenceLruIdeal.τ).loc Cert.ReferenceLruIdeal.main_arg3)
      ∧ r.2.mem ((c.tc : Thread Cert.ReferenceLruIdeal.nD Cert.ReferenceLruIdeal.τ).loc Cert.ReferenceLruIdeal.main_arg4) = m ((c.tc : Thread Cert.ReferenceLruIdeal.nD Cert.ReferenceLruIdeal.τ).loc Cert.ReferenceLruIdeal.main_arg4)
      ∧ r.2.mem ((c.tc : Thread Cert.ReferenceLruIdeal.nD Cert.ReferenceLruIdeal.τ).loc Cert.ReferenceLruIdeal.main_arg5) = m ((c.tc : Thread Cert.ReferenceLruIdeal.nD Cert.ReferenceLruIdeal.τ).loc Cert.ReferenceLruIdeal.main_arg5)
      ∧ r.2.mem ((c.tc : Thread Cert.ReferenceLruIdeal.nD Cert.ReferenceLruIdeal.τ).loc Cert.ReferenceLruIdeal.main_arg6) = m ((c.tc : Thread Cert.ReferenceLruIdeal.nD Cert.ReferenceLruIdeal.τ).loc Cert.ReferenceLruIdeal.main_arg6)
      ∧ r.2.mem ((c.tc : Thread Cert.ReferenceLruIdeal.nD Cert.ReferenceLruIdeal.τ).loc Cert.ReferenceLruIdeal.main_arg7) = m ((c.tc : Thread Cert.ReferenceLruIdeal.nD Cert.ReferenceLruIdeal.τ).loc Cert.ReferenceLruIdeal.main_arg7)
      ∧ r.2.mem ((c.tc : Thread Cert.ReferenceLruIdeal.nD Cert.ReferenceLruIdeal.τ).loc Cert.ReferenceLruIdeal.main_arg8) = m ((c.tc : Thread Cert.ReferenceLruIdeal.nD Cert.ReferenceLruIdeal.τ).loc Cert.ReferenceLruIdeal.main_arg8))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_KernelMlpx [hKernelMlpx : Cert.KernelMlpx.Facts] : Prop :=
  ∀ (m : (ℓ : Loc Cert.KernelMlpx.nD Cert.KernelMlpx.τ Cert.KernelMlpx.sig) → Buf (Elt Bits) ℓ) (g : Dev Cert.KernelMlpx.nD → PrngReg), Pre_KernelMlpx m →
    θ_run (Cert.KernelMlpx.defs (F := Bits)) (onTc (τ := Cert.KernelMlpx.τ) (Cert.KernelMlpx.main (F := Bits))) ⟨m, fun _ => 0, g⟩ (fun r => (∀ c : Dev Cert.KernelMlpx.nD,
      r.2.mem ((c.tc : Thread Cert.KernelMlpx.nD Cert.KernelMlpx.τ).loc Cert.KernelMlpx.main_arg0) = m ((c.tc : Thread Cert.KernelMlpx.nD Cert.KernelMlpx.τ).loc Cert.KernelMlpx.main_arg0)
      ∧ r.2.mem ((c.tc : Thread Cert.KernelMlpx.nD Cert.KernelMlpx.τ).loc Cert.KernelMlpx.main_arg1) = m ((c.tc : Thread Cert.KernelMlpx.nD Cert.KernelMlpx.τ).loc Cert.KernelMlpx.main_arg1)
      ∧ r.2.mem ((c.tc : Thread Cert.KernelMlpx.nD Cert.KernelMlpx.τ).loc Cert.KernelMlpx.main_arg2) = m ((c.tc : Thread Cert.KernelMlpx.nD Cert.KernelMlpx.τ).loc Cert.KernelMlpx.main_arg2)
      ∧ r.2.mem ((c.tc : Thread Cert.KernelMlpx.nD Cert.KernelMlpx.τ).loc Cert.KernelMlpx.main_arg3) = m ((c.tc : Thread Cert.KernelMlpx.nD Cert.KernelMlpx.τ).loc Cert.KernelMlpx.main_arg3))
      ∧ r.2.sem = fun _ => 0)

def quiescent_KernelMlpxIdeal [hKernelMlpxIdeal : Cert.KernelMlpxIdeal.Facts] : Prop :=
  ∀ (m : (ℓ : Loc Cert.KernelMlpxIdeal.nD Cert.KernelMlpxIdeal.τ Cert.KernelMlpxIdeal.sig) → Buf (Elt Ideal) ℓ) (g : Dev Cert.KernelMlpxIdeal.nD → PrngReg), Pre_KernelMlpxIdeal m →
    θ_run (Cert.KernelMlpxIdeal.defs (F := Ideal)) (onTc (τ := Cert.KernelMlpxIdeal.τ) (Cert.KernelMlpxIdeal.main (F := Ideal))) ⟨m, fun _ => 0, g⟩ (fun r => (∀ c : Dev Cert.KernelMlpxIdeal.nD,
      r.2.mem ((c.tc : Thread Cert.KernelMlpxIdeal.nD Cert.KernelMlpxIdeal.τ).loc Cert.KernelMlpxIdeal.main_arg0) = m ((c.tc : Thread Cert.KernelMlpxIdeal.nD Cert.KernelMlpxIdeal.τ).loc Cert.KernelMlpxIdeal.main_arg0)
      ∧ r.2.mem ((c.tc : Thread Cert.KernelMlpxIdeal.nD Cert.KernelMlpxIdeal.τ).loc Cert.KernelMlpxIdeal.main_arg1) = m ((c.tc : Thread Cert.KernelMlpxIdeal.nD Cert.KernelMlpxIdeal.τ).loc Cert.KernelMlpxIdeal.main_arg1)
      ∧ r.2.mem ((c.tc : Thread Cert.KernelMlpxIdeal.nD Cert.KernelMlpxIdeal.τ).loc Cert.KernelMlpxIdeal.main_arg2) = m ((c.tc : Thread Cert.KernelMlpxIdeal.nD Cert.KernelMlpxIdeal.τ).loc Cert.KernelMlpxIdeal.main_arg2)
      ∧ r.2.mem ((c.tc : Thread Cert.KernelMlpxIdeal.nD Cert.KernelMlpxIdeal.τ).loc Cert.KernelMlpxIdeal.main_arg3) = m ((c.tc : Thread Cert.KernelMlpxIdeal.nD Cert.KernelMlpxIdeal.τ).loc Cert.KernelMlpxIdeal.main_arg3))
      ∧ r.2.sem = fun _ => 0)

def quiescent_ReferenceMlpxIdeal [hReferenceMlpxIdeal : Cert.ReferenceMlpxIdeal.Facts] : Prop :=
  ∀ (m : (ℓ : Loc Cert.ReferenceMlpxIdeal.nD Cert.ReferenceMlpxIdeal.τ Cert.ReferenceMlpxIdeal.sig) → Buf (Elt Ideal) ℓ) (g : Dev Cert.ReferenceMlpxIdeal.nD → PrngReg), Pre_ReferenceMlpxIdeal m →
    θ_run (Cert.ReferenceMlpxIdeal.defs (F := Ideal)) (onTc (τ := Cert.ReferenceMlpxIdeal.τ) (Cert.ReferenceMlpxIdeal.main (F := Ideal))) ⟨m, fun _ => 0, g⟩ (fun r => (∀ c : Dev Cert.ReferenceMlpxIdeal.nD,
      r.2.mem ((c.tc : Thread Cert.ReferenceMlpxIdeal.nD Cert.ReferenceMlpxIdeal.τ).loc Cert.ReferenceMlpxIdeal.main_arg0) = m ((c.tc : Thread Cert.ReferenceMlpxIdeal.nD Cert.ReferenceMlpxIdeal.τ).loc Cert.ReferenceMlpxIdeal.main_arg0)
      ∧ r.2.mem ((c.tc : Thread Cert.ReferenceMlpxIdeal.nD Cert.ReferenceMlpxIdeal.τ).loc Cert.ReferenceMlpxIdeal.main_arg1) = m ((c.tc : Thread Cert.ReferenceMlpxIdeal.nD Cert.ReferenceMlpxIdeal.τ).loc Cert.ReferenceMlpxIdeal.main_arg1)
      ∧ r.2.mem ((c.tc : Thread Cert.ReferenceMlpxIdeal.nD Cert.ReferenceMlpxIdeal.τ).loc Cert.ReferenceMlpxIdeal.main_arg2) = m ((c.tc : Thread Cert.ReferenceMlpxIdeal.nD Cert.ReferenceMlpxIdeal.τ).loc Cert.ReferenceMlpxIdeal.main_arg2)
      ∧ r.2.mem ((c.tc : Thread Cert.ReferenceMlpxIdeal.nD Cert.ReferenceMlpxIdeal.τ).loc Cert.ReferenceMlpxIdeal.main_arg3) = m ((c.tc : Thread Cert.ReferenceMlpxIdeal.nD Cert.ReferenceMlpxIdeal.τ).loc Cert.ReferenceMlpxIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_KernelMergeIdeal_pre_finite_merge [hKernelMergeIdeal : Cert.KernelMergeIdeal.Facts] [hPre_finite_merge : Cert.Pre_finite_merge.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal_finite_merge m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_ReferenceMergeIdeal_pre_finite_merge [hReferenceMergeIdeal : Cert.ReferenceMergeIdeal.Facts] [hPre_finite_merge : Cert.Pre_finite_merge.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal_finite_merge m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_KernelFmerge [hKernelFmerge : Cert.KernelFmerge.Facts] : Prop :=
  ∀ (m : (ℓ : Loc Cert.KernelFmerge.nD Cert.KernelFmerge.τ Cert.KernelFmerge.sig) → Buf (Elt Bits) ℓ) (g : Dev Cert.KernelFmerge.nD → PrngReg), Pre_KernelFmerge m →
    θ_run (Cert.KernelFmerge.defs (F := Bits)) (onTc (τ := Cert.KernelFmerge.τ) (Cert.KernelFmerge.main (F := Bits))) ⟨m, fun _ => 0, g⟩ (fun r => (∀ c : Dev Cert.KernelFmerge.nD,
      r.2.mem ((c.tc : Thread Cert.KernelFmerge.nD Cert.KernelFmerge.τ).loc Cert.KernelFmerge.main_arg0) = m ((c.tc : Thread Cert.KernelFmerge.nD Cert.KernelFmerge.τ).loc Cert.KernelFmerge.main_arg0)
      ∧ r.2.mem ((c.tc : Thread Cert.KernelFmerge.nD Cert.KernelFmerge.τ).loc Cert.KernelFmerge.main_arg1) = m ((c.tc : Thread Cert.KernelFmerge.nD Cert.KernelFmerge.τ).loc Cert.KernelFmerge.main_arg1)
      ∧ r.2.mem ((c.tc : Thread Cert.KernelFmerge.nD Cert.KernelFmerge.τ).loc Cert.KernelFmerge.main_arg2) = m ((c.tc : Thread Cert.KernelFmerge.nD Cert.KernelFmerge.τ).loc Cert.KernelFmerge.main_arg2)
      ∧ r.2.mem ((c.tc : Thread Cert.KernelFmerge.nD Cert.KernelFmerge.τ).loc Cert.KernelFmerge.main_arg3) = m ((c.tc : Thread Cert.KernelFmerge.nD Cert.KernelFmerge.τ).loc Cert.KernelFmerge.main_arg3)
      ∧ r.2.mem ((c.tc : Thread Cert.KernelFmerge.nD Cert.KernelFmerge.τ).loc Cert.KernelFmerge.main_arg4) = m ((c.tc : Thread Cert.KernelFmerge.nD Cert.KernelFmerge.τ).loc Cert.KernelFmerge.main_arg4)
      ∧ r.2.mem ((c.tc : Thread Cert.KernelFmerge.nD Cert.KernelFmerge.τ).loc Cert.KernelFmerge.main_arg5) = m ((c.tc : Thread Cert.KernelFmerge.nD Cert.KernelFmerge.τ).loc Cert.KernelFmerge.main_arg5)
      ∧ r.2.mem ((c.tc : Thread Cert.KernelFmerge.nD Cert.KernelFmerge.τ).loc Cert.KernelFmerge.main_arg6) = m ((c.tc : Thread Cert.KernelFmerge.nD Cert.KernelFmerge.τ).loc Cert.KernelFmerge.main_arg6)
      ∧ r.2.mem ((c.tc : Thread Cert.KernelFmerge.nD Cert.KernelFmerge.τ).loc Cert.KernelFmerge.main_arg7) = m ((c.tc : Thread Cert.KernelFmerge.nD Cert.KernelFmerge.τ).loc Cert.KernelFmerge.main_arg7)
      ∧ r.2.mem ((c.tc : Thread Cert.KernelFmerge.nD Cert.KernelFmerge.τ).loc Cert.KernelFmerge.main_arg8) = m ((c.tc : Thread Cert.KernelFmerge.nD Cert.KernelFmerge.τ).loc Cert.KernelFmerge.main_arg8)
      ∧ r.2.mem ((c.tc : Thread Cert.KernelFmerge.nD Cert.KernelFmerge.τ).loc Cert.KernelFmerge.main_arg9) = m ((c.tc : Thread Cert.KernelFmerge.nD Cert.KernelFmerge.τ).loc Cert.KernelFmerge.main_arg9))
      ∧ r.2.sem = fun _ => 0)

def quiescent_KernelFmergeIdeal [hKernelFmergeIdeal : Cert.KernelFmergeIdeal.Facts] : Prop :=
  ∀ (m : (ℓ : Loc Cert.KernelFmergeIdeal.nD Cert.KernelFmergeIdeal.τ Cert.KernelFmergeIdeal.sig) → Buf (Elt Ideal) ℓ) (g : Dev Cert.KernelFmergeIdeal.nD → PrngReg), Pre_KernelFmergeIdeal m →
    θ_run (Cert.KernelFmergeIdeal.defs (F := Ideal)) (onTc (τ := Cert.KernelFmergeIdeal.τ) (Cert.KernelFmergeIdeal.main (F := Ideal))) ⟨m, fun _ => 0, g⟩ (fun r => (∀ c : Dev Cert.KernelFmergeIdeal.nD,
      r.2.mem ((c.tc : Thread Cert.KernelFmergeIdeal.nD Cert.KernelFmergeIdeal.τ).loc Cert.KernelFmergeIdeal.main_arg0) = m ((c.tc : Thread Cert.KernelFmergeIdeal.nD Cert.KernelFmergeIdeal.τ).loc Cert.KernelFmergeIdeal.main_arg0)
      ∧ r.2.mem ((c.tc : Thread Cert.KernelFmergeIdeal.nD Cert.KernelFmergeIdeal.τ).loc Cert.KernelFmergeIdeal.main_arg1) = m ((c.tc : Thread Cert.KernelFmergeIdeal.nD Cert.KernelFmergeIdeal.τ).loc Cert.KernelFmergeIdeal.main_arg1)
      ∧ r.2.mem ((c.tc : Thread Cert.KernelFmergeIdeal.nD Cert.KernelFmergeIdeal.τ).loc Cert.KernelFmergeIdeal.main_arg2) = m ((c.tc : Thread Cert.KernelFmergeIdeal.nD Cert.KernelFmergeIdeal.τ).loc Cert.KernelFmergeIdeal.main_arg2)
      ∧ r.2.mem ((c.tc : Thread Cert.KernelFmergeIdeal.nD Cert.KernelFmergeIdeal.τ).loc Cert.KernelFmergeIdeal.main_arg3) = m ((c.tc : Thread Cert.KernelFmergeIdeal.nD Cert.KernelFmergeIdeal.τ).loc Cert.KernelFmergeIdeal.main_arg3)
      ∧ r.2.mem ((c.tc : Thread Cert.KernelFmergeIdeal.nD Cert.KernelFmergeIdeal.τ).loc Cert.KernelFmergeIdeal.main_arg4) = m ((c.tc : Thread Cert.KernelFmergeIdeal.nD Cert.KernelFmergeIdeal.τ).loc Cert.KernelFmergeIdeal.main_arg4)
      ∧ r.2.mem ((c.tc : Thread Cert.KernelFmergeIdeal.nD Cert.KernelFmergeIdeal.τ).loc Cert.KernelFmergeIdeal.main_arg5) = m ((c.tc : Thread Cert.KernelFmergeIdeal.nD Cert.KernelFmergeIdeal.τ).loc Cert.KernelFmergeIdeal.main_arg5)
      ∧ r.2.mem ((c.tc : Thread Cert.KernelFmergeIdeal.nD Cert.KernelFmergeIdeal.τ).loc Cert.KernelFmergeIdeal.main_arg6) = m ((c.tc : Thread Cert.KernelFmergeIdeal.nD Cert.KernelFmergeIdeal.τ).loc Cert.KernelFmergeIdeal.main_arg6)
      ∧ r.2.mem ((c.tc : Thread Cert.KernelFmergeIdeal.nD Cert.KernelFmergeIdeal.τ).loc Cert.KernelFmergeIdeal.main_arg7) = m ((c.tc : Thread Cert.KernelFmergeIdeal.nD Cert.KernelFmergeIdeal.τ).loc Cert.KernelFmergeIdeal.main_arg7)
      ∧ r.2.mem ((c.tc : Thread Cert.KernelFmergeIdeal.nD Cert.KernelFmergeIdeal.τ).loc Cert.KernelFmergeIdeal.main_arg8) = m ((c.tc : Thread Cert.KernelFmergeIdeal.nD Cert.KernelFmergeIdeal.τ).loc Cert.KernelFmergeIdeal.main_arg8)
      ∧ r.2.mem ((c.tc : Thread Cert.KernelFmergeIdeal.nD Cert.KernelFmergeIdeal.τ).loc Cert.KernelFmergeIdeal.main_arg9) = m ((c.tc : Thread Cert.KernelFmergeIdeal.nD Cert.KernelFmergeIdeal.τ).loc Cert.KernelFmergeIdeal.main_arg9))
      ∧ r.2.sem = fun _ => 0)

def quiescent_ReferenceFmergeIdeal [hReferenceFmergeIdeal : Cert.ReferenceFmergeIdeal.Facts] : Prop :=
  ∀ (m : (ℓ : Loc Cert.ReferenceFmergeIdeal.nD Cert.ReferenceFmergeIdeal.τ Cert.ReferenceFmergeIdeal.sig) → Buf (Elt Ideal) ℓ) (g : Dev Cert.ReferenceFmergeIdeal.nD → PrngReg), Pre_ReferenceFmergeIdeal m →
    θ_run (Cert.ReferenceFmergeIdeal.defs (F := Ideal)) (onTc (τ := Cert.ReferenceFmergeIdeal.τ) (Cert.ReferenceFmergeIdeal.main (F := Ideal))) ⟨m, fun _ => 0, g⟩ (fun r => (∀ c : Dev Cert.ReferenceFmergeIdeal.nD,
      r.2.mem ((c.tc : Thread Cert.ReferenceFmergeIdeal.nD Cert.ReferenceFmergeIdeal.τ).loc Cert.ReferenceFmergeIdeal.main_arg0) = m ((c.tc : Thread Cert.ReferenceFmergeIdeal.nD Cert.ReferenceFmergeIdeal.τ).loc Cert.ReferenceFmergeIdeal.main_arg0)
      ∧ r.2.mem ((c.tc : Thread Cert.ReferenceFmergeIdeal.nD Cert.ReferenceFmergeIdeal.τ).loc Cert.ReferenceFmergeIdeal.main_arg1) = m ((c.tc : Thread Cert.ReferenceFmergeIdeal.nD Cert.ReferenceFmergeIdeal.τ).loc Cert.ReferenceFmergeIdeal.main_arg1)
      ∧ r.2.mem ((c.tc : Thread Cert.ReferenceFmergeIdeal.nD Cert.ReferenceFmergeIdeal.τ).loc Cert.ReferenceFmergeIdeal.main_arg2) = m ((c.tc : Thread Cert.ReferenceFmergeIdeal.nD Cert.ReferenceFmergeIdeal.τ).loc Cert.ReferenceFmergeIdeal.main_arg2)
      ∧ r.2.mem ((c.tc : Thread Cert.ReferenceFmergeIdeal.nD Cert.ReferenceFmergeIdeal.τ).loc Cert.ReferenceFmergeIdeal.main_arg3) = m ((c.tc : Thread Cert.ReferenceFmergeIdeal.nD Cert.ReferenceFmergeIdeal.τ).loc Cert.ReferenceFmergeIdeal.main_arg3)
      ∧ r.2.mem ((c.tc : Thread Cert.ReferenceFmergeIdeal.nD Cert.ReferenceFmergeIdeal.τ).loc Cert.ReferenceFmergeIdeal.main_arg4) = m ((c.tc : Thread Cert.ReferenceFmergeIdeal.nD Cert.ReferenceFmergeIdeal.τ).loc Cert.ReferenceFmergeIdeal.main_arg4)
      ∧ r.2.mem ((c.tc : Thread Cert.ReferenceFmergeIdeal.nD Cert.ReferenceFmergeIdeal.τ).loc Cert.ReferenceFmergeIdeal.main_arg5) = m ((c.tc : Thread Cert.ReferenceFmergeIdeal.nD Cert.ReferenceFmergeIdeal.τ).loc Cert.ReferenceFmergeIdeal.main_arg5)
      ∧ r.2.mem ((c.tc : Thread Cert.ReferenceFmergeIdeal.nD Cert.ReferenceFmergeIdeal.τ).loc Cert.ReferenceFmergeIdeal.main_arg6) = m ((c.tc : Thread Cert.ReferenceFmergeIdeal.nD Cert.ReferenceFmergeIdeal.τ).loc Cert.ReferenceFmergeIdeal.main_arg6)
      ∧ r.2.mem ((c.tc : Thread Cert.ReferenceFmergeIdeal.nD Cert.ReferenceFmergeIdeal.τ).loc Cert.ReferenceFmergeIdeal.main_arg7) = m ((c.tc : Thread Cert.ReferenceFmergeIdeal.nD Cert.ReferenceFmergeIdeal.τ).loc Cert.ReferenceFmergeIdeal.main_arg7)
      ∧ r.2.mem ((c.tc : Thread Cert.ReferenceFmergeIdeal.nD Cert.ReferenceFmergeIdeal.τ).loc Cert.ReferenceFmergeIdeal.main_arg8) = m ((c.tc : Thread Cert.ReferenceFmergeIdeal.nD Cert.ReferenceFmergeIdeal.τ).loc Cert.ReferenceFmergeIdeal.main_arg8)
      ∧ r.2.mem ((c.tc : Thread Cert.ReferenceFmergeIdeal.nD Cert.ReferenceFmergeIdeal.τ).loc Cert.ReferenceFmergeIdeal.main_arg9) = m ((c.tc : Thread Cert.ReferenceFmergeIdeal.nD Cert.ReferenceFmergeIdeal.τ).loc Cert.ReferenceFmergeIdeal.main_arg9))
      ∧ r.2.sem = fun _ => 0)

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)) →
    ∃ (v0 : (c : Dev Cert.KernelInIdeal.nD) → Buf (Elt Ideal) ((c.tc : Thread Cert.KernelInIdeal.nD Cert.KernelInIdeal.τ).loc Cert.KernelInIdeal.main_v5_0)) (v1 : (c : Dev Cert.KernelInIdeal.nD) → Buf (Elt Ideal) ((c.tc : Thread Cert.KernelInIdeal.nD Cert.KernelInIdeal.τ).loc Cert.KernelInIdeal.main_v5_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5_0) = v0 c
          ∧ r.2.mem ((c.tc : Thread Cert.KernelInIdeal.nD Cert.KernelInIdeal.τ).loc Cert.KernelInIdeal.main_v5_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v56) = v0 c
          ∧ r.2.mem ((c.tc : Thread Cert.ReferenceInIdeal.nD Cert.ReferenceInIdeal.τ).loc Cert.ReferenceInIdeal.main_v57) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7))

def preserves_KernelPool_KernelPoolIdeal : Prop :=
  True

def algebraic_KernelPoolIdeal_ReferencePoolIdeal_pre_finite_pool [hKernelPoolIdeal : Cert.KernelPoolIdeal.Facts] [hReferencePoolIdeal : Cert.ReferencePoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_pool m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v2_0)) (v1 : (c : Dev Cert.KernelPoolIdeal.nD) → Buf (Elt Ideal) ((c.tc : Thread Cert.KernelPoolIdeal.nD Cert.KernelPoolIdeal.τ).loc Cert.KernelPoolIdeal.main_v2_1)) (v2 : (c : Dev Cert.KernelPoolIdeal.nD) → Buf (Elt Ideal) ((c.tc : Thread Cert.KernelPoolIdeal.nD Cert.KernelPoolIdeal.τ).loc Cert.KernelPoolIdeal.main_v2_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v2_0) = v0 c
          ∧ r.2.mem ((c.tc : Thread Cert.KernelPoolIdeal.nD Cert.KernelPoolIdeal.τ).loc Cert.KernelPoolIdeal.main_v2_1) = v1 c
          ∧ r.2.mem ((c.tc : Thread Cert.KernelPoolIdeal.nD Cert.KernelPoolIdeal.τ).loc Cert.KernelPoolIdeal.main_v2_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v138) = v0 c
          ∧ r.2.mem ((c.tc : Thread Cert.ReferencePoolIdeal.nD Cert.ReferencePoolIdeal.τ).loc Cert.ReferencePoolIdeal.main_v80) = v1 c
          ∧ r.2.mem ((c.tc : Thread Cert.ReferencePoolIdeal.nD Cert.ReferencePoolIdeal.τ).loc Cert.ReferencePoolIdeal.main_v139) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelLru_KernelLruIdeal : Prop :=
  IdealRules.named_const.Statement Cert.KernelLruIdeal.κ "gelu_c" .f32 0x3D372713#32 ((8943 / 200000 : ℝ) : EReal)
  ∧ IdealRules.named_const.Statement Cert.KernelLruIdeal.κ "gelu_3c" .f32 0x3E095D4F#32 ((26829 / 200000 : ℝ) : EReal)

def algebraic_KernelLruIdeal_ReferenceLruIdeal_pre_finite_lru [hKernelLruIdeal : Cert.KernelLruIdeal.Facts] [hReferenceLruIdeal : Cert.ReferenceLruIdeal.Facts] [hPre_finite_lru : Cert.Pre_finite_lru.Facts] : Prop :=
  ∀ (m : (ℓ : Loc Cert.KernelLruIdeal.nD Cert.KernelLruIdeal.τ Cert.KernelLruIdeal.sig) → Buf (Elt Ideal) ℓ) (g : Dev Cert.KernelLruIdeal.nD → PrngReg)
    (m' : (ℓ : Loc Cert.ReferenceLruIdeal.nD Cert.ReferenceLruIdeal.τ Cert.ReferenceLruIdeal.sig) → Buf (Elt Ideal) ℓ) (g' : Dev Cert.ReferenceLruIdeal.nD → PrngReg), Pre_KernelLruIdeal_finite_lru m →
    (∀ c : Dev Cert.KernelLruIdeal.nD,
      m' ((c.tc : Thread Cert.ReferenceLruIdeal.nD Cert.ReferenceLruIdeal.τ).loc Cert.ReferenceLruIdeal.main_arg0) = m ((c.tc : Thread Cert.KernelLruIdeal.nD Cert.KernelLruIdeal.τ).loc Cert.KernelLruIdeal.main_arg0)
      ∧ m' ((c.tc : Thread Cert.ReferenceLruIdeal.nD Cert.ReferenceLruIdeal.τ).loc Cert.ReferenceLruIdeal.main_arg1) = m ((c.tc : Thread Cert.KernelLruIdeal.nD Cert.KernelLruIdeal.τ).loc Cert.KernelLruIdeal.main_arg1)
      ∧ m' ((c.tc : Thread Cert.ReferenceLruIdeal.nD Cert.ReferenceLruIdeal.τ).loc Cert.ReferenceLruIdeal.main_arg2) = m ((c.tc : Thread Cert.KernelLruIdeal.nD Cert.KernelLruIdeal.τ).loc Cert.KernelLruIdeal.main_arg2)
      ∧ m' ((c.tc : Thread Cert.ReferenceLruIdeal.nD Cert.ReferenceLruIdeal.τ).loc Cert.ReferenceLruIdeal.main_arg3) = m ((c.tc : Thread Cert.KernelLruIdeal.nD Cert.KernelLruIdeal.τ).loc Cert.KernelLruIdeal.main_arg3)
      ∧ m' ((c.tc : Thread Cert.ReferenceLruIdeal.nD Cert.ReferenceLruIdeal.τ).loc Cert.ReferenceLruIdeal.main_arg4) = m ((c.tc : Thread Cert.KernelLruIdeal.nD Cert.KernelLruIdeal.τ).loc Cert.KernelLruIdeal.main_arg4)
      ∧ m' ((c.tc : Thread Cert.ReferenceLruIdeal.nD Cert.ReferenceLruIdeal.τ).loc Cert.ReferenceLruIdeal.main_arg5) = m ((c.tc : Thread Cert.KernelLruIdeal.nD Cert.KernelLruIdeal.τ).loc Cert.KernelLruIdeal.main_arg5)
      ∧ m' ((c.tc : Thread Cert.ReferenceLruIdeal.nD Cert.ReferenceLruIdeal.τ).loc Cert.ReferenceLruIdeal.main_arg6) = m ((c.tc : Thread Cert.KernelLruIdeal.nD Cert.KernelLruIdeal.τ).loc Cert.KernelLruIdeal.main_arg6)
      ∧ m' ((c.tc : Thread Cert.ReferenceLruIdeal.nD Cert.ReferenceLruIdeal.τ).loc Cert.ReferenceLruIdeal.main_arg7) = m ((c.tc : Thread Cert.KernelLruIdeal.nD Cert.KernelLruIdeal.τ).loc Cert.KernelLruIdeal.main_arg7)
      ∧ m' ((c.tc : Thread Cert.ReferenceLruIdeal.nD Cert.ReferenceLruIdeal.τ).loc Cert.ReferenceLruIdeal.main_arg8) = m ((c.tc : Thread Cert.KernelLruIdeal.nD Cert.KernelLruIdeal.τ).loc Cert.KernelLruIdeal.main_arg8)) →
    ∃ (v0 : (c : Dev Cert.KernelLruIdeal.nD) → Buf (Elt Ideal) ((c.tc : Thread Cert.KernelLruIdeal.nD Cert.KernelLruIdeal.τ).loc Cert.KernelLruIdeal.main_v31_0)) (v1 : (c : Dev Cert.KernelLruIdeal.nD) → Buf (Elt Ideal) ((c.tc : Thread Cert.KernelLruIdeal.nD Cert.KernelLruIdeal.τ).loc Cert.KernelLruIdeal.main_v33_0)) (v2 : (c : Dev Cert.KernelLruIdeal.nD) → Buf (Elt Ideal) ((c.tc : Thread Cert.KernelLruIdeal.nD Cert.KernelLruIdeal.τ).loc Cert.KernelLruIdeal.main_v33_1)) (v3 : (c : Dev Cert.KernelLruIdeal.nD) → Buf (Elt Ideal) ((c.tc : Thread Cert.KernelLruIdeal.nD Cert.KernelLruIdeal.τ).loc Cert.KernelLruIdeal.main_v33_2)) (v4 : (c : Dev Cert.KernelLruIdeal.nD) → Buf (Elt Ideal) ((c.tc : Thread Cert.KernelLruIdeal.nD Cert.KernelLruIdeal.τ).loc Cert.KernelLruIdeal.main_v33_3)) (v5 : (c : Dev Cert.KernelLruIdeal.nD) → Buf (Elt Ideal) ((c.tc : Thread Cert.KernelLruIdeal.nD Cert.KernelLruIdeal.τ).loc Cert.KernelLruIdeal.main_v42)) (v6 : (c : Dev Cert.KernelLruIdeal.nD) → Buf (Elt Ideal) ((c.tc : Thread Cert.KernelLruIdeal.nD Cert.KernelLruIdeal.τ).loc Cert.KernelLruIdeal.main_v33_5)) (v7 : (c : Dev Cert.KernelLruIdeal.nD) → Buf (Elt Ideal) ((c.tc : Thread Cert.KernelLruIdeal.nD Cert.KernelLruIdeal.τ).loc Cert.KernelLruIdeal.main_v51)) (v8 : (c : Dev Cert.KernelLruIdeal.nD) → Buf (Elt Ideal) ((c.tc : Thread Cert.KernelLruIdeal.nD Cert.KernelLruIdeal.τ).loc Cert.KernelLruIdeal.main_v33_7)) (v9 : (c : Dev Cert.KernelLruIdeal.nD) → Buf (Elt Ideal) ((c.tc : Thread Cert.KernelLruIdeal.nD Cert.KernelLruIdeal.τ).loc Cert.KernelLruIdeal.main_v33_8)),
      θ_run (Cert.KernelLruIdeal.defs (F := Ideal)) (onTc (τ := Cert.KernelLruIdeal.τ) (Cert.KernelLruIdeal.main (F := Ideal))) ⟨m, fun _ => 0, g⟩ (fun r => ∀ c : Dev Cert.KernelLruIdeal.nD,
          r.2.mem ((c.tc : Thread Cert.KernelLruIdeal.nD Cert.KernelLruIdeal.τ).loc Cert.KernelLruIdeal.main_v31_0) = v0 c
          ∧ r.2.mem ((c.tc : Thread Cert.KernelLruIdeal.nD Cert.KernelLruIdeal.τ).loc Cert.KernelLruIdeal.main_v33_0) = v1 c
          ∧ r.2.mem ((c.tc : Thread Cert.KernelLruIdeal.nD Cert.KernelLruIdeal.τ).loc Cert.KernelLruIdeal.main_v33_1) = v2 c
          ∧ r.2.mem ((c.tc : Thread Cert.KernelLruIdeal.nD Cert.KernelLruIdeal.τ).loc Cert.KernelLruIdeal.main_v33_2) = v3 c
          ∧ r.2.mem ((c.tc : Thread Cert.KernelLruIdeal.nD Cert.KernelLruIdeal.τ).loc Cert.KernelLruIdeal.main_v33_3) = v4 c
          ∧ r.2.mem ((c.tc : Thread Cert.KernelLruIdeal.nD Cert.KernelLruIdeal.τ).loc Cert.KernelLruIdeal.main_v42) = v5 c
          ∧ r.2.mem ((c.tc : Thread Cert.KernelLruIdeal.nD Cert.KernelLruIdeal.τ).loc Cert.KernelLruIdeal.main_v33_5) = v6 c
          ∧ r.2.mem ((c.tc : Thread Cert.KernelLruIdeal.nD Cert.KernelLruIdeal.τ).loc Cert.KernelLruIdeal.main_v51) = v7 c
          ∧ r.2.mem ((c.tc : Thread Cert.KernelLruIdeal.nD Cert.KernelLruIdeal.τ).loc Cert.KernelLruIdeal.main_v33_7) = v8 c
          ∧ r.2.mem ((c.tc : Thread Cert.KernelLruIdeal.nD Cert.KernelLruIdeal.τ).loc Cert.KernelLruIdeal.main_v33_8) = v9 c
          ∧ r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
          ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1)
          ∧ r.2.mem ((c.tc : Thread Cert.KernelLruIdeal.nD Cert.KernelLruIdeal.τ).loc Cert.KernelLruIdeal.main_arg2) = m ((c.tc : Thread Cert.KernelLruIdeal.nD Cert.KernelLruIdeal.τ).loc Cert.KernelLruIdeal.main_arg2)
          ∧ r.2.mem ((c.tc : Thread Cert.KernelLruIdeal.nD Cert.KernelLruIdeal.τ).loc Cert.KernelLruIdeal.main_arg3) = m ((c.tc : Thread Cert.KernelLruIdeal.nD Cert.KernelLruIdeal.τ).loc Cert.KernelLruIdeal.main_arg3)
          ∧ r.2.mem ((c.tc : Thread Cert.KernelLruIdeal.nD Cert.KernelLruIdeal.τ).loc Cert.KernelLruIdeal.main_arg4) = m ((c.tc : Thread Cert.KernelLruIdeal.nD Cert.KernelLruIdeal.τ).loc Cert.KernelLruIdeal.main_arg4)
          ∧ r.2.mem ((c.tc : Thread Cert.KernelLruIdeal.nD Cert.KernelLruIdeal.τ).loc Cert.KernelLruIdeal.main_arg5) = m ((c.tc : Thread Cert.KernelLruIdeal.nD Cert.KernelLruIdeal.τ).loc Cert.KernelLruIdeal.main_arg5)
          ∧ r.2.mem ((c.tc : Thread Cert.KernelLruIdeal.nD Cert.KernelLruIdeal.τ).loc Cert.KernelLruIdeal.main_arg6) = m ((c.tc : Thread Cert.KernelLruIdeal.nD Cert.KernelLruIdeal.τ).loc Cert.KernelLruIdeal.main_arg6)
          ∧ r.2.mem ((c.tc : Thread Cert.KernelLruIdeal.nD Cert.KernelLruIdeal.τ).loc Cert.KernelLruIdeal.main_arg7) = m ((c.tc : Thread Cert.KernelLruIdeal.nD Cert.KernelLruIdeal.τ).loc Cert.KernelLruIdeal.main_arg7)
          ∧ r.2.mem ((c.tc : Thread Cert.KernelLruIdeal.nD Cert.KernelLruIdeal.τ).loc Cert.KernelLruIdeal.main_arg8) = m ((c.tc : Thread Cert.KernelLruIdeal.nD Cert.KernelLruIdeal.τ).loc Cert.KernelLruIdeal.main_arg8))
      ∧ θ_run (Cert.ReferenceLruIdeal.defs (F := Ideal)) (onTc (τ := Cert.ReferenceLruIdeal.τ) (Cert.ReferenceLruIdeal.main (F := Ideal))) ⟨m', fun _ => 0, g'⟩ (fun r => ∀ c : Dev Cert.ReferenceLruIdeal.nD,
          r.2.mem ((c.tc : Thread Cert.ReferenceLruIdeal.nD Cert.ReferenceLruIdeal.τ).loc Cert.ReferenceLruIdeal.main_v253) = v0 c
          ∧ r.2.mem ((c.tc : Thread Cert.ReferenceLruIdeal.nD Cert.ReferenceLruIdeal.τ).loc Cert.ReferenceLruIdeal.main_v254) = v1 c
          ∧ r.2.mem ((c.tc : Thread Cert.ReferenceLruIdeal.nD Cert.ReferenceLruIdeal.τ).loc Cert.ReferenceLruIdeal.main_v255) = v2 c
          ∧ r.2.mem ((c.tc : Thread Cert.ReferenceLruIdeal.nD Cert.ReferenceLruIdeal.τ).loc Cert.ReferenceLruIdeal.main_v248) = v3 c
          ∧ r.2.mem ((c.tc : Thread Cert.ReferenceLruIdeal.nD Cert.ReferenceLruIdeal.τ).loc Cert.ReferenceLruIdeal.main_v256) = v4 c
          ∧ r.2.mem ((c.tc : Thread Cert.ReferenceLruIdeal.nD Cert.ReferenceLruIdeal.τ).loc Cert.ReferenceLruIdeal.main_v203) = v5 c
          ∧ r.2.mem ((c.tc : Thread Cert.ReferenceLruIdeal.nD Cert.ReferenceLruIdeal.τ).loc Cert.ReferenceLruIdeal.main_v257) = v6 c
          ∧ r.2.mem ((c.tc : Thread Cert.ReferenceLruIdeal.nD Cert.ReferenceLruIdeal.τ).loc Cert.ReferenceLruIdeal.main_v193) = v7 c
          ∧ r.2.mem ((c.tc : Thread Cert.ReferenceLruIdeal.nD Cert.ReferenceLruIdeal.τ).loc Cert.ReferenceLruIdeal.main_v258) = v8 c
          ∧ r.2.mem ((c.tc : Thread Cert.ReferenceLruIdeal.nD Cert.ReferenceLruIdeal.τ).loc Cert.ReferenceLruIdeal.main_v259) = v9 c
          ∧ r.2.mem ((c.tc : Thread Cert.ReferenceLruIdeal.nD Cert.ReferenceLruIdeal.τ).loc Cert.ReferenceLruIdeal.main_arg0) = m' ((c.tc : Thread Cert.ReferenceLruIdeal.nD Cert.ReferenceLruIdeal.τ).loc Cert.ReferenceLruIdeal.main_arg0)
          ∧ r.2.mem ((c.tc : Thread Cert.ReferenceLruIdeal.nD Cert.ReferenceLruIdeal.τ).loc Cert.ReferenceLruIdeal.main_arg1) = m' ((c.tc : Thread Cert.ReferenceLruIdeal.nD Cert.ReferenceLruIdeal.τ).loc Cert.ReferenceLruIdeal.main_arg1)
          ∧ r.2.mem ((c.tc : Thread Cert.ReferenceLruIdeal.nD Cert.ReferenceLruIdeal.τ).loc Cert.ReferenceLruIdeal.main_arg2) = m' ((c.tc : Thread Cert.ReferenceLruIdeal.nD Cert.ReferenceLruIdeal.τ).loc Cert.ReferenceLruIdeal.main_arg2)
          ∧ r.2.mem ((c.tc : Thread Cert.ReferenceLruIdeal.nD Cert.ReferenceLruIdeal.τ).loc Cert.ReferenceLruIdeal.main_arg3) = m' ((c.tc : Thread Cert.ReferenceLruIdeal.nD Cert.ReferenceLruIdeal.τ).loc Cert.ReferenceLruIdeal.main_arg3)
          ∧ r.2.mem ((c.tc : Thread Cert.ReferenceLruIdeal.nD Cert.ReferenceLruIdeal.τ).loc Cert.ReferenceLruIdeal.main_arg4) = m' ((c.tc : Thread Cert.ReferenceLruIdeal.nD Cert.ReferenceLruIdeal.τ).loc Cert.ReferenceLruIdeal.main_arg4)
          ∧ r.2.mem ((c.tc : Thread Cert.ReferenceLruIdeal.nD Cert.ReferenceLruIdeal.τ).loc Cert.ReferenceLruIdeal.main_arg5) = m' ((c.tc : Thread Cert.ReferenceLruIdeal.nD Cert.ReferenceLruIdeal.τ).loc Cert.ReferenceLruIdeal.main_arg5)
          ∧ r.2.mem ((c.tc : Thread Cert.ReferenceLruIdeal.nD Cert.ReferenceLruIdeal.τ).loc Cert.ReferenceLruIdeal.main_arg6) = m' ((c.tc : Thread Cert.ReferenceLruIdeal.nD Cert.ReferenceLruIdeal.τ).loc Cert.ReferenceLruIdeal.main_arg6)
          ∧ r.2.mem ((c.tc : Thread Cert.ReferenceLruIdeal.nD Cert.ReferenceLruIdeal.τ).loc Cert.ReferenceLruIdeal.main_arg7) = m' ((c.tc : Thread Cert.ReferenceLruIdeal.nD Cert.ReferenceLruIdeal.τ).loc Cert.ReferenceLruIdeal.main_arg7)
          ∧ r.2.mem ((c.tc : Thread Cert.ReferenceLruIdeal.nD Cert.ReferenceLruIdeal.τ).loc Cert.ReferenceLruIdeal.main_arg8) = m' ((c.tc : Thread Cert.ReferenceLruIdeal.nD Cert.ReferenceLruIdeal.τ).loc Cert.ReferenceLruIdeal.main_arg8))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)) →
    ∃ (v0 : (c : Dev Cert.KernelLossIdeal.nD) → Buf (Elt Ideal) ((c.tc : Thread Cert.KernelLossIdeal.nD Cert.KernelLossIdeal.τ).loc Cert.KernelLossIdeal.main_v6_0)) (v1 : (c : Dev Cert.KernelLossIdeal.nD) → Buf (Elt Ideal) ((c.tc : Thread Cert.KernelLossIdeal.nD Cert.KernelLossIdeal.τ).loc Cert.KernelLossIdeal.main_v6_1)) (v2 : (c : Dev Cert.KernelLossIdeal.nD) → Buf (Elt Ideal) ((c.tc : Thread Cert.KernelLossIdeal.nD Cert.KernelLossIdeal.τ).loc Cert.KernelLossIdeal.main_v6_2)) (v3 : (c : Dev Cert.KernelLossIdeal.nD) → Buf (Elt Ideal) ((c.tc : Thread Cert.KernelLossIdeal.nD Cert.KernelLossIdeal.τ).loc Cert.KernelLossIdeal.main_v6_3)) (v4 : (c : Dev Cert.KernelLossIdeal.nD) → Buf (Elt Ideal) ((c.tc : Thread Cert.KernelLossIdeal.nD Cert.KernelLossIdeal.τ).loc Cert.KernelLossIdeal.main_v6_4)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v6_0) = v0 c
          ∧ r.2.mem ((c.tc : Thread Cert.KernelLossIdeal.nD Cert.KernelLossIdeal.τ).loc Cert.KernelLossIdeal.main_v6_1) = v1 c
          ∧ r.2.mem ((c.tc : Thread Cert.KernelLossIdeal.nD Cert.KernelLossIdeal.τ).loc Cert.KernelLossIdeal.main_v6_2) = v2 c
          ∧ r.2.mem ((c.tc : Thread Cert.KernelLossIdeal.nD Cert.KernelLossIdeal.τ).loc Cert.KernelLossIdeal.main_v6_3) = v3 c
          ∧ r.2.mem ((c.tc : Thread Cert.KernelLossIdeal.nD Cert.KernelLossIdeal.τ).loc Cert.KernelLossIdeal.main_v6_4) = v4 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v60) = v0 c
          ∧ r.2.mem ((c.tc : Thread Cert.ReferenceLossIdeal.nD Cert.ReferenceLossIdeal.τ).loc Cert.ReferenceLossIdeal.main_v61) = v1 c
          ∧ r.2.mem ((c.tc : Thread Cert.ReferenceLossIdeal.nD Cert.ReferenceLossIdeal.τ).loc Cert.ReferenceLossIdeal.main_v39) = v2 c
          ∧ r.2.mem ((c.tc : Thread Cert.ReferenceLossIdeal.nD Cert.ReferenceLossIdeal.τ).loc Cert.ReferenceLossIdeal.main_v62) = v3 c
          ∧ r.2.mem ((c.tc : Thread Cert.ReferenceLossIdeal.nD Cert.ReferenceLossIdeal.τ).loc Cert.ReferenceLossIdeal.main_v63) = v4 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5))

def preserves_KernelMlpx_KernelMlpxIdeal : Prop :=
  True

def algebraic_KernelMlpxIdeal_ReferenceMlpxIdeal [hKernelMlpxIdeal : Cert.KernelMlpxIdeal.Facts] [hReferenceMlpxIdeal : Cert.ReferenceMlpxIdeal.Facts] : Prop :=
  ∀ (m : (ℓ : Loc Cert.KernelMlpxIdeal.nD Cert.KernelMlpxIdeal.τ Cert.KernelMlpxIdeal.sig) → Buf (Elt Ideal) ℓ) (g : Dev Cert.KernelMlpxIdeal.nD → PrngReg)
    (m' : (ℓ : Loc Cert.ReferenceMlpxIdeal.nD Cert.ReferenceMlpxIdeal.τ Cert.ReferenceMlpxIdeal.sig) → Buf (Elt Ideal) ℓ) (g' : Dev Cert.ReferenceMlpxIdeal.nD → PrngReg), Pre_KernelMlpxIdeal m →
    (∀ c : Dev Cert.KernelMlpxIdeal.nD,
      m' ((c.tc : Thread Cert.ReferenceMlpxIdeal.nD Cert.ReferenceMlpxIdeal.τ).loc Cert.ReferenceMlpxIdeal.main_arg0) = m ((c.tc : Thread Cert.KernelMlpxIdeal.nD Cert.KernelMlpxIdeal.τ).loc Cert.KernelMlpxIdeal.main_arg0)
      ∧ m' ((c.tc : Thread Cert.ReferenceMlpxIdeal.nD Cert.ReferenceMlpxIdeal.τ).loc Cert.ReferenceMlpxIdeal.main_arg1) = m ((c.tc : Thread Cert.KernelMlpxIdeal.nD Cert.KernelMlpxIdeal.τ).loc Cert.KernelMlpxIdeal.main_arg1)
      ∧ m' ((c.tc : Thread Cert.ReferenceMlpxIdeal.nD Cert.ReferenceMlpxIdeal.τ).loc Cert.ReferenceMlpxIdeal.main_arg2) = m ((c.tc : Thread Cert.KernelMlpxIdeal.nD Cert.KernelMlpxIdeal.τ).loc Cert.KernelMlpxIdeal.main_arg2)
      ∧ m' ((c.tc : Thread Cert.ReferenceMlpxIdeal.nD Cert.ReferenceMlpxIdeal.τ).loc Cert.ReferenceMlpxIdeal.main_arg3) = m ((c.tc : Thread Cert.KernelMlpxIdeal.nD Cert.KernelMlpxIdeal.τ).loc Cert.KernelMlpxIdeal.main_arg3)) →
    ∃ (v0 : (c : Dev Cert.KernelMlpxIdeal.nD) → Buf (Elt Ideal) ((c.tc : Thread Cert.KernelMlpxIdeal.nD Cert.KernelMlpxIdeal.τ).loc Cert.KernelMlpxIdeal.main_v11_0)) (v1 : (c : Dev Cert.KernelMlpxIdeal.nD) → Buf (Elt Ideal) ((c.tc : Thread Cert.KernelMlpxIdeal.nD Cert.KernelMlpxIdeal.τ).loc Cert.KernelMlpxIdeal.main_v11_1)),
      θ_run (Cert.KernelMlpxIdeal.defs (F := Ideal)) (onTc (τ := Cert.KernelMlpxIdeal.τ) (Cert.KernelMlpxIdeal.main (F := Ideal))) ⟨m, fun _ => 0, g⟩ (fun r => ∀ c : Dev Cert.KernelMlpxIdeal.nD,
          r.2.mem ((c.tc : Thread Cert.KernelMlpxIdeal.nD Cert.KernelMlpxIdeal.τ).loc Cert.KernelMlpxIdeal.main_v11_0) = v0 c
          ∧ r.2.mem ((c.tc : Thread Cert.KernelMlpxIdeal.nD Cert.KernelMlpxIdeal.τ).loc Cert.KernelMlpxIdeal.main_v11_1) = v1 c
          ∧ r.2.mem ((c.tc : Thread Cert.KernelMlpxIdeal.nD Cert.KernelMlpxIdeal.τ).loc Cert.KernelMlpxIdeal.main_arg0) = m ((c.tc : Thread Cert.KernelMlpxIdeal.nD Cert.KernelMlpxIdeal.τ).loc Cert.KernelMlpxIdeal.main_arg0)
          ∧ r.2.mem ((c.tc : Thread Cert.KernelMlpxIdeal.nD Cert.KernelMlpxIdeal.τ).loc Cert.KernelMlpxIdeal.main_arg1) = m ((c.tc : Thread Cert.KernelMlpxIdeal.nD Cert.KernelMlpxIdeal.τ).loc Cert.KernelMlpxIdeal.main_arg1)
          ∧ r.2.mem ((c.tc : Thread Cert.KernelMlpxIdeal.nD Cert.KernelMlpxIdeal.τ).loc Cert.KernelMlpxIdeal.main_arg2) = m ((c.tc : Thread Cert.KernelMlpxIdeal.nD Cert.KernelMlpxIdeal.τ).loc Cert.KernelMlpxIdeal.main_arg2)
          ∧ r.2.mem ((c.tc : Thread Cert.KernelMlpxIdeal.nD Cert.KernelMlpxIdeal.τ).loc Cert.KernelMlpxIdeal.main_arg3) = m ((c.tc : Thread Cert.KernelMlpxIdeal.nD Cert.KernelMlpxIdeal.τ).loc Cert.KernelMlpxIdeal.main_arg3))
      ∧ θ_run (Cert.ReferenceMlpxIdeal.defs (F := Ideal)) (onTc (τ := Cert.ReferenceMlpxIdeal.τ) (Cert.ReferenceMlpxIdeal.main (F := Ideal))) ⟨m', fun _ => 0, g'⟩ (fun r => ∀ c : Dev Cert.ReferenceMlpxIdeal.nD,
          r.2.mem ((c.tc : Thread Cert.ReferenceMlpxIdeal.nD Cert.ReferenceMlpxIdeal.τ).loc Cert.ReferenceMlpxIdeal.main_v17) = v0 c
          ∧ r.2.mem ((c.tc : Thread Cert.ReferenceMlpxIdeal.nD Cert.ReferenceMlpxIdeal.τ).loc Cert.ReferenceMlpxIdeal.main_v18) = v1 c
          ∧ r.2.mem ((c.tc : Thread Cert.ReferenceMlpxIdeal.nD Cert.ReferenceMlpxIdeal.τ).loc Cert.ReferenceMlpxIdeal.main_arg0) = m' ((c.tc : Thread Cert.ReferenceMlpxIdeal.nD Cert.ReferenceMlpxIdeal.τ).loc Cert.ReferenceMlpxIdeal.main_arg0)
          ∧ r.2.mem ((c.tc : Thread Cert.ReferenceMlpxIdeal.nD Cert.ReferenceMlpxIdeal.τ).loc Cert.ReferenceMlpxIdeal.main_arg1) = m' ((c.tc : Thread Cert.ReferenceMlpxIdeal.nD Cert.ReferenceMlpxIdeal.τ).loc Cert.ReferenceMlpxIdeal.main_arg1)
          ∧ r.2.mem ((c.tc : Thread Cert.ReferenceMlpxIdeal.nD Cert.ReferenceMlpxIdeal.τ).loc Cert.ReferenceMlpxIdeal.main_arg2) = m' ((c.tc : Thread Cert.ReferenceMlpxIdeal.nD Cert.ReferenceMlpxIdeal.τ).loc Cert.ReferenceMlpxIdeal.main_arg2)
          ∧ r.2.mem ((c.tc : Thread Cert.ReferenceMlpxIdeal.nD Cert.ReferenceMlpxIdeal.τ).loc Cert.ReferenceMlpxIdeal.main_arg3) = m' ((c.tc : Thread Cert.ReferenceMlpxIdeal.nD Cert.ReferenceMlpxIdeal.τ).loc Cert.ReferenceMlpxIdeal.main_arg3))

def preserves_KernelMerge_KernelMergeIdeal : Prop :=
  True

def algebraic_KernelMergeIdeal_ReferenceMergeIdeal_pre_finite_merge [hKernelMergeIdeal : Cert.KernelMergeIdeal.Facts] [hReferenceMergeIdeal : Cert.ReferenceMergeIdeal.Facts] [hPre_finite_merge : Cert.Pre_finite_merge.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal_finite_merge m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)) →
    ∃ (v0 : (c : Dev Cert.KernelMergeIdeal.nD) → Buf (Elt Ideal) ((c.tc : Thread Cert.KernelMergeIdeal.nD Cert.KernelMergeIdeal.τ).loc Cert.KernelMergeIdeal.main_v45_0)) (v1 : (c : Dev Cert.KernelMergeIdeal.nD) → Buf (Elt Ideal) ((c.tc : Thread Cert.KernelMergeIdeal.nD Cert.KernelMergeIdeal.τ).loc Cert.KernelMergeIdeal.main_v45_1)) (v2 : (c : Dev Cert.KernelMergeIdeal.nD) → Buf (Elt Ideal) ((c.tc : Thread Cert.KernelMergeIdeal.nD Cert.KernelMergeIdeal.τ).loc Cert.KernelMergeIdeal.main_v45_2)) (v3 : (c : Dev Cert.KernelMergeIdeal.nD) → Buf (Elt Ideal) ((c.tc : Thread Cert.KernelMergeIdeal.nD Cert.KernelMergeIdeal.τ).loc Cert.KernelMergeIdeal.main_v45_3)) (v4 : (c : Dev Cert.KernelMergeIdeal.nD) → Buf (Elt Ideal) ((c.tc : Thread Cert.KernelMergeIdeal.nD Cert.KernelMergeIdeal.τ).loc Cert.KernelMergeIdeal.main_v45_4)) (v5 : (c : Dev Cert.KernelMergeIdeal.nD) → Buf (Elt Ideal) ((c.tc : Thread Cert.KernelMergeIdeal.nD Cert.KernelMergeIdeal.τ).loc Cert.KernelMergeIdeal.main_v45_5)) (v6 : (c : Dev Cert.KernelMergeIdeal.nD) → Buf (Elt Ideal) ((c.tc : Thread Cert.KernelMergeIdeal.nD Cert.KernelMergeIdeal.τ).loc Cert.KernelMergeIdeal.main_v45_6)) (v7 : (c : Dev Cert.KernelMergeIdeal.nD) → Buf (Elt Ideal) ((c.tc : Thread Cert.KernelMergeIdeal.nD Cert.KernelMergeIdeal.τ).loc Cert.KernelMergeIdeal.main_v45_7)) (v8 : (c : Dev Cert.KernelMergeIdeal.nD) → Buf (Elt Ideal) ((c.tc : Thread Cert.KernelMergeIdeal.nD Cert.KernelMergeIdeal.τ).loc Cert.KernelMergeIdeal.main_v45_8)) (v9 : (c : Dev Cert.KernelMergeIdeal.nD) → Buf (Elt Ideal) ((c.tc : Thread Cert.KernelMergeIdeal.nD Cert.KernelMergeIdeal.τ).loc Cert.KernelMergeIdeal.main_v45_9)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v45_0) = v0 c
          ∧ r.2.mem ((c.tc : Thread Cert.KernelMergeIdeal.nD Cert.KernelMergeIdeal.τ).loc Cert.KernelMergeIdeal.main_v45_1) = v1 c
          ∧ r.2.mem ((c.tc : Thread Cert.KernelMergeIdeal.nD Cert.KernelMergeIdeal.τ).loc Cert.KernelMergeIdeal.main_v45_2) = v2 c
          ∧ r.2.mem ((c.tc : Thread Cert.KernelMergeIdeal.nD Cert.KernelMergeIdeal.τ).loc Cert.KernelMergeIdeal.main_v45_3) = v3 c
          ∧ r.2.mem ((c.tc : Thread Cert.KernelMergeIdeal.nD Cert.KernelMergeIdeal.τ).loc Cert.KernelMergeIdeal.main_v45_4) = v4 c
          ∧ r.2.mem ((c.tc : Thread Cert.KernelMergeIdeal.nD Cert.KernelMergeIdeal.τ).loc Cert.KernelMergeIdeal.main_v45_5) = v5 c
          ∧ r.2.mem ((c.tc : Thread Cert.KernelMergeIdeal.nD Cert.KernelMergeIdeal.τ).loc Cert.KernelMergeIdeal.main_v45_6) = v6 c
          ∧ r.2.mem ((c.tc : Thread Cert.KernelMergeIdeal.nD Cert.KernelMergeIdeal.τ).loc Cert.KernelMergeIdeal.main_v45_7) = v7 c
          ∧ r.2.mem ((c.tc : Thread Cert.KernelMergeIdeal.nD Cert.KernelMergeIdeal.τ).loc Cert.KernelMergeIdeal.main_v45_8) = v8 c
          ∧ r.2.mem ((c.tc : Thread Cert.KernelMergeIdeal.nD Cert.KernelMergeIdeal.τ).loc Cert.KernelMergeIdeal.main_v45_9) = v9 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v82) = v0 c
          ∧ r.2.mem ((c.tc : Thread Cert.ReferenceMergeIdeal.nD Cert.ReferenceMergeIdeal.τ).loc Cert.ReferenceMergeIdeal.main_v116) = v1 c
          ∧ r.2.mem ((c.tc : Thread Cert.ReferenceMergeIdeal.nD Cert.ReferenceMergeIdeal.τ).loc Cert.ReferenceMergeIdeal.main_v115) = v2 c
          ∧ r.2.mem ((c.tc : Thread Cert.ReferenceMergeIdeal.nD Cert.ReferenceMergeIdeal.τ).loc Cert.ReferenceMergeIdeal.main_v114) = v3 c
          ∧ r.2.mem ((c.tc : Thread Cert.ReferenceMergeIdeal.nD Cert.ReferenceMergeIdeal.τ).loc Cert.ReferenceMergeIdeal.main_v117) = v4 c
          ∧ r.2.mem ((c.tc : Thread Cert.ReferenceMergeIdeal.nD Cert.ReferenceMergeIdeal.τ).loc Cert.ReferenceMergeIdeal.main_v118) = v5 c
          ∧ r.2.mem ((c.tc : Thread Cert.ReferenceMergeIdeal.nD Cert.ReferenceMergeIdeal.τ).loc Cert.ReferenceMergeIdeal.main_v119) = v6 c
          ∧ r.2.mem ((c.tc : Thread Cert.ReferenceMergeIdeal.nD Cert.ReferenceMergeIdeal.τ).loc Cert.ReferenceMergeIdeal.main_v120) = v7 c
          ∧ r.2.mem ((c.tc : Thread Cert.ReferenceMergeIdeal.nD Cert.ReferenceMergeIdeal.τ).loc Cert.ReferenceMergeIdeal.main_v121) = v8 c
          ∧ r.2.mem ((c.tc : Thread Cert.ReferenceMergeIdeal.nD Cert.ReferenceMergeIdeal.τ).loc Cert.ReferenceMergeIdeal.main_v122) = v9 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11))

def preserves_KernelFmerge_KernelFmergeIdeal : Prop :=
  True

def algebraic_KernelFmergeIdeal_ReferenceFmergeIdeal [hKernelFmergeIdeal : Cert.KernelFmergeIdeal.Facts] [hReferenceFmergeIdeal : Cert.ReferenceFmergeIdeal.Facts] : Prop :=
  ∀ (m : (ℓ : Loc Cert.KernelFmergeIdeal.nD Cert.KernelFmergeIdeal.τ Cert.KernelFmergeIdeal.sig) → Buf (Elt Ideal) ℓ) (g : Dev Cert.KernelFmergeIdeal.nD → PrngReg)
    (m' : (ℓ : Loc Cert.ReferenceFmergeIdeal.nD Cert.ReferenceFmergeIdeal.τ Cert.ReferenceFmergeIdeal.sig) → Buf (Elt Ideal) ℓ) (g' : Dev Cert.ReferenceFmergeIdeal.nD → PrngReg), Pre_KernelFmergeIdeal m →
    (∀ c : Dev Cert.KernelFmergeIdeal.nD,
      m' ((c.tc : Thread Cert.ReferenceFmergeIdeal.nD Cert.ReferenceFmergeIdeal.τ).loc Cert.ReferenceFmergeIdeal.main_arg0) = m ((c.tc : Thread Cert.KernelFmergeIdeal.nD Cert.KernelFmergeIdeal.τ).loc Cert.KernelFmergeIdeal.main_arg0)
      ∧ m' ((c.tc : Thread Cert.ReferenceFmergeIdeal.nD Cert.ReferenceFmergeIdeal.τ).loc Cert.ReferenceFmergeIdeal.main_arg1) = m ((c.tc : Thread Cert.KernelFmergeIdeal.nD Cert.KernelFmergeIdeal.τ).loc Cert.KernelFmergeIdeal.main_arg1)
      ∧ m' ((c.tc : Thread Cert.ReferenceFmergeIdeal.nD Cert.ReferenceFmergeIdeal.τ).loc Cert.ReferenceFmergeIdeal.main_arg2) = m ((c.tc : Thread Cert.KernelFmergeIdeal.nD Cert.KernelFmergeIdeal.τ).loc Cert.KernelFmergeIdeal.main_arg2)
      ∧ m' ((c.tc : Thread Cert.ReferenceFmergeIdeal.nD Cert.ReferenceFmergeIdeal.τ).loc Cert.ReferenceFmergeIdeal.main_arg3) = m ((c.tc : Thread Cert.KernelFmergeIdeal.nD Cert.KernelFmergeIdeal.τ).loc Cert.KernelFmergeIdeal.main_arg3)
      ∧ m' ((c.tc : Thread Cert.ReferenceFmergeIdeal.nD Cert.ReferenceFmergeIdeal.τ).loc Cert.ReferenceFmergeIdeal.main_arg4) = m ((c.tc : Thread Cert.KernelFmergeIdeal.nD Cert.KernelFmergeIdeal.τ).loc Cert.KernelFmergeIdeal.main_arg4)
      ∧ m' ((c.tc : Thread Cert.ReferenceFmergeIdeal.nD Cert.ReferenceFmergeIdeal.τ).loc Cert.ReferenceFmergeIdeal.main_arg5) = m ((c.tc : Thread Cert.KernelFmergeIdeal.nD Cert.KernelFmergeIdeal.τ).loc Cert.KernelFmergeIdeal.main_arg5)
      ∧ m' ((c.tc : Thread Cert.ReferenceFmergeIdeal.nD Cert.ReferenceFmergeIdeal.τ).loc Cert.ReferenceFmergeIdeal.main_arg6) = m ((c.tc : Thread Cert.KernelFmergeIdeal.nD Cert.KernelFmergeIdeal.τ).loc Cert.KernelFmergeIdeal.main_arg6)
      ∧ m' ((c.tc : Thread Cert.ReferenceFmergeIdeal.nD Cert.ReferenceFmergeIdeal.τ).loc Cert.ReferenceFmergeIdeal.main_arg7) = m ((c.tc : Thread Cert.KernelFmergeIdeal.nD Cert.KernelFmergeIdeal.τ).loc Cert.KernelFmergeIdeal.main_arg7)
      ∧ m' ((c.tc : Thread Cert.ReferenceFmergeIdeal.nD Cert.ReferenceFmergeIdeal.τ).loc Cert.ReferenceFmergeIdeal.main_arg8) = m ((c.tc : Thread Cert.KernelFmergeIdeal.nD Cert.KernelFmergeIdeal.τ).loc Cert.KernelFmergeIdeal.main_arg8)
      ∧ m' ((c.tc : Thread Cert.ReferenceFmergeIdeal.nD Cert.ReferenceFmergeIdeal.τ).loc Cert.ReferenceFmergeIdeal.main_arg9) = m ((c.tc : Thread Cert.KernelFmergeIdeal.nD Cert.KernelFmergeIdeal.τ).loc Cert.KernelFmergeIdeal.main_arg9)) →
    ∃ (v0 : (c : Dev Cert.KernelFmergeIdeal.nD) → Buf (Elt Ideal) ((c.tc : Thread Cert.KernelFmergeIdeal.nD Cert.KernelFmergeIdeal.τ).loc Cert.KernelFmergeIdeal.main_v8_0)) (v1 : (c : Dev Cert.KernelFmergeIdeal.nD) → Buf (Elt Ideal) ((c.tc : Thread Cert.KernelFmergeIdeal.nD Cert.KernelFmergeIdeal.τ).loc Cert.KernelFmergeIdeal.main_v8_1)) (v2 : (c : Dev Cert.KernelFmergeIdeal.nD) → Buf (Elt Ideal) ((c.tc : Thread Cert.KernelFmergeIdeal.nD Cert.KernelFmergeIdeal.τ).loc Cert.KernelFmergeIdeal.main_v8_2)) (v3 : (c : Dev Cert.KernelFmergeIdeal.nD) → Buf (Elt Ideal) ((c.tc : Thread Cert.KernelFmergeIdeal.nD Cert.KernelFmergeIdeal.τ).loc Cert.KernelFmergeIdeal.main_v8_3)) (v4 : (c : Dev Cert.KernelFmergeIdeal.nD) → Buf (Elt Ideal) ((c.tc : Thread Cert.KernelFmergeIdeal.nD Cert.KernelFmergeIdeal.τ).loc Cert.KernelFmergeIdeal.main_v8_4)) (v5 : (c : Dev Cert.KernelFmergeIdeal.nD) → Buf (Elt Ideal) ((c.tc : Thread Cert.KernelFmergeIdeal.nD Cert.KernelFmergeIdeal.τ).loc Cert.KernelFmergeIdeal.main_v8_5)),
      θ_run (Cert.KernelFmergeIdeal.defs (F := Ideal)) (onTc (τ := Cert.KernelFmergeIdeal.τ) (Cert.KernelFmergeIdeal.main (F := Ideal))) ⟨m, fun _ => 0, g⟩ (fun r => ∀ c : Dev Cert.KernelFmergeIdeal.nD,
          r.2.mem ((c.tc : Thread Cert.KernelFmergeIdeal.nD Cert.KernelFmergeIdeal.τ).loc Cert.KernelFmergeIdeal.main_v8_0) = v0 c
          ∧ r.2.mem ((c.tc : Thread Cert.KernelFmergeIdeal.nD Cert.KernelFmergeIdeal.τ).loc Cert.KernelFmergeIdeal.main_v8_1) = v1 c
          ∧ r.2.mem ((c.tc : Thread Cert.KernelFmergeIdeal.nD Cert.KernelFmergeIdeal.τ).loc Cert.KernelFmergeIdeal.main_v8_2) = v2 c
          ∧ r.2.mem ((c.tc : Thread Cert.KernelFmergeIdeal.nD Cert.KernelFmergeIdeal.τ).loc Cert.KernelFmergeIdeal.main_v8_3) = v3 c
          ∧ r.2.mem ((c.tc : Thread Cert.KernelFmergeIdeal.nD Cert.KernelFmergeIdeal.τ).loc Cert.KernelFmergeIdeal.main_v8_4) = v4 c
          ∧ r.2.mem ((c.tc : Thread Cert.KernelFmergeIdeal.nD Cert.KernelFmergeIdeal.τ).loc Cert.KernelFmergeIdeal.main_v8_5) = v5 c
          ∧ r.2.mem ((c.tc : Thread Cert.KernelFmergeIdeal.nD Cert.KernelFmergeIdeal.τ).loc Cert.KernelFmergeIdeal.main_arg0) = m ((c.tc : Thread Cert.KernelFmergeIdeal.nD Cert.KernelFmergeIdeal.τ).loc Cert.KernelFmergeIdeal.main_arg0)
          ∧ r.2.mem ((c.tc : Thread Cert.KernelFmergeIdeal.nD Cert.KernelFmergeIdeal.τ).loc Cert.KernelFmergeIdeal.main_arg1) = m ((c.tc : Thread Cert.KernelFmergeIdeal.nD Cert.KernelFmergeIdeal.τ).loc Cert.KernelFmergeIdeal.main_arg1)
          ∧ r.2.mem ((c.tc : Thread Cert.KernelFmergeIdeal.nD Cert.KernelFmergeIdeal.τ).loc Cert.KernelFmergeIdeal.main_arg2) = m ((c.tc : Thread Cert.KernelFmergeIdeal.nD Cert.KernelFmergeIdeal.τ).loc Cert.KernelFmergeIdeal.main_arg2)
          ∧ r.2.mem ((c.tc : Thread Cert.KernelFmergeIdeal.nD Cert.KernelFmergeIdeal.τ).loc Cert.KernelFmergeIdeal.main_arg3) = m ((c.tc : Thread Cert.KernelFmergeIdeal.nD Cert.KernelFmergeIdeal.τ).loc Cert.KernelFmergeIdeal.main_arg3)
          ∧ r.2.mem ((c.tc : Thread Cert.KernelFmergeIdeal.nD Cert.KernelFmergeIdeal.τ).loc Cert.KernelFmergeIdeal.main_arg4) = m ((c.tc : Thread Cert.KernelFmergeIdeal.nD Cert.KernelFmergeIdeal.τ).loc Cert.KernelFmergeIdeal.main_arg4)
          ∧ r.2.mem ((c.tc : Thread Cert.KernelFmergeIdeal.nD Cert.KernelFmergeIdeal.τ).loc Cert.KernelFmergeIdeal.main_arg5) = m ((c.tc : Thread Cert.KernelFmergeIdeal.nD Cert.KernelFmergeIdeal.τ).loc Cert.KernelFmergeIdeal.main_arg5)
          ∧ r.2.mem ((c.tc : Thread Cert.KernelFmergeIdeal.nD Cert.KernelFmergeIdeal.τ).loc Cert.KernelFmergeIdeal.main_arg6) = m ((c.tc : Thread Cert.KernelFmergeIdeal.nD Cert.KernelFmergeIdeal.τ).loc Cert.KernelFmergeIdeal.main_arg6)
          ∧ r.2.mem ((c.tc : Thread Cert.KernelFmergeIdeal.nD Cert.KernelFmergeIdeal.τ).loc Cert.KernelFmergeIdeal.main_arg7) = m ((c.tc : Thread Cert.KernelFmergeIdeal.nD Cert.KernelFmergeIdeal.τ).loc Cert.KernelFmergeIdeal.main_arg7)
          ∧ r.2.mem ((c.tc : Thread Cert.KernelFmergeIdeal.nD Cert.KernelFmergeIdeal.τ).loc Cert.KernelFmergeIdeal.main_arg8) = m ((c.tc : Thread Cert.KernelFmergeIdeal.nD Cert.KernelFmergeIdeal.τ).loc Cert.KernelFmergeIdeal.main_arg8)
          ∧ r.2.mem ((c.tc : Thread Cert.KernelFmergeIdeal.nD Cert.KernelFmergeIdeal.τ).loc Cert.KernelFmergeIdeal.main_arg9) = m ((c.tc : Thread Cert.KernelFmergeIdeal.nD Cert.KernelFmergeIdeal.τ).loc Cert.KernelFmergeIdeal.main_arg9))
      ∧ θ_run (Cert.ReferenceFmergeIdeal.defs (F := Ideal)) (onTc (τ := Cert.ReferenceFmergeIdeal.τ) (Cert.ReferenceFmergeIdeal.main (F := Ideal))) ⟨m', fun _ => 0, g'⟩ (fun r => ∀ c : Dev Cert.ReferenceFmergeIdeal.nD,
          r.2.mem ((c.tc : Thread Cert.ReferenceFmergeIdeal.nD Cert.ReferenceFmergeIdeal.τ).loc Cert.ReferenceFmergeIdeal.main_v38) = v0 c
          ∧ r.2.mem ((c.tc : Thread Cert.ReferenceFmergeIdeal.nD Cert.ReferenceFmergeIdeal.τ).loc Cert.ReferenceFmergeIdeal.main_v53) = v1 c
          ∧ r.2.mem ((c.tc : Thread Cert.ReferenceFmergeIdeal.nD Cert.ReferenceFmergeIdeal.τ).loc Cert.ReferenceFmergeIdeal.main_v23) = v2 c
          ∧ r.2.mem ((c.tc : Thread Cert.ReferenceFmergeIdeal.nD Cert.ReferenceFmergeIdeal.τ).loc Cert.ReferenceFmergeIdeal.main_v54) = v3 c
          ∧ r.2.mem ((c.tc : Thread Cert.ReferenceFmergeIdeal.nD Cert.ReferenceFmergeIdeal.τ).loc Cert.ReferenceFmergeIdeal.main_v55) = v4 c
          ∧ r.2.mem ((c.tc : Thread Cert.ReferenceFmergeIdeal.nD Cert.ReferenceFmergeIdeal.τ).loc Cert.ReferenceFmergeIdeal.main_v56) = v5 c
          ∧ r.2.mem ((c.tc : Thread Cert.ReferenceFmergeIdeal.nD Cert.ReferenceFmergeIdeal.τ).loc Cert.ReferenceFmergeIdeal.main_arg0) = m' ((c.tc : Thread Cert.ReferenceFmergeIdeal.nD Cert.ReferenceFmergeIdeal.τ).loc Cert.ReferenceFmergeIdeal.main_arg0)
          ∧ r.2.mem ((c.tc : Thread Cert.ReferenceFmergeIdeal.nD Cert.ReferenceFmergeIdeal.τ).loc Cert.ReferenceFmergeIdeal.main_arg1) = m' ((c.tc : Thread Cert.ReferenceFmergeIdeal.nD Cert.ReferenceFmergeIdeal.τ).loc Cert.ReferenceFmergeIdeal.main_arg1)
          ∧ r.2.mem ((c.tc : Thread Cert.ReferenceFmergeIdeal.nD Cert.ReferenceFmergeIdeal.τ).loc Cert.ReferenceFmergeIdeal.main_arg2) = m' ((c.tc : Thread Cert.ReferenceFmergeIdeal.nD Cert.ReferenceFmergeIdeal.τ).loc Cert.ReferenceFmergeIdeal.main_arg2)
          ∧ r.2.mem ((c.tc : Thread Cert.ReferenceFmergeIdeal.nD Cert.ReferenceFmergeIdeal.τ).loc Cert.ReferenceFmergeIdeal.main_arg3) = m' ((c.tc : Thread Cert.ReferenceFmergeIdeal.nD Cert.ReferenceFmergeIdeal.τ).loc Cert.ReferenceFmergeIdeal.main_arg3)
          ∧ r.2.mem ((c.tc : Thread Cert.ReferenceFmergeIdeal.nD Cert.ReferenceFmergeIdeal.τ).loc Cert.ReferenceFmergeIdeal.main_arg4) = m' ((c.tc : Thread Cert.ReferenceFmergeIdeal.nD Cert.ReferenceFmergeIdeal.τ).loc Cert.ReferenceFmergeIdeal.main_arg4)
          ∧ r.2.mem ((c.tc : Thread Cert.ReferenceFmergeIdeal.nD Cert.ReferenceFmergeIdeal.τ).loc Cert.ReferenceFmergeIdeal.main_arg5) = m' ((c.tc : Thread Cert.ReferenceFmergeIdeal.nD Cert.ReferenceFmergeIdeal.τ).loc Cert.ReferenceFmergeIdeal.main_arg5)
          ∧ r.2.mem ((c.tc : Thread Cert.ReferenceFmergeIdeal.nD Cert.ReferenceFmergeIdeal.τ).loc Cert.ReferenceFmergeIdeal.main_arg6) = m' ((c.tc : Thread Cert.ReferenceFmergeIdeal.nD Cert.ReferenceFmergeIdeal.τ).loc Cert.ReferenceFmergeIdeal.main_arg6)
          ∧ r.2.mem ((c.tc : Thread Cert.ReferenceFmergeIdeal.nD Cert.ReferenceFmergeIdeal.τ).loc Cert.ReferenceFmergeIdeal.main_arg7) = m' ((c.tc : Thread Cert.ReferenceFmergeIdeal.nD Cert.ReferenceFmergeIdeal.τ).loc Cert.ReferenceFmergeIdeal.main_arg7)
          ∧ r.2.mem ((c.tc : Thread Cert.ReferenceFmergeIdeal.nD Cert.ReferenceFmergeIdeal.τ).loc Cert.ReferenceFmergeIdeal.main_arg8) = m' ((c.tc : Thread Cert.ReferenceFmergeIdeal.nD Cert.ReferenceFmergeIdeal.τ).loc Cert.ReferenceFmergeIdeal.main_arg8)
          ∧ r.2.mem ((c.tc : Thread Cert.ReferenceFmergeIdeal.nD Cert.ReferenceFmergeIdeal.τ).loc Cert.ReferenceFmergeIdeal.main_arg9) = m' ((c.tc : Thread Cert.ReferenceFmergeIdeal.nD Cert.ReferenceFmergeIdeal.τ).loc Cert.ReferenceFmergeIdeal.main_arg9))

def Claim : Prop :=
  ∃ (hKernelIn : Cert.KernelIn.Facts) (hKernelInIdeal : Cert.KernelInIdeal.Facts) (hReferenceInIdeal : Cert.ReferenceInIdeal.Facts) (hKernelPool : Cert.KernelPool.Facts) (hKernelPoolIdeal : Cert.KernelPoolIdeal.Facts) (hReferencePoolIdeal : Cert.ReferencePoolIdeal.Facts) (hKernelLru : Cert.KernelLru.Facts) (hKernelLruIdeal : Cert.KernelLruIdeal.Facts) (hReferenceLruIdeal : Cert.ReferenceLruIdeal.Facts) (hKernelLoss : Cert.KernelLoss.Facts) (hKernelLossIdeal : Cert.KernelLossIdeal.Facts) (hReferenceLossIdeal : Cert.ReferenceLossIdeal.Facts) (hKernelMlpx : Cert.KernelMlpx.Facts) (hKernelMlpxIdeal : Cert.KernelMlpxIdeal.Facts) (hReferenceMlpxIdeal : Cert.ReferenceMlpxIdeal.Facts) (hKernelMerge : Cert.KernelMerge.Facts) (hKernelMergeIdeal : Cert.KernelMergeIdeal.Facts) (hReferenceMergeIdeal : Cert.ReferenceMergeIdeal.Facts) (hKernelFmerge : Cert.KernelFmerge.Facts) (hKernelFmergeIdeal : Cert.KernelFmergeIdeal.Facts) (hReferenceFmergeIdeal : Cert.ReferenceFmergeIdeal.Facts) (hPre_finite_in : Cert.Pre_finite_in.Facts) (hPre_finite_pool : Cert.Pre_finite_pool.Facts) (hPre_finite_lru : Cert.Pre_finite_lru.Facts) (hPre_finite_loss : Cert.Pre_finite_loss.Facts) (hPre_finite_merge : Cert.Pre_finite_merge.Facts),
    quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelPool (hKernelPool := hKernelPool)
    ∧ quiescent_KernelPoolIdeal (hKernelPoolIdeal := hKernelPoolIdeal)
    ∧ quiescent_KernelPoolIdeal_pre_finite_pool (hKernelPoolIdeal := hKernelPoolIdeal) (hPre_finite_pool := hPre_finite_pool)
    ∧ quiescent_ReferencePoolIdeal (hReferencePoolIdeal := hReferencePoolIdeal)
    ∧ quiescent_ReferencePoolIdeal_pre_finite_pool (hReferencePoolIdeal := hReferencePoolIdeal) (hPre_finite_pool := hPre_finite_pool)
    ∧ quiescent_KernelLru (hKernelLru := hKernelLru)
    ∧ quiescent_KernelLruIdeal (hKernelLruIdeal := hKernelLruIdeal)
    ∧ quiescent_KernelLruIdeal_pre_finite_lru (hKernelLruIdeal := hKernelLruIdeal) (hPre_finite_lru := hPre_finite_lru)
    ∧ quiescent_ReferenceLruIdeal (hReferenceLruIdeal := hReferenceLruIdeal)
    ∧ quiescent_ReferenceLruIdeal_pre_finite_lru (hReferenceLruIdeal := hReferenceLruIdeal) (hPre_finite_lru := hPre_finite_lru)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelMlpx (hKernelMlpx := hKernelMlpx)
    ∧ quiescent_KernelMlpxIdeal (hKernelMlpxIdeal := hKernelMlpxIdeal)
    ∧ quiescent_ReferenceMlpxIdeal (hReferenceMlpxIdeal := hReferenceMlpxIdeal)
    ∧ quiescent_KernelMerge (hKernelMerge := hKernelMerge)
    ∧ quiescent_KernelMergeIdeal (hKernelMergeIdeal := hKernelMergeIdeal)
    ∧ quiescent_KernelMergeIdeal_pre_finite_merge (hKernelMergeIdeal := hKernelMergeIdeal) (hPre_finite_merge := hPre_finite_merge)
    ∧ quiescent_ReferenceMergeIdeal (hReferenceMergeIdeal := hReferenceMergeIdeal)
    ∧ quiescent_ReferenceMergeIdeal_pre_finite_merge (hReferenceMergeIdeal := hReferenceMergeIdeal) (hPre_finite_merge := hPre_finite_merge)
    ∧ quiescent_KernelFmerge (hKernelFmerge := hKernelFmerge)
    ∧ quiescent_KernelFmergeIdeal (hKernelFmergeIdeal := hKernelFmergeIdeal)
    ∧ quiescent_ReferenceFmergeIdeal (hReferenceFmergeIdeal := hReferenceFmergeIdeal)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelPool_KernelPoolIdeal
    ∧ algebraic_KernelPoolIdeal_ReferencePoolIdeal_pre_finite_pool (hKernelPoolIdeal := hKernelPoolIdeal) (hReferencePoolIdeal := hReferencePoolIdeal) (hPre_finite_pool := hPre_finite_pool)
    ∧ preserves_KernelLru_KernelLruIdeal
    ∧ algebraic_KernelLruIdeal_ReferenceLruIdeal_pre_finite_lru (hKernelLruIdeal := hKernelLruIdeal) (hReferenceLruIdeal := hReferenceLruIdeal) (hPre_finite_lru := hPre_finite_lru)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelMlpx_KernelMlpxIdeal
    ∧ algebraic_KernelMlpxIdeal_ReferenceMlpxIdeal (hKernelMlpxIdeal := hKernelMlpxIdeal) (hReferenceMlpxIdeal := hReferenceMlpxIdeal)
    ∧ preserves_KernelMerge_KernelMergeIdeal
    ∧ algebraic_KernelMergeIdeal_ReferenceMergeIdeal_pre_finite_merge (hKernelMergeIdeal := hKernelMergeIdeal) (hReferenceMergeIdeal := hReferenceMergeIdeal) (hPre_finite_merge := hPre_finite_merge)
    ∧ preserves_KernelFmerge_KernelFmergeIdeal
    ∧ algebraic_KernelFmergeIdeal_ReferenceFmergeIdeal (hKernelFmergeIdeal := hKernelFmergeIdeal) (hReferenceFmergeIdeal := hReferenceFmergeIdeal)
-- ==== Pre_finite_in.lean ====
abbrev S1x2048x1024 : Shape := ⟨3, ![1, 2048, 1024]⟩
abbrev S1x1024 : Shape := ⟨2, ![1, 1024]⟩
abbrev S1x1024x4608 : Shape := ⟨3, ![1, 1024, 4608]⟩
abbrev S2048x1024 : Shape := ⟨2, ![2048, 1024]⟩
abbrev S2048x512 : Shape := ⟨2, ![2048, 512]⟩
abbrev S2048x2048 : Shape := ⟨2, ![2048, 2048]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x4608 : S_.BroadcastsInDim S1x1024x4608 (![] : Fin 0 → Fin S1x1024x4608.rank)
  bitsLt_bf16_f32 : FTy.bits .bf16 < FTy.bits .f32
  bcast_S_S2048x1024 : S_.BroadcastsInDim S2048x1024 (![] : Fin 0 → Fin S2048x1024.rank)
  bcast_S_S2048x512 : S_.BroadcastsInDim S2048x512 (![] : Fin 0 → Fin S2048x512.rank)
  bcast_S_S2048x2048 : S_.BroadcastsInDim S2048x2048 (![] : Fin 0 → Fin S2048x2048.rank)

variable [Facts]

def fn_part1 {F : FTy → Type} [FloatOps F] (main_arg6 : FVec F S2048x2048 .bf16) (main_v2 : IVec S1x2048x1024 1) (main_v5 : IVec S1x1024 1) (main_v8 : IVec S1x1024x4608 1) (main_v12 : IVec S2048x1024 1) (main_v16 : IVec S2048x1024 1) (main_v18 : FVec F S2048x512 .f32) : IVec S1x2048x1024 1 × IVec S1x1024 1 × IVec S1x1024x4608 1 × IVec S2048x1024 1 × IVec S2048x1024 1 × IVec S2048x512 1 × IVec S2048x2048 1 :=
  let main_cst_4 : FVec F S_ .f32 := constant S_ .f32 0x7F800000#32
  let main_v19 : FVec F S2048x512 .f32 := broadcastInDim S2048x512 ![] bcast_S_S2048x512 main_cst_4
  let main_v20 : IVec S2048x512 1 := cmpf .olt main_v18 main_v19
  let main_v21 : FVec F S2048x2048 .f32 := (extf .f32 · bitsLt_bf16_f32) main_arg6
  let main_v22 : FVec F S2048x2048 .f32 := Host.absf main_v21
  let main_cst_5 : FVec F S_ .f32 := constant S_ .f32 0x7F800000#32
  let main_v23 : FVec F S2048x2048 .f32 := broadcastInDim S2048x2048 ![] bcast_S_S2048x2048 main_cst_5
  let main_v24 : IVec S2048x2048 1 := cmpf .olt main_v22 main_v23
  (main_v2, main_v5, main_v8, main_v12, main_v16, main_v20, main_v24)

def fn {F : FTy → Type} [FloatOps F] (main_arg0 : FVec F S1x2048x1024 .f32) (main_arg1 : FVec F S1x1024 .f32) (main_arg2 : FVec F S1x1024x4608 .f32) (main_arg3 : FVec F S2048x1024 .bf16) (main_arg4 : FVec F S2048x1024 .bf16) (main_arg5 : FVec F S2048x512 .bf16) (main_arg6 : FVec F S2048x2048 .bf16) (main_arg7 : FVec F S2048x1024 .f32) : IVec S1x2048x1024 1 × IVec S1x1024 1 × IVec S1x1024x4608 1 × IVec S2048x1024 1 × IVec S2048x1024 1 × IVec S2048x512 1 × IVec S2048x2048 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4608 .f32 := Host.absf main_arg2
  let main_cst_1 : FVec F S_ .f32 := constant S_ .f32 0x7F800000#32
  let main_v7 : FVec F S1x1024x4608 .f32 := broadcastInDim S1x1024x4608 ![] bcast_S_S1x1024x4608 main_cst_1
  let main_v8 : IVec S1x1024x4608 1 := cmpf .olt main_v6 main_v7
  let main_v9 : FVec F S2048x1024 .f32 := (extf .f32 · bitsLt_bf16_f32) main_arg3
  let main_v10 : FVec F S2048x1024 .f32 := Host.absf main_v9
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_v13 : FVec F S2048x1024 .f32 := (extf .f32 · bitsLt_bf16_f32) main_arg4
  let main_v14 : FVec F S2048x1024 .f32 := Host.absf main_v13
  let main_cst_3 : FVec F S_ .f32 := constant S_ .f32 0x7F800000#32
  let main_v15 : FVec F S2048x1024 .f32 := broadcastInDim S2048x1024 ![] bcast_S_S2048x1024 main_cst_3
  let main_v16 : IVec S2048x1024 1 := cmpf .olt main_v14 main_v15
  let main_v17 : FVec F S2048x512 .f32 := (extf .f32 · bitsLt_bf16_f32) main_arg5
  let main_v18 : FVec F S2048x512 .f32 := Host.absf main_v17
  fn_part1 (F := F) main_arg6 main_v2 main_v5 main_v8 main_v12 main_v16 main_v18
-- ==== Pre_finite_loss.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)

variable [Facts]

def fn_part1 {F : FTy → Type} [FloatOps F] (main_v3 : IVec S2048x1024 1) (main_v6 : IVec S2048x1024 1) (main_v9 : IVec S2048x1024 1) (main_v12 : IVec S1x1024x4096 1) (main_v15 : IVec S1x4096x1024 1) (main_v16 : FVec F S1x1024 .f32) (main_v17 : FVec F S1x1024 .f32) : IVec S2048x1024 1 × IVec S2048x1024 1 × IVec S2048x1024 1 × IVec S1x1024x4096 1 × IVec S1x4096x1024 1 × IVec S1x1024 1 :=
  let main_v18 : IVec S1x1024 1 := cmpf .olt main_v16 main_v17
  (main_v3, main_v6, main_v9, main_v12, main_v15, main_v18)

def fn {F : FTy → Type} [FloatOps F] (main_arg0 : FVec F S2048x1024 .bf16) (main_arg1 : FVec F S2048x1024 .f32) (main_arg2 : FVec F S2048x1024 .f32) (main_arg3 : FVec F S1x1024x4096 .f32) (main_arg4 : FVec F S1x4096x1024 .f32) (main_arg5 : FVec F S1x1024 .f32) : IVec S2048x1024 1 × IVec S2048x1024 1 × IVec S2048x1024 1 × IVec S1x1024x4096 1 × IVec S1x4096x1024 1 × IVec S1x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : FVec F S1x1024x4096 .f32 := Host.absf main_arg3
  let main_cst_2 : FVec F S_ .f32 := constant S_ .f32 0x7F800000#32
  let main_v11 : FVec F S1x1024x4096 .f32 := broadcastInDim S1x1024x4096 ![] bcast_S_S1x1024x4096 main_cst_2
  let main_v12 : IVec S1x1024x4096 1 := cmpf .olt main_v10 main_v11
  let main_v13 : FVec F S1x4096x1024 .f32 := Host.absf main_arg4
  let main_cst_3 : FVec F S_ .f32 := constant S_ .f32 0x7F800000#32
  let main_v14 : FVec F S1x4096x1024 .f32 := broadcastInDim S1x4096x1024 ![] bcast_S_S1x4096x1024 main_cst_3
  let main_v15 : IVec S1x4096x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_v3 main_v6 main_v9 main_v12 main_v15 main_v16 main_v17
-- ==== Pre_finite_lru.lean ====
abbrev S2048x4608 : Shape := ⟨2, ![2048, 4608]⟩
abbrev S2048x1024 : Shape := ⟨2, ![2048, 1024]⟩
abbrev S1x4x1024 : Shape := ⟨3, ![1, 4, 1024]⟩
abbrev S1x1024 : Shape := ⟨2, ![1, 1024]⟩
abbrev S1x16x64x64 : Shape := ⟨4, ![1, 16, 64, 64]⟩
abbrev S_ : Shape := ⟨0, ![]⟩

class Facts : Prop where
  bcast_S_S2048x4608 : S_.BroadcastsInDim S2048x4608 (![] : Fin 0 → Fin S2048x4608.rank)
  bcast_S_S2048x1024 : S_.BroadcastsInDim S2048x1024 (![] : Fin 0 → Fin S2048x1024.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bcast_S_S1x16x64x64 : S_.BroadcastsInDim S1x16x64x64 (![] : Fin 0 → Fin S1x16x64x64.rank)

variable [Facts]

def fn_part1 {F : FTy → Type} [FloatOps F] (main_arg6 : FVec F S1x16x64x64 .f32) (main_arg7 : FVec F S1x1024 .f32) (main_arg8 : FVec F S1x1024 .f32) (main_v2 : IVec S2048x4608 1) (main_v5 : IVec S2048x1024 1) (main_v8 : IVec S1x4x1024 1) (main_v11 : IVec S1x1024 1) (main_v14 : IVec S1x16x64x64 1) (main_v17 : IVec S1x1024 1) : IVec S2048x4608 1 × IVec S2048x1024 1 × IVec S1x4x1024 1 × IVec S1x1024 1 × IVec S1x16x64x64 1 × IVec S1x1024 1 × IVec S1x16x64x64 1 × IVec S1x1024 1 × IVec S1x1024 1 :=
  let main_v18 : FVec F S1x16x64x64 .f32 := Host.absf main_arg6
  let main_cst_5 : FVec F S_ .f32 := constant S_ .f32 0x7F800000#32
  let main_v19 : FVec F S1x16x64x64 .f32 := broadcastInDim S1x16x64x64 ![] bcast_S_S1x16x64x64 main_cst_5
  let main_v20 : IVec S1x16x64x64 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S2048x4608 .f32) (main_arg1 : FVec F S2048x1024 .f32) (main_arg2 : FVec F S1x4x1024 .f32) (main_arg3 : FVec F S1x1024 .f32) (main_arg4 : FVec F S1x16x64x64 .f32) (main_arg5 : FVec F S1x1024 .f32) (main_arg6 : FVec F S1x16x64x64 .f32) (main_arg7 : FVec F S1x1024 .f32) (main_arg8 : FVec F S1x1024 .f32) : IVec S2048x4608 1 × IVec S2048x1024 1 × IVec S1x4x1024 1 × IVec S1x1024 1 × IVec S1x16x64x64 1 × IVec S1x1024 1 × IVec S1x16x64x64 1 × IVec S1x1024 1 × IVec S1x1024 1 :=
  let main_v0 : FVec F S2048x4608 .f32 := Host.absf main_arg0
  let main_cst : FVec F S_ .f32 := constant S_ .f32 0x7F800000#32
  let main_v1 : FVec F S2048x4608 .f32 := broadcastInDim S2048x4608 ![] bcast_S_S2048x4608 main_cst
  let main_v2 : IVec S2048x4608 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x4x1024 .f32 := Host.absf main_arg2
  let main_cst_1 : FVec F S_ .f32 := constant S_ .f32 0x7F800000#32
  let main_v7 : FVec F S1x4x1024 .f32 := broadcastInDim S1x4x1024 ![] bcast_S_S1x4x1024 main_cst_1
  let main_v8 : IVec S1x4x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x16x64x64 .f32 := Host.absf main_arg4
  let main_cst_3 : FVec F S_ .f32 := constant S_ .f32 0x7F800000#32
  let main_v13 : FVec F S1x16x64x64 .f32 := broadcastInDim S1x16x64x64 ![] bcast_S_S1x16x64x64 main_cst_3
  let main_v14 : IVec S1x16x64x64 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_finite_merge.lean ====
abbrev S2048x1024 : Shape := ⟨2, ![2048, 1024]⟩
abbrev S2048x512 : Shape := ⟨2, ![2048, 512]⟩
abbrev S2048x4608 : Shape := ⟨2, ![2048, 4608]⟩
abbrev S1x2048 : Shape := ⟨2, ![1, 2048]⟩
abbrev S1x1024 : Shape := ⟨2, ![1, 1024]⟩
abbrev S1x1024x1024 : Shape := ⟨3, ![1, 1024, 1024]⟩
abbrev S1x512x1024 : Shape := ⟨3, ![1, 512, 1024]⟩
abbrev S_ : Shape := ⟨0, ![]⟩

class Facts : Prop where
  bcast_S_S2048x1024 : S_.BroadcastsInDim S2048x1024 (![] : Fin 0 → Fin S2048x1024.rank)
  bitsLt_bf16_f32 : FTy.bits .bf16 < FTy.bits .f32
  bcast_S_S2048x512 : S_.BroadcastsInDim S2048x512 (![] : Fin 0 → Fin S2048x512.rank)
  bcast_S_S2048x4608 : S_.BroadcastsInDim S2048x4608 (![] : Fin 0 → Fin S2048x4608.rank)
  bcast_S_S1x2048 : S_.BroadcastsInDim S1x2048 (![] : Fin 0 → Fin S1x2048.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x512x1024 : S_.BroadcastsInDim S1x512x1024 (![] : Fin 0 → Fin S1x512x1024.rank)

variable [Facts]

def fn_part2 {F : FTy → Type} [FloatOps F] (main_v2 : IVec S2048x1024 1) (main_v6 : IVec S2048x1024 1) (main_v10 : IVec S2048x512 1) (main_v13 : IVec S2048x4608 1) (main_v16 : IVec S1x2048 1) (main_v19 : IVec S1x1024 1) (main_v22 : IVec S1x1024 1) (main_v25 : IVec S1x1024x1024 1) (main_v28 : IVec S1x512x1024 1) (main_v31 : IVec S1x1024x1024 1) (main_v34 : IVec S2048x1024 1) (main_v35 : FVec F S2048x1024 .f32) (main_cst_10 : FVec F S_ .f32) : IVec S2048x1024 1 × IVec S2048x1024 1 × IVec S2048x512 1 × IVec S2048x4608 1 × IVec S1x2048 1 × IVec S1x1024 1 × IVec S1x1024 1 × IVec S1x1024x1024 1 × IVec S1x512x1024 1 × IVec S1x1024x1024 1 × IVec S2048x1024 1 × IVec S2048x1024 1 :=
  let main_v36 : FVec F S2048x1024 .f32 := broadcastInDim S2048x1024 ![] bcast_S_S2048x1024 main_cst_10
  let main_v37 : IVec S2048x1024 1 := cmpf .olt main_v35 main_v36
  (main_v2, main_v6, main_v10, main_v13, main_v16, main_v19, main_v22, main_v25, main_v28, main_v31, main_v34, main_v37)

def fn_part1 {F : FTy → Type} [FloatOps F] (main_arg6 : FVec F S1x1024 .f32) (main_arg7 : FVec F S1x1024x1024 .f32) (main_arg8 : FVec F S1x512x1024 .f32) (main_arg9 : FVec F S1x1024x1024 .f32) (main_arg10 : FVec F S2048x1024 .f32) (main_arg11 : FVec F S2048x1024 .f32) (main_v2 : IVec S2048x1024 1) (main_v6 : IVec S2048x1024 1) (main_v10 : IVec S2048x512 1) (main_v13 : IVec S2048x4608 1) (main_v16 : IVec S1x2048 1) (main_v17 : FVec F S1x1024 .f32) (main_cst_4 : FVec F S_ .f32) : IVec S2048x1024 1 × IVec S2048x1024 1 × IVec S2048x512 1 × IVec S2048x4608 1 × IVec S1x2048 1 × IVec S1x1024 1 × IVec S1x1024 1 × IVec S1x1024x1024 1 × IVec S1x512x1024 1 × IVec S1x1024x1024 1 × IVec S2048x1024 1 × IVec S2048x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024x1024 .f32 := Host.absf main_arg7
  let main_cst_6 : FVec F S_ .f32 := constant S_ .f32 0x7F800000#32
  let main_v24 : FVec F S1x1024x1024 .f32 := broadcastInDim S1x1024x1024 ![] bcast_S_S1x1024x1024 main_cst_6
  let main_v25 : IVec S1x1024x1024 1 := cmpf .olt main_v23 main_v24
  let main_v26 : FVec F S1x512x1024 .f32 := Host.absf main_arg8
  let main_cst_7 : FVec F S_ .f32 := constant S_ .f32 0x7F800000#32
  let main_v27 : FVec F S1x512x1024 .f32 := broadcastInDim S1x512x1024 ![] bcast_S_S1x512x1024 main_cst_7
  let main_v28 : IVec S1x512x1024 1 := cmpf .olt main_v26 main_v27
  let main_v29 : FVec F S1x1024x1024 .f32 := Host.absf main_arg9
  let main_cst_8 : FVec F S_ .f32 := constant S_ .f32 0x7F800000#32
  let main_v30 : FVec F S1x1024x1024 .f32 := broadcastInDim S1x1024x1024 ![] bcast_S_S1x1024x1024 main_cst_8
  let main_v31 : IVec S1x1024x1024 1 := cmpf .olt main_v29 main_v30
  let main_v32 : FVec F S2048x1024 .f32 := Host.absf main_arg10
  let main_cst_9 : FVec F S_ .f32 := constant S_ .f32 0x7F800000#32
  let main_v33 : FVec F S2048x1024 .f32 := broadcastInDim S2048x1024 ![] bcast_S_S2048x1024 main_cst_9
  let main_v34 : IVec S2048x1024 1 := cmpf .olt main_v32 main_v33
  let main_v35 : FVec F S2048x1024 .f32 := Host.absf main_arg11
  let main_cst_10 : FVec F S_ .f32 := constant S_ .f32 0x7F800000#32
  fn_part2 (F := F) main_v2 main_v6 main_v10 main_v13 main_v16 main_v19 main_v22 main_v25 main_v28 main_v31 main_v34 main_v35 main_cst_10

def fn {F : FTy → Type} [FloatOps F] (main_arg0 : FVec F S2048x1024 .f32) (main_arg1 : FVec F S2048x1024 .bf16) (main_arg2 : FVec F S2048x512 .bf16) (main_arg3 : FVec F S2048x4608 .f32) (main_arg4 : FVec F S1x2048 .f32) (main_arg5 : FVec F S1x1024 .f32) (main_arg6 : FVec F S1x1024 .f32) (main_arg7 : FVec F S1x1024x1024 .f32) (main_arg8 : FVec F S1x512x1024 .f32) (main_arg9 : FVec F S1x1024x1024 .f32) (main_arg10 : FVec F S2048x1024 .f32) (main_arg11 : FVec F S2048x1024 .f32) : IVec S2048x1024 1 × IVec S2048x1024 1 × IVec S2048x512 1 × IVec S2048x4608 1 × IVec S1x2048 1 × IVec S1x1024 1 × IVec S1x1024 1 × IVec S1x1024x1024 1 × IVec S1x512x1024 1 × IVec S1x1024x1024 1 × IVec S2048x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := (extf .f32 · bitsLt_bf16_f32) main_arg1
  let main_v4 : FVec F S2048x1024 .f32 := Host.absf main_v3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S2048x512 .f32 := (extf .f32 · bitsLt_bf16_f32) main_arg2
  let main_v8 : FVec F S2048x512 .f32 := Host.absf main_v7
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  let main_v11 : FVec F S2048x4608 .f32 := Host.absf main_arg3
  let main_cst_2 : FVec F S_ .f32 := constant S_ .f32 0x7F800000#32
  let main_v12 : FVec F S2048x4608 .f32 := broadcastInDim S2048x4608 ![] bcast_S_S2048x4608 main_cst_2
  let main_v13 : IVec S2048x4608 1 := cmpf .olt main_v11 main_v12
  let main_v14 : FVec F S1x2048 .f32 := Host.absf main_arg4
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  let main_v17 : FVec F S1x1024 .f32 := Host.absf main_arg5
  let main_cst_4 : FVec F S_ .f32 := constant S_ .f32 0x7F800000#32
  fn_part1 (F := F) main_arg6 main_arg7 main_arg8 main_arg9 main_arg10 main_arg11 main_v2 main_v6 main_v10 main_v13 main_v16 main_v17 main_cst_4
-- ==== Pre_finite_pool.lean ====
abbrev S2048x4608 : Shape := ⟨2, ![2048, 4608]⟩
abbrev S2048x512 : Shape := ⟨2, ![2048, 512]⟩
abbrev S1x4x128x128 : Shape := ⟨4, ![1, 4, 128, 128]⟩
abbrev S1x512 : Shape := ⟨2, ![1, 512]⟩
abbrev S_ : Shape := ⟨0, ![]⟩

class Facts : Prop where
  bcast_S_S2048x4608 : S_.BroadcastsInDim S2048x4608 (![] : Fin 0 → Fin S2048x4608.rank)
  bcast_S_S2048x512 : S_.BroadcastsInDim S2048x512 (![] : Fin 0 → Fin S2048x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S2048x4608 .f32) (main_arg1 : FVec F S2048x512 .f32) (main_arg2 : FVec F S1x4x128x128 .f32) (main_arg3 : FVec F S1x512 .f32) : IVec S2048x4608 1 × IVec S2048x512 1 × IVec S1x4x128x128 1 × IVec S1x512 1 :=
  let main_v0 : FVec F S2048x4608 .f32 := Host.absf main_arg0
  let main_cst : FVec F S_ .f32 := constant S_ .f32 0x7F800000#32
  let main_v1 : FVec F S2048x4608 .f32 := broadcastInDim S2048x4608 ![] bcast_S_S2048x4608 main_cst
  let main_v2 : IVec S2048x4608 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S1x4x128x128 .f32 := Host.absf main_arg2
  let main_cst_1 : FVec F S_ .f32 := constant S_ .f32 0x7F800000#32
  let main_v7 : FVec F S1x4x128x128 .f32 := broadcastInDim S1x4x128x128 ![] bcast_S_S1x4x128x128 main_cst_1
  let main_v8 : IVec S1x4x128x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== KernelIn.lean ====
abbrev S1x2048x1024 : Shape := ⟨3, ![1, 2048, 1024]⟩
abbrev S1x1024 : Shape := ⟨2, ![1, 1024]⟩
abbrev S1x1024x4608 : Shape := ⟨3, ![1, 1024, 4608]⟩
abbrev S2048x1024 : Shape := ⟨2, ![2048, 1024]⟩
abbrev S2048x512 : Shape := ⟨2, ![2048, 512]⟩
abbrev S2048x2048 : Shape := ⟨2, ![2048, 2048]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S512x1024 : Shape := ⟨2, ![512, 1024]⟩
abbrev S512x512 : Shape := ⟨2, ![512, 512]⟩
abbrev S512x2048 : Shape := ⟨2, ![512, 2048]⟩
abbrev S1x1024x1024 : Shape := ⟨3, ![1, 1024, 1024]⟩
abbrev S1024x1024 : Shape := ⟨2, ![1024, 1024]⟩
abbrev S512x128 : Shape := ⟨2, ![512, 128]⟩
abbrev S1x1024x128 : Shape := ⟨3, ![1, 1024, 128]⟩
abbrev S1024x128 : Shape := ⟨2, ![1024, 128]⟩
abbrev S512x896 : Shape := ⟨2, ![512, 896]⟩
abbrev S1x1024x896 : Shape := ⟨3, ![1, 1024, 896]⟩
abbrev S1024x896 : Shape := ⟨2, ![1024, 896]⟩
abbrev S512x256 : Shape := ⟨2, ![512, 256]⟩
abbrev S1x1024x256 : Shape := ⟨3, ![1, 1024, 256]⟩
abbrev S1024x256 : Shape := ⟨2, ![1024, 256]⟩
abbrev S512x1152 : Shape := ⟨2, ![512, 1152]⟩
abbrev S1x1024x1152 : Shape := ⟨3, ![1, 1024, 1152]⟩
abbrev S1024x1152 : Shape := ⟨2, ![1024, 1152]⟩
abbrev S512 : Shape := ⟨1, ![512]⟩
abbrev S512x1 : Shape := ⟨2, ![512, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x4608, .f32⟩
  | .hbm, ⟨3, _⟩ => ⟨S2048x1024, .bf16⟩
  | .hbm, ⟨4, _⟩ => ⟨S2048x1024, .bf16⟩
  | .hbm, ⟨5, _⟩ => ⟨S2048x512, .bf16⟩
  | .hbm, ⟨6, _⟩ => ⟨S2048x2048, .bf16⟩
  | .hbm, ⟨7, _⟩ => ⟨S2048x1024, .f32⟩
  | .hbm, ⟨8, _⟩ => ⟨S1024x4608, .f32⟩
  | .hbm, ⟨9, _⟩ => ⟨S1024x4608, .bf16⟩
  | .hbm, ⟨10, _⟩ => ⟨S1024x4x1152, .bf16⟩
  | .hbm, ⟨11, _⟩ => ⟨S4x1024x1152, .bf16⟩
  | .hbm, ⟨12, _⟩ => ⟨S2048x1024, .f32⟩
  | .hbm, ⟨13, _⟩ => ⟨S2048x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S4x1024x1152, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_47 : BitVec 32 := 0#32
  let v69 : BitVec 1 := Scalar.cmpi .ne v68 c0_i32_47
  v69

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v70 : BitVec 1 := Scalar.xori v67 v_true
  let v71 : BitVec 32 := Scalar.extui v70
  let c0_i32_48 : BitVec 32 := 0#32
  let v72 : BitVec 1 := Scalar.cmpi .ne v71 c0_i32_48
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceInIdeal.lean ====
abbrev S1x2048x1024 : Shape := ⟨3, ![1, 2048, 1024]⟩
abbrev S1x1024 : Shape := ⟨2, ![1, 1024]⟩
abbrev S1x1024x4608 : Shape := ⟨3, ![1, 1024, 4608]⟩
abbrev S2048x1024 : Shape := ⟨2, ![2048, 1024]⟩
abbrev S2048x512 : Shape := ⟨2, ![2048, 512]⟩
abbrev S2048x2048 : Shape := ⟨2, ![2048, 2048]⟩
abbrev S1x2048x512 : Shape := ⟨3, ![1, 2048, 512]⟩
abbrev S1x2048x2048 : Shape := ⟨3, ![1, 2048, 2048]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x4608 : Shape := ⟨2, ![1024, 4608]⟩
abbrev S1x2048x4608 : Shape := ⟨3, ![1, 2048, 4608]⟩
abbrev S2048 : Shape := ⟨1, ![2048]⟩

abbrev nBuf : Space → Nat
  | .hbm => 75
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x4608, .f32⟩
  | .hbm, ⟨3, _⟩ => ⟨S2048x1024, .bf16⟩
  | .hbm, ⟨4, _⟩ => ⟨S2048x1024, .bf16⟩
  | .hbm, ⟨5, _⟩ => ⟨S2048x512, .bf16⟩
  | .hbm, ⟨6, _⟩ => ⟨S2048x2048, .bf16⟩
  | .hbm, ⟨7, _⟩ => ⟨S2048x1024, .f32⟩
  | .hbm, ⟨8, _⟩ => ⟨S2048x1024, .f32⟩
  | .hbm, ⟨9, _⟩ => ⟨S1x2048x1024, .f32⟩
  | .hbm, ⟨10, _⟩ => ⟨S2048x1024, .f32⟩
  | .hbm, ⟨11, _⟩ => ⟨S1x2048x1024, .f32⟩
  | .hbm, ⟨12, _⟩ => ⟨S2048x512, .f32⟩
  | .hbm, ⟨13, _⟩ => ⟨S1x2048x512, .f32⟩
  | .hbm, ⟨14, _⟩ => ⟨S2048x2048, .f32⟩
  | .hbm, ⟨15, _⟩ => ⟨S1x2048x2048, .f32⟩
  | .hbm, ⟨16, _⟩ => ⟨S1x2048x1024, .f32⟩
  | .hbm, ⟨17, _⟩ => ⟨S1024, .f32⟩
  | .hbm, ⟨18, _⟩ => ⟨S1x2048x1024, .f32⟩
  | .hbm, ⟨19, _⟩ => ⟨S_, .f32⟩
  | .hbm, ⟨20, _⟩ => ⟨S1x2048, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S_, .f32⟩
  | .hbm, ⟨26, _⟩ => ⟨S1x2048x1, .f32⟩
  | .hbm, ⟨27, _⟩ => ⟨S1x2048x1, .f32⟩
  | .hbm, ⟨28, _⟩ => ⟨S1x2048x1, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S1x2048x1024, .f32⟩
  | .hbm, ⟨34, _⟩ => ⟨S1x2048x1024, .f32⟩
  | .hbm, ⟨35, _⟩ => ⟨S1x1x1024, .f32⟩
  | .hbm, ⟨36, _⟩ => ⟨S1x2048x1024, .f32⟩
  | .hbm, ⟨37, _⟩ => ⟨S1x2048x1024, .f32⟩
  | .hbm, ⟨38, _⟩ => ⟨S1024x4608, .f32⟩
  | .hbm, ⟨39, _⟩ => ⟨S1x2048x4608, .f32⟩
  | .hbm, ⟨40, _⟩ => ⟨S1x2048x1024, .f32⟩
  | .hbm, ⟨41, _⟩ => ⟨S1x2048x1024, .f32⟩
  | .hbm, ⟨42, _⟩ => ⟨S1x2048x512, .f32⟩
  | .hbm, ⟨43, _⟩ => ⟨S1x2048x2048, .f32⟩
  | .hbm, ⟨44, _⟩ => ⟨S1x2048x4608, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1024, .f32⟩
  | .hbm, ⟨54, _⟩ => ⟨S1x2048x1024, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1, .f32⟩
  | .hbm, ⟨62, _⟩ => ⟨S_, .f32⟩
  | .hbm, ⟨63, _⟩ => ⟨S1x2048x1, .f32⟩
  | .hbm, ⟨64, _⟩ => ⟨S1x2048x1, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S2048x1024, .f32⟩
  | .hbm, ⟨74, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== KernelPool.lean ====
abbrev S2048x4608 : Shape := ⟨2, ![2048, 4608]⟩
abbrev S2048x512 : Shape := ⟨2, ![2048, 512]⟩
abbrev S1x4x128x128 : Shape := ⟨4, ![1, 4, 128, 128]⟩
abbrev S1x512 : Shape := ⟨2, ![1, 512]⟩
abbrev S4x128x128 : Shape := ⟨3, ![4, 128, 128]⟩
abbrev S2048x1 : Shape := ⟨2, ![2048, 1]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 7
  | .smem => 0
  | _ => 0

abbrev bufTy : (tb : Table) → Fin (tcTables nBuf tb) → BufTy
  | .hbm, ⟨0, _⟩ => ⟨S2048x4608, .f32⟩
  | .hbm, ⟨1, _⟩ => ⟨S2048x512, .f32⟩
  | .hbm, ⟨2, _⟩ => ⟨S1x4x128x128, .f32⟩
  | .hbm, ⟨3, _⟩ => ⟨S1x512, .f32⟩
  | .hbm, ⟨4, _⟩ => ⟨S4x128x128, .f32⟩
  | .hbm, ⟨5, _⟩ => ⟨S4x128x128, .bf16⟩
  | .hbm, ⟨6, _⟩ => ⟨S2048x512, .bf16⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S2048x512, .bf16⟩
  | .local _ .vmem, ⟨5, _⟩ => ⟨S4x128x128, .f32⟩
  | .local _ .vmem, ⟨6, _⟩ => ⟨S1x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePoolIdeal.lean ====
abbrev S2048x4608 : Shape := ⟨2, ![2048, 4608]⟩
abbrev S2048x512 : Shape := ⟨2, ![2048, 512]⟩
abbrev S1x4x128x128 : Shape := ⟨4, ![1, 4, 128, 128]⟩
abbrev S1x512 : Shape := ⟨2, ![1, 512]⟩
abbrev S1x2048x512 : Shape := ⟨3, ![1, 2048, 512]⟩
abbrev S4x128x128 : Shape := ⟨3, ![4, 128, 128]⟩
abbrev S512 : Shape := ⟨1, ![512]⟩
abbrev S_ : Shape := ⟨0, ![]⟩
abbrev S2048 : Shape := ⟨1, ![2048]⟩
abbrev S1x2048x1 : Shape := ⟨3, ![1, 2048, 1]⟩
abbrev S1x2048x128 : Shape := ⟨3, ![1, 2048, 128]⟩
abbrev S1x2x128 : Shape := ⟨3, ![1, 2, 128]⟩
abbrev S1x2046x128 : Shape := ⟨3, ![1, 2046, 128]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S1x2048x1x128 : Shape := ⟨4, ![1, 2048, 1, 128]⟩
abbrev S1x2048x4x128 : Shape := ⟨4, ![1, 2048, 4, 128]⟩
abbrev S4x128x1x2048 : Shape := ⟨4, ![4, 128, 1, 2048]⟩
abbrev S1x1x512 : Shape := ⟨3, ![1, 1, 512]⟩
abbrev S4x1x2048x128 : Shape := ⟨4, ![4, 1, 2048, 128]⟩

abbrev nBuf : Space → Nat
  | .hbm => 175
  | .vmem => 0
  | .smem => 0
  | _ => 0

abbrev hbmTy0_0 (i : Nat) : BufTy := match i % 128 with
  | 0 => ⟨S2048x4608, .f32⟩
  | 1 => ⟨S2048x512, .f32⟩
  | 2 => ⟨S1x4x128x128, .f32⟩
  | 3 => ⟨S1x512, .f32⟩
  | 4 => ⟨S2048x512, .f32⟩
  | 5 => ⟨S1x2048x512, .f32⟩
  | 6 => ⟨S4x128x128, .f32⟩
  | 7 => ⟨S512, .f32⟩
  | 8 => ⟨S_, .f32⟩
  | 9 => ⟨S_, .f32⟩
  | 10 => ⟨S1x2048x512, .f32⟩
  | 11 => ⟨S2048, .f32⟩
  | 12 => ⟨S_, .f32⟩
  | 13 => ⟨S2048, .f32⟩
  | 14 => ⟨S2048, .f32⟩
  | 15 => ⟨S1x2048x1, .f32⟩
  | 16 => ⟨S1x2048x128, .f32⟩
  | 17 => ⟨S_, .f32⟩
  | 18 => ⟨S1x2x128, .f32⟩
  | 19 => ⟨S1x2046x128, .f32⟩
  | 20 => ⟨S1x2048x128, .f32⟩
  | 21 => ⟨S_, .f32⟩
  | 22 => ⟨S1x2x128, .f32⟩
  | 23 => ⟨S_, .f32⟩
  | 24 => ⟨S1x2048x1, .f32⟩
  | 25 => ⟨S1x2048x1, .f32⟩
  | 26 => ⟨S1x2048x128, .f32⟩
  | 27 => ⟨S1x2048x128, .f32⟩
  | 28 => ⟨S1x2048x128, .f32⟩
  | 29 => ⟨S1x2048x128, .f32⟩
  | 30 => ⟨S1x2048x128, .f32⟩
  | 31 => ⟨S1x2048x128, .f32⟩
  | 32 => ⟨S_, .f32⟩
  | 33 => ⟨S1x4x128, .f32⟩
  | 34 => ⟨S1x2044x128, .f32⟩
  | 35 => ⟨S1x2048x128, .f32⟩
  | 36 => ⟨S_, .f32⟩
  | 37 => ⟨S1x4x128, .f32⟩
  | 38 => ⟨S_, .f32⟩
  | 39 => ⟨S1x2048x1, .f32⟩
  | 40 => ⟨S1x2048x1, .f32⟩
  | 41 => ⟨S1x2048x128, .f32⟩
  | 42 => ⟨S1x2048x128, .f32⟩
  | 43 => ⟨S1x2048x128, .f32⟩
  | 44 => ⟨S1x2048x128, .f32⟩
  | 45 => ⟨S1x2048x128, .f32⟩
  | 46 => ⟨S1x2048x128, .f32⟩
  | 47 => ⟨S_, .f32⟩
  | 48 => ⟨S1x8x128, .f32⟩
  | 49 => ⟨S1x2040x128, .f32⟩
  | 50 => ⟨S1x2048x128, .f32⟩
  | 51 => ⟨S_, .f32⟩
  | 52 => ⟨S1x8x128, .f32⟩
  | 53 => ⟨S_, .f32⟩
  | 54 => ⟨S1x2048x1, .f32⟩
  | 55 => ⟨S1x2048x1, .f32⟩
  | 56 => ⟨S1x2048x128, .f32⟩
  | 57 => ⟨S1x2048x128, .f32⟩
  | 58 => ⟨S1x2048x128, .f32⟩
  | 59 => ⟨S1x2048x128, .f32⟩
  | 60 => ⟨S1x2048x128, .f32⟩
  | 61 => ⟨S1x2048x128, .f32⟩
  | 62 => ⟨S_, .f32⟩
  | 63 => ⟨S1x16x128, .f32⟩
  | 64 => ⟨S1x2032x128, .f32⟩
  | 65 => ⟨S1x2048x128, .f32⟩
  | 66 => ⟨S_, .f32⟩
  | 67 => ⟨S1x16x128, .f32⟩
  | 68 => ⟨S_, .f32⟩
  | 69 => ⟨S1x2048x1, .f32⟩
  | 70 => ⟨S1x2048x1, .f32⟩
  | 71 => ⟨S1x2048x128, .f32⟩
  | 72 => ⟨S1x2048x128, .f32⟩
  | 73 => ⟨S1x2048x128, .f32⟩
  | 74 => ⟨S1x2048x128, .f32⟩
  | 75 => ⟨S1x2048x128, .f32⟩
  | 76 => ⟨S1x2048x1x128, .f32⟩
  | 77 => ⟨S1x2048x1x128, .f32⟩
  | 78 => ⟨S1x2048x1x128, .f32⟩
  | 79 => ⟨S1x2048x1x128, .f32⟩
  | 80 => ⟨S1x2048x4x128, .f32⟩
  | 81 => ⟨S4x128x1x2048, .f32⟩
  | 82 => ⟨S1x2048x4x128, .f32⟩
  | 83 => ⟨S1x2048x512, .f32⟩
  | 84 => ⟨S1x1x512, .f32⟩
  | 85 => ⟨S1x2048x512, .f32⟩
  | 86 => ⟨S1x2048x512, .f32⟩
  | 87 => ⟨S1x2048x512, .f32⟩
  | 88 => ⟨S1x2048x512, .f32⟩
  | 89 => ⟨S_, .f32⟩
  | 90 => ⟨S1x512, .f32⟩
  | 91 => ⟨S1x1x512, .f32⟩
  | 92 => ⟨S1x2048x512, .f32⟩
  | 93 => ⟨S1x2048x512, .f32⟩
  | 94 => ⟨S_, .f32⟩
  | 95 => ⟨S512, .f32⟩
  | 96 => ⟨S1x2048x4x128, .f32⟩
  | 97 => ⟨S4x128x1x2048, .f32⟩
  | 98 => ⟨S4x1x2048x128, .f32⟩
  | 99 => ⟨S1x2048x4x128, .f32⟩
  | 100 => ⟨S4x128x128, .f32⟩
  | 101 => ⟨S4x128x128, .f32⟩
  | 102 => ⟨S1x2048x1x128, .f32⟩
  | 103 => ⟨S1x2048x128, .f32⟩
  | 104 => ⟨S1x2048x1x128, .f32⟩
  | 105 => ⟨S1x2048x128, .f32⟩
  | 106 => ⟨S1x2048x1x128, .f32⟩
  | 107 => ⟨S1x2048x128, .f32⟩
  | 108 => ⟨S1x2048x1x128, .f32⟩
  | 109 => ⟨S1x2048x128, .f32⟩
  | 110 => ⟨S1x2048x128, .f32⟩
  | 111 => ⟨S_, .f32⟩
  | 112 => ⟨S1x2048x512, .f32⟩
  | 113 => ⟨S1x2048x128, .f32⟩
  | 114 => ⟨S1x2048x128, .f32⟩
  | 115 => ⟨S1x2048x128, .f32⟩
  | 116 => ⟨S1x16x128, .f32⟩
  | 117 => ⟨S1x2032x128, .f32⟩
  | 118 => ⟨S_, .f32⟩
  | 119 => ⟨S1x2048x128, .f32⟩
  | 120 => ⟨S1x2048x128, .f32⟩
  | 121 => ⟨S_, .f32⟩
  | 122 => ⟨S1x2048x512, .f32⟩
  | 123 => ⟨S1x2048x128, .f32⟩
  | 124 => ⟨S_, .f32⟩
  | 125 => ⟨S1x2048x512, .f32⟩
  | 126 => ⟨S1x2048x512, .f32⟩
  | 127 => ⟨S1x2048x128, .f32⟩
  | _ => ⟨S2048x4608, .f32⟩

abbrev hbmTy0_1 (i : Nat) : BufTy := match i % 128 with
  | 0 => ⟨S1x2048x128, .f32⟩
  | 1 => ⟨S1x2048x128, .f32⟩
  | 2 => ⟨S1x8x128, .f32⟩
  | 3 => ⟨S1x2040x128, .f32⟩
  | 4 => ⟨S_, .f32⟩
  | 5 => ⟨S1x2048x128, .f32⟩
  | 6 => ⟨S1x2048x128, .f32⟩
  | 7 => ⟨S_, .f32⟩
  | 8 => ⟨S1x2048x512, .f32⟩
  | 9 => ⟨S1x2048x512, .f32⟩
  | 10 => ⟨S1x2048x128, .f32⟩
  | 11 => ⟨S_, .f32⟩
  | 12 => ⟨S1x2048x512, .f32⟩
  | 13 => ⟨S1x2048x512, .f32⟩
  | 14 => ⟨S1x2048x128, .f32⟩
  | 15 => ⟨S1x2048x128, .f32⟩
  | 16 => ⟨S1x2048x128, .f32⟩
  | 17 => ⟨S1x4x128, .f32⟩
  | 18 => ⟨S1x2044x128, .f32⟩
  | 19 => ⟨S_, .f32⟩
  | 20 => ⟨S1x2048x128, .f32⟩
  | 21 => ⟨S1x2048x128, .f32⟩
  | 22 => ⟨S_, .f32⟩
  | 23 => ⟨S1x2048x512, .f32⟩
  | 24 => ⟨S1x2048x512, .f32⟩
  | 25 => ⟨S1x2048x128, .f32⟩
  | 26 => ⟨S_, .f32⟩
  | 27 => ⟨S1x2048x512, .f32⟩
  | 28 => ⟨S1x2048x512, .f32⟩
  | 29 => ⟨S1x2048x128, .f32⟩
  | 30 => ⟨S1x2048x128, .f32⟩
  | 31 => ⟨S1x2048x128, .f32⟩
  | 32 => ⟨S1x2x128, .f32⟩
  | 33 => ⟨S1x2046x128, .f32⟩
  | 34 => ⟨S_, .f32⟩
  | 35 => ⟨S1x2048x128, .f32⟩
  | 36 => ⟨S1x2048x128, .f32⟩
  | 37 => ⟨S_, .f32⟩
  | 38 => ⟨S1x2048x512, .f32⟩
  | 39 => ⟨S1x2048x512, .f32⟩
  | 40 => ⟨S_, .f32⟩
  | 41 => ⟨S_, .f32⟩
  | 42 => ⟨S1x2048x512, .f32⟩
  | 43 => ⟨S1x2048x512, .f32⟩
  | 44 => ⟨S2048x512, .f32⟩
  | 45 => ⟨S2048x512, .bf16⟩
  | 46 => ⟨S1x512, .f32⟩
  | _ => ⟨S2048x4608, .f32⟩

abbrev hbmTy (i : Nat) : BufTy := match i / 128 with
  | 0 => hbmTy0_0 i
  | 1 => hbmTy0_1 i
  | _ => ⟨S2048x4608, .f32⟩

abbrev bufTy : (tb : Table) → Fin (tcTables nBuf tb) → BufTy
  | .hbm, ⟨i, _⟩ => hbmTy i
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_18 : Ref sig .tc := ⟨.hbm, 132, rfl⟩
abbrev main_v107 : Ref sig .tc := ⟨.hbm, 133, rfl⟩
abbrev main_v108 : Ref sig .tc := ⟨.hbm, 134, rfl⟩
abbrev main_cst_19 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_21 : Ref sig .tc := ⟨.hbm, 147, rfl⟩
abbrev main_v119 : Ref sig .tc := ⟨.hbm, 148, rfl⟩
abbrev main_v120 : Ref sig .tc := ⟨.hbm, 149, rfl⟩
abbrev main_cst_22 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_23 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_24 : Ref sig .tc := ⟨.hbm, 162, rfl⟩
abbrev main_v131 : Ref sig .tc := ⟨.hbm, 163, rfl⟩
abbrev main_v132 : Ref sig .tc := ⟨.hbm, 164, rfl⟩
abbrev main_cst_25 : Ref sig .tc := ⟨.hbm, 165, rfl⟩
abbrev main_v133 : Ref sig .tc := ⟨.hbm, 166, rfl⟩
abbrev main_v134 : Ref sig .tc := ⟨.hbm, 167, rfl⟩
abbrev main_call1_call0_cst : Ref sig .tc := ⟨.hbm, 168, rfl⟩
abbrev main_call1_call0_v0 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩

abbrev nD : Nat := 1
abbrev τ : Topo := Topo.v7x

variable {F : FTy → Type} [FloatOps F]
-- ==== KernelLru.lean ====
abbrev S2048x4608 : Shape := ⟨2, ![2048, 4608]⟩
abbrev S2048x1024 : Shape := ⟨2, ![2048, 1024]⟩
abbrev S1x4x1024 : Shape := ⟨3, ![1, 4, 1024]⟩
abbrev S1x1024 : Shape := ⟨2, ![1, 1024]⟩
abbrev S1x16x64x64 : Shape := ⟨4, ![1, 16, 64, 64]⟩
abbrev S16x64x64 : Shape := ⟨3, ![16, 64, 64]⟩
abbrev S8x2x64x64 : Shape := ⟨4, ![8, 2, 64, 64]⟩
abbrev S2x2 : Shape := ⟨2, ![2, 2]⟩
abbrev S_ : Shape := ⟨0, ![]⟩
abbrev S8x2x64x1x64 : Shape := ⟨5, ![8, 2, 64, 1, 64]⟩
abbrev S1x2x1x2x1 : Shape := ⟨5, ![1, 2, 1, 2, 1]⟩
abbrev S8x2x64x2x64 : Shape := ⟨5, ![8, 2, 64, 2, 64]⟩
abbrev S8x128x128 : Shape := ⟨3, ![8, 128, 128]⟩
abbrev S4x1024 : Shape := ⟨2, ![4, 1024]⟩
abbrev S2048x128 : Shape := ⟨2, ![2048, 128]⟩
abbrev S4x128 : Shape := ⟨2, ![4, 128]⟩
abbrev S1x128 : Shape := ⟨2, ![1, 128]⟩
abbrev S1x128x128 : Shape := ⟨3, ![1, 128, 128]⟩
abbrev S128x128 : Shape := ⟨2, ![128, 128]⟩
abbrev S256x8x128 : Shape := ⟨3, ![256, 8, 128]⟩
abbrev S256x128 : Shape := ⟨2, ![256, 128]⟩
abbrev S128 : Shape := ⟨1, ![128]⟩
abbrev S8x1x64x1x64 : Shape := ⟨5, ![8, 1, 64, 1, 64]⟩
abbrev S8x64x64 : Shape := ⟨3, ![8, 64, 64]⟩
abbrev S8x1x64x64 : Shape := ⟨4, ![8, 1, 64, 64]⟩

abbrev nBuf : Space → Nat
  | .hbm => 72
  | .vmem => 67
  | .smem => 0
  | _ => 0

abbrev bufTy : (tb : Table) → Fin (tcTables nBuf tb) → BufTy
  | .hbm, ⟨0, _⟩ => ⟨S2048x4608, .f32⟩
  | .hbm, ⟨1, _⟩ => ⟨S2048x1024, .f32⟩
  | .hbm, ⟨2, _⟩ => ⟨S1x4x1024, .f32⟩
  | .hbm, ⟨3, _⟩ => ⟨S1x1024, .f32⟩
  | .hbm, ⟨4, _⟩ => ⟨S1x16x64x64, .f32⟩
  | .hbm, ⟨5, _⟩ => ⟨S1x1024, .f32⟩
  | .hbm, ⟨6, _⟩ => ⟨S1x16x64x64, .f32⟩
  | .hbm, ⟨7, _⟩ => ⟨S1x1024, .f32⟩
  | .hbm, ⟨8, _⟩ => ⟨S1x1024, .f32⟩
  | .hbm, ⟨9, _⟩ => ⟨S16x64x64, .f32⟩
  | .hbm, ⟨10, _⟩ => ⟨S8x2x64x64, .f32⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S8x2x64x1x64, .f32⟩
  | .hbm, ⟨19, _⟩ => ⟨S1x2x1x2x1, .f32⟩
  | .hbm, ⟨20, _⟩ => ⟨S8x2x64x2x64, .f32⟩
  | .hbm, ⟨21, _⟩ => ⟨S8x2x64x2x64, .f32⟩
  | .hbm, ⟨22, _⟩ => ⟨S8x2x64x2x64, .f32⟩
  | .hbm, ⟨23, _⟩ => ⟨S8x128x128, .f32⟩
  | .hbm, ⟨24, _⟩ => ⟨S8x128x128, .bf16⟩
  | .hbm, ⟨25, _⟩ => ⟨S16x64x64, .f32⟩
  | .hbm, ⟨26, _⟩ => ⟨S8x2x64x64, .f32⟩
  | .hbm, ⟨27, _⟩ => ⟨S2x2, .i32⟩
  | .hbm, ⟨28, _⟩ => ⟨S2x2, .i32⟩
  | .hbm, ⟨29, _⟩ => ⟨S_, .i32⟩
  | .hbm, ⟨30, _⟩ => ⟨S2x2, .i32⟩
  | .hbm, ⟨31, _⟩ => ⟨S2x2, .i32⟩
  | .hbm, ⟨32, _⟩ => ⟨S2x2, .i1⟩
  | .hbm, ⟨33, _⟩ => ⟨S2x2, .f32⟩
  | .hbm, ⟨34, _⟩ => ⟨S8x2x64x1x64, .f32⟩
  | .hbm, ⟨35, _⟩ => ⟨S1x2x1x2x1, .f32⟩
  | .hbm, ⟨36, _⟩ => ⟨S8x2x64x2x64, .f32⟩
  | .hbm, ⟨37, _⟩ => ⟨S8x2x64x2x64, .f32⟩
  | .hbm, ⟨38, _⟩ => ⟨S8x2x64x2x64, .f32⟩
  | .hbm, ⟨39, _⟩ => ⟨S8x128x128, .f32⟩
  | .hbm, ⟨40, _⟩ => ⟨S8x128x128, .bf16⟩
  | .hbm, ⟨41, _⟩ => ⟨S4x1024, .f32⟩
  | .hbm, ⟨42, _⟩ => ⟨S2048x1024, .bf16⟩
  | .hbm, ⟨43, _⟩ => ⟨S2048x1024, .f32⟩
  | .hbm, ⟨44, _⟩ => ⟨S4x1024, .f32⟩
  | .hbm, ⟨45, _⟩ => ⟨S2048x1024, .bf16⟩
  | .hbm, ⟨46, _⟩ => ⟨S2048x1024, .bf16⟩
  | .hbm, ⟨47, _⟩ => ⟨S4x1024, .f32⟩
  | .hbm, ⟨48, _⟩ => ⟨S1x1024, .f32⟩
  | .hbm, ⟨49, _⟩ => ⟨S8x128x128, .f32⟩
  | .hbm, ⟨50, _⟩ => ⟨S1x1024, .f32⟩
  | .hbm, ⟨51, _⟩ => ⟨S8x128x128, .f32⟩
  | .hbm, ⟨52, _⟩ => ⟨S1x1024, .f32⟩
  | .hbm, ⟨53, _⟩ => ⟨S1x1024, .f32⟩
  | .hbm, ⟨54, _⟩ => ⟨S8x2x64x2x64, .f32⟩
  | .hbm, ⟨55, _⟩ => ⟨S8x1x64x1x64, .f32⟩
  | .hbm, ⟨56, _⟩ => ⟨S8x64x64, .f32⟩
  | .hbm, ⟨57, _⟩ => ⟨S8x1x64x1x64, .f32⟩
  | .hbm, ⟨58, _⟩ => ⟨S8x64x64, .f32⟩
  | .hbm, ⟨59, _⟩ => ⟨S8x1x64x64, .f32⟩
  | .hbm, ⟨60, _⟩ => ⟨S8x1x64x64, .f32⟩
  | .hbm, ⟨61, _⟩ => ⟨S8x2x64x64, .f32⟩
  | .hbm, ⟨62, _⟩ => ⟨S16x64x64, .f32⟩
  | .hbm, ⟨63, _⟩ => ⟨S8x2x64x2x64, .f32⟩
  | .hbm, ⟨64, _⟩ => ⟨S8x1x64x1x64, .f32⟩
  | .hbm, ⟨65, _⟩ => ⟨S8x64x64, .f32⟩
  | .hbm, ⟨66, _⟩ => ⟨S8x1x64x1x64, .f32⟩
  | .hbm, ⟨67, _⟩ => ⟨S8x64x64, .f32⟩
  | .hbm, ⟨68, _⟩ => ⟨S8x1x64x64, .f32⟩
  | .hbm, ⟨69, _⟩ => ⟨S8x1x64x64, .f32⟩
  | .hbm, ⟨70, _⟩ => ⟨S8x2x64x64, .f32⟩
  | .hbm, ⟨71, _⟩ => ⟨S16x64x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S4x128, .f32⟩
  | .local _ .vmem, ⟨33, _⟩ => ⟨S4x128, .f32⟩
  | .local _ .vmem, ⟨34, _⟩ => ⟨S1x128, .f32⟩
  | .local _ .vmem, ⟨35, _⟩ => ⟨S1x128, .f32⟩
  | .local _ .vmem, ⟨36, _⟩ => ⟨S1x128x128, .bf16⟩
  | .local _ .vmem, ⟨37, _⟩ => ⟨S1x128x128, .bf16⟩
  | .local _ .vmem, ⟨38, _⟩ => ⟨S1x128, .f32⟩
  | .local _ .vmem, ⟨39, _⟩ => ⟨S1x128, .f32⟩
  | .local _ .vmem, ⟨40, _⟩ => ⟨S1x128x128, .bf16⟩
  | .local _ .vmem, ⟨41, _⟩ => ⟨S1x128x128, .bf16⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2048x128, .bf16⟩
  | .local _ .vmem, ⟨47, _⟩ => ⟨S2048x128, .bf16⟩
  | .local _ .vmem, ⟨48, _⟩ => ⟨S2048x128, .bf16⟩
  | .local _ .vmem, ⟨49, _⟩ => ⟨S2048x128, .bf16⟩
  | .local _ .vmem, ⟨50, _⟩ => ⟨S4x128, .f32⟩
  | .local _ .vmem, ⟨51, _⟩ => ⟨S4x128, .f32⟩
  | .local _ .vmem, ⟨52, _⟩ => ⟨S1x128, .f32⟩
  | .local _ .vmem, ⟨53, _⟩ => ⟨S1x128, .f32⟩
  | .local _ .vmem, ⟨54, _⟩ => ⟨S1x128x128, .f32⟩
  | .local _ .vmem, ⟨55, _⟩ => ⟨S1x128x128, .f32⟩
  | .local _ .vmem, ⟨56, _⟩ => ⟨S1x128, .f32⟩
  | .local _ .vmem, ⟨57, _⟩ => ⟨S1x128, .f32⟩
  | .local _ .vmem, ⟨58, _⟩ => ⟨S1x128x128, .f32⟩
  | .local _ .vmem, ⟨59, _⟩ => ⟨S1x128x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2048x128, .f32⟩
  | .local _ .vmem, ⟨65, _⟩ => ⟨S2048x128, .f32⟩
  | .local _ .vmem, ⟨66, _⟩ => ⟨S2048x128, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v33_3 : Ref sig .tc := ⟨.hbm, 48, rfl⟩
abbrev main_v33_4 : Ref sig .tc := ⟨.hbm, 49, rfl⟩
abbrev main_v33_5 : Ref sig .tc := ⟨.hbm, 50, rfl⟩
abbrev main_v33_6 : Ref sig .tc := ⟨.hbm, 51, rfl⟩
abbrev main_v33_7 : Ref sig .tc := ⟨.hbm, 52, rfl⟩
abbrev main_v33_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg8_1 : Ref sig .tc := ⟨.vmem, 41, rfl⟩
abbrev cc1_stg9_0 : Ref sig .tc := ⟨.vmem, 42, rfl⟩
abbrev cc1_stg9_1 : Ref sig .tc := ⟨.vmem, 43, rfl⟩
abbrev cc1_stg10_0 : Ref sig .tc := ⟨.vmem, 44, rfl⟩
abbrev cc1_stg10_1 : Ref sig .tc := ⟨.vmem, 45, rfl⟩
abbrev cc1_stg11_0 : Ref sig .tc := ⟨.vmem, 46, rfl⟩
abbrev cc1_stg11_1 : Ref sig .tc := ⟨.vmem, 47, rfl⟩
abbrev cc1_stg12_0 : Ref sig .tc := ⟨.vmem, 48, rfl⟩
abbrev cc1_stg12_1 : Ref sig .tc := ⟨.vmem, 49, rfl⟩
abbrev cc1_stg13_0 : Ref sig .tc := ⟨.vmem, 50, rfl⟩
abbrev cc1_stg13_1 : Ref sig .tc := ⟨.vmem, 51, rfl⟩
abbrev cc1_stg14_0 : Ref sig .tc := ⟨.vmem, 52, rfl⟩
abbrev cc1_stg14_1 : Ref sig .tc := ⟨.vmem, 53, rfl⟩
abbrev cc1_stg15_0 : Ref sig .tc := ⟨.vmem, 54, rfl⟩
abbrev cc1_stg15_1 : Ref sig .tc := ⟨.vmem, 55, rfl⟩
abbrev cc1_stg16_0 : Ref sig .tc := ⟨.vmem, 56, rfl⟩
abbrev cc1_stg16_1 : Ref sig .tc := ⟨.vmem, 57, rfl⟩
abbrev cc1_stg17_0 : Ref sig .tc := ⟨.vmem, 58, rfl⟩
abbrev cc1_stg17_1 : Ref sig .tc := ⟨.vmem, 59, rfl⟩
abbrev cc1_stg18_0 : Ref sig .tc := ⟨.vmem, 60, rfl⟩
abbrev cc1_stg18_1 : Ref sig .tc := ⟨.vmem, 61, rfl⟩
abbrev cc1_stg19_0 : Ref sig .tc := ⟨.vmem, 62, rfl⟩
abbrev cc1_stg19_1 : Ref sig .tc := ⟨.vmem, 63, rfl⟩
abbrev cc1_scratch0 : Ref sig .tc := ⟨.vmem, 64, rfl⟩
abbrev cc1_scratch1 : Ref sig .tc := ⟨.vmem, 65, rfl⟩
abbrev cc1_scratch2 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58
abbrev cc1_sem18_1 : DmaSem sig := 59
abbrev cc1_sem19_0 : DmaSem sig := 60
abbrev cc1_sem19_1 : DmaSem sig := 61

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2048x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x128x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x128x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]
-- ==== KernelLruIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceLruIdeal.lean ====
abbrev S2048x4608 : Shape := ⟨2, ![2048, 4608]⟩
abbrev S2048x1024 : Shape := ⟨2, ![2048, 1024]⟩
abbrev S1x4x1024 : Shape := ⟨3, ![1, 4, 1024]⟩
abbrev S1x1024 : Shape := ⟨2, ![1, 1024]⟩
abbrev S1x16x64x64 : Shape := ⟨4, ![1, 16, 64, 64]⟩
abbrev S4x1024 : Shape := ⟨2, ![4, 1024]⟩
abbrev S1024 : Shape := ⟨1, ![1024]⟩
abbrev S16x64x64 : Shape := ⟨3, ![16, 64, 64]⟩
abbrev S_ : Shape := ⟨0, ![]⟩
abbrev S3x1024 : Shape := ⟨2, ![3, 1024]⟩
abbrev S2051x1024 : Shape := ⟨2, ![2051, 1024]⟩
abbrev S2048x16x64 : Shape := ⟨3, ![2048, 16, 64]⟩
abbrev S16x64x2048 : Shape := ⟨3, ![16, 64, 2048]⟩
abbrev S2048x2048x1 : Shape := ⟨3, ![2048, 2048, 1]⟩
abbrev S2048x1x1024 : Shape := ⟨3, ![2048, 1, 1024]⟩
abbrev S1x2048x1024 : Shape := ⟨3, ![1, 2048, 1024]⟩
abbrev S2048x2048x1024 : Shape := ⟨3, ![2048, 2048, 1024]⟩
abbrev S16x2048x64 : Shape := ⟨3, ![16, 2048, 64]⟩

abbrev nBuf : Space → Nat
  | .hbm => 382
  | .vmem => 0
  | .smem => 0
  | _ => 0

abbrev hbmTy0_0 (i : Nat) : BufTy := match i % 128 with
  | 0 => ⟨S2048x4608, .f32⟩
  | 1 => ⟨S2048x1024, .f32⟩
  | 2 => ⟨S1x4x1024, .f32⟩
  | 3 => ⟨S1x1024, .f32⟩
  | 4 => ⟨S1x16x64x64, .f32⟩
  | 5 => ⟨S1x1024, .f32⟩
  | 6 => ⟨S1x16x64x64, .f32⟩
  | 7 => ⟨S1x1024, .f32⟩
  | 8 => ⟨S1x1024, .f32⟩
  | 9 => ⟨S2048x1024, .f32⟩
  | 10 => ⟨S2048x1024, .f32⟩
  | 11 => ⟨S4x1024, .f32⟩
  | 12 => ⟨S1024, .f32⟩
  | 13 => ⟨S16x64x64, .f32⟩
  | 14 => ⟨S1024, .f32⟩
  | 15 => ⟨S16x64x64, .f32⟩
  | 16 => ⟨S1024, .f32⟩
  | 17 => ⟨S1024, .f32⟩
  | 18 => ⟨S_, .f32⟩
  | 19 => ⟨S3x1024, .f32⟩
  | 20 => ⟨S2051x1024, .f32⟩
  | 21 => ⟨S_, .f32⟩
  | 22 => ⟨S3x1024, .f32⟩
  | 23 => ⟨S2048x1024, .f32⟩
  | 24 => ⟨S1x1024, .f32⟩
  | 25 => ⟨S1024, .f32⟩
  | 26 => ⟨S1x1024, .f32⟩
  | 27 => ⟨S2048x1024, .f32⟩
  | 28 => ⟨S2048x1024, .f32⟩
  | 29 => ⟨S1x1024, .f32⟩
  | 30 => ⟨S2048x1024, .f32⟩
  | 31 => ⟨S2048x1024, .f32⟩
  | 32 => ⟨S2048x1024, .f32⟩
  | 33 => ⟨S1x1024, .f32⟩
  | 34 => ⟨S1024, .f32⟩
  | 35 => ⟨S1x1024, .f32⟩
  | 36 => ⟨S2048x1024, .f32⟩
  | 37 => ⟨S2048x1024, .f32⟩
  | 38 => ⟨S2048x1024, .f32⟩
  | 39 => ⟨S2048x1024, .f32⟩
  | 40 => ⟨S1x1024, .f32⟩
  | 41 => ⟨S1024, .f32⟩
  | 42 => ⟨S1x1024, .f32⟩
  | 43 => ⟨S2048x1024, .f32⟩
  | 44 => ⟨S2048x1024, .f32⟩
  | 45 => ⟨S2048x1024, .f32⟩
  | 46 => ⟨S2048x1024, .f32⟩
  | 47 => ⟨S1x1024, .f32⟩
  | 48 => ⟨S1024, .f32⟩
  | 49 => ⟨S1x1024, .f32⟩
  | 50 => ⟨S2048x1024, .f32⟩
  | 51 => ⟨S2048x1024, .f32⟩
  | 52 => ⟨S2048x1024, .f32⟩
  | 53 => ⟨S2048x16x64, .f32⟩
  | 54 => ⟨S16x64x2048, .f32⟩
  | 55 => ⟨S2048x16x64, .f32⟩
  | 56 => ⟨S2048x1024, .f32⟩
  | 57 => ⟨S1x1024, .f32⟩
  | 58 => ⟨S2048x1024, .f32⟩
  | 59 => ⟨S2048x1024, .f32⟩
  | 60 => ⟨S16x64x2048, .f32⟩
  | 61 => ⟨S2048x16x64, .f32⟩
  | 62 => ⟨S2048x1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S2048x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S1024, .f32⟩
  | 99 => ⟨S1024, .i1⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S_, .f32⟩
  | 109 => ⟨S1024, .f32⟩
  | 110 => ⟨S1024, .i1⟩
  | 111 => ⟨S_, .f32⟩
  | 112 => ⟨S1024, .f32⟩
  | 113 => ⟨S1024, .f32⟩
  | 114 => ⟨S_, .f32⟩
  | 115 => ⟨S1024, .f32⟩
  | 116 => ⟨S1024, .i1⟩
  | 117 => ⟨S_, .f32⟩
  | 118 => ⟨S1024, .f32⟩
  | 119 => ⟨S1024, .f32⟩
  | 120 => ⟨S1024, .f32⟩
  | 121 => ⟨S1024, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S2048x4608, .f32⟩

abbrev hbmTy0_1 (i : Nat) : BufTy := match i % 128 with
  | 0 => ⟨S_, .f32⟩
  | 1 => ⟨S1024, .f32⟩
  | 2 => ⟨S1024, .i1⟩
  | 3 => ⟨S_, .f32⟩
  | 4 => ⟨S1024, .f32⟩
  | 5 => ⟨S1024, .f32⟩
  | 6 => ⟨S1024, .f32⟩
  | 7 => ⟨S1024, .f32⟩
  | 8 => ⟨S1024, .f32⟩
  | 9 => ⟨S_, .f32⟩
  | 10 => ⟨S1024, .f32⟩
  | 11 => ⟨S1024, .f32⟩
  | 12 => ⟨S1x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S2048x1024, .f32⟩
  | 26 => ⟨S2048x1024, .f32⟩
  | 27 => ⟨S_, .f32⟩
  | 28 => ⟨S_, .f32⟩
  | 29 => ⟨S2048x1024, .f32⟩
  | 30 => ⟨S2048x2048x1, .i32⟩
  | 31 => ⟨S2048x2048x1, .i32⟩
  | 32 => ⟨S2048x2048x1, .i1⟩
  | 33 => ⟨S2048x1x1024, .f32⟩
  | 34 => ⟨S1x2048x1024, .f32⟩
  | 35 => ⟨S2048x2048x1024, .f32⟩
  | 36 => ⟨S2048x2048x1024, .f32⟩
  | 37 => ⟨S2048x2048x1024, .f32⟩
  | 38 => ⟨S2048x2048x1024, .f32⟩
  | 39 => ⟨S_, .f32⟩
  | 40 => ⟨S_, .f32⟩
  | 41 => ⟨S2048x2048x1024, .i1⟩
  | 42 => ⟨S2048x2048x1024, .f32⟩
  | 43 => ⟨S2048x2048x1024, .f32⟩
  | 44 => ⟨S_, .f32⟩
  | 45 => ⟨S2048x2048x1024, .f32⟩
  | 46 => ⟨S1x2048x1024, .f32⟩
  | 47 => ⟨S2048x2048x1024, .f32⟩
  | 48 => ⟨S2048x2048x1024, .f32⟩
  | 49 => ⟨S_, .f32⟩
  | 50 => ⟨S2048x1024, .f32⟩
  | 51 => ⟨S2048x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S2048x1024, .f32⟩
  | 82 => ⟨S2048x1024, .f32⟩
  | 83 => ⟨S2048x1024, .f32⟩
  | 84 => ⟨S2048x1024, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S2048x1024, .f32⟩
  | 95 => ⟨S_, .f32⟩
  | 96 => ⟨S2048x1024, .f32⟩
  | 97 => ⟨S2048x1024, .f32⟩
  | 98 => ⟨S_, .f32⟩
  | 99 => ⟨S2048x1024, .f32⟩
  | 100 => ⟨S2048x1024, .f32⟩
  | 101 => ⟨S2048x1024, .f32⟩
  | 102 => ⟨S2048x1024, .f32⟩
  | 103 => ⟨S2048x2048x1024, .f32⟩
  | 104 => ⟨S2048x2048x1024, .f32⟩
  | 105 => ⟨S_, .f32⟩
  | 106 => ⟨S2048x1024, .f32⟩
  | 107 => ⟨S1x2048x1024, .f32⟩
  | 108 => ⟨S2048x2048x1024, .f32⟩
  | 109 => ⟨S2048x2048x1024, .f32⟩
  | 110 => ⟨S_, .f32⟩
  | 111 => ⟨S2048x1024, .f32⟩
  | 112 => ⟨S_, .f32⟩
  | 113 => ⟨S2048x2048x1024, .f32⟩
  | 114 => ⟨S2048x2048x1024, .f32⟩
  | 115 => ⟨S2048x2048x1024, .f32⟩
  | 116 => ⟨S_, .f32⟩
  | 117 => ⟨S2048x1024, .f32⟩
  | 118 => ⟨S2048x1x1024, .f32⟩
  | 119 => ⟨S2048x2048x1024, .f32⟩
  | 120 => ⟨S_, .f32⟩
  | 121 => ⟨S2048x1024, .f32⟩
  | 122 => ⟨S1x2048x1024, .f32⟩
  | 123 => ⟨S_, .f32⟩
  | 124 => ⟨S2048x1024, .f32⟩
  | 125 => ⟨S_, .f32⟩
  | 126 => ⟨S2048x1024, .f32⟩
  | 127 => ⟨S2048x1024, .f32⟩
  | _ => ⟨S2048x4608, .f32⟩

abbrev hbmTy0_2 (i : Nat) : BufTy := match i % 128 with
  | 0 => ⟨S_, .f32⟩
  | 1 => ⟨S_, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S1024, .f32⟩
  | 17 => ⟨S1x1024, .f32⟩
  | 18 => ⟨S2048x1024, .f32⟩
  | 19 => ⟨S2048x1024, .f32⟩
  | 20 => ⟨S_, .f32⟩
  | 21 => ⟨S1024, .f32⟩
  | 22 => ⟨S1024, .f32⟩
  | 23 => ⟨S1024, .f32⟩
  | 24 => ⟨S_, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S1024, .f32⟩
  | 31 => ⟨S1x1024, .f32⟩
  | 32 => ⟨S_, .f32⟩
  | 33 => ⟨S1024, .f32⟩
  | 34 => ⟨S2048x16x64, .f32⟩
  | 35 => ⟨S16x64x2048, .f32⟩
  | 36 => ⟨S16x2048x64, .f32⟩
  | 37 => ⟨S2048x16x64, .f32⟩
  | 38 => ⟨S16x64x64, .f32⟩
  | 39 => ⟨S16x64x64, .f32⟩
  | 40 => ⟨S_, .f32⟩
  | 41 => ⟨S1024, .f32⟩
  | 42 => ⟨S1x1024, .f32⟩
  | 43 => ⟨S_, .f32⟩
  | 44 => ⟨S1024, .f32⟩
  | 45 => ⟨S2048x16x64, .f32⟩
  | 46 => ⟨S16x64x2048, .f32⟩
  | 47 => ⟨S16x2048x64, .f32⟩
  | 48 => ⟨S2048x16x64, .f32⟩
  | 49 => ⟨S2048x16x64, .f32⟩
  | 50 => ⟨S16x64x64, .f32⟩
  | 51 => ⟨S16x64x64, .f32⟩
  | 52 => ⟨S2048x1024, .f32⟩
  | 53 => ⟨S2048x1024, .f32⟩
  | 54 => ⟨S2048x1024, .f32⟩
  | 55 => ⟨S_, .f32⟩
  | 56 => ⟨S1024, .f32⟩
  | 57 => ⟨S1x1024, .f32⟩
  | 58 => ⟨S2048x1024, .f32⟩
  | 59 => ⟨S2048x1024, .f32⟩
  | 60 => ⟨S_, .f32⟩
  | 61 => ⟨S1024, .f32⟩
  | 62 => ⟨S1x1024, .f32⟩
  | 63 => ⟨S_, .f32⟩
  | 64 => ⟨S4x1024, .f32⟩
  | 65 => ⟨S_, .f32⟩
  | 66 => ⟨S2051x1024, .f32⟩
  | 67 => ⟨S2048x1024, .f32⟩
  | 68 => ⟨S_, .f32⟩
  | 69 => ⟨S1024, .f32⟩
  | 70 => ⟨S1x1024, .f32⟩
  | 71 => ⟨S2048x1024, .f32⟩
  | 72 => ⟨S2048x1024, .f32⟩
  | 73 => ⟨S_, .f32⟩
  | 74 => ⟨S1024, .f32⟩
  | 75 => ⟨S1x1024, .f32⟩
  | 76 => ⟨S_, .f32⟩
  | 77 => ⟨S4x1024, .f32⟩
  | 78 => ⟨S4x1024, .f32⟩
  | 79 => ⟨S_, .f32⟩
  | 80 => ⟨S2051x1024, .f32⟩
  | 81 => ⟨S2051x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S_, .f32⟩
  | 89 => ⟨S1024, .f32⟩
  | 90 => ⟨S1x1024, .f32⟩
  | 91 => ⟨S_, .f32⟩
  | 92 => ⟨S4x1024, .f32⟩
  | 93 => ⟨S4x1024, .f32⟩
  | 94 => ⟨S_, .f32⟩
  | 95 => ⟨S2051x1024, .f32⟩
  | 96 => ⟨S2051x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S2048x1024, .f32⟩
  | 103 => ⟨S_, .f32⟩
  | 104 => ⟨S1024, .f32⟩
  | 105 => ⟨S1x1024, .f32⟩
  | 106 => ⟨S2048x1024, .f32⟩
  | 107 => ⟨S2048x1024, .f32⟩
  | 108 => ⟨S_, .f32⟩
  | 109 => ⟨S1024, .f32⟩
  | 110 => ⟨S1x1024, .f32⟩
  | 111 => ⟨S_, .f32⟩
  | 112 => ⟨S4x1024, .f32⟩
  | 113 => ⟨S4x1024, .f32⟩
  | 114 => ⟨S_, .f32⟩
  | 115 => ⟨S2051x1024, .f32⟩
  | 116 => ⟨S2051x1024, .f32⟩
  | 117 => ⟨S3x1024, .f32⟩
  | 118 => ⟨S2048x1024, .f32⟩
  | 119 => ⟨S2048x1024, .bf16⟩
  | 120 => ⟨S2048x1024, .bf16⟩
  | 121 => ⟨S2048x1024, .bf16⟩
  | 122 => ⟨S1x1024, .f32⟩
  | 123 => ⟨S1x1024, .f32⟩
  | 124 => ⟨S1x1024, .f32⟩
  | 125 => ⟨S1x1024, .f32⟩
  | _ => ⟨S2048x4608, .f32⟩

abbrev hbmTy (i : Nat) : BufTy := match i / 128 with
  | 0 => hbmTy0_0 i
  | 1 => hbmTy0_1 i
  | 2 => hbmTy0_2 i
  | _ => ⟨S2048x4608, .f32⟩

abbrev bufTy : (tb : Table) → Fin (tcTables nBuf tb) → BufTy
  | .hbm, ⟨i, _⟩ => hbmTy i
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_1 : Ref sig .tc := ⟨.hbm, 68, rfl⟩
abbrev main_v57 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_v8 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_v76_0 : Ref sig .tc := ⟨.hbm, 107, rfl⟩
abbrev main_call0_cst_0 : Ref sig .tc := ⟨.hbm, 108, rfl⟩
abbrev main_call0_v13 : Ref sig .tc := ⟨.hbm, 109, rfl⟩
abbrev main_call0_v14 : Ref sig .tc := ⟨.hbm, 110, rfl⟩
abbrev main_call0_cst_1 : Ref sig .tc := ⟨.hbm, 111, rfl⟩
abbrev main_call0_v15 : Ref sig .tc := ⟨.hbm, 112, rfl⟩
abbrev main_call0_v16 : Ref sig .tc := ⟨.hbm, 113, rfl⟩
abbrev main_call0_cst_2 : Ref sig .tc := ⟨.hbm, 114, rfl⟩
abbrev main_call0_v17 : Ref sig .tc := ⟨.hbm, 115, rfl⟩
abbrev main_call0_v18 : Ref sig .tc := ⟨.hbm, 116, rfl⟩
abbrev main_call0_cst_3 : Ref sig .tc := ⟨.hbm, 117, rfl⟩
abbrev main_call0_v19 : Ref sig .tc := ⟨.hbm, 118, rfl⟩
abbrev main_call0_v20 : Ref sig .tc := ⟨.hbm, 119, rfl⟩
abbrev main_call0_v21 : Ref sig .tc := ⟨.hbm, 120, rfl⟩
abbrev main_v76_1 : Ref sig .tc := ⟨.hbm, 121, rfl⟩
abbrev main_call0_cst_4 : Ref sig .tc := ⟨.hbm, 122, rfl⟩
abbrev main_call0_cst_5 : Ref sig .tc := ⟨.hbm, 123, rfl⟩
abbrev main_call0_v23 : Ref sig .tc := ⟨.hbm, 124, rfl⟩
abbrev main_call0_cst_6 : Ref sig .tc := ⟨.hbm, 125, rfl⟩
abbrev main_call0_cst_7 : Ref sig .tc := ⟨.hbm, 126, rfl⟩
abbrev main_call0_v24 : Ref sig .tc := ⟨.hbm, 127, rfl⟩
abbrev main_call0_cst_8 : Ref sig .tc := ⟨.hbm, 128, rfl⟩
abbrev main_call0_v25 : Ref sig .tc := ⟨.hbm, 129, rfl⟩
abbrev main_call0_v26 : Ref sig .tc := ⟨.hbm, 130, rfl⟩
abbrev main_call0_cst_9 : Ref sig .tc := ⟨.hbm, 131, rfl⟩
abbrev main_call0_v27 : Ref sig .tc := ⟨.hbm, 132, rfl⟩
abbrev main_call0_v28 : Ref sig .tc := ⟨.hbm, 133, rfl⟩
abbrev main_call0_v29 : Ref sig .tc := ⟨.hbm, 134, rfl⟩
abbrev main_call0_v30 : Ref sig .tc := ⟨.hbm, 135, rfl⟩
abbrev main_call0_v31 : Ref sig .tc := ⟨.hbm, 136, rfl⟩
abbrev main_call0_cst_10 : Ref sig .tc := ⟨.hbm, 137, rfl⟩
abbrev main_call0_v32 : Ref sig .tc := ⟨.hbm, 138, rfl⟩
abbrev main_v76_2 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_8 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_cst_9 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_call1_call0_cst : Ref sig .tc := ⟨.hbm, 155, rfl⟩
abbrev main_call1_call0_v0 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_10 : Ref sig .tc := ⟨.hbm, 167, rfl⟩
abbrev main_call2_v0 : Ref sig .tc := ⟨.hbm, 168, rfl⟩
abbrev main_v100_1 : Ref sig .tc := ⟨.hbm, 169, rfl⟩
abbrev main_call2_v2 : Ref sig .tc := ⟨.hbm, 170, rfl⟩
abbrev main_v100_0 : Ref sig .tc := ⟨.hbm, 171, rfl⟩
abbrev main_call2_cst : Ref sig .tc := ⟨.hbm, 172, rfl⟩
abbrev main_v100_2 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_cst_11 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_12 : Ref sig .tc := ⟨.hbm, 182, rfl⟩
abbrev main_v108 : Ref sig .tc := ⟨.hbm, 183, rfl⟩
abbrev main_v109 : Ref sig .tc := ⟨.hbm, 184, rfl⟩
abbrev main_cst_13 : Ref sig .tc := ⟨.hbm, 185, rfl⟩
abbrev main_v110 : Ref sig .tc := ⟨.hbm, 186, rfl⟩
abbrev main_v111 : Ref sig .tc := ⟨.hbm, 187, rfl⟩
abbrev main_cst_14 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_15 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_cst_16 : Ref sig .tc := ⟨.hbm, 196, rfl⟩
abbrev main_v118 : Ref sig .tc := ⟨.hbm, 197, rfl⟩
abbrev main_v119 : Ref sig .tc := ⟨.hbm, 198, rfl⟩
abbrev main_cst_17 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_cst_18 : Ref sig .tc := ⟨.hbm, 203, rfl⟩
abbrev main_v123 : Ref sig .tc := ⟨.hbm, 204, rfl⟩
abbrev main_v124 : Ref sig .tc := ⟨.hbm, 205, rfl⟩
abbrev main_cst_19 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_20 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_21 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_22 : Ref sig .tc := ⟨.hbm, 223, rfl⟩
abbrev main_v139 : Ref sig .tc := ⟨.hbm, 224, rfl⟩
abbrev main_v140 : Ref sig .tc := ⟨.hbm, 225, rfl⟩
abbrev main_cst_23 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_cst_24 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_25 : Ref sig .tc := ⟨.hbm, 238, rfl⟩
abbrev main_v151 : Ref sig .tc := ⟨.hbm, 239, rfl⟩
abbrev main_call3_cst : Ref sig .tc := ⟨.hbm, 240, rfl⟩
abbrev main_call3_v0 : Ref sig .tc := ⟨.hbm, 241, rfl⟩
abbrev main_v152 : Ref sig .tc := ⟨.hbm, 242, rfl⟩
abbrev main_v153 : Ref sig .tc := ⟨.hbm, 243, rfl⟩
abbrev main_cst_26 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_cst_27 : Ref sig .tc := ⟨.hbm, 248, rfl⟩
abbrev main_v157 : Ref sig .tc := ⟨.hbm, 249, rfl⟩
abbrev main_v158 : Ref sig .tc := ⟨.hbm, 250, rfl⟩
abbrev main_cst_28 : Ref sig .tc := ⟨.hbm, 251, rfl⟩
abbrev main_v159 : Ref sig .tc := ⟨.hbm, 252, rfl⟩
abbrev main_cst_29 : Ref sig .tc := ⟨.hbm, 253, rfl⟩
abbrev main_v160 : Ref sig .tc := ⟨.hbm, 254, rfl⟩
abbrev main_v161 : Ref sig .tc := ⟨.hbm, 255, rfl⟩
abbrev main_call4_call0_cst : Ref sig .tc := ⟨.hbm, 256, rfl⟩
abbrev main_call4_call0_v0 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_cst_30 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_cst_31 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_32 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_cst_33 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_cst_34 : Ref sig .tc := ⟨.hbm, 285, rfl⟩
abbrev main_v185 : Ref sig .tc := ⟨.hbm, 286, rfl⟩
abbrev main_v186 : Ref sig .tc := ⟨.hbm, 287, rfl⟩
abbrev main_cst_35 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_cst_36 : Ref sig .tc := ⟨.hbm, 296, rfl⟩
abbrev main_v194 : Ref sig .tc := ⟨.hbm, 297, rfl⟩
abbrev main_v195 : Ref sig .tc := ⟨.hbm, 298, rfl⟩
abbrev main_cst_37 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_cst_38 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_cst_39 : Ref sig .tc := ⟨.hbm, 316, rfl⟩
abbrev main_v211 : Ref sig .tc := ⟨.hbm, 317, rfl⟩
abbrev main_v212 : Ref sig .tc := ⟨.hbm, 318, rfl⟩
abbrev main_cst_40 : Ref sig .tc := ⟨.hbm, 319, rfl⟩
abbrev main_v213 : Ref sig .tc := ⟨.hbm, 320, rfl⟩
abbrev main_cst_41 : Ref sig .tc := ⟨.hbm, 321, rfl⟩
abbrev main_v214 : Ref sig .tc := ⟨.hbm, 322, rfl⟩
abbrev main_v215 : Ref sig .tc := ⟨.hbm, 323, rfl⟩
abbrev main_cst_42 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_cst_43 : Ref sig .tc := ⟨.hbm, 329, rfl⟩
abbrev main_v220 : Ref sig .tc := ⟨.hbm, 330, rfl⟩
abbrev main_v221 : Ref sig .tc := ⟨.hbm, 331, rfl⟩
abbrev main_cst_44 : Ref sig .tc := ⟨.hbm, 332, rfl⟩
abbrev main_v222 : Ref sig .tc := ⟨.hbm, 333, rfl⟩
abbrev main_v223 : Ref sig .tc := ⟨.hbm, 334, rfl⟩
abbrev main_cst_45 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_cst_46 : Ref sig .tc := ⟨.hbm, 339, rfl⟩
abbrev main_v227 : Ref sig .tc := ⟨.hbm, 340, rfl⟩
abbrev main_v228 : Ref sig .tc := ⟨.hbm, 341, rfl⟩
abbrev main_v229 : Ref sig .tc := ⟨.hbm, 342, rfl⟩
abbrev main_v230 : Ref sig .tc := ⟨.hbm, 343, rfl⟩
abbrev main_cst_47 : Ref sig .tc := ⟨.hbm, 344, rfl⟩
abbrev main_v231 : Ref sig .tc := ⟨.hbm, 345, rfl⟩
abbrev main_v232 : Ref sig .tc := ⟨.hbm, 346, rfl⟩
abbrev main_cst_48 : Ref sig .tc := ⟨.hbm, 347, rfl⟩
abbrev main_v233 : Ref sig .tc := ⟨.hbm, 348, rfl⟩
abbrev main_v234 : Ref sig .tc := ⟨.hbm, 349, rfl⟩
abbrev main_cst_49 : Ref sig .tc := ⟨.hbm, 350, rfl⟩
abbrev main_v235 : Ref sig .tc := ⟨.hbm, 351, rfl⟩
abbrev main_v236 : Ref sig .tc := ⟨.hbm, 352, rfl⟩
abbrev main_cst_50 : Ref sig .tc := ⟨.hbm, 353, rfl⟩
abbrev main_v237 : Ref sig .tc := ⟨.hbm, 354, rfl⟩
abbrev main_v238 : Ref sig .tc := ⟨.hbm, 355, rfl⟩
abbrev main_cst_51 : Ref sig .tc := ⟨.hbm, 356, rfl⟩
abbrev main_v239 : Ref sig .tc := ⟨.hbm, 357, rfl⟩
abbrev main_v240 : Ref sig .tc := ⟨.hbm, 358, rfl⟩
abbrev main_cst_52 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_cst_53 : Ref sig .tc := ⟨.hbm, 364, rfl⟩
abbrev main_v245 : Ref sig .tc := ⟨.hbm, 365, rfl⟩
abbrev main_v246 : Ref sig .tc := ⟨.hbm, 366, rfl⟩
abbrev main_cst_54 : Ref sig .tc := ⟨.hbm, 367, rfl⟩
abbrev main_v247 : Ref sig .tc := ⟨.hbm, 368, rfl⟩
abbrev main_v248 : Ref sig .tc := ⟨.hbm, 369, rfl⟩
abbrev main_cst_55 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_v259 : Ref sig .tc := ⟨.hbm, 381, rfl⟩

abbrev nD : Nat := 1
abbrev τ : Topo := Topo.v7x

variable {F : FTy → Type} [FloatOps F]
-- ==== KernelLoss.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S2048x4096 : Shape := ⟨2, ![2048, 4096]⟩
abbrev S1x1 : Shape := ⟨2, ![1, 1]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S4096x1024, .f32⟩
  | .hbm, ⟨11, _⟩ => ⟨S4096x1024, .bf16⟩
  | .hbm, ⟨12, _⟩ => ⟨S2048x4096, .bf16⟩
  | .hbm, ⟨13, _⟩ => ⟨S1x1, .f32⟩
  | .hbm, ⟨14, _⟩ => ⟨S2048x1024, .f32⟩
  | .hbm, ⟨15, _⟩ => ⟨S2048x1024, .bf16⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S1x1, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v85 : BitVec 32 := Scalar.extui v0
  let c0_i32_46 : BitVec 32 := 0#32
  let v86 : BitVec 1 := Scalar.cmpi .ne v85 c0_i32_46
  v86

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v87 : BitVec 1 := Scalar.xori v0 v_true
  let v88 : BitVec 32 := Scalar.extui v87
  let c0_i32_47 : BitVec 32 := 0#32
  let v89 : BitVec 1 := Scalar.cmpi .ne v88 c0_i32_47
  v89

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v98 : BitVec 32 := Scalar.extui v0
  let c0_i32_52 : BitVec 32 := 0#32
  let v99 : BitVec 1 := Scalar.cmpi .ne v98 c0_i32_52
  v99

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_53 : BitVec 1 := 1#1
  let v100 : BitVec 1 := Scalar.xori v0 true_53
  let v101 : BitVec 32 := Scalar.extui v100
  let c0_i32_54 : BitVec 32 := 0#32
  let v102 : BitVec 1 := Scalar.cmpi .ne v101 c0_i32_54
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLossIdeal.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S4096x1024 : Shape := ⟨2, ![4096, 1024]⟩
abbrev S1024 : Shape := ⟨1, ![1024]⟩
abbrev S2048 : Shape := ⟨1, ![2048]⟩
abbrev S2048x1 : Shape := ⟨2, ![2048, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S2048x1024, .f32⟩
  | .hbm, ⟨7, _⟩ => ⟨S1024x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S4096x1024, .f32⟩
  | .hbm, ⟨14, _⟩ => ⟨S2048x1024, .f32⟩
  | .hbm, ⟨15, _⟩ => ⟨S1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S2048x1024, .f32⟩
  | .hbm, ⟨73, _⟩ => ⟨S2048x1024, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x4096, .bf16⟩
  | .hbm, ⟨86, _⟩ => ⟨S1x1, .f32⟩
  | .hbm, ⟨87, _⟩ => ⟨S2048x1024, .bf16⟩
  | .hbm, ⟨88, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== KernelMlpx.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S2048x4096 : Shape := ⟨2, ![2048, 4096]⟩
abbrev S_ : Shape := ⟨0, ![]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S512x1024 : Shape := ⟨2, ![512, 1024]⟩
abbrev S512x4096 : Shape := ⟨2, ![512, 4096]⟩
abbrev S1024x1024 : Shape := ⟨2, ![1024, 1024]⟩
abbrev S1x1024x1024 : Shape := ⟨3, ![1, 1024, 1024]⟩

abbrev nBuf : Space → Nat
  | .hbm => 19
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x4096, .f32⟩
  | .hbm, ⟨3, _⟩ => ⟨S1x4096x1024, .f32⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .bf16⟩
  | .hbm, ⟨11, _⟩ => ⟨S1024x4096, .f32⟩
  | .hbm, ⟨12, _⟩ => ⟨S1024x4096, .bf16⟩
  | .hbm, ⟨13, _⟩ => ⟨S1024x4x1024, .bf16⟩
  | .hbm, ⟨14, _⟩ => ⟨S4x1024x1024, .bf16⟩
  | .hbm, ⟨15, _⟩ => ⟨S4096x1024, .f32⟩
  | .hbm, ⟨16, _⟩ => ⟨S4096x1024, .bf16⟩
  | .hbm, ⟨17, _⟩ => ⟨S2048x1024, .f32⟩
  | .hbm, ⟨18, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMlpxIdeal.lean ====
abbrev S2048x1024 : Shape := ⟨2, ![2048, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S2048x4096 : Shape := ⟨2, ![2048, 4096]⟩
abbrev S_ : Shape := ⟨0, ![]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x4096, .f32⟩
  | .hbm, ⟨3, _⟩ => ⟨S1x4096x1024, .f32⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .i1⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S4096x1024, .f32⟩
  | .hbm, ⟨20, _⟩ => ⟨S2048x1024, .f32⟩
  | .hbm, ⟨21, _⟩ => ⟨S2048x1024, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelMerge.lean ====
abbrev S2048x1024 : Shape := ⟨2, ![2048, 1024]⟩
abbrev S2048x512 : Shape := ⟨2, ![2048, 512]⟩
abbrev S2048x4608 : Shape := ⟨2, ![2048, 4608]⟩
abbrev S1x2048 : Shape := ⟨2, ![1, 2048]⟩
abbrev S1x1024 : Shape := ⟨2, ![1, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S512x4x256 : Shape := ⟨3, ![512, 4, 256]⟩
abbrev S4x512x256 : Shape := ⟨3, ![4, 512, 256]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 72
  | .vmem => 43
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x512, .bf16⟩
  | .hbm, ⟨3, _⟩ => ⟨S2048x4608, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x512x1024, .f32⟩
  | .hbm, ⟨9, _⟩ => ⟨S1x1024x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1024x1024, .f32⟩
  | .hbm, ⟨14, _⟩ => ⟨S2048x1024, .f32⟩
  | .hbm, ⟨15, _⟩ => ⟨S2048x512, .f32⟩
  | .hbm, ⟨16, _⟩ => ⟨S512x1024, .f32⟩
  | .hbm, ⟨17, _⟩ => ⟨S2048x1024, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1024x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S1024x1024, .f32⟩
  | .hbm, ⟨53, _⟩ => ⟨S1024x1024, .bf16⟩
  | .hbm, ⟨54, _⟩ => ⟨S1024x1024, .f32⟩
  | .hbm, ⟨55, _⟩ => ⟨S1024x1024, .bf16⟩
  | .hbm, ⟨56, _⟩ => ⟨S512x1024, .f32⟩
  | .hbm, ⟨57, _⟩ => ⟨S512x1024, .bf16⟩
  | .hbm, ⟨58, _⟩ => ⟨S512x4x256, .bf16⟩
  | .hbm, ⟨59, _⟩ => ⟨S4x512x256, .bf16⟩
  | .hbm, ⟨60, _⟩ => ⟨S2048x1024, .bf16⟩
  | .hbm, ⟨61, _⟩ => ⟨S2048x1024, .bf16⟩
  | .hbm, ⟨62, _⟩ => ⟨S2048x1024, .f32⟩
  | .hbm, ⟨63, _⟩ => ⟨S2048x2048, .bf16⟩
  | .hbm, ⟨64, _⟩ => ⟨S2048x1024, .f32⟩
  | .hbm, ⟨65, _⟩ => ⟨S2048x512, .f32⟩
  | .hbm, ⟨66, _⟩ => ⟨S2048x1024, .bf16⟩
  | .hbm, ⟨67, _⟩ => ⟨S2048x1024, .bf16⟩
  | .hbm, ⟨68, _⟩ => ⟨S2048x1024, .bf16⟩
  | .hbm, ⟨69, _⟩ => ⟨S1x1024, .f32⟩
  | .hbm, ⟨70, _⟩ => ⟨S1x1024, .f32⟩
  | .hbm, ⟨71, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x2048, .f32⟩
  | .local _ .vmem, ⟨21, _⟩ => ⟨S1x1024, .f32⟩
  | .local _ .vmem, ⟨22, _⟩ => ⟨S1x1024, .f32⟩
  | .local _ .vmem, ⟨23, _⟩ => ⟨S1024x1024, .bf16⟩
  | .local _ .vmem, ⟨24, _⟩ => ⟨S4x512x256, .bf16⟩
  | .local _ .vmem, ⟨25, _⟩ => ⟨S1024x1024, .bf16⟩
  | .local _ .vmem, ⟨26, _⟩ => ⟨S256x1024, .f32⟩
  | .local _ .vmem, ⟨27, _⟩ => ⟨S256x1024, .f32⟩
  | .local _ .vmem, ⟨28, _⟩ => ⟨S256x2048, .bf16⟩
  | .local _ .vmem, ⟨29, _⟩ => ⟨S256x2048, .bf16⟩
  | .local _ .vmem, ⟨30, _⟩ => ⟨S256x1024, .f32⟩
  | .local _ .vmem, ⟨31, _⟩ => ⟨S256x1024, .f32⟩
  | .local _ .vmem, ⟨32, _⟩ => ⟨S256x512, .f32⟩
  | .local _ .vmem, ⟨33, _⟩ => ⟨S256x512, .f32⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S1x1024, .f32⟩
  | .local _ .vmem, ⟨41, _⟩ => ⟨S1x1024, .f32⟩
  | .local _ .vmem, ⟨42, _⟩ => ⟨S1x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_v45_2 : Ref sig .tc := ⟨.hbm, 64, rfl⟩
abbrev main_v45_3 : Ref sig .tc := ⟨.hbm, 65, rfl⟩
abbrev main_v45_4 : Ref sig .tc := ⟨.hbm, 66, rfl⟩
abbrev main_v45_5 : Ref sig .tc := ⟨.hbm, 67, rfl⟩
abbrev main_v45_6 : Ref sig .tc := ⟨.hbm, 68, rfl⟩
abbrev main_v45_7 : Ref sig .tc := ⟨.hbm, 69, rfl⟩
abbrev main_v45_8 : Ref sig .tc := ⟨.hbm, 70, rfl⟩
abbrev main_v45_9 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem24_0 : DmaSem sig := 41
abbrev cc0_sem25_0 : DmaSem sig := 42

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v55 : BitVec 32 := Scalar.extui v0
  let c0_i32_22 : BitVec 32 := 0#32
  let v56 : BitVec 1 := Scalar.cmpi .ne v55 c0_i32_22
  v56

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_23 : BitVec 1 := 1#1
  let v57 : BitVec 1 := Scalar.xori v0 true_23
  let v58 : BitVec 32 := Scalar.extui v57
  let c0_i32_24 : BitVec 32 := 0#32
  let v59 : BitVec 1 := Scalar.cmpi .ne v58 c0_i32_24
  v59

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v35 : BitVec 32 := Scalar.extui v0
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v37 : BitVec 1 := Scalar.xori v0 v_true
  let v38 : BitVec 32 := Scalar.extui v37
  let c0_i32_15 : BitVec 32 := 0#32
  let v39 : BitVec 1 := Scalar.cmpi .ne v38 c0_i32_15
  v39

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v136 : BitVec 32 := Scalar.extui v0
  let c0_i32_61 : BitVec 32 := 0#32
  let v137 : BitVec 1 := Scalar.cmpi .ne v136 c0_i32_61
  v137

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_62 : BitVec 1 := 1#1
  let v138 : BitVec 1 := Scalar.xori v0 true_62
  let v139 : BitVec 32 := Scalar.extui v138
  let c0_i32_63 : BitVec 32 := 0#32
  let v140 : BitVec 1 := Scalar.cmpi .ne v139 c0_i32_63
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceMergeIdeal.lean ====
abbrev S2048x1024 : Shape := ⟨2, ![2048, 1024]⟩
abbrev S2048x512 : Shape := ⟨2, ![2048, 512]⟩
abbrev S2048x4608 : Shape := ⟨2, ![2048, 4608]⟩
abbrev S1x2048 : Shape := ⟨2, ![1, 2048]⟩
abbrev S1x1024 : Shape := ⟨2, ![1, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S2048x2048 : Shape := ⟨2, ![2048, 2048]⟩
abbrev S2048 : Shape := ⟨1, ![2048]⟩
abbrev S_ : Shape := ⟨0, ![]⟩
abbrev S1024 : Shape := ⟨1, ![1024]⟩
abbrev S2048x1 : Shape := ⟨2, ![2048, 1]⟩

abbrev nBuf : Space → Nat
  | .hbm => 158
  | .vmem => 0
  | .smem => 0
  | _ => 0

abbrev hbmTy0_0 (i : Nat) : BufTy := match i % 128 with
  | 0 => ⟨S2048x1024, .f32⟩
  | 1 => ⟨S2048x1024, .bf16⟩
  | 2 => ⟨S2048x512, .bf16⟩
  | 3 => ⟨S2048x4608, .f32⟩
  | 4 => ⟨S1x2048, .f32⟩
  | 5 => ⟨S1x1024, .f32⟩
  | 6 => ⟨S1x1024, .f32⟩
  | 7 => ⟨S1x1024x1024, .f32⟩
  | 8 => ⟨S1x512x1024, .f32⟩
  | 9 => ⟨S1x1024x1024, .f32⟩
  | 10 => ⟨S2048x1024, .f32⟩
  | 11 => ⟨S2048x1024, .f32⟩
  | 12 => ⟨S2048x1024, .f32⟩
  | 13 => ⟨S2048x512, .f32⟩
  | 14 => ⟨S1024x1024, .f32⟩
  | 15 => ⟨S2048x1024, .f32⟩
  | 16 => ⟨S512x1024, .f32⟩
  | 17 => ⟨S2048x1024, .f32⟩
  | 18 => ⟨S2048x2048, .f32⟩
  | 19 => ⟨S2048, .f32⟩
  | 20 => ⟨S1x2048, .f32⟩
  | 21 => ⟨S2048x2048, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S_, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S2048x2048, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S1024x1024, .f32⟩
  | 41 => ⟨S2048x1024, .f32⟩
  | 42 => ⟨S1024, .f32⟩
  | 43 => ⟨S1024, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x1024, .f32⟩
  | 60 => ⟨S2048x1024, .f32⟩
  | 61 => ⟨S1x1024, .f32⟩
  | 62 => ⟨S2048x1024, .f32⟩
  | 63 => ⟨S2048x1024, .f32⟩
  | 64 => ⟨S2048x1024, .f32⟩
  | 65 => ⟨S2048x1024, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S_, .f32⟩
  | 73 => ⟨S2048x1, .f32⟩
  | 74 => ⟨S2048x1, .f32⟩
  | 75 => ⟨S2048x1, .f32⟩
  | 76 => ⟨S2048x1, .f32⟩
  | 77 => ⟨S_, .f32⟩
  | 78 => ⟨S2048x1, .f32⟩
  | 79 => ⟨S2048x1, .f32⟩
  | 80 => ⟨S2048x1024, .f32⟩
  | 81 => ⟨S2048x1024, .f32⟩
  | 82 => ⟨S1x1024, .f32⟩
  | 83 => ⟨S2048x1024, .f32⟩
  | 84 => ⟨S2048x1024, .f32⟩
  | 85 => ⟨S2048x1024, .f32⟩
  | 86 => ⟨S_, .f32⟩
  | 87 => ⟨S1024, .f32⟩
  | 88 => ⟨S1x1024, .f32⟩
  | 89 => ⟨S2048x1024, .f32⟩
  | 90 => ⟨S2048x1024, .f32⟩
  | 91 => ⟨S_, .f32⟩
  | 92 => ⟨S1024, .f32⟩
  | 93 => ⟨S2048x1024, .f32⟩
  | 94 => ⟨S_, .f32⟩
  | 95 => ⟨S2048, .f32⟩
  | 96 => ⟨S2048x1, .f32⟩
  | 97 => ⟨S2048x1024, .f32⟩
  | 98 => ⟨S2048x1024, .f32⟩
  | 99 => ⟨S2048x1024, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S2048x1024, .f32⟩
  | 117 => ⟨S2048x1024, .f32⟩
  | 118 => ⟨S_, .f32⟩
  | 119 => ⟨S1024, .f32⟩
  | 120 => ⟨S2048x1024, .f32⟩
  | 121 => ⟨S_, .f32⟩
  | 122 => ⟨S2048, .f32⟩
  | 123 => ⟨S2048x1, .f32⟩
  | 124 => ⟨S2048x1024, .f32⟩
  | 125 => ⟨S2048x1024, .f32⟩
  | 126 => ⟨S2048x1, .f32⟩
  | 127 => ⟨S_, .f32⟩
  | _ => ⟨S2048x1024, .f32⟩

abbrev hbmTy0_1 (i : Nat) : BufTy := match i % 128 with
  | 0 => ⟨S2048x1, .f32⟩
  | 1 => ⟨S2048x1, .f32⟩
  | 2 => ⟨S_, .f32⟩
  | 3 => ⟨S2048, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x2048, .f32⟩
  | 15 => ⟨S2048x2048, .f32⟩
  | 16 => ⟨S_, .f32⟩
  | 17 => ⟨S2048, .f32⟩
  | 18 => ⟨S1x2048, .f32⟩
  | 19 => ⟨S_, .f32⟩
  | 20 => ⟨S2048, .f32⟩
  | 21 => ⟨S2048x512, .f32⟩
  | 22 => ⟨S2048x1024, .f32⟩
  | 23 => ⟨S2048x2048, .bf16⟩
  | 24 => ⟨S2048x1024, .bf16⟩
  | 25 => ⟨S2048x1024, .bf16⟩
  | 26 => ⟨S2048x1024, .bf16⟩
  | 27 => ⟨S1x1024, .f32⟩
  | 28 => ⟨S1x1024, .f32⟩
  | 29 => ⟨S1x2048, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_cst_19 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_v112 : Ref sig .tc := ⟨.hbm, 146, rfl⟩
abbrev main_cst_21 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩

abbrev nD : Nat := 1
abbrev τ : Topo := Topo.v7x

variable {F : FTy → Type} [FloatOps F]
-- ==== KernelFmerge.lean ====
abbrev S2048x1024 : Shape := ⟨2, ![2048, 1024]⟩
abbrev S2048x512 : Shape := ⟨2, ![2048, 512]⟩
abbrev S2048x4608 : Shape := ⟨2, ![2048, 4608]⟩
abbrev S1x2048 : Shape := ⟨2, ![1, 2048]⟩
abbrev S1x1024 : Shape := ⟨2, ![1, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S512x4x256 : Shape := ⟨3, ![512, 4, 256]⟩
abbrev S4x512x256 : Shape := ⟨3, ![4, 512, 256]⟩
abbrev S512x512 : Shape := ⟨2, ![512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x512, .bf16⟩
  | .hbm, ⟨3, _⟩ => ⟨S2048x4608, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x512x1024, .f32⟩
  | .hbm, ⟨9, _⟩ => ⟨S1x1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S512x1024, .f32⟩
  | .hbm, ⟨15, _⟩ => ⟨S512x1024, .bf16⟩
  | .hbm, ⟨16, _⟩ => ⟨S512x4x256, .bf16⟩
  | .hbm, ⟨17, _⟩ => ⟨S4x512x256, .bf16⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x2048, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S4x512x256, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceFmergeIdeal.lean ====
abbrev S2048x1024 : Shape := ⟨2, ![2048, 1024]⟩
abbrev S2048x512 : Shape := ⟨2, ![2048, 512]⟩
abbrev S2048x4608 : Shape := ⟨2, ![2048, 4608]⟩
abbrev S1x2048 : Shape := ⟨2, ![1, 2048]⟩
abbrev S1x1024 : Shape := ⟨2, ![1, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S2048x2048 : Shape := ⟨2, ![2048, 2048]⟩
abbrev S2048 : Shape := ⟨1, ![2048]⟩
abbrev S_ : Shape := ⟨0, ![]⟩
abbrev S1024 : Shape := ⟨1, ![1024]⟩
abbrev S2048x1 : Shape := ⟨2, ![2048, 1]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x512, .bf16⟩
  | .hbm, ⟨3, _⟩ => ⟨S2048x4608, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x512x1024, .f32⟩
  | .hbm, ⟨9, _⟩ => ⟨S1x1024x1024, .f32⟩
  | .hbm, ⟨10, _⟩ => ⟨S2048x1024, .f32⟩
  | .hbm, ⟨11, _⟩ => ⟨S1024x1024, .f32⟩
  | .hbm, ⟨12, _⟩ => ⟨S2048x1024, .f32⟩
  | .hbm, ⟨13, _⟩ => ⟨S2048x512, .f32⟩
  | .hbm, ⟨14, _⟩ => ⟨S512x1024, .f32⟩
  | .hbm, ⟨15, _⟩ => ⟨S2048x1024, .f32⟩
  | .hbm, ⟨16, _⟩ => ⟨S2048x2048, .f32⟩
  | .hbm, ⟨17, _⟩ => ⟨S2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1024x1024, .f32⟩
  | .hbm, ⟨35, _⟩ => ⟨S2048x1024, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .bf16⟩
  | .hbm, ⟨72, _⟩ => ⟨S2048x1024, .bf16⟩
  | .hbm, ⟨73, _⟩ => ⟨S2048x1024, .bf16⟩
  | .hbm, ⟨74, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Proof.Reals.lean ====
/- The passage from extended reals to reals that every value proof of this certificate uses: an array of finite
   extended reals is the image of an array of reals, and sums, quotients and reciprocal roots of images are images. -/
module

public import Idealize.ShloMosaic.Lib.Pointwise
public import Idealize.ShloMosaic.Lib.IdealHost

@[expose] public section

noncomputable section

open Idealize.ShloMosaic

namespace Cert.Reals

/-- A sum of reals, taken in the extended reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a real other than zero. -/
theorem coe_div (a : ℝ) {b : ℝ} (hb : b ≠ 0) : Ideal.div (a : EReal) (b : EReal) = ((a / b : ℝ) : EReal) := by
  rw [Ideal.div_coe hb, ← EReal.coe_mul, mul_one_div]

/-- The reciprocal root of a positive real. -/
theorem coe_rsqrt {a : ℝ} (ha : 0 < a) : Ideal.rsqrt (a : EReal) = (((√a)⁻¹ : ℝ) : EReal) := by
  rw [Ideal.rsqrt_coe, if_neg (not_lt.2 ha.le), if_neg ha.ne']

/-- The literal 1024. -/
theorem lit_1024 : Ideal.ofBits .f32 0x44800000#32 = ((1024 : ℝ) : EReal) := by
  simp [Ideal.ofBits, Ideal.ieee, -EReal.coe_mul, -EReal.coe_neg]; norm_num

/-- The literal -1/2. -/
theorem lit_neg_half : Ideal.ofBits .f32 0xBF000000#32 = ((-(1 / 2) : ℝ) : EReal) := by
  simp [Ideal.ofBits, Ideal.ieee, -EReal.coe_mul, -EReal.coe_neg]; norm_num

/-- The literal added under the norms' roots. -/
def eps : ℝ := 8796093 / 8796093022208
theorem eps_pos : 0 < eps := by unfold eps; norm_num
theorem lit_eps : Ideal.ofBits .f32 0x358637BD#32 = ((eps : ℝ) : EReal) := by
  simp [Ideal.ofBits, Ideal.ieee, eps, -EReal.coe_mul]; norm_num

/-- A finite array of rank two is the image of a real one. -/
theorem exists_real2 {a b : ℕ} {φ : FTy} (x : FVec Ideal ⟨2, ![a, b]⟩ φ) (h : ∀ i, ∃ r : ℝ, x i = (r : EReal)) :
    ∃ X : ℕ → ℕ → ℝ, ∀ (p : Fin a) (q : Fin b), x (ix2 p q) = ((X p q : ℝ) : EReal) := by
  choose f hf using h
  refine ⟨fun p q => if hp : p < a then if hq : q < b then f (ix2 ⟨p, hp⟩ ⟨q, hq⟩) else 0 else 0, fun p q => ?_⟩
  simp [hf]

/-- A finite array of rank three is the image of a real one. -/
theorem exists_real3 {a b c : ℕ} {φ : FTy} (x : FVec Ideal ⟨3, ![a, b, c]⟩ φ) (h : ∀ i, ∃ r : ℝ, x i = (r : EReal)) :
    ∃ X : ℕ → ℕ → ℕ → ℝ, ∀ (p : Fin a) (q : Fin b) (r : Fin c), x (ix3 p q r) = ((X p q r : ℝ) : EReal) := by
  choose f hf using h
  refine ⟨fun p q r => if hp : p < a then if hq : q < b then if hr : r < c then f (ix3 ⟨p, hp⟩ ⟨q, hq⟩ ⟨r, hr⟩) else 0 else 0 else 0,
    fun p q r => ?_⟩
  simp [hf]

theorem exists_real4 {a b c d : ℕ} {φ : FTy} (x : FVec Ideal ⟨4, ![a, b, c, d]⟩ φ) (h : ∀ i, ∃ r : ℝ, x i = (r : EReal)) :
    ∃ X : ℕ → ℕ → ℕ → ℕ → ℝ, ∀ (p : Fin a) (q : Fin b) (r : Fin c) (s : Fin d), x (ix4 p q r s) = ((X p q r s : ℝ) : EReal) := by
  choose f hf using h
  refine ⟨fun p q r s => if hp : p < a then if hq : q < b then if hr : r < c then if hs : s < d then f (ix4 ⟨p, hp⟩ ⟨q, hq⟩ ⟨r, hr⟩ ⟨s, hs⟩)
    else 0 else 0 else 0 else 0, fun p q r s => ?_⟩
  simp [hf]

/-- What `|x| < ∞`, asked of every entry, says of an array. -/
theorem real_of_finite {S : Shape} (x : FVec Ideal S .f32) (hb : (⟨0, ![]⟩ : Shape).BroadcastsInDim S (![] : Fin 0 → Fin S.rank))
    (h : cmpf .olt (Host.absf x) (broadcastInDim S ![] hb (constant ⟨0, ![]⟩ .f32 0x7F800000#32)) = fun _ => 1#1) (i : S.Idx) :
    ∃ r : ℝ, x i = (r : EReal) := by
  have hi := congrFun h i
  have htop : Ideal.ofBits .f32 0x7F800000#32 = (⊤ : EReal) := by simp [Ideal.ofBits, Ideal.ieee]
  have hc : Ideal.cmp .olt (max (x i : EReal) (-(x i : EReal))) (Ideal.ofBits .f32 0x7F800000#32) = 1#1 := hi
  rw [htop] at hc
  cases hx : (x i : EReal) using EReal.rec with
  | coe r => exact ⟨r, rfl⟩
  | bot => rw [hx] at hc; simp [Ideal.cmp] at hc
  | top => rw [hx] at hc; simp [Ideal.cmp] at hc

/-! ## Sums over axes of size one -/

/-- A sum over the first two axes, both of size one. -/
theorem sum_unit01 {n : ℕ} (h : (⟨3, ![1, 1, n]⟩ : Shape).ReducesTo [0, 1] ⟨1, ![n]⟩) (x : (⟨3, ![1, 1, n]⟩ : Shape).Idx → EReal)
    (init : EReal) (j : Fin n) : Ideal.hostReduceAdd h x init (ix1 j) = init + x (ix3 0 0 j) := by
  unfold Ideal.hostReduceAdd
  congr 1
  have hv : ∀ i, (h.drop i 0 : ℕ) = i 2 := fun i => Shape.ReducesTo.drop_apply_val h i 0
  rw [show (Finset.univ.filter fun i => h.drop i = ix1 j) = {ix3 0 0 j} from ?_, Finset.sum_singleton]
  ext i
  simp only [Finset.mem_filter, Finset.mem_univ, true_and, Finset.mem_singleton]
  constructor
  · intro e
    have h2 : (i 2 : ℕ) = j := by rw [← hv i, e]; rfl
    funext b
    match b with
    | ⟨0, _⟩ => exact Subsingleton.elim (α := Fin 1) _ _
    | ⟨1, _⟩ => exact Subsingleton.elim (α := Fin 1) _ _
    | ⟨2, _⟩ => exact Fin.ext h2
  · intro e
    funext b
    have hb : b = 0 := Subsingleton.elim (α := Fin 1) _ _
    subst hb
    exact Fin.ext (by rw [hv, e]; rfl)

/-- A sum over the first and the last axis, both of size one. -/
theorem sum_unit02 {n : ℕ} (h : (⟨3, ![1, n, 1]⟩ : Shape).ReducesTo [0, 2] ⟨1, ![n]⟩) (x : (⟨3, ![1, n, 1]⟩ : Shape).Idx → EReal)
    (init : EReal) (j : Fin n) : Ideal.hostReduceAdd h x init (ix1 j) = init + x (ix3 0 j 0) := by
  unfold Ideal.hostReduceAdd
  congr 1
  have hv : ∀ i, (h.drop i 0 : ℕ) = i 1 := fun i => Shape.ReducesTo.drop_apply_val h i 0
  rw [show (Finset.univ.filter fun i => h.drop i = ix1 j) = {ix3 0 j 0} from ?_, Finset.sum_singleton]
  ext i
  simp only [Finset.mem_filter, Finset.mem_univ, true_and, Finset.mem_singleton]
  constructor
  · intro e
    have h2 : (i 1 : ℕ) = j := by rw [← hv i, e]; rfl
    funext b
    match b with
    | ⟨0, _⟩ => exact Subsingleton.elim (α := Fin 1) _ _
    | ⟨1, _⟩ => exact Fin.ext h2
    | ⟨2, _⟩ => exact Subsingleton.elim (α := Fin 1) _ _
  · intro e
    funext b
    have hb : b = 0 := Subsingleton.elim (α := Fin 1) _ _
    subst hb
    exact Fin.ext (by rw [hv, e]; rfl)

/-! ## A norm's row -/

/-- The reciprocal root mean square of a row of 1024 entries. -/
def rinv (x : ℕ → ℝ) : ℝ := (√((∑ k : Fin 1024, x k * x k) / 1024 + eps))⁻¹

theorem ms_pos (x : ℕ → ℝ) : 0 < (∑ k : Fin 1024, x k * x k) / 1024 + eps :=
  add_pos_of_nonneg_of_pos (div_nonneg (Finset.sum_nonneg fun k _ => mul_self_nonneg _) (by norm_num)) eps_pos

/-- The reciprocal root divided by its square is its cube. -/
theorem rinv_div (x : ℕ → ℝ) : rinv x / ((∑ k : Fin 1024, x k * x k) / 1024 + eps) = rinv x ^ 3 := by
  have h := ms_pos x
  have hs := Real.sq_sqrt h.le
  have h0 : √((∑ k : Fin 1024, x k * x k) / 1024 + eps) ≠ 0 := (Real.sqrt_pos.2 h).ne'
  unfold rinv
  generalize √((∑ k : Fin 1024, x k * x k) / 1024 + eps) = r at *
  rw [← hs]
  field_simp

/-- The row's reciprocal root as the programs write it. -/
theorem rsqrt_row (x : ℕ → ℝ) :
    Ideal.rsqrt (((∑ k : Fin 1024, x k * x k) / 1024 + eps : ℝ) : EReal) = ((rinv x : ℝ) : EReal) :=
  coe_rsqrt (ms_pos x)

/-- The gradient of a normalised row: `t` is the cotangent times the norm's weights. -/
def normGrad (x t : ℕ → ℝ) (d : ℕ) : ℝ :=
  rinv x * (t d - x d * rinv x * ((∑ k : Fin 1024, t k * (x k * rinv x)) / 1024))

/-- The same gradient with the two halves of the square's derivative apart. -/
theorem normGrad_halves (x t : ℕ → ℝ) (d : ℕ) :
    t d * rinv x
      + x d * ((∑ k : Fin 1024, x k * t k) * (-(1 / 2) * (rinv x / ((∑ k : Fin 1024, x k * x k) / 1024 + eps))) / 1024)
      + (∑ k : Fin 1024, x k * t k) * (-(1 / 2) * (rinv x / ((∑ k : Fin 1024, x k * x k) / 1024 + eps))) / 1024 * x d
      = normGrad x t d := by
  rw [rinv_div]
  unfold normGrad
  have h : ∑ k : Fin 1024, t k * (x k * rinv x) = rinv x * ∑ k : Fin 1024, x k * t k := by
    rw [Finset.mul_sum]; exact Finset.sum_congr rfl fun k _ => by ring
  rw [h]
  ring

end Cert.Reals

end
-- ==== Proof.InPay.lean ====
/- What one block of the input projection's gradient computes, over the reals. -/
module

public import proofs.«01_k».proof.Proof.Gen.KernelInIdeal.Frame
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProj

open Cert.Reals

/-- Column `c` of the four cotangents side by side. -/
def cat (P0 P1 P2 P3 : ℕ → ℕ → ℝ) (s c : ℕ) : ℝ :=
  if c < 1024 then P0 s c else if c < 2048 then P1 s (c - 1024) else if c < 2560 then P2 s (c - 2048) else P3 s (c - 2560)

/-- The cotangent of the normalised input: the four parts against the weights' rows. -/
def dh (P0 P1 P2 P3 W : ℕ → ℕ → ℝ) (s d : ℕ) : ℝ := ∑ c : Fin 4608, cat P0 P1 P2 P3 s c * W d c

/-- The contraction cut where the kernel cuts it: at the parts' edges and at the weights' column shards. -/
theorem dh_pieces (P0 P1 P2 P3 W : ℕ → ℕ → ℝ) (s d : ℕ) :
    dh P0 P1 P2 P3 W s d = (∑ k : Fin 1024, P0 s k * W d k) + (∑ k : Fin 128, P1 s k * W d (1024 + k))
      + (∑ k : Fin 896, P1 s (128 + k) * W d (1152 + k)) + (∑ k : Fin 256, P2 s k * W d (1152 + (896 + k)))
      + (∑ k : Fin 256, P2 s (256 + k) * W d (2304 + k)) + (∑ k : Fin 896, P3 s k * W d (2304 + (256 + k)))
      + (∑ k : Fin 1152, P3 s (896 + k) * W d (3456 + k)) := by
  unfold dh
  rw [Fin.sum_univ_eq_sum_range (fun c => cat P0 P1 P2 P3 s c * W d c) 4608,
    show 4608 = 1024 + 128 + 896 + 256 + 256 + 896 + 1152 from rfl]
  rw [Finset.sum_range_add, Finset.sum_range_add, Finset.sum_range_add, Finset.sum_range_add, Finset.sum_range_add,
    Finset.sum_range_add]
  simp only [Finset.sum_range]
  refine congrArg₂ (· + ·) (congrArg₂ (· + ·) (congrArg₂ (· + ·) (congrArg₂ (· + ·) (congrArg₂ (· + ·)
    (congrArg₂ (· + ·) ?_ ?_) ?_) ?_) ?_) ?_) ?_
  all_goals
    refine Finset.sum_congr rfl fun k _ => ?_
    have hk := k.isLt
    unfold cat
  · rw [if_pos (by omega)]
  · rw [if_neg (by omega), if_pos (by omega)]; congr 2; omega
  · rw [if_neg (by omega), if_pos (by omega)]; congr 2; omega
  · rw [if_neg (by omega), if_neg (by omega), if_pos (by omega)]; congr 2; all_goals omega
  · rw [if_neg (by omega), if_neg (by omega), if_pos (by omega)]; congr 2; all_goals omega
  · rw [if_neg (by omega), if_neg (by omega), if_neg (by omega)]; congr 2; all_goals omega
  · rw [if_neg (by omega), if_neg (by omega), if_neg (by omega)]; congr 2; omega

end Cert.InProj

namespace Cert.KernelInIdeal.Value

open Cert.KernelInIdeal Cert.KernelInIdeal.Gen Cert.Reals Cert.InProj

/-- Its first five products. -/
abbrev dhHead (x0 x1 : Vec Ideal S512x1024 .bf16) (x2 : Vec Ideal S512x512 .bf16) (x4 : Vec Ideal S4x1024x1152 .bf16) :
    Vec Ideal S512x1024 .f32 :=
  k0_pay4 (F := Ideal) x0
          (View.ld x4 (Rect.unit ![0, 0, 0] ![1, 1024, 1024] inb_S4x1024x1152_S1x1024x1024_0_0_0))
          (View.ld x1 (Rect.unit ![0, 0] ![512, 128] inb_S512x1024_S512x128_0_0))
          (View.ld x4 (Rect.unit ![0, 0, 1024] ![1, 1024, 128] inb_S4x1024x1152_S1x1024x128_0_0_1024))
          (View.ld x1 (Rect.unit ![0, 128] ![512, 896] inb_S512x1024_S512x896_0_128))
          (View.ld x4 (Rect.unit ![1, 0, 0] ![1, 1024, 896] inb_S4x1024x1152_S1x1024x896_1_0_0))
          (View.ld x2 (Rect.unit ![0, 0] ![512, 256] inb_S512x512_S512x256_0_0))
          (View.ld x4 (Rect.unit ![1, 0, 896] ![1, 1024, 256] inb_S4x1024x1152_S1x1024x256_1_0_896))
          (View.ld x2 (Rect.unit ![0, 256] ![512, 256] inb_S512x512_S512x256_0_256))
          (View.ld x4 (Rect.unit ![2, 0, 0] ![1, 1024, 256] inb_S4x1024x1152_S1x1024x256_2_0_0))

/-- The block's cotangent of the normalised input, as the body writes it. -/
abbrev dhBlk (x0 x1 : Vec Ideal S512x1024 .bf16) (x2 : Vec Ideal S512x512 .bf16) (x3 : Vec Ideal S512x2048 .bf16)
    (x4 : Vec Ideal S4x1024x1152 .bf16) : Vec Ideal S512x1024 .f32 :=
  k0_pay5 (F := Ideal) (dhHead x0 x1 x2 x4)
        (View.ld x3 (Rect.unit ![0, 0] ![512, 896] inb_S512x2048_S512x896_0_0))
        (View.ld x4 (Rect.unit ![2, 0, 256] ![1, 1024, 896] inb_S4x1024x1152_S1x1024x896_2_0_256))
        (View.ld x3 (Rect.unit ![0, 896] ![512, 1152] inb_S512x2048_S512x1152_0_896))
        (View.ld x4 (Rect.unit ![3, 0, 0] ![1, 1024, 1152] inb_S4x1024x1152_S1x1024x1152_3_0_0))

section
variable (x0 x1 : Vec Ideal S512x1024 .bf16) (x2 : Vec Ideal S512x512 .bf16) (x3 : Vec Ideal S512x2048 .bf16)
  (x4 : Vec Ideal S4x1024x1152 .bf16) (P0 P1 P2 P3 W : ℕ → ℕ → ℝ)
  (h0 : ∀ p q, x0 (ix2 p q) = ((P0 p q : ℝ) : EReal)) (h1 : ∀ p q, x1 (ix2 p q) = ((P1 p q : ℝ) : EReal))
  (h2 : ∀ p q, x2 (ix2 p q) = ((P2 p q : ℝ) : EReal)) (h3 : ∀ p q, x3 (ix2 p q) = ((P3 p q : ℝ) : EReal))
  (h4 : ∀ (k : Fin 4) (d : Fin 1024) (q : Fin 1152), x4 (ix3 k d q) = ((W d (k * 1152 + q) : ℝ) : EReal))
include h0 h1 h2 h3 h4

/-- The block's products together are the whole contraction. -/
theorem dhBlk_at (p : Fin 512) (d : Fin 1024) : dhBlk x0 x1 x2 x3 x4 (ix2 p d) = ((dh P0 P1 P2 P3 W p d : ℝ) : EReal) := by
  rw [dh_pieces]
  pointwise [dhBlk, dhHead, k0_pay5, k0_pay4]
  simp only [h0, h1, h2, h3, h4, ← EReal.coe_mul, coe_sum, ← EReal.coe_add]
  simp only [show ((0 : Fin 4) : ℕ) = 0 from rfl, show ((1 : Fin 4) : ℕ) = 1 from rfl, show ((2 : Fin 4) : ℕ) = 2 from rfl,
    show ((3 : Fin 4) : ℕ) = 3 from rfl, zero_mul, zero_add, one_mul, Nat.reduceMul]
end

section
variable (x5 : Vec Ideal S512x1024 .f32) (X : ℕ → ℕ → ℝ) (h5 : ∀ p q, x5 (ix2 p q) = ((X p q : ℝ) : EReal))
include h5

theorem pay7_at (p : Fin 512) (u : Fin 1) : k0_pay7 (F := Ideal) x5 (ix2 p u) = ((rinv (X p) : ℝ) : EReal) := by
  pointwise [k0_pay7, k0_pay6]
  simp only [h5, lit_1024, lit_eps, ← EReal.coe_mul, coe_sum, coe_div _ (show (1024 : ℝ) ≠ 0 by norm_num), ← EReal.coe_add]
  exact rsqrt_row (X p)

theorem pay8_at (p : Fin 512) (d : Fin 1024) : k0_pay8 (F := Ideal) x5 (ix2 p d) = ((X p d * rinv (X p) : ℝ) : EReal) := by
  have h7 := pay7_at x5 X h5
  pointwise [k0_pay8, k0_pay6]
  simp only [h5, h7, ← EReal.coe_mul]

/-- The row's gradient, over the residual. -/
theorem pay9_at (v23 : FVec Ideal S512x1024 .f32) (v24 : Vec Ideal S512x896 .bf16) (v25 : Vec Ideal S1x1024x896 .bf16)
    (v29 : Vec Ideal S512x1152 .bf16) (v30 : Vec Ideal S1x1024x1152 .bf16) (x7 : Vec Ideal S1x1024 .f32) (x6 : Vec Ideal S512x1024 .f32)
    (D : ℕ → ℕ → ℝ) (G : ℕ → ℝ)
    (hD : ∀ p q, k0_pay5 (F := Ideal) v23 v24 v25 v29 v30 (ix2 p q) = ((D p q : ℝ) : EReal)) (hG : ∀ q, x7 (ix2 0 q) = ((G q : ℝ) : EReal))
    (p : Fin 512) (d : Fin 1024) :
    k0_pay9 (F := Ideal) v23 v24 v25 v29 v30 x5 x7 x6 (ix2 p d)
      = x6 (ix2 p d) + ((normGrad (X p) (fun d => D p d * G d) d : ℝ) : EReal) := by
  have h7 := pay7_at x5 X h5
  have h8 := pay8_at x5 X h5
  pointwise [k0_pay9]
  simp only [h7, h8, hD, hG, lit_1024, ← EReal.coe_mul, coe_sum, coe_div _ (show (1024 : ℝ) ≠ 0 by norm_num), ← EReal.coe_sub]
  rfl

/-- The block's part of the weights' gradient. -/
theorem pay1_at (v33 : FVec Ideal S512x1024 .f32) (D : ℕ → ℕ → ℝ) (hD : ∀ p q, v33 (ix2 p q) = ((D p q : ℝ) : EReal)) (u : Fin 1) (d : Fin 1024) :
    k0_pay1 (F := Ideal) v33 (k0_pay8 x5) (ix2 u d) = ((∑ p : Fin 512, D p d * (X p d * rinv (X p)) : ℝ) : EReal) := by
  have h8 := pay8_at x5 X h5
  pointwise [k0_pay1]
  simp only [h8, hD, ← EReal.coe_mul, coe_sum]
end

end Cert.KernelInIdeal.Value
end
-- ==== Proof.InRef.lean ====
/- What the reference of the input projection's gradient computes, over the reals. -/
module

public import proofs.«01_k».proof.Proof.Gen.ReferenceInIdeal.Read
public import proofs.«01_k».proof.Proof.InPay

@[expose] public section

set_option maxRecDepth 16384

noncomputable section

open Idealize.ShloMosaic Idealize.ShloMosaic.TcCoe Idealize.SL.Sem

namespace Cert.ReferenceInIdeal.InRef

open Cert.ReferenceInIdeal Cert.ReferenceInIdeal.Gen Cert.ReferenceInIdeal.Read Cert.Reals Cert.InProj

section
variable (x0 : FVec Ideal S1x2048x1024 .f32) (X : ℕ → ℕ → ℝ)
  (h0 : ∀ (u : Fin 1) (s : Fin 2048) (d : Fin 1024), x0 (ix3 u s d) = ((X s d : ℝ) : EReal))
include h0

theorem r_at (u : Fin 1) (s : Fin 2048) (v : Fin 1) : val_main_v17 (F := Ideal) x0 (ix3 u s v) = ((rinv (X s) : ℝ) : EReal) := by
  pointwise [val_main_v17, val_main_v16, val_main_v15, val_main_cst_1, val_main_v14, val_main_v13, val_main_cst_0, val_main_v12, val_main_v11, val_main_cst, val_main_v10]
  simp only [h0, lit_1024, lit_eps, ← EReal.coe_mul, coe_sum, coe_div _ (show (1024 : ℝ) ≠ 0 by norm_num), ← EReal.coe_add]
  exact rsqrt_row (X s)

theorem ms_at (u : Fin 1) (s : Fin 2048) (v : Fin 1) :
    val_main_v16 (F := Ideal) x0 (ix3 u s v) = (((∑ k : Fin 1024, X s k * X s k) / 1024 + eps : ℝ) : EReal) := by
  pointwise [val_main_v16, val_main_v15, val_main_cst_1, val_main_v14, val_main_v13, val_main_cst_0, val_main_v12, val_main_v11,
    val_main_cst, val_main_v10]
  simp only [h0, lit_1024, lit_eps, ← EReal.coe_mul, coe_sum, coe_div _ (show (1024 : ℝ) ≠ 0 by norm_num), ← EReal.coe_add]

theorem xn_at (u : Fin 1) (s : Fin 2048) (d : Fin 1024) :
    val_main_v22 (F := Ideal) x0 (ix3 u s d) = ((X s d * rinv (X s) : ℝ) : EReal) := by
  have hr := r_at x0 X h0
  pointwise [val_main_v22, val_main_v21]
  simp only [h0, hr, ← EReal.coe_mul]

theorem half_at (u : Fin 1) (s : Fin 2048) (v : Fin 1) :
    val_main_v20 (F := Ideal) x0 (ix3 u s v)
      = ((-(1 / 2) * (rinv (X s) / ((∑ k : Fin 1024, X s k * X s k) / 1024 + eps)) : ℝ) : EReal) := by
  have hr := r_at x0 X h0
  have hm := ms_at x0 X h0
  pointwise [val_main_v20, val_main_v19, val_main_cst_2, val_main_v18]
  simp only [hr, hm, lit_neg_half, coe_div _ (ms_pos (X s)).ne', ← EReal.coe_mul]

end

section
variable (x2 : FVec Ideal S1x1024x4608 .f32) (x3 x4 : FVec Ideal S2048x1024 .bf16) (x5 : FVec Ideal S2048x512 .bf16)
  (x6 : FVec Ideal S2048x2048 .bf16) (P0 P1 P2 P3 W : ℕ → ℕ → ℝ)
  (h2 : ∀ u p q, x2 (ix3 u p q) = ((W p q : ℝ) : EReal))
  (h3 : ∀ p q, x3 (ix2 p q) = ((P0 p q : ℝ) : EReal)) (h4 : ∀ p q, x4 (ix2 p q) = ((P1 p q : ℝ) : EReal))
  (h5 : ∀ p q, x5 (ix2 p q) = ((P2 p q : ℝ) : EReal)) (h6 : ∀ p q, x6 (ix2 p q) = ((P3 p q : ℝ) : EReal))
include h2 h3 h4 h5 h6

theorem cat_at (u : Fin 1) (s : Fin 2048) (k : Fin 4608) :
    val_main_v32 (F := Ideal) x3 x4 x5 x6 (ix3 u s k) = ((cat P0 P1 P2 P3 s k : ℝ) : EReal) := by
  pointwise [val_main_v32, val_main_v7, val_main_v6, val_main_v5, val_main_v4, val_main_v3, val_main_v2, val_main_v1, val_main_v0]
  unfold cat
  have hk := k.isLt
  by_cases a : (k : ℕ) < 1024
  · rw [dif_pos a, if_pos a]; exact h3 _ _
  by_cases b : (k : ℕ) < 2048
  · rw [dif_neg a, if_neg a, dif_pos (by omega), if_pos b]; exact h4 _ _
  by_cases c : (k : ℕ) < 2560
  · rw [dif_neg a, if_neg a, dif_neg (by omega), if_neg b, dif_pos (by omega), if_pos c, h5]
    simp only [Nat.sub_sub, Nat.reduceAdd]
  · rw [dif_neg a, if_neg a, dif_neg (by omega), if_neg b, dif_neg (by omega), if_neg c, h6]
    simp only [Nat.sub_sub, Nat.reduceAdd]

theorem dh_at (u : Fin 1) (s : Fin 2048) (d : Fin 1024) :
    val_main_v33 (F := Ideal) x2 x3 x4 x5 x6 (ix3 u s d) = ((dh P0 P1 P2 P3 W s d : ℝ) : EReal) := by
  have hc := cat_at x2 x3 x4 x5 x6 P0 P1 P2 P3 W h2 h3 h4 h5 h6
  pointwise [val_main_v33, val_main_v26]
  simp only [hc, h2, ← EReal.coe_mul, coe_sum]
  rfl

variable (x0 : FVec Ideal S1x2048x1024 .f32) (X : ℕ → ℕ → ℝ)
  (h0 : ∀ (u : Fin 1) (s : Fin 2048) (d : Fin 1024), x0 (ix3 u s d) = ((X s d : ℝ) : EReal))
include h0

theorem dg_at (u : Fin 1) (d : Fin 1024) :
    val_main_v57 (F := Ideal) x0 x2 x3 x4 x5 x6 (ix2 u d)
      = ((∑ s : Fin 2048, X s d * rinv (X s) * dh P0 P1 P2 P3 W s d : ℝ) : EReal) := by
  have hd := dh_at x2 x3 x4 x5 x6 P0 P1 P2 P3 W h2 h3 h4 h5 h6
  have hx := xn_at x0 X h0
  pointwise [val_main_v57, val_main_v39, val_main_cst_4, val_main_v36, val_main_v35, val_main_cst_3, val_main_v34]
  rw [sum_unit01]
  pointwise
  simp only [hx, hd, ← EReal.coe_mul, coe_sum]

variable (x1 : FVec Ideal S1x1024 .f32) (x7 : FVec Ideal S2048x1024 .f32) (G : ℕ → ℝ) (h1 : ∀ u q, x1 (ix2 u q) = ((G q : ℝ) : EReal))
include h1

theorem t_at (u : Fin 1) (s : Fin 2048) (d : Fin 1024) :
    val_main_v38 (F := Ideal) x1 x2 x3 x4 x5 x6 (ix3 u s d) = ((dh P0 P1 P2 P3 W s d * G d : ℝ) : EReal) := by
  have hd := dh_at x2 x3 x4 x5 x6 P0 P1 P2 P3 W h2 h3 h4 h5 h6
  pointwise [val_main_v38, val_main_v37, val_main_v23, val_main_v9]
  simp only [hd, h1, ← EReal.coe_mul]

theorem ms_grad_at (u : Fin 1) (s : Fin 2048) (d : Fin 1024) :
    val_main_v51 (F := Ideal) x0 x1 x2 x3 x4 x5 x6 (ix3 u s d)
      = (((∑ k : Fin 1024, X s k * (dh P0 P1 P2 P3 W s k * G k))
          * (-(1 / 2) * (rinv (X s) / ((∑ k : Fin 1024, X s k * X s k) / 1024 + eps))) / 1024 : ℝ) : EReal) := by
  have ht := t_at x2 x3 x4 x5 x6 P0 P1 P2 P3 W h2 h3 h4 h5 h6 x0 X h0 x1 G h1
  have hh := half_at x0 X h0
  pointwise [val_main_v51, val_main_v50, val_main_v49, val_main_cst_7, val_main_v48, val_main_v47, val_main_cst_6, val_main_v46,
    val_main_v42, val_main_v41, val_main_cst_5, val_main_v40]
  rw [sum_unit02]
  pointwise
  simp only [hh, ht, h0, lit_1024, ← EReal.coe_mul, coe_sum, coe_div _ (show (1024 : ℝ) ≠ 0 by norm_num)]

theorem dx_at (s : Fin 2048) (d : Fin 1024) :
    val_main_v56 (F := Ideal) x0 x1 x2 x3 x4 x5 x6 x7 (ix2 s d)
      = x7 (ix2 s d) + ((normGrad (X s) (fun d => dh P0 P1 P2 P3 W s d * G d) d : ℝ) : EReal) := by
  have ht := t_at x2 x3 x4 x5 x6 P0 P1 P2 P3 W h2 h3 h4 h5 h6 x0 X h0 x1 G h1
  have hm := ms_grad_at x2 x3 x4 x5 x6 P0 P1 P2 P3 W h2 h3 h4 h5 h6 x0 X h0 x1 G h1
  have hr := r_at x0 X h0
  pointwise [val_main_v56, val_main_v55, val_main_v54, val_main_v53, val_main_v52, val_main_v45, val_main_v44, val_main_v43, val_main_v8]
  simp only [ht, hm, hr, h0, ← EReal.coe_mul, add_assoc, ← EReal.coe_add]
  rw [← normGrad_halves, add_assoc]

end
end Cert.ReferenceInIdeal.InRef
end
-- ==== Proof.InKernel.lean ====
/- What the two result arrays of the input projection's gradient hold after the run. -/
module

public import proofs.«01_k».proof.Proof.InPay

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Reals Cert.InProj

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] ∧ win0_6.index t = ![t.val, 0]
    ∧ win0_7.index t = ![0, 0] ∧ win0_8.index t = ![t.val, 0] ∧ win0_9.index t = ![0, 0] ∧ t.val < 4 :=
  (by decide +kernel : ∀ t : Fin grid0.N, _)

theorem pay2_eq (a b : FVec Ideal S512x1024 .f32) : k0_pay2 a b = k0_pay1 a b := by
  unfold k0_pay2; exact shapeCast_self _ _

theorem pay3_eq (a b : FVec Ideal S512x1024 .f32) (x : Vec Ideal S1x1024 .f32) : k0_pay3 a b x = fun i => x i + k0_pay1 a b i := by
  unfold k0_pay3; exact shapeCast_self _ _

section
variable (m : (ℓ : Loc nD τ sig) → Buf (Elt Ideal) ℓ) (c : Dev nD)
  (P0 P1 P2 P3 W X : ℕ → ℕ → ℝ) (G : ℕ → ℝ)

/-- The argument arrays are the images of real ones. -/
structure Args : Prop where
  hX : ∀ (u : Fin 1) (p : Fin 2048) (q : Fin 1024), (m ((c : Thread nD τ).loc main_arg0) : FVec Ideal S1x2048x1024 .f32) (ix3 u p q) = ((X p q : ℝ) : EReal)
  hG : ∀ (u : Fin 1) (q : Fin 1024), (m ((c : Thread nD τ).loc main_arg1) : FVec Ideal S1x1024 .f32) (ix2 u q) = ((G q : ℝ) : EReal)
  hW : ∀ (u : Fin 1) (p : Fin 1024) (q : Fin 4608), (m ((c : Thread nD τ).loc main_arg2) : FVec Ideal S1x1024x4608 .f32) (ix3 u p q) = ((W p q : ℝ) : EReal)
  h0 : ∀ (p : Fin 2048) (q : Fin 1024), (m ((c : Thread nD τ).loc main_arg3) : FVec Ideal S2048x1024 .bf16) (ix2 p q) = ((P0 p q : ℝ) : EReal)
  h1 : ∀ (p : Fin 2048) (q : Fin 1024), (m ((c : Thread nD τ).loc main_arg4) : FVec Ideal S2048x1024 .bf16) (ix2 p q) = ((P1 p q : ℝ) : EReal)
  h2 : ∀ (p : Fin 2048) (q : Fin 512), (m ((c : Thread nD τ).loc main_arg5) : FVec Ideal S2048x512 .bf16) (ix2 p q) = ((P2 p q : ℝ) : EReal)
  h3 : ∀ (p : Fin 2048) (q : Fin 2048), (m ((c : Thread nD τ).loc main_arg6) : FVec Ideal S2048x2048 .bf16) (ix2 p q) = ((P3 p q : ℝ) : EReal)

variable (H : Args m c P0 P1 P2 P3 W X G)
include H

theorem b0 (t : Fin cfg0.N) (p : Fin 512) (q : Fin 1024) :
    (iblk m c 0 t : Vec Ideal S512x1024 .bf16) (ix2 p q) = ((P0 (t * 512 + p) q : ℝ) : EReal) := by
  have ht := (idx t).2.2.2.2.2.2.2.2.2.2
  refine Eq.trans ?_ (H.h0 ⟨t * 512 + p, by omega⟩ q)
  blk_ext [iblk, V, idx t]

theorem b1 (t : Fin cfg0.N) (p : Fin 512) (q : Fin 1024) :
    (iblk m c 1 t : Vec Ideal S512x1024 .bf16) (ix2 p q) = ((P1 (t * 512 + p) q : ℝ) : EReal) := by
  have ht := (idx t).2.2.2.2.2.2.2.2.2.2
  refine Eq.trans ?_ (H.h1 ⟨t * 512 + p, by omega⟩ q)
  blk_ext [iblk, V, idx t]

theorem b2 (t : Fin cfg0.N) (p : Fin 512) (q : Fin 512) :
    (iblk m c 2 t : Vec Ideal S512x512 .bf16) (ix2 p q) = ((P2 (t * 512 + p) q : ℝ) : EReal) := by
  have ht := (idx t).2.2.2.2.2.2.2.2.2.2
  refine Eq.trans ?_ (H.h2 ⟨t * 512 + p, by omega⟩ q)
  blk_ext [iblk, V, idx t]

theorem b3 (t : Fin cfg0.N) (p : Fin 512) (q : Fin 2048) :
    (iblk m c 3 t : Vec Ideal S512x2048 .bf16) (ix2 p q) = ((P3 (t * 512 + p) q : ℝ) : EReal) := by
  have ht := (idx t).2.2.2.2.2.2.2.2.2.2
  refine Eq.trans ?_ (H.h3 ⟨t * 512 + p, by omega⟩ q)
  blk_ext [iblk, V, idx t]

theorem b4 (t : Fin cfg0.N) (k : Fin 4) (d : Fin 1024) (q : Fin 1152) :
    (iblk m c 4 t : Vec Ideal S4x1024x1152 .bf16) (ix3 k d q) = ((W d (k * 1152 + q) : ℝ) : EReal) := by
  have ht := (idx t).2.2.2.2.2.2.2.2.2.2
  refine Eq.trans ?_ (H.hW 0 d ⟨k * 1152 + q, by omega⟩)
  blk_simp [iblk, idx t]
  entry_read
  pointwise
  blk_ext [V, idx t]

theorem b5 (t : Fin cfg0.N) (p : Fin 512) (q : Fin 1024) :
    (iblk m c 5 t : Vec Ideal S512x1024 .f32) (ix2 p q) = ((X (t * 512 + p) q : ℝ) : EReal) := by
  have ht := (idx t).2.2.2.2.2.2.2.2.2.2
  refine Eq.trans ?_ (H.hX 0 ⟨t * 512 + p, by omega⟩ q)
  blk_simp [iblk, idx t]
  entry_read
  pointwise
  blk_ext [V, idx t]

theorem b7 (t : Fin cfg0.N) (q : Fin 1024) : (iblk m c 7 t : Vec Ideal S1x1024 .f32) (ix2 0 q) = ((G q : ℝ) : EReal) := by
  refine Eq.trans ?_ (H.hG 0 q)
  blk_ext [iblk, V, idx t]

/-- A block's cotangent of the normalised input. -/
theorem D_at (t : Fin cfg0.N) (p : Fin 512) (d : Fin 1024) :
    dhBlk (iblk m c 0 t) (iblk m c 1 t) (iblk m c 2 t) (iblk m c 3 t) (iblk m c 4 t) (ix2 p d)
      = ((dh P0 P1 P2 P3 W (t * 512 + p) d : ℝ) : EReal) :=
  dhBlk_at _ _ _ _ _ (fun p q => P0 (t * 512 + p) q) (fun p q => P1 (t * 512 + p) q) (fun p q => P2 (t * 512 + p) q)
    (fun p q => P3 (t * 512 + p) q) W (b0 m c _ _ _ _ _ _ _ H t) (b1 m c _ _ _ _ _ _ _ H t) (b2 m c _ _ _ _ _ _ _ H t)
    (b3 m c _ _ _ _ _ _ _ H t) (b4 m c _ _ _ _ _ _ _ H t) p d

/-- The residual a block adds. -/
theorem b6 (t : Fin cfg0.N) (p : Fin 512) (d : Fin 1024) (hp : t.val * 512 + p < 2048) :
    (iblk m c 6 t : Vec Ideal S512x1024 .f32) (ix2 p d) = m ((c : Thread nD τ).loc main_arg7) (ix2 ⟨t.val * 512 + p, hp⟩ d) := by
  blk_ext [iblk, V, idx t]

/-- A row of the input's gradient, over the residual. -/
def dxRow (x : FVec Ideal S2048x1024 .f32) : FVec Ideal S2048x1024 .f32 := fun i =>
  x i + ((normGrad (X (i 0).val) (fun d => dh P0 P1 P2 P3 W (i 0).val d * G d) (i 1).val : ℝ) : EReal)

/-- What a block of the input's gradient holds. -/
theorem block8 (t : Fin cfg0.N) (p : Fin 512) (d : Fin 1024) (x : EReal) (hx : (iblk m c 6 t : Vec Ideal S512x1024 .f32) (ix2 p d) = x) :
    (outsAt0 m c t.val t.isLt).1 (ix2 p d)
      = x + ((normGrad (X (t * 512 + p)) (fun d => dh P0 P1 P2 P3 W (t * 512 + p) d * G d) d : ℝ) : EReal) := by
  subst hx
  by_cases h0 : t.val % 4 = 0
  · rw [outsAt0_A m c t h0 (by have := (idx t).2.2.2.2.2.2.2.2.2.2; omega)]
    frame_out
    exact pay9_at _ (fun p q => X (t * 512 + p) q) (b5 m c _ _ _ _ _ _ _ H t) _ _ _ _ _ _ _
      (fun p d => dh P0 P1 P2 P3 W (t * 512 + p) d) G (D_at m c _ _ _ _ _ _ _ H t) (b7 m c _ _ _ _ _ _ _ H t) p d
  · rw [outsAt0_B m c t h0 (by omega)]
    frame_out
    exact pay9_at _ (fun p q => X (t * 512 + p) q) (b5 m c _ _ _ _ _ _ _ H t) _ _ _ _ _ _ _
      (fun p d => dh P0 P1 P2 P3 W (t * 512 + p) d) G (D_at m c _ _ _ _ _ _ _ H t) (b7 m c _ _ _ _ _ _ _ H t) p d

/-- The input's gradient. -/
theorem final8 : (dats m 0 c).arrAt 8 (cfgs 0).N = dxRow P0 P1 P2 P3 W X G (m ((c : Thread nD τ).loc main_arg7)) := by
  refine (dats m 0 c).arrAt_eq_of_covers 8 _ (by decide +kernel) fun t _ y => ?_
  blk_simp
  rw [after0_8]
  have ht := (idx t).2.2.2.2.2.2.2.2.2.2
  have hp : t.val * 512 + (y 0).val < 2048 := by have := (y 0).isLt; have h : (y 0).val < 512 := this; omega
  rw [show ((cfg0.win 8).blk t).view.emb y = ix2 (⟨t.val * 512 + (y 0).val, hp⟩ : Fin 2048) (⟨(y 1).val, (y 1).isLt⟩ : Fin 1024) from by blk_ext [idx t]]
  refine Eq.trans ?_ (block8 m c P0 P1 P2 P3 W X G H t ⟨(y 0).val, (y 0).isLt⟩ ⟨(y 1).val, (y 1).isLt⟩ _ (b6 m c P0 P1 P2 P3 W X G H t ⟨(y 0).val, (y 0).isLt⟩ _ hp))
  exact congrArg (outsAt0 m c t.val t.isLt).1 (ix2_eta y).symm

/-- What the accumulated block holds after point `n`: the sum over the rows so far. -/
theorem acc9 : ∀ (n : ℕ) (hn : n < cfg0.N) (u : Fin 1) (d : Fin 1024), (outsAt0 m c n hn).2 (ix2 u d)
    = ((∑ s ∈ Finset.range ((n + 1) * 512), dh P0 P1 P2 P3 W s d * (X s d * rinv (X s)) : ℝ) : EReal) := by
  have part (t : Fin cfg0.N) (u : Fin 1) (d : Fin 1024) :=
    pay1_at _ (fun p q => X (t * 512 + p) q) (b5 m c _ _ _ _ _ _ _ H t) _
      (fun p d => dh P0 P1 P2 P3 W (t * 512 + p) d) (D_at m c _ _ _ _ _ _ _ H t) u d
  intro n
  induction n with
  | zero =>
    intro hn u d
    rw [outsAt0_A m c ⟨0, hn⟩ (by simp) (by simp)]
    frame_out
    refine Eq.trans (congrFun (pay2_eq _ _) _) ((part ⟨0, hn⟩ u d).trans (congrArg Real.toEReal ?_))
    simp only [Finset.sum_range, zero_mul, zero_add, one_mul]
  | succ n ih =>
    intro hn u d
    have hN := (idx ⟨n + 1, hn⟩).2.2.2.2.2.2.2.2.2.2
    rw [outsAt0_B m c ⟨n + 1, hn⟩ (by dsimp only at hN ⊢; omega) (by simp)]
    frame_out
    refine Eq.trans (congrFun (pay3_eq _ _ _) _) ((congrArg₂ (fun a b : EReal => a + b) (ih _ u d) (part ⟨n + 1, hn⟩ u d)).trans ?_)
    rw [← EReal.coe_add, add_mul (n + 1) 1 512, one_mul, Finset.sum_range_add, Finset.sum_range (n := 512)]

/-- The weights' gradient. -/
theorem final9 : (dats m 0 c).arrAt 9 (cfgs 0).N
    = fun i : S1x1024.Idx => ((∑ s : Fin 2048, X s (i 1).val * rinv (X s) * dh P0 P1 P2 P3 W s (i 1).val : ℝ) : EReal) := by
  refine (dats m 0 c).arrAt_eq_of_after_last 9 t0_3 (by decide +kernel) _ fun y => ?_
  blk_simp
  rw [after0_9]
  refine (congrArg (outsAt0 m c t0_3.val t0_3.isLt).2 (ix2_eta y).symm).trans ?_
  refine (acc9 m c P0 P1 P2 P3 W X G H _ t0_3.isLt (y 0) (y 1)).trans (congrArg Real.toEReal ?_)
  rw [show (t0_3.val + 1) * 512 = 2048 from rfl, Finset.sum_range]
  exact Finset.sum_congr rfl fun s _ => mul_comm _ _

end
end Cert.KernelInIdeal.Value
end
-- ==== Proof.InEq.lean ====
/- The two programs of the input projection's gradient end with the same arrays. -/
module

public import proofs.«01_k».proof.Defs
public import proofs.«01_k».proof.Proof.Gen.Pre_finite_in
public import proofs.«01_k».proof.Proof.Gen.ReferenceInIdeal.Run
public import proofs.«01_k».proof.Proof.Gen.KernelInIdeal.Value
public import proofs.«01_k».proof.Proof.InRef
public import proofs.«01_k».proof.Proof.InKernel

@[expose] public section

set_option maxRecDepth 16384

noncomputable section

open Idealize.ShloMosaic Idealize.ShloMosaic.TcCoe Idealize.SL.Sem

namespace Cert.InProj

open Cert.Reals

/-- Finite arguments are the images of real arrays. -/
theorem args (m : (ℓ : Loc Cert.KernelInIdeal.nD Cert.KernelInIdeal.τ Cert.KernelInIdeal.sig) → Buf (Elt Ideal) ℓ)
    (h : Cert.Pre_KernelInIdeal_finite_in (hPre_finite_in := Cert.Pre_finite_in.Gen.facts) m) (c : Dev Cert.KernelInIdeal.nD) :
    ∃ P0 P1 P2 P3 W X G, Cert.KernelInIdeal.Value.Args m c P0 P1 P2 P3 W X G := by
  obtain ⟨e0, e1, e2, e3, e4, e5, e6⟩ := h c
  obtain ⟨X, hX⟩ := exists_real3 _ (real_of_finite _ _ e0)
  obtain ⟨G, hG⟩ := exists_real2 _ (real_of_finite _ _ e1)
  obtain ⟨W, hW⟩ := exists_real3 _ (real_of_finite _ _ e2)
  obtain ⟨P0, h0⟩ := exists_real2 _ (real_of_finite _ _ e3)
  obtain ⟨P1, h1⟩ := exists_real2 _ (real_of_finite _ _ e4)
  obtain ⟨P2, h2⟩ := exists_real2 _ (real_of_finite _ _ e5)
  obtain ⟨P3, h3⟩ := exists_real2 _ (real_of_finite _ _ e6)
  refine ⟨P0, P1, P2, P3, W 0, X 0, G 0, ⟨fun u p q => ?_, fun u q => ?_, fun u p q => ?_, h0, h1, h2, h3⟩⟩
  · have := hX u p q; rwa [show (u : ℕ) = 0 from by omega] at this
  · have := hG u q; rwa [show (u : ℕ) = 0 from by omega] at this
  · have := hW u p q; rwa [show (u : ℕ) = 0 from by omega] at this

/-- The reference runs and leaves its arguments as they were. -/
theorem frame_reference : Cert.quiescent_ReferenceInIdeal (hReferenceInIdeal := Cert.ReferenceInIdeal.Gen.facts) := fun m g _ =>
  (θ_run Cert.ReferenceInIdeal.defs _ _).mono (fun r h => ⟨fun c => (h c).2.2, sem_eq_zero_of_no_sems (by decide) r.2⟩)
    (Cert.ReferenceInIdeal.Value.run (F := Ideal) m g)

theorem algebraic : Cert.algebraic_KernelInIdeal_ReferenceInIdeal_pre_finite_in (hKernelInIdeal := Cert.KernelInIdeal.Gen.facts)
    (hReferenceInIdeal := Cert.ReferenceInIdeal.Gen.facts) (hPre_finite_in := Cert.Pre_finite_in.Gen.facts) := by
  intro m g m' g' hpre hargs
  refine ⟨fun c => (Cert.KernelInIdeal.Gen.dats m 0 c).arrAt 8 (Cert.KernelInIdeal.cfgs 0).N,
    fun c => (Cert.KernelInIdeal.Gen.dats m 0 c).arrAt 9 (Cert.KernelInIdeal.cfgs 0).N, Cert.KernelInIdeal.Value.run_blocks m g, ?_⟩
  refine (θ_run _ _ _).mono (fun r h c => ?_) (Cert.ReferenceInIdeal.Value.run m' g')
  obtain ⟨P0, P1, P2, P3, W, X, G, H⟩ := args m hpre c
  obtain ⟨a0, a1, a2, a3, a4, a5, a6, a7⟩ := hargs c
  obtain ⟨r0, r1, rest⟩ := h c
  refine ⟨r0.trans ?_, r1.trans ?_, rest⟩
  · rw [Cert.ReferenceInIdeal.Read.val_main_v56_eq, a0, a1, a2, a3, a4, a5, a6, a7]
    refine Eq.trans ?_ (Cert.KernelInIdeal.Value.final8 m c P0 P1 P2 P3 W X G H).symm
    funext i
    obtain ⟨s, d, rfl⟩ : ∃ (s : Fin 2048) (d : Fin 1024), i = ix2 s d := ⟨i 0, i 1, eq_ix2 i⟩
    exact Cert.ReferenceInIdeal.InRef.dx_at _ _ _ _ _ P0 P1 P2 P3 W H.hW H.h0 H.h1 H.h2 H.h3 _ X H.hX _ _ G H.hG s d
  · rw [Cert.ReferenceInIdeal.Read.val_main_v57_eq, a0, a2, a3, a4, a5, a6]
    refine Eq.trans ?_ (Cert.KernelInIdeal.Value.final9 m c P0 P1 P2 P3 W X G H).symm
    funext i
    obtain ⟨s, d, rfl⟩ : ∃ (s : Fin 1) (d : Fin 1024), i = ix2 s d := ⟨i 0, i 1, eq_ix2 i⟩
    exact Cert.ReferenceInIdeal.InRef.dg_at _ _ _ _ _ P0 P1 P2 P3 W H.hW H.h0 H.h1 H.h2 H.h3 _ X H.hX s d

end Cert.InProj
end
-- ==== Proof.Shift.lean ====
/- Rows of a two-axis array moved down or up by a constant, as the kernels write them: a rotation of the rows with the wrapped
   rows replaced by a constant; and sums over windows of rows by doubling. -/
module

public import proofs.«01_k».proof.Proof.Reals
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.WordCmp

namespace Cert.Shift

variable {n L : ℕ}

/-- A two-axis array of ideal floats. -/
abbrev Mat (n L : ℕ) := FVec Ideal ⟨2, ![n, L]⟩ .f32

/-- The array holds the real function of its coordinates. -/
def IsReal {φ : FTy} (x : FVec Ideal ⟨2, ![n, L]⟩ φ) (X : ℕ → ℕ → ℝ) : Prop := ∀ (p : Fin n) (q : Fin L), x (ix2 p q) = ((X p q : ℝ) : EReal)

/-- Rows moved down by `s`; the first `s` rows are the constant. -/
def sd (s : ℕ) (fill : Ideal .f32) (hI : (⟨2, ![n, L]⟩ : Shape).Iotas .tc 32 [0]) (hR : (⟨2, ![n, L]⟩ : Shape).Rotates 0 none) (x : Mat n L) : Mat n L :=
  select (cmpi .sge (iota .tc ⟨2, ![n, L]⟩ 32 [0] hI) (broadcast ⟨2, ![n, L]⟩ (BitVec.ofNat 32 s)))
    (dynamicRotate 0 (BitVec.ofNat 32 s) none x hR) (broadcast ⟨2, ![n, L]⟩ fill)

/-- Rows moved up by `n - s`; the rows from `s` on are the constant. -/
def su (s : ℕ) (fill : Ideal .f32) (hI : (⟨2, ![n, L]⟩ : Shape).Iotas .tc 32 [0]) (hR : (⟨2, ![n, L]⟩ : Shape).Rotates 0 none) (x : Mat n L) : Mat n L :=
  select (cmpi .slt (iota .tc ⟨2, ![n, L]⟩ 32 [0] hI) (broadcast ⟨2, ![n, L]⟩ (BitVec.ofNat 32 s)))
    (dynamicRotate 0 (BitVec.ofNat 32 s) none x hR) (broadcast ⟨2, ![n, L]⟩ fill)

theorem sd_apply (hn : n ≤ 2 ^ 30) (s : ℕ) (hs : s < n) (x : Mat n L) (fill : Ideal .f32) (hI hR) (p : Fin n) (q : Fin L) :
    sd s fill hI hR x (ix2 p q) = if h : s ≤ p then x (ix2 ⟨p - s, by omega⟩ q) else fill := by
  have hp := p.isLt
  unfold sd
  pointwise
  rw [cmpi_sge_ofNat (by norm_num; omega) (by norm_num; omega), select_ofBool]
  by_cases h : s ≤ p
  · rw [dif_pos h, if_pos (by simpa using h)]
    congr 1
    funext a
    match a with
    | 0 =>
      apply Fin.ext
      show (↑p + n - (BitVec.ofNat 32 s).toNat % n) % n = p - s
      rw [BitVec.toNat_ofNat, Nat.mod_eq_of_lt (show s < 2 ^ 32 by norm_num; omega), Nat.mod_eq_of_lt hs,
        show ↑p + n - s = (p - s) + n by omega, Nat.add_mod_right, Nat.mod_eq_of_lt (by omega)]
    | 1 => rfl
  · rw [dif_neg h, if_neg (by simpa using h)]

theorem su_apply (hn : n ≤ 2 ^ 30) (s : ℕ) (hs : s < n) (x : Mat n L) (fill : Ideal .f32) (hI hR) (p : Fin n) (q : Fin L) :
    su s fill hI hR x (ix2 p q) = if h : p < s then x (ix2 ⟨p + (n - s), by omega⟩ q) else fill := by
  have hp := p.isLt
  unfold su
  pointwise
  rw [cmpi_slt_ofNat (by norm_num; omega) (by norm_num; omega), select_ofBool]
  by_cases h : p < s
  · rw [dif_pos h, if_pos (by simpa using h)]
    congr 1
    funext a
    match a with
    | 0 =>
      apply Fin.ext
      show (↑p + n - (BitVec.ofNat 32 s).toNat % n) % n = p + (n - s)
      rw [BitVec.toNat_ofNat, Nat.mod_eq_of_lt (show s < 2 ^ 32 by norm_num; omega), Nat.mod_eq_of_lt hs, Nat.mod_eq_of_lt (by omega)]
      omega
    | 1 => rfl
  · rw [dif_neg h, if_neg (by simpa using h)]

theorem sd_real (hn : n ≤ 2 ^ 30) (s : ℕ) (hs : s < n) {x : Mat n L} {fill : Ideal .f32} {hI hR} {X : ℕ → ℕ → ℝ} {c : ℝ} (hx : IsReal x X)
    (hc : fill = ((c : ℝ) : EReal)) : IsReal (sd s fill hI hR x) fun p q => if s ≤ p then X (p - s) q else c := fun p q => by
  rw [sd_apply hn s hs]
  beta_reduce
  by_cases h : s ≤ p
  · rw [dif_pos h, if_pos h]; exact hx _ _
  · rw [dif_neg h, if_neg h, hc]

theorem su_real (hn : n ≤ 2 ^ 30) (s : ℕ) (hs : s < n) {x : Mat n L} {fill : Ideal .f32} {hI hR} {X : ℕ → ℕ → ℝ} {c : ℝ} (hx : IsReal x X)
    (hc : fill = ((c : ℝ) : EReal)) : IsReal (su s fill hI hR x) fun p q => if p < s then X (p + (n - s)) q else c := fun p q => by
  rw [su_apply hn s hs]
  beta_reduce
  by_cases h : p < s
  · rw [dif_pos h, if_pos h]; exact hx _ _
  · rw [dif_neg h, if_neg h, hc]

theorem add_real {x y : Mat n L} {X Y : ℕ → ℕ → ℝ} (hx : IsReal x X) (hy : IsReal y Y) : IsReal (addf x y) fun p q => X p q + Y p q :=
  fun p q => by
    show x (ix2 p q) + y (ix2 p q) = _
    rw [hx p q, hy p q, ← EReal.coe_add]

/-- The sum of the last `w` rows up to row `p`. -/
def back (X : ℕ → ℕ → ℝ) (w p q : ℕ) : ℝ := ∑ j ∈ Finset.range w, if j ≤ p then X (p - j) q else 0

/-- The sum of the next `w` rows from row `p` of `n` rows. -/
def ahead (n : ℕ) (X : ℕ → ℕ → ℝ) (w p q : ℕ) : ℝ := ∑ j ∈ Finset.range w, if p + j < n then X (p + j) q else 0

theorem back_one (X : ℕ → ℕ → ℝ) (p q : ℕ) : back X 1 p q = X p q := by simp [back]

theorem ahead_one (X : ℕ → ℕ → ℝ) {p : ℕ} (q : ℕ) (h : p < n) : ahead n X 1 p q = X p q := by simp [ahead, h]

theorem back_add (X : ℕ → ℕ → ℝ) (s t p q : ℕ) : back X (s + t) p q = back X s p q + if s ≤ p then back X t (p - s) q else 0 := by
  unfold back
  rw [Finset.sum_range_add]
  congr 1
  split_ifs with h
  · refine Finset.sum_congr rfl fun j _ => ?_
    by_cases hj : s + j ≤ p
    · rw [if_pos hj, if_pos (by omega), Nat.sub_sub]
    · rw [if_neg hj, if_neg (by omega)]
  · exact Finset.sum_eq_zero fun j _ => if_neg (by omega)

theorem ahead_add (X : ℕ → ℕ → ℝ) (s t p q : ℕ) : ahead n X (s + t) p q = ahead n X s p q + if p + s < n then ahead n X t (p + s) q else 0 := by
  unfold ahead
  rw [Finset.sum_range_add]
  congr 1
  split_ifs with h
  · refine Finset.sum_congr rfl fun j _ => ?_
    rw [← Nat.add_assoc]
  · exact Finset.sum_eq_zero fun j _ => if_neg (by omega)

theorem back_start {x : Mat n L} {X : ℕ → ℕ → ℝ} (hx : IsReal x X) : IsReal x (back X 1) := fun p q => by rw [hx p q, back_one]

theorem ahead_start {x : Mat n L} {X : ℕ → ℕ → ℝ} (hx : IsReal x X) : IsReal x (ahead n X 1) := fun p q => by rw [hx p q, ahead_one _ _ p.isLt]

theorem back_step (hn : n ≤ 2 ^ 30) (s : ℕ) (hs : s < n) {x : Mat n L} {fill : Ideal .f32} {hI hR} {X : ℕ → ℕ → ℝ}
    (hx : IsReal x (back X s)) (hc : fill = ((0 : ℝ) : EReal)) : IsReal (addf x (sd s fill hI hR x)) (back X (s + s)) := fun p q => by
  rw [add_real hx (sd_real hn s hs hx hc) p q, back_add]

theorem ahead_step (hn : n ≤ 2 ^ 30) (s r : ℕ) (hr : r = n - s) (hs : s < n) (h0 : 0 < s) {x : Mat n L} {fill : Ideal .f32} {hI hR} {X : ℕ → ℕ → ℝ}
    (hx : IsReal x (ahead n X s)) (hc : fill = ((0 : ℝ) : EReal)) : IsReal (addf x (su r fill hI hR x)) (ahead n X (s + s)) := fun p q => by
  subst hr
  rw [add_real hx (su_real hn (n - s) (by omega) hx hc) p q, ahead_add]
  have : n - (n - s) = s := by omega
  rw [this]
  beta_reduce
  congr 1
  by_cases h : (p : ℕ) < n - s
  · rw [if_pos h, if_pos (by omega)]
  · rw [if_neg h, if_neg (by omega)]

theorem lit_zero : (Scalar.ofBits .f32 0x00000000#32 : Ideal .f32) = ((0 : ℝ) : EReal) := by simp [Ideal.ofBits, Ideal.ieee]

/-- The number of rows a window of `w` rows has up to row `p`, as the kernels count it. -/
theorem count_word : ∀ w ∈ [2, 4, 8, 16], ∀ p : Fin 2048,
    (IntOp.minsi (BitVec.ofNat 32 p + 1#32) (BitVec.ofNat 32 w)).toInt = (min ((p : ℕ) + 1) w : ℕ) := by
  decide +kernel
end Cert.Shift
end
-- ==== Proof.WindowSum.lean ====
/- Running sums along the middle axis, as the host's windowed sums write them, over the reals. -/
module

public import proofs.«01_k».proof.Proof.Shift

@[expose] public section

set_option maxRecDepth 16384

noncomputable section

open Idealize.ShloMosaic Idealize.ShloMosaic.TcCoe Idealize.SL.Sem

namespace Cert.Shift

variable {N C : ℕ}

theorem foldl_add {ι : Type} (l : List ι) (f : ι → EReal) (v : EReal) : l.foldl (fun r k => r + f k) v = v + (l.map f).sum := by
  induction l generalizing v with
  | nil => simp
  | cons a l ih => rw [List.foldl_cons, ih, List.map_cons, List.sum_cons, add_assoc]

/-- The windowed sum along the middle axis, with `lo` rows of padding in front. -/
theorem window_sum (lo hi : ℕ) (x : FVec Ideal ⟨3, ![1, N, C]⟩ .f32)
    (h : (⟨3, ![1, N, C]⟩ : Shape).ReduceWindows ![1, N, 1] ![1, 1, 1] ![0, lo, 0] ![0, hi, 0] ⟨3, ![1, N, C]⟩) (u : Fin 1) (p : Fin N) (q : Fin C) :
    Ideal.hostReduceWindowAdd ![1, N, 1] ![1, 1, 1] ![0, lo, 0] ![0, hi, 0] h x 0 (ix3 u p q)
      = ∑ k : Fin N, if hk : lo ≤ p + k ∧ p + k - lo < N then (x (ix3 0 ⟨p + k - lo, hk.2⟩ q) : EReal) else 0 := by
  unfold Ideal.hostReduceWindowAdd Host.reduceWindow
  dsimp only
  rw [foldl_add, zero_add, ← List.ofFn_eq_map, List.sum_ofFn]
  refine (Equiv.sum_comp (⟨3, ![1, N, 1]⟩ : Shape).rowMajor.symm (fun i : (⟨3, ![1, N, 1]⟩ : Shape).Idx =>
    @dite EReal (∀ a : Fin 3, (![0, lo, 0] : Fin 3 → ℕ) a ≤ (ix3 u p q a).val * (![1, 1, 1] : Fin 3 → ℕ) a + (i a).val
      ∧ (ix3 u p q a).val * (![1, 1, 1] : Fin 3 → ℕ) a + (i a).val - (![0, lo, 0] : Fin 3 → ℕ) a < (⟨3, ![1, N, C]⟩ : Shape).size a)
      (Nat.decidableForallFin _)
      (fun hin => x (fun a => ⟨(ix3 u p q a).val * (![1, 1, 1] : Fin 3 → ℕ) a + (i a).val - (![0, lo, 0] : Fin 3 → ℕ) a, (hin a).2⟩))
      fun _ => 0)).trans ?_
  rw [sum_idx3]
  simp only [Fin.sum_univ_one]
  refine Finset.sum_congr rfl fun k _ => ?_
  have hu : u = 0 := Subsingleton.elim _ _
  subst hu
  by_cases hk : lo ≤ p + k ∧ p + k - lo < N
  · have hin : ∀ a : Fin 3, (![0, lo, 0] : Fin 3 → ℕ) a ≤ (ix3 (0 : Fin 1) p q a).val * (![1, 1, 1] : Fin 3 → ℕ) a + (ix3 (0 : Fin 1) k (0 : Fin 1) a).val
        ∧ (ix3 (0 : Fin 1) p q a).val * (![1, 1, 1] : Fin 3 → ℕ) a + (ix3 (0 : Fin 1) k (0 : Fin 1) a).val - (![0, lo, 0] : Fin 3 → ℕ) a
          < (⟨3, ![1, N, C]⟩ : Shape).size a := fun a => by
      match a with
      | ⟨0, _⟩ => exact ⟨Nat.zero_le _, Nat.zero_lt_one⟩
      | ⟨1, _⟩ => show lo ≤ p.val * 1 + k.val ∧ p.val * 1 + k.val - lo < N; omega
      | ⟨2, _⟩ => show 0 ≤ q.val * 1 + 0 ∧ q.val * 1 + 0 - 0 < C; have := q.isLt; omega
    rw [dif_pos hk, dif_pos hin]
    congr 1
    funext a
    match a with
    | ⟨0, _⟩ => rfl
    | ⟨1, _⟩ => exact Fin.ext (show p.val * 1 + k.val - lo = _ by simp)
    | ⟨2, _⟩ => exact Fin.ext (show q.val * 1 + 0 - 0 = _ by simp)
  · rw [dif_neg hk, dif_neg fun hin => hk ?_]
    have := hin 1
    change lo ≤ p.val * 1 + k.val ∧ p.val * 1 + k.val - lo < N at this
    omega

/-- The sum of the rows up to row `p`. -/
def upto (X : ℕ → ℕ → ℝ) (p q : ℕ) : ℝ := ∑ i ∈ Finset.range (p + 1), X i q

theorem upto_sub (X : ℕ → ℕ → ℝ) (w p q : ℕ) (hw : 0 < w) : (upto X p q - if w ≤ p then upto X (p - w) q else 0) = back X w p q := by
  have key : ∀ n, back X (n + 1) n q = upto X n q := fun n => by
    unfold back upto
    rw [← Finset.sum_range_reflect]
    refine Finset.sum_congr rfl fun j hj => ?_
    have := Finset.mem_range.1 hj
    rw [if_pos (by omega)]
    congr 1
    omega
  have over : ∀ t, back X (p + 1 + t) p q = back X (p + 1) p q := fun t => by
    rw [back_add, if_neg (by omega), add_zero]
  by_cases h : w ≤ p
  · rw [if_pos h, ← key p, ← key (p - w), show p + 1 = w + (p - w + 1) by omega, back_add, if_pos h]; ring
  · obtain ⟨t, rfl⟩ : ∃ t, w = p + 1 + t := ⟨w - (p + 1), by omega⟩
    rw [if_neg h, over, key, sub_zero]

/-- The host's windowed sum from a zero start. -/
theorem host_window {S T Z : Shape} (win str lo hi : Fin S.rank → ℕ) (x : FVec Ideal S .f32) (z : FVec Ideal Z .f32) (h : S.ReduceWindows win str lo hi T)
    (hZ) (hz : z (Shape.Idx.first hZ) = (0 : EReal)) (i : T.Idx) :
    Host.reduceWindowAdd (F := Ideal) win str lo hi x z h hZ i = Ideal.hostReduceWindowAdd win str lo hi h x 0 i := by
  show Ideal.hostReduceWindowAdd win str lo hi h x (z (Shape.Idx.first hZ)) i = _
  rw [hz]

/-- The rows' running sum. -/
theorem cumsum_at {x : FVec Ideal ⟨3, ![1, N + 1, C]⟩ .f32} {X : ℕ → ℕ → ℝ} (hx : ∀ (u : Fin 1) (p : Fin (N + 1)) (q : Fin C), x (ix3 u p q) = ((X p q : ℝ) : EReal))
    (h) (u : Fin 1) (p : Fin (N + 1)) (q : Fin C) :
    Ideal.hostReduceWindowAdd ![1, N + 1, 1] ![1, 1, 1] ![0, N, 0] ![0, 0, 0] h x 0 (ix3 u p q) = ((upto X p q : ℝ) : EReal) := by
  have hp := p.isLt
  rw [window_sum]
  have e : ∀ k : Fin (N + 1), (if hk : N ≤ p + k ∧ p + k - N < N + 1 then (x (ix3 0 ⟨p + k - N, hk.2⟩ q) : EReal) else 0)
      = (((if N ≤ p + k.val then X (p + k - N) q else 0 : ℝ)) : EReal) := fun k => by
    have := k.isLt
    by_cases hk : N ≤ p + k.val
    · rw [dif_pos ⟨hk, by omega⟩, if_pos hk, hx]
    · rw [dif_neg (fun h => hk h.1), if_neg hk]; rfl
  simp only [e, Cert.Reals.coe_sum]
  congr 1
  generalize p.val = p' at hp
  rw [Fin.sum_univ_eq_sum_range (fun k => if N ≤ p' + k then X (p' + k - N) q else 0) (N + 1), show N + 1 = (N - p') + (p' + 1) by omega,
    Finset.sum_range_add, Finset.sum_eq_zero, zero_add]
  · unfold upto
    refine Finset.sum_congr rfl fun j hj => ?_
    rw [if_pos (by omega)]
    congr 1
    omega
  · intro j hj
    have := Finset.mem_range.1 hj
    rw [if_neg (by omega)]

/-- The running sum from the last row. -/
theorem cumsum_rev_at {x : FVec Ideal ⟨3, ![1, N + 1, C]⟩ .f32} {X : ℕ → ℕ → ℝ} (hx : ∀ (u : Fin 1) (p : Fin (N + 1)) (q : Fin C), x (ix3 u p q) = ((X p q : ℝ) : EReal))
    (h) (u : Fin 1) (p : Fin (N + 1)) (q : Fin C) :
    Ideal.hostReduceWindowAdd ![1, N + 1, 1] ![1, 1, 1] ![0, 0, 0] ![0, N, 0] h x 0 (ix3 u p q) = ((ahead (N + 1) X (N + 1) p q : ℝ) : EReal) := by
  rw [window_sum]
  have e : ∀ k : Fin (N + 1), (if hk : 0 ≤ p.val + k ∧ p + k - 0 < N + 1 then (x (ix3 0 ⟨p + k - 0, hk.2⟩ q) : EReal) else 0)
      = (((if p + k.val < N + 1 then X (p + k) q else 0 : ℝ)) : EReal) := fun k => by
    by_cases hk : p + k.val < N + 1
    · rw [dif_pos ⟨Nat.zero_le _, hk⟩, if_pos hk, hx]; rfl
    · rw [dif_neg (fun h => hk h.2), if_neg hk]; rfl
  simp only [e, Cert.Reals.coe_sum]
  congr 1
  exact Fin.sum_univ_eq_sum_range (fun k => if p + k < N + 1 then X (p + k) q else 0) (N + 1)

/-- The running sum from the last row, of rows less the rows `w` further down, is the sum of the next `w` rows. -/
theorem ahead_sub (X : ℕ → ℕ → ℝ) (w p q : ℕ) : ahead N (fun r i => X r i - if r + w < N then X (r + w) i else 0) N p q = ahead N X w p q := by
  have h1 : ahead N (fun r i => X r i - if r + w < N then X (r + w) i else 0) N p q
      = ahead N X N p q - if p + w < N then ahead N X N (p + w) q else 0 := by
    unfold ahead
    split_ifs with h
    · rw [← Finset.sum_sub_distrib]
      refine Finset.sum_congr rfl fun j _ => ?_
      by_cases hj : p + j < N
      · rw [if_pos hj, if_pos hj, show p + w + j = p + j + w by omega]
      · rw [if_neg hj, if_neg hj, if_neg (by omega), sub_zero]
    · rw [sub_zero]
      refine Finset.sum_congr rfl fun j _ => ?_
      by_cases hj : p + j < N
      · rw [if_pos hj, if_pos hj]
        beta_reduce
        rw [if_neg (by omega), sub_zero]
      · rw [if_neg hj, if_neg hj]
  have h2 : ahead N X (N + w) p q = ahead N X N p q := by rw [ahead_add, if_neg (by omega), add_zero]
  rw [h1, ← h2, Nat.add_comm N w, ahead_add]
  ring

end Cert.Shift
end
-- ==== Proof.PoolPay.lean ====
/- What the pooling gradient's body computes of one group of 128 columns, over the reals. -/
module

public import proofs.«01_k».proof.Proof.Gen.KernelPoolIdeal.Frame
public import proofs.«01_k».proof.Proof.Shift

@[expose] public section

set_option maxRecDepth 16384

noncomputable section

open Idealize.ShloMosaic Idealize.ShloMosaic.TcCoe Idealize.SL.Sem

namespace Cert.Pool

/-- The number of rows in the window of `w` rows that ends at row `p`. -/
def cnt (w p : ℕ) : ℝ := (min (p + 1) w : ℕ)

theorem cnt_pos {w : ℕ} (hw : 0 < w) (p : ℕ) : 0 < cnt w p := by unfold cnt; exact_mod_cast (by omega : 0 < min (p + 1) w)

/-- The mean over the window less the row itself. -/
def pooled (w : ℕ) (X : ℕ → ℕ → ℝ) (p q : ℕ) : ℝ := Shift.back X w p q / cnt w p - X p q

/-- The scale's gradient: the cotangent against the pooled rows through the weights, summed over the rows. -/
def dsc (w : ℕ) (X Wt dY : ℕ → ℕ → ℝ) (q : ℕ) : ℝ := ∑ p : Fin 2048, dY p q * ∑ k : Fin 128, pooled w X p k * Wt k q

/-- The weights' gradient. -/
def dw (w : ℕ) (X dY : ℕ → ℕ → ℝ) (S : ℕ → ℝ) (i j : ℕ) : ℝ := ∑ p : Fin 2048, pooled w X p i * (dY p j * S j)

/-- The cotangent of the pooled rows. -/
def dp (Wt dY : ℕ → ℕ → ℝ) (S : ℕ → ℝ) (p i : ℕ) : ℝ := ∑ j : Fin 128, dY p j * S j * Wt i j

/-- The cotangent of the rows: over the windows each row lies in, less the row's own. -/
def dx (w : ℕ) (Wt dY : ℕ → ℕ → ℝ) (S : ℕ → ℝ) (p i : ℕ) : ℝ :=
  Shift.ahead 2048 (fun r i => dp Wt dY S r i / cnt w r) w p i - dp Wt dY S p i

end Cert.Pool

namespace Cert.KernelPoolIdeal.Value

open Cert.KernelPoolIdeal Cert.KernelPoolIdeal.Gen Cert.Reals Cert.Pool Cert.Shift

theorem count_real {w : ℕ} (hw : w ∈ [2, 4, 8, 16]) (p : ℕ) (hp : p < 2048) :
    (((IntOp.minsi (IntOp.addi (BitVec.ofNat 32 p) 1#32) (BitVec.ofNat 32 w)).toInt : ℝ) : EReal) = ((cnt w p : ℝ) : EReal) := by
  have := count_word w hw ⟨p, hp⟩
  show (((IntOp.minsi (BitVec.ofNat 32 p + 1#32) (BitVec.ofNat 32 w)).toInt : ℝ) : EReal) = _
  rw [this]; simp [cnt]

theorem cnt2 : IsReal (k0_pay2 (F := Ideal)) fun p _ => cnt 2 p := fun p q => by
  pointwise [k0_pay2]; exact count_real (by decide) p p.isLt
theorem cnt4 : IsReal (k0_pay9 (F := Ideal)) fun p _ => cnt 4 p := fun p q => by
  pointwise [k0_pay9]; exact count_real (by decide) p p.isLt
theorem cnt8 : IsReal (k0_pay17 (F := Ideal)) fun p _ => cnt 8 p := fun p q => by
  pointwise [k0_pay17]; exact count_real (by decide) p p.isLt
theorem cnt16 : IsReal (k0_pay26 (F := Ideal)) fun p _ => cnt 16 p := fun p q => by
  pointwise [k0_pay26]; exact count_real (by decide) p p.isLt

/-- A window's sum over its count. -/
theorem div_real {w : ℕ} (hw : 0 < w) {y : FVec Ideal S2048x128 .f32} {c : FVec Ideal S2048x1 .f32} {Y : ℕ → ℕ → ℝ}
    (hy : IsReal y Y) (hc : IsReal c fun p _ => cnt w p) :
    IsReal (divf y (broadcastTo S2048x128 c broadcasts_S2048x1_S2048x128)) fun p q => Y p q / cnt w p := fun p q => by
  pointwise
  erw [hy p q, hc p 0]
  exact coe_div _ (cnt_pos hw p).ne'

theorem sub_real {x y : FVec Ideal S2048x128 .f32} {X Y : ℕ → ℕ → ℝ} (hx : IsReal x X) (hy : IsReal y Y) :
    IsReal (truncf .bf16 (subf x y) bitsLt_bf16_f32) fun p q => X p q - Y p q := fun p q => by
  pointwise
  rw [hx p q, hy p q, ← EReal.coe_sub]

variable {x dy : FVec Ideal S2048x128 .f32} {wt : FVec Ideal S1x128x128 .bf16} {sc : FVec Ideal S1x128 .f32}
  {X dY Wt : ℕ → ℕ → ℝ} {S : ℕ → ℝ}

theorem pool2 (hx : IsReal x X) : IsReal (k0_pay3 x) (pooled 2 X) :=
  sub_real (div_real (by decide) (back_step (by decide) 1 (by decide) (back_start hx) lit_zero) cnt2) hx

theorem pool4 (hx : IsReal x X) : IsReal (k0_pay10 x) (pooled 4 X) :=
  sub_real (div_real (by decide) (back_step (by decide) 2 (by decide) (back_step (by decide) 1 (by decide) (back_start hx) lit_zero) lit_zero) cnt4) hx

theorem pool8 (hx : IsReal x X) : IsReal (k0_pay18 x) (pooled 8 X) :=
  sub_real (div_real (by decide) (back_step (by decide) 4 (by decide) (back_step (by decide) 2 (by decide)
    (back_step (by decide) 1 (by decide) (back_start hx) lit_zero) lit_zero) lit_zero) cnt8) hx

theorem pool16 (hx : IsReal x X) : IsReal (k0_pay28 x (k0_pay27 x)) (pooled 16 X) :=
  sub_real (div_real (by decide) (back_step (by decide) 8 (by decide) (back_step (by decide) 4 (by decide) (back_step (by decide) 2 (by decide)
    (back_step (by decide) 1 (by decide) (back_start hx) lit_zero) lit_zero) lit_zero) lit_zero) cnt16) hx

/-- The weights' block without its leading axis. -/
theorem cast_wt (hw : ∀ (p q : Fin 128), wt (ix3 0 p q) = ((Wt p q : ℝ) : EReal)) : IsReal (k0_pay4 wt) Wt := fun p q => by
  pointwise [k0_pay4]
  exact hw p q

theorem colsum_real {a b : FVec Ideal S2048x128 .f32} {A B : ℕ → ℕ → ℝ} (ha : IsReal a A) (hb : IsReal b B) (u : Fin 1) (q : Fin 128) :
    k0_pay21 a b (ix2 u q) = ((∑ p : Fin 2048, A p q * B p q : ℝ) : EReal) := by
  pointwise [k0_pay21]
  simp only [ha _ _, hb _ _, ← EReal.coe_mul, coe_sum]

/-- The scale's gradient from the pooled rows. -/
theorem dsc_real {w : ℕ} {pl : FVec Ideal S2048x128 .bf16} (hp : IsReal pl (pooled w X)) (hd : IsReal dy dY)
    (hw : ∀ (p q : Fin 128), wt (ix3 0 p q) = ((Wt p q : ℝ) : EReal)) (u : Fin 1) (q : Fin 128) :
    k0_pay12 pl wt dy (ix2 u q) = ((Pool.dsc w X Wt dY q : ℝ) : EReal) := by
  refine colsum_real hd (B := fun p q => ∑ k : Fin 128, pooled w X p k * Wt k q) (fun p q => ?_) u q
  pointwise [k0_pay11]
  simp only [hp _ _, hw _ _, ← EReal.coe_mul, coe_sum]

theorem dyp_real (hd : IsReal dy dY) (hs : ∀ (u : Fin 1) (q : Fin 128), sc (ix2 u q) = ((S q : ℝ) : EReal)) :
    IsReal (k0_pay6 dy sc) fun p q => dY p q * S q := fun p q => by
  pointwise [k0_pay6]
  rw [hd p q, hs 0 q, ← EReal.coe_mul]

/-- The weights' gradient from the pooled rows. -/
theorem dw_real {w : ℕ} {pl : FVec Ideal S2048x128 .bf16} (hp : IsReal pl (pooled w X)) (hd : IsReal dy dY)
    (hs : ∀ (u : Fin 1) (q : Fin 128), sc (ix2 u q) = ((S q : ℝ) : EReal)) (u : Fin 1) (i j : Fin 128) :
    k0_pay14 pl dy sc (ix3 u i j) = ((Pool.dw w X dY S i j : ℝ) : EReal) := by
  have h := dyp_real hd hs
  pointwise [k0_pay14]
  have h' : ∀ (p : Fin 2048) (q : Fin 128), k0_pay13 (F := Ideal) dy sc (ix2 p q) = ((dY p q * S q : ℝ) : EReal) := h
  simp only [hp _ _, h', ← EReal.coe_mul, coe_sum]
  rfl

/-- The pooled rows' cotangent. -/
theorem dp_real (hd : IsReal dy dY) (hs : ∀ (u : Fin 1) (q : Fin 128), sc (ix2 u q) = ((S q : ℝ) : EReal))
    (hw : ∀ (p q : Fin 128), wt (ix3 0 p q) = ((Wt p q : ℝ) : EReal)) : IsReal (k0_pay33 wt dy sc) (dp Wt dY S) := fun p q => by
  have h := dyp_real hd hs
  pointwise [k0_pay33, k0_pay29]
  have h' : ∀ (p : Fin 2048) (q : Fin 128), k0_pay31 (F := Ideal) dy sc (ix2 p q) = ((dY p q * S q : ℝ) : EReal) := h
  simp only [hw _ _, h', ← EReal.coe_mul, coe_sum]
  rfl

theorem cast_self {y : FVec Ideal S2048x128 .bf16} {Y : ℕ → ℕ → ℝ} (hy : IsReal y Y) :
    IsReal (shapeCast S2048x128 y shapeCasts_S2048x128_S2048x128) Y := by
  rw [shapeCast_self]; exact hy

section
variable (hd : IsReal dy dY) (hs : ∀ (u : Fin 1) (q : Fin 128), sc (ix2 u q) = ((S q : ℝ) : EReal))
    (hw : ∀ (p q : Fin 128), wt (ix3 0 p q) = ((Wt p q : ℝ) : EReal))
include hd hs hw

theorem dx2 : IsReal (k0_pay8 k0_pay2 (k0_pay4 wt) (k0_pay6 dy sc)) (Pool.dx 2 Wt dY S) :=
  cast_self (sub_real (ahead_step (by decide) 1 2047 rfl (by decide) (by decide) (ahead_start (div_real (by decide) (dp_real hd hs hw) cnt2)) lit_zero) (dp_real hd hs hw))

theorem dx4 : IsReal (k0_pay16 (k0_pay15 k0_pay9 wt dy sc)) (Pool.dx 4 Wt dY S) :=
  cast_self (sub_real (ahead_step (by decide) 2 2046 rfl (by decide) (by decide)
    (ahead_step (by decide) 1 2047 rfl (by decide) (by decide) (ahead_start (div_real (by decide) (dp_real hd hs hw) cnt4)) lit_zero) lit_zero) (dp_real hd hs hw))

theorem dx8 : IsReal (k0_pay25 (k0_pay24 k0_pay17 (k0_pay19 wt) dy sc)) (Pool.dx 8 Wt dY S) :=
  cast_self (sub_real (ahead_step (by decide) 4 2044 rfl (by decide) (by decide) (ahead_step (by decide) 2 2046 rfl (by decide) (by decide)
    (ahead_step (by decide) 1 2047 rfl (by decide) (by decide) (ahead_start (div_real (by decide) (dp_real hd hs hw) cnt8)) lit_zero) lit_zero) lit_zero) (dp_real hd hs hw))

theorem dx16 : IsReal (k0_pay1 (k0_pay33 wt dy sc) (k0_pay34 k0_pay26 wt dy sc) (k0_pay35 k0_pay26 wt dy sc)) (Pool.dx 16 Wt dY S) :=
  cast_self (sub_real (ahead_step (by decide) 8 2040 rfl (by decide) (by decide) (ahead_step (by decide) 4 2044 rfl (by decide) (by decide)
    (ahead_step (by decide) 2 2046 rfl (by decide) (by decide)
    (ahead_step (by decide) 1 2047 rfl (by decide) (by decide) (ahead_start (div_real (by decide) (dp_real hd hs hw) cnt16)) lit_zero) lit_zero) lit_zero) lit_zero) (dp_real hd hs hw))

end

end Cert.KernelPoolIdeal.Value

end
-- ==== Proof.PoolKernel.lean ====
/- What the three result arrays of the pooling mixer's gradient hold after the run. -/
module

public import proofs.«01_k».proof.Proof.PoolPay

@[expose] public section

set_option maxRecDepth 16384

noncomputable section

open Idealize.ShloMosaic Idealize.ShloMosaic.TcCoe Idealize.SL.Sem
open Idealize.ShloMosaic.Pipeline (Dat)

namespace Cert.Pool

/-- The window of the group that column `c` lies in. -/
def win (c : ℕ) : ℕ := if c < 128 then 2 else if c < 256 then 4 else if c < 384 then 8 else 16

/-- The columns of the group that starts at column `o`. -/
def cols (X : ℕ → ℕ → ℝ) (o : ℕ) (p q : ℕ) : ℝ := X p (o + q)

/-- The rows' gradient. -/
def gx (dY : ℕ → ℕ → ℝ) (Wt : ℕ → ℕ → ℕ → ℝ) (S : ℕ → ℝ) (p c : ℕ) : ℝ :=
  dx (win c) (Wt (c / 128)) (cols dY (c / 128 * 128)) (fun q => S (c / 128 * 128 + q)) p (c % 128)

/-- The weights' gradient. -/
def gw (X dY : ℕ → ℕ → ℝ) (S : ℕ → ℝ) (g i j : ℕ) : ℝ :=
  dw (win (g * 128)) (cols X (g * 128)) (cols dY (g * 128)) (fun q => S (g * 128 + q)) i j

/-- The scale's gradient. -/
def gs (X dY : ℕ → ℕ → ℝ) (Wt : ℕ → ℕ → ℕ → ℝ) (c : ℕ) : ℝ :=
  dsc (win c) (cols X (c / 128 * 128)) (Wt (c / 128)) (cols dY (c / 128 * 128)) (c % 128)

theorem win_add (g : ℕ) {q : ℕ} (hq : q < 128) : win (g * 128 + q) = win (g * 128) := by
  unfold win; split_ifs <;> first | rfl | omega

theorem gx_add (dY : ℕ → ℕ → ℝ) (Wt : ℕ → ℕ → ℕ → ℝ) (S : ℕ → ℝ) (g p : ℕ) {q : ℕ} (hq : q < 128) :
    gx dY Wt S p (g * 128 + q) = dx (win (g * 128)) (Wt g) (cols dY (g * 128)) (fun q => S (g * 128 + q)) p q := by
  unfold gx; rw [win_add g hq, show (g * 128 + q) / 128 = g by omega, show (g * 128 + q) % 128 = q by omega]

theorem gs_add (X dY : ℕ → ℕ → ℝ) (Wt : ℕ → ℕ → ℕ → ℝ) (g : ℕ) {q : ℕ} (hq : q < 128) :
    gs X dY Wt (g * 128 + q) = dsc (win (g * 128)) (cols X (g * 128)) (Wt g) (cols dY (g * 128)) q := by
  unfold gs; rw [win_add g hq, show (g * 128 + q) / 128 = g by omega, show (g * 128 + q) % 128 = q by omega]

end Cert.Pool

namespace Cert.KernelPoolIdeal.Value

open Cert.KernelPoolIdeal Cert.KernelPoolIdeal.Gen Cert.Reals Cert.Pool Cert.Shift

theorem ld_cols (o : ℕ) (x : Vec Ideal S2048x512 .f32) (h : ∀ a, (![0, o] : Fin 2 → Nat) a + S2048x128.size a ≤ S2048x512.size a) (Y : ℕ → ℕ → ℝ)
    (a : ∀ (p : Fin 2048) (q : Fin 512), x (ix2 p q) = ((Y p q : ℝ) : EReal)) :
    IsReal (φ := .f32) (View.ld x (Rect.unit (s := S2048x512) ![0, o] S2048x128.size h)) (cols Y o) := fun p q => by
  have ho : o + 128 ≤ 512 := h 1
  refine Eq.trans ?_ (a p ⟨o + q, by omega⟩)
  pointwise
  blk_ext

theorem ld_wt (g : ℕ) (x : Vec Ideal S4x128x128 .bf16) (h : ∀ a, (![g, 0, 0] : Fin 3 → Nat) a + S1x128x128.size a ≤ S4x128x128.size a) (Wt : ℕ → ℕ → ℕ → ℝ)
    (a : ∀ (g : Fin 4) (i j : Fin 128), x (ix3 g i j) = ((Wt g i j : ℝ) : EReal)) (p q : Fin 128) :
    View.ld x (Rect.unit (s := S4x128x128) ![g, 0, 0] S1x128x128.size h) (ix3 0 p q) = ((Wt g p q : ℝ) : EReal) := by
  have hg : g + 1 ≤ 4 := h 0
  refine Eq.trans ?_ (a ⟨g, by omega⟩ p q)
  pointwise
  blk_ext

theorem ld_sc (o : ℕ) (x : Vec Ideal S1x512 .f32) (h : ∀ a, (![0, o] : Fin 2 → Nat) a + S1x128.size a ≤ S1x512.size a) (S : ℕ → ℝ)
    (a : ∀ (u : Fin 1) (q : Fin 512), x (ix2 u q) = ((S q : ℝ) : EReal)) (u : Fin 1) (q : Fin 128) :
    View.ld x (Rect.unit (s := S1x512) ![0, o] S1x128.size h) (ix2 u q) = ((S (o + q) : ℝ) : EReal) := by
  have ho : o + 128 ≤ 512 := h 1
  refine Eq.trans ?_ (a u ⟨o + q, by omega⟩)
  pointwise
  blk_ext

section pieces
variable (x0 x1 : Vec Ideal S2048x512 .f32) (x2 : Vec Ideal S4x128x128 .bf16) (x3 : Vec Ideal S1x512 .f32)
  (X dY : ℕ → ℕ → ℝ) (Wt : ℕ → ℕ → ℕ → ℝ) (S : ℕ → ℝ)
  (a0 : ∀ (p : Fin 2048) (q : Fin 512), x0 (ix2 p q) = ((X p q : ℝ) : EReal))
  (a1 : ∀ (p : Fin 2048) (q : Fin 512), x1 (ix2 p q) = ((dY p q : ℝ) : EReal))
  (a2 : ∀ (g : Fin 4) (i j : Fin 128), x2 (ix3 g i j) = ((Wt g i j : ℝ) : EReal))
  (a3 : ∀ (u : Fin 1) (q : Fin 512), x3 (ix2 u q) = ((S q : ℝ) : EReal))

include a1 a2 a3 in
theorem out4_at (p : Fin 2048) (c : Fin 512) : out0_4 x0 x1 x2 x3 (ix2 p c) = ((gx dY Wt S p c : ℝ) : EReal) := by
  unfold_out out0_4
  canon_tiles x h
  all_goals
    rw [eq_ix2 x]
    change (p : ℕ) = _ at h0
    change (c : ℕ) = _ at h1
  · refine (dx16 (S := fun q => S (384 + q)) (ld_cols 384 x1 _ dY a1) (ld_sc 384 x3 _ S a3) (ld_wt 3 x2 _ Wt a2) (x 0) (x 1)).trans ?_
    rw [show (c : ℕ) = 3 * 128 + (x 1).val by omega, show (p : ℕ) = (x 0).val by omega]
    exact congrArg _ (gx_add dY Wt S 3 _ x1_lt).symm
  · refine (dx8 (S := fun q => S (256 + q)) (ld_cols 256 x1 _ dY a1) (ld_sc 256 x3 _ S a3) (ld_wt 2 x2 _ Wt a2) (x 0) (x 1)).trans ?_
    rw [show (c : ℕ) = 2 * 128 + (x 1).val by omega, show (p : ℕ) = (x 0).val by omega]
    exact congrArg _ (gx_add dY Wt S 2 _ x1_lt).symm
  · refine (dx4 (S := fun q => S (128 + q)) (ld_cols 128 x1 _ dY a1) (ld_sc 128 x3 _ S a3) (ld_wt 1 x2 _ Wt a2) (x 0) (x 1)).trans ?_
    rw [show (c : ℕ) = 1 * 128 + (x 1).val by omega, show (p : ℕ) = (x 0).val by omega]
    exact congrArg _ (gx_add dY Wt S 1 _ x1_lt).symm
  · refine (dx2 (S := fun q => S (0 + q)) (ld_cols 0 x1 _ dY a1) (ld_sc 0 x3 _ S a3) (ld_wt 0 x2 _ Wt a2) (x 0) (x 1)).trans ?_
    rw [show (c : ℕ) = 0 * 128 + (x 1).val by omega, show (p : ℕ) = (x 0).val by omega]
    exact congrArg _ (gx_add dY Wt S 0 _ x1_lt).symm

include a0 a1 a3 in
theorem out5_at (g : Fin 4) (i j : Fin 128) : out0_5 x0 x1 x2 x3 (ix3 g i j) = ((gw X dY S g i j : ℝ) : EReal) := by
  unfold_out out0_5
  canon_tiles x h
  all_goals
    rw [eq_ix3 x]
    change (g : ℕ) = _ at h0
    change (i : ℕ) = _ at h1
    change (j : ℕ) = _ at h2
  · refine (dw_real (S := fun q => S (384 + q)) (pool16 (ld_cols 384 x0 _ X a0)) (ld_cols 384 x1 _ dY a1) (ld_sc 384 x3 _ S a3) (x 0) (x 1) (x 2)).trans ?_
    rw [show (g : ℕ) = 3 by omega, show (i : ℕ) = (x 1).val by omega, show (j : ℕ) = (x 2).val by omega]; rfl
  · refine (dw_real (S := fun q => S (256 + q)) (pool8 (ld_cols 256 x0 _ X a0)) (ld_cols 256 x1 _ dY a1) (ld_sc 256 x3 _ S a3) (x 0) (x 1) (x 2)).trans ?_
    rw [show (g : ℕ) = 2 by omega, show (i : ℕ) = (x 1).val by omega, show (j : ℕ) = (x 2).val by omega]; rfl
  · refine (dw_real (S := fun q => S (128 + q)) (pool4 (ld_cols 128 x0 _ X a0)) (ld_cols 128 x1 _ dY a1) (ld_sc 128 x3 _ S a3) (x 0) (x 1) (x 2)).trans ?_
    rw [show (g : ℕ) = 1 by omega, show (i : ℕ) = (x 1).val by omega, show (j : ℕ) = (x 2).val by omega]; rfl
  · refine (dw_real (S := fun q => S (0 + q)) (pool2 (ld_cols 0 x0 _ X a0)) (ld_cols 0 x1 _ dY a1) (ld_sc 0 x3 _ S a3) (x 0) (x 1) (x 2)).trans ?_
    rw [show (g : ℕ) = 0 by omega, show (i : ℕ) = (x 1).val by omega, show (j : ℕ) = (x 2).val by omega]; rfl

include a0 a1 a2 in
theorem out6_at (u : Fin 1) (c : Fin 512) : out0_6 x0 x1 x2 x3 (ix2 u c) = ((gs X dY Wt c : ℝ) : EReal) := by
  unfold_out out0_6
  canon_tiles x h
  all_goals
    rw [eq_ix2 x]
    change (c : ℕ) = _ at h1
  · refine (dsc_real (pool16 (ld_cols 384 x0 _ X a0)) (ld_cols 384 x1 _ dY a1) (ld_wt 3 x2 _ Wt a2) (x 0) (x 1)).trans ?_
    rw [show (c : ℕ) = 3 * 128 + (x 1).val by omega]
    exact congrArg _ (gs_add X dY Wt 3 x1_lt).symm
  · refine (dsc_real (pool8 (ld_cols 256 x0 _ X a0)) (ld_cols 256 x1 _ dY a1) (ld_wt 2 x2 _ Wt a2) (x 0) (x 1)).trans ?_
    rw [show (c : ℕ) = 2 * 128 + (x 1).val by omega]
    exact congrArg _ (gs_add X dY Wt 2 x1_lt).symm
  · refine (dsc_real (pool4 (ld_cols 128 x0 _ X a0)) (ld_cols 128 x1 _ dY a1) (ld_wt 1 x2 _ Wt a2) (x 0) (x 1)).trans ?_
    rw [show (c : ℕ) = 1 * 128 + (x 1).val by omega]
    exact congrArg _ (gs_add X dY Wt 1 x1_lt).symm
  · refine (dsc_real (pool2 (ld_cols 0 x0 _ X a0)) (ld_cols 0 x1 _ dY a1) (ld_wt 0 x2 _ Wt a2) (x 0) (x 1)).trans ?_
    rw [show (c : ℕ) = 0 * 128 + (x 1).val by omega]
    exact congrArg _ (gs_add X dY Wt 0 x1_lt).symm

end pieces

theorem idx : ∀ t : Fin cfg0.N, win0_0.index t = ![0, 4] ∧ win0_1.index t = ![0, 0] ∧ win0_2.index t = ![0, 0, 0]
    ∧ win0_3.index t = ![0, 0] ∧ win0_4.index t = ![0, 0] ∧ win0_5.index t = ![0, 0, 0] ∧ win0_6.index t = ![0, 0] :=
  (by decide +kernel : ∀ t : Fin grid0.N, _)

variable (m : (ℓ : Loc nD τ sig) → Buf (Elt Ideal) ℓ) (c : Dev nD)
  (X dY : ℕ → ℕ → ℝ) (Wt : ℕ → ℕ → ℕ → ℝ) (S : ℕ → ℝ)

/-- The argument arrays are the images of real ones. -/
structure Args : Prop where
  hX : ∀ (p : Fin 2048) (q : Fin 4608), (m ((c : Thread nD τ).loc main_arg0) : FVec Ideal S2048x4608 .f32) (ix2 p q) = ((X p q : ℝ) : EReal)
  hD : ∀ (p : Fin 2048) (q : Fin 512), (m ((c : Thread nD τ).loc main_arg1) : FVec Ideal S2048x512 .f32) (ix2 p q) = ((dY p q : ℝ) : EReal)
  hW : ∀ (u : Fin 1) (g : Fin 4) (i j : Fin 128), (m ((c : Thread nD τ).loc main_arg2) : FVec Ideal S1x4x128x128 .f32) (ix4 u g i j) = ((Wt g i j : ℝ) : EReal)
  hS : ∀ (u : Fin 1) (q : Fin 512), (m ((c : Thread nD τ).loc main_arg3) : FVec Ideal S1x512 .f32) (ix2 u q) = ((S q : ℝ) : EReal)

variable (H : Args m c X dY Wt S)
include H

theorem b0 (t : Fin cfg0.N) (p : Fin 2048) (q : Fin 512) : (iblk m c 0 t : Vec Ideal S2048x512 .f32) (ix2 p q) = ((cols X 2048 p q : ℝ) : EReal) := by
  refine Eq.trans ?_ (H.hX p ⟨2048 + q, by omega⟩)
  blk_ext [iblk, V, idx t]

theorem b1 (t : Fin cfg0.N) (p : Fin 2048) (q : Fin 512) : (iblk m c 1 t : Vec Ideal S2048x512 .f32) (ix2 p q) = ((dY p q : ℝ) : EReal) := by
  refine Eq.trans ?_ (H.hD p q)
  blk_ext [iblk, V, idx t]

theorem b2 (t : Fin cfg0.N) (g : Fin 4) (i j : Fin 128) : (iblk m c 2 t : Vec Ideal S4x128x128 .bf16) (ix3 g i j) = ((Wt g i j : ℝ) : EReal) := by
  refine Eq.trans ?_ (H.hW 0 g i j)
  blk_simp [iblk, idx t]
  entry_read
  pointwise
  blk_ext [V, idx t]

theorem b3 (t : Fin cfg0.N) (u : Fin 1) (q : Fin 512) : (iblk m c 3 t : Vec Ideal S1x512 .f32) (ix2 u q) = ((S q : ℝ) : EReal) := by
  refine Eq.trans ?_ (H.hS u q)
  blk_ext [iblk, V, idx t]

theorem final4 : (dats m 0 c).arrAt 4 (cfgs 0).N = (fun i => ((gx dY Wt S (i 0).val (i 1).val : ℝ) : EReal) : FVec Ideal S2048x512 .bf16) := by
  refine (dats m 0 c).arrAt_eq_of_after_last 4 t0_0 (by decide +kernel) _ fun y => ?_
  blk_simp
  rw [after0_4]
  exact (congrArg (out0_4 _ _ _ _) (ix2_eta y).symm).trans
    (out4_at _ _ _ _ dY Wt S (b1 m c X dY Wt S H _) (b2 m c X dY Wt S H _) (b3 m c X dY Wt S H _) (y 0) (y 1))

theorem final5 : (dats m 0 c).arrAt 5 (cfgs 0).N
    = (fun i => ((gw (cols X 2048) dY S (i 0).val (i 1).val (i 2).val : ℝ) : EReal) : FVec Ideal S4x128x128 .f32) := by
  refine (dats m 0 c).arrAt_eq_of_after_last 5 t0_0 (by decide +kernel) _ fun y => ?_
  blk_simp
  rw [after0_5]
  exact (congrArg (out0_5 _ _ _ _) (ix3_eta y).symm).trans
    (out5_at _ _ _ _ (cols X 2048) dY S (b0 m c X dY Wt S H _) (b1 m c X dY Wt S H _) (b3 m c X dY Wt S H _) (y 0) (y 1) (y 2))

theorem final6 : (dats m 0 c).arrAt 6 (cfgs 0).N = (fun i => ((gs (cols X 2048) dY Wt (i 1).val : ℝ) : EReal) : FVec Ideal S1x512 .f32) := by
  refine (dats m 0 c).arrAt_eq_of_after_last 6 t0_0 (by decide +kernel) _ fun y => ?_
  blk_simp
  rw [after0_6]
  exact (congrArg (out0_6 _ _ _ _) (ix2_eta y).symm).trans
    (out6_at _ _ _ _ (cols X 2048) dY Wt (b0 m c X dY Wt S H _) (b1 m c X dY Wt S H _) (b2 m c X dY Wt S H _) (y 0) (y 1))

end Cert.KernelPoolIdeal.Value
end
-- ==== Proof.PoolRef.lean ====
/- What the reference of the pooling mixer's gradient computes, over the reals. -/
module

public import proofs.«01_k».proof.Proof.Gen.ReferencePoolIdeal.Read
public import proofs.«01_k».proof.Proof.WindowSum
public import proofs.«01_k».proof.Proof.PoolKernel

@[expose] public section

set_option maxRecDepth 16384

noncomputable section

open Idealize.ShloMosaic Idealize.ShloMosaic.TcCoe Idealize.SL.Sem

namespace Cert.ReferencePoolIdeal.PoolRef

open Cert.ReferencePoolIdeal Cert.ReferencePoolIdeal.Gen Cert.ReferencePoolIdeal.Read Cert.Reals Cert.Pool Cert.Shift

theorem lit_0 : Ideal.ofBits .f32 0x00000000#32 = ((0 : ℝ) : EReal) := by simp [Ideal.ofBits, Ideal.ieee]
theorem lit_1 : Ideal.ofBits .f32 0x3F800000#32 = ((1 : ℝ) : EReal) := by
  simp [Ideal.ofBits, Ideal.ieee, -EReal.coe_mul, -EReal.coe_neg]; try norm_num
theorem lit_2 : Ideal.ofBits .f32 0x40000000#32 = ((2 : ℝ) : EReal) := by
  simp [Ideal.ofBits, Ideal.ieee, -EReal.coe_mul, -EReal.coe_neg]; try norm_num
theorem lit_4 : Ideal.ofBits .f32 0x40800000#32 = ((4 : ℝ) : EReal) := by
  simp [Ideal.ofBits, Ideal.ieee, -EReal.coe_mul, -EReal.coe_neg]; try norm_num
theorem lit_8 : Ideal.ofBits .f32 0x41000000#32 = ((8 : ℝ) : EReal) := by
  simp [Ideal.ofBits, Ideal.ieee, -EReal.coe_mul, -EReal.coe_neg]; try norm_num
theorem lit_16 : Ideal.ofBits .f32 0x41800000#32 = ((16 : ℝ) : EReal) := by
  simp [Ideal.ofBits, Ideal.ieee, -EReal.coe_mul, -EReal.coe_neg]; try norm_num

theorem word_int : ∀ p : Fin 2048, (BitVec.ofNat 32 p).toInt = (p : ℕ) := by decide +kernel

/-- The counts. -/
theorem v8_at (u : Fin 1) (p : Fin 2048) (v : Fin 1) : val_main_v8 (F := Ideal) (ix3 u p v) = (((p : ℝ) + 1 : ℝ) : EReal) := by
  pointwise [val_main_v8, val_main_v7, val_main_v6, val_main_v5, val_main_cst]
  rw [← EReal.coe_one]
  show ((1 : ℝ) : EReal) + (((BitVec.ofNat 32 p).toInt : ℝ) : EReal) = _
  rw [word_int, ← EReal.coe_add, add_comm]; norm_cast

theorem min_cnt (w p : ℕ) : min (((p : ℝ) + 1 : ℝ) : EReal) ((w : ℝ) : EReal) = ((cnt w p : ℝ) : EReal) := by
  have h : Monotone (fun r : ℝ => (r : EReal)) := fun a b h => EReal.coe_le_coe_iff.2 h
  rw [← h.map_min]; unfold cnt; push_cast; rfl

/-- A difference, spelt as the sum with the negative. -/
theorem less {a b : EReal} {r s : ℝ} (ha : a = (r : EReal)) (hb : b = (s : EReal)) : a + -b = ((r - s : ℝ) : EReal) := by
  rw [ha, hb, EReal.coe_sub]; rfl

theorem less_zero {a z : EReal} {r : ℝ} (ha : a = (r : EReal)) (hz : z = 0) : a + z = ((r - 0 : ℝ) : EReal) := by
  rw [ha, hz, add_zero, sub_zero]

/-- A group's pooled rows from running sums. -/
theorem pool_val {w p q : ℕ} (Y : ℕ → ℕ → ℝ) (hw : 0 < w) {a b c e : EReal} (ha : a = ((upto Y p q : ℝ) : EReal))
    (hb : b = ((if w ≤ p then upto Y (p - w) q else 0 : ℝ) : EReal)) (hc : c = ((cnt w p : ℝ) : EReal)) (he : e = ((Y p q : ℝ) : EReal)) :
    Ideal.div (a - b) c - e = ((pooled w Y p q : ℝ) : EReal) := by
  rw [ha, hb, hc, he, ← EReal.coe_sub, upto_sub _ _ _ _ hw, coe_div _ (cnt_pos hw _).ne', ← EReal.coe_sub]; rfl

theorem c2 (u : Fin 1) (p : Fin 2048) (v : Fin 1) : val_main_v15 (F := Ideal) (ix3 u p v) = ((cnt 2 p : ℝ) : EReal) := by
  have h := v8_at
  pointwise [val_main_v15, val_main_v14, val_main_cst_2]
  rw [h, lit_2]; exact min_cnt 2 p
theorem c4 (u : Fin 1) (p : Fin 2048) (v : Fin 1) : val_main_v27 (F := Ideal) (ix3 u p v) = ((cnt 4 p : ℝ) : EReal) := by
  have h := v8_at
  pointwise [val_main_v27, val_main_v26, val_main_cst_5]
  rw [h, lit_4]; exact min_cnt 4 p
theorem c8 (u : Fin 1) (p : Fin 2048) (v : Fin 1) : val_main_v39 (F := Ideal) (ix3 u p v) = ((cnt 8 p : ℝ) : EReal) := by
  have h := v8_at
  pointwise [val_main_v39, val_main_v38, val_main_cst_8]
  rw [h, lit_8]; exact min_cnt 8 p
theorem c16 (u : Fin 1) (p : Fin 2048) (v : Fin 1) : val_main_v51 (F := Ideal) (ix3 u p v) = ((cnt 16 p : ℝ) : EReal) := by
  have h := v8_at
  pointwise [val_main_v51, val_main_v50, val_main_cst_11]
  rw [h, lit_16]; exact min_cnt 16 p

section
variable (x0 : FVec Ideal S2048x4608 .f32) (X : ℕ → ℕ → ℝ)
  (hX : ∀ (p : Fin 2048) (q : Fin 4608), x0 (ix2 p q) = ((X p q : ℝ) : EReal))
include hX

theorem v1_at (u : Fin 1) (p : Fin 2048) (q : Fin 512) : val_main_v1 (F := Ideal) x0 (ix3 u p q) = ((cols X 2048 p q : ℝ) : EReal) := by
  pointwise [val_main_v1, val_main_v0]
  exact hX _ _

theorem v4_at (u : Fin 1) (p : Fin 2048) (q : Fin 512) : val_main_v4 (F := Ideal) x0 (ix3 u p q) = ((upto (cols X 2048) p q : ℝ) : EReal) := by
  have h := v1_at x0 X hX
  have hz : val_main_call0_call0_v0 (F := Ideal) (Shape.Idx.first h_S_) = (0 : EReal) := by
    rw [val_main_call0_call0_v0_apply, val_main_call0_call0_cst_apply]; exact lit_0.trans EReal.coe_zero
  exact (host_window _ _ _ _ _ _ _ _ hz _).trans (cumsum_at (N := 2047) (C := 512) h _ u p q)

theorem pooled2 (u : Fin 1) (p : Fin 2048) (q : Fin 128) :
    val_main_v20 (F := Ideal) x0 (ix3 u p q) = ((pooled 2 (cols (cols X 2048) 0) p q : ℝ) : EReal) := by
  have h1 := v1_at x0 X hX
  have h4 := v4_at x0 X hX
  have hc := c2
  rw [show cols (cols X 2048) 0 = cols X 2048 from by funext a b; simp [cols]]
  pointwise [val_main_v20, val_main_v19, val_main_v18, val_main_v17, val_main_v16, val_main_v12, val_main_v11, val_main_v10, val_main_v9, val_main_cst_0]
  refine pool_val (cols X 2048) (by omega) (h4 _ _ _) ?_ (hc _ _ _) (h1 _ _ _)
  by_cases hp : (p : ℕ) < 2
  · rw [dif_pos hp, if_neg (by omega)]; rfl
  · rw [dif_neg hp]; exact (h4 _ _ _).trans (congrArg (fun r : ℝ => (r : EReal)) (if_pos (by omega)).symm)

theorem pooled4 (u : Fin 1) (p : Fin 2048) (q : Fin 128) :
    val_main_v32 (F := Ideal) x0 (ix3 u p q) = ((pooled 4 (cols (cols X 2048) 128) p q : ℝ) : EReal) := by
  have h1 := v1_at x0 X hX
  have h4 := v4_at x0 X hX
  have hc := c4
  pointwise [val_main_v32, val_main_v31, val_main_v30, val_main_v29, val_main_v28, val_main_v24, val_main_v23, val_main_v22, val_main_v21, val_main_cst_3]
  refine pool_val (cols (cols X 2048) 128) (by omega) (h4 _ _ _) ?_ (hc _ _ _) (h1 _ _ _)
  by_cases hp : (p : ℕ) < 4
  · rw [dif_pos hp, if_neg (by omega)]; rfl
  · rw [dif_neg hp]; exact (h4 _ _ _).trans (congrArg (fun r : ℝ => (r : EReal)) (if_pos (by omega)).symm)

theorem pooled8 (u : Fin 1) (p : Fin 2048) (q : Fin 128) :
    val_main_v44 (F := Ideal) x0 (ix3 u p q) = ((pooled 8 (cols (cols X 2048) 256) p q : ℝ) : EReal) := by
  have h1 := v1_at x0 X hX
  have h4 := v4_at x0 X hX
  have hc := c8
  pointwise [val_main_v44, val_main_v43, val_main_v42, val_main_v41, val_main_v40, val_main_v36, val_main_v35, val_main_v34, val_main_v33, val_main_cst_6]
  refine pool_val (cols (cols X 2048) 256) (by omega) (h4 _ _ _) ?_ (hc _ _ _) (h1 _ _ _)
  by_cases hp : (p : ℕ) < 8
  · rw [dif_pos hp, if_neg (by omega)]; rfl
  · rw [dif_neg hp]; exact (h4 _ _ _).trans (congrArg (fun r : ℝ => (r : EReal)) (if_pos (by omega)).symm)

theorem pooled16 (u : Fin 1) (p : Fin 2048) (q : Fin 128) :
    val_main_v56 (F := Ideal) x0 (ix3 u p q) = ((pooled 16 (cols (cols X 2048) 384) p q : ℝ) : EReal) := by
  have h1 := v1_at x0 X hX
  have h4 := v4_at x0 X hX
  have hc := c16
  pointwise [val_main_v56, val_main_v55, val_main_v54, val_main_v53, val_main_v52, val_main_v48, val_main_v47, val_main_v46, val_main_v45, val_main_cst_9]
  refine pool_val (cols (cols X 2048) 384) (by omega) (h4 _ _ _) ?_ (hc _ _ _) (h1 _ _ _)
  by_cases hp : (p : ℕ) < 16
  · rw [dif_pos hp, if_neg (by omega)]; rfl
  · rw [dif_neg hp]; exact (h4 _ _ _).trans (congrArg (fun r : ℝ => (r : EReal)) (if_pos (by omega)).symm)

theorem v61_at (u : Fin 1) (p : Fin 2048) (g : Fin 4) (k : Fin 128) :
    val_main_v61 (F := Ideal) x0 (ix4 u p g k) = ((pooled (win (g * 128)) (cols (cols X 2048) (g * 128)) p k : ℝ) : EReal) := by
  have a := pooled2 x0 X hX
  have b := pooled4 x0 X hX
  have c := pooled8 x0 X hX
  have d := pooled16 x0 X hX
  pointwise [val_main_v61, val_main_v60, val_main_v59, val_main_v58, val_main_v57]
  have hg := g.isLt
  obtain h | h | h | h : (g : ℕ) = 0 ∨ (g : ℕ) = 1 ∨ (g : ℕ) = 2 ∨ (g : ℕ) = 3 := by omega
  all_goals rw [h]; simp only [Nat.reduceSub, Nat.reduceLT, Nat.reduceMul, reduceDIte]
  · exact a _ _ _
  · exact b _ _ _
  · exact c _ _ _
  · exact d _ _ _

variable (x1 : FVec Ideal S2048x512 .f32) (x2 : FVec Ideal S1x4x128x128 .f32) (dY : ℕ → ℕ → ℝ) (Wt : ℕ → ℕ → ℕ → ℝ)
  (hD : ∀ (p : Fin 2048) (q : Fin 512), x1 (ix2 p q) = ((dY p q : ℝ) : EReal))
  (hW : ∀ (u : Fin 1) (g : Fin 4) (i j : Fin 128), x2 (ix4 u g i j) = ((Wt g i j : ℝ) : EReal))

include hW in
theorem v64_at (u : Fin 1) (p : Fin 2048) (c : Fin 512) : val_main_v64 (F := Ideal) x0 x2 (ix3 u p c)
    = ((∑ k : Fin 128, pooled (win c) (cols (cols X 2048) (c / 128 * 128)) p k * Wt (c / 128) k (c % 128) : ℝ) : EReal) := by
  have h := v61_at x0 X hX
  pointwise [val_main_v64, val_main_v63, val_main_v62, val_main_v2]
  have hc : ((c : ℕ) / 128 * 128) < 512 := by omega
  have hw : win ((c : ℕ) / 128 * 128) = win c := by unfold win; split_ifs <;> omega
  simp only [hW, h, ← EReal.coe_mul, coe_sum, hw]
  congr 1
  exact Finset.sum_congr rfl fun k _ => mul_comm _ _

include hW hD in
theorem v139_at (u : Fin 1) (c : Fin 512) : val_main_v139 (F := Ideal) x0 x1 x2 (ix2 u c) = ((gs (cols X 2048) dY Wt c : ℝ) : EReal) := by
  have h := v64_at x0 X hX x2 Wt hW
  pointwise [val_main_v139, val_main_v74]
  rw [sum_unit01]
  pointwise [val_main_v71, val_main_v70, val_main_v69, val_main_v68]
  rw [show val_main_cst_13 (F := Ideal) (Shape.Idx.first h_S_) = 0 from lit_0.trans EReal.coe_zero,
    show val_main_cst_12 (F := Ideal) (Shape.Idx.first h_S_) = 0 from lit_0.trans EReal.coe_zero, zero_add, zero_add]
  simp only [h, hD, ← EReal.coe_mul, coe_sum]
  congr 1
  unfold gs dsc
  refine Finset.sum_congr rfl fun p _ => ?_
  rw [mul_comm]
  congr 1
  show dY _ _ = dY _ (_ + _)
  rw [Nat.div_add_mod']
end

section
variable (x1 : FVec Ideal S2048x512 .f32) (x2 : FVec Ideal S1x4x128x128 .f32) (x3 : FVec Ideal S1x512 .f32)
  (dY : ℕ → ℕ → ℝ) (Wt : ℕ → ℕ → ℕ → ℝ) (S : ℕ → ℝ)
  (hD : ∀ (p : Fin 2048) (q : Fin 512), x1 (ix2 p q) = ((dY p q : ℝ) : EReal))
  (hW : ∀ (u : Fin 1) (g : Fin 4) (i j : Fin 128), x2 (ix4 u g i j) = ((Wt g i j : ℝ) : EReal))
  (hS : ∀ (u : Fin 1) (q : Fin 512), x3 (ix2 u q) = ((S q : ℝ) : EReal))

include hW in
theorem v2_at (g : Fin 4) (i j : Fin 128) : val_main_v2 (F := Ideal) x2 (ix3 g i j) = ((Wt g i j : ℝ) : EReal) := by
  pointwise [val_main_v2]
  exact hW _ _ _ _

include hD hS in
theorem v73_at (u : Fin 1) (p : Fin 2048) (q : Fin 512) : val_main_v73 (F := Ideal) x1 x3 (ix3 u p q) = ((dY p q * S q : ℝ) : EReal) := by
  pointwise [val_main_v73, val_main_v72, val_main_v68, val_main_v65, val_main_v3]
  rw [hD, hS, ← EReal.coe_mul]

include hD hS in
theorem v76_at (g : Fin 4) (i : Fin 128) (u : Fin 1) (p : Fin 2048) :
    val_main_v76 (F := Ideal) x1 x3 (ix4 g i u p) = ((cols dY (g * 128) p i * S (g * 128 + i) : ℝ) : EReal) := by
  have h := v73_at x1 x3 dY S hD hS
  pointwise [val_main_v76, val_main_v75]
  exact h _ _ _

include hD hS hW in
theorem v78_at (u : Fin 1) (p : Fin 2048) (g : Fin 4) (i : Fin 128) :
    val_main_v78 (F := Ideal) x1 x2 x3 (ix4 u p g i) = ((dp (Wt g) (cols dY (g * 128)) (fun q => S (g * 128 + q)) p i : ℝ) : EReal) := by
  have h := v76_at x1 x3 dY S hD hS
  have h2 := v2_at x2 Wt hW
  pointwise [val_main_v78, val_main_v77]
  simp only [h, h2, ← EReal.coe_mul, coe_sum]; rfl

include hD hS in
theorem v80_at (x0 : FVec Ideal S2048x4608 .f32) (X : ℕ → ℕ → ℝ)
    (hX : ∀ (p : Fin 2048) (q : Fin 4608), x0 (ix2 p q) = ((X p q : ℝ) : EReal)) (g : Fin 4) (i j : Fin 128) :
    val_main_v80 (F := Ideal) x0 x1 x3 (ix3 g i j) = ((gw (cols X 2048) dY S g i j : ℝ) : EReal) := by
  have h := v76_at x1 x3 dY S hD hS
  have h2 := v61_at x0 X hX
  pointwise [val_main_v80, val_main_v79]
  simp only [h, h2, ← EReal.coe_mul, coe_sum, Finset.univ_unique, Finset.sum_singleton]
  congr 1
  unfold gw dw
  exact Finset.sum_congr rfl fun p _ => mul_comm _ _

/-- A group's share of the gradient by its pooled rows, and that share over the counts. -/
abbrev D (g : ℕ) : ℕ → ℕ → ℝ := fun p i => dp (Wt g) (cols dY (g * 128)) (fun q => S (g * 128 + q)) p i
abbrev E (w g : ℕ) : ℕ → ℕ → ℝ := fun p i => D dY Wt S g p i / cnt w p

include hD hS hW in
theorem d2_at (u : Fin 1) (p : Fin 2048) (i : Fin 128) : val_main_v82 (F := Ideal) x1 x2 x3 (ix3 u p i) = ((D dY Wt S 0 p i : ℝ) : EReal) := by
  have h := v78_at x1 x2 x3 dY Wt S hD hW hS
  pointwise [val_main_v82, val_main_v81]
  exact h _ _ _ _

include hD hS hW in
theorem e2_at (u : Fin 1) (p : Fin 2048) (i : Fin 128) : val_main_v127 (F := Ideal) x1 x2 x3 (ix3 u p i) = ((E dY Wt S 2 0 p i : ℝ) : EReal) := by
  have h := d2_at x1 x2 x3 dY Wt S hD hW hS
  have hc := c2
  pointwise [val_main_v127, val_main_v126]
  rw [h, hc, coe_div _ (cnt_pos (by omega) _).ne']

include hD hS hW in
theorem f2_at (u : Fin 1) (p : Fin 2048) (i : Fin 128) : val_main_v132 (F := Ideal) x1 x2 x3 (ix3 u p i)
    = ((E dY Wt S 2 0 p i - if p.val + 2 < 2048 then E dY Wt S 2 0 (p + 2) i else 0 : ℝ) : EReal) := by
  have h := e2_at x1 x2 x3 dY Wt S hD hW hS
  pointwise [val_main_v132, val_main_v131, val_main_v130, val_main_v128, val_main_cst_24]
  split
  · rename_i hp
    have hp' : (p : ℕ) < 2046 := hp
    rw [if_pos (show (p : ℕ) + 2 < 2048 by omega)]
    exact less (h u p i) ((h 0 ⟨2 + p, by omega⟩ i).trans (congrArg (fun n : ℕ => ((E dY Wt S 2 0 n i : ℝ) : EReal)) (Nat.add_comm _ _)))
  · rename_i hp
    have hp' : ¬ (p : ℕ) < 2046 := hp
    rw [if_neg (by omega)]
    exact less_zero (h u p i) rfl

include hD hS hW in
theorem d4_at (u : Fin 1) (p : Fin 2048) (i : Fin 128) : val_main_v84 (F := Ideal) x1 x2 x3 (ix3 u p i) = ((D dY Wt S 1 p i : ℝ) : EReal) := by
  have h := v78_at x1 x2 x3 dY Wt S hD hW hS
  pointwise [val_main_v84, val_main_v83]
  exact h _ _ _ _

include hD hS hW in
theorem e4_at (u : Fin 1) (p : Fin 2048) (i : Fin 128) : val_main_v115 (F := Ideal) x1 x2 x3 (ix3 u p i) = ((E dY Wt S 4 1 p i : ℝ) : EReal) := by
  have h := d4_at x1 x2 x3 dY Wt S hD hW hS
  have hc := c4
  pointwise [val_main_v115, val_main_v114]
  rw [h, hc, coe_div _ (cnt_pos (by omega) _).ne']

include hD hS hW in
theorem f4_at (u : Fin 1) (p : Fin 2048) (i : Fin 128) : val_main_v120 (F := Ideal) x1 x2 x3 (ix3 u p i)
    = ((E dY Wt S 4 1 p i - if p.val + 4 < 2048 then E dY Wt S 4 1 (p + 4) i else 0 : ℝ) : EReal) := by
  have h := e4_at x1 x2 x3 dY Wt S hD hW hS
  pointwise [val_main_v120, val_main_v119, val_main_v118, val_main_v116, val_main_cst_21]
  split
  · rename_i hp
    have hp' : (p : ℕ) < 2044 := hp
    rw [if_pos (show (p : ℕ) + 4 < 2048 by omega)]
    exact less (h u p i) ((h 0 ⟨4 + p, by omega⟩ i).trans (congrArg (fun n : ℕ => ((E dY Wt S 4 1 n i : ℝ) : EReal)) (Nat.add_comm _ _)))
  · rename_i hp
    have hp' : ¬ (p : ℕ) < 2044 := hp
    rw [if_neg (by omega)]
    exact less_zero (h u p i) rfl

include hD hS hW in
theorem d8_at (u : Fin 1) (p : Fin 2048) (i : Fin 128) : val_main_v86 (F := Ideal) x1 x2 x3 (ix3 u p i) = ((D dY Wt S 2 p i : ℝ) : EReal) := by
  have h := v78_at x1 x2 x3 dY Wt S hD hW hS
  pointwise [val_main_v86, val_main_v85]
  exact h _ _ _ _

include hD hS hW in
theorem e8_at (u : Fin 1) (p : Fin 2048) (i : Fin 128) : val_main_v103 (F := Ideal) x1 x2 x3 (ix3 u p i) = ((E dY Wt S 8 2 p i : ℝ) : EReal) := by
  have h := d8_at x1 x2 x3 dY Wt S hD hW hS
  have hc := c8
  pointwise [val_main_v103, val_main_v102]
  rw [h, hc, coe_div _ (cnt_pos (by omega) _).ne']

include hD hS hW in
theorem f8_at (u : Fin 1) (p : Fin 2048) (i : Fin 128) : val_main_v108 (F := Ideal) x1 x2 x3 (ix3 u p i)
    = ((E dY Wt S 8 2 p i - if p.val + 8 < 2048 then E dY Wt S 8 2 (p + 8) i else 0 : ℝ) : EReal) := by
  have h := e8_at x1 x2 x3 dY Wt S hD hW hS
  pointwise [val_main_v108, val_main_v107, val_main_v106, val_main_v104, val_main_cst_18]
  split
  · rename_i hp
    have hp' : (p : ℕ) < 2040 := hp
    rw [if_pos (show (p : ℕ) + 8 < 2048 by omega)]
    exact less (h u p i) ((h 0 ⟨8 + p, by omega⟩ i).trans (congrArg (fun n : ℕ => ((E dY Wt S 8 2 n i : ℝ) : EReal)) (Nat.add_comm _ _)))
  · rename_i hp
    have hp' : ¬ (p : ℕ) < 2040 := hp
    rw [if_neg (by omega)]
    exact less_zero (h u p i) rfl

include hD hS hW in
theorem d16_at (u : Fin 1) (p : Fin 2048) (i : Fin 128) : val_main_v88 (F := Ideal) x1 x2 x3 (ix3 u p i) = ((D dY Wt S 3 p i : ℝ) : EReal) := by
  have h := v78_at x1 x2 x3 dY Wt S hD hW hS
  pointwise [val_main_v88, val_main_v87]
  exact h _ _ _ _

include hD hS hW in
theorem e16_at (u : Fin 1) (p : Fin 2048) (i : Fin 128) : val_main_v92 (F := Ideal) x1 x2 x3 (ix3 u p i) = ((E dY Wt S 16 3 p i : ℝ) : EReal) := by
  have h := d16_at x1 x2 x3 dY Wt S hD hW hS
  have hc := c16
  pointwise [val_main_v92, val_main_v91]
  rw [h, hc, coe_div _ (cnt_pos (by omega) _).ne']

include hD hS hW in
theorem f16_at (u : Fin 1) (p : Fin 2048) (i : Fin 128) : val_main_v97 (F := Ideal) x1 x2 x3 (ix3 u p i)
    = ((E dY Wt S 16 3 p i - if p.val + 16 < 2048 then E dY Wt S 16 3 (p + 16) i else 0 : ℝ) : EReal) := by
  have h := e16_at x1 x2 x3 dY Wt S hD hW hS
  pointwise [val_main_v97, val_main_v96, val_main_v95, val_main_v93, val_main_cst_15]
  split
  · rename_i hp
    have hp' : (p : ℕ) < 2032 := hp
    rw [if_pos (show (p : ℕ) + 16 < 2048 by omega)]
    exact less (h u p i) ((h 0 ⟨16 + p, by omega⟩ i).trans (congrArg (fun n : ℕ => ((E dY Wt S 16 3 n i : ℝ) : EReal)) (Nat.add_comm _ _)))
  · rename_i hp
    have hp' : ¬ (p : ℕ) < 2032 := hp
    rw [if_neg (by omega)]
    exact less_zero (h u p i) rfl

omit x1 x2 x3 dY Wt S in
/-- Four groups' columns side by side, each padded with zeros to the whole width and added. -/
theorem pick {c : ℕ} (hc : c < 512) (G : ℕ → ℕ → ℝ) {z0 z1 z2 z3 : EReal} {a0 : c < 128 → EReal} {a1 : 128 ≤ c ∧ c - 128 < 128 → EReal}
    {a2 : 256 ≤ c ∧ c - 256 < 128 → EReal} {a3 : 384 ≤ c ∧ c - 384 < 128 → EReal} (h0 : ∀ h, a0 h = ((G 0 c : ℝ) : EReal))
    (h1 : ∀ h, a1 h = ((G 1 (c - 128) : ℝ) : EReal)) (h2 : ∀ h, a2 h = ((G 2 (c - 256) : ℝ) : EReal)) (h3 : ∀ h, a3 h = ((G 3 (c - 384) : ℝ) : EReal))
    (e0 : z0 = 0) (e1 : z1 = 0) (e2 : z2 = 0) (e3 : z3 = 0) :
    ((((if h : 384 ≤ c ∧ c - 384 < 128 then a3 h else z3) + if h : 256 ≤ c ∧ c - 256 < 128 then a2 h else z2)
      + if h : 128 ≤ c ∧ c - 128 < 128 then a1 h else z1) + if h : c < 128 then a0 h else z0) = ((G (c / 128) (c % 128) : ℝ) : EReal) := by
  have := Nat.div_add_mod c 128
  have := Nat.mod_lt c (show 0 < 128 by omega)
  subst e0 e1 e2 e3
  obtain h | h | h | h : c / 128 = 0 ∨ c / 128 = 1 ∨ c / 128 = 2 ∨ c / 128 = 3 := by omega
  · rw [dif_neg (by omega), dif_neg (by omega), dif_neg (by omega), dif_pos (by omega), h0, h, show c % 128 = c by omega]; simp
  · rw [dif_neg (by omega), dif_neg (by omega), dif_pos (by omega), dif_neg (by omega), h1, h, show c % 128 = c - 128 by omega]; simp
  · rw [dif_neg (by omega), dif_pos (by omega), dif_neg (by omega), dif_neg (by omega), h2, h, show c % 128 = c - 256 by omega]; simp
  · rw [dif_pos (by omega), dif_neg (by omega), dif_neg (by omega), dif_neg (by omega), h3, h, show c % 128 = c - 384 by omega]; simp

include hD hS hW in
theorem v134_at (u : Fin 1) (p : Fin 2048) (c : Fin 512) : val_main_v134 (F := Ideal) x1 x2 x3 (ix3 u p c)
    = (((fun r c => E dY Wt S (win (c / 128 * 128)) (c / 128) r (c % 128) - if r + win (c / 128 * 128) < 2048 then E dY Wt S (win (c / 128 * 128)) (c / 128) (r + win (c / 128 * 128)) (c % 128) else 0) p c : ℝ) : EReal) := by
  have f2 := f2_at x1 x2 x3 dY Wt S hD hW hS
  have f4 := f4_at x1 x2 x3 dY Wt S hD hW hS
  have f8 := f8_at x1 x2 x3 dY Wt S hD hW hS
  have f16 := f16_at x1 x2 x3 dY Wt S hD hW hS
  pointwise [val_main_v134, val_main_v133, val_main_v122, val_main_v121, val_main_v110, val_main_v109, val_main_v98]
  exact pick c.isLt (fun g d => E dY Wt S (win (g * 128)) g p d - if p + win (g * 128) < 2048 then E dY Wt S (win (g * 128)) g (p + win (g * 128)) d else 0)
    (fun h => f2 _ _ _) (fun h => f4 _ _ _) (fun h => f8 _ _ _) (fun h => f16 _ _ _)
    (lit_0.trans EReal.coe_zero) (lit_0.trans EReal.coe_zero) (lit_0.trans EReal.coe_zero) (lit_0.trans EReal.coe_zero)

include hD hS hW in
theorem v125_at (u : Fin 1) (p : Fin 2048) (c : Fin 512) : val_main_v125 (F := Ideal) x1 x2 x3 (ix3 u p c)
    = ((- D dY Wt S (c / 128) p (c % 128) : ℝ) : EReal) := by
  have f2 := d2_at x1 x2 x3 dY Wt S hD hW hS
  have f4 := d4_at x1 x2 x3 dY Wt S hD hW hS
  have f8 := d8_at x1 x2 x3 dY Wt S hD hW hS
  have f16 := d16_at x1 x2 x3 dY Wt S hD hW hS
  pointwise [val_main_v125, val_main_v124, val_main_v123, val_main_v113, val_main_v112, val_main_v111, val_main_v101, val_main_v100, val_main_v99, val_main_v90, val_main_v89]
  exact pick c.isLt (fun g d => -D dY Wt S g p d)
    (fun h => by rw [f2]; rfl) (fun h => by rw [f4]; rfl) (fun h => by rw [f8]; rfl) (fun h => by rw [f16]; rfl)
    (lit_0.trans EReal.coe_zero) (lit_0.trans EReal.coe_zero) (lit_0.trans EReal.coe_zero) (lit_0.trans EReal.coe_zero)

/-- The rows the reference sums from the last one. -/
abbrev Z : ℕ → ℕ → ℝ := fun r c => E dY Wt S (win (c / 128 * 128)) (c / 128) r (c % 128)
  - if r + win (c / 128 * 128) < 2048 then E dY Wt S (win (c / 128 * 128)) (c / 128) (r + win (c / 128 * 128)) (c % 128) else 0

include hD hS hW in
theorem v135_at (u : Fin 1) (p : Fin 2048) (c : Fin 512) : val_main_v135 (F := Ideal) x1 x2 x3 (ix3 u p c) = ((ahead 2048 (Z dY Wt S) 2048 p c : ℝ) : EReal) := by
  have h : ∀ (u : Fin 1) (p : Fin 2048) (c : Fin 512), val_main_v134 (F := Ideal) x1 x2 x3 (ix3 u p c) = ((Z dY Wt S p c : ℝ) : EReal) :=
    v134_at x1 x2 x3 dY Wt S hD hW hS
  have hz : val_main_call1_call0_v0 (F := Ideal) (Shape.Idx.first h_S_) = (0 : EReal) := by
    rw [val_main_call1_call0_v0_apply, val_main_call1_call0_cst_apply]; exact lit_0.trans EReal.coe_zero
  exact (host_window _ _ _ _ _ _ _ _ hz _).trans (cumsum_rev_at (N := 2047) (C := 512) h _ u p c)

include hD hS hW in
theorem v138_at (p : Fin 2048) (c : Fin 512) : val_main_v138 (F := Ideal) x1 x2 x3 (ix2 p c) = ((gx dY Wt S p c : ℝ) : EReal) := by
  have h3 := v135_at x1 x2 x3 dY Wt S hD hW hS
  have h2 := v125_at x1 x2 x3 dY Wt S hD hW hS
  pointwise [val_main_v138, val_main_v137, val_main_v136]
  rw [h2, h3, ← EReal.coe_add]
  congr 1
  have hw : win ((c : ℕ) / 128 * 128) = win c := by unfold win; split_ifs <;> omega
  have e := ahead_sub (N := 2048) (E dY Wt S (win (c / 128 * 128)) (c / 128)) (win (c / 128 * 128)) p (c % 128)
  unfold gx dx
  rw [← hw, neg_add_eq_sub]
  exact congrArg (· - _) e
end
end Cert.ReferencePoolIdeal.PoolRef
end
-- ==== Proof.PoolEq.lean ====
/- The two programs of the pooling mixer's gradient end with the same arrays. -/
module

public import proofs.«01_k».proof.Defs
public import proofs.«01_k».proof.Proof.Gen.Pre_finite_pool
public import proofs.«01_k».proof.Proof.Gen.ReferencePoolIdeal.Run
public import proofs.«01_k».proof.Proof.Gen.KernelPoolIdeal.Value
public import proofs.«01_k».proof.Proof.PoolRef
public import proofs.«01_k».proof.Proof.PoolKernel

@[expose] public section

set_option maxRecDepth 16384

noncomputable section

open Idealize.ShloMosaic Idealize.ShloMosaic.TcCoe Idealize.SL.Sem

namespace Cert.Pool

open Cert.Reals

/-- Finite arguments are the images of real arrays. -/
theorem args (m : (ℓ : Loc Cert.KernelPoolIdeal.nD Cert.KernelPoolIdeal.τ Cert.KernelPoolIdeal.sig) → Buf (Elt Ideal) ℓ)
    (h : Cert.Pre_KernelPoolIdeal_finite_pool (hPre_finite_pool := Cert.Pre_finite_pool.Gen.facts) m) (c : Dev Cert.KernelPoolIdeal.nD) :
    ∃ X dY Wt S, Cert.KernelPoolIdeal.Value.Args m c X dY Wt S := by
  obtain ⟨e0, e1, e2, e3⟩ := h c
  obtain ⟨X, hX⟩ := exists_real2 _ (real_of_finite _ _ e0)
  obtain ⟨D, hD⟩ := exists_real2 _ (real_of_finite _ _ e1)
  obtain ⟨W, hW⟩ := exists_real4 _ (real_of_finite _ _ e2)
  obtain ⟨S, hS⟩ := exists_real2 _ (real_of_finite _ _ e3)
  refine ⟨X, D, W 0, S 0, ⟨hX, hD, fun u g i j => ?_, fun u q => ?_⟩⟩
  · have := hW u g i j; rwa [show (u : ℕ) = 0 from by omega] at this
  · have := hS u q; rwa [show (u : ℕ) = 0 from by omega] at this

/-- The reference runs and leaves its arguments as they were. -/
theorem frame_reference : Cert.quiescent_ReferencePoolIdeal (hReferencePoolIdeal := Cert.ReferencePoolIdeal.Gen.facts) := fun m g _ =>
  (θ_run Cert.ReferencePoolIdeal.defs _ _).mono (fun r h => ⟨fun c => (h c).2.2.2, sem_eq_zero_of_no_sems (by decide) r.2⟩)
    (Cert.ReferencePoolIdeal.Value.run (F := Ideal) m g)

theorem algebraic : Cert.algebraic_KernelPoolIdeal_ReferencePoolIdeal_pre_finite_pool (hKernelPoolIdeal := Cert.KernelPoolIdeal.Gen.facts)
    (hReferencePoolIdeal := Cert.ReferencePoolIdeal.Gen.facts) (hPre_finite_pool := Cert.Pre_finite_pool.Gen.facts) := by
  intro m g m' g' hpre hargs
  refine ⟨fun c => (Cert.KernelPoolIdeal.Gen.dats m 0 c).arrAt 4 (Cert.KernelPoolIdeal.cfgs 0).N,
    fun c => (Cert.KernelPoolIdeal.Gen.dats m 0 c).arrAt 5 (Cert.KernelPoolIdeal.cfgs 0).N,
    fun c => (Cert.KernelPoolIdeal.Gen.dats m 0 c).arrAt 6 (Cert.KernelPoolIdeal.cfgs 0).N, Cert.KernelPoolIdeal.Value.run_blocks m g, ?_⟩
  refine (θ_run _ _ _).mono (fun r h c => ?_) (Cert.ReferencePoolIdeal.Value.run m' g')
  obtain ⟨X, dY, Wt, S, H⟩ := args m hpre c
  obtain ⟨a0, a1, a2, a3⟩ := hargs c
  obtain ⟨r0, r1, r2, rest⟩ := h c
  refine ⟨r0.trans ?_, r1.trans ?_, r2.trans ?_, rest⟩
  · rw [Cert.ReferencePoolIdeal.Read.val_main_v138_eq, a1, a2, a3]
    refine Eq.trans ?_ (Cert.KernelPoolIdeal.Value.final4 m c X dY Wt S H).symm
    funext i
    obtain ⟨p, q, rfl⟩ : ∃ (p : Fin 2048) (q : Fin 512), i = ix2 p q := ⟨i 0, i 1, eq_ix2 i⟩
    exact Cert.ReferencePoolIdeal.PoolRef.v138_at _ _ _ dY Wt S H.hD H.hW H.hS p q
  · rw [Cert.ReferencePoolIdeal.Read.val_main_v80_eq, a0, a1, a3]
    refine Eq.trans ?_ (Cert.KernelPoolIdeal.Value.final5 m c X dY Wt S H).symm
    funext i
    obtain ⟨g, p, q, rfl⟩ : ∃ (g : Fin 4) (p : Fin 128) (q : Fin 128), i = ix3 g p q := ⟨i 0, i 1, i 2, eq_ix3 i⟩
    exact Cert.ReferencePoolIdeal.PoolRef.v80_at _ _ dY S H.hD H.hS _ X H.hX g p q
  · rw [Cert.ReferencePoolIdeal.Read.val_main_v139_eq, a0, a1, a2]
    refine Eq.trans ?_ (Cert.KernelPoolIdeal.Value.final6 m c X dY Wt S H).symm
    funext i
    obtain ⟨p, q, rfl⟩ : ∃ (p : Fin 1) (q : Fin 512), i = ix2 p q := ⟨i 0, i 1, eq_ix2 i⟩
    exact Cert.ReferencePoolIdeal.PoolRef.v139_at _ X H.hX _ _ dY Wt H.hD H.hW p q

end Cert.Pool
end
-- ==== Proof.LruRun0.lean ====
/- The forward mixer's block: what one run of its body leaves in the staging buffers of its two outputs, over any float
   values. The recurrence's rows are stored eight rows apart and read back whole before the gate. -/
module

public import proofs.«01_k».proof.Proof.Gen.KernelLruIdeal.Launch
public import proofs.«01_k».proof.Proof.Gen.KernelLruIdeal.Skeleton
public import proofs.«01_k».proof.Proof.Gen.KernelLruIdeal.Points
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.LruRun

open Cert.KernelLruIdeal Cert.KernelLruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The block in the payloads' own words: the gates, the scan inside each tile of eight rows, the scan over the tiles'
last rows, the rows of the state, the gated output. -/

/-- Rows `o`, `o + 8`, … of a block. -/
abbrev rowsAt (o : ℕ) (hb : ∀ a, S256x128.size a = 0 ∨ (![o, 0] : Fin 2 → ℕ) a + (![8, 1] : Fin 2 → ℕ) a * (S256x128.size a - 1) < S2048x128.size a)
    (X : Vec F S2048x128 .f32) : Vec F S256x128 .f32 :=
  fun j => X ((⟨![o, 0], S256x128.size, ![8, 1], hb⟩ : LoadRect S2048x128).idx j)

/-- A load of the whole block reads what the stores left. -/
theorem readCov_all {V : EltTy → Type} [∀ e, Nonempty (V e)] {S : Shape} {e : EltTy} {sig : RefSig} {κ : Kind} {sp : Space}
    (v : View sig κ sp S e) {off : Fin S.rank → ℕ} (inb : ∀ a, off a + S.size a ≤ S.size a) (L : List (View.Piece V S e))
    (h : ∀ a, off a = 0) : v.readCov L (Rect.unit off (no_index S.size) inb).toLoadRect = View.canon L := by
  rw [View.readCov_eq_canon']
  exact View.ld_unit_lit inb (View.canon L) h

section

variable (x0 : Vec F S2048x128 .f32) (x1 : Vec F S2048x128 .f32) (x2 : Vec F S4x128 .f32) (x3 : Vec F S1x128 .f32)
  (x4 : Vec F S1x128x128 .bf16) (x5 : Vec F S1x128 .f32) (x6 : Vec F S1x128x128 .bf16) (x7 : Vec F S1x128 .f32)
  (x8 : Vec F S1x128 .f32)

/-- The tile and row of each entry. -/
def rowIdx : IVec S256x8x128 32 := iota .tc S256x8x128 32 [1] iota_S256x8x128_d1_w32
/-- The tile's number. -/
def tileIdx : IVec S256x128 32 := iota .tc S256x128 32 [0] iota_S256x128_d0_w32

def xc : FVec F S2048x128 .f32 := k0_pay1 x0 x2 x3
def rg : FVec F S2048x128 .f32 := k0_pay4 (xc x0 x2 x3) (k0_pay2 x4) x5
def ig : FVec F S2048x128 .f32 := k0_pay5 (xc x0 x2 x3) x6 x7
def aT : FVec F S256x8x128 .f32 :=
  k0_pay16 (rg x0 x2 x3 x4 x5) (k0_pay6 x8) (k0_pay7 x8) (k0_pay8 x8) (k0_pay9 x8) (k0_pay10 x8)
def bT : FVec F S256x8x128 .f32 :=
  k0_pay15 (xc x0 x2 x3) (rg x0 x2 x3 x4 x5) (ig x0 x2 x3 x6 x7) (k0_pay6 x8) (k0_pay7 x8) (k0_pay8 x8) (k0_pay9 x8) (k0_pay10 x8)
def bT1 : FVec F S256x8x128 .f32 :=
  k0_pay18 (xc x0 x2 x3) (rg x0 x2 x3 x4 x5) (ig x0 x2 x3 x6 x7) (k0_pay6 x8) (k0_pay7 x8) (k0_pay8 x8) (k0_pay9 x8) (k0_pay10 x8)
/-- The products inside each tile. -/
def scA : FVec F S2048x128 .f32 := k0_pay21 rowIdx (aT x0 x2 x3 x4 x5 x8) k0_pay17
/-- The sums inside each tile. -/
def scB : FVec F S2048x128 .f32 :=
  k0_pay22 rowIdx (bT x0 x2 x3 x4 x5 x6 x7 x8) (aT x0 x2 x3 x4 x5 x8) k0_pay17 (bT1 x0 x2 x3 x4 x5 x6 x7 x8)

/-- The scan over tiles, from the last rows of the products and of the sums. -/
def tileA (p : FVec F S256x128 .f32) : FVec F S256x128 .f32 := k0_pay28 p k0_pay24 (k0_pay25 p)
def tileB (p q : FVec F S256x128 .f32) : FVec F S256x128 .f32 := k0_pay29 p (k0_pay23 p q) k0_pay24 (k0_pay25 p)
def tileC (p : FVec F S256x128 .f32) : FVec F S256x128 .f32 := k0_pay33 (tileA p) tileIdx k0_pay30
def tileD (p q : FVec F S256x128 .f32) : FVec F S256x128 .f32 := k0_pay34 (tileA p) (tileB p q) tileIdx k0_pay30

/-- The state's rows, last store first, from the products and sums inside the tiles. -/
def hRows (A B : FVec F S2048x128 .f32) : List (View.Piece (Elt F) S2048x128 .f32) :=
  let p := rowsAt 7 inb_S2048x128_S256x128_7_0_s_8_1 A
  let q := rowsAt 7 inb_S2048x128_S256x128_7_0_s_8_1 B
  let e := k0_pay35 (tileC p) (tileD p q)
  [⟨⟨⟨![7, 0], S256x128.size, ![8, 1], inb_S2048x128_S256x128_7_0_s_8_1⟩, spos_8_1⟩, k0_pay43 e (rowsAt 7 inb_S2048x128_S256x128_7_0_s_8_1 B) (rowsAt 7 inb_S2048x128_S256x128_7_0_s_8_1 A)⟩,
   ⟨⟨⟨![6, 0], S256x128.size, ![8, 1], inb_S2048x128_S256x128_6_0_s_8_1⟩, spos_8_1⟩, k0_pay42 e (rowsAt 6 inb_S2048x128_S256x128_6_0_s_8_1 B) (rowsAt 6 inb_S2048x128_S256x128_6_0_s_8_1 A)⟩,
   ⟨⟨⟨![5, 0], S256x128.size, ![8, 1], inb_S2048x128_S256x128_5_0_s_8_1⟩, spos_8_1⟩, k0_pay41 e (rowsAt 5 inb_S2048x128_S256x128_5_0_s_8_1 B) (rowsAt 5 inb_S2048x128_S256x128_5_0_s_8_1 A)⟩,
   ⟨⟨⟨![4, 0], S256x128.size, ![8, 1], inb_S2048x128_S256x128_4_0_s_8_1⟩, spos_8_1⟩, k0_pay40 e (rowsAt 4 inb_S2048x128_S256x128_4_0_s_8_1 B) (rowsAt 4 inb_S2048x128_S256x128_4_0_s_8_1 A)⟩,
   ⟨⟨⟨![3, 0], S256x128.size, ![8, 1], inb_S2048x128_S256x128_3_0_s_8_1⟩, spos_8_1⟩, k0_pay39 e (rowsAt 3 inb_S2048x128_S256x128_3_0_s_8_1 B) (rowsAt 3 inb_S2048x128_S256x128_3_0_s_8_1 A)⟩,
   ⟨⟨⟨![2, 0], S256x128.size, ![8, 1], inb_S2048x128_S256x128_2_0_s_8_1⟩, spos_8_1⟩, k0_pay38 e (rowsAt 2 inb_S2048x128_S256x128_2_0_s_8_1 B) (rowsAt 2 inb_S2048x128_S256x128_2_0_s_8_1 A)⟩,
   ⟨⟨⟨![1, 0], S256x128.size, ![8, 1], inb_S2048x128_S256x128_1_0_s_8_1⟩, spos_8_1⟩, k0_pay37 (tileC p) (tileD p q) (rowsAt 1 inb_S2048x128_S256x128_1_0_s_8_1 B) (rowsAt 1 inb_S2048x128_S256x128_1_0_s_8_1 A)⟩,
   ⟨⟨⟨![0, 0], S256x128.size, ![8, 1], inb_S2048x128_S256x128_0_0_s_8_1⟩, spos_8_1⟩, k0_pay36 (tileC p) (tileD p q) (rowsAt 0 inb_S2048x128_S256x128_0_0_s_8_1 B) (rowsAt 0 inb_S2048x128_S256x128_0_0_s_8_1 A)⟩]

/-- The state of the block. -/
def hOut : FVec F S2048x128 .f32 :=
  View.canon (hRows (scA x0 x2 x3 x4 x5 x8) (scB x0 x2 x3 x4 x5 x6 x7 x8))
/-- The gated output of the block. -/
def yOut : FVec F S2048x128 .bf16 := k0_pay44 x1 (hOut x0 x2 x3 x4 x5 x6 x7 x8)

end

section

variable (c : Dev nD) (i : grid0.Coords)
  (a1 : Memref sig .tc .vmem S2048x128 .f32) (h1 : a1.IsWhole) (a2 : Memref sig .tc .vmem S2048x128 .f32) (h2 : a2.IsWhole)
  (a3 : Memref sig .tc .vmem S4x128 .f32) (h3 : a3.IsWhole) (a4 : Memref sig .tc .vmem S1x128 .f32) (h4 : a4.IsWhole)
  (a5 : Memref sig .tc .vmem S1x128x128 .bf16) (h5 : a5.IsWhole) (a6 : Memref sig .tc .vmem S1x128 .f32) (h6 : a6.IsWhole)
  (a7 : Memref sig .tc .vmem S1x128x128 .bf16) (h7 : a7.IsWhole) (a8 : Memref sig .tc .vmem S1x128 .f32) (h8 : a8.IsWhole)
  (a9 : Memref sig .tc .vmem S1x128 .f32) (h9 : a9.IsWhole) (a10 : Memref sig .tc .vmem S2048x128 .bf16) (h10 : a10.IsWhole)
  (a11 : Memref sig .tc .vmem S2048x128 .f32) (h11 : a11.IsWhole) (a12 : Memref sig .tc .vmem S2048x128 .f32) (h12 : a12.IsWhole)
  (a13 : Memref sig .tc .vmem S2048x128 .f32) (h13 : a13.IsWhole)
  (x0 : Vec F S2048x128 .f32) (x1 : Vec F S2048x128 .f32) (x2 : Vec F S4x128 .f32) (x3 : Vec F S1x128 .f32)
  (x4 : Vec F S1x128x128 .bf16) (x5 : Vec F S1x128 .f32) (x6 : Vec F S1x128x128 .bf16) (x7 : Vec F S1x128 .f32)
  (x8 : Vec F S1x128 .f32)

set_option maxHeartbeats 2000000 in set_option sl_exec.stridedRows true in
/-- The stores the body makes in its two outputs, last first, with the body's triple at them. -/
noncomputable def run0 :
    Σ' (L9 : List (View.Piece (Elt F) S2048x128 .bf16)), { L10 : List (View.Piece (Elt F) S2048x128 .f32) //
      ∀ (E : Set ℕ) (K : PUnit → sProp 𝕄),
        iprop((owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8)
            ∗ (∃ d, owns (c : Thread nD τ) a10 fullShare d) ∗ (∃ d, owns (c : Thread nD τ) a11 fullShare d)
            ∗ (∃ d, owns (c : Thread nD τ) a12 fullShare d) ∗ (∃ d, owns (c : Thread nD τ) a13 fullShare d)
            ∗ (iprop((owns (c : Thread nD τ) a1 fullShare x0 ∗ owns (c : Thread nD τ) a2 fullShare x1 ∗ owns (c : Thread nD τ) a3 fullShare x2
                ∗ owns (c : Thread nD τ) a4 fullShare x3 ∗ owns (c : Thread nD τ) a5 fullShare x4 ∗ owns (c : Thread nD τ) a6 fullShare x5
                ∗ owns (c : Thread nD τ) a7 fullShare x6 ∗ owns (c : Thread nD τ) a8 fullShare x7 ∗ owns (c : Thread nD τ) a9 fullShare x8)
              ∗ (∃ f, a10.view.loc (c : Thread nD τ) ↦[a10.view.set]{fullShare} a10.view.writes (Elt F) f L9)
              ∗ (∃ f, a11.view.loc (c : Thread nD τ) ↦[a11.view.set]{fullShare} a11.view.writes (Elt F) f L10)
              ∗ (∃ d, owns (c : Thread nD τ) a12 fullShare d) ∗ (∃ d, owns (c : Thread nD τ) a13 fullShare d)) -∗ K ⟨⟩))
          ⊢ wp frame (wpE (defs₀ (F := F)) Variants.none c none) E
              (cc0_fwd_lru i a1 h1 a2 h2 a3 h3 a4 h4 a5 h5 a6 h6 a7 h7 a8 h8 a9 h9 a10 h10 a11 h11 a12 h12 a13 h13) K } := by
  refine ⟨?_, ?_, fun E K => ?run⟩
  case run =>
    simp only [cc0_fwd_lru_eq_skeleton]; unfold cc0_fwd_lru_skel
    simp only [k0_part9_eq_skeleton]; unfold k0_part9_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩⟩, ⟨%d9, %f9, -, H9⟩, ⟨%d10, %f10, -, H10⟩, ⟨%d11, %f11, -, H11⟩, ⟨%d12, %f12, -, H12⟩, Hk⟩
    obtain rfl := h1.eq_unread e0; obtain rfl := h2.eq_unread e1; obtain rfl := h3.eq_unread e2; obtain rfl := h4.eq_unread e3
    obtain rfl := h5.eq_unread e4; obtain rfl := h6.eq_unread e5; obtain rfl := h7.eq_unread e6; obtain rfl := h8.eq_unread e7
    obtain rfl := h9.eq_unread e8
    sl_exec
    sl_step
    iapply Hk
    isplitl [H0 H1 H2 H3 H4 H5 H6 H7 H8]
    · isplitl [H0]; · iexists _; isplitr; · ipureintro; exact h1.read_unread _
                      iexact H0
      isplitl [H1]; · iexists _; isplitr; · ipureintro; exact h2.read_unread _
                      iexact H1
      isplitl [H2]; · iexists _; isplitr; · ipureintro; exact h3.read_unread _
                      iexact H2
      isplitl [H3]; · iexists _; isplitr; · ipureintro; exact h4.read_unread _
                      iexact H3
      isplitl [H4]; · iexists _; isplitr; · ipureintro; exact h5.read_unread _
                      iexact H4
      isplitl [H5]; · iexists _; isplitr; · ipureintro; exact h6.read_unread _
                      iexact H5
      isplitl [H6]; · iexists _; isplitr; · ipureintro; exact h7.read_unread _
                      iexact H6
      isplitl [H7]; · iexists _; isplitr; · ipureintro; exact h8.read_unread _
                      iexact H7
      iexists _; isplitr; · ipureintro; exact h9.read_unread _
      iexact H8
    isplitl [H9]; · iexists _; iexact H9
    isplitl [H10]; · iexists _; iexact H10
    isplitl [H11]
    · iexists _, _; isplitr; swap; · iexact H11
      ipureintro; rfl
    iexists _, _; isplitr; swap; · iexact H12
    ipureintro; rfl

set_option maxHeartbeats 2000000 in
/-- The stores of the state, in the payloads' own words. -/
theorem run0_h : (run0 c i a1 h1 a2 h2 a3 h3 a4 h4 a5 h5 a6 h6 a7 h7 a8 h8 a9 h9 a10 h10 a11 h11 a12 h12 a13 h13 x0 x1 x2 x3 x4 x5 x6 x7 x8).2.1
    = hRows (scA x0 x2 x3 x4 x5 x8) (scB x0 x2 x3 x4 x5 x6 x7 x8) := by
  unfold run0
  dsimp only
  sl_unfold_words
  simp (disch := decide) only [View.readAt_eq_ld, Memref.IsWhole.read_unread, View.ld_unit_lit', readCov_all, View.readCov_eq_canon', View.canon_cons_unit_lit']
  rfl

set_option maxHeartbeats 2000000 in
/-- The store of the output, in the payloads' own words. -/
theorem run0_y : (run0 c i a1 h1 a2 h2 a3 h3 a4 h4 a5 h5 a6 h6 a7 h7 a8 h8 a9 h9 a10 h10 a11 h11 a12 h12 a13 h13 x0 x1 x2 x3 x4 x5 x6 x7 x8).1
    = [⟨Rect.unit (s := S2048x128) ![0, 0] S2048x128.size inb_S2048x128_S2048x128_0_0, yOut x0 x1 x2 x3 x4 x5 x6 x7 x8⟩] := by
  unfold run0
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S2048x128) ![0, 0] S2048x128.size inb_S2048x128_S2048x128_0_0, k0_pay44 x1 (View.canon L)⟩ :
    View.Piece (Elt F) S2048x128 .bf16)]) (?_ : _ = hRows (scA x0 x2 x3 x4 x5 x8) (scB x0 x2 x3 x4 x5 x6 x7 x8))
  rfl

end

end Cert.LruRun

end
-- ==== Proof.LruRun1.lean ====
/- The backward mixer's block: what one run of its body leaves in the staging buffers of its nine outputs, over any float
   values. The adjoint of the state is scanned from the last row up, stored eight rows apart, and read back whole. -/
module

public import proofs.«01_k».proof.Proof.LruRun0
public import proofs.«01_k».proof.Proof.Gen.KernelLruIdeal.Launch
public import proofs.«01_k».proof.Proof.Gen.KernelLruIdeal.Skeleton
public import proofs.«01_k».proof.Proof.Gen.KernelLruIdeal.Points
public import Idealize.ShloMosaic.Lib.Pipeline.ValueKit.Acc
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.LruRun

open Cert.KernelLruIdeal Cert.KernelLruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (x0 x1 x2 x3 : Vec F S2048x128 .f32) (x4 : Vec F S4x128 .f32) (x5 : Vec F S1x128 .f32) (x6 : Vec F S1x128x128 .bf16)
  (x7 : Vec F S1x128 .f32) (x8 : Vec F S1x128x128 .bf16) (x9 x10 : Vec F S1x128 .f32)

/-- The log decay's pieces, from the decay's parameter. -/
def lamS : FVec F S1x128 .f32 := k1_pay17 (k1_pay12 x10) (k1_pay13 x10) (k1_pay14 x10) (k1_pay15 x10) (k1_pay16 x10)
def xcB : FVec F S2048x128 .f32 := k1_pay6 x0 x4 x5
def rB : FVec F S2048x128 .f32 := k1_pay10 (xcB x0 x4 x5) x6 x7
def iB : FVec F S2048x128 .f32 := k1_pay11 (xcB x0 x4 x5) x8 x9
/-- The decay and the input's factor. -/
def aB : FVec F S2048x128 .f32 :=
  k1_pay19 (rB x0 x4 x5 x6 x7) (k1_pay12 x10) (k1_pay13 x10) (k1_pay14 x10) (k1_pay15 x10) (k1_pay16 x10)
def mB : FVec F S2048x128 .f32 :=
  k1_pay20 (rB x0 x4 x5 x6 x7) (k1_pay12 x10) (k1_pay13 x10) (k1_pay14 x10) (k1_pay15 x10) (k1_pay16 x10)
/-- The scan inside the tiles, from the last row up: products and sums. -/
def scA1 : FVec F S2048x128 .f32 := k1_pay34 rowIdx (k1_pay30 (aB x0 x4 x5 x6 x7 x10))
def scB1 : FVec F S2048x128 .f32 :=
  k1_pay35 rowIdx (k1_pay29 (aB x0 x4 x5 x6 x7 x10) (k1_pay22 x1) x3) (k1_pay30 (aB x0 x4 x5 x6 x7 x10))

/-- The scan over the tiles' first rows: products, sums. -/
def tileP1 (p q : FVec F S256x128 .f32) : FVec F S256x128 .f32 := k1_pay41 p q k1_pay36 (k1_pay37 q) (k1_pay38 (F := F))
def tileP2 (p q : FVec F S256x128 .f32) : FVec F S256x128 .f32 := k1_pay46 (tileP1 p q) (k1_pay42 p) k1_pay43 248#32
def tileP3 (p : FVec F S256x128 .f32) : FVec F S256x128 .f32 := k1_pay47 (k1_pay42 p)

/-- The adjoint's rows, last store first. -/
def lRows (A B : FVec F S2048x128 .f32) : List (View.Piece (Elt F) S2048x128 .f32) :=
  let p := rowsAt 0 inb_S2048x128_S256x128_0_0_s_8_1 A
  let q := rowsAt 0 inb_S2048x128_S256x128_0_0_s_8_1 B
  let v279 := tileP2 p q
  let v286 := tileP3 p
  let e := k1_pay48 v279 v286 tileIdx 192#32
  [⟨⟨⟨![7, 0], S256x128.size, ![8, 1], inb_S2048x128_S256x128_7_0_s_8_1⟩, spos_8_1⟩, k1_pay58 e (rowsAt 7 inb_S2048x128_S256x128_7_0_s_8_1 B) (rowsAt 7 inb_S2048x128_S256x128_7_0_s_8_1 A)⟩,
   ⟨⟨⟨![6, 0], S256x128.size, ![8, 1], inb_S2048x128_S256x128_6_0_s_8_1⟩, spos_8_1⟩, k1_pay57 e (rowsAt 6 inb_S2048x128_S256x128_6_0_s_8_1 B) (rowsAt 6 inb_S2048x128_S256x128_6_0_s_8_1 A)⟩,
   ⟨⟨⟨![5, 0], S256x128.size, ![8, 1], inb_S2048x128_S256x128_5_0_s_8_1⟩, spos_8_1⟩, k1_pay56 (k1_pay55 e (rowsAt 5 inb_S2048x128_S256x128_5_0_s_8_1 B) (rowsAt 5 inb_S2048x128_S256x128_5_0_s_8_1 A))⟩,
   ⟨⟨⟨![4, 0], S256x128.size, ![8, 1], inb_S2048x128_S256x128_4_0_s_8_1⟩, spos_8_1⟩, k1_pay54 e (rowsAt 4 inb_S2048x128_S256x128_4_0_s_8_1 B) (rowsAt 4 inb_S2048x128_S256x128_4_0_s_8_1 A)⟩,
   ⟨⟨⟨![3, 0], S256x128.size, ![8, 1], inb_S2048x128_S256x128_3_0_s_8_1⟩, spos_8_1⟩, k1_pay53 e (rowsAt 3 inb_S2048x128_S256x128_3_0_s_8_1 B) (rowsAt 3 inb_S2048x128_S256x128_3_0_s_8_1 A)⟩,
   ⟨⟨⟨![2, 0], S256x128.size, ![8, 1], inb_S2048x128_S256x128_2_0_s_8_1⟩, spos_8_1⟩, k1_pay52 e (rowsAt 2 inb_S2048x128_S256x128_2_0_s_8_1 B) (rowsAt 2 inb_S2048x128_S256x128_2_0_s_8_1 A)⟩,
   ⟨⟨⟨![1, 0], S256x128.size, ![8, 1], inb_S2048x128_S256x128_1_0_s_8_1⟩, spos_8_1⟩, k1_pay51 (rowsAt 1 inb_S2048x128_S256x128_1_0_s_8_1 B) (k1_pay50 v279 v286 tileIdx 192#32 (rowsAt 1 inb_S2048x128_S256x128_1_0_s_8_1 A))⟩,
   ⟨⟨⟨![0, 0], S256x128.size, ![8, 1], inb_S2048x128_S256x128_0_0_s_8_1⟩, spos_8_1⟩, k1_pay49 v279 v286 tileIdx 192#32 (rowsAt 0 inb_S2048x128_S256x128_0_0_s_8_1 B) (rowsAt 0 inb_S2048x128_S256x128_0_0_s_8_1 A)⟩]

/-- The adjoint of the state. -/
def lB : FVec F S2048x128 .f32 := View.canon (lRows (scA1 x0 x4 x5 x6 x7 x10) (scB1 x0 x1 x3 x4 x5 x6 x7 x10))

section
variable (lam : FVec F S2048x128 .f32)
def dxmB : FVec F S2048x128 .f32 := k1_pay59 (xcB x0 x4 x5) (mB x0 x4 x5 x6 x7 x10) lam
def dxcB : FVec F S2048x128 .f32 := k1_pay60 (iB x0 x4 x5 x8 x9) (mB x0 x4 x5 x6 x7 x10) lam
def dlaB : FVec F S2048x128 .f32 :=
  k1_pay61 (xcB x0 x4 x5) (iB x0 x4 x5 x8 x9) (aB x0 x4 x5 x6 x7 x10) (mB x0 x4 x5 x6 x7 x10) x2 lam
def drB : FVec F S2048x128 .f32 :=
  k1_pay62 (xcB x0 x4 x5) (iB x0 x4 x5 x8 x9) (lamS x10) (aB x0 x4 x5 x6 x7 x10) (mB x0 x4 x5 x6 x7 x10) x2 lam
/-- The gradient of the convolved input. -/
def dconvB : FVec F S2048x128 .f32 :=
  k1_pay68 (k1_pay7 x6) (k1_pay8 x8) (rB x0 x4 x5 x6 x7) (iB x0 x4 x5 x8 x9) (dxmB x0 x4 x5 x6 x7 x10 lam) (dxcB x0 x4 x5 x6 x7 x8 x9 x10 lam)
    (drB x0 x2 x4 x5 x6 x7 x8 x9 x10 lam)
def o12 : FVec F S2048x128 .bf16 :=
  k1_pay1 (k1_pay2 x4) (dconvB x0 x2 x4 x5 x6 x7 x8 x9 x10 lam) (k1_pay76 (k1_pay2 x4) (dconvB x0 x2 x4 x5 x6 x7 x8 x9 x10 lam)) (k1_pay77 (k1_pay2 x4))
    (k1_pay78 (dconvB x0 x2 x4 x5 x6 x7 x8 x9 x10 lam))
def o14 : FVec F S4x128 .f32 := k1_pay75 x0 (k1_pay3 x0) (k1_pay4 x0) (k1_pay5 x0) (dconvB x0 x2 x4 x5 x6 x7 x8 x9 x10 lam)
def o15 : FVec F S1x128 .f32 := k1_pay74 (dconvB x0 x2 x4 x5 x6 x7 x8 x9 x10 lam)
def o16 : FVec F S1x128x128 .f32 := k1_pay69 (k1_pay9 (xcB x0 x4 x5)) (rB x0 x4 x5 x6 x7) (drB x0 x2 x4 x5 x6 x7 x8 x9 x10 lam)
def o17 : FVec F S1x128 .f32 := k1_pay72 (k1_pay71 (rB x0 x4 x5 x6 x7) (drB x0 x2 x4 x5 x6 x7 x8 x9 x10 lam))
def o18 : FVec F S1x128x128 .f32 := k1_pay70 (k1_pay9 (xcB x0 x4 x5)) (iB x0 x4 x5 x8 x9) (dxmB x0 x4 x5 x6 x7 x10 lam)
def o19 : FVec F S1x128 .f32 := k1_pay73 (k1_pay65 (iB x0 x4 x5 x8 x9) (dxmB x0 x4 x5 x6 x7 x10 lam))
def o20 : FVec F S1x128 .f32 := k1_pay63 x10 (rB x0 x4 x5 x6 x7) (dlaB x0 x2 x4 x5 x6 x7 x8 x9 x10 lam)
end

/-- The gradient of the gate's input. -/
def o13 : FVec F S2048x128 .bf16 := k1_pay26 x1 (k1_pay23 x1) (k1_pay24 x1) (k1_pay25 x1) x2 x3

end

section

variable (c : Dev nD) (i : grid1.Coords)
  (a1 : Memref sig .tc .vmem S2048x128 .f32) (h1 : a1.IsWhole) (a2 : Memref sig .tc .vmem S2048x128 .f32) (h2 : a2.IsWhole)
  (a3 : Memref sig .tc .vmem S2048x128 .f32) (h3 : a3.IsWhole) (a4 : Memref sig .tc .vmem S2048x128 .f32) (h4 : a4.IsWhole)
  (a5 : Memref sig .tc .vmem S4x128 .f32) (h5 : a5.IsWhole) (a6 : Memref sig .tc .vmem S1x128 .f32) (h6 : a6.IsWhole)
  (a7 : Memref sig .tc .vmem S1x128x128 .bf16) (h7 : a7.IsWhole) (a8 : Memref sig .tc .vmem S1x128 .f32) (h8 : a8.IsWhole)
  (a9 : Memref sig .tc .vmem S1x128x128 .bf16) (h9 : a9.IsWhole) (a10 : Memref sig .tc .vmem S1x128 .f32) (h10 : a10.IsWhole)
  (a11 : Memref sig .tc .vmem S1x128 .f32) (h11 : a11.IsWhole) (a12 : Memref sig .tc .vmem S2048x128 .bf16) (h12 : a12.IsWhole)
  (a13 : Memref sig .tc .vmem S2048x128 .bf16) (h13 : a13.IsWhole) (a14 : Memref sig .tc .vmem S4x128 .f32) (h14 : a14.IsWhole)
  (a15 : Memref sig .tc .vmem S1x128 .f32) (h15 : a15.IsWhole) (a16 : Memref sig .tc .vmem S1x128x128 .f32) (h16 : a16.IsWhole)
  (a17 : Memref sig .tc .vmem S1x128 .f32) (h17 : a17.IsWhole) (a18 : Memref sig .tc .vmem S1x128x128 .f32) (h18 : a18.IsWhole)
  (a19 : Memref sig .tc .vmem S1x128 .f32) (h19 : a19.IsWhole) (a20 : Memref sig .tc .vmem S1x128 .f32) (h20 : a20.IsWhole)
  (a21 : Memref sig .tc .vmem S2048x128 .f32) (h21 : a21.IsWhole) (a22 : Memref sig .tc .vmem S2048x128 .f32) (h22 : a22.IsWhole)
  (a23 : Memref sig .tc .vmem S2048x128 .f32) (h23 : a23.IsWhole)
  (x0 : Vec F S2048x128 .f32) (x1 : Vec F S2048x128 .f32) (x2 : Vec F S2048x128 .f32) (x3 : Vec F S2048x128 .f32)
  (x4 : Vec F S4x128 .f32) (x5 : Vec F S1x128 .f32) (x6 : Vec F S1x128x128 .bf16) (x7 : Vec F S1x128 .f32)
  (x8 : Vec F S1x128x128 .bf16) (x9 : Vec F S1x128 .f32) (x10 : Vec F S1x128 .f32)

set_option maxHeartbeats 4000000 in set_option sl_exec.stridedRows true in
/-- The stores the body makes in its nine outputs, last first, with the body's triple at them. -/
noncomputable def run1 :
    Σ' (L11 : List (View.Piece (Elt F) S2048x128 .bf16)), Σ' (L12 : List (View.Piece (Elt F) S2048x128 .bf16)), Σ' (L13 : List (View.Piece (Elt F) S4x128 .f32)), Σ' (L14 : List (View.Piece (Elt F) S1x128 .f32)),
      Σ' (L15 : List (View.Piece (Elt F) S1x128x128 .f32)), Σ' (L16 : List (View.Piece (Elt F) S1x128 .f32)), Σ' (L17 : List (View.Piece (Elt F) S1x128x128 .f32)), Σ' (L18 : List (View.Piece (Elt F) S1x128 .f32)), { L19 : List (View.Piece (Elt F) S1x128 .f32) //
      ∀ (E : Set ℕ) (K : PUnit → sProp 𝕄),
        iprop((owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10)
            ∗ (∃ d, owns (c : Thread nD τ) a12 fullShare d) ∗ (∃ d, owns (c : Thread nD τ) a13 fullShare d) ∗ (∃ d, owns (c : Thread nD τ) a14 fullShare d)
            ∗ (∃ d, owns (c : Thread nD τ) a15 fullShare d) ∗ (∃ d, owns (c : Thread nD τ) a16 fullShare d) ∗ (∃ d, owns (c : Thread nD τ) a17 fullShare d)
            ∗ (∃ d, owns (c : Thread nD τ) a18 fullShare d) ∗ (∃ d, owns (c : Thread nD τ) a19 fullShare d) ∗ (∃ d, owns (c : Thread nD τ) a20 fullShare d)
            ∗ (∃ d, owns (c : Thread nD τ) a21 fullShare d) ∗ (∃ d, owns (c : Thread nD τ) a22 fullShare d) ∗ (∃ d, owns (c : Thread nD τ) a23 fullShare d)
            ∗ (iprop((owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10)
            ∗ (∃ f, a12.view.loc (c : Thread nD τ) ↦[a12.view.set]{fullShare} a12.view.writes (Elt F) f L11)
            ∗ (∃ f, a13.view.loc (c : Thread nD τ) ↦[a13.view.set]{fullShare} a13.view.writes (Elt F) f L12)
            ∗ (∃ f, a14.view.loc (c : Thread nD τ) ↦[a14.view.set]{fullShare} a14.view.writes (Elt F) f L13)
            ∗ (∃ f, a15.view.loc (c : Thread nD τ) ↦[a15.view.set]{fullShare} a15.view.writes (Elt F) f L14)
            ∗ (∃ f, a16.view.loc (c : Thread nD τ) ↦[a16.view.set]{fullShare} a16.view.writes (Elt F) f L15)
            ∗ (∃ f, a17.view.loc (c : Thread nD τ) ↦[a17.view.set]{fullShare} a17.view.writes (Elt F) f L16)
            ∗ (∃ f, a18.view.loc (c : Thread nD τ) ↦[a18.view.set]{fullShare} a18.view.writes (Elt F) f L17)
            ∗ (∃ f, a19.view.loc (c : Thread nD τ) ↦[a19.view.set]{fullShare} a19.view.writes (Elt F) f L18)
            ∗ (∃ f, a20.view.loc (c : Thread nD τ) ↦[a20.view.set]{fullShare} a20.view.writes (Elt F) f L19)
            ∗ (∃ d, owns (c : Thread nD τ) a21 fullShare d) ∗ (∃ d, owns (c : Thread nD τ) a22 fullShare d) ∗ (∃ d, owns (c : Thread nD τ) a23 fullShare d)) -∗ K ⟨⟩))
          ⊢ wp frame (wpE (defs₀ (F := F)) Variants.none c none) E
              (cc1_bwd_lru i a1 h1 a2 h2 a3 h3 a4 h4 a5 h5 a6 h6 a7 h7 a8 h8 a9 h9 a10 h10 a11 h11
              a12 h12 a13 h13 a14 h14 a15 h15 a16 h16 a17 h17 a18 h18 a19 h19 a20 h20 a21 h21 a22 h22 a23 h23) K } := by
  refine ⟨?_, ?_, ?_, ?_, ?_, ?_, ?_, ?_, ?_, fun E K => ?run⟩
  case run =>
    simp only [cc1_bwd_lru_eq_skeleton]; unfold cc1_bwd_lru_skel
    simp only [k1_part1_eq_skeleton, k1_part2_eq_skeleton, k1_part3_eq_skeleton, k1_part4_eq_skeleton, k1_part5_eq_skeleton,
      k1_part6_eq_skeleton, k1_part7_eq_skeleton, k1_part8_eq_skeleton, k1_part9_eq_skeleton, k1_part10_eq_skeleton,
      k1_part11_eq_skeleton, k1_part12_eq_skeleton]
    unfold owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩,
      ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11
    sl_exec
    sl_step
    iapply Hk
    isplitl [H1 H2 H3 H4 H5 H6 H7 H8 H9 H10 H11]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      iexists _; isplitr; · ipureintro; exact h11.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

set_option maxHeartbeats 2000000 in
theorem run1_o12 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).1
    = [⟨Rect.unit (s := S2048x128) ![0, 0] S2048x128.size inb_S2048x128_S2048x128_0_0, o12 x0 x2 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S2048x128) ![0, 0] S2048x128.size inb_S2048x128_S2048x128_0_0, o12 x0 x2 x4 x5 x6 x7 x8 x9 x10 (View.canon L)⟩ :
    View.Piece (Elt F) S2048x128 .bf16)]) (?_ : _ = lRows (scA1 x0 x4 x5 x6 x7 x10) (scB1 x0 x1 x3 x4 x5 x6 x7 x10))
  rfl

set_option maxHeartbeats 2000000 in
theorem run1_o13 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.1
    = [⟨Rect.unit (s := S2048x128) ![0, 0] S2048x128.size inb_S2048x128_S2048x128_0_0, o13 x1 x2 x3⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  rfl

set_option maxHeartbeats 2000000 in
theorem run1_o14 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.1
    = [⟨Rect.unit (s := S4x128) ![0, 0] S4x128.size inb_S4x128_S4x128_0_0, o14 x0 x2 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S4x128) ![0, 0] S4x128.size inb_S4x128_S4x128_0_0, o14 x0 x2 x4 x5 x6 x7 x8 x9 x10 (View.canon L)⟩ :
    View.Piece (Elt F) S4x128 .f32)]) (?_ : _ = lRows (scA1 x0 x4 x5 x6 x7 x10) (scB1 x0 x1 x3 x4 x5 x6 x7 x10))
  rfl

set_option maxHeartbeats 2000000 in
theorem run1_o15 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.2.1
    = [⟨Rect.unit (s := S1x128) ![0, 0] S1x128.size inb_S1x128_S1x128_0_0, o15 x0 x2 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S1x128) ![0, 0] S1x128.size inb_S1x128_S1x128_0_0, o15 x0 x2 x4 x5 x6 x7 x8 x9 x10 (View.canon L)⟩ :
    View.Piece (Elt F) S1x128 .f32)]) (?_ : _ = lRows (scA1 x0 x4 x5 x6 x7 x10) (scB1 x0 x1 x3 x4 x5 x6 x7 x10))
  rfl

set_option maxHeartbeats 2000000 in
theorem run1_o16 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.2.2.1
    = [⟨Rect.unit (s := S1x128x128) ![0, 0, 0] S1x128x128.size inb_S1x128x128_S1x128x128_0_0_0, o16 x0 x2 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S1x128x128) ![0, 0, 0] S1x128x128.size inb_S1x128x128_S1x128x128_0_0_0, o16 x0 x2 x4 x5 x6 x7 x8 x9 x10 (View.canon L)⟩ :
    View.Piece (Elt F) S1x128x128 .f32)]) (?_ : _ = lRows (scA1 x0 x4 x5 x6 x7 x10) (scB1 x0 x1 x3 x4 x5 x6 x7 x10))
  rfl

set_option maxHeartbeats 2000000 in
theorem run1_o17 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.2.2.2.1
    = [⟨Rect.unit (s := S1x128) ![0, 0] S1x128.size inb_S1x128_S1x128_0_0, o17 x0 x2 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S1x128) ![0, 0] S1x128.size inb_S1x128_S1x128_0_0, o17 x0 x2 x4 x5 x6 x7 x8 x9 x10 (View.canon L)⟩ :
    View.Piece (Elt F) S1x128 .f32)]) (?_ : _ = lRows (scA1 x0 x4 x5 x6 x7 x10) (scB1 x0 x1 x3 x4 x5 x6 x7 x10))
  rfl

set_option maxHeartbeats 2000000 in
theorem run1_o18 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.2.2.2.2.1
    = [⟨Rect.unit (s := S1x128x128) ![0, 0, 0] S1x128x128.size inb_S1x128x128_S1x128x128_0_0_0, o18 x0 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S1x128x128) ![0, 0, 0] S1x128x128.size inb_S1x128x128_S1x128x128_0_0_0, o18 x0 x4 x5 x6 x7 x8 x9 x10 (View.canon L)⟩ :
    View.Piece (Elt F) S1x128x128 .f32)]) (?_ : _ = lRows (scA1 x0 x4 x5 x6 x7 x10) (scB1 x0 x1 x3 x4 x5 x6 x7 x10))
  rfl

set_option maxHeartbeats 2000000 in
theorem run1_o19 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.2.2.2.2.2.1
    = [⟨Rect.unit (s := S1x128) ![0, 0] S1x128.size inb_S1x128_S1x128_0_0, o19 x0 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S1x128) ![0, 0] S1x128.size inb_S1x128_S1x128_0_0, o19 x0 x4 x5 x6 x7 x8 x9 x10 (View.canon L)⟩ :
    View.Piece (Elt F) S1x128 .f32)]) (?_ : _ = lRows (scA1 x0 x4 x5 x6 x7 x10) (scB1 x0 x1 x3 x4 x5 x6 x7 x10))
  rfl

set_option maxHeartbeats 2000000 in
theorem run1_o20 : (run1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10).2.2.2.2.2.2.2.2.1
    = [⟨Rect.unit (s := S1x128) ![0, 0] S1x128.size inb_S1x128_S1x128_0_0, o20 x0 x2 x4 x5 x6 x7 x8 x9 x10 (lB x0 x1 x3 x4 x5 x6 x7 x10)⟩] := by
  unfold run1
  dsimp only
  sl_unfold_words
  simp (disch := decide) only [readCov_all]
  simp (disch := decide) only [View.readAt_eq_ld, Memref.IsWhole.read_unread, View.ld_unit_lit', readCov_all, View.readCov_eq_canon', View.canon_cons_unit_lit']
  refine congrArg (fun L => [(⟨Rect.unit (s := S1x128) ![0, 0] S1x128.size inb_S1x128_S1x128_0_0, o20 x0 x2 x4 x5 x6 x7 x8 x9 x10 (View.canon L)⟩ :
    View.Piece (Elt F) S1x128 .f32)]) (?_ : _ = lRows (scA1 x0 x4 x5 x6 x7 x10) (scB1 x0 x1 x3 x4 x5 x6 x7 x10))
  rfl

end

end Cert.LruRun

end
-- ==== Proof.LruBody0.lean ====
/- The forward mixer's call: the pipeline's obligation on its body, from what one run of the body leaves. -/
module

public import proofs.«01_k».proof.Proof.LruRun0

@[expose] public section

set_option maxRecDepth 16384

noncomputable section

namespace Cert.LruRun

open Cert.KernelLruIdeal Cert.KernelLruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Memory after one store of the whole block reads that store. -/
theorem read_whole_store {V : EltTy → Type} [∀ e, Nonempty (V e)] {S : Shape} {e : EltTy} {sg : RefSig} {κ : Kind} {sp : Space}
    (v : View sg κ sp S e) (f : v.ty.Contents V) (off : Fin S.rank → ℕ) (inb : ∀ a, off a + S.size a ≤ S.size a) (w : S.Idx → V e)
    (L : List (View.Piece V S e)) (h0 : ∀ a, off a = 0) (hL : L = [⟨Rect.unit off S.size inb, w⟩]) :
    v.read V (v.writes V f L) = w := by
  subst hL
  refine (View.read_writes_eq_canon v f _ fun y => ⟨_, List.mem_singleton.mpr rfl, ?_⟩).trans (View.canon_cons_unit_lit inb w [] h0)
  rw [LoadRect.mem_set]
  intro a
  exact ⟨(y a).val, (y a).isLt, by show (y a).val = off a + 1 * (y a).val; rw [h0 a]; omega⟩

/-- Eight stores of every eighth row leave no row out. -/
theorem rows_cover {S : Shape} {e : EltTy} (hS : S = S2048x128) (L : List (View.Piece (Elt F) S2048x128 e))
    (h : ∀ o : Fin 8, ∃ hb, ∃ hp, ∃ w : S256x128.Idx → Elt F e,
      (⟨⟨⟨![o.val, 0], S256x128.size, ![8, 1], hb⟩, hp⟩, w⟩ : View.Piece (Elt F) S2048x128 e) ∈ L) (y : S2048x128.Idx) :
    ∃ p ∈ L, y ∈ p.1.set := by
  obtain ⟨hb, hp, w, hm⟩ := h ⟨(y 0).val % 8, Nat.mod_lt _ (by decide)⟩
  refine ⟨_, hm, ?_⟩
  have h0 : (y 0).val < 2048 := (y 0).isLt
  have h1 : (y 1).val < 128 := (y 1).isLt
  rw [LoadRect.mem_set]
  intro a
  match a with
  | ⟨0, _⟩ => exact ⟨(y 0).val / 8, show (y 0).val / 8 < 256 by omega, show (y 0).val = (y 0).val % 8 + 8 * ((y 0).val / 8) by omega⟩
  | ⟨1, _⟩ => exact ⟨(y 1).val, h1, show (y 1).val = 0 + 1 * (y 1).val by omega⟩

theorem hRows_cover (A B : FVec F S2048x128 .f32) (y : S2048x128.Idx) : ∃ p ∈ hRows A B, y ∈ p.1.set := by
  refine rows_cover rfl _ (fun o => ?_) y
  unfold hRows
  match o with
  | ⟨0, _⟩ => exact ⟨_, _, _, .tail _ (.tail _ (.tail _ (.tail _ (.tail _ (.tail _ (.tail _ (.head _)))))))⟩
  | ⟨1, _⟩ => exact ⟨_, _, _, .tail _ (.tail _ (.tail _ (.tail _ (.tail _ (.tail _ (.head _))))))⟩
  | ⟨2, _⟩ => exact ⟨_, _, _, .tail _ (.tail _ (.tail _ (.tail _ (.tail _ (.head _)))))⟩
  | ⟨3, _⟩ => exact ⟨_, _, _, .tail _ (.tail _ (.tail _ (.tail _ (.head _))))⟩
  | ⟨4, _⟩ => exact ⟨_, _, _, .tail _ (.tail _ (.tail _ (.head _)))⟩
  | ⟨5, _⟩ => exact ⟨_, _, _, .tail _ (.tail _ (.head _))⟩
  | ⟨6, _⟩ => exact ⟨_, _, _, .tail _ (.head _)⟩
  | ⟨7, _⟩ => exact ⟨_, _, _, .head _⟩

section

variable (V : (c : Dev nD) → (b : Ref sig .tc) → Buf (Elt F) ((c : Thread nD τ).loc b))

/-- A window's block of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gated output's block. -/
def val0_9 (c : Dev nD) (t : Fin cfg0.N) : FVec F S2048x128 .bf16 :=
  yOut (iblk0 V c 0 t) (iblk0 V c 1 t) (iblk0 V c 2 t) (iblk0 V c 3 t) (iblk0 V c 4 t) (iblk0 V c 5 t) (iblk0 V c 6 t) (iblk0 V c 7 t) (iblk0 V c 8 t)
/-- The state's block. -/
def val0_10 (c : Dev nD) (t : Fin cfg0.N) : FVec F S2048x128 .f32 :=
  hOut (iblk0 V c 0 t) (iblk0 V c 2 t) (iblk0 V c 3 t) (iblk0 V c 4 t) (iblk0 V c 5 t) (iblk0 V c 6 t) (iblk0 V c 7 t) (iblk0 V c 8 t)

/-- What the arrays and the staging buffers hold through the call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => val0_9 V c t
    | ⟨10, _⟩ => val0_10 V c t
  Φ _ := Pipeline.ΦA spec0 c
  q w := Pipeline.shareOf spec0 w
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = val0_9 V c t := by dsimp only [dat0]
theorem after0_10 (c : Dev nD) (t : Fin cfg0.N) : (dat0 V c).after 10 t = val0_10 V c t := by dsimp only [dat0]

/-! An input's staging buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-- The call's scratch, apart from the other buffers of the region. -/
theorem scratch0 (c : Dev nD) : (Pipeline.ΦA (Val := Elt F) (U := UR sig nD τ) spec0 c : sProp 𝕄)
    = iprop((((∃ d, owns (c : Thread nD τ) (Memref.whole cc0_scratch0) fullShare d) ∗ (∃ d, owns (c : Thread nD τ) (Memref.whole cc0_scratch1) fullShare d))
        ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA
  rw [scopedRest0_split]
  simp only [owns_whole]
  try rfl

/-- The body's precondition at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and its postcondition. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 2000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10,
    show (dat0 V c).Φ t.castSucc = Pipeline.ΦA spec0 c from rfl, scratch0]
  iintro ⟨⟨⟨⟨S0, S1⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run0 c (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t)).2.2 Set.univ _
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexists _; iexact H10
  isplitl [S0]; · iexact S0
  isplitl [S1]; · iexact S1
  iintro ⟨⟨H0, H1, H2, H3, H4, H5, H6, H7, H8⟩, ⟨%g9, H9⟩, ⟨%g10, H10⟩, S0, S1⟩
  isplitl [S0 S1 Hrest Hp]
  · isplitl [S0 S1 Hrest]
    · isplitl [S0 S1]
      · isplitl [S0]; · iexact S0
        iexact S1
      iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_whole_store _ _ _ _ _ _ (by decide) (run0_y ..)
  unfold owns; iexists _; isplitr; swap; · iexact H10
  ipureintro; exact (View.read_writes_eq_canon _ _ _ (by rw [run0_h]; exact hRows_cover _ _)).trans (by rw [run0_h]; rfl)

theorem defs_row0 (t : Fin cfg0.N) : defs₀ (F := F) .tc cfg0.body (cfg0.bodyArgs t (cfg0.slots t)) = bodyAt0 t := by
  unfold defs₀; rw [Defs.onTc_tc]

/-- What the pipeline asks of the body. -/
theorem obligation0 (c : Dev nD) : BodyObligation (dat0 (F := F) V c) (defs₀ (F := F)) Variants.none () Set.univ := fun t => by
  rw [bigSep_W0, bigSep_W0, defs_row0]
  exact triple_restated (sound_body0 V c t) rfl .rfl fun _ => .rfl

end

end Cert.LruRun

end
-- ==== Proof.LruBody1.lean ====
/- The backward mixer's call: the pipeline's obligation on its body, from what one run of the body leaves. -/
module

public import proofs.«01_k».proof.Proof.LruRun1
public import proofs.«01_k».proof.Proof.LruBody0

@[expose] public section

set_option maxRecDepth 16384

noncomputable section

namespace Cert.LruRun

open Cert.KernelLruIdeal Cert.KernelLruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section

variable (V : (c : Dev nD) → (b : Ref sig .tc) → Buf (Elt F) ((c : Thread nD τ).loc b))

/-- A window's block of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the gradient of the projection's left half. -/
def val1_11 (c : Dev nD) (t : Fin cfg1.N) : FVec F S2048x128 .bf16 :=
  o12 (iblk1 V c 0 t) (iblk1 V c 2 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the gate. -/
def val1_12 (c : Dev nD) (t : Fin cfg1.N) : FVec F S2048x128 .bf16 :=
  o13 (iblk1 V c 1 t) (iblk1 V c 2 t) (iblk1 V c 3 t)
/-- The block of the gradient of the convolution's weights. -/
def val1_13 (c : Dev nD) (t : Fin cfg1.N) : FVec F S4x128 .f32 :=
  o14 (iblk1 V c 0 t) (iblk1 V c 2 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the convolution's bias. -/
def val1_14 (c : Dev nD) (t : Fin cfg1.N) : FVec F S1x128 .f32 :=
  o15 (iblk1 V c 0 t) (iblk1 V c 2 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the first gate's weights. -/
def val1_15 (c : Dev nD) (t : Fin cfg1.N) : FVec F S1x128x128 .f32 :=
  o16 (iblk1 V c 0 t) (iblk1 V c 2 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the first gate's bias. -/
def val1_16 (c : Dev nD) (t : Fin cfg1.N) : FVec F S1x128 .f32 :=
  o17 (iblk1 V c 0 t) (iblk1 V c 2 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the second gate's weights. -/
def val1_17 (c : Dev nD) (t : Fin cfg1.N) : FVec F S1x128x128 .f32 :=
  o18 (iblk1 V c 0 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the second gate's bias. -/
def val1_18 (c : Dev nD) (t : Fin cfg1.N) : FVec F S1x128 .f32 :=
  o19 (iblk1 V c 0 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))
/-- The block of the gradient of the decay's parameter. -/
def val1_19 (c : Dev nD) (t : Fin cfg1.N) : FVec F S1x128 .f32 :=
  o20 (iblk1 V c 0 t) (iblk1 V c 2 t) (iblk1 V c 4 t) (iblk1 V c 5 t) (iblk1 V c 6 t) (iblk1 V c 7 t) (iblk1 V c 8 t) (iblk1 V c 9 t) (iblk1 V c 10 t) (lB (iblk1 V c 0 t) (iblk1 V c 1 t) (iblk1 V c 3 t) (iblk1 V c 4 t) (iblk1 V c 5 t) (iblk1 V c 6 t) (iblk1 V c 7 t) (iblk1 V c 10 t))

/-- What the arrays and the staging buffers hold through the call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => val1_11 V c t
    | ⟨12, _⟩ => val1_12 V c t
    | ⟨13, _⟩ => val1_13 V c t
    | ⟨14, _⟩ => val1_14 V c t
    | ⟨15, _⟩ => val1_15 V c t
    | ⟨16, _⟩ => val1_16 V c t
    | ⟨17, _⟩ => val1_17 V c t
    | ⟨18, _⟩ => val1_18 V c t
    | ⟨19, _⟩ => val1_19 V c t
    | ⟨_ + 20, h⟩ => absurd h (Nat.not_lt.2 (Nat.le_add_left _ _))
  Φ _ := Pipeline.ΦA spec1 c
  q w := Pipeline.shareOf spec1 w
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = val1_11 V c t := by dsimp only [dat1]
theorem after1_12 (c : Dev nD) (t : Fin cfg1.N) : (dat1 V c).after 12 t = val1_12 V c t := by dsimp only [dat1]
theorem after1_13 (c : Dev nD) (t : Fin cfg1.N) : (dat1 V c).after 13 t = val1_13 V c t := by dsimp only [dat1]
theorem after1_14 (c : Dev nD) (t : Fin cfg1.N) : (dat1 V c).after 14 t = val1_14 V c t := by dsimp only [dat1]
theorem after1_15 (c : Dev nD) (t : Fin cfg1.N) : (dat1 V c).after 15 t = val1_15 V c t := by dsimp only [dat1]
theorem after1_16 (c : Dev nD) (t : Fin cfg1.N) : (dat1 V c).after 16 t = val1_16 V c t := by dsimp only [dat1]
theorem after1_17 (c : Dev nD) (t : Fin cfg1.N) : (dat1 V c).after 17 t = val1_17 V c t := by dsimp only [dat1]
theorem after1_18 (c : Dev nD) (t : Fin cfg1.N) : (dat1 V c).after 18 t = val1_18 V c t := by dsimp only [dat1]
theorem after1_19 (c : Dev nD) (t : Fin cfg1.N) : (dat1 V c).after 19 t = val1_19 V c t := by dsimp only [dat1]

/-! An input's staging buffer holds its block at every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

/-- The call's scratch, apart from the other buffers of the region. -/
theorem scratch1 (c : Dev nD) : (Pipeline.ΦA (Val := Elt F) (U := UR sig nD τ) spec1 c : sProp 𝕄)
    = iprop((((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d))
        ∗ Pipeline.scopedRestBut (Ix := Unit) (Name := ℕ) (U := UR sig nD τ) (Lvl := ℕ) (Val := Elt F) spec1 c [cc1_scratch0, cc1_scratch1, cc1_scratch2]) ∗ ∃ r, prngReg c r) := by
  unfold Pipeline.ΦA
  rw [scopedRest1_split]
  simp only [owns_whole]
  try rfl

/-- The body's precondition at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d)))

/-- and its postcondition. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t))

set_option maxHeartbeats 2000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19,
    show (dat1 V c).Φ t.castSucc = Pipeline.ΦA spec1 c from rfl, scratch1]
  iintro ⟨⟨⟨⟨S0, S1, S2⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (run1 c (grid1.coords t) _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2.2.2.2.2.2.2 Set.univ _
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  iintro ⟨⟨H0, H1, H2, H3, H4, H5, H6, H7, H8, H9, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, S0, S1, S2⟩
  isplitl [S0 S1 S2 Hrest Hp]
  · isplitl [S0 S1 S2 Hrest]
    · isplitl [S0 S1 S2]
      · isplitl [S0]; · iexact S0
        isplitl [S1]; · iexact S1
        iexact S2
      iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; · iexact H11
    ipureintro; exact read_whole_store _ _ _ _ _ _ (by decide) (run1_o12 ..)
  isplitl [H12]
  · unfold owns; iexists _; isplitr; swap; · iexact H12
    ipureintro; exact read_whole_store _ _ _ _ _ _ (by decide) (run1_o13 ..)
  isplitl [H13]
  · unfold owns; iexists _; isplitr; swap; · iexact H13
    ipureintro; exact read_whole_store _ _ _ _ _ _ (by decide) (run1_o14 ..)
  isplitl [H14]
  · unfold owns; iexists _; isplitr; swap; · iexact H14
    ipureintro; exact read_whole_store _ _ _ _ _ _ (by decide) (run1_o15 ..)
  isplitl [H15]
  · unfold owns; iexists _; isplitr; swap; · iexact H15
    ipureintro; exact read_whole_store _ _ _ _ _ _ (by decide) (run1_o16 ..)
  isplitl [H16]
  · unfold owns; iexists _; isplitr; swap; · iexact H16
    ipureintro; exact read_whole_store _ _ _ _ _ _ (by decide) (run1_o17 ..)
  isplitl [H17]
  · unfold owns; iexists _; isplitr; swap; · iexact H17
    ipureintro; exact read_whole_store _ _ _ _ _ _ (by decide) (run1_o18 ..)
  isplitl [H18]
  · unfold owns; iexists _; isplitr; swap; · iexact H18
    ipureintro; exact read_whole_store _ _ _ _ _ _ (by decide) (run1_o19 ..)
  unfold owns; iexists _; isplitr; swap; · iexact H19
  ipureintro; exact read_whole_store _ _ _ _ _ _ (by decide) (run1_o20 ..)

theorem defs_row1 (t : Fin cfg1.N) : defs₀ (F := F) .tc cfg1.body (cfg1.bodyArgs t (cfg1.slots t)) = bodyAt1 t := by
  unfold defs₀; rw [Defs.onTc_tc]

/-- What the pipeline asks of the body. -/
theorem obligation1 (c : Dev nD) : BodyObligation (dat1 (F := F) V c) (defs₀ (F := F)) Variants.none () Set.univ := fun t => by
  rw [bigSep_W1, bigSep_W1, defs_row1]
  exact triple_restated (sound_body1 V c t) rfl .rfl fun _ => .rfl

end

end Cert.LruRun

end
-- ==== Proof.LruFrame.lean ====
/- The forward and the backward mixer run one after the other: the launch, and what every buffer holds when both are
   done. The backward call is entered at what the forward call left, through the host's operations between them. -/
module

public import proofs.«01_k».proof.Proof.LruBody1
public import proofs.«01_k».proof.Proof.Gen.KernelLruIdeal.Regions

@[expose] public section

set_option maxRecDepth 16384

noncomputable section

namespace Cert.LruRun

open Cert.KernelLruIdeal Cert.KernelLruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! What every buffer holds between the calls. -/

/-- At the launch, -/
def w0 (c : Dev nD) : Valuation τ sig (Elt F) := fun b => m (c, b)
/-- after the host's operations before the forward call, -/
def w1 (c : Dev nD) : Valuation τ sig (Elt F) := StableHlo.after hostOps0 (w0 m c)
abbrev at1 (c : Dev nD) (b : Ref sig .tc) : Buf (Elt F) ((c : Thread nD τ).loc b) := w1 m c b
/-- after the forward call, -/
def w2 (c : Dev nD) : Valuation τ sig (Elt F) := Pipeline.withArrays spec0 c (w1 m c) fun w => (dat0 (at1 m) c).arrAt w cfg0.N
abbrev at2 (c : Dev nD) (b : Ref sig .tc) : Buf (Elt F) ((c : Thread nD τ).loc b) := w2 m c b
/-- before the backward call, -/
def w3 (c : Dev nD) : Valuation τ sig (Elt F) := StableHlo.after hostOps1 (w2 m c)
abbrev at3 (c : Dev nD) (b : Ref sig .tc) : Buf (Elt F) ((c : Thread nD τ).loc b) := w3 m c b
/-- after it, -/
def w4 (c : Dev nD) : Valuation τ sig (Elt F) := Pipeline.withArrays spec1 c (w3 m c) fun w => (dat1 (at3 m) c).arrAt w cfg1.N
abbrev at4 (c : Dev nD) (b : Ref sig .tc) : Buf (Elt F) ((c : Thread nD τ).loc b) := w4 m c b
/-- and at the end. -/
def w5 (c : Dev nD) : Valuation τ sig (Elt F) := StableHlo.after hostOps2 (w4 m c)

theorem w1_of (c : Dev nD) (r : Ref sig .tc) (h : r ∉ hostOps0_W) : w1 m c (Proc.devRef .tc r) = w0 m c (Proc.devRef .tc r) := by
  unfold w1; exact StableHlo.after_of_writes_sub hostOps0 _ hostOps0_writes h
theorem w3_of (c : Dev nD) (r : Ref sig .tc) (h : r ∉ hostOps1_W) : w3 m c (Proc.devRef .tc r) = w2 m c (Proc.devRef .tc r) := by
  unfold w3; exact StableHlo.after_of_writes_sub hostOps1 _ hostOps1_writes h
theorem w5_of (c : Dev nD) (r : Ref sig .tc) (h : r ∉ hostOps2_W) : w5 m c (Proc.devRef .tc r) = w4 m c (Proc.devRef .tc r) := by
  unfold w5; exact StableHlo.after_of_writes_sub hostOps2 _ hostOps2_writes h

theorem w2_arr (c : Dev nD) (w : Fin cfg0.W) :
    w2 m c (Proc.devRef .tc (Pipeline.arrRef spec0 w)) = (dat0 (at1 m) c).arrAt w cfg0.N := by
  unfold w2; exact (dat0 (at1 m) c).withArrays_arrAt sharedIn0 (w1 m c) (A_eq0 (at1 m) c) w
theorem w2_of_ne (c : Dev nD) (b : Ref sig .tc) (hb : ∀ w, Pipeline.arrRef spec0 w ≠ b) :
    w2 m c (Proc.devRef .tc b) = w1 m c (Proc.devRef .tc b) := by
  unfold w2; exact Pipeline.withArrays_of_ne spec0 c _ _ b hb
/-- What is no result of the call stays as it was. -/
theorem w2_of (c : Dev nD) (r : Ref sig .tc) (h : ∀ w : Fin cfg0.W, Pipeline.arrRef spec0 w = r → (cfg0.win w).isOut = false) :
    w2 m c (Proc.devRef .tc r) = w1 m c (Proc.devRef .tc r) := by
  by_cases hw : ∃ w : Fin cfg0.W, Pipeline.arrRef spec0 w = r
  · obtain ⟨w, rfl⟩ := hw
    exact (w2_arr m c w).trans (((dat0 (at1 m) c).arrAt_in w (h w rfl) _).trans (A_eq0 (at1 m) c w))
  · exact w2_of_ne m c r fun w e => hw ⟨w, e⟩
theorem rest0 (c : Dev nD) : ∀ b, b ∉ Finset.univ.image (Pipeline.arrRef spec0) → at2 m c b = at1 m c b :=
  fun b hb => w2_of_ne m c b fun w e => hb (Finset.mem_image.mpr ⟨w, Finset.mem_univ _, e⟩)

theorem w4_arr (c : Dev nD) (w : Fin cfg1.W) :
    w4 m c (Proc.devRef .tc (Pipeline.arrRef spec1 w)) = (dat1 (at3 m) c).arrAt w cfg1.N := by
  unfold w4; exact (dat1 (at3 m) c).withArrays_arrAt sharedIn1 (w3 m c) (A_eq1 (at3 m) c) w
theorem w4_of_ne (c : Dev nD) (b : Ref sig .tc) (hb : ∀ w, Pipeline.arrRef spec1 w ≠ b) :
    w4 m c (Proc.devRef .tc b) = w3 m c (Proc.devRef .tc b) := by
  unfold w4; exact Pipeline.withArrays_of_ne spec1 c _ _ b hb
/-- What is no result of the call stays as it was. -/
theorem w4_of (c : Dev nD) (r : Ref sig .tc) (h : ∀ w : Fin cfg1.W, Pipeline.arrRef spec1 w = r → (cfg1.win w).isOut = false) :
    w4 m c (Proc.devRef .tc r) = w3 m c (Proc.devRef .tc r) := by
  by_cases hw : ∃ w : Fin cfg1.W, Pipeline.arrRef spec1 w = r
  · obtain ⟨w, rfl⟩ := hw
    exact (w4_arr m c w).trans (((dat1 (at3 m) c).arrAt_in w (h w rfl) _).trans (A_eq1 (at3 m) c w))
  · exact w4_of_ne m c r fun w e => hw ⟨w, e⟩
theorem rest1 (c : Dev nD) : ∀ b, b ∉ Finset.univ.image (Pipeline.arrRef spec1) → at4 m c b = at3 m c b :=
  fun b hb => w4_of_ne m c b fun w e => hb (Finset.mem_image.mpr ⟨w, Finset.mem_univ _, e⟩)

/-- An argument is written by nothing. -/
theorem w5_arg (c : Dev nD) (r : Ref sig .tc) (h0 : r ∉ hostOps0_W) (h1 : r ∉ hostOps1_W) (h2 : r ∉ hostOps2_W)
    (k0 : ∀ w : Fin cfg0.W, Pipeline.arrRef spec0 w = r → (cfg0.win w).isOut = false)
    (k1 : ∀ w : Fin cfg1.W, Pipeline.arrRef spec1 w = r → (cfg1.win w).isOut = false) :
    w5 m c (Proc.devRef .tc r) = m ((c : Thread nD τ).loc r) :=
  (w5_of m c r h2).trans ((w4_of m c r k1).trans ((w3_of m c r h1).trans ((w2_of m c r k0).trans (w1_of m c r h0))))

/-- A buffer of the program is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! The launch. -/

abbrev pads : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) pads p) c
  | ⟨0, _⟩ => fun c => dat0 (at1 m) c
  | ⟨1, _⟩ => fun c => dat1 (at3 m) c
abbrev noLev : GSem nD τ sig → Finset Unit := fun _ => ∅
abbrev lev0 : GSem nD τ sig → Unit → ℕ := fun _ _ => 0
/-- What rides beside the buffers: the generator's register, nothing owed. -/
abbrev side (c : Dev nD) : sProp 𝕄 := iprop((∃ r, prngReg c r) ∗ ∃ W, owes (c : Thread nD τ) (0 : CellTallies nD τ sig Unit) W)
/-- The host's operations as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side

set_option backward.isDefEq.respectTransparency.types false in
/-- The forward call as a segment: its arrays out of the buffers, and back at what it leaves. -/
def call0 : Pipeline.RegionSeg (pcfgs (F := F)) pads (pdats m) () defs₀ Variants.none noLev lev0 0 where
  win := launch₀0.win
  block_pos := launch₀0.block_pos
  stage_whole := launch₀0.stage_whole
  K := PEmpty
  osem k := k.elim
  ho := Pipeline.OwnSemFacts.none _
  hbody c := (obligation0 (at1 m) c).loose
  hwaits := Pipeline.hwaits_of_owed_zero _ _ _ _ noLev lev0 0 fun _ _ => rfl
  pre c := iprop(StableHlo.held (c : Thread nD τ) (Pipeline.ucRefs τ sig) (w1 m c) ∗ side c)
  post c := iprop(StableHlo.held (c : Thread nD τ) (Pipeline.ucRefs τ sig) (w2 m c) ∗ side c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    have hsplit := Pipeline.arrays_of_unscopedBufs_shared (p := 0) (pcfgs (F := F)) pads (pdats m) launch₀0.win sharedIn0 launch₀0.arr_whole c
      (fun _ _ => rfl) (at1 m c) (A_eq0 (at1 m) c)
    rw [Pipeline.unscopedBufs_held] at hsplit
    rw [Pipeline.ownSems0_none]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      unfold Pipeline.Dat.owesAt Pipeline.owesWithin
      iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr] <;> iassumption
  hout c := by
    rw [show (pdats m 0 c).Φ (Fin.last _) = Pipeline.ΦA spec0 c from rfl, Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) pads (Ix := Unit) (Name := ℕ) (U := UR sig nD τ) (Lvl := ℕ)
      launch₀0.win sharedIn0 launch₀0.arr_whole c (pdats m) (fun _ _ => rfl)
      (at1 m c) (at2 m c) ((pdats m 0 c).arrAt · cfg0.N) (fun w => (w2_arr m c w).symm) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment: its arrays out of the buffers, and back at what it leaves. -/
def call1 : Pipeline.RegionSeg (pcfgs (F := F)) pads (pdats m) () defs₀ Variants.none noLev lev0 1 where
  win := launch₀1.win
  block_pos := launch₀1.block_pos
  stage_whole := launch₀1.stage_whole
  K := PEmpty
  osem k := k.elim
  ho := Pipeline.OwnSemFacts.none _
  hbody c := (obligation1 (at3 m) c).loose
  hwaits := Pipeline.hwaits_of_owed_zero _ _ _ _ noLev lev0 1 fun _ _ => rfl
  pre c := iprop(StableHlo.held (c : Thread nD τ) (Pipeline.ucRefs τ sig) (w3 m c) ∗ side c)
  post c := iprop(StableHlo.held (c : Thread nD τ) (Pipeline.ucRefs τ sig) (w4 m c) ∗ side c)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    have hsplit := Pipeline.arrays_of_unscopedBufs_shared (p := 1) (pcfgs (F := F)) pads (pdats m) launch₀1.win sharedIn1 launch₀1.arr_whole c
      (fun _ _ => rfl) (at3 m c) (A_eq1 (at3 m) c)
    rw [Pipeline.unscopedBufs_held] at hsplit
    rw [Pipeline.ownSems0_none]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      unfold Pipeline.Dat.owesAt Pipeline.owesWithin
      iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr] <;> iassumption
  hout c := by
    rw [show (pdats m 1 c).Φ (Fin.last _) = Pipeline.ΦA spec1 c from rfl, Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) pads (Ix := Unit) (Name := ℕ) (U := UR sig nD τ) (Lvl := ℕ)
      launch₀1.win sharedIn1 launch₀1.arr_whole c (pdats m) (fun _ _ => rfl)
      (at3 m c) (at4 m c) ((pdats m 1 c).arrAt · cfg1.N) (fun w => (w4_arr m c w).symm) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items in order. -/
abbrev items : List (Pipeline.Seg (pcfgs (F := F)) pads (pdats m) () defs₀ Variants.none noLev lev0) :=
  [.host (stretch hostOps0 hostOps0_sub hostOps0_fresh (w0 m)), .region (call0 m), .host (stretch hostOps1 hostOps1_sub hostOps1_fresh (w2 m)),
    .region (call1 m), .host (stretch hostOps2 hostOps2_sub hostOps2_fresh (w4 m))]

theorem main_items (c : Dev nD) : main (F := F) c = Pipeline.Seg.run (items m) := (main_chain c).trans (by chain_rfl)

set_option backward.isDefEq.respectTransparency.types false in
/-- Every execution ends, with every buffer at `w5` and every counter at zero. -/
theorem run_all : θ_run defs (onTc (τ := τ) (main (F := F))) ⟨m, fun _ => 0, ρ⟩ (fun r =>
      (∀ (c : Dev nD) (b : DevRef τ sig), b ∈ Pipeline.ucRefs τ sig → r.2.mem ((c : Thread nD τ).1, b) = w5 m c b)
      ∧ r.2.sem = fun _ => 0) :=
  Pipeline.θ_run_regions_kit_sems (pcfgs (F := F)) pads (pdats m) () cellOf_inj emb₁ defs₀ Variants.none noLev lev0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (w0 m c) ∗ side c))
    (Tₙ := fun c => iprop(StableHlo.held (c : Thread nD τ) (Pipeline.ucRefs τ sig) (w5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (w5 m c) ∗ side c) : sProp 𝕄)
        ⊢ iprop((StableHlo.held (c : Thread nD τ) (Pipeline.ucRefs τ sig) (w5 m c) ∗ ∃ r, prngReg c r)
          ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach noLev lev0 fun c => ?_
      rw [show unscopedBufs c (fun b => m ((c : Thread nD τ).loc b)) = StableHlo.held (c : Thread nD τ) (Pipeline.ucRefs τ sig) (w0 m c)
        from Pipeline.unscopedBufs_held c (w0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = w5 m c b)
    (hfin := fun c s' => by
      iintro ⟨⟨Hh, -⟩, HSI⟩
      unfold StableHlo.held
      imodintro
      iapply (pointsTo_read_all (Pipeline.ucRefs τ sig) (fun b => ((c : Thread nD τ).1, b)) (w5 m c) s')
      isplitl [Hh] <;> iassumption)
    (hQ := fun s h hz => ⟨fun c b hb => h c b hb, funext fun g => hz g (.inr (regions_no_unscoped g.2))⟩)

/-- Every execution ends, its arguments unchanged, every counter at zero. -/
def Ends : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

theorem frame_any : Ends m ρ := by
  refine (θ_run defs _ _).mono (fun r h => ⟨fun c => ?_, h.2⟩) (run_all m ρ)
  have key (b : Ref sig .tc) (hb : ¬ (Proc.devRef .tc b : DevRef τ sig).isScoped) (h0 : b ∉ hostOps0_W) (h1 : b ∉ hostOps1_W) (h2 : b ∉ hostOps2_W)
      (k0 : ∀ w : Fin cfg0.W, Pipeline.arrRef spec0 w = b → (cfg0.win w).isOut = false)
      (k1 : ∀ w : Fin cfg1.W, Pipeline.arrRef spec1 w = b → (cfg1.win w).isOut = false) :
      r.2.mem ((c.tc : Thread nD τ).loc b) = m ((c.tc : Thread nD τ).loc b) := (h.1 c _ (mem_uc b hb)).trans (w5_arg m c b h0 h1 h2 k0 k1)
  refine ⟨?_, ?_, ?_, ?_, ?_, ?_, ?_, ?_, ?_⟩ <;> exact key _ (by decide) (by decide) (by decide) (by decide) (by decide +kernel) (by decide +kernel)

end Cert.LruRun

end
-- ==== Proof.LruKernel.lean ====
/- The frame of the recurrence's program on the machine's own floats: with the constants read as their words the
   program is the idealized one. -/
module

public import proofs.«01_k».proof.Proof.LruFrame
public import proofs.«01_k».proof.Defs

@[expose] public section

set_option maxRecDepth 16384

noncomputable section

namespace Cert.LruRun

open Idealize.ShloMosaic Idealize.ShloMosaic.TcCoe Idealize.ShloMosaic.Tactic Idealize.SL.Sem

/-- A named constant on the machine is its word. -/
instance wordNamed : Named Bits := ⟨fun _ _ φ bits => Scalar.ofBits φ bits⟩

theorem frame_kernel [Cert.KernelLru.Facts] : Cert.quiescent_KernelLru := by
  have e : (∀ m ρ, True → Ends (F := Bits) m ρ) = Cert.quiescent_KernelLru := by
    sl_kernel_rfl
  exact e ▸ fun m ρ _ => frame_any (F := Bits) m ρ

theorem frame_ideal [Cert.KernelLruIdeal.Facts] : Cert.quiescent_KernelLruIdeal := fun m ρ _ => frame_any (F := Ideal) m ρ

end Cert.LruRun

end
-- ==== Proof.LruScan.lean ====
/- A linear recurrence along the rows, taken as the kernels take it: three doubling steps inside each tile of eight rows, a
   doubling scan over the tiles' edge rows, and the two put together. Each array on the way holds a factor and a term by which
   the state at a row follows from the state some rows before it (or, from the last row up, after it). -/
module

public import proofs.«01_k».proof.Proof.Shift

@[expose] public section

set_option maxRecDepth 16384

noncomputable section

open Idealize.ShloMosaic Idealize.ShloMosaic.TcCoe Idealize.SL.Sem
open Idealize.ShloMosaic.WordCmp

namespace Cert.Scan

open Cert.Shift Cert.Reals

/-- Tiles of eight rows. -/
abbrev T3 : Shape := ⟨3, ![256, 8, 128]⟩
abbrev M2 : Shape := ⟨2, ![2048, 128]⟩
abbrev E2 : Shape := ⟨2, ![256, 128]⟩

/-- The tiles hold the real function of row and column. -/
def IsTile (x : FVec Ideal T3 .f32) (X : ℕ → ℕ → ℝ) : Prop :=
  ∀ (q : Fin 256) (r : Fin 8) (c : Fin 128), x (ix3 q r c) = ((X (8 * q + r) c : ℝ) : EReal)

theorem split_row (q r : ℕ) (hr : r < 8) : (8 * q + r) % 8 = r := by omega

theorem lit_one : (Scalar.ofBits .f32 0x3F800000#32 : Ideal .f32) = ((1 : ℝ) : EReal) := by
  simp [Ideal.ofBits, Ideal.ieee, -EReal.coe_mul, -EReal.coe_neg]; try norm_num

theorem fold_real {x : FVec Ideal M2 .f32} {X : ℕ → ℕ → ℝ} (hx : IsReal x X) (h : M2.ShapeCasts T3) : IsTile (shapeCast T3 x h) X :=
  fun q r c => by
  pointwise
  exact (hx ⟨8 * q + r, by omega⟩ c ▸ by congr 2; first | rfl | (apply Fin.ext; show _ = _; simp; omega) | skip)

theorem unfold_real {x : FVec Ideal T3 .f32} {X : ℕ → ℕ → ℝ} (hx : IsTile x X) (h : T3.ShapeCasts M2) : IsReal (shapeCast M2 x h) X :=
  fun p c => by
  pointwise
  have hp : 8 * ((p : ℕ) / 8) + (p : ℕ) % 8 = p := Nat.div_add_mod _ 8
  have := hx ⟨(p : ℕ) / 8, by omega⟩ ⟨(p : ℕ) % 8, by omega⟩ c
  rw [hp] at this
  exact this

/-! ## Rows moved inside a tile -/

def td (s : ℕ) (fill : Ideal .f32) (hI : T3.Iotas .tc 32 [1]) (hR : T3.Rotates 1 none) (x : FVec Ideal T3 .f32) : FVec Ideal T3 .f32 :=
  select (cmpi .sge (iota .tc T3 32 [1] hI) (broadcast T3 (BitVec.ofNat 32 s))) (dynamicRotate 1 (BitVec.ofNat 32 s) none x hR) (broadcast T3 fill)

def tu (s : ℕ) (fill : Ideal .f32) (hI : T3.Iotas .tc 32 [1]) (hR : T3.Rotates 1 none) (x : FVec Ideal T3 .f32) : FVec Ideal T3 .f32 :=
  select (cmpi .slt (iota .tc T3 32 [1] hI) (broadcast T3 (BitVec.ofNat 32 s))) (dynamicRotate 1 (BitVec.ofNat 32 s) none x hR) (broadcast T3 fill)

theorem td_real (s : ℕ) (hs : s < 8) {x : FVec Ideal T3 .f32} {fill : Ideal .f32} {hI hR} {X : ℕ → ℕ → ℝ} {f : ℝ} (hx : IsTile x X)
    (hf : fill = ((f : ℝ) : EReal)) : IsTile (td s fill hI hR x) fun t c => if s ≤ t % 8 then X (t - s) c else f := fun q r c => by
  have hr := r.isLt
  unfold td
  pointwise
  rw [cmpi_sge_ofNat (by norm_num; omega) (by norm_num; omega), select_ofBool, split_row q r hr]
  by_cases h : s ≤ r
  · rw [if_pos h, if_pos (by simpa using h), show 8 * (q : ℕ) + r - s = 8 * q + (r - s) by omega]
    refine Eq.trans (congrArg x ?_) (hx q ⟨r - s, by omega⟩ c)
    funext a
    match a with
    | 0 => rfl
    | 1 =>
      apply Fin.ext
      show (↑r + 8 - (BitVec.ofNat 32 s).toNat % 8) % 8 = r - s
      rw [BitVec.toNat_ofNat, Nat.mod_eq_of_lt (show s < 2 ^ 32 by norm_num; omega), Nat.mod_eq_of_lt hs]
      omega
    | 2 => rfl
  · rw [if_neg h, if_neg (by simpa using h), hf]

theorem tu_real (s : ℕ) (h0 : 0 < s) (hs : s < 8) {x : FVec Ideal T3 .f32} {fill : Ideal .f32} {hI hR} {X : ℕ → ℕ → ℝ} {f : ℝ} (hx : IsTile x X)
    (hf : fill = ((f : ℝ) : EReal)) : IsTile (tu s fill hI hR x) fun t c => if t % 8 < s then X (t + (8 - s)) c else f := fun q r c => by
  have hr := r.isLt
  unfold tu
  pointwise
  rw [cmpi_slt_ofNat (by norm_num; omega) (by norm_num; omega), select_ofBool, split_row q r hr]
  by_cases h : r < s
  · rw [if_pos h, if_pos (by simpa using h), show 8 * (q : ℕ) + r + (8 - s) = 8 * q + (r + (8 - s)) by omega]
    refine Eq.trans (congrArg x ?_) (hx q ⟨r + (8 - s), by omega⟩ c)
    funext a
    match a with
    | 0 => rfl
    | 1 =>
      apply Fin.ext
      show (↑r + 8 - (BitVec.ofNat 32 s).toNat % 8) % 8 = r + (8 - s)
      rw [BitVec.toNat_ofNat, Nat.mod_eq_of_lt (show s < 2 ^ 32 by norm_num; omega), Nat.mod_eq_of_lt hs]
      omega
    | 2 => rfl
  · rw [if_neg h, if_neg (by simpa using h), hf]

theorem tadd {x y : FVec Ideal T3 .f32} {X Y : ℕ → ℕ → ℝ} (hx : IsTile x X) (hy : IsTile y Y) : IsTile (addf x y) fun p c => X p c + Y p c :=
  fun q r c => by show x (ix3 q r c) + y (ix3 q r c) = _; rw [hx, hy, ← EReal.coe_add]

theorem tmul {x y : FVec Ideal T3 .f32} {X Y : ℕ → ℕ → ℝ} (hx : IsTile x X) (hy : IsTile y Y) : IsTile (mulf x y) fun p c => X p c * Y p c :=
  fun q r c => by show x (ix3 q r c) * y (ix3 q r c) = _; rw [hx, hy, ← EReal.coe_mul]

theorem mul_real {n L : ℕ} {x y : Mat n L} {X Y : ℕ → ℕ → ℝ} (hx : IsReal x X) (hy : IsReal y Y) : IsReal (mulf x y) fun p q => X p q * Y p q :=
  fun p q => by show x (ix2 p q) * y (ix2 p q) = _; rw [hx p q, hy p q, ← EReal.coe_mul]

/-! ## From the first row down

`H t` is the state entering row `t`; `H (t + 1)` follows from the state at most `w` rows before, inside the tile. -/

variable {H : ℕ → ℕ → ℝ}

def Tile (H : ℕ → ℕ → ℝ) (w : ℕ) (A B : FVec Ideal T3 .f32) : Prop := ∃ a b : ℕ → ℕ → ℝ, IsTile A a ∧ IsTile B b ∧
  ∀ t c, H (t + 1) c = a t c * H (t + 1 - min (t % 8 + 1) w) c + b t c

theorem tile_start {A B : FVec Ideal T3 .f32} {a b : ℕ → ℕ → ℝ} (ha : IsTile A a) (hb : IsTile B b)
    (h : ∀ t c, H (t + 1) c = a t c * H t c + b t c) : Tile H 1 A B := ⟨a, b, ha, hb, fun t c => by
  rw [show t + 1 - min (t % 8 + 1) 1 = t by omega]; exact h t c⟩

theorem tile_step (s w : ℕ) (hs : s < 8) (hw : w = s + s) {A B : FVec Ideal T3 .f32} {z o : Ideal .f32} {hI hR hI' hR'} (h : Tile H s A B) (hz : z = ((0 : ℝ) : EReal))
    (ho : o = ((1 : ℝ) : EReal)) : Tile H w (mulf A (td s o hI hR A)) (addf B (mulf A (td s z hI' hR' B))) := by
  subst hw
  obtain ⟨a, b, ha, hb, e⟩ := h
  refine ⟨_, _, tmul ha (td_real s hs ha ho), tadd hb (tmul ha (td_real s hs hb hz)), fun t c => ?_⟩
  by_cases h : s ≤ t % 8
  · rw [e t c, if_pos h, if_pos h, show t + 1 - min (t % 8 + 1) s = t - s + 1 by omega, e (t - s) c,
      show t - s + 1 - min ((t - s) % 8 + 1) s = t + 1 - min (t % 8 + 1) (s + s) by omega]
    ring
  · rw [e t c, if_neg h, if_neg h, show min (t % 8 + 1) (s + s) = min (t % 8 + 1) s by omega]
    ring

/-- Inside the tiles, the state after each row from the state entering the tile. -/
def Flat (H : ℕ → ℕ → ℝ) (A B : FVec Ideal M2 .f32) : Prop := ∃ a b : ℕ → ℕ → ℝ, IsReal A a ∧ IsReal B b ∧
  ∀ t c, H (t + 1) c = a t c * H (8 * (t / 8)) c + b t c

theorem flat_of_tile {A B : FVec Ideal T3 .f32} {h1 h2 h1' h2'} (h : Tile H 8 A B) :
    Flat H (shapeCast M2 (shapeCast M2 A h1) h2) (shapeCast M2 (shapeCast M2 B h1') h2') := by
  obtain ⟨a, b, ha, hb, e⟩ := h
  refine ⟨a, b, ?_, ?_, fun t c => ?_⟩
  · rw [shapeCast_self]; exact unfold_real ha _
  · rw [shapeCast_self]; exact unfold_real hb _
  · rw [e t c, show t + 1 - min (t % 8 + 1) 8 = 8 * (t / 8) by omega]

/-- Over the tiles, the state after each tile from the state at most `w` tiles before. -/
def Edge (H : ℕ → ℕ → ℝ) (w : ℕ) (A B : FVec Ideal E2 .f32) : Prop := ∃ a b : ℕ → ℕ → ℝ, IsReal A a ∧ IsReal B b ∧
  ∀ q c, H (8 * q + 8) c = a q c * H (8 * (q + 1 - w)) c + b q c

theorem edge_step (s w : ℕ) (hs : s < 256) (hw : w = s + s) (h0 : ∀ c, H 0 c = 0) {A B : FVec Ideal E2 .f32} {z o : Ideal .f32} {hI hR hI' hR'}
    (h : Edge H s A B) (hz : z = ((0 : ℝ) : EReal)) (ho : o = ((1 : ℝ) : EReal)) :
    Edge H w (mulf A (sd s o hI hR A)) (addf B (mulf A (sd s z hI' hR' B))) := by
  subst hw
  obtain ⟨a, b, ha, hb, e⟩ := h
  refine ⟨_, _, mul_real ha (sd_real (by norm_num) s hs ha ho), add_real hb (mul_real ha (sd_real (by norm_num) s hs hb hz)), fun q c => ?_⟩
  by_cases h : s ≤ q
  · rw [e q c, if_pos h, if_pos h, show 8 * (q + 1 - s) = 8 * (q - s) + 8 by omega, e (q - s) c,
      show q - s + 1 - s = q + 1 - (s + s) by omega]
    ring
  · rw [e q c, if_neg h, if_neg h, show q + 1 - s = 0 by omega, show q + 1 - (s + s) = 0 by omega, Nat.mul_zero, h0 c]
    ring

/-- The last step, of which only the sums are taken. -/
theorem edge_last (h0 : ∀ c, H 0 c = 0) {A B : FVec Ideal E2 .f32} {z : Ideal .f32} {hI hR} (h : Edge H 128 A B) (hz : z = ((0 : ℝ) : EReal)) :
    IsReal (addf B (mulf A (sd 128 z hI hR B))) fun q c => H (8 * q + 8) c := by
  obtain ⟨a, b, ha, hb, e⟩ := h
  intro q c
  have hq := q.isLt
  rw [add_real hb (mul_real ha (sd_real (by norm_num) 128 (by norm_num) hb hz)) q c]
  refine congrArg (fun r : ℝ => (r : EReal)) ?_
  beta_reduce
  by_cases h : 128 ≤ (q : ℕ)
  · rw [e q c, if_pos h, show 8 * ((q : ℕ) + 1 - 128) = 8 * (q - 128) + 8 by omega, e (q - 128) c,
      show (q : ℕ) - 128 + 1 - 128 = 0 by omega, Nat.mul_zero, h0 c]
    ring
  · rw [e q c, if_neg h, show (q : ℕ) + 1 - 128 = 0 by omega, Nat.mul_zero, h0 c]
    ring

/-- The state entering each tile. -/
theorem enters_real (h0 : ∀ c, H 0 c = 0) {B : FVec Ideal E2 .f32} {z : Ideal .f32} {hI hR} (hB : IsReal B fun q c => H (8 * q + 8) c)
    (hz : z = ((0 : ℝ) : EReal)) : IsReal (sd 1 z hI hR B) fun q c => H (8 * q) c := fun q c => by
  rw [sd_real (by norm_num) 1 (by norm_num) hB hz q c]
  refine congrArg (fun r : ℝ => (r : EReal)) ?_
  beta_reduce
  by_cases h : 1 ≤ (q : ℕ)
  · rw [if_pos h, show 8 * ((q : ℕ) - 1) + 8 = 8 * q by omega]
  · rw [if_neg h, show 8 * (q : ℕ) = 0 by omega, h0 c]

/-! ## From the last row up

`L t` follows from `L (t + 1)`, and is zero from row 2048 on. -/

variable {L : ℕ → ℕ → ℝ}

def TileUp (L : ℕ → ℕ → ℝ) (w : ℕ) (A B : FVec Ideal T3 .f32) : Prop := ∃ a b : ℕ → ℕ → ℝ, IsTile A a ∧ IsTile B b ∧
  ∀ t c, L t c = a t c * L (t + min (8 - t % 8) w) c + b t c

theorem tileUp_start {A B : FVec Ideal T3 .f32} {a b : ℕ → ℕ → ℝ} (ha : IsTile A a) (hb : IsTile B b)
    (h : ∀ t c, L t c = a t c * L (t + 1) c + b t c) : TileUp L 1 A B := ⟨a, b, ha, hb, fun t c => by
  rw [show t + min (8 - t % 8) 1 = t + 1 by omega]; exact h t c⟩

theorem tileUp_step (s m w : ℕ) (h0 : 0 < s) (hs : s < 8) (hm : m = 8 - s) (hw : w = s + s) {A B : FVec Ideal T3 .f32} {z o : Ideal .f32} {hI hR hI' hR'} (h : TileUp L s A B)
    (hz : z = ((0 : ℝ) : EReal)) (ho : o = ((1 : ℝ) : EReal)) :
    TileUp L w (mulf A (tu m o hI hR A)) (addf B (mulf A (tu m z hI' hR' B))) := by
  subst hw hm
  obtain ⟨a, b, ha, hb, e⟩ := h
  refine ⟨_, _, tmul ha (tu_real _ (by omega) (by omega) ha ho), tadd hb (tmul ha (tu_real _ (by omega) (by omega) hb hz)), fun t c => ?_⟩
  by_cases h : t % 8 < 8 - s
  · rw [e t c, if_pos h, if_pos h, show t + min (8 - t % 8) s = t + (8 - (8 - s)) by omega, e (t + (8 - (8 - s))) c,
      show t + (8 - (8 - s)) + min (8 - (t + (8 - (8 - s))) % 8) s = t + min (8 - t % 8) (s + s) by omega]
    ring
  · rw [e t c, if_neg h, if_neg h, show min (8 - t % 8) (s + s) = min (8 - t % 8) s by omega]
    ring

def FlatUp (L : ℕ → ℕ → ℝ) (A B : FVec Ideal M2 .f32) : Prop := ∃ a b : ℕ → ℕ → ℝ, IsReal A a ∧ IsReal B b ∧
  ∀ t c, L t c = a t c * L (8 * (t / 8) + 8) c + b t c

theorem flat_of_tileUp {A B : FVec Ideal T3 .f32} {h1 h2 h1' h2'} (h : TileUp L 8 A B) :
    FlatUp L (shapeCast M2 (shapeCast M2 A h1) h2) (shapeCast M2 (shapeCast M2 B h1') h2') := by
  obtain ⟨a, b, ha, hb, e⟩ := h
  refine ⟨a, b, ?_, ?_, fun t c => ?_⟩
  · rw [shapeCast_self]; exact unfold_real ha _
  · rw [shapeCast_self]; exact unfold_real hb _
  · rw [e t c, show t + min (8 - t % 8) 8 = 8 * (t / 8) + 8 by omega]

def EdgeUp (L : ℕ → ℕ → ℝ) (w : ℕ) (A B : FVec Ideal E2 .f32) : Prop := ∃ a b : ℕ → ℕ → ℝ, IsReal A a ∧ IsReal B b ∧
  ∀ q c, L (8 * q) c = a q c * L (8 * (q + w)) c + b q c

theorem edgeUp_step (s m w : ℕ) (h0 : 0 < s) (hs : s < 256) (hm : m = 256 - s) (hw : w = s + s) (hL : ∀ t, 2048 ≤ t → ∀ c, L t c = 0) {A B : FVec Ideal E2 .f32}
    {z o : Ideal .f32} {hI hR hI' hR'} (h : EdgeUp L s A B) (hz : z = ((0 : ℝ) : EReal)) (ho : o = ((1 : ℝ) : EReal)) :
    EdgeUp L w (mulf A (su m o hI hR A)) (addf B (mulf A (su m z hI' hR' B))) := by
  subst hw hm
  obtain ⟨a, b, ha, hb, e⟩ := h
  refine ⟨_, _, mul_real ha (su_real (by norm_num) _ (by omega) ha ho), add_real hb (mul_real ha (su_real (by norm_num) _ (by omega) hb hz)), fun q c => ?_⟩
  by_cases h : q < 256 - s
  · rw [e q c, if_pos h, if_pos h, show q + (256 - (256 - s)) = q + s by omega, e (q + s) c, show q + s + s = q + (s + s) by omega]
    ring
  · rw [e q c, if_neg h, if_neg h, hL _ (by omega), hL (8 * (q + (s + s))) (by omega)]
    ring

theorem edgeUp_last (hL : ∀ t, 2048 ≤ t → ∀ c, L t c = 0) {A B : FVec Ideal E2 .f32} {z : Ideal .f32} {hI hR} (h : EdgeUp L 128 A B)
    (hz : z = ((0 : ℝ) : EReal)) : IsReal (addf B (mulf A (su 128 z hI hR B))) fun q c => L (8 * q) c := by
  obtain ⟨a, b, ha, hb, e⟩ := h
  intro q c
  have hq := q.isLt
  rw [add_real hb (mul_real ha (su_real (by norm_num) 128 (by norm_num) hb hz)) q c]
  refine congrArg (fun r : ℝ => (r : EReal)) ?_
  beta_reduce
  by_cases h : (q : ℕ) < 128
  · rw [e q c, if_pos h, show (q : ℕ) + (256 - 128) = q + 128 by omega, e (q + 128) c, hL (8 * (q + 128 + 128)) (by omega)]
    ring
  · rw [e q c, if_neg h, hL _ (by omega)]
    ring

theorem leaves_real (hL : ∀ t, 2048 ≤ t → ∀ c, L t c = 0) {B : FVec Ideal E2 .f32} {z : Ideal .f32} {hI hR} (hB : IsReal B fun q c => L (8 * q) c)
    (hz : z = ((0 : ℝ) : EReal)) : IsReal (su 255 z hI hR B) fun q c => L (8 * q + 8) c := fun q c => by
  have hq := q.isLt
  rw [su_real (by norm_num) 255 (by norm_num) hB hz q c]
  refine congrArg (fun r : ℝ => (r : EReal)) ?_
  beta_reduce
  by_cases h : (q : ℕ) < 255
  · rw [if_pos h, show 8 * ((q : ℕ) + (256 - 255)) = 8 * q + 8 by omega]
  · rw [if_neg h, hL _ (by omega)]

end Cert.Scan
end
-- ==== Proof.LruPay0.lean ====
/- The forward mixer's block over the reals: the convolved input, the gates, the decay and the input's factor, the state as a
   linear recurrence along the rows, and the gated output. -/
module

public import proofs.«01_k».proof.Proof.LruScan
public import proofs.«01_k».proof.Proof.LruBody0

@[expose] public section

set_option maxRecDepth 16384

noncomputable section

open Idealize.ShloMosaic Idealize.ShloMosaic.TcCoe Idealize.SL.Sem
open Idealize.ShloMosaic.Pipeline (Dat)

namespace Cert.Lru

/-! ## The reals -/

/-- Rows moved down by `s`. -/
def dn (s : ℕ) (X : ℕ → ℕ → ℝ) (p q : ℕ) : ℝ := if s ≤ p then X (p - s) q else 0

/-- The causal convolution of four rows. -/
def conv (X W B : ℕ → ℕ → ℝ) (p q : ℕ) : ℝ :=
  B 0 q + W 0 q * dn 3 X p q + W 1 q * dn 2 X p q + W 2 q * dn 1 X p q + W 3 q * X p q

/-- The logistic function. -/
def gate (z : ℝ) : ℝ := 1 / (1 + Real.exp (0 - z))
theorem gate_den (z : ℝ) : 0 < 1 + Real.exp (0 - z) := by positivity
theorem gate_pos (z : ℝ) : 0 < gate z := by unfold gate; positivity

/-- `log (1 + exp (-l))`. -/
def splus (l : ℝ) : ℝ := max (0 - l) 0 + Real.log (1 + Real.exp (0 - max (0 - l) (-(0 - l))))
theorem splus_pos (l : ℝ) : 0 < splus l :=
  add_pos_of_nonneg_of_pos (le_max_right _ _) (Real.log_pos (by linarith [Real.exp_pos (0 - max (0 - l) (-(0 - l)))]))

/-- The log of the decay. -/
def la (r l : ℝ) : ℝ := -8 * r * splus l
theorem la_neg {r : ℝ} (hr : 0 < r) (l : ℝ) : la r l < 0 := by
  have := mul_pos hr (splus_pos l)
  unfold la; nlinarith

/-- The square of the input's factor, as the kernel computes it. -/
def msq (x : ℝ) : ℝ := (0 - Real.tanh x) * (Real.exp x * Real.exp x + 1)
theorem msq_eq (x : ℝ) : msq x = 1 - Real.exp (2 * x) := by
  have h0 := Real.exp_pos x
  have h1 : Real.exp (-x) * Real.exp x = 1 := by rw [← Real.exp_add]; simp
  have h2 : Real.exp (2 * x) = Real.exp x * Real.exp x := by rw [← Real.exp_add]; ring_nf
  unfold msq
  rw [Real.tanh_eq_sinh_div_cosh, Real.sinh_eq, Real.cosh_eq, h2]
  have h3 : Real.exp (-x) = 1 / Real.exp x := by field_simp; linarith
  rw [h3]
  field_simp
  ring
theorem msq_pos {x : ℝ} (hx : x < 0) : 0 < msq x := by
  rw [msq_eq]; have : Real.exp (2 * x) < 1 := by rw [Real.exp_lt_one_iff]; linarith
  linarith

/-- The input's factor. -/
def mult (x : ℝ) : ℝ := √(msq x)
theorem mult_pos {x : ℝ} (hx : x < 0) : 0 < mult x := Real.sqrt_pos.2 (msq_pos hx)

/-- A gate's row. -/
def pre (C W B : ℕ → ℕ → ℝ) (p q : ℕ) : ℝ := ∑ k : Fin 128, C p k * W k q + B 0 q

/-- The state after row `t` of `h ↦ a h + u` from zero is `hst a u (t + 1)`. -/
def hst (a u : ℕ → ℝ) : ℕ → ℝ
  | 0 => 0
  | t + 1 => a t * hst a u t + u t

/-- The constant under the gate's hyperbolic tangent. -/
def gc : ℝ := 13386282 / 16777216
def gth (g : ℝ) : ℝ := Real.tanh (gc * (g + 8943 / 200000 * (g * g * g)))
/-- The output's gate. -/
def gel (g : ℝ) : ℝ := 1 / 2 * g * (1 + gth g)

end Cert.Lru

namespace Cert.LruRun

open Cert.KernelLruIdeal Cert.KernelLruIdeal.Gen Cert.Reals Cert.Shift Cert.Scan Cert.Lru

section
variable {n L : ℕ} {x y : Mat n L} {X Y : ℕ → ℕ → ℝ}

theorem sub_r (hx : IsReal x X) (hy : IsReal y Y) : IsReal (subf x y) fun p q => X p q - Y p q :=
  fun p q => by show x (ix2 p q) - y (ix2 p q) = _; rw [hx p q, hy p q, ← EReal.coe_sub]

theorem div_r (hx : IsReal x X) (hy : IsReal y Y) (h : ∀ p q, Y p q ≠ 0) : IsReal (divf x y) fun p q => X p q / Y p q :=
  fun p q => by show Ideal.div (x (ix2 p q)) (y (ix2 p q)) = _; rw [hx p q, hy p q, coe_div _ (h p q)]

theorem exp_r (hx : IsReal x X) : IsReal (exp x) fun p q => Real.exp (X p q) :=
  fun p q => by show Ideal.exp (x (ix2 p q)) = _; rw [hx p q, Ideal.exp_coe]

theorem tanh_r (hx : IsReal x X) : IsReal (tanh x) fun p q => Real.tanh (X p q) :=
  fun p q => by show Ideal.tanh (x (ix2 p q)) = _; rw [hx p q, Ideal.tanh_coe]

theorem sqrt_r (hx : IsReal x X) (h : ∀ p q, 0 ≤ X p q) : IsReal (sqrt x) fun p q => √(X p q) :=
  fun p q => by show Ideal.sqrt (x (ix2 p q)) = _; rw [hx p q, Ideal.sqrt_coe, if_neg (not_lt.2 (h p q))]

theorem trunc_r (hx : IsReal x X) (h) : IsReal (truncf .bf16 x h) X := hx

theorem const_r {c : Ideal .f32} {r : ℝ} (h : c = ((r : ℝ) : EReal)) : IsReal (broadcast (⟨2, ![n, L]⟩ : Shape) c) fun _ _ => r := fun p q => h

end

theorem lit_half : (Scalar.ofBits .f32 0x3F000000#32 : Ideal .f32) = ((1 / 2 : ℝ) : EReal) := by
  simp [Ideal.ofBits, Ideal.ieee, -EReal.coe_mul, -EReal.coe_neg]; try norm_num
theorem lit_m8 : (Scalar.ofBits .f32 0xC1000000#32 : Ideal .f32) = ((-8 : ℝ) : EReal) := by
  simp [Ideal.ofBits, Ideal.ieee, -EReal.coe_mul, -EReal.coe_neg]; try norm_num
theorem lit_gc : (Scalar.ofBits .f32 0x3F4C422A#32 : Ideal .f32) = ((gc : ℝ) : EReal) := by
  simp [Ideal.ofBits, Ideal.ieee, gc, -EReal.coe_mul, -EReal.coe_neg]; try norm_num
theorem lit_gelu : (Named.named κ "gelu_c" 0x3D372713#32 : Ideal .f32) = ((8943 / 200000 : ℝ) : EReal) := rfl

section

variable {x0 x1 : FVec Ideal S2048x128 .f32} {x2 : FVec Ideal S4x128 .f32} {x3 x5 x7 x8 : FVec Ideal S1x128 .f32}
  {x4 x6 : FVec Ideal S1x128x128 .bf16} {X G W B BA BX Lm : ℕ → ℕ → ℝ} {WA WX : ℕ → ℕ → ℝ}

theorem row_r {x : FVec Ideal S1x128 .f32} {X : ℕ → ℕ → ℝ} (hx : IsReal x X) (h) : IsReal (broadcastTo S2048x128 x h) fun p q => X 0 q :=
  fun p q => by pointwise; exact hx 0 q

theorem tap_r (k : ℕ) (hk : k < 4) (hw : IsReal x2 W) (h1 h2 h3) :
    IsReal (broadcastTo S2048x128 (extractStridedSlice S1x128 ![k, 0] (shapeCast S4x128 x2 h1) h2) h3) fun p q => W k q := fun p q => by
  rw [shapeCast_self]
  refine Eq.trans (congrArg x2 ?_) (hw ⟨k, hk⟩ q)
  funext a
  match a with
  | 0 => exact Fin.ext (Nat.add_zero k)
  | 1 => exact Fin.ext (Nat.zero_add _)

theorem dn_r (s : ℕ) (hs : s < 2048) (hx : IsReal x0 X) {hI hR} : IsReal (sd s (Scalar.ofBits .f32 0x00000000#32) hI hR x0) (dn s X) :=
  sd_real (by norm_num) s hs hx Shift.lit_zero

theorem conv_r (hx : IsReal x0 X) (hw : IsReal x2 W) (hb : IsReal x3 B) : IsReal (k0_pay1 x0 x2 x3) (conv X W B) :=
  add_real (add_real (add_real (add_real (row_r hb _) (mul_real (tap_r 0 (by decide) hw _ _ _) (dn_r 3 (by decide) hx)))
    (mul_real (tap_r 1 (by decide) hw _ _ _) (dn_r 2 (by decide) hx))) (mul_real (tap_r 2 (by decide) hw _ _ _) (dn_r 1 (by decide) hx)))
    (mul_real (tap_r 3 (by decide) hw _ _ _) hx)

/-- The gates. -/
theorem gate_r {c : FVec Ideal S2048x128 .f32} {C : ℕ → ℕ → ℝ} (hc : IsReal c C) (hw : ∀ (u : Fin 1) (p q : Fin 128), x4 (ix3 u p q) = ((WA p q : ℝ) : EReal))
    (hb : IsReal x5 BA) : IsReal (k0_pay4 c (k0_pay2 x4) x5) fun p q => gate (pre C WA BA p q) := fun p q => by
  pointwise [k0_pay4, k0_pay2, k0_pay3]
  simp only [hc _ _, hw _ _, hb _ _, ← EReal.coe_mul, coe_sum]
  rw [← EReal.coe_add, ← EReal.coe_zero, ← EReal.coe_sub, Ideal.exp_coe, ← EReal.coe_one, ← EReal.coe_add, coe_div _ (gate_den _).ne']
  rfl

/-- The log decay's factor. -/
theorem splus_r (hl : IsReal x8 Lm) (u : Fin 1) (q : Fin 128) : k1_pay17 (F := Ideal) (k0_pay6 x8) (k0_pay7 x8) (k0_pay8 x8) (k0_pay9 x8) (k0_pay10 (F := Ideal) x8) (ix2 u q) = ((splus (Lm 0 q) : ℝ) : EReal) := by
  obtain rfl : u = 0 := Subsingleton.elim _ _
  have h6 : k0_pay6 (F := Ideal) x8 (ix2 0 q) = ((0 - Lm 0 q : ℝ) : EReal) := by
    pointwise [k0_pay6]; rw [hl 0 q, EReal.coe_sub]; rfl
  have h7 : k0_pay7 (F := Ideal) x8 (ix2 0 q) = ((Real.exp (0 - max (0 - Lm 0 q) (-(0 - Lm 0 q))) : ℝ) : EReal) := by
    pointwise [k0_pay7]; rw [h6, Ideal.absf_def, ← EReal.coe_neg, ← EReal.coe_strictMono.monotone.map_max, ← EReal.coe_zero, ← EReal.coe_sub, Ideal.exp_coe]
  generalize hE : Real.exp (0 - max (0 - Lm 0 q) (-(0 - Lm 0 q))) = E at h7
  have hE0 : 0 < E := hE ▸ Real.exp_pos _
  have h8 : k0_pay8 (F := Ideal) x8 (ix2 0 q) = ((1 + E : ℝ) : EReal) := by
    pointwise [k0_pay8]; rw [h7, EReal.coe_add]; rfl
  have h9 : k0_pay9 (F := Ideal) x8 (ix2 0 q) = ((E : ℝ) : EReal) := by
    pointwise [k0_pay9]; rw [h8, ← EReal.coe_one, ← EReal.coe_sub]; congr 1; ring
  have hne : ¬ ((E : ℝ) : EReal) = 0 := by exact_mod_cast hE0.ne'
  pointwise [k1_pay17, k0_pay10]
  simp only [h6, h7, h8, h9, if_neg hne]
  rw [coe_div _ hE0.ne', div_self hE0.ne', Ideal.log_coe, if_neg (by linarith), ← EReal.coe_zero, ← EReal.coe_strictMono.monotone.map_max, ← EReal.coe_mul,
    ← EReal.coe_add, mul_one]
  unfold splus
  rw [hE]

/-- The log decay. -/
theorem la_r {r : FVec Ideal S2048x128 .f32} {R : ℕ → ℕ → ℝ} (hr : IsReal r R) (hl : IsReal x8 Lm) :
    IsReal (k0_pay11 (F := Ideal) r (k0_pay6 x8) (k0_pay7 x8) (k0_pay8 x8) (k0_pay9 x8) (k0_pay10 (F := Ideal) x8)) fun p q => la (R p q) (Lm 0 q) :=
  mul_real (mul_real (const_r lit_m8) hr) (row_r (X := fun _ q => splus (Lm 0 q)) (splus_r hl) _)

theorem dec_r {r : FVec Ideal S2048x128 .f32} {R : ℕ → ℕ → ℝ} (hr : IsReal r R) (hl : IsReal x8 Lm) :
    IsReal (k0_pay12 (F := Ideal) r (k0_pay6 x8) (k0_pay7 x8) (k0_pay8 x8) (k0_pay9 x8) (k0_pay10 (F := Ideal) x8)) fun p q => Real.exp (la (R p q) (Lm 0 q)) :=
  exp_r (la_r hr hl)

theorem mult_r {r : FVec Ideal S2048x128 .f32} {R : ℕ → ℕ → ℝ} (hr : IsReal r R) (h0 : ∀ p q, 0 < R p q) (hl : IsReal x8 Lm) :
    IsReal (k1_pay20 (F := Ideal) r (k0_pay6 x8) (k0_pay7 x8) (k0_pay8 x8) (k0_pay9 x8) (k0_pay10 (F := Ideal) x8)) fun p q => mult (la (R p q) (Lm 0 q)) :=
  sqrt_r (mul_real (sub_r (const_r Shift.lit_zero) (tanh_r (la_r hr hl))) (add_real (mul_real (dec_r hr hl) (dec_r hr hl)) (const_r lit_one)))
    fun p q => (msq_pos (la_neg (h0 p q) _)).le

/-- The output's gate. -/
theorem gth_r (hg : IsReal x1 G) : IsReal (k1_pay21 x1) fun p q => gth (G p q) :=
  tanh_r (mul_real (const_r lit_gc) (add_real hg (mul_real (const_r lit_gelu) (mul_real (mul_real hg hg) hg))))
theorem gel_r (hg : IsReal x1 G) : IsReal (k1_pay22 x1) fun p q => gel (G p q) :=
  mul_real (mul_real (const_r lit_half) hg) (add_real (const_r lit_one) (gth_r hg))

end

/-! ## The scan -/

theorem rows_r (o : ℕ) (ho : o < 8) (hb) {A : FVec Ideal S2048x128 .f32} {a : ℕ → ℕ → ℝ} (h : IsReal A a) :
    IsReal (φ := .f32) (rowsAt (F := Ideal) o hb A) fun q c => a (8 * q + o) c := fun q c => by
  have hq := q.isLt
  refine Eq.trans (congrArg A ?_) (h ⟨8 * q + o, by omega⟩ c)
  funext a
  match a with
  | 0 => exact Fin.ext (show o + 8 * (q : ℕ) = 8 * q + o by omega)
  | 1 => exact Fin.ext (show 0 + 1 * (c : ℕ) = c by omega)

section
variable {H : ℕ → ℕ → ℝ}

theorem edge_start {A B : FVec Ideal S2048x128 .f32} (h : Flat H A B) (hb) : Edge H 1 (rowsAt (F := Ideal) 7 hb A) (rowsAt (F := Ideal) 7 hb B) := by
  obtain ⟨a, b, ha, hb', e⟩ := h
  exact ⟨_, _, rows_r 7 (by decide) hb ha, rows_r 7 (by decide) hb hb', fun q c => by
    beta_reduce
    rw [show 8 * q + 8 = 8 * q + 7 + 1 by omega, e (8 * q + 7) c, show (8 * q + 7) / 8 = q + 1 - 1 by omega]⟩

/-- Rows moved down, zeros behind. -/
abbrev sdz (s : ℕ) (x : FVec Ideal S256x128 .f32) : FVec Ideal S256x128 .f32 :=
  sd s (Scalar.ofBits .f32 0x00000000#32) iota_S256x128_d0_w32 rotates_S256x128_d0 x
/-- Rows moved down, ones behind. -/
abbrev sdo (s : ℕ) (x : FVec Ideal S256x128 .f32) : FVec Ideal S256x128 .f32 :=
  sd s (Scalar.ofBits .f32 0x3F800000#32) iota_S256x128_d0_w32 rotates_S256x128_d0 x

/-- A doubling step over the tiles. -/
theorem edge_next (s : ℕ) (hs : s < 256) (h0 : ∀ c, H 0 c = 0) {A B : FVec Ideal S256x128 .f32} (h : Edge H s A B) :
    Edge H (s + s) (mulf A (sdo s A)) (addf B (mulf A (sdz s B))) :=
  edge_step s _ hs rfl h0 h Shift.lit_zero lit_one

theorem edges (h0 : ∀ c, H 0 c = 0) {p q : FVec Ideal S256x128 .f32} (h : Edge H 1 p q) :
    Edge H 128 (mulf (tileC p) (sdo 64 (tileC p))) (tileD p q) := by
  have h1 : Edge H 2 (k0_pay26 p k0_pay24 (k0_pay25 p)) (k0_pay23 p q) := edge_next 1 (by decide) h0 h
  have h2 : Edge H 4 (k0_pay27 p k0_pay24 (k0_pay25 p)) _ := edge_next 2 (by decide) h0 h1
  have h3 : Edge H 8 (tileA p) _ := edge_next 4 (by decide) h0 h2
  have h4 : Edge H 16 (k0_pay31 (tileA p) tileIdx k0_pay30) (tileB p q) := edge_next 8 (by decide) h0 h3
  have h5 : Edge H 32 (k0_pay32 (tileA p) tileIdx k0_pay30) _ := edge_next 16 (by decide) h0 h4
  have h6 : Edge H 64 (tileC p) _ := edge_next 32 (by decide) h0 h5
  exact edge_next 64 (by decide) h0 h6

theorem enters_r (h0 : ∀ c, H 0 c = 0) {p q : FVec Ideal S256x128 .f32} (h : Edge H 1 p q) : IsReal (k0_pay35 (tileC p) (tileD p q)) fun q c => H (8 * q) c := by
  have h1 : IsReal (addf (tileD p q) (mulf (mulf (tileC p) (sdo 64 (tileC p))) (sdz 128 (tileD p q)))) fun q c => H (8 * q + 8) c :=
    edge_last h0 (edges h0 h) Shift.lit_zero
  have h2 : IsReal (sdz 1 (addf (tileD p q) (mulf (mulf (tileC p) (sdo 64 (tileC p))) (sdz 128 (tileD p q))))) fun q c => H (8 * q) c :=
    enters_real h0 h1 Shift.lit_zero
  exact h2

/-- One store's rows of the state. -/
theorem piece_r (o : ℕ) (ho : o < 8) (hb) {A B : FVec Ideal S2048x128 .f32} (h : Flat H A B) {e : FVec Ideal S256x128 .f32} (he : IsReal e fun q c => H (8 * q) c) (hc) :
    IsReal (shapeCast S256x128 (addf (rowsAt (F := Ideal) o hb B : FVec Ideal S256x128 .f32) (mulf (rowsAt (F := Ideal) o hb A : FVec Ideal S256x128 .f32) e)) hc) fun q c => H (8 * q + o + 1) c := by
  obtain ⟨a, b, ha, hb', eq⟩ := h
  rw [shapeCast_self]
  intro q c
  rw [add_real (rows_r o ho hb hb') (mul_real (rows_r o ho hb ha) he) q c]
  refine congrArg (fun r : ℝ => (r : EReal)) ?_
  beta_reduce
  rw [eq (8 * q + o) c, show (8 * (q : ℕ) + o) / 8 = q by omega, add_comm]

theorem piece_at {n : ℕ} (o : ℕ) {w : FVec Ideal S256x128 .f32} {X : ℕ → ℕ → ℝ} (hw : IsReal w fun q c => X (8 * q + o) c) (hb hp)
    (y : S2048x128.Idx) : View.RectAt (Val := Elt Ideal) (e := .f32) y ⟨⟨![o, 0], S256x128.size, ![8, 1], hb⟩, hp⟩ w ((X (y 0).val (y 1).val : ℝ) : EReal) := by
  intro x hx
  have e0 : (y 0).val = 8 * (x 0).val + o := by rw [← hx]; show o + 8 * (x 0).val = _; omega
  have e1 : (y 1).val = (x 1).val := by rw [← hx]; show 0 + 1 * (x 1).val = _; omega
  rw [e0, e1]
  exact (congrArg w (eq_ix2 x)).trans (hw (x 0) (x 1))

end
end Cert.LruRun
end
-- ==== Proof.LruPay0b.lean ====
/- The forward mixer's block, put together: the state it stores is the linear recurrence of its decay and input, and its
   output is the state times the output's gate. -/
module

public import proofs.«01_k».proof.Proof.LruPay0

@[expose] public section

set_option maxRecDepth 16384

noncomputable section

open Idealize.ShloMosaic Idealize.ShloMosaic.TcCoe Idealize.SL.Sem
open Idealize.ShloMosaic.Pipeline (Dat)

namespace Cert.Lru

/-- The two gates of a block whose weights are `WA` and `WX`, its decay's log, its input. -/
def rr (X W B WA BA : ℕ → ℕ → ℝ) (p q : ℕ) : ℝ := gate (pre (conv X W B) WA BA p q)
def lg (R Lm : ℕ → ℕ → ℝ) (p q : ℕ) : ℝ := la (R p q) (Lm 0 q)
def inp (C R I Lm : ℕ → ℕ → ℝ) (p q : ℕ) : ℝ := mult (lg R Lm p q) * (I p q * C p q)
/-- The state entering row `t`. -/
def state (C R I Lm : ℕ → ℕ → ℝ) (t q : ℕ) : ℝ := hst (fun t => Real.exp (lg R Lm t q)) (fun t => inp C R I Lm t q) t

end Cert.Lru

namespace Cert.LruRun

open Cert.KernelLruIdeal Cert.KernelLruIdeal.Gen Cert.Reals Cert.Shift Cert.Scan Cert.Lru

abbrev tdz (s : ℕ) (x : FVec Ideal S256x8x128 .f32) : FVec Ideal S256x8x128 .f32 :=
  td s (Scalar.ofBits .f32 0x00000000#32) iota_S256x8x128_d1_w32 rotates_S256x8x128_d1 x
abbrev tdo (s : ℕ) (x : FVec Ideal S256x8x128 .f32) : FVec Ideal S256x8x128 .f32 :=
  td s (Scalar.ofBits .f32 0x3F800000#32) iota_S256x8x128_d1_w32 rotates_S256x8x128_d1 x

theorem tile_next {H : ℕ → ℕ → ℝ} (s : ℕ) (hs : s < 8) {A B : FVec Ideal S256x8x128 .f32} (h : Tile H s A B) :
    Tile H (s + s) (mulf A (tdo s A)) (addf B (mulf A (tdz s B))) := tile_step s _ hs rfl h Shift.lit_zero lit_one

section

variable {x0 x1 : FVec Ideal S2048x128 .f32} {x2 : FVec Ideal S4x128 .f32} {x3 x5 x7 x8 : FVec Ideal S1x128 .f32}
  {x4 x6 : FVec Ideal S1x128x128 .bf16} {X G W B BA BX Lm : ℕ → ℕ → ℝ} {WA WX : ℕ → ℕ → ℝ}

theorem u_r {c r i : FVec Ideal S2048x128 .f32} {C R I : ℕ → ℕ → ℝ} (hc : IsReal c C) (hr : IsReal r R) (h0 : ∀ p q, 0 < R p q) (hi : IsReal i I) (hl : IsReal x8 Lm) :
    IsReal (mulf (k1_pay20 (F := Ideal) r (k0_pay6 x8) (k0_pay7 x8) (k0_pay8 x8) (k0_pay9 x8) (k0_pay10 (F := Ideal) x8)) (mulf i c)) (inp C R I Lm) :=
  mul_real (mult_r hr h0 hl) (mul_real hi hc)

theorem tile1 {c r i : FVec Ideal S2048x128 .f32} {C R I : ℕ → ℕ → ℝ} (hc : IsReal c C) (hr : IsReal r R) (h0 : ∀ p q, 0 < R p q) (hi : IsReal i I) (hl : IsReal x8 Lm) :
    Tile (state C R I Lm) 1 (shapeCast S256x8x128 (k0_pay12 (F := Ideal) r (k0_pay6 x8) (k0_pay7 x8) (k0_pay8 x8) (k0_pay9 x8) (k0_pay10 (F := Ideal) x8)) shapeCasts_S2048x128_S256x8x128)
      (shapeCast S256x8x128 (mulf (k1_pay20 (F := Ideal) r (k0_pay6 x8) (k0_pay7 x8) (k0_pay8 x8) (k0_pay9 x8) (k0_pay10 (F := Ideal) x8)) (mulf i c)) shapeCasts_S2048x128_S256x8x128) := by
  have hA := fold_real (dec_r hr hl) shapeCasts_S2048x128_S256x8x128
  have hB := fold_real (u_r hc hr h0 hi hl) shapeCasts_S2048x128_S256x8x128
  exact tile_start hA hB fun t c => rfl

theorem tile2 {c r i : FVec Ideal S2048x128 .f32} {C R I : ℕ → ℕ → ℝ} (hc : IsReal c C) (hr : IsReal r R) (h0 : ∀ p q, 0 < R p q) (hi : IsReal i I) (hl : IsReal x8 Lm) :
    Tile (state C R I Lm) 2 (k0_pay16 (F := Ideal) r (k0_pay6 x8) (k0_pay7 x8) (k0_pay8 x8) (k0_pay9 x8) (k0_pay10 (F := Ideal) x8))
      (k0_pay15 (F := Ideal) c r i (k0_pay6 x8) (k0_pay7 x8) (k0_pay8 x8) (k0_pay9 x8) (k0_pay10 (F := Ideal) x8)) :=
  tile_next 1 (by decide) (tile1 hc hr h0 hi hl)

theorem tile4 {H : ℕ → ℕ → ℝ} {a b b2 : FVec Ideal S256x8x128 .f32} (h : Tile H 2 a b) (e : b2 = mulf a (tdz 2 b)) :
    Tile H 4 (k0_pay19 a k0_pay17) (addf b b2) := by
  rw [e]; exact tile_next 2 (by decide) h

theorem flat8 {H : ℕ → ℕ → ℝ} {a b b2 : FVec Ideal S256x8x128 .f32} (h : Tile H 4 (k0_pay19 a k0_pay17) (addf b b2)) :
    Flat H (k0_pay21 rowIdx a k0_pay17) (k0_pay22 rowIdx b a k0_pay17 b2) := by
  have h8 : Tile H 8 _ _ := tile_next 4 (by decide) h
  have e1 : k0_pay21 rowIdx a k0_pay17 = shapeCast S2048x128 (shapeCast S2048x128 (mulf (k0_pay19 a k0_pay17) (tdo 4 (k0_pay19 a k0_pay17))) shapeCasts_S256x8x128_S2048x128)
    shapeCasts_S2048x128_S2048x128 := by rfl
  have e2 : k0_pay22 rowIdx b a k0_pay17 b2 = shapeCast S2048x128 (shapeCast S2048x128 (addf (addf b b2) (mulf (k0_pay19 a k0_pay17) (tdz 4 (addf b b2)))) shapeCasts_S256x8x128_S2048x128)
    shapeCasts_S2048x128_S2048x128 := by rfl
  rw [e1, e2]
  exact flat_of_tile h8

theorem flat0 {c r i : FVec Ideal S2048x128 .f32} {C R I : ℕ → ℕ → ℝ} (hc : IsReal c C) (hr : IsReal r R) (h0 : ∀ p q, 0 < R p q) (hi : IsReal i I) (hl : IsReal x8 Lm) :
    Flat (state C R I Lm) (k0_pay21 rowIdx (k0_pay16 (F := Ideal) r (k0_pay6 x8) (k0_pay7 x8) (k0_pay8 x8) (k0_pay9 x8) (k0_pay10 (F := Ideal) x8)) k0_pay17)
      (k0_pay22 rowIdx (k0_pay15 (F := Ideal) c r i (k0_pay6 x8) (k0_pay7 x8) (k0_pay8 x8) (k0_pay9 x8) (k0_pay10 (F := Ideal) x8)) (k0_pay16 (F := Ideal) r (k0_pay6 x8) (k0_pay7 x8) (k0_pay8 x8) (k0_pay9 x8) (k0_pay10 (F := Ideal) x8)) k0_pay17
        (k0_pay18 (F := Ideal) c r i (k0_pay6 x8) (k0_pay7 x8) (k0_pay8 x8) (k0_pay9 x8) (k0_pay10 (F := Ideal) x8))) :=
  flat8 (tile4 (tile2 hc hr h0 hi hl) rfl)

/-- What the eight stores leave is the state after each row. -/
theorem rows_state {H : ℕ → ℕ → ℝ} (hz : ∀ c, H 0 c = 0) {A B : FVec Ideal S2048x128 .f32} (h : Flat H A B) (y : S2048x128.Idx) :
    View.canon (hRows A B) y = ((H ((y 0).val + 1) (y 1).val : ℝ) : EReal) := by
  refine View.canon_eq_of_allAt _ y _ (hRows_cover A B y) ?_
  have he := enters_r hz (edge_start h inb_S2048x128_S256x128_7_0_s_8_1)
  have hp : ∀ (o : ℕ) (ho : o < 8) (hb) (hc : S256x128.ShapeCasts S256x128) (e : FVec Ideal S256x128 .f32), IsReal e (fun q c => H (8 * q) c) →
      ∀ (hb') (hs), View.RectAt (Val := Elt Ideal) (e := .f32) y ⟨⟨![o, 0], S256x128.size, ![8, 1], hb'⟩, hs⟩
        (shapeCast S256x128 (addf (rowsAt (F := Ideal) o hb B : FVec Ideal S256x128 .f32) (mulf (rowsAt (F := Ideal) o hb A : FVec Ideal S256x128 .f32) e)) hc)
        ((H ((y 0).val + 1) (y 1).val : ℝ) : EReal) := fun o ho hb hc e he hb' hs =>
    piece_at (n := 0) (X := fun t c => H (t + 1) c) o (piece_r o ho hb h he hc) hb' hs y
  exact View.allAt_cons _ _ _ (hp 7 (by decide) _ _ _ he _ _) <| View.allAt_cons _ _ _ (hp 6 (by decide) _ _ _ he _ _) <|
    View.allAt_cons _ _ _ (hp 5 (by decide) _ _ _ he _ _) <| View.allAt_cons _ _ _ (hp 4 (by decide) _ _ _ he _ _) <|
    View.allAt_cons _ _ _ (hp 3 (by decide) _ _ _ he _ _) <| View.allAt_cons _ _ _ (hp 2 (by decide) _ _ _ he _ _) <|
    View.allAt_cons _ _ _ (hp 1 (by decide) _ _ _ he _ _) <| View.allAt_cons _ _ _ (hp 0 (by decide) _ _ _ he _ _) <| View.allAt_nil y _

/-- The block's state. -/
theorem hOut_r (h0 : IsReal x0 X) (h2 : IsReal x2 W) (h3 : IsReal x3 B) (h4 : ∀ (u : Fin 1) (p q : Fin 128), x4 (ix3 u p q) = ((WA p q : ℝ) : EReal))
    (h5 : IsReal x5 BA) (h6 : ∀ (u : Fin 1) (p q : Fin 128), x6 (ix3 u p q) = ((WX p q : ℝ) : EReal)) (h7 : IsReal x7 BX) (h8 : IsReal x8 Lm) :
    IsReal (hOut (F := Ideal) x0 x2 x3 x4 x5 x6 x7 x8) fun p q => state (conv X W B) (rr X W B WA BA) (rr X W B WX BX) Lm (p + 1) q := fun p q =>
  rows_state (fun c => rfl) (flat0 (conv_r h0 h2 h3) (gate_r (conv_r h0 h2 h3) h4 h5) (fun p q => gate_pos _) (gate_r (conv_r h0 h2 h3) h6 h7) h8) (ix2 p q)

/-- The block's output. -/
theorem yOut_r (h0 : IsReal x0 X) (h1 : IsReal x1 G) (h2 : IsReal x2 W) (h3 : IsReal x3 B) (h4 : ∀ (u : Fin 1) (p q : Fin 128), x4 (ix3 u p q) = ((WA p q : ℝ) : EReal))
    (h5 : IsReal x5 BA) (h6 : ∀ (u : Fin 1) (p q : Fin 128), x6 (ix3 u p q) = ((WX p q : ℝ) : EReal)) (h7 : IsReal x7 BX) (h8 : IsReal x8 Lm) :
    IsReal (yOut (F := Ideal) x0 x1 x2 x3 x4 x5 x6 x7 x8)
      fun p q => state (conv X W B) (rr X W B WA BA) (rr X W B WX BX) Lm (p + 1) q * gel (G p q) := by
  have h := mul_real (hOut_r h0 h2 h3 h4 h5 h6 h7 h8) (gel_r h1)
  intro p q
  refine Eq.trans ?_ (h p q)
  unfold yOut k0_pay44
  simp only [shapeCast_self]
  rfl

end
end Cert.LruRun
end
-- ==== Proof.LruPay1.lean ====
/- The recurrent mixer's gradient, one block of 128 channels: the adjoint state of the backward scan. -/
module

public import proofs.«01_k».proof.Proof.LruPay0b
public import proofs.«01_k».proof.Proof.LruBody1

@[expose] public section

set_option maxRecDepth 16384

noncomputable section

open Idealize.ShloMosaic Idealize.ShloMosaic.TcCoe Idealize.SL.Sem
open Idealize.ShloMosaic.Pipeline (Dat)

namespace Cert.Lru

/-- The adjoint of the recurrence counted from the last row. -/
def rv (a g : ℕ → ℝ) : ℕ → ℝ
  | 0 => 0
  | k + 1 => a (2048 - k) * rv a g k + g (2047 - k)

/-- The adjoint state of row `t`. -/
def adj (a g : ℕ → ℝ) (t : ℕ) : ℝ := rv a g (2048 - t)

theorem adj_zero (a g : ℕ → ℝ) {t : ℕ} (h : 2048 ≤ t) : adj a g t = 0 := by
  unfold adj; rw [Nat.sub_eq_zero_of_le h]; rfl

theorem adj_rec (a g : ℕ → ℝ) {t : ℕ} (h : t < 2048) : adj a g t = a (t + 1) * adj a g (t + 1) + g t := by
  unfold adj
  rw [show 2048 - t = (2047 - t) + 1 by omega, rv, show 2048 - (2047 - t) = t + 1 by omega, show 2047 - (2047 - t) = t by omega,
    show 2048 - (t + 1) = 2047 - t by omega]

/-- The adjoint state of every channel. -/
def adjs (R Lm G D : ℕ → ℕ → ℝ) (t q : ℕ) : ℝ := adj (fun t => Real.exp (lg R Lm t q)) (fun t => D t q * gel (G t q)) t

theorem adjs_rec (R Lm G D : ℕ → ℕ → ℝ) (t q : ℕ) : adjs R Lm G D t q =
    (if t < 2047 then Real.exp (lg R Lm (t + (2048 - 2047)) q) else 0) * adjs R Lm G D (t + 1) q + if t < 2048 then D t q * gel (G t q) else 0 := by
  unfold adjs
  by_cases h : t < 2048
  · rw [adj_rec _ _ h, if_pos h]
    by_cases h' : t < 2047
    · rw [if_pos h', show t + (2048 - 2047) = t + 1 by omega]
    · rw [if_neg h', adj_zero _ _ (show 2048 ≤ t + 1 by omega)]; ring
  · rw [if_neg h, adj_zero _ _ (by omega), adj_zero _ _ (by omega)]; ring

end Cert.Lru

namespace Cert.LruRun

open Cert.KernelLruIdeal Cert.KernelLruIdeal.Gen Cert.Reals Cert.Shift Cert.Scan Cert.Lru

theorem cut_r {n L : ℕ} {x : Mat n L} {X : ℕ → ℕ → ℝ} (h : IsReal x X) : IsReal x fun p q => if p < n then X p q else 0 := fun p q => by
  rw [h p q]; exact congrArg (fun r : ℝ => (r : EReal)) (if_pos p.isLt).symm

abbrev tuz (s : ℕ) (x : FVec Ideal S256x8x128 .f32) : FVec Ideal S256x8x128 .f32 :=
  tu s (Scalar.ofBits .f32 0x00000000#32) iota_S256x8x128_d1_w32 rotates_S256x8x128_d1 x
abbrev tuo (s : ℕ) (x : FVec Ideal S256x8x128 .f32) : FVec Ideal S256x8x128 .f32 :=
  tu s (Scalar.ofBits .f32 0x3F800000#32) iota_S256x8x128_d1_w32 rotates_S256x8x128_d1 x
abbrev suz (s : ℕ) (x : FVec Ideal S256x128 .f32) : FVec Ideal S256x128 .f32 :=
  su s (Scalar.ofBits .f32 0x00000000#32) iota_S256x128_d0_w32 rotates_S256x128_d0 x
abbrev suo (s : ℕ) (x : FVec Ideal S256x128 .f32) : FVec Ideal S256x128 .f32 :=
  su s (Scalar.ofBits .f32 0x3F800000#32) iota_S256x128_d0_w32 rotates_S256x128_d0 x

theorem tileUp_next {L : ℕ → ℕ → ℝ} (s m : ℕ) (h0 : 0 < s) (hs : s < 8) (hm : m = 8 - s) {A B : FVec Ideal S256x8x128 .f32} (h : TileUp L s A B) :
    TileUp L (s + s) (mulf A (tuo m A)) (addf B (mulf A (tuz m B))) := tileUp_step s m _ h0 hs hm rfl h Shift.lit_zero lit_one

/-- Inside the tiles, from the rows' decays and cotangents. -/
theorem up1 {a g d : FVec Ideal S2048x128 .f32} {R Lm G D : ℕ → ℕ → ℝ} (ha : IsReal a fun p q => Real.exp (lg R Lm p q)) (hg : IsReal g fun p q => gel (G p q))
    (hd : IsReal d D) : TileUp (adjs R Lm G D) 1 (k1_pay27 a) (shapeCast S256x8x128 (mulf d g) shapeCasts_S2048x128_S256x8x128) := by
  have h1 : IsReal (su 2047 (Scalar.ofBits .f32 0x00000000#32) iota_S2048x128_d0_w32 rotates_S2048x128_d0 a) _ :=
    su_real (by norm_num) 2047 (by norm_num) ha Shift.lit_zero
  exact tileUp_start (fold_real h1 shapeCasts_S2048x128_S256x8x128) (fold_real (cut_r (mul_real hd hg)) shapeCasts_S2048x128_S256x8x128)
    fun t c => adjs_rec R Lm G D t c

theorem up2 {L : ℕ → ℕ → ℝ} {a g d : FVec Ideal S2048x128 .f32} (h : TileUp L 1 (k1_pay27 a) (shapeCast S256x8x128 (mulf d g) shapeCasts_S2048x128_S256x8x128)) :
    TileUp L 2 (k1_pay30 a) (k1_pay29 a g d) := tileUp_next 1 7 (by decide) (by decide) rfl h

theorem up4 {L : ℕ → ℕ → ℝ} {A B : FVec Ideal S256x8x128 .f32} (h : TileUp L 2 A B) :
    TileUp L 4 (k1_pay32 rowIdx A) (addf B (mulf A (tuz 6 B))) := tileUp_next 2 6 (by decide) (by decide) rfl h

theorem up8 {L : ℕ → ℕ → ℝ} {A B : FVec Ideal S256x8x128 .f32} (h : TileUp L 4 (k1_pay32 rowIdx A) (addf B (mulf A (tuz 6 B)))) :
    FlatUp L (k1_pay34 rowIdx A) (k1_pay35 rowIdx B A) := by
  have h8 : TileUp L 8 _ _ := tileUp_next 4 4 (by decide) (by decide) rfl h
  have e1 : k1_pay34 rowIdx A = shapeCast S2048x128 (shapeCast S2048x128 (mulf (k1_pay32 rowIdx A) (tuo 4 (k1_pay32 rowIdx A))) shapeCasts_S256x8x128_S2048x128)
    shapeCasts_S2048x128_S2048x128 := by rfl
  have e2 : k1_pay35 rowIdx B A = shapeCast S2048x128 (shapeCast S2048x128 (addf (addf B (mulf A (tuz 6 B))) (mulf (k1_pay32 rowIdx A) (tuz 4 (addf B (mulf A (tuz 6 B))))))
    shapeCasts_S256x8x128_S2048x128) shapeCasts_S2048x128_S2048x128 := by rfl
  rw [e1, e2]
  exact flat_of_tileUp h8

section
variable {L : ℕ → ℕ → ℝ}

theorem edgeUp_start {A B : FVec Ideal S2048x128 .f32} (h : FlatUp L A B) (hb) : EdgeUp L 1 (rowsAt (F := Ideal) 0 hb A) (rowsAt (F := Ideal) 0 hb B) := by
  obtain ⟨a, b, ha, hb', e⟩ := h
  exact ⟨_, _, rows_r 0 (by decide) hb ha, rows_r 0 (by decide) hb hb', fun q c => by
    beta_reduce
    rw [Nat.add_zero, e (8 * q) c, show 8 * (8 * q / 8) + 8 = 8 * (q + 1) by omega]⟩

theorem edgeUp_next (s m : ℕ) (h0 : 0 < s) (hs : s < 256) (hm : m = 256 - s) (hL : ∀ t, 2048 ≤ t → ∀ c, L t c = 0) {A B : FVec Ideal S256x128 .f32} (h : EdgeUp L s A B) :
    EdgeUp L (s + s) (mulf A (suo m A)) (addf B (mulf A (suz m B))) :=
  edgeUp_step s m _ h0 hs hm rfl hL h Shift.lit_zero lit_one

theorem edgesUp (hL : ∀ t, 2048 ≤ t → ∀ c, L t c = 0) {p q : FVec Ideal S256x128 .f32} (h : EdgeUp L 1 p q) :
    EdgeUp L 8 (k1_pay42 p) (tileP1 p q) := by
  have h1 : EdgeUp L 2 (k1_pay39 p) _ := edgeUp_next 1 255 (by decide) (by decide) rfl hL h
  have h2 : EdgeUp L 4 (k1_pay40 p) _ := edgeUp_next 2 254 (by decide) (by decide) rfl hL h1
  have h3 : EdgeUp L 8 (k1_pay42 p) _ := edgeUp_next 4 252 (by decide) (by decide) rfl hL h2
  exact h3

theorem edgesUp2 (hL : ∀ t, 2048 ≤ t → ∀ c, L t c = 0) {p q : FVec Ideal S256x128 .f32} (h : EdgeUp L 8 p q) :
    EdgeUp L 64 (k1_pay47 p) (k1_pay46 q p k1_pay43 248#32) := by
  have h3 : EdgeUp L 16 (k1_pay44 p) _ := edgeUp_next 8 248 (by decide) (by decide) rfl hL h
  have h4 : EdgeUp L 32 (k1_pay45 p) _ := edgeUp_next 16 240 (by decide) (by decide) rfl hL h3
  have h5 : EdgeUp L 64 (k1_pay47 p) _ := edgeUp_next 32 224 (by decide) (by decide) rfl hL h4
  exact h5

theorem leaves_r (hL : ∀ t, 2048 ≤ t → ∀ c, L t c = 0) {p q : FVec Ideal S256x128 .f32} (h : EdgeUp L 64 p q) :
    IsReal (k1_pay48 q p tileIdx 192#32) fun q c => L (8 * q + 8) c := by
  have h1 : EdgeUp L 128 _ _ := edgeUp_next 64 192 (by decide) (by decide) rfl hL h
  have h2 : IsReal (addf (addf q (mulf p (suz 192 q))) (mulf (mulf p (suo 192 p)) (suz 128 (addf q (mulf p (suz 192 q)))))) fun q c => L (8 * q) c :=
    edgeUp_last hL h1 Shift.lit_zero
  have h3 : IsReal (suz 255 (addf (addf q (mulf p (suz 192 q))) (mulf (mulf p (suo 192 p)) (suz 128 (addf q (mulf p (suz 192 q))))))) fun q c => L (8 * q + 8) c :=
    leaves_real hL h2 Shift.lit_zero
  exact h3

theorem pieceUp_r (o : ℕ) (ho : o < 8) (hb) {A B : FVec Ideal S2048x128 .f32} (h : FlatUp L A B) {e : FVec Ideal S256x128 .f32} (he : IsReal e fun q c => L (8 * q + 8) c) (hc) :
    IsReal (shapeCast S256x128 (addf (rowsAt (F := Ideal) o hb B : FVec Ideal S256x128 .f32) (mulf (rowsAt (F := Ideal) o hb A : FVec Ideal S256x128 .f32) e)) hc) fun q c => L (8 * q + o) c := by
  obtain ⟨a, b, ha, hb', eq⟩ := h
  rw [shapeCast_self]
  intro q c
  rw [add_real (rows_r o ho hb hb') (mul_real (rows_r o ho hb ha) he) q c]
  refine congrArg (fun r : ℝ => (r : EReal)) ?_
  beta_reduce
  rw [eq (8 * q + o) c, show (8 * (q : ℕ) + o) / 8 = q by omega, add_comm]

theorem lRows_cover (A B : FVec Ideal S2048x128 .f32) (y : S2048x128.Idx) : ∃ p ∈ lRows A B, y ∈ p.1.set := by
  refine rows_cover rfl _ (fun o => ?_) y
  unfold lRows
  match o with
  | ⟨0, _⟩ => exact ⟨_, _, _, .tail _ (.tail _ (.tail _ (.tail _ (.tail _ (.tail _ (.tail _ (.head _)))))))⟩
  | ⟨1, _⟩ => exact ⟨_, _, _, .tail _ (.tail _ (.tail _ (.tail _ (.tail _ (.tail _ (.head _))))))⟩
  | ⟨2, _⟩ => exact ⟨_, _, _, .tail _ (.tail _ (.tail _ (.tail _ (.tail _ (.head _)))))⟩
  | ⟨3, _⟩ => exact ⟨_, _, _, .tail _ (.tail _ (.tail _ (.tail _ (.head _))))⟩
  | ⟨4, _⟩ => exact ⟨_, _, _, .tail _ (.tail _ (.tail _ (.head _)))⟩
  | ⟨5, _⟩ => exact ⟨_, _, _, .tail _ (.tail _ (.head _))⟩
  | ⟨6, _⟩ => exact ⟨_, _, _, .tail _ (.head _)⟩
  | ⟨7, _⟩ => exact ⟨_, _, _, .head _⟩

/-- What the eight stores leave is the adjoint state of each row. -/
theorem rows_adj (hL : ∀ t, 2048 ≤ t → ∀ c, L t c = 0) {A B : FVec Ideal S2048x128 .f32} (h : FlatUp L A B) (y : S2048x128.Idx) :
    View.canon (lRows A B) y = ((L (y 0).val (y 1).val : ℝ) : EReal) := by
  refine View.canon_eq_of_allAt _ y _ (lRows_cover A B y) ?_
  have hs := edgeUp_start h inb_S2048x128_S256x128_0_0_s_8_1
  generalize hp : rowsAt (F := Ideal) 0 inb_S2048x128_S256x128_0_0_s_8_1 A = p at hs
  generalize hq : rowsAt (F := Ideal) 0 inb_S2048x128_S256x128_0_0_s_8_1 B = q at hs
  have ht : EdgeUp L 64 (tileP3 p) (tileP2 p q) := edgesUp2 (p := k1_pay42 p) (q := tileP1 p q) hL (edgesUp hL hs)
  have he := leaves_r hL ht
  subst hp hq
  have hp : ∀ (o : ℕ) (ho : o < 8) (hb) (hc : S256x128.ShapeCasts S256x128) (e : FVec Ideal S256x128 .f32), IsReal e (fun q c => L (8 * q + 8) c) →
      ∀ (hb') (hs), View.RectAt (Val := Elt Ideal) (e := .f32) y ⟨⟨![o, 0], S256x128.size, ![8, 1], hb'⟩, hs⟩
        (shapeCast S256x128 (addf (rowsAt (F := Ideal) o hb B : FVec Ideal S256x128 .f32) (mulf (rowsAt (F := Ideal) o hb A : FVec Ideal S256x128 .f32) e)) hc)
        ((L (y 0).val (y 1).val : ℝ) : EReal) := fun o ho hb hc e he hb' hs =>
    piece_at (n := 0) (X := L) o (pieceUp_r o ho hb h he hc) hb' hs y
  exact View.allAt_cons _ _ _ (hp 7 (by decide) _ _ _ he _ _) <| View.allAt_cons _ _ _ (hp 6 (by decide) _ _ _ he _ _) <|
    View.allAt_cons _ _ _ (hp 5 (by decide) _ _ _ he _ _) <| View.allAt_cons _ _ _ (hp 4 (by decide) _ _ _ he _ _) <|
    View.allAt_cons _ _ _ (hp 3 (by decide) _ _ _ he _ _) <| View.allAt_cons _ _ _ (hp 2 (by decide) _ _ _ he _ _) <|
    View.allAt_cons _ _ _ (hp 1 (by decide) _ _ _ he _ _) <| View.allAt_cons _ _ _ (hp 0 (by decide) _ _ _ he _ _) <| View.allAt_nil y _

end

section

variable {x0 x1 x2 x3 : FVec Ideal S2048x128 .f32} {x4 : FVec Ideal S4x128 .f32} {x5 x7 x9 x10 : FVec Ideal S1x128 .f32}
  {x6 x8 : FVec Ideal S1x128x128 .bf16} {X G H D W B BA BX Lm : ℕ → ℕ → ℝ} {WA WX : ℕ → ℕ → ℝ}

theorem xcB_r (h0 : IsReal x0 X) (h4 : IsReal x4 W) (h5 : IsReal x5 B) : IsReal (xcB (F := Ideal) x0 x4 x5) (conv X W B) := conv_r h0 h4 h5

theorem rB_r (h0 : IsReal x0 X) (h4 : IsReal x4 W) (h5 : IsReal x5 B) (h6 : ∀ (u : Fin 1) (p q : Fin 128), x6 (ix3 u p q) = ((WA p q : ℝ) : EReal)) (h7 : IsReal x7 BA) :
    IsReal (rB (F := Ideal) x0 x4 x5 x6 x7) (rr X W B WA BA) := gate_r (conv_r h0 h4 h5) h6 h7

theorem iB_r (h0 : IsReal x0 X) (h4 : IsReal x4 W) (h5 : IsReal x5 B) (h8 : ∀ (u : Fin 1) (p q : Fin 128), x8 (ix3 u p q) = ((WX p q : ℝ) : EReal)) (h9 : IsReal x9 BX) :
    IsReal (iB (F := Ideal) x0 x4 x5 x8 x9) (rr X W B WX BX) := gate_r (conv_r h0 h4 h5) h8 h9

theorem aB_r (h0 : IsReal x0 X) (h4 : IsReal x4 W) (h5 : IsReal x5 B) (h6 : ∀ (u : Fin 1) (p q : Fin 128), x6 (ix3 u p q) = ((WA p q : ℝ) : EReal)) (h7 : IsReal x7 BA)
    (h10 : IsReal x10 Lm) : IsReal (aB (F := Ideal) x0 x4 x5 x6 x7 x10) fun p q => Real.exp (lg (rr X W B WA BA) Lm p q) := dec_r (rB_r h0 h4 h5 h6 h7) h10

theorem mB_r (h0 : IsReal x0 X) (h4 : IsReal x4 W) (h5 : IsReal x5 B) (h6 : ∀ (u : Fin 1) (p q : Fin 128), x6 (ix3 u p q) = ((WA p q : ℝ) : EReal)) (h7 : IsReal x7 BA)
    (h10 : IsReal x10 Lm) : IsReal (mB (F := Ideal) x0 x4 x5 x6 x7 x10) fun p q => mult (lg (rr X W B WA BA) Lm p q) :=
  mult_r (rB_r h0 h4 h5 h6 h7) (fun p q => gate_pos _) h10

/-- The adjoint state. -/
theorem lB_r (h0 : IsReal x0 X) (h1 : IsReal x1 G) (h3 : IsReal x3 D) (h4 : IsReal x4 W) (h5 : IsReal x5 B)
    (h6 : ∀ (u : Fin 1) (p q : Fin 128), x6 (ix3 u p q) = ((WA p q : ℝ) : EReal)) (h7 : IsReal x7 BA) (h10 : IsReal x10 Lm) :
    IsReal (lB (F := Ideal) x0 x1 x3 x4 x5 x6 x7 x10) (adjs (rr X W B WA BA) Lm G D) := fun p q =>
  rows_adj (fun t ht c => adj_zero _ _ ht) (up8 (up4 (up2 (up1 (aB_r h0 h4 h5 h6 h7 h10) (gel_r h1) h3)))) (ix2 p q)

end
end Cert.LruRun
end
-- ==== Proof.LruPay1b.lean ====
/- The recurrent mixer's gradient, one block of 128 channels: the cotangents of its inputs and parameters, over the reals. -/
module

public import proofs.«01_k».proof.Proof.LruPay1

@[expose] public section

set_option maxRecDepth 16384

noncomputable section

open Idealize.ShloMosaic Idealize.ShloMosaic.TcCoe Idealize.SL.Sem
open Idealize.ShloMosaic.Pipeline (Dat)

namespace Cert.Lru

/-- The cotangents, from the block's input, its gates, its state and the adjoint state. -/
def dxm (C R Lm A : ℕ → ℕ → ℝ) (p q : ℕ) : ℝ := A p q * (mult (lg R Lm p q) * C p q)
def dxc (I R Lm A : ℕ → ℕ → ℝ) (p q : ℕ) : ℝ := A p q * (mult (lg R Lm p q) * I p q)
def dla (C R I Lm H A : ℕ → ℕ → ℝ) (p q : ℕ) : ℝ :=
  A p q * dn 1 H p q * Real.exp (lg R Lm p q) - A p q * (I p q * C p q) * (Real.exp (lg R Lm p q) * Real.exp (lg R Lm p q) / mult (lg R Lm p q))
def dzr (C R I Lm H A : ℕ → ℕ → ℝ) (p q : ℕ) : ℝ := dla C R I Lm H A p q * (-8 * splus (Lm 0 q)) * (R p q * (1 - R p q))
def dzi (C R I Lm A : ℕ → ℕ → ℝ) (p q : ℕ) : ℝ := dxm C R Lm A p q * (I p q * (1 - I p q))
/-- A product with the transposed weights of the block. -/
def preT (Z W : ℕ → ℕ → ℝ) (p q : ℕ) : ℝ := ∑ k : Fin 128, Z p k * W q k
def dcv (C R I Lm H A WA WX : ℕ → ℕ → ℝ) (p q : ℕ) : ℝ :=
  dxc I R Lm A p q + preT (dzr C R I Lm H A) WA p q + preT (dzi C R I Lm A) WX p q
/-- Rows moved up, zeros behind. -/
def up (s : ℕ) (X : ℕ → ℕ → ℝ) (p q : ℕ) : ℝ := if p < 2048 - s then X (p + s) q else 0
def dxp (W Z : ℕ → ℕ → ℝ) (p q : ℕ) : ℝ := W 3 q * Z p q + W 2 q * up 1 Z p q + W 1 q * up 2 Z p q + W 0 q * up 3 Z p q
def dlam (Lm R Y : ℕ → ℕ → ℝ) (q : ℕ) : ℝ := (0 - ∑ p : Fin 2048, Y p q * (-8 * R p q)) / (1 + Real.exp (Lm 0 q))
def dgel (g : ℝ) : ℝ := 1 / 2 * (1 + gth g) + 1 / 2 * g * (1 - gth g * gth g) * (gc * (1 + 26829 / 200000 * (g * g)))

end Cert.Lru

namespace Cert.LruRun

open Cert.KernelLruIdeal Cert.KernelLruIdeal.Gen Cert.Reals Cert.Shift Cert.Scan Cert.Lru

theorem lit_gelu3 : (Named.named κ "gelu_3c" 0x3E095D4F#32 : Ideal .f32) = ((26829 / 200000 : ℝ) : EReal) := rfl

/-- A column sum. -/
theorem colsum_r {x : FVec Ideal S2048x128 .f32} {X : ℕ → ℕ → ℝ} (hx : IsReal x X) :
    IsReal (shapeCast S1x128 (multiReduction .add [0] S128 x 0x00000000#32 reduces_S2048x128_S128 (.inl rfl) rfl) shapeCasts_S128_S1x128) fun _ q => ∑ p : Fin 2048, X p q := fun u q => by
  pointwise
  simp only [hx _ _, coe_sum]

section

variable {c r i a m h l : FVec Ideal S2048x128 .f32} {s lam : FVec Ideal S1x128 .f32} {C R I H A Lm : ℕ → ℕ → ℝ}

theorem dxm_r (hc : IsReal c C) (hm : IsReal m fun p q => mult (lg R Lm p q)) (hl : IsReal l A) : IsReal (k1_pay59 c m l) (dxm C R Lm A) := mul_real hl (mul_real hm hc)
theorem dxc_r (hi : IsReal i I) (hm : IsReal m fun p q => mult (lg R Lm p q)) (hl : IsReal l A) : IsReal (k1_pay60 i m l) (dxc I R Lm A) := mul_real hl (mul_real hm hi)

theorem dla_r (hc : IsReal c C) (hi : IsReal i I) (ha : IsReal a fun p q => Real.exp (lg R Lm p q)) (hm : IsReal m fun p q => mult (lg R Lm p q)) (hR : ∀ p q, 0 < R p q)
    (hh : IsReal h H) (hl : IsReal l A) : IsReal (k1_pay61 c i a m h l) (dla C R I Lm H A) :=
  sub_r (mul_real (mul_real hl (dn_r 1 (by decide) hh)) ha) (mul_real (mul_real hl (mul_real hi hc)) (div_r (mul_real ha ha) hm fun p q => (mult_pos (la_neg (hR p q) _)).ne'))

theorem dr_r (hc : IsReal c C) (hi : IsReal i I) (ha : IsReal a fun p q => Real.exp (lg R Lm p q)) (hm : IsReal m fun p q => mult (lg R Lm p q)) (hR : ∀ p q, 0 < R p q)
    (hh : IsReal h H) (hl : IsReal l A) (hs : ∀ (u : Fin 1) (q : Fin 128), s (ix2 u q) = ((splus (Lm 0 q) : ℝ) : EReal)) :
    IsReal (k1_pay62 c i s a m h l) fun p q => dla C R I Lm H A p q * (-8 * splus (Lm 0 q)) :=
  mul_real (dla_r hc hi ha hm hR hh hl) (row_r (X := fun _ q => -8 * splus (Lm 0 q)) (mul_real (const_r lit_m8) (X := fun _ _ => -8) (Y := fun _ q => splus (Lm 0 q)) hs) _)

theorem dzr_r {d : FVec Ideal S2048x128 .f32} (hr : IsReal r R) (hd : IsReal d fun p q => dla C R I Lm H A p q * (-8 * splus (Lm 0 q))) :
    IsReal (k1_pay64 r d) (dzr C R I Lm H A) := mul_real hd (mul_real hr (sub_r (const_r lit_one) hr))
theorem dzi_r {d : FVec Ideal S2048x128 .f32} (hi : IsReal i I) (hd : IsReal d (dxm C R Lm A)) : IsReal (k1_pay65 i d) (dzi C R I Lm A) :=
  mul_real hd (mul_real hi (sub_r (const_r lit_one) hi))

/-- The product with the transposed weights. -/
theorem preT_r {z : FVec Ideal S2048x128 .bf16} {w : FVec Ideal S1x128x128 .bf16} {Z WA : ℕ → ℕ → ℝ} (hz : IsReal z Z)
    (hw : ∀ (u : Fin 1) (p q : Fin 128), w (ix3 u p q) = ((WA p q : ℝ) : EReal)) :
    IsReal (matmul dot_S2048x128_S128x128_S2048x128_1_1_0_0_n_n none z (shapeCast S128x128 w shapeCasts_S1x128x128_S128x128) (constant (F := Ideal) S2048x128 .f32 0x00000000#32)) (preT Z WA) :=
  fun p q => by
    pointwise
    simp only [hz _ _, hw _ _, ← EReal.coe_mul, coe_sum]
    rfl

/-- The product of two blocks over the rows. -/
theorem outer_r {x z : FVec Ideal S2048x128 .bf16} {X Z : ℕ → ℕ → ℝ} (hx : IsReal x X) (hz : IsReal z Z) (u : Fin 1) (p q : Fin 128) :
    shapeCast S1x128x128 (matmul dot_S2048x128_S2048x128_S128x128_0_0_1_1_n_n none x z (constant (F := Ideal) S128x128 .f32 0x00000000#32)) shapeCasts_S128x128_S1x128x128 (ix3 u p q)
      = ((∑ t : Fin 2048, X t p * Z t q : ℝ) : EReal) := by
  pointwise
  simp only [hx _ _, hz _ _, ← EReal.coe_mul, coe_sum]

end

section

variable {W Z X : ℕ → ℕ → ℝ} {w : FVec Ideal S4x128 .f32} {z x : FVec Ideal S2048x128 .f32}

theorem up_r (s m : ℕ) (h0 : 0 < s) (hs : s < 2048) (hm : m = 2048 - s) (hz : IsReal z Z) {hI hR} : IsReal (su m (Scalar.ofBits .f32 0x00000000#32) hI hR z) (up s Z) := by
  subst hm
  have h := su_real (by norm_num) (2048 - s) (by omega) hz (hI := hI) (hR := hR) Shift.lit_zero
  intro p q
  rw [h p q]
  unfold up
  rw [show 2048 - (2048 - s) = s by omega]

theorem dxp_r (hw : IsReal w W) (hz : IsReal z Z) : IsReal (φ := .bf16) (k1_pay1 (k1_pay2 w) z (k1_pay76 (k1_pay2 w) z) (k1_pay77 (k1_pay2 w)) (k1_pay78 z)) (dxp W Z) := by
  have h := add_real (add_real (add_real (mul_real (tap_r 3 (by decide) hw shapeCasts_S4x128_S4x128 slices_S4x128_o3_0_S1x128 broadcasts_S1x128_S2048x128) hz)
    (mul_real (tap_r 2 (by decide) hw shapeCasts_S4x128_S4x128 slices_S4x128_o2_0_S1x128 broadcasts_S1x128_S2048x128) (up_r 1 2047 (by decide) (by decide) rfl hz (hI := iota_S2048x128_d0_w32) (hR := rotates_S2048x128_d0))))
    (mul_real (tap_r 1 (by decide) hw shapeCasts_S4x128_S4x128 slices_S4x128_o1_0_S1x128 broadcasts_S1x128_S2048x128) (up_r 2 2046 (by decide) (by decide) rfl hz (hI := iota_S2048x128_d0_w32) (hR := rotates_S2048x128_d0))))
    (mul_real (tap_r 0 (by decide) hw shapeCasts_S4x128_S4x128 slices_S4x128_o0_0_S1x128 broadcasts_S1x128_S2048x128) (up_r 3 2045 (by decide) (by decide) rfl hz (hI := iota_S2048x128_d0_w32) (hR := rotates_S2048x128_d0)))
  intro p q
  refine Eq.trans ?_ (h p q)
  unfold k1_pay1
  rw [shapeCast_self]
  rfl

/-- The convolution's weights. -/
theorem dcw_r (hx : IsReal x X) (hz : IsReal z Z) : IsReal (k1_pay75 x (k1_pay3 x) (k1_pay4 x) (k1_pay5 x) z) fun k q => ∑ p : Fin 2048, Z p q * dn (3 - k) X p q := by
  have h3 : IsReal _ _ := colsum_r (mul_real hz (dn_r 3 (by decide) hx (hI := iota_S2048x128_d0_w32) (hR := rotates_S2048x128_d0)))
  have h2 : IsReal _ _ := colsum_r (mul_real hz (dn_r 2 (by decide) hx (hI := iota_S2048x128_d0_w32) (hR := rotates_S2048x128_d0)))
  have h1 : IsReal _ _ := colsum_r (mul_real hz (dn_r 1 (by decide) hx (hI := iota_S2048x128_d0_w32) (hR := rotates_S2048x128_d0)))
  have h0 : IsReal _ _ := colsum_r (mul_real hz hx)
  intro k q
  match k with
  | 0 => refine Eq.trans ?_ (h3 0 q); unfold k1_pay75; rw [shapeCast_self]; rfl
  | 1 => refine Eq.trans ?_ (h2 0 q); unfold k1_pay75; rw [shapeCast_self]; rfl
  | 2 => refine Eq.trans ?_ (h1 0 q); unfold k1_pay75; rw [shapeCast_self]; rfl
  | 3 =>
    refine Eq.trans (b := ((∑ p : Fin 2048, Z p q * X p q : ℝ) : EReal)) (Eq.trans ?_ (h0 0 q)) ?_
    · unfold k1_pay75; rw [shapeCast_self]; rfl
    · refine congrArg (fun r : ℝ => (r : EReal)) (Finset.sum_congr rfl fun p _ => ?_)
      show _ = Z p q * (if 0 ≤ (p : ℕ) then X (p - 0) q else 0)
      rw [if_pos (Nat.zero_le _), Nat.sub_zero]

/-- The decay's parameter. -/
theorem dlam_r {lam : FVec Ideal S1x128 .f32} {Lm R Y : ℕ → ℕ → ℝ} {r y : FVec Ideal S2048x128 .f32} (hl : IsReal lam Lm) (hr : IsReal r R) (hy : IsReal y Y) :
    IsReal (k1_pay63 lam r y) fun _ q => dlam Lm R Y q := by
  have h := div_r (sub_r (const_r (n := 1) (L := 128) Shift.lit_zero) (colsum_r (mul_real hy (mul_real (const_r lit_m8) hr)))) (add_real (const_r lit_one) (exp_r hl))
    (fun p q => (add_pos one_pos (Real.exp_pos _)).ne')
  intro u q
  obtain rfl : u = 0 := Subsingleton.elim _ _
  refine Eq.trans ?_ (h 0 q)
  unfold k1_pay63
  rw [shapeCast_self]

/-- The gate's input. -/
theorem dgl_r {g h d : FVec Ideal S2048x128 .f32} {G H D : ℕ → ℕ → ℝ} (hg : IsReal g G) (hh : IsReal h H) (hd : IsReal d D) :
    IsReal (φ := .bf16) (o13 (F := Ideal) g h d) fun p q => D p q * H p q * dgel (G p q) := by
  have e := mul_real (mul_real hd hh) (add_real (mul_real (const_r lit_half) (add_real (const_r lit_one) (gth_r hg)))
    (mul_real (mul_real (mul_real (const_r lit_half) hg) (sub_r (const_r lit_one) (mul_real (gth_r hg) (gth_r hg))))
      (mul_real (const_r lit_gc) (add_real (const_r lit_one) (mul_real (const_r lit_gelu3) (mul_real hg hg))))))
  intro p q
  refine Eq.trans ?_ (e p q)
  unfold o13 k1_pay26
  rw [shapeCast_self]
  rfl

end
end Cert.LruRun
end
-- ==== Proof.LruHost.lean ====
/- The host lines of the recurrent mixer's gradient: the heads' weights packed two to a block on the diagonal, and the
   diagonal blocks taken out again. -/
module

public import proofs.«01_k».proof.Proof.LruPay1b
public import proofs.«01_k».proof.Proof.LruFrame
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Lru

/-- The columns from `o` on. -/
def blk (X : ℕ → ℕ → ℝ) (o p q : ℕ) : ℝ := X p (o + q)

/-- Block `j` of the packed weights: two heads on the diagonal. -/
def bd (WA : ℕ → ℕ → ℕ → ℝ) (j p q : ℕ) : ℝ := if p / 64 = q / 64 then WA (2 * j + p / 64) (p % 64) (q % 64) else 0

/-- A head's product, bias added. -/
def hd (C : ℕ → ℕ → ℝ) (WA : ℕ → ℕ → ℕ → ℝ) (BA : ℕ → ℕ → ℝ) (p c : ℕ) : ℝ := ∑ i : Fin 64, C p (c / 64 * 64 + i) * WA (c / 64) i (c % 64) + BA 0 c
/-- A head's product with the transposed weights. -/
def hdT (Z : ℕ → ℕ → ℝ) (WA : ℕ → ℕ → ℕ → ℝ) (p c : ℕ) : ℝ := ∑ i : Fin 64, Z p (c / 64 * 64 + i) * WA (c / 64) (c % 64) i

theorem sum_half (f : ℕ → ℝ) : ∑ k : Fin 128, f k = ∑ i : Fin 64, f i + ∑ i : Fin 64, f (64 + i) := by
  rw [Fin.sum_univ_eq_sum_range f 128, Fin.sum_univ_eq_sum_range f 64, Fin.sum_univ_eq_sum_range (fun i => f (64 + i)) 64, ← Finset.sum_range_add]

theorem pick (f : ℕ → ℝ) (h : ℕ) (hh : h < 2) (hf : ∀ k < 128, k / 64 ≠ h → f k = 0) : ∑ k : Fin 128, f k = ∑ i : Fin 64, f (h * 64 + i) := by
  rw [sum_half]
  rcases (by omega : h = 0 ∨ h = 1) with rfl | rfl
  · rw [Finset.sum_eq_zero (s := Finset.univ) (f := fun i : Fin 64 => f (64 + i)) fun i _ => hf _ (by omega) (by omega), add_zero]
    exact Finset.sum_congr rfl fun i _ => by rw [Nat.zero_mul, Nat.zero_add]
  · rw [Finset.sum_eq_zero (s := Finset.univ) (f := fun i : Fin 64 => f i) fun i _ => hf _ (by omega) (by omega), zero_add]

theorem pre_blk (C : ℕ → ℕ → ℝ) (WA : ℕ → ℕ → ℕ → ℝ) (BA : ℕ → ℕ → ℝ) (j p : ℕ) {q : ℕ} (hq : q < 128) :
    pre (blk C (128 * j)) (bd WA j) (blk BA (128 * j)) p q = hd C WA BA p (128 * j + q) := by
  unfold pre hd
  rw [pick (fun k => blk C (128 * j) p k * bd WA j k q) (q / 64) (by omega) fun k _ h => by unfold bd; rw [if_neg h, mul_zero]]
  refine congrArg₂ _ (Finset.sum_congr rfl fun i _ => ?_) rfl
  unfold bd blk
  rw [show (q / 64 * 64 + (i : ℕ)) / 64 = q / 64 by omega, if_pos rfl, show (q / 64 * 64 + (i : ℕ)) % 64 = i by omega,
    show (128 * j + q) / 64 = 2 * j + q / 64 by omega, show (128 * j + q) % 64 = q % 64 by omega,
    show 128 * j + (q / 64 * 64 + (i : ℕ)) = (2 * j + q / 64) * 64 + i by omega]

theorem preT_blk (Z : ℕ → ℕ → ℝ) (WA : ℕ → ℕ → ℕ → ℝ) (j p : ℕ) {q : ℕ} (hq : q < 128) :
    preT (blk Z (128 * j)) (bd WA j) p q = hdT Z WA p (128 * j + q) := by
  unfold preT hdT
  rw [pick (fun k => blk Z (128 * j) p k * bd WA j q k) (q / 64) (by omega) fun k _ h => by unfold bd; rw [if_neg fun e => h e.symm, mul_zero]]
  refine Finset.sum_congr rfl fun i _ => ?_
  unfold bd blk
  rw [show (q / 64 * 64 + (i : ℕ)) / 64 = q / 64 by omega, if_pos rfl, show (q / 64 * 64 + (i : ℕ)) % 64 = i by omega,
    show (128 * j + q) / 64 = 2 * j + q / 64 by omega, show (128 * j + q) % 64 = q % 64 by omega,
    show 128 * j + (q / 64 * 64 + (i : ℕ)) = (2 * j + q / 64) * 64 + i by omega]

end Cert.Lru

namespace Cert.LruRun

open Cert.KernelLruIdeal Cert.KernelLruIdeal.Gen Cert.Reals Cert.Shift Cert.Scan Cert.Lru

variable (m : (ℓ : Loc nD τ sig) → Buf (Elt Ideal) ℓ) (c : Dev nD)

/-- The argument arrays are the images of real ones. -/
structure Args (X D W B : ℕ → ℕ → ℝ) (WA : ℕ → ℕ → ℕ → ℝ) (BA : ℕ → ℕ → ℝ) (WX : ℕ → ℕ → ℕ → ℝ) (BX Lm : ℕ → ℕ → ℝ) : Prop where
  hX : ∀ (p : Fin 2048) (q : Fin 4608), (m ((c : Thread nD τ).loc main_arg0) : FVec Ideal S2048x4608 .f32) (ix2 p q) = ((X p q : ℝ) : EReal)
  hD : ∀ (p : Fin 2048) (q : Fin 1024), (m ((c : Thread nD τ).loc main_arg1) : FVec Ideal S2048x1024 .f32) (ix2 p q) = ((D p q : ℝ) : EReal)
  hW : ∀ (u : Fin 1) (p : Fin 4) (q : Fin 1024), (m ((c : Thread nD τ).loc main_arg2) : FVec Ideal S1x4x1024 .f32) (ix3 u p q) = ((W p q : ℝ) : EReal)
  hB : ∀ (u : Fin 1) (q : Fin 1024), (m ((c : Thread nD τ).loc main_arg3) : FVec Ideal S1x1024 .f32) (ix2 u q) = ((B u q : ℝ) : EReal)
  hWA : ∀ (u : Fin 1) (h : Fin 16) (i j : Fin 64), (m ((c : Thread nD τ).loc main_arg4) : FVec Ideal S1x16x64x64 .f32) (ix4 u h i j) = ((WA h i j : ℝ) : EReal)
  hBA : ∀ (u : Fin 1) (q : Fin 1024), (m ((c : Thread nD τ).loc main_arg5) : FVec Ideal S1x1024 .f32) (ix2 u q) = ((BA u q : ℝ) : EReal)
  hWX : ∀ (u : Fin 1) (h : Fin 16) (i j : Fin 64), (m ((c : Thread nD τ).loc main_arg6) : FVec Ideal S1x16x64x64 .f32) (ix4 u h i j) = ((WX h i j : ℝ) : EReal)
  hBX : ∀ (u : Fin 1) (q : Fin 1024), (m ((c : Thread nD τ).loc main_arg7) : FVec Ideal S1x1024 .f32) (ix2 u q) = ((BX u q : ℝ) : EReal)
  hLm : ∀ (u : Fin 1) (q : Fin 1024), (m ((c : Thread nD τ).loc main_arg8) : FVec Ideal S1x1024 .f32) (ix2 u q) = ((Lm u q : ℝ) : EReal)

variable {X D W B : ℕ → ℕ → ℝ} {WA : ℕ → ℕ → ℕ → ℝ} {BA : ℕ → ℕ → ℝ} {WX : ℕ → ℕ → ℕ → ℝ} {BX Lm : ℕ → ℕ → ℝ} (H : Args m c X D W B WA BA WX BX Lm)

/-- One bit of the identity matrix of two rows. -/
theorem eye_bit (a b : ℕ) (ha : a < 2) (hb : b < 2) :
    (FloatOps.uitofp FTy.f32 (IntOp.cmpi CmpIPredicate.eq (IntOp.addi (BitVec.ofNat 32 a) 0#32) (BitVec.ofNat 32 b)) : Ideal .f32)
      = ((if a = b then 1 else 0 : ℝ) : EReal) := by
  rcases (by omega : a = 0 ∨ a = 1) with rfl | rfl <;> rcases (by omega : b = 0 ∨ b = 1) with rfl | rfl <;>
    exact congrArg (fun r : ℝ => (r : EReal)) (by first | (norm_num [IntOp.cmpi, IntOp.addi]; done) | (norm_num [IntOp.cmpi, IntOp.addi]; rfl))

include H

theorem host_wa (g : Fin 8) (p q : Fin 128) : (w1 m c (Proc.devRef .tc main_v14) : FVec Ideal S8x128x128 .bf16) (ix3 g p q) = ((bd WA g p q : ℝ) : EReal) := by
  have hg := g.isLt
  have hp := p.isLt
  have hq := q.isLt
  unfold w1
  unfold hostOps0 w0
  after_reads_at
  refine (congrArg₂ (fun x y : EReal => x * y) (H.hWA 0 ⟨g * 2 + p / 64, by omega⟩ ⟨p % 64, by omega⟩ ⟨q % 64, by omega⟩) (eye_bit (p / 64) (q / 64) (by omega) (by omega))).trans ?_
  beta_reduce
  rw [← EReal.coe_mul]
  refine congrArg (fun r : ℝ => (r : EReal)) ?_
  unfold bd
  dsimp only
  split_ifs
  · rw [mul_one, mul_comm (g : ℕ) 2]
  · rw [mul_zero]

theorem host_wx (g : Fin 8) (p q : Fin 128) : (w1 m c (Proc.devRef .tc main_v29) : FVec Ideal S8x128x128 .bf16) (ix3 g p q) = ((bd WX g p q : ℝ) : EReal) := by
  have hg := g.isLt
  have hp := p.isLt
  have hq := q.isLt
  unfold w1
  unfold hostOps0 w0
  after_reads_at
  refine (congrArg₂ (fun x y : EReal => x * y) (H.hWX 0 ⟨g * 2 + p / 64, by omega⟩ ⟨p % 64, by omega⟩ ⟨q % 64, by omega⟩) (eye_bit (p / 64) (q / 64) (by omega) (by omega))).trans ?_
  beta_reduce
  rw [← EReal.coe_mul]
  refine congrArg (fun r : ℝ => (r : EReal)) ?_
  unfold bd
  dsimp only
  split_ifs
  · rw [mul_one, mul_comm (g : ℕ) 2]
  · rw [mul_zero]

theorem host_cw (p : Fin 4) (q : Fin 1024) : (w1 m c (Proc.devRef .tc main_v30) : FVec Ideal S4x1024 .f32) (ix2 p q) = ((W p q : ℝ) : EReal) := by
  refine Eq.trans ?_ (H.hW 0 p q)
  unfold w1
  unfold hostOps0 w0
  after_reads_at

end Cert.LruRun
end
-- ==== Proof.LruCall0.lean ====
/- What the forward call of the recurrent mixer leaves: the state and the output, over the reals. -/
module

public import proofs.«01_k».proof.Proof.LruHost

@[expose] public section

set_option maxRecDepth 16384

noncomputable section

open Idealize.ShloMosaic Idealize.ShloMosaic.TcCoe Idealize.SL.Sem
open Idealize.ShloMosaic.Pipeline (Dat)

namespace Cert.Lru

/-- The gates of every channel, a head's weights each. -/
def rG (X W B : ℕ → ℕ → ℝ) (WA : ℕ → ℕ → ℕ → ℝ) (BA : ℕ → ℕ → ℝ) (p c : ℕ) : ℝ := gate (hd (conv X W B) WA BA p c)
/-- The state after row `p`. -/
def hG (X W B : ℕ → ℕ → ℝ) (WA : ℕ → ℕ → ℕ → ℝ) (BA : ℕ → ℕ → ℝ) (WX : ℕ → ℕ → ℕ → ℝ) (BX Lm : ℕ → ℕ → ℝ) (p c : ℕ) : ℝ :=
  state (conv X W B) (rG X W B WA BA) (rG X W B WX BX) Lm (p + 1) c
def yG (X W B : ℕ → ℕ → ℝ) (WA : ℕ → ℕ → ℕ → ℝ) (BA : ℕ → ℕ → ℝ) (WX : ℕ → ℕ → ℕ → ℝ) (BX Lm : ℕ → ℕ → ℝ) (p c : ℕ) : ℝ :=
  hG X W B WA BA WX BX Lm p c * gel (blk X 1024 p c)

end Cert.Lru

namespace Cert.LruRun

open Cert.KernelLruIdeal Cert.KernelLruIdeal.Gen Cert.Reals Cert.Shift Cert.Scan Cert.Lru

variable {X D W B : ℕ → ℕ → ℝ} {WA : ℕ → ℕ → ℕ → ℝ} {BA : ℕ → ℕ → ℝ} {WX : ℕ → ℕ → ℕ → ℝ} {BX Lm : ℕ → ℕ → ℝ}

section
variable {x0 x1 : FVec Ideal S2048x128 .f32} {x2 : FVec Ideal S4x128 .f32} {x3 x5 x7 x8 : FVec Ideal S1x128 .f32} {x4 x6 : FVec Ideal S1x128x128 .bf16} (j : ℕ)

theorem gate_blk {x : FVec Ideal S2048x128 .f32} {w : FVec Ideal S1x128x128 .bf16} {b : FVec Ideal S1x128 .f32} (hc : IsReal x (blk (conv X W B) (128 * j)))
    (hw : ∀ (u : Fin 1) (p q : Fin 128), w (ix3 u p q) = ((bd WA j p q : ℝ) : EReal)) (hb : IsReal b (blk BA (128 * j))) :
    IsReal (k0_pay4 x (k0_pay2 w) b) (blk (rG X W B WA BA) (128 * j)) := fun p q => by
  rw [gate_r hc hw hb p q]
  refine congrArg (fun r : ℝ => (r : EReal)) ?_
  beta_reduce
  rw [pre_blk _ _ _ _ _ q.isLt]
  rfl

theorem hOut_blk (h0 : IsReal x0 (blk X (128 * j))) (h2 : IsReal x2 (blk W (128 * j))) (h3 : IsReal x3 (blk B (128 * j)))
    (h4 : ∀ (u : Fin 1) (p q : Fin 128), x4 (ix3 u p q) = ((bd WA j p q : ℝ) : EReal)) (h5 : IsReal x5 (blk BA (128 * j)))
    (h6 : ∀ (u : Fin 1) (p q : Fin 128), x6 (ix3 u p q) = ((bd WX j p q : ℝ) : EReal)) (h7 : IsReal x7 (blk BX (128 * j))) (h8 : IsReal x8 (blk Lm (128 * j))) :
    IsReal (hOut (F := Ideal) x0 x2 x3 x4 x5 x6 x7 x8) (blk (hG X W B WA BA WX BX Lm) (128 * j)) := fun p q => by
  have hc : IsReal (k0_pay1 x0 x2 x3) (blk (conv X W B) (128 * j)) := conv_r h0 h2 h3
  exact rows_state (H := state (blk (conv X W B) (128 * j)) (blk (rG X W B WA BA) (128 * j)) (blk (rG X W B WX BX) (128 * j)) (blk Lm (128 * j))) (fun c => rfl)
    (flat0 hc (gate_blk j hc h4 h5) (fun p q => gate_pos _) (gate_blk j hc h6 h7) h8) (ix2 p q)

theorem yOut_blk (h0 : IsReal x0 (blk X (128 * j))) (h1 : IsReal x1 (blk (blk X 1024) (128 * j))) (h2 : IsReal x2 (blk W (128 * j))) (h3 : IsReal x3 (blk B (128 * j)))
    (h4 : ∀ (u : Fin 1) (p q : Fin 128), x4 (ix3 u p q) = ((bd WA j p q : ℝ) : EReal)) (h5 : IsReal x5 (blk BA (128 * j)))
    (h6 : ∀ (u : Fin 1) (p q : Fin 128), x6 (ix3 u p q) = ((bd WX j p q : ℝ) : EReal)) (h7 : IsReal x7 (blk BX (128 * j))) (h8 : IsReal x8 (blk Lm (128 * j))) :
    IsReal (φ := .bf16) (yOut (F := Ideal) x0 x1 x2 x3 x4 x5 x6 x7 x8) (blk (yG X W B WA BA WX BX Lm) (128 * j)) := by
  have h := mul_real (hOut_blk j h0 h2 h3 h4 h5 h6 h7 h8) (gel_r h1)
  intro p q
  refine Eq.trans ?_ (h p q)
  unfold yOut k0_pay44
  simp only [shapeCast_self]
  rfl

end

theorem idx0 : ∀ t : Fin cfg0.N, (win0_0.index t = ![0, t.val] ∧ win0_1.index t = ![0, 8 + t.val] ∧ win0_2.index t = ![0, t.val]
    ∧ win0_3.index t = ![0, t.val] ∧ win0_4.index t = ![t.val, 0, 0] ∧ win0_5.index t = ![0, t.val]) ∧ win0_6.index t = ![t.val, 0, 0] ∧ win0_7.index t = ![0, t.val]
    ∧ win0_8.index t = ![0, t.val] ∧ win0_9.index t = ![0, t.val] ∧ win0_10.index t = ![0, t.val] :=
  (by decide +kernel : ∀ t : Fin grid0.N, _)

variable (m : (ℓ : Loc nD τ sig) → Buf (Elt Ideal) ℓ) (c : Dev nD)

theorem lt0 (t : Fin cfg0.N) : t.val < 8 := lt_of_lt_of_eq t.isLt N_0

variable (H : Args m c X D W B WA BA WX BX Lm)
include H

theorem b0_0 (t : Fin cfg0.N) : IsReal (φ := .f32) (iblk0 (at1 m) c 0 t : FVec Ideal S2048x128 .f32) (blk X (128 * t)) := fun p q => by
  have ht := lt0 t
  refine Eq.trans (Eq.trans ?_ (congrFun (w1_of m c main_arg0 (by decide)) (ix2 p ⟨128 * t + q, by omega⟩))) (H.hX p ⟨128 * t + q, by omega⟩)
  blk_ext [iblk0, idx0 t]

theorem b0_1 (t : Fin cfg0.N) : IsReal (φ := .f32) (iblk0 (at1 m) c 1 t : FVec Ideal S2048x128 .f32) (blk (blk X 1024) (128 * t)) := fun p q => by
  have ht := lt0 t
  refine Eq.trans (Eq.trans ?_ (congrFun (w1_of m c main_arg0 (by decide)) (ix2 p ⟨1024 + (128 * t + q), by omega⟩))) (H.hX p ⟨1024 + (128 * t + q), by omega⟩)
  blk_ext [iblk0, idx0 t]

theorem b0_2 (t : Fin cfg0.N) : IsReal (φ := .f32) (iblk0 (at1 m) c 2 t : FVec Ideal S4x128 .f32) (blk W (128 * t)) := fun p q => by
  have ht := lt0 t
  refine Eq.trans ?_ (host_cw m c H p ⟨128 * t + q, by omega⟩)
  blk_ext [iblk0, idx0 t]

theorem b0_3 (t : Fin cfg0.N) : IsReal (φ := .f32) (iblk0 (at1 m) c 3 t : FVec Ideal S1x128 .f32) (blk B (128 * t)) := fun p q => by
  have ht := lt0 t
  refine Eq.trans (Eq.trans ?_ (congrFun (w1_of m c main_arg3 (by decide)) (ix2 p ⟨128 * t + q, by omega⟩))) (H.hB p ⟨128 * t + q, by omega⟩)
  blk_ext [iblk0, idx0 t]

theorem b0_4 (t : Fin cfg0.N) (u : Fin 1) (p q : Fin 128) : (iblk0 (at1 m) c 4 t : FVec Ideal S1x128x128 .bf16) (ix3 u p q) = ((bd WA t p q : ℝ) : EReal) := by
  have ht := lt0 t
  refine Eq.trans ?_ (host_wa m c H ⟨t, ht⟩ p q)
  blk_ext [iblk0, idx0 t]

theorem b0_5 (t : Fin cfg0.N) : IsReal (φ := .f32) (iblk0 (at1 m) c 5 t : FVec Ideal S1x128 .f32) (blk BA (128 * t)) := fun p q => by
  have ht := lt0 t
  refine Eq.trans (Eq.trans ?_ (congrFun (w1_of m c main_arg5 (by decide)) (ix2 p ⟨128 * t + q, by omega⟩))) (H.hBA p ⟨128 * t + q, by omega⟩)
  blk_ext [iblk0, idx0 t]

theorem b0_6 (t : Fin cfg0.N) (u : Fin 1) (p q : Fin 128) : (iblk0 (at1 m) c 6 t : FVec Ideal S1x128x128 .bf16) (ix3 u p q) = ((bd WX t p q : ℝ) : EReal) := by
  have ht := lt0 t
  refine Eq.trans ?_ (host_wx m c H ⟨t, ht⟩ p q)
  blk_ext [iblk0, idx0 t]

theorem b0_7 (t : Fin cfg0.N) : IsReal (φ := .f32) (iblk0 (at1 m) c 7 t : FVec Ideal S1x128 .f32) (blk BX (128 * t)) := fun p q => by
  have ht := lt0 t
  refine Eq.trans (Eq.trans ?_ (congrFun (w1_of m c main_arg7 (by decide)) (ix2 p ⟨128 * t + q, by omega⟩))) (H.hBX p ⟨128 * t + q, by omega⟩)
  blk_ext [iblk0, idx0 t]

theorem b0_8 (t : Fin cfg0.N) : IsReal (φ := .f32) (iblk0 (at1 m) c 8 t : FVec Ideal S1x128 .f32) (blk Lm (128 * t)) := fun p q => by
  have ht := lt0 t
  refine Eq.trans (Eq.trans ?_ (congrFun (w1_of m c main_arg8 (by decide)) (ix2 p ⟨128 * t + q, by omega⟩))) (H.hLm p ⟨128 * t + q, by omega⟩)
  blk_ext [iblk0, idx0 t]

/-- The state the forward call leaves. -/
theorem state0 : (w2 m c (Proc.devRef .tc main_v31_1) : FVec Ideal S2048x1024 .f32)
    = fun i => ((hG X W B WA BA WX BX Lm (i 0).val (i 1).val : ℝ) : EReal) := by
  refine (w2_arr m c 10).trans ?_
  refine (dat0 (at1 m) c).arrAt_eq_of_covers 10 _ (by decide +kernel) fun t _ y => ?_
  blk_simp [idx0 t]
  rw [after0_10]
  rw [mul_comm t.val 128]
  exact (congrArg (val0_10 (at1 m) c t) (ix2_eta y).symm).trans
    (hOut_blk t (b0_0 m c H t) (b0_2 m c H t) (b0_3 m c H t) (b0_4 m c H t) (b0_5 m c H t) (b0_6 m c H t) (b0_7 m c H t) (b0_8 m c H t) _ _)

/-- The output the forward call leaves. -/
theorem out0 : (w2 m c (Proc.devRef .tc main_v31_0) : FVec Ideal S2048x1024 .bf16)
    = fun i => ((yG X W B WA BA WX BX Lm (i 0).val (i 1).val : ℝ) : EReal) := by
  refine (w2_arr m c 9).trans ?_
  refine (dat0 (at1 m) c).arrAt_eq_of_covers 9 _ (by decide +kernel) fun t _ y => ?_
  blk_simp [idx0 t]
  rw [after0_9]
  rw [mul_comm t.val 128]
  exact (congrArg (val0_9 (at1 m) c t) (ix2_eta y).symm).trans
    (yOut_blk t (b0_0 m c H t) (b0_1 m c H t) (b0_2 m c H t) (b0_3 m c H t) (b0_4 m c H t) (b0_5 m c H t) (b0_6 m c H t) (b0_7 m c H t) (b0_8 m c H t) _ _)

end Cert.LruRun
end
-- ==== Proof.LruBlk1.lean ====
/- The recurrent mixer's gradient in one block of channels, as columns of arrays over all channels. -/
module

public import proofs.«01_k».proof.Proof.LruPay1b
public import proofs.«01_k».proof.Proof.LruCall0

@[expose] public section

set_option maxRecDepth 16384

noncomputable section

open Idealize.ShloMosaic Idealize.ShloMosaic.TcCoe Idealize.SL.Sem
open Idealize.ShloMosaic.Pipeline (Dat)

namespace Cert.Lru

/-- The gradient of the convolved input, every channel. -/
def dcG (C R I Lm H A : ℕ → ℕ → ℝ) (WA WX : ℕ → ℕ → ℕ → ℝ) (p c : ℕ) : ℝ :=
  dxc I R Lm A p c + hdT (dzr C R I Lm H A) WA p c + hdT (dzi C R I Lm A) WX p c

end Cert.Lru

namespace Cert.LruRun

open Cert.KernelLruIdeal Cert.KernelLruIdeal.Gen Cert.Reals Cert.Shift Cert.Scan Cert.Lru

/-- The blocks of a grid point are columns of the arrays. -/
structure Ins (X D H W B : ℕ → ℕ → ℝ) (WA : ℕ → ℕ → ℕ → ℝ) (BA : ℕ → ℕ → ℝ) (WX : ℕ → ℕ → ℕ → ℝ) (BX Lm : ℕ → ℕ → ℝ) (j : ℕ)
    (x0 x1 x2 x3 : FVec Ideal S2048x128 .f32) (x4 : FVec Ideal S4x128 .f32) (x5 : FVec Ideal S1x128 .f32) (x6 : FVec Ideal S1x128x128 .bf16) (x7 : FVec Ideal S1x128 .f32)
    (x8 : FVec Ideal S1x128x128 .bf16) (x9 x10 : FVec Ideal S1x128 .f32) : Prop where
  h0 : IsReal x0 (blk X (128 * j))
  h1 : IsReal x1 (blk (blk X 1024) (128 * j))
  h2 : IsReal x2 (blk H (128 * j))
  h3 : IsReal x3 (blk D (128 * j))
  h4 : IsReal x4 (blk W (128 * j))
  h5 : IsReal x5 (blk B (128 * j))
  h6 : ∀ (u : Fin 1) (p q : Fin 128), x6 (ix3 u p q) = ((bd WA j p q : ℝ) : EReal)
  h7 : IsReal x7 (blk BA (128 * j))
  h8 : ∀ (u : Fin 1) (p q : Fin 128), x8 (ix3 u p q) = ((bd WX j p q : ℝ) : EReal)
  h9 : IsReal x9 (blk BX (128 * j))
  h10 : IsReal x10 (blk Lm (128 * j))

variable {X D H W B : ℕ → ℕ → ℝ} {WA : ℕ → ℕ → ℕ → ℝ} {BA : ℕ → ℕ → ℝ} {WX : ℕ → ℕ → ℕ → ℝ} {BX Lm : ℕ → ℕ → ℝ} {j : ℕ}
variable {x0 x1 x2 x3 : FVec Ideal S2048x128 .f32} {x4 : FVec Ideal S4x128 .f32} {x5 : FVec Ideal S1x128 .f32} {x6 : FVec Ideal S1x128x128 .bf16} {x7 : FVec Ideal S1x128 .f32}
  {x8 : FVec Ideal S1x128x128 .bf16} {x9 x10 : FVec Ideal S1x128 .f32}
variable (N : Ins X D H W B WA BA WX BX Lm j x0 x1 x2 x3 x4 x5 x6 x7 x8 x9 x10)
include N

theorem xc_b : IsReal (xcB (F := Ideal) x0 x4 x5) (blk (conv X W B) (128 * j)) := conv_r N.h0 N.h4 N.h5
theorem r_b : IsReal (rB (F := Ideal) x0 x4 x5 x6 x7) (blk (rG X W B WA BA) (128 * j)) := gate_blk j (xc_b N) N.h6 N.h7
theorem i_b : IsReal (iB (F := Ideal) x0 x4 x5 x8 x9) (blk (rG X W B WX BX) (128 * j)) := gate_blk j (xc_b N) N.h8 N.h9
omit N in
theorem r_pos (p q : ℕ) : 0 < blk (rG X W B WA BA) (128 * j) p q := gate_pos _
theorem a_b : IsReal (aB (F := Ideal) x0 x4 x5 x6 x7 x10) fun p q => Real.exp (lg (blk (rG X W B WA BA) (128 * j)) (blk Lm (128 * j)) p q) := dec_r (r_b N) N.h10
theorem m_b : IsReal (mB (F := Ideal) x0 x4 x5 x6 x7 x10) fun p q => mult (lg (blk (rG X W B WA BA) (128 * j)) (blk Lm (128 * j)) p q) :=
  mult_r (r_b N) r_pos N.h10
theorem l_b : IsReal (lB (F := Ideal) x0 x1 x3 x4 x5 x6 x7 x10) (blk (adjs (rG X W B WA BA) Lm (blk X 1024) D) (128 * j)) := fun p q =>
  rows_adj (L := adjs (blk (rG X W B WA BA) (128 * j)) (blk Lm (128 * j)) (blk (blk X 1024) (128 * j)) (blk D (128 * j))) (fun t ht c => adj_zero _ _ ht)
    (up8 (up4 (up2 (up1 (a_b N) (gel_r N.h1) N.h3)))) (ix2 p q)

section
variable {l : FVec Ideal S2048x128 .f32} {A : ℕ → ℕ → ℝ} (hl : IsReal l (blk A (128 * j)))
include hl

theorem xm_b : IsReal (dxmB (F := Ideal) x0 x4 x5 x6 x7 x10 l) (blk (dxm (conv X W B) (rG X W B WA BA) Lm A) (128 * j)) :=
  dxm_r (C := blk (conv X W B) (128 * j)) (R := blk (rG X W B WA BA) (128 * j)) (Lm := blk Lm (128 * j)) (A := blk A (128 * j)) (xc_b N) (m_b N) hl
theorem xcc_b : IsReal (dxcB (F := Ideal) x0 x4 x5 x6 x7 x8 x9 x10 l) (blk (dxc (rG X W B WX BX) (rG X W B WA BA) Lm A) (128 * j)) :=
  dxc_r (I := blk (rG X W B WX BX) (128 * j)) (R := blk (rG X W B WA BA) (128 * j)) (Lm := blk Lm (128 * j)) (A := blk A (128 * j)) (i_b N) (m_b N) hl
theorem la_b : IsReal (dlaB (F := Ideal) x0 x2 x4 x5 x6 x7 x8 x9 x10 l) (blk (dla (conv X W B) (rG X W B WA BA) (rG X W B WX BX) Lm H A) (128 * j)) :=
  dla_r (C := blk (conv X W B) (128 * j)) (I := blk (rG X W B WX BX) (128 * j)) (R := blk (rG X W B WA BA) (128 * j)) (Lm := blk Lm (128 * j)) (H := blk H (128 * j)) (A := blk A (128 * j))
    (xc_b N) (i_b N) (a_b N) (m_b N) r_pos N.h2 hl
theorem dr_b : IsReal (drB (F := Ideal) x0 x2 x4 x5 x6 x7 x8 x9 x10 l)
    (blk (fun p q => dla (conv X W B) (rG X W B WA BA) (rG X W B WX BX) Lm H A p q * (-8 * splus (Lm 0 q))) (128 * j)) :=
  dr_r (C := blk (conv X W B) (128 * j)) (I := blk (rG X W B WX BX) (128 * j)) (R := blk (rG X W B WA BA) (128 * j)) (Lm := blk Lm (128 * j)) (H := blk H (128 * j)) (A := blk A (128 * j))
    (xc_b N) (i_b N) (a_b N) (m_b N) r_pos N.h2 hl (splus_r N.h10)
theorem zr_b : IsReal (k1_pay64 (rB (F := Ideal) x0 x4 x5 x6 x7) (drB (F := Ideal) x0 x2 x4 x5 x6 x7 x8 x9 x10 l))
    (blk (dzr (conv X W B) (rG X W B WA BA) (rG X W B WX BX) Lm H A) (128 * j)) :=
  dzr_r (C := blk (conv X W B) (128 * j)) (I := blk (rG X W B WX BX) (128 * j)) (R := blk (rG X W B WA BA) (128 * j)) (Lm := blk Lm (128 * j)) (H := blk H (128 * j)) (A := blk A (128 * j))
    (r_b N) (dr_b N hl)
theorem zi_b : IsReal (k1_pay65 (iB (F := Ideal) x0 x4 x5 x8 x9) (dxmB (F := Ideal) x0 x4 x5 x6 x7 x10 l))
    (blk (dzi (conv X W B) (rG X W B WA BA) (rG X W B WX BX) Lm A) (128 * j)) :=
  dzi_r (C := blk (conv X W B) (128 * j)) (I := blk (rG X W B WX BX) (128 * j)) (R := blk (rG X W B WA BA) (128 * j)) (Lm := blk Lm (128 * j)) (A := blk A (128 * j))
    (i_b N) (xm_b N hl)

omit N hl in
theorem preT_b {z : FVec Ideal S2048x128 .bf16} {w : FVec Ideal S1x128x128 .bf16} {Z : ℕ → ℕ → ℝ} (hz : IsReal z (blk Z (128 * j)))
    (hw : ∀ (u : Fin 1) (p q : Fin 128), w (ix3 u p q) = ((bd WA j p q : ℝ) : EReal)) :
    IsReal (matmul dot_S2048x128_S128x128_S2048x128_1_1_0_0_n_n none z (shapeCast S128x128 w shapeCasts_S1x128x128_S128x128) (constant (F := Ideal) S2048x128 .f32 0x00000000#32)) (blk (hdT Z WA) (128 * j)) := fun p q => by
  rw [preT_r hz hw p q]
  exact congrArg (fun r : ℝ => (r : EReal)) (preT_blk _ _ _ _ q.isLt)

theorem dc_b : IsReal (dconvB (F := Ideal) x0 x2 x4 x5 x6 x7 x8 x9 x10 l) (blk (dcG (conv X W B) (rG X W B WA BA) (rG X W B WX BX) Lm H A WA WX) (128 * j)) :=
  add_real (add_real (xcc_b N hl) (preT_b (z := truncf .bf16 (k1_pay64 (rB (F := Ideal) x0 x4 x5 x6 x7) (drB (F := Ideal) x0 x2 x4 x5 x6 x7 x8 x9 x10 l)) (by decide)) (zr_b N hl) N.h6))
    (preT_b (z := truncf .bf16 (k1_pay65 (iB (F := Ideal) x0 x4 x5 x8 x9) (dxmB (F := Ideal) x0 x4 x5 x6 x7 x10 l)) (by decide)) (zi_b N hl) N.h8)

theorem o12_b : IsReal (φ := .bf16) (o12 (F := Ideal) x0 x2 x4 x5 x6 x7 x8 x9 x10 l)
    (blk (dxp W (dcG (conv X W B) (rG X W B WA BA) (rG X W B WX BX) Lm H A WA WX)) (128 * j)) :=
  dxp_r (W := blk W (128 * j)) (Z := blk (dcG (conv X W B) (rG X W B WA BA) (rG X W B WX BX) Lm H A WA WX) (128 * j)) N.h4 (dc_b N hl)
theorem o14_b : IsReal (o14 (F := Ideal) x0 x2 x4 x5 x6 x7 x8 x9 x10 l)
    (blk (fun k q => ∑ p : Fin 2048, dcG (conv X W B) (rG X W B WA BA) (rG X W B WX BX) Lm H A WA WX p q * dn (3 - k) X p q) (128 * j)) :=
  dcw_r (X := blk X (128 * j)) (Z := blk (dcG (conv X W B) (rG X W B WA BA) (rG X W B WX BX) Lm H A WA WX) (128 * j)) N.h0 (dc_b N hl)
theorem o15_b : IsReal (o15 (F := Ideal) x0 x2 x4 x5 x6 x7 x8 x9 x10 l)
    (blk (fun _ q => ∑ p : Fin 2048, dcG (conv X W B) (rG X W B WA BA) (rG X W B WX BX) Lm H A WA WX p q) (128 * j)) := fun p q => by
  refine Eq.trans ?_ (colsum_r (dc_b N hl) p q)
  unfold o15 k1_pay74
  rw [shapeCast_self]
theorem o17_b : IsReal (o17 (F := Ideal) x0 x2 x4 x5 x6 x7 x8 x9 x10 l)
    (blk (fun _ q => ∑ p : Fin 2048, dzr (conv X W B) (rG X W B WA BA) (rG X W B WX BX) Lm H A p q) (128 * j)) := fun p q => by
  refine Eq.trans ?_ (colsum_r (zr_b N hl) p q)
  unfold o17 k1_pay72
  rw [shapeCast_self]
  rfl
theorem o19_b : IsReal (o19 (F := Ideal) x0 x4 x5 x6 x7 x8 x9 x10 l)
    (blk (fun _ q => ∑ p : Fin 2048, dzi (conv X W B) (rG X W B WA BA) (rG X W B WX BX) Lm A p q) (128 * j)) := fun p q => by
  refine Eq.trans ?_ (colsum_r (zi_b N hl) p q)
  unfold o19 k1_pay73
  rw [shapeCast_self]
theorem o20_b : IsReal (o20 (F := Ideal) x0 x2 x4 x5 x6 x7 x8 x9 x10 l)
    (blk (fun _ q => dlam Lm (rG X W B WA BA) (dla (conv X W B) (rG X W B WA BA) (rG X W B WX BX) Lm H A) q) (128 * j)) :=
  dlam_r (Lm := blk Lm (128 * j)) (R := blk (rG X W B WA BA) (128 * j)) (Y := blk (dla (conv X W B) (rG X W B WA BA) (rG X W B WX BX) Lm H A) (128 * j)) N.h10 (r_b N) (la_b N hl)
theorem o16_b (u : Fin 1) (p q : Fin 128) : o16 (F := Ideal) x0 x2 x4 x5 x6 x7 x8 x9 x10 l (ix3 u p q)
    = ((∑ t : Fin 2048, conv X W B t (128 * j + p) * dzr (conv X W B) (rG X W B WA BA) (rG X W B WX BX) Lm H A t (128 * j + q) : ℝ) : EReal) :=
  outer_r (x := truncf .bf16 (xcB (F := Ideal) x0 x4 x5) (by decide)) (z := truncf .bf16 (k1_pay64 (rB (F := Ideal) x0 x4 x5 x6 x7) (drB (F := Ideal) x0 x2 x4 x5 x6 x7 x8 x9 x10 l)) (by decide)) (xc_b N) (zr_b N hl) u p q
theorem o18_b (u : Fin 1) (p q : Fin 128) : o18 (F := Ideal) x0 x4 x5 x6 x7 x8 x9 x10 l (ix3 u p q)
    = ((∑ t : Fin 2048, conv X W B t (128 * j + p) * dzi (conv X W B) (rG X W B WA BA) (rG X W B WX BX) Lm A t (128 * j + q) : ℝ) : EReal) :=
  outer_r (x := truncf .bf16 (xcB (F := Ideal) x0 x4 x5) (by decide)) (z := truncf .bf16 (k1_pay65 (iB (F := Ideal) x0 x4 x5 x8 x9) (dxmB (F := Ideal) x0 x4 x5 x6 x7 x10 l)) (by decide)) (xc_b N) (zi_b N hl) u p q

end

theorem o13_b : IsReal (φ := .bf16) (o13 (F := Ideal) x1 x2 x3) (blk (fun p q => D p q * H p q * dgel (X p (1024 + q))) (128 * j)) :=
  dgl_r (G := blk (blk X 1024) (128 * j)) (H := blk H (128 * j)) (D := blk D (128 * j)) N.h1 N.h2 N.h3

end Cert.LruRun
end
-- ==== Proof.LruCall1.lean ====
/- What the backward call of the recurrent mixer and the host's lines after it leave, over the reals. -/
module

public import proofs.«01_k».proof.Proof.LruBlk1

@[expose] public section

set_option maxRecDepth 16384

noncomputable section

open Idealize.ShloMosaic Idealize.ShloMosaic.TcCoe Idealize.SL.Sem
open Idealize.ShloMosaic.Pipeline (Dat)

namespace Cert.Lru

variable (X D W B : ℕ → ℕ → ℝ) (WA : ℕ → ℕ → ℕ → ℝ) (BA : ℕ → ℕ → ℝ) (WX : ℕ → ℕ → ℕ → ℝ) (BX Lm : ℕ → ℕ → ℝ)

/-- The adjoint state, the cotangents of both gates' products, of the decay's logarithm and of the convolved input, every channel. -/
def lamG : ℕ → ℕ → ℝ := adjs (rG X W B WA BA) Lm (blk X 1024) D
def zrG : ℕ → ℕ → ℝ := dzr (conv X W B) (rG X W B WA BA) (rG X W B WX BX) Lm (hG X W B WA BA WX BX Lm) (lamG X D W B WA BA Lm)
def ziG : ℕ → ℕ → ℝ := dzi (conv X W B) (rG X W B WA BA) (rG X W B WX BX) Lm (lamG X D W B WA BA Lm)
def laG : ℕ → ℕ → ℝ := dla (conv X W B) (rG X W B WA BA) (rG X W B WX BX) Lm (hG X W B WA BA WX BX Lm) (lamG X D W B WA BA Lm)
def cvG : ℕ → ℕ → ℝ := dcG (conv X W B) (rG X W B WA BA) (rG X W B WX BX) Lm (hG X W B WA BA WX BX Lm) (lamG X D W B WA BA Lm) WA WX

end Cert.Lru

namespace Cert.LruRun

open Cert.KernelLruIdeal Cert.KernelLruIdeal.Gen Cert.Reals Cert.Shift Cert.Scan Cert.Lru

variable {X D W B : ℕ → ℕ → ℝ} {WA : ℕ → ℕ → ℕ → ℝ} {BA : ℕ → ℕ → ℝ} {WX : ℕ → ℕ → ℕ → ℝ} {BX Lm : ℕ → ℕ → ℝ}

theorem idx1 : ∀ t : Fin cfg1.N, (win1_0.index t = ![0, t.val] ∧ win1_1.index t = ![0, 8 + t.val] ∧ win1_2.index t = ![0, t.val] ∧ win1_3.index t = ![0, t.val]
    ∧ win1_4.index t = ![0, t.val] ∧ win1_5.index t = ![0, t.val] ∧ win1_6.index t = ![t.val, 0, 0] ∧ win1_7.index t = ![0, t.val] ∧ win1_8.index t = ![t.val, 0, 0]
    ∧ win1_9.index t = ![0, t.val] ∧ win1_10.index t = ![0, t.val])
    ∧ win1_11.index t = ![0, t.val] ∧ win1_12.index t = ![0, t.val] ∧ win1_13.index t = ![0, t.val] ∧ win1_14.index t = ![0, t.val] ∧ win1_15.index t = ![t.val, 0, 0]
    ∧ win1_16.index t = ![0, t.val] ∧ win1_17.index t = ![t.val, 0, 0] ∧ win1_18.index t = ![0, t.val] ∧ win1_19.index t = ![0, t.val] :=
  (by decide +kernel : ∀ t : Fin grid1.N, _)

variable (m : (ℓ : Loc nD τ sig) → Buf (Elt Ideal) ℓ) (c : Dev nD)

theorem lt1 (t : Fin cfg1.N) : t.val < 8 := lt_of_lt_of_eq t.isLt N_1

/-- What neither the forward call nor the line after it writes. -/
theorem w3_keep (r : Ref sig .tc) (h0 : ∀ w : Fin cfg0.W, Pipeline.arrRef spec0 w = r → (cfg0.win w).isOut = false) (h1 : r ∉ hostOps1_W) :
    w3 m c (Proc.devRef .tc r) = w1 m c (Proc.devRef .tc r) := (w3_of m c r h1).trans (w2_of m c r h0)

variable (H : Args m c X D W B WA BA WX BX Lm)
include H

theorem host_cw1 (p : Fin 4) (q : Fin 1024) : (w3 m c (Proc.devRef .tc main_v32) : FVec Ideal S4x1024 .f32) (ix2 p q) = ((W p q : ℝ) : EReal) := by
  refine Eq.trans (Eq.trans ?_ (congrFun ((w2_of m c main_arg2 (by decide)).trans (w1_of m c main_arg2 (by decide))) (ix3 0 p q))) (H.hW 0 p q)
  unfold w3
  unfold hostOps1
  after_reads_at

theorem b1_0 (t : Fin cfg1.N) : IsReal (φ := .f32) (iblk1 (at3 m) c 0 t : FVec Ideal S2048x128 .f32) (blk X (128 * t)) := fun p q => by
  have ht := lt1 t
  refine Eq.trans (Eq.trans ?_ (congrFun ((w3_keep m c main_arg0 (by decide) (by decide)).trans (w1_of m c main_arg0 (by decide))) (ix2 p ⟨128 * t + q, by omega⟩))) (H.hX p ⟨128 * t + q, by omega⟩)
  blk_ext [iblk1, idx1 t]

theorem b1_1 (t : Fin cfg1.N) : IsReal (φ := .f32) (iblk1 (at3 m) c 1 t : FVec Ideal S2048x128 .f32) (blk (blk X 1024) (128 * t)) := fun p q => by
  have ht := lt1 t
  refine Eq.trans (Eq.trans ?_ (congrFun ((w3_keep m c main_arg0 (by decide) (by decide)).trans (w1_of m c main_arg0 (by decide))) (ix2 p ⟨1024 + (128 * t + q), by omega⟩))) (H.hX p ⟨1024 + (128 * t + q), by omega⟩)
  blk_ext [iblk1, idx1 t]

theorem b1_2 (t : Fin cfg1.N) : IsReal (φ := .f32) (iblk1 (at3 m) c 2 t : FVec Ideal S2048x128 .f32) (blk (hG X W B WA BA WX BX Lm) (128 * t)) := fun p q => by
  have ht := lt1 t
  refine Eq.trans ?_ (congrFun ((w3_of m c main_v31_1 (by decide)).trans (state0 m c H)) (ix2 p (⟨128 * t + q, by omega⟩ : Fin 1024)))
  blk_ext [iblk1, idx1 t]

theorem b1_3 (t : Fin cfg1.N) : IsReal (φ := .f32) (iblk1 (at3 m) c 3 t : FVec Ideal S2048x128 .f32) (blk D (128 * t)) := fun p q => by
  have ht := lt1 t
  refine Eq.trans (Eq.trans ?_ (congrFun ((w3_keep m c main_arg1 (by decide) (by decide)).trans (w1_of m c main_arg1 (by decide))) (ix2 p ⟨128 * t + q, by omega⟩))) (H.hD p ⟨128 * t + q, by omega⟩)
  blk_ext [iblk1, idx1 t]

theorem b1_4 (t : Fin cfg1.N) : IsReal (φ := .f32) (iblk1 (at3 m) c 4 t : FVec Ideal S4x128 .f32) (blk W (128 * t)) := fun p q => by
  have ht := lt1 t
  refine Eq.trans ?_ (host_cw1 m c H p ⟨128 * t + q, by omega⟩)
  blk_ext [iblk1, idx1 t]

theorem b1_5 (t : Fin cfg1.N) : IsReal (φ := .f32) (iblk1 (at3 m) c 5 t : FVec Ideal S1x128 .f32) (blk B (128 * t)) := fun p q => by
  have ht := lt1 t
  refine Eq.trans (Eq.trans ?_ (congrFun ((w3_keep m c main_arg3 (by decide) (by decide)).trans (w1_of m c main_arg3 (by decide))) (ix2 p ⟨128 * t + q, by omega⟩))) (H.hB p ⟨128 * t + q, by omega⟩)
  blk_ext [iblk1, idx1 t]

theorem b1_6 (t : Fin cfg1.N) (u : Fin 1) (p q : Fin 128) : (iblk1 (at3 m) c 6 t : FVec Ideal S1x128x128 .bf16) (ix3 u p q) = ((bd WA t p q : ℝ) : EReal) := by
  have ht := lt1 t
  refine Eq.trans (Eq.trans ?_ (congrFun (w3_keep m c main_v14 (by decide) (by decide)) (ix3 (⟨t, ht⟩ : Fin 8) p q))) (host_wa m c H ⟨t, ht⟩ p q)
  blk_ext [iblk1, idx1 t]

theorem b1_7 (t : Fin cfg1.N) : IsReal (φ := .f32) (iblk1 (at3 m) c 7 t : FVec Ideal S1x128 .f32) (blk BA (128 * t)) := fun p q => by
  have ht := lt1 t
  refine Eq.trans (Eq.trans ?_ (congrFun ((w3_keep m c main_arg5 (by decide) (by decide)).trans (w1_of m c main_arg5 (by decide))) (ix2 p ⟨128 * t + q, by omega⟩))) (H.hBA p ⟨128 * t + q, by omega⟩)
  blk_ext [iblk1, idx1 t]

theorem b1_8 (t : Fin cfg1.N) (u : Fin 1) (p q : Fin 128) : (iblk1 (at3 m) c 8 t : FVec Ideal S1x128x128 .bf16) (ix3 u p q) = ((bd WX t p q : ℝ) : EReal) := by
  have ht := lt1 t
  refine Eq.trans (Eq.trans ?_ (congrFun (w3_keep m c main_v29 (by decide) (by decide)) (ix3 (⟨t, ht⟩ : Fin 8) p q))) (host_wx m c H ⟨t, ht⟩ p q)
  blk_ext [iblk1, idx1 t]

theorem b1_9 (t : Fin cfg1.N) : IsReal (φ := .f32) (iblk1 (at3 m) c 9 t : FVec Ideal S1x128 .f32) (blk BX (128 * t)) := fun p q => by
  have ht := lt1 t
  refine Eq.trans (Eq.trans ?_ (congrFun ((w3_keep m c main_arg7 (by decide) (by decide)).trans (w1_of m c main_arg7 (by decide))) (ix2 p ⟨128 * t + q, by omega⟩))) (H.hBX p ⟨128 * t + q, by omega⟩)
  blk_ext [iblk1, idx1 t]

theorem b1_10 (t : Fin cfg1.N) : IsReal (φ := .f32) (iblk1 (at3 m) c 10 t : FVec Ideal S1x128 .f32) (blk Lm (128 * t)) := fun p q => by
  have ht := lt1 t
  refine Eq.trans (Eq.trans ?_ (congrFun ((w3_keep m c main_arg8 (by decide) (by decide)).trans (w1_of m c main_arg8 (by decide))) (ix2 p ⟨128 * t + q, by omega⟩))) (H.hLm p ⟨128 * t + q, by omega⟩)
  blk_ext [iblk1, idx1 t]

theorem ins (t : Fin cfg1.N) : Ins X D (hG X W B WA BA WX BX Lm) W B WA BA WX BX Lm t (iblk1 (at3 m) c 0 t) (iblk1 (at3 m) c 1 t) (iblk1 (at3 m) c 2 t) (iblk1 (at3 m) c 3 t)
    (iblk1 (at3 m) c 4 t) (iblk1 (at3 m) c 5 t) (iblk1 (at3 m) c 6 t) (iblk1 (at3 m) c 7 t) (iblk1 (at3 m) c 8 t) (iblk1 (at3 m) c 9 t) (iblk1 (at3 m) c 10 t) :=
  ⟨b1_0 m c H t, b1_1 m c H t, b1_2 m c H t, b1_3 m c H t, b1_4 m c H t, b1_5 m c H t, b1_6 m c H t, b1_7 m c H t, b1_8 m c H t, b1_9 m c H t, b1_10 m c H t⟩

/-- The convolution input's gradient. -/
theorem arr1_11 : (w4 m c (Proc.devRef .tc main_v33_0) : FVec Ideal S2048x1024 .bf16) = fun i => ((dxp W (cvG X D W B WA BA WX BX Lm) (i 0).val (i 1).val : ℝ) : EReal) := by
  refine (w4_arr m c 11).trans ?_
  refine (dat1 (at3 m) c).arrAt_eq_of_covers 11 _ (by decide +kernel) fun t _ y => ?_
  blk_simp [idx1 t]
  rw [after1_11]
  rw [mul_comm t.val 128]
  exact (congrArg (val1_11 (at3 m) c t) (ix2_eta y).symm).trans (o12_b (ins m c H t) (l_b (ins m c H t)) _ _)

/-- The gate input's gradient. -/
theorem arr1_12 : (w4 m c (Proc.devRef .tc main_v33_1) : FVec Ideal S2048x1024 .bf16) = fun i => ((D (i 0).val (i 1).val * hG X W B WA BA WX BX Lm (i 0).val (i 1).val * dgel (X (i 0).val (1024 + (i 1).val)) : ℝ) : EReal) := by
  refine (w4_arr m c 12).trans ?_
  refine (dat1 (at3 m) c).arrAt_eq_of_covers 12 _ (by decide +kernel) fun t _ y => ?_
  blk_simp [idx1 t]
  rw [after1_12]
  rw [mul_comm t.val 128]
  exact (congrArg (val1_12 (at3 m) c t) (ix2_eta y).symm).trans (o13_b (ins m c H t) _ _)

/-- The convolution weights' gradient. -/
theorem arr1_13 : (w4 m c (Proc.devRef .tc main_v33_2) : FVec Ideal S4x1024 .f32) = fun i => ((∑ p : Fin 2048, cvG X D W B WA BA WX BX Lm p (i 1).val * dn (3 - (i 0).val) X p (i 1).val : ℝ) : EReal) := by
  refine (w4_arr m c 13).trans ?_
  refine (dat1 (at3 m) c).arrAt_eq_of_covers 13 _ (by decide +kernel) fun t _ y => ?_
  blk_simp [idx1 t]
  rw [after1_13]
  rw [mul_comm t.val 128]
  exact (congrArg (val1_13 (at3 m) c t) (ix2_eta y).symm).trans (o14_b (ins m c H t) (l_b (ins m c H t)) _ _)

/-- The convolution bias's gradient. -/
theorem arr1_14 : (w4 m c (Proc.devRef .tc main_v33_3) : FVec Ideal S1x1024 .f32) = fun i => ((∑ p : Fin 2048, cvG X D W B WA BA WX BX Lm p (i 1).val : ℝ) : EReal) := by
  refine (w4_arr m c 14).trans ?_
  refine (dat1 (at3 m) c).arrAt_eq_of_covers 14 _ (by decide +kernel) fun t _ y => ?_
  blk_simp [idx1 t]
  rw [after1_14]
  rw [mul_comm t.val 128]
  exact (congrArg (val1_14 (at3 m) c t) (ix2_eta y).symm).trans (o15_b (ins m c H t) (l_b (ins m c H t)) _ _)

/-- The recurrence gate weights' gradient, two heads a block. -/
theorem arr1_15 : (w4 m c (Proc.devRef .tc main_v33_4) : FVec Ideal S8x128x128 .f32)
    = fun i => ((∑ t : Fin 2048, conv X W B t (128 * (i 0).val + (i 1).val) * zrG X D W B WA BA WX BX Lm t (128 * (i 0).val + (i 2).val) : ℝ) : EReal) := by
  refine (w4_arr m c 15).trans ?_
  refine (dat1 (at3 m) c).arrAt_eq_of_covers 15 _ (by decide +kernel) fun t _ y => ?_
  blk_simp [idx1 t]
  rw [after1_15]
  exact (congrArg (val1_15 (at3 m) c t) (ix3_eta y).symm).trans (o16_b (ins m c H t) (l_b (ins m c H t)) _ _ _)

/-- The recurrence gate bias's gradient. -/
theorem arr1_16 : (w4 m c (Proc.devRef .tc main_v33_5) : FVec Ideal S1x1024 .f32) = fun i => ((∑ p : Fin 2048, zrG X D W B WA BA WX BX Lm p (i 1).val : ℝ) : EReal) := by
  refine (w4_arr m c 16).trans ?_
  refine (dat1 (at3 m) c).arrAt_eq_of_covers 16 _ (by decide +kernel) fun t _ y => ?_
  blk_simp [idx1 t]
  rw [after1_16]
  rw [mul_comm t.val 128]
  exact (congrArg (val1_16 (at3 m) c t) (ix2_eta y).symm).trans (o17_b (ins m c H t) (l_b (ins m c H t)) _ _)

/-- The input gate weights' gradient, two heads a block. -/
theorem arr1_17 : (w4 m c (Proc.devRef .tc main_v33_6) : FVec Ideal S8x128x128 .f32)
    = fun i => ((∑ t : Fin 2048, conv X W B t (128 * (i 0).val + (i 1).val) * ziG X D W B WA BA WX BX Lm t (128 * (i 0).val + (i 2).val) : ℝ) : EReal) := by
  refine (w4_arr m c 17).trans ?_
  refine (dat1 (at3 m) c).arrAt_eq_of_covers 17 _ (by decide +kernel) fun t _ y => ?_
  blk_simp [idx1 t]
  rw [after1_17]
  exact (congrArg (val1_17 (at3 m) c t) (ix3_eta y).symm).trans (o18_b (ins m c H t) (l_b (ins m c H t)) _ _ _)

/-- The input gate bias's gradient. -/
theorem arr1_18 : (w4 m c (Proc.devRef .tc main_v33_7) : FVec Ideal S1x1024 .f32) = fun i => ((∑ p : Fin 2048, ziG X D W B WA BA WX BX Lm p (i 1).val : ℝ) : EReal) := by
  refine (w4_arr m c 18).trans ?_
  refine (dat1 (at3 m) c).arrAt_eq_of_covers 18 _ (by decide +kernel) fun t _ y => ?_
  blk_simp [idx1 t]
  rw [after1_18]
  rw [mul_comm t.val 128]
  exact (congrArg (val1_18 (at3 m) c t) (ix2_eta y).symm).trans (o19_b (ins m c H t) (l_b (ins m c H t)) _ _)

/-- The decay parameter's gradient. -/
theorem arr1_19 : (w4 m c (Proc.devRef .tc main_v33_8) : FVec Ideal S1x1024 .f32) = fun i => ((dlam Lm (rG X W B WA BA) (laG X D W B WA BA WX BX Lm) (i 1).val : ℝ) : EReal) := by
  refine (w4_arr m c 19).trans ?_
  refine (dat1 (at3 m) c).arrAt_eq_of_covers 19 _ (by decide +kernel) fun t _ y => ?_
  blk_simp [idx1 t]
  rw [after1_19]
  rw [mul_comm t.val 128]
  exact (congrArg (val1_19 (at3 m) c t) (ix2_eta y).symm).trans (o20_b (ins m c H t) (l_b (ins m c H t)) _ _)

/-- The heads taken out of their blocks. -/
theorem heads15 (h : Fin 16) (p q : Fin 64) : (w5 m c (Proc.devRef .tc main_v42) : FVec Ideal S16x64x64 .f32) (ix3 h p q)
    = ((∑ t : Fin 2048, conv X W B t (64 * h + p) * zrG X D W B WA BA WX BX Lm t (64 * h + q) : ℝ) : EReal) := by
  have e := arr1_15 m c H
  unfold w5
  unfold hostOps2
  after_reads_at
  split
  · after_reads_at
    refine (congrFun e _).trans (congrArg (fun r : ℝ => (r : EReal)) ?_)
    show ∑ t : Fin 2048, conv X W B t (128 * (h.val / 2) + p) * zrG X D W B WA BA WX BX Lm t (128 * (h.val / 2) + q) = _
    rw [show 128 * (h.val / 2) = 64 * h by omega]
  · after_reads_at
    refine (congrFun e _).trans (congrArg (fun r : ℝ => (r : EReal)) ?_)
    show ∑ t : Fin 2048, conv X W B t (128 * (h.val / 2) + (64 + p)) * zrG X D W B WA BA WX BX Lm t (128 * (h.val / 2) + (64 + q)) = _
    exact Finset.sum_congr rfl fun t _ => by rw [show 128 * (h.val / 2) + (64 + (p : ℕ)) = 64 * h + p by omega, show 128 * (h.val / 2) + (64 + (q : ℕ)) = 64 * h + q by omega]

/-- The heads taken out of their blocks. -/
theorem heads17 (h : Fin 16) (p q : Fin 64) : (w5 m c (Proc.devRef .tc main_v51) : FVec Ideal S16x64x64 .f32) (ix3 h p q)
    = ((∑ t : Fin 2048, conv X W B t (64 * h + p) * ziG X D W B WA BA WX BX Lm t (64 * h + q) : ℝ) : EReal) := by
  have e := arr1_17 m c H
  unfold w5
  unfold hostOps2
  after_reads_at
  split
  · after_reads_at
    refine (congrFun e _).trans (congrArg (fun r : ℝ => (r : EReal)) ?_)
    show ∑ t : Fin 2048, conv X W B t (128 * (h.val / 2) + p) * ziG X D W B WA BA WX BX Lm t (128 * (h.val / 2) + q) = _
    rw [show 128 * (h.val / 2) = 64 * h by omega]
  · after_reads_at
    refine (congrFun e _).trans (congrArg (fun r : ℝ => (r : EReal)) ?_)
    show ∑ t : Fin 2048, conv X W B t (128 * (h.val / 2) + (64 + p)) * ziG X D W B WA BA WX BX Lm t (128 * (h.val / 2) + (64 + q)) = _
    exact Finset.sum_congr rfl fun t _ => by rw [show 128 * (h.val / 2) + (64 + (p : ℕ)) = 64 * h + p by omega, show 128 * (h.val / 2) + (64 + (q : ℕ)) = 64 * h + q by omega]

end Cert.LruRun
end
-- ==== Proof.LruRec.lean ====
/- A linear recurrence written as a sum over decays, its adjoint, and the gradient of the decays' logarithms. -/
module

public import proofs.«01_k».proof.Proof.WindowSum
public import proofs.«01_k».proof.Proof.LruPay1b

@[expose] public section

set_option maxRecDepth 16384

noncomputable section

open Idealize.ShloMosaic Idealize.ShloMosaic.TcCoe Idealize.SL.Sem

namespace Cert.Shift

variable {N C : ℕ}

/-- The windowed sum along the first axis, with `lo` rows of padding in front. -/
theorem window_sum2 (lo hi : ℕ) (x : FVec Ideal ⟨2, ![N, C]⟩ .f32)
    (h : (⟨2, ![N, C]⟩ : Shape).ReduceWindows ![N, 1] ![1, 1] ![lo, 0] ![hi, 0] ⟨2, ![N, C]⟩) (p : Fin N) (q : Fin C) :
    Ideal.hostReduceWindowAdd ![N, 1] ![1, 1] ![lo, 0] ![hi, 0] h x 0 (ix2 p q)
      = ∑ k : Fin N, if hk : lo ≤ p + k ∧ p + k - lo < N then (x (ix2 ⟨p + k - lo, hk.2⟩ q) : EReal) else 0 := by
  unfold Ideal.hostReduceWindowAdd Host.reduceWindow
  dsimp only
  rw [foldl_add, zero_add, ← List.ofFn_eq_map, List.sum_ofFn]
  refine (Equiv.sum_comp (⟨2, ![N, 1]⟩ : Shape).rowMajor.symm (fun i : (⟨2, ![N, 1]⟩ : Shape).Idx =>
    @dite EReal (∀ a : Fin 2, (![lo, 0] : Fin 2 → ℕ) a ≤ (ix2 p q a).val * (![1, 1] : Fin 2 → ℕ) a + (i a).val
      ∧ (ix2 p q a).val * (![1, 1] : Fin 2 → ℕ) a + (i a).val - (![lo, 0] : Fin 2 → ℕ) a < (⟨2, ![N, C]⟩ : Shape).size a)
      (Nat.decidableForallFin _)
      (fun hin => x (fun a => ⟨(ix2 p q a).val * (![1, 1] : Fin 2 → ℕ) a + (i a).val - (![lo, 0] : Fin 2 → ℕ) a, (hin a).2⟩))
      fun _ => 0)).trans ?_
  rw [sum_idx2]
  simp only [Fin.sum_univ_one]
  refine Finset.sum_congr rfl fun k _ => ?_
  by_cases hk : lo ≤ p + k ∧ p + k - lo < N
  · have hin : ∀ a : Fin 2, (![lo, 0] : Fin 2 → ℕ) a ≤ (ix2 p q a).val * (![1, 1] : Fin 2 → ℕ) a + (ix2 k (0 : Fin 1) a).val
        ∧ (ix2 p q a).val * (![1, 1] : Fin 2 → ℕ) a + (ix2 k (0 : Fin 1) a).val - (![lo, 0] : Fin 2 → ℕ) a
          < (⟨2, ![N, C]⟩ : Shape).size a := fun a => by
      match a with
      | ⟨0, _⟩ => show lo ≤ p.val * 1 + k.val ∧ p.val * 1 + k.val - lo < N; omega
      | ⟨1, _⟩ => show 0 ≤ q.val * 1 + 0 ∧ q.val * 1 + 0 - 0 < C; have := q.isLt; omega
    rw [dif_pos hk, dif_pos hin]
    congr 1
    funext a
    match a with
    | ⟨0, _⟩ => exact Fin.ext (show p.val * 1 + k.val - lo = _ by simp)
    | ⟨1, _⟩ => exact Fin.ext (show q.val * 1 + 0 - 0 = _ by simp)
  · rw [dif_neg hk, dif_neg fun hin => hk ?_]
    have := hin 0
    change lo ≤ p.val * 1 + k.val ∧ p.val * 1 + k.val - lo < N at this
    omega

/-- The rows' running sum. -/
theorem cumsum2_at {x : FVec Ideal ⟨2, ![N + 1, C]⟩ .f32} {X : ℕ → ℕ → ℝ} (hx : IsReal x X) (h) : IsReal (φ := .f32) (n := N + 1) (L := C)
    (Ideal.hostReduceWindowAdd ![N + 1, 1] ![1, 1] ![N, 0] ![0, 0] h x 0) (upto X) := fun p q => by
  have hp := p.isLt
  rw [window_sum2]
  have e : ∀ k : Fin (N + 1), (if hk : N ≤ p + k ∧ p + k - N < N + 1 then (x (ix2 ⟨p + k - N, hk.2⟩ q) : EReal) else 0)
      = (((if N ≤ p + k.val then X (p + k - N) q else 0 : ℝ)) : EReal) := fun k => by
    have := k.isLt
    by_cases hk : N ≤ p + k.val
    · rw [dif_pos ⟨hk, by omega⟩, if_pos hk, hx]
    · rw [dif_neg (fun h => hk h.1), if_neg hk]; rfl
  simp only [e, Cert.Reals.coe_sum]
  congr 1
  generalize p.val = p' at hp
  rw [Fin.sum_univ_eq_sum_range (fun k => if N ≤ p' + k then X (p' + k - N) q else 0) (N + 1), show N + 1 = (N - p') + (p' + 1) by omega,
    Finset.sum_range_add, Finset.sum_eq_zero, zero_add]
  · unfold upto
    refine Finset.sum_congr rfl fun j hj => ?_
    rw [if_pos (by omega)]
    congr 1
    omega
  · intro j hj
    have := Finset.mem_range.1 hj
    rw [if_neg (by omega)]

/-- The running sum from the last row. -/
theorem cumsum2_rev_at {x : FVec Ideal ⟨2, ![N + 1, C]⟩ .f32} {X : ℕ → ℕ → ℝ} (hx : IsReal x X) (h) : IsReal (φ := .f32) (n := N + 1) (L := C)
    (Ideal.hostReduceWindowAdd ![N + 1, 1] ![1, 1] ![0, 0] ![N, 0] h x 0) (ahead (N + 1) X (N + 1)) := fun p q => by
  rw [window_sum2]
  have e : ∀ k : Fin (N + 1), (if hk : 0 ≤ p.val + k ∧ p + k - 0 < N + 1 then (x (ix2 ⟨p + k - 0, hk.2⟩ q) : EReal) else 0)
      = (((if p + k.val < N + 1 then X (p + k) q else 0 : ℝ)) : EReal) := fun k => by
    by_cases hk : p + k.val < N + 1
    · rw [dif_pos ⟨Nat.zero_le _, hk⟩, if_pos hk, hx]; rfl
    · rw [dif_neg (fun h => hk h.2), if_neg hk]; rfl
  simp only [e, Cert.Reals.coe_sum]
  congr 1
  exact Fin.sum_univ_eq_sum_range (fun k => if p + k < N + 1 then X (p + k) q else 0) (N + 1)

/-- A sum from row `p` on that telescopes. -/
theorem ahead_telescope (X P : ℕ → ℕ → ℝ) (q : ℕ) (h : ∀ r < N, P r q = X r q + P (r + 1) q) (hN : P N q = 0) :
    ∀ (w p : ℕ), p ≤ N → N ≤ p + w → ahead N X w p q = P p q
  | 0, p, h1, h2 => by rw [show p = N by omega, hN]; exact Finset.sum_range_zero _
  | w + 1, p, h1, h2 => by
    unfold ahead
    by_cases hp : p < N
    · rw [Finset.sum_range_succ', Nat.add_zero, if_pos hp, h p hp, ← ahead_telescope X P q h hN w (p + 1) (by omega) (by omega), add_comm]
      unfold ahead
      exact congrArg₂ _ rfl (Finset.sum_congr rfl fun j _ => by rw [show p + (j + 1) = p + 1 + j by omega])
    · rw [show p = N by omega, hN]
      exact Finset.sum_eq_zero fun j _ => if_neg (by omega)

end Cert.Shift

namespace Cert.Lru

open Cert.Shift

/-- The decay from row `s` to row `t`. -/
def dcy (L : ℕ → ℕ → ℝ) (t s q : ℕ) : ℝ := if s ≤ t then Real.exp (upto L t q - upto L s q) else 0

theorem upto_succ (L : ℕ → ℕ → ℝ) (t q : ℕ) : upto L (t + 1) q = upto L t q + L (t + 1) q := Finset.sum_range_succ _ _

theorem dcy_self (L : ℕ → ℕ → ℝ) (t q : ℕ) : dcy L t t q = 1 := by unfold dcy; rw [if_pos le_rfl, sub_self, Real.exp_zero]

theorem dcy_next (L : ℕ → ℕ → ℝ) {t s : ℕ} (h : s ≤ t) (q : ℕ) : dcy L (t + 1) s q = Real.exp (L (t + 1) q) * dcy L t s q := by
  unfold dcy
  rw [if_pos h, if_pos (by omega), upto_succ, ← Real.exp_add]
  congr 1; ring

theorem dcy_prev (L : ℕ → ℕ → ℝ) {t s : ℕ} (h : s + 1 ≤ t) (q : ℕ) : dcy L t s q = Real.exp (L (s + 1) q) * dcy L t (s + 1) q := by
  unfold dcy
  rw [if_pos h, if_pos (by omega), upto_succ, ← Real.exp_add]
  congr 1; ring

/-- The recurrence's state as a sum over the rows before. -/
theorem scan_range (L U : ℕ → ℕ → ℝ) (q : ℕ) : ∀ t, ∑ s ∈ Finset.range (t + 1), dcy L t s q * U s q = hst (fun t => Real.exp (L t q)) (fun t => U t q) (t + 1)
  | 0 => by rw [Finset.sum_range_one, dcy_self]; simp [hst]
  | t + 1 => by
    rw [Finset.sum_range_succ, dcy_self, one_mul, hst, ← scan_range L U q t, Finset.mul_sum]
    refine congrArg₂ _ (Finset.sum_congr rfl fun s hs => ?_) rfl
    have := Finset.mem_range.1 hs
    rw [dcy_next L (by omega), mul_assoc]

theorem scan_sum (L U : ℕ → ℕ → ℝ) {t : ℕ} (ht : t < 2048) (q : ℕ) :
    ∑ s : Fin 2048, dcy L t s q * U s q = hst (fun t => Real.exp (L t q)) (fun t => U t q) (t + 1) := by
  rw [← scan_range, Fin.sum_univ_eq_sum_range (fun s => dcy L t s q * U s q) 2048, show 2048 = (t + 1) + (2047 - t) by omega, Finset.sum_range_add]
  refine add_eq_left.2 (Finset.sum_eq_zero fun s _ => ?_)
  unfold dcy
  rw [if_neg (by omega), zero_mul]

/-- The adjoint state as a sum over the rows behind. -/
theorem adj_sum (L : ℕ → ℕ → ℝ) (g : ℕ → ℝ) (q : ℕ) : ∀ k s, k + s = 2048 → ∑ t ∈ Finset.range 2048, dcy L t s q * g t = adj (fun t => Real.exp (L t q)) g s
  | 0, s, h => by
    rw [adj_zero _ _ (by omega)]
    refine Finset.sum_eq_zero fun t ht => ?_
    have := Finset.mem_range.1 ht
    unfold dcy
    rw [if_neg (by omega), zero_mul]
  | k + 1, s, h => by
    rw [adj_rec _ _ (by omega), ← adj_sum L g q k (s + 1) (by omega), Finset.mul_sum, ← Finset.sum_ite_eq_of_mem' (Finset.range 2048) s g (Finset.mem_range.2 (by omega)),
      ← Finset.sum_add_distrib]
    refine Finset.sum_congr rfl fun t _ => ?_
    by_cases h1 : t = s
    · subst h1
      rw [dcy_self, if_pos rfl, one_mul]
      unfold dcy
      rw [if_neg (by omega)]; ring
    · rw [if_neg h1, add_zero]
      by_cases h2 : s + 1 ≤ t
      · rw [dcy_prev L h2, mul_assoc]
      · unfold dcy
        rw [if_neg (by omega), if_neg (by omega)]; ring

/-- The gradient of the decays' logarithms: what each row's sums leave, summed from the row on. -/
theorem log_grad (L U : ℕ → ℕ → ℝ) (g : ℕ → ℕ → ℝ) (H A : ℕ → ℕ → ℝ) {q : ℕ} (hH : ∀ t < 2048, H t q = Real.exp (L t q) * dn 1 H t q + U t q)
    (hA : ∀ t < 2048, A t q = Real.exp (L (t + 1) q) * A (t + 1) q + g t q) (hz : A 2048 q = 0) {p : ℕ} (hp : p < 2048) :
    ahead 2048 (fun r q => -(A r q * U r q) + g r q * H r q) 2048 p q = A p q * dn 1 H p q * Real.exp (L p q) := by
  refine ahead_telescope (N := 2048) _ (fun p q => A p q * dn 1 H p q * Real.exp (L p q)) q (fun r hr => ?_) (by beta_reduce; rw [hz]; ring) 2048 p hp.le (by omega)
  beta_reduce
  have e : dn 1 H (r + 1) q = H r q := by unfold dn; rw [if_pos (by omega), Nat.add_sub_cancel]
  have hu : U r q = H r q - Real.exp (L r q) * dn 1 H r q := by rw [hH r hr]; ring
  have hg : g r q = A r q - Real.exp (L (r + 1) q) * A (r + 1) q := by rw [hA r hr]; ring
  rw [e, hu, hg]
  ring

end Cert.Lru
end
-- ==== Proof.LruRef0.lean ====
/- What the reference of the recurrent mixer computes, over the reals: the convolved input, the gates and the decay. -/
module

public import proofs.«01_k».proof.Proof.Gen.ReferenceLruIdeal.Read
public import proofs.«01_k».proof.Proof.LruRec
public import proofs.«01_k».proof.Proof.LruCall1

@[expose] public section

set_option maxRecDepth 16384

noncomputable section

open Idealize.ShloMosaic Idealize.ShloMosaic.TcCoe Idealize.SL.Sem

namespace Cert.ReferenceLruIdeal.LruRef

open Cert.ReferenceLruIdeal Cert.ReferenceLruIdeal.Gen Cert.ReferenceLruIdeal.Read Cert.Reals Cert.Shift Cert.Scan Cert.Lru

theorem lit_0 : Ideal.ofBits .f32 0x00000000#32 = ((0 : ℝ) : EReal) := by simp [Ideal.ofBits, Ideal.ieee]
theorem lit_1 : Ideal.ofBits .f32 0x3F800000#32 = ((1 : ℝ) : EReal) := by
  simp [Ideal.ofBits, Ideal.ieee, -EReal.coe_mul, -EReal.coe_neg]; try norm_num
theorem lit_half : Ideal.ofBits .f32 0x3F000000#32 = ((1 / 2 : ℝ) : EReal) := by
  simp [Ideal.ofBits, Ideal.ieee, -EReal.coe_mul, -EReal.coe_neg]; try norm_num
theorem lit_2 : Ideal.ofBits .f32 0x40000000#32 = ((2 : ℝ) : EReal) := by
  simp [Ideal.ofBits, Ideal.ieee, -EReal.coe_mul, -EReal.coe_neg]; try norm_num
theorem lit_3 : Ideal.ofBits .f32 0x40400000#32 = ((3 : ℝ) : EReal) := by
  simp [Ideal.ofBits, Ideal.ieee, -EReal.coe_mul, -EReal.coe_neg]; try norm_num
theorem lit_m8 : Ideal.ofBits .f32 0xC1000000#32 = ((-8 : ℝ) : EReal) := by
  simp [Ideal.ofBits, Ideal.ieee, -EReal.coe_mul, -EReal.coe_neg]; try norm_num
theorem lit_44715 : Ideal.ofBits .f32 0x472EAB00#32 = ((44715 : ℝ) : EReal) := by
  simp [Ideal.ofBits, Ideal.ieee, -EReal.coe_mul, -EReal.coe_neg]; try norm_num
theorem lit_million : Ideal.ofBits .f32 0x49742400#32 = ((1000000 : ℝ) : EReal) := by
  simp [Ideal.ofBits, Ideal.ieee, -EReal.coe_mul, -EReal.coe_neg]; try norm_num
theorem lit_gc : Ideal.ofBits .f32 0x3F4C422A#32 = ((gc : ℝ) : EReal) := by
  simp [Ideal.ofBits, Ideal.ieee, gc, -EReal.coe_mul, -EReal.coe_neg]; try norm_num

theorem v57_at : IsReal (φ := .f32) (n := 2048) (L := 1024) (val_main_v57 (F := Ideal)) fun _ _ => 1 := fun p q => lit_1
theorem v59_at : IsReal (φ := .f32) (n := 2048) (L := 1024) (val_main_v59 (F := Ideal)) fun _ _ => 1 := fun p q => lit_1
theorem v61_at : IsReal (φ := .f32) (n := 2048) (L := 1024) (val_main_v61 (F := Ideal)) fun _ _ => 1 := fun p q => lit_1
theorem v66_at : IsReal (φ := .f32) (n := 2048) (L := 1024) (val_main_v66 (F := Ideal)) fun _ _ => 1 := fun p q => lit_1
theorem v68_at : IsReal (φ := .f32) (n := 2048) (L := 1024) (val_main_v68 (F := Ideal)) fun _ _ => 1 := fun p q => lit_1
theorem v70_at : IsReal (φ := .f32) (n := 2048) (L := 1024) (val_main_v70 (F := Ideal)) fun _ _ => 1 := fun p q => lit_1
theorem v73_at : IsReal (φ := .f32) (n := 2048) (L := 1024) (val_main_v73 (F := Ideal)) fun _ _ => -8 := fun p q => lit_m8
theorem v80_at : IsReal (φ := .f32) (n := 2048) (L := 1024) (val_main_v80 (F := Ideal)) fun _ _ => 2 := fun p q => lit_2
theorem v86_at : IsReal (φ := .f32) (n := 2048) (L := 1024) (val_main_v86 (F := Ideal)) fun _ _ => 1 / 2 := fun p q => lit_half

section
variable {n L : ℕ} {x y : FVec Ideal ⟨2, ![n, L]⟩ .f32} {X Y : ℕ → ℕ → ℝ}

theorem hneg_r (hx : IsReal x X) : IsReal (Host.negf x) fun p q => -X p q :=
  fun p q => by show -x (ix2 p q) = _; rw [hx p q, ← EReal.coe_neg]
theorem hexp_r (hx : IsReal x X) : IsReal (Host.exp x) fun p q => Real.exp (X p q) :=
  fun p q => by show Ideal.exp (x (ix2 p q)) = _; rw [hx p q, Ideal.exp_coe]
theorem htanh_r (hx : IsReal x X) : IsReal (Host.tanh x) fun p q => Real.tanh (X p q) :=
  fun p q => by show Ideal.tanh (x (ix2 p q)) = _; rw [hx p q, Ideal.tanh_coe]
theorem hexpm1_r (hx : IsReal x X) : IsReal (Host.expm1 x) fun p q => Real.exp (X p q) - 1 :=
  fun p q => by show Ideal.exp (x (ix2 p q)) - 1 = _; rw [hx p q, Ideal.exp_coe, ← EReal.coe_one, ← EReal.coe_sub]
theorem hsqrt_r (hx : IsReal x X) (h : ∀ p q, 0 ≤ X p q) : IsReal (Host.sqrt x) fun p q => √(X p q) :=
  fun p q => by show Ideal.sqrt (x (ix2 p q)) = _; rw [hx p q, Ideal.sqrt_coe, if_neg (not_lt.2 (h p q))]
theorem hdiv_r (hx : IsReal x X) (hy : IsReal y Y) (h : ∀ p q, Y p q ≠ 0) : IsReal (Host.divf x y) fun p q => X p q / Y p q :=
  fun p q => by show Ideal.div (x (ix2 p q)) (y (ix2 p q)) = _; rw [hx p q, hy p q, coe_div _ (h p q)]
theorem sub_r (hx : IsReal x X) (hy : IsReal y Y) : IsReal (subf x y) fun p q => X p q - Y p q :=
  fun p q => by show x (ix2 p q) - y (ix2 p q) = _; rw [hx p q, hy p q, ← EReal.coe_sub]
theorem same (hx : IsReal x X) (h : ∀ p < n, ∀ q < L, X p q = Y p q) : IsReal x Y := fun p q => by rw [hx p q, h p p.isLt q q.isLt]

end

/-- The argument arrays are the images of real ones. -/
structure RIns (x0 : FVec Ideal S2048x4608 .f32) (x1 : FVec Ideal S2048x1024 .f32) (x2 : FVec Ideal S1x4x1024 .f32) (x3 : FVec Ideal S1x1024 .f32) (x4 : FVec Ideal S1x16x64x64 .f32)
    (x5 : FVec Ideal S1x1024 .f32) (x6 : FVec Ideal S1x16x64x64 .f32) (x7 x8 : FVec Ideal S1x1024 .f32)
    (X D W B : ℕ → ℕ → ℝ) (WA : ℕ → ℕ → ℕ → ℝ) (BA : ℕ → ℕ → ℝ) (WX : ℕ → ℕ → ℕ → ℝ) (BX Lm : ℕ → ℕ → ℝ) : Prop where
  hX : ∀ (p : Fin 2048) (q : Fin 4608), x0 (ix2 p q) = ((X p q : ℝ) : EReal)
  hD : ∀ (p : Fin 2048) (q : Fin 1024), x1 (ix2 p q) = ((D p q : ℝ) : EReal)
  hW : ∀ (u : Fin 1) (p : Fin 4) (q : Fin 1024), x2 (ix3 u p q) = ((W p q : ℝ) : EReal)
  hB : ∀ (u : Fin 1) (q : Fin 1024), x3 (ix2 u q) = ((B 0 q : ℝ) : EReal)
  hWA : ∀ (u : Fin 1) (h : Fin 16) (p q : Fin 64), x4 (ix4 u h p q) = ((WA h p q : ℝ) : EReal)
  hBA : ∀ (u : Fin 1) (q : Fin 1024), x5 (ix2 u q) = ((BA 0 q : ℝ) : EReal)
  hWX : ∀ (u : Fin 1) (h : Fin 16) (p q : Fin 64), x6 (ix4 u h p q) = ((WX h p q : ℝ) : EReal)
  hBX : ∀ (u : Fin 1) (q : Fin 1024), x7 (ix2 u q) = ((BX 0 q : ℝ) : EReal)
  hLm : ∀ (u : Fin 1) (q : Fin 1024), x8 (ix2 u q) = ((Lm 0 q : ℝ) : EReal)

variable {x0 : FVec Ideal S2048x4608 .f32} {x1 : FVec Ideal S2048x1024 .f32} {x2 : FVec Ideal S1x4x1024 .f32} {x3 x5 x7 x8 : FVec Ideal S1x1024 .f32} {x4 x6 : FVec Ideal S1x16x64x64 .f32}
  {X D W B : ℕ → ℕ → ℝ} {WA : ℕ → ℕ → ℕ → ℝ} {BA : ℕ → ℕ → ℝ} {WX : ℕ → ℕ → ℕ → ℝ} {BX Lm : ℕ → ℕ → ℝ} (H : RIns x0 x1 x2 x3 x4 x5 x6 x7 x8 X D W B WA BA WX BX Lm)
include H

theorem v10_at : IsReal (φ := .f32) (n := 2051) (L := 1024) (val_main_v10 (F := Ideal) x0) fun p q => if p < 3 then 0 else X (p - 3) q := fun p q => by
  pointwise [val_main_v10, val_main_v9, val_main_cst, val_main_v0]
  split_ifs <;> first | exact EReal.coe_zero.symm | exact H.hX _ _

/-- The rows the convolution reads. -/
theorem v12_at : IsReal (φ := .f32) (n := 2048) (L := 1024) (val_main_v12 (F := Ideal) x0) (dn 3 X) := fun p q => by
  have h := v10_at H
  pointwise [val_main_v12]
  refine (h _ _).trans (congrArg (fun r : ℝ => (r : EReal)) ?_)
  unfold dn; dsimp only; split_ifs <;> first | omega | rfl
theorem v21_at : IsReal (φ := .f32) (n := 2048) (L := 1024) (val_main_v21 (F := Ideal) x0) (dn 2 X) := fun p q => by
  have h := v10_at H
  pointwise [val_main_v21]
  refine (h _ _).trans (congrArg (fun r : ℝ => (r : EReal)) ?_)
  unfold dn; dsimp only; split_ifs <;> first | omega | (congr 1; omega) | rfl
theorem v28_at : IsReal (φ := .f32) (n := 2048) (L := 1024) (val_main_v28 (F := Ideal) x0) (dn 1 X) := fun p q => by
  have h := v10_at H
  pointwise [val_main_v28]
  refine (h _ _).trans (congrArg (fun r : ℝ => (r : EReal)) ?_)
  unfold dn; dsimp only; split_ifs <;> first | omega | (congr 1; omega) | rfl
theorem v35_at : IsReal (φ := .f32) (n := 2048) (L := 1024) (val_main_v35 (F := Ideal) x0) X := fun p q => by
  have h := v10_at H
  pointwise [val_main_v35]
  refine (h _ _).trans (congrArg (fun r : ℝ => (r : EReal)) ?_)
  dsimp only; rw [if_neg (by omega)]; congr 1; omega

theorem v16_at : IsReal (φ := .f32) (n := 2048) (L := 1024) (val_main_v16 (F := Ideal) x2) fun _ q => W 0 q := fun p q => by
  pointwise [val_main_v16, val_main_v15, val_main_v14, val_main_v13, val_main_v2]
  exact H.hW 0 _ _
theorem v25_at : IsReal (φ := .f32) (n := 2048) (L := 1024) (val_main_v25 (F := Ideal) x2) fun _ q => W 1 q := fun p q => by
  pointwise [val_main_v25, val_main_v24, val_main_v23, val_main_v22, val_main_v2]
  exact H.hW 0 _ _
theorem v32_at : IsReal (φ := .f32) (n := 2048) (L := 1024) (val_main_v32 (F := Ideal) x2) fun _ q => W 2 q := fun p q => by
  pointwise [val_main_v32, val_main_v31, val_main_v30, val_main_v29, val_main_v2]
  exact H.hW 0 _ _
theorem v39_at : IsReal (φ := .f32) (n := 2048) (L := 1024) (val_main_v39 (F := Ideal) x2) fun _ q => W 3 q := fun p q => by
  pointwise [val_main_v39, val_main_v38, val_main_v37, val_main_v36, val_main_v2]
  exact H.hW 0 _ _
theorem v19_at : IsReal (φ := .f32) (n := 2048) (L := 1024) (val_main_v19 (F := Ideal) x3) fun _ q => B 0 q := fun p q => by
  pointwise [val_main_v19, val_main_v18, val_main_v3]
  exact H.hB 0 _
theorem v47_at : IsReal (φ := .f32) (n := 2048) (L := 1024) (val_main_v47 (F := Ideal) x5) fun _ q => BA 0 q := fun p q => by
  pointwise [val_main_v47, val_main_v46, val_main_v5]
  exact H.hBA 0 _
theorem v53_at : IsReal (φ := .f32) (n := 2048) (L := 1024) (val_main_v53 (F := Ideal) x7) fun _ q => BX 0 q := fun p q => by
  pointwise [val_main_v53, val_main_v52, val_main_v7]
  exact H.hBX 0 _

/-- The convolved input. -/
theorem v41_at : IsReal (φ := .f32) (n := 2048) (L := 1024) (val_main_v41 (F := Ideal) x0 x2 x3) (conv X W B) :=
  same (add_real (add_real (add_real (add_real (v19_at H) (mul_real (v12_at H) (v16_at H))) (mul_real (v21_at H) (v25_at H))) (mul_real (v28_at H) (v32_at H)))
    (mul_real (v35_at H) (v39_at H))) fun p _ q _ => by unfold conv; ring

theorem v45_at : IsReal (φ := .f32) (n := 2048) (L := 1024) (val_main_v45 (F := Ideal) x0 x2 x3 x4) fun p c => ∑ i : Fin 64, conv X W B p (c / 64 * 64 + i) * WA (c / 64) i (c % 64) := fun p q => by
  have h := v41_at H
  pointwise [val_main_v45, val_main_v44, val_main_v43, val_main_v42, val_main_v4]
  simp only [h _ _, H.hWA, ← EReal.coe_mul, coe_sum]
  congr 1
  exact Finset.sum_congr rfl fun k _ => mul_comm _ _
theorem v51_at : IsReal (φ := .f32) (n := 2048) (L := 1024) (val_main_v51 (F := Ideal) x0 x2 x3 x6) fun p c => ∑ i : Fin 64, conv X W B p (c / 64 * 64 + i) * WX (c / 64) i (c % 64) := fun p q => by
  have h := v41_at H
  pointwise [val_main_v51, val_main_v50, val_main_v49, val_main_v42, val_main_v6]
  simp only [h _ _, H.hWX, ← EReal.coe_mul, coe_sum]
  congr 1
  exact Finset.sum_congr rfl fun k _ => mul_comm _ _

/-- The gates. -/
theorem v60_at : IsReal (φ := .f32) (n := 2048) (L := 1024) (val_main_v60 (F := Ideal) x0 x2 x3 x4 x5) (rG X W B WA BA) :=
  same (hdiv_r v59_at (add_real v57_at (hexp_r (hneg_r (add_real (v45_at H) (v47_at H))))) fun p q => (add_pos one_pos (Real.exp_pos _)).ne') fun p _ q _ => by
    unfold rG gate hd; rw [zero_sub]
theorem v69_at : IsReal (φ := .f32) (n := 2048) (L := 1024) (val_main_v69 (F := Ideal) x0 x2 x3 x6 x7) (rG X W B WX BX) :=
  same (hdiv_r v68_at (add_real v66_at (hexp_r (hneg_r (add_real (v51_at H) (v53_at H))))) fun p q => (add_pos one_pos (Real.exp_pos _)).ne') fun p _ q _ => by
    unfold rG gate hd; rw [zero_sub]
theorem v63_at : IsReal (φ := .f32) (n := 2048) (L := 1024) (val_main_v63 (F := Ideal) x0 x2 x3 x4 x5) fun p q => rG X W B WA BA p q * (1 - rG X W B WA BA p q) := mul_real (v60_at H) (sub_r v61_at (v60_at H))
theorem v72_at : IsReal (φ := .f32) (n := 2048) (L := 1024) (val_main_v72 (F := Ideal) x0 x2 x3 x6 x7) fun p q => rG X W B WX BX p q * (1 - rG X W B WX BX p q) := mul_real (v69_at H) (sub_r v70_at (v69_at H))
theorem v74_at : IsReal (φ := .f32) (n := 2048) (L := 1024) (val_main_v74 (F := Ideal) x0 x2 x3 x4 x5) fun p q => -8 * rG X W B WA BA p q := mul_real v73_at (v60_at H)

/-- The decay's parameter: `log (1 + exp (-l))` and its derivative. -/
theorem v75_at (q : Fin 1024) : (val_main_v75 (F := Ideal) x8) (ix1 q) = ((-Lm 0 q : ℝ) : EReal) := by
  pointwise [val_main_v75, val_main_v8]
  rw [H.hLm 0 q, EReal.coe_neg]

theorem v76_at (q : Fin 1024) : (val_main_v76_0 (F := Ideal) x8) (ix1 q) = ((splus (Lm 0 q) : ℝ) : EReal) := by
  have h := v75_at H
  pointwise [val_main_v76_0, val_main_call0_v4, val_main_call0_v6, val_main_call0_v11, val_main_call0_v1, val_main_call0_v10, val_main_call0_v9, val_main_call0_v8, val_main_call0_v7,
    val_main_call0_v3, val_main_call0_v2, val_main_call0_v0, val_main_call0_v5, val_main_call0_cst]
  simp only [h, lit_0]
  rw [if_neg (fun h => h rfl), Ideal.absf_def]
  unfold Ideal.log1p
  rw [← EReal.coe_neg, ← EReal.coe_strictMono.monotone.map_max, ← EReal.coe_neg, Ideal.exp_coe, ← EReal.coe_one, ← EReal.coe_add, Ideal.log_coe,
    if_neg (by linarith [Real.exp_pos (-max (-Lm 0 q) (- -Lm 0 q))]), ← EReal.coe_zero, ← EReal.coe_strictMono.monotone.map_max, ← EReal.coe_add]
  unfold splus
  simp only [zero_sub]

theorem v76_1_at (q : Fin 1024) : (val_main_v76_1 (F := Ideal) x8) (ix1 q) = ((Real.exp (-Lm 0 q - splus (Lm 0 q)) : ℝ) : EReal) := by
  have h := v75_at H
  have h' := v76_at H
  pointwise [val_main_v76_1, val_main_call0_v21, val_main_call0_v16, val_main_call0_v14, val_main_call0_v15, val_main_call0_v13, val_main_call0_cst_0, val_main_call0_cst_1,
    val_main_call0_v20, val_main_call0_v18, val_main_call0_v19, val_main_call0_v17, val_main_call0_cst_2, val_main_call0_cst_3]
  simp only [h, h']
  have ht : Ideal.ofBits .f32 0x7F800000#32 = ⊤ := by simp [Ideal.ofBits, Ideal.ieee]
  simp only [ht, EReal.coe_ne_top, if_false]
  rw [← EReal.coe_sub, Ideal.exp_coe]

theorem v78_at : IsReal (φ := .f32) (n := 2048) (L := 1024) (val_main_v78 (F := Ideal) x8) fun _ q => splus (Lm 0 q) := fun p q => by
  have h := v76_at H
  pointwise [val_main_v78, val_main_v77]
  exact h _
theorem v176_at : IsReal (φ := .f32) (n := 2048) (L := 1024) (val_main_v176 (F := Ideal) x8) fun _ q => splus (Lm 0 q) := fun p q => by
  have h := v76_at H
  pointwise [val_main_v176, val_main_v77]
  exact h _

/-- The decay's logarithm, and the factor of the input. -/
theorem v79_at : IsReal (φ := .f32) (n := 2048) (L := 1024) (val_main_v79 (F := Ideal) x0 x2 x3 x4 x5 x8) (lg (rG X W B WA BA) Lm) := mul_real (v74_at H) (v78_at H)
theorem v81_at : IsReal (φ := .f32) (n := 2048) (L := 1024) (val_main_v81 (F := Ideal) x0 x2 x3 x4 x5 x8) fun p q => 2 * lg (rG X W B WA BA) Lm p q := mul_real v80_at (v79_at H)
theorem v83_at : IsReal (φ := .f32) (n := 2048) (L := 1024) (val_main_v83 (F := Ideal) x0 x2 x3 x4 x5 x8) fun p q => Real.exp (2 * lg (rG X W B WA BA) Lm p q) := hexp_r (v81_at H)
theorem lg_neg (p q : ℕ) : lg (rG X W B WA BA) Lm p q < 0 := la_neg (gate_pos _) _
theorem v85_at : IsReal (φ := .f32) (n := 2048) (L := 1024) (val_main_v85 (F := Ideal) x0 x2 x3 x4 x5 x8) fun p q => mult (lg (rG X W B WA BA) Lm p q) :=
  same (hsqrt_r (hneg_r (hexpm1_r (v81_at H))) fun p q => by have := msq_pos (lg_neg H p q); rw [msq_eq] at this; linarith) fun p _ q _ => by
    unfold mult; rw [msq_eq]; congr 1; ring
theorem v87_at : IsReal (φ := .f32) (n := 2048) (L := 1024) (val_main_v87 (F := Ideal) x0 x2 x3 x4 x5 x8) fun p q => 1 / 2 / mult (lg (rG X W B WA BA) Lm p q) :=
  hdiv_r v86_at (v85_at H) fun p q => (mult_pos (lg_neg H p q)).ne'
theorem v88_at : IsReal (φ := .f32) (n := 2048) (L := 1024) (val_main_v88 (F := Ideal) x0 x2 x3 x6 x7) fun p q => rG X W B WX BX p q * conv X W B p q := mul_real (v69_at H) (v41_at H)
theorem v89_at : IsReal (φ := .f32) (n := 2048) (L := 1024) (val_main_v89 (F := Ideal) x0 x2 x3 x4 x5 x6 x7 x8) (inp (conv X W B) (rG X W B WA BA) (rG X W B WX BX) Lm) := mul_real (v85_at H) (v88_at H)

end Cert.ReferenceLruIdeal.LruRef
end
-- ==== Proof.LruRef1.lean ====
/- What the reference of the recurrent mixer computes, over the reals: the recurrence, its adjoint and the decays' gradient. -/
module

public import proofs.«01_k».proof.Proof.LruRef0

@[expose] public section

set_option maxRecDepth 16384

noncomputable section

open Idealize.ShloMosaic Idealize.ShloMosaic.TcCoe Idealize.SL.Sem

namespace Cert.ReferenceLruIdeal.LruRef

open Cert.ReferenceLruIdeal Cert.ReferenceLruIdeal.Gen Cert.ReferenceLruIdeal.Read Cert.Reals Cert.Shift Cert.Scan Cert.Lru

theorem pick_le {α : Type} (s t : Fin 2048) (a b : α) : Scalar.select (IntOp.cmpi .sle (BitVec.ofNat 32 s.val) (BitVec.ofNat 32 t.val)) a b = if s.val ≤ t.val then a else b := by
  have hs := s.isLt
  have ht := t.isLt
  rw [WordCmp.cmpi_sle_ofNat (by omega) (by omega)]
  by_cases h : s.val ≤ t.val
  · rw [if_pos h, decide_eq_true h]; rfl
  · rw [if_neg h, decide_eq_false h]; rfl

variable {x0 : FVec Ideal S2048x4608 .f32} {x1 : FVec Ideal S2048x1024 .f32} {x2 : FVec Ideal S1x4x1024 .f32} {x3 x5 x7 x8 : FVec Ideal S1x1024 .f32} {x4 x6 : FVec Ideal S1x16x64x64 .f32}
  {X D W B : ℕ → ℕ → ℝ} {WA : ℕ → ℕ → ℕ → ℝ} {BA : ℕ → ℕ → ℝ} {WX : ℕ → ℕ → ℕ → ℝ} {BX Lm : ℕ → ℕ → ℝ} (H : RIns x0 x1 x2 x3 x4 x5 x6 x7 x8 X D W B WA BA WX BX Lm)
include H

/-- The running sums of the decays' logarithms. -/
theorem v90_at : IsReal (φ := .f32) (n := 2048) (L := 1024) (val_main_v90 (F := Ideal) x0 x2 x3 x4 x5 x8) (upto (lg (rG X W B WA BA) Lm)) := fun p q => by
  have hz : val_main_call1_call0_v0 (F := Ideal) (Shape.Idx.first h_S_) = (0 : EReal) := by
    rw [val_main_call1_call0_v0_apply, val_main_call1_call0_cst_apply]; exact lit_0.trans EReal.coe_zero
  exact (host_window _ _ _ _ _ _ _ _ hz _).trans (cumsum2_at (N := 2047) (C := 1024) (v79_at H) _ p q)

theorem v99_at (t s : Fin 2048) (q : Fin 1024) : (val_main_v99 (F := Ideal) x0 x2 x3 x4 x5 x8) (ix3 t s q) = ((Real.exp (upto (lg (rG X W B WA BA) Lm) t q - upto (lg (rG X W B WA BA) Lm) s q) : ℝ) : EReal) := by
  have h := v90_at H
  pointwise [val_main_v99, val_main_v98, val_main_v97, val_main_v96, val_main_v95, val_main_v94]
  rw [h, h, ← EReal.coe_sub, Ideal.exp_coe]

/-- The decays, zero above the diagonal. -/
theorem v100_at (t s : Fin 2048) (q : Fin 1024) : (val_main_v100_0 (F := Ideal) x0 x2 x3 x4 x5 x8) (ix3 t s q) = ((dcy (lg (rG X W B WA BA) Lm) t s q : ℝ) : EReal) := by
  have h := v99_at H
  pointwise [val_main_v100_0, val_main_v100_1, val_main_v93, val_main_v92, val_main_v91, val_main_call2_v2, val_main_call2_v0, val_main_cst_10]
  refine (pick_le s t _ _).trans ?_
  unfold dcy
  split_ifs
  · exact h t s q
  · exact lit_0

/-- The recurrence's states. -/
theorem v104_at : IsReal (φ := .f32) (n := 2048) (L := 1024) (val_main_v104 (F := Ideal) x0 x2 x3 x4 x5 x6 x7 x8) (hG X W B WA BA WX BX Lm) := fun t q => by
  have h := v100_at H
  have hu := v89_at H
  pointwise [val_main_v104, val_main_v103, val_main_v102, val_main_v101, val_main_cst_11]
  simp only [h _ _ _, hu _ _, ← EReal.coe_mul, coe_sum]
  exact congrArg (fun r : ℝ => (r : EReal)) (scan_sum _ _ t.isLt q)

/-- The output's gate. -/
theorem v1_at : IsReal (φ := .f32) (n := 2048) (L := 1024) (val_main_v1 (F := Ideal) x0) (blk X 1024) := fun p q => by
  pointwise [val_main_v1]
  exact H.hX _ _
omit H
theorem v108_at : IsReal (φ := .f32) (n := 2048) (L := 1024) (val_main_v108 (F := Ideal)) fun _ _ => 3 := fun p q => lit_3
theorem v110_at : IsReal (φ := .f32) (n := 2048) (L := 1024) (val_main_v110 (F := Ideal)) fun _ _ => 44715 := fun p q => lit_44715
theorem v112_at : IsReal (φ := .f32) (n := 2048) (L := 1024) (val_main_v112 (F := Ideal)) fun _ _ => 1000000 := fun p q => lit_million
theorem v115_at : IsReal (φ := .f32) (n := 2048) (L := 1024) (val_main_v115 (F := Ideal)) fun _ _ => gc := fun p q => lit_gc
theorem v118_at : IsReal (φ := .f32) (n := 2048) (L := 1024) (val_main_v118 (F := Ideal)) fun _ _ => 1 := fun p q => lit_1
theorem v120_at : IsReal (φ := .f32) (n := 2048) (L := 1024) (val_main_v120 (F := Ideal)) fun _ _ => 1 := fun p q => lit_1
theorem v123_at : IsReal (φ := .f32) (n := 2048) (L := 1024) (val_main_v123 (F := Ideal)) fun _ _ => 1 := fun p q => lit_1
theorem v125_at : IsReal (φ := .f32) (n := 2048) (L := 1024) (val_main_v125 (F := Ideal)) fun _ _ => 1 / 2 := fun p q => lit_half
theorem v133_at : IsReal (φ := .f32) (n := 2048) (L := 1024) (val_main_v133 (F := Ideal)) fun _ _ => 1 / 2 := fun p q => lit_half
theorem v136_at : IsReal (φ := .f32) (n := 2048) (L := 1024) (val_main_v136 (F := Ideal)) fun _ _ => gc := fun p q => lit_gc
theorem v139_at : IsReal (φ := .f32) (n := 2048) (L := 1024) (val_main_v139 (F := Ideal)) fun _ _ => 1000000 := fun p q => lit_million
theorem v141_at : IsReal (φ := .f32) (n := 2048) (L := 1024) (val_main_v141 (F := Ideal)) fun _ _ => 44715 := fun p q => lit_44715
include H
theorem v117_at : IsReal (φ := .f32) (n := 2048) (L := 1024) (val_main_v117 (F := Ideal) x0) fun p q => gth (blk X 1024 p q) :=
  same (htanh_r (mul_real v115_at (add_real (v1_at H) (hdiv_r (mul_real v110_at (mul_real (mul_real (v1_at H) (v1_at H)) (v1_at H))) v112_at fun p q => by norm_num)))) fun p _ q _ => by
    unfold gth; congr 2; ring
theorem v122_at : IsReal (φ := .f32) (n := 2048) (L := 1024) (val_main_v122 (F := Ideal) x0) fun p q => (1 + gth (blk X 1024 p q)) * (1 - gth (blk X 1024 p q)) :=
  mul_real (add_real v118_at (v117_at H)) (sub_r v120_at (v117_at H))
theorem v126_at : IsReal (φ := .f32) (n := 2048) (L := 1024) (val_main_v126 (F := Ideal) x0) fun p q => 1 / 2 * (1 + gth (blk X 1024 p q)) := mul_real v125_at (add_real v123_at (v117_at H))
theorem v127_at : IsReal (φ := .f32) (n := 2048) (L := 1024) (val_main_v127 (F := Ideal) x0) fun p q => gel (blk X 1024 p q) :=
  same (mul_real (v1_at H) (v126_at H)) fun p _ q _ => by unfold gel; ring
/-- The mixer's output. -/
theorem v128_at : IsReal (φ := .f32) (n := 2048) (L := 1024) (val_main_v128 (F := Ideal) x0 x2 x3 x4 x5 x6 x7 x8) (yG X W B WA BA WX BX Lm) := mul_real (v104_at H) (v127_at H)
theorem xD_at : IsReal (φ := .f32) (n := 2048) (L := 1024) x1 D := H.hD
theorem v129_at : IsReal (φ := .f32) (n := 2048) (L := 1024) (val_main_v129 (F := Ideal) x0 x1 x2 x3 x4 x5 x6 x7 x8) fun p q => hG X W B WA BA WX BX Lm p q * D p q := mul_real (v104_at H) (xD_at H)
theorem v130_at : IsReal (φ := .f32) (n := 2048) (L := 1024) (val_main_v130 (F := Ideal) x0 x1) fun p q => D p q * gel (blk X 1024 p q) := mul_real (xD_at H) (v127_at H)
theorem v137_at : IsReal (φ := .f32) (n := 2048) (L := 1024) (val_main_v137 (F := Ideal) x0 x1 x2 x3 x4 x5 x6 x7 x8) fun p q =>
    gc * (1 / 2 * (blk X 1024 p q * (hG X W B WA BA WX BX Lm p q * D p q)) * ((1 + gth (blk X 1024 p q)) * (1 - gth (blk X 1024 p q)))) :=
  mul_real v136_at (mul_real (mul_real v133_at (mul_real (v1_at H) (v129_at H))) (v122_at H))
/-- The gate's gradient. -/
theorem v144_at : IsReal (φ := .f32) (n := 2048) (L := 1024) (val_main_v144 (F := Ideal) x0 x1 x2 x3 x4 x5 x6 x7 x8) fun p q => D p q * hG X W B WA BA WX BX Lm p q * dgel (X p (1024 + q)) :=
  same (add_real (add_real (mul_real (v129_at H) (v126_at H)) (v137_at H))
    (mul_real (mul_real v141_at (hdiv_r (v137_at H) v139_at fun p q => by norm_num)) (mul_real v108_at (mul_real (v1_at H) (v1_at H))))) fun p _ q _ => by
    show _ = D p q * hG X W B WA BA WX BX Lm p q * dgel (blk X 1024 p q)
    unfold dgel; ring

/-- The recurrence's adjoint. -/
theorem v147_at : IsReal (φ := .f32) (n := 2048) (L := 1024) (val_main_v147 (F := Ideal) x0 x1 x2 x3 x4 x5 x8) (lamG X D W B WA BA Lm) := fun s q => by
  have h := v100_at H
  have hu := v130_at H
  pointwise [val_main_v147, val_main_v146, val_main_v145, val_main_cst_24]
  simp only [h _ _ _, hu _ _, ← EReal.coe_mul, coe_sum]
  refine congrArg (fun r : ℝ => (r : EReal)) ?_
  rw [Fin.sum_univ_eq_sum_range (fun t => dcy (lg (rG X W B WA BA) Lm) t s q * (D t q * gel (blk X 1024 t q))) 2048]
  exact adj_sum _ _ _ (2048 - s) s (by omega)
theorem v151_at : IsReal (φ := .f32) (n := 2048) (L := 1024) (val_main_v151 (F := Ideal) x0 x1 x2 x3 x4 x5 x8) (lamG X D W B WA BA Lm) := fun s q => by
  have h := v147_at H
  pointwise [val_main_v151, val_main_v148, val_main_cst_25]
  exact (Fin.sum_univ_one _).trans (h s q)

theorem v153_at (t s : Fin 2048) (q : Fin 1024) : (val_main_v153 (F := Ideal) x0 x1 x2 x3 x4 x5 x6 x7 x8) (ix3 t s q)
    = ((dcy (lg (rG X W B WA BA) Lm) t s q * (D t q * gel (blk X 1024 t q) * inp (conv X W B) (rG X W B WA BA) (rG X W B WX BX) Lm s q) : ℝ) : EReal) := by
  have h := v99_at H
  have h1 := v130_at H
  have h2 := v89_at H
  pointwise [val_main_v153, val_main_v152, val_main_v150, val_main_v149, val_main_v145, val_main_v101, val_main_v100_1, val_main_v93, val_main_v92, val_main_v91, val_main_call3_v0, val_main_call3_cst]
  refine (pick_le s t _ _).trans ?_
  unfold dcy
  split_ifs
  · rw [h1, h2, h, ← EReal.coe_mul, ← EReal.coe_mul, mul_comm]
  · rw [zero_mul, EReal.coe_zero]
theorem v154_at : IsReal (φ := .f32) (n := 2048) (L := 1024) (val_main_v154 (F := Ideal) x0 x1 x2 x3 x4 x5 x6 x7 x8) fun t q => D t q * gel (blk X 1024 t q) * hG X W B WA BA WX BX Lm t q := fun t q => by
  have h := v153_at H
  pointwise [val_main_v154, val_main_cst_26]
  simp only [h _ _ _, coe_sum]
  refine congrArg (fun r : ℝ => (r : EReal)) ?_
  refine Eq.trans ?_ (congrArg (D t q * gel (blk X 1024 t q) * ·) (scan_sum (lg (rG X W B WA BA) Lm) (inp (conv X W B) (rG X W B WA BA) (rG X W B WX BX) Lm) t.isLt q))
  rw [Finset.mul_sum]
  exact Finset.sum_congr rfl fun s _ => by ring
theorem v160_at : IsReal (φ := .f32) (n := 2048) (L := 1024) (val_main_v160 (F := Ideal) x0 x1 x2 x3 x4 x5 x6 x7 x8) fun t q => D t q * gel (blk X 1024 t q) * hG X W B WA BA WX BX Lm t q := fun t q => by
  have h := v154_at H
  pointwise [val_main_v160, val_main_v155, val_main_cst_29]
  exact (Fin.sum_univ_one _).trans (h t q)
theorem v157_at : IsReal (φ := .f32) (n := 2048) (L := 1024) (val_main_v157 (F := Ideal) x0 x1 x2 x3 x4 x5 x6 x7 x8) fun s q => -(lamG X D W B WA BA Lm s q * inp (conv X W B) (rG X W B WA BA) (rG X W B WX BX) Lm s q) := fun s q => by
  have h := v153_at H
  pointwise [val_main_v157, val_main_v156, val_main_cst_27]
  simp only [h _ _ _, ← EReal.coe_neg, coe_sum]
  refine congrArg (fun r : ℝ => (r : EReal)) ?_
  have e := adj_sum (lg (rG X W B WA BA) Lm) (fun t => D t q * gel (blk X 1024 t q)) q (2048 - s) s (by omega)
  rw [← Fin.sum_univ_eq_sum_range (fun t => dcy (lg (rG X W B WA BA) Lm) t s q * (D t q * gel (blk X 1024 t q))) 2048] at e
  refine Eq.trans ?_ (congrArg (fun r => -(r * inp (conv X W B) (rG X W B WA BA) (rG X W B WX BX) Lm s q)) e)
  beta_reduce
  rw [Finset.sum_neg_distrib, Finset.sum_mul]
  exact congrArg (- ·) (Finset.sum_congr rfl fun t _ => by ring)
theorem v159_at : IsReal (φ := .f32) (n := 2048) (L := 1024) (val_main_v159 (F := Ideal) x0 x1 x2 x3 x4 x5 x6 x7 x8) fun s q => -(lamG X D W B WA BA Lm s q * inp (conv X W B) (rG X W B WA BA) (rG X W B WX BX) Lm s q) := fun s q => by
  have h := v157_at H
  pointwise [val_main_v159, val_main_v158, val_main_cst_28]
  exact (Fin.sum_univ_one _).trans (h s q)

/-- What the decays' logarithms receive. -/
theorem v162_at : IsReal (φ := .f32) (n := 2048) (L := 1024) (val_main_v162 (F := Ideal) x0 x1 x2 x3 x4 x5 x6 x7 x8)
    fun p q => lamG X D W B WA BA Lm p q * dn 1 (hG X W B WA BA WX BX Lm) p q * Real.exp (lg (rG X W B WA BA) Lm p q) := fun p q => by
  have hz : val_main_call4_call0_v0 (F := Ideal) (Shape.Idx.first h_S_) = (0 : EReal) := by
    rw [val_main_call4_call0_v0_apply, val_main_call4_call0_cst_apply]; exact lit_0.trans EReal.coe_zero
  refine ((host_window _ _ _ _ _ _ _ _ hz _).trans (cumsum2_rev_at (N := 2047) (C := 1024) (add_real (v159_at H) (v160_at H)) _ p q)).trans (congrArg (fun r : ℝ => (r : EReal)) ?_)
  refine log_grad (lg (rG X W B WA BA) Lm) (inp (conv X W B) (rG X W B WA BA) (rG X W B WX BX) Lm) (fun t q => D t q * gel (blk X 1024 t q)) (hG X W B WA BA WX BX Lm) (lamG X D W B WA BA Lm)
    (q := q) (fun t ht => ?_) (fun t ht => ?_) ?_ p.isLt
  · obtain _ | t := t
    · unfold dn; rw [if_neg (by omega)]; unfold hG state; simp [hst]
    · unfold dn; rw [if_pos (by omega)]; rfl
  · unfold lamG
    rw [adjs_rec, if_pos ht]
    split_ifs with h1
    · rfl
    · rw [show t + 1 = 2048 by omega]
      unfold adjs; rw [adj_zero _ _ le_rfl]; ring
  · unfold lamG adjs; exact adj_zero _ _ le_rfl

end Cert.ReferenceLruIdeal.LruRef
end
-- ==== Proof.LruRef2.lean ====
/- What the reference of the recurrent mixer computes, over the reals: the gradients. -/
module

public import proofs.«01_k».proof.Proof.LruRef1

@[expose] public section

set_option maxRecDepth 16384

noncomputable section

open Idealize.ShloMosaic Idealize.ShloMosaic.TcCoe Idealize.SL.Sem

namespace Cert.ReferenceLruIdeal.LruRef

open Cert.ReferenceLruIdeal Cert.ReferenceLruIdeal.Gen Cert.ReferenceLruIdeal.Read Cert.Reals Cert.Shift Cert.Scan Cert.Lru

/-- The derivative of `log (1 + exp (-l))`. -/
theorem splus_exp (l : ℝ) : Real.exp (splus l) = 1 + Real.exp (-l) := by
  unfold splus
  rw [Real.exp_add, Real.exp_log (by positivity)]
  obtain h | h := le_total 0 l
  · rw [max_eq_right (by linarith), max_eq_right (by linarith), Real.exp_zero, one_mul]; simp
  · rw [max_eq_left (by linarith), max_eq_left (by linarith), mul_add, ← Real.exp_add]; simp [add_comm]
theorem splus_der (l : ℝ) : Real.exp (-l - splus l) = 1 / (1 + Real.exp l) := by
  rw [Real.exp_sub, splus_exp, Real.exp_neg]
  have := Real.exp_pos l
  field_simp; ring

theorem pad_if {c c' : Prop} [Decidable c] [Decidable c'] {v : c → EReal} {r : ℝ} (e : c ↔ c') (h : ∀ h : c, v h = (r : EReal)) :
    (if hc : c then v hc else 0) = ((if c' then r else 0 : ℝ) : EReal) := by
  by_cases hc : c
  · rw [dif_pos hc, if_pos (e.1 hc), h]
  · rw [dif_neg hc, if_neg (fun h => hc (e.2 h)), EReal.coe_zero]

variable {x0 : FVec Ideal S2048x4608 .f32} {x1 : FVec Ideal S2048x1024 .f32} {x2 : FVec Ideal S1x4x1024 .f32} {x3 x5 x7 x8 : FVec Ideal S1x1024 .f32} {x4 x6 : FVec Ideal S1x16x64x64 .f32}
  {X D W B : ℕ → ℕ → ℝ} {WA : ℕ → ℕ → ℕ → ℝ} {BA : ℕ → ℕ → ℝ} {WX : ℕ → ℕ → ℕ → ℝ} {BX Lm : ℕ → ℕ → ℝ} (H : RIns x0 x1 x2 x3 x4 x5 x6 x7 x8 X D W B WA BA WX BX Lm)
include H

omit H
theorem v170_at : IsReal (φ := .f32) (n := 2048) (L := 1024) (val_main_v170 (F := Ideal)) fun _ _ => 2 := fun p q => lit_2
theorem v181_at : IsReal (φ := .f32) (n := 2048) (L := 1024) (val_main_v181 (F := Ideal)) fun _ _ => -8 := fun p q => lit_m8
include H
theorem v163_at : IsReal (φ := .f32) (n := 2048) (L := 1024) (val_main_v163 (F := Ideal) x0 x1 x2 x3 x4 x5 x8) fun p q => mult (lg (rG X W B WA BA) Lm p q) * lamG X D W B WA BA Lm p q := mul_real (v85_at H) (v151_at H)
theorem v165_at : IsReal (φ := .f32) (n := 2048) (L := 1024) (val_main_v165 (F := Ideal) x0 x1 x2 x3 x4 x5 x6 x7 x8) (dxc (rG X W B WX BX) (rG X W B WA BA) Lm (lamG X D W B WA BA Lm)) :=
  same (mul_real (v69_at H) (v163_at H)) fun p _ q _ => by unfold dxc; ring
theorem v166_at : IsReal (φ := .f32) (n := 2048) (L := 1024) (val_main_v166 (F := Ideal) x0 x1 x2 x3 x4 x5 x8) (dxm (conv X W B) (rG X W B WA BA) Lm (lamG X D W B WA BA Lm)) :=
  same (mul_real (v163_at H) (v41_at H)) fun p _ q _ => by unfold dxm; ring
/-- What the decays' logarithms receive. -/
theorem v172_at : IsReal (φ := .f32) (n := 2048) (L := 1024) (val_main_v172 (F := Ideal) x0 x1 x2 x3 x4 x5 x6 x7 x8) (laG X D W B WA BA WX BX Lm) :=
  same (add_real (v162_at H) (mul_real v170_at (mul_real (hneg_r (mul_real (mul_real (v151_at H) (v88_at H)) (v87_at H))) (v83_at H)))) fun p _ q _ => by
    unfold laG dla; rw [two_mul (lg _ _ _ _), Real.exp_add]; ring
theorem v173_at : IsReal (φ := .f32) (n := 2048) (L := 1024) (val_main_v173 (F := Ideal) x0 x1 x2 x3 x4 x5 x6 x7 x8) fun p q => laG X D W B WA BA WX BX Lm p q * (-8 * rG X W B WA BA p q) :=
  same (mul_real (v74_at H) (v172_at H)) fun p _ q _ => mul_comm _ _
theorem v180_at (q : Fin 1024) : (val_main_v180 (F := Ideal) x0 x1 x2 x3 x4 x5 x6 x7 x8) (ix1 q) = ((dlam Lm (rG X W B WA BA) (laG X D W B WA BA WX BX Lm) q : ℝ) : EReal) := by
  have h := v173_at H
  have h' := v76_1_at H
  pointwise [val_main_v180, val_main_v179, val_main_v178, val_main_v175, val_main_v174, val_main_cst_31, val_main_cst_32]
  have e : (∑ x : Fin 1, ∑ k : Fin 2048, (val_main_v173 (F := Ideal) x0 x1 x2 x3 x4 x5 x6 x7 x8) (ix2 k q)) = ((∑ p : Fin 2048, laG X D W B WA BA WX BX Lm p q * (-8 * rG X W B WA BA p q) : ℝ) : EReal) := by
    rw [Fin.sum_univ_one]; simp only [h _ _, coe_sum]
  refine (congrArg₂ (fun x y : EReal => -(x * y)) e (h' q)).trans ?_
  beta_reduce
  rw [← EReal.coe_mul, ← EReal.coe_neg, splus_der]
  unfold dlam
  congr 1; ring

/-- What the gates receive. -/
theorem v183_at : IsReal (φ := .f32) (n := 2048) (L := 1024) (val_main_v183 (F := Ideal) x0 x1 x2 x3 x4 x5 x6 x7 x8) (ziG X D W B WA BA WX BX Lm) := mul_real (v166_at H) (v72_at H)
theorem v184_at : IsReal (φ := .f32) (n := 2048) (L := 1024) (val_main_v184 (F := Ideal) x0 x1 x2 x3 x4 x5 x6 x7 x8) (zrG X D W B WA BA WX BX Lm) :=
  same (mul_real (mul_real v181_at (mul_real (v172_at H) (v176_at H))) (v63_at H)) fun p _ q _ => by unfold zrG dzr laG; ring
theorem v187_at (q : Fin 1024) : (val_main_v187 (F := Ideal) x0 x1 x2 x3 x4 x5 x6 x7 x8) (ix1 q) = ((∑ p : Fin 2048, ziG X D W B WA BA WX BX Lm p q : ℝ) : EReal) := by
  have h := v183_at H
  pointwise [val_main_v187, val_main_v186, val_main_v185, val_main_cst_34, val_main_cst_35]
  refine (Fin.sum_univ_one _).trans ?_
  simp only [h _ _, coe_sum]
theorem v196_at (q : Fin 1024) : (val_main_v196 (F := Ideal) x0 x1 x2 x3 x4 x5 x6 x7 x8) (ix1 q) = ((∑ p : Fin 2048, zrG X D W B WA BA WX BX Lm p q : ℝ) : EReal) := by
  have h := v184_at H
  pointwise [val_main_v196, val_main_v195, val_main_v194, val_main_cst_36, val_main_cst_37]
  refine (Fin.sum_univ_one _).trans ?_
  simp only [h _ _, coe_sum]

/-- The gates' weights. -/
theorem v193_at (h : Fin 16) (i j : Fin 64) : (val_main_v193 (F := Ideal) x0 x1 x2 x3 x4 x5 x6 x7 x8) (ix3 h i j) = ((∑ t : Fin 2048, conv X W B t (64 * h + i) * ziG X D W B WA BA WX BX Lm t (64 * h + j) : ℝ) : EReal) := by
  have h1 := v183_at H
  have h2 := v41_at H
  pointwise [val_main_v193, val_main_v192, val_main_v189, val_main_v188, val_main_v42]
  simp only [h1 _ _, h2 _ _, ← EReal.coe_mul, coe_sum]
  congr 1
  exact Finset.sum_congr rfl fun k _ => by rw [mul_comm, mul_comm (h : ℕ) 64]
theorem v203_at (h : Fin 16) (i j : Fin 64) : (val_main_v203 (F := Ideal) x0 x1 x2 x3 x4 x5 x6 x7 x8) (ix3 h i j) = ((∑ t : Fin 2048, conv X W B t (64 * h + i) * zrG X D W B WA BA WX BX Lm t (64 * h + j) : ℝ) : EReal) := by
  have h1 := v184_at H
  have h2 := v41_at H
  pointwise [val_main_v203, val_main_v202, val_main_v198, val_main_v197, val_main_v42]
  simp only [h1 _ _, h2 _ _, ← EReal.coe_mul, coe_sum]
  congr 1
  exact Finset.sum_congr rfl fun k _ => by rw [mul_comm, mul_comm (h : ℕ) 64]

/-- What the convolved input receives. -/
theorem v204_at : IsReal (φ := .f32) (n := 2048) (L := 1024) (val_main_v204 (F := Ideal) x0 x1 x2 x3 x4 x5 x6 x7 x8) fun p c => hdT (ziG X D W B WA BA WX BX Lm) WX p c + hdT (zrG X D W B WA BA WX BX Lm) WA p c := fun p q => by
  have h1 := v183_at H
  have h2 := v184_at H
  pointwise [val_main_v204, val_main_v201, val_main_v200, val_main_v199, val_main_v198, val_main_v197, val_main_v191, val_main_v190, val_main_v189, val_main_v188, val_main_v4, val_main_v6]
  simp only [h1 _ _, h2 _ _, H.hWX, H.hWA, ← EReal.coe_mul, coe_sum, ← EReal.coe_add]
  rfl
theorem v205_at : IsReal (φ := .f32) (n := 2048) (L := 1024) (val_main_v205 (F := Ideal) x0 x1 x2 x3 x4 x5 x6 x7 x8) (cvG X D W B WA BA WX BX Lm) :=
  same (add_real (v165_at H) (v204_at H)) fun p _ q _ => by
    show _ = dxc _ _ _ _ p q + hdT (zrG X D W B WA BA WX BX Lm) WA p q + hdT (ziG X D W B WA BA WX BX Lm) WX p q
    ring
theorem v239_at (q : Fin 1024) : (val_main_v239 (F := Ideal) x0 x1 x2 x3 x4 x5 x6 x7 x8) (ix1 q) = ((∑ p : Fin 2048, cvG X D W B WA BA WX BX Lm p q : ℝ) : EReal) := by
  have h := v205_at H
  pointwise [val_main_v239, val_main_v238, val_main_v237, val_main_cst_50, val_main_cst_51]
  refine (Fin.sum_univ_one _).trans ?_
  simp only [h _ _, coe_sum]
theorem v206_at : IsReal (φ := .f32) (n := 2048) (L := 1024) (val_main_v206 (F := Ideal) x0 x1 x2 x3 x4 x5 x6 x7 x8) fun p q => cvG X D W B WA BA WX BX Lm p q * X p q := same (mul_real (v35_at H) (v205_at H)) fun p _ q _ => mul_comm _ _
theorem v211_at (q : Fin 1024) : (val_main_v211 (F := Ideal) x0 x1 x2 x3 x4 x5 x6 x7 x8) (ix1 q) = ((∑ p : Fin 2048, cvG X D W B WA BA WX BX Lm p q * X p q : ℝ) : EReal) := by
  have h := v206_at H
  pointwise [val_main_v211, val_main_v208, val_main_v207, val_main_cst_38, val_main_cst_39]
  refine (Fin.sum_univ_one _).trans ?_
  simp only [h _ _, coe_sum]
theorem v215_at : IsReal (φ := .f32) (n := 2048) (L := 1024) (val_main_v215 (F := Ideal) x0 x1 x2 x3 x4 x5 x6 x7 x8) fun p q => cvG X D W B WA BA WX BX Lm p q * dn 1 X p q := same (mul_real (v28_at H) (v205_at H)) fun p _ q _ => mul_comm _ _
theorem v220_at (q : Fin 1024) : (val_main_v220 (F := Ideal) x0 x1 x2 x3 x4 x5 x6 x7 x8) (ix1 q) = ((∑ p : Fin 2048, cvG X D W B WA BA WX BX Lm p q * dn 1 X p q : ℝ) : EReal) := by
  have h := v215_at H
  pointwise [val_main_v220, val_main_v217, val_main_v216, val_main_cst_42, val_main_cst_43]
  refine (Fin.sum_univ_one _).trans ?_
  simp only [h _ _, coe_sum]
theorem v226_at : IsReal (φ := .f32) (n := 2048) (L := 1024) (val_main_v226 (F := Ideal) x0 x1 x2 x3 x4 x5 x6 x7 x8) fun p q => cvG X D W B WA BA WX BX Lm p q * dn 2 X p q := same (mul_real (v21_at H) (v205_at H)) fun p _ q _ => mul_comm _ _
theorem v231_at (q : Fin 1024) : (val_main_v231 (F := Ideal) x0 x1 x2 x3 x4 x5 x6 x7 x8) (ix1 q) = ((∑ p : Fin 2048, cvG X D W B WA BA WX BX Lm p q * dn 2 X p q : ℝ) : EReal) := by
  have h := v226_at H
  pointwise [val_main_v231, val_main_v228, val_main_v227, val_main_cst_46, val_main_cst_47]
  refine (Fin.sum_univ_one _).trans ?_
  simp only [h _ _, coe_sum]
theorem v240_at : IsReal (φ := .f32) (n := 2048) (L := 1024) (val_main_v240 (F := Ideal) x0 x1 x2 x3 x4 x5 x6 x7 x8) fun p q => cvG X D W B WA BA WX BX Lm p q * dn 3 X p q := same (mul_real (v12_at H) (v205_at H)) fun p _ q _ => mul_comm _ _
theorem v245_at (q : Fin 1024) : (val_main_v245 (F := Ideal) x0 x1 x2 x3 x4 x5 x6 x7 x8) (ix1 q) = ((∑ p : Fin 2048, cvG X D W B WA BA WX BX Lm p q * dn 3 X p q : ℝ) : EReal) := by
  have h := v240_at H
  pointwise [val_main_v245, val_main_v242, val_main_v241, val_main_cst_52, val_main_cst_53]
  refine (Fin.sum_univ_one _).trans ?_
  simp only [h _ _, coe_sum]
theorem v209_at : IsReal (φ := .f32) (n := 2048) (L := 1024) (val_main_v209 (F := Ideal) x2) fun _ q => W 3 q := fun p q => by
  pointwise [val_main_v209, val_main_v38, val_main_v37, val_main_v36, val_main_v2]
  exact H.hW 0 _ _
theorem v218_at : IsReal (φ := .f32) (n := 2048) (L := 1024) (val_main_v218 (F := Ideal) x2) fun _ q => W 2 q := fun p q => by
  pointwise [val_main_v218, val_main_v31, val_main_v30, val_main_v29, val_main_v2]
  exact H.hW 0 _ _
theorem v229_at : IsReal (φ := .f32) (n := 2048) (L := 1024) (val_main_v229 (F := Ideal) x2) fun _ q => W 1 q := fun p q => by
  pointwise [val_main_v229, val_main_v24, val_main_v23, val_main_v22, val_main_v2]
  exact H.hW 0 _ _
theorem v243_at : IsReal (φ := .f32) (n := 2048) (L := 1024) (val_main_v243 (F := Ideal) x2) fun _ q => W 0 q := fun p q => by
  pointwise [val_main_v243, val_main_v15, val_main_v14, val_main_v13, val_main_v2]
  exact H.hW 0 _ _

theorem v248_at (k : Fin 4) (q : Fin 1024) : (val_main_v248 (F := Ideal) x0 x1 x2 x3 x4 x5 x6 x7 x8) (ix2 k q) = ((∑ p : Fin 2048, cvG X D W B WA BA WX BX Lm p q * dn (3 - k) X p q : ℝ) : EReal) := by
  have h0 := v211_at H
  have h1 := v220_at H
  have h2 := v231_at H
  have h3 := v245_at H
  pointwise [val_main_v248, val_main_v247, val_main_v246, val_main_v234, val_main_v233, val_main_v232, val_main_v223, val_main_v222, val_main_v221, val_main_v213, val_main_v212,
    val_main_cst_40, val_main_cst_44, val_main_cst_48, val_main_cst_54]
  simp only [h0, h1, h2, h3]
  have hk := k.isLt
  obtain h | h | h | h : k.val = 0 ∨ k.val = 1 ∨ k.val = 2 ∨ k.val = 3 := by omega
  · rw [dif_neg (by omega), dif_neg (by omega), dif_neg (by omega), dif_pos (by omega), h]; simp
  · rw [dif_neg (by omega), dif_neg (by omega), dif_pos (by omega), dif_neg (by omega), h]; simp
  · rw [dif_neg (by omega), dif_pos (by omega), dif_neg (by omega), dif_neg (by omega), h]; simp
  · rw [dif_pos (by omega), dif_neg (by omega), dif_neg (by omega), dif_neg (by omega), h]; simp [dn]
theorem v252_at : IsReal (φ := .f32) (n := 2048) (L := 1024) (val_main_v252 (F := Ideal) x0 x1 x2 x3 x4 x5 x6 x7 x8) (dxp W (cvG X D W B WA BA WX BX Lm)) := fun p q => by
  have h0 := mul_real (v205_at H) (v209_at H)
  have h1 := mul_real (v205_at H) (v218_at H)
  have h2 := mul_real (v205_at H) (v229_at H)
  have h3 := mul_real (v205_at H) (v243_at H)
  pointwise [val_main_v252, val_main_v250, val_main_v249, val_main_v236, val_main_v235, val_main_v225, val_main_v224, val_main_v214,
    val_main_cst_41, val_main_cst_45, val_main_cst_49, val_main_cst_55]
  refine (congrArg₂ (fun x y : EReal => x + y) (congrArg₂ (fun x y : EReal => x + y) (congrArg₂ (fun x y : EReal => x + y) (h0 p q)
    (pad_if (r := cvG X D W B WA BA WX BX Lm (p + 1) q * W 2 q) (c' := (p : ℕ) < 2048 - 1) (by omega) fun h => (h1 _ _).trans ?_))
    (pad_if (r := cvG X D W B WA BA WX BX Lm (p + 2) q * W 1 q) (c' := (p : ℕ) < 2048 - 2) (by omega) fun h => (h2 _ _).trans ?_))
    (pad_if (r := cvG X D W B WA BA WX BX Lm (p + 3) q * W 0 q) (c' := (p : ℕ) < 2048 - 3) (by omega) fun h => (h3 _ _).trans ?_)).trans ?_
  · beta_reduce; dsimp only; rw [show 3 + p.val - 2 = p + 1 by omega]
  · beta_reduce; dsimp only; rw [show 3 + p.val - 1 = p + 2 by omega]
  · beta_reduce; dsimp only; rw [show 3 + p.val = p + 3 by omega]
  beta_reduce
  rw [← EReal.coe_add, ← EReal.coe_add, ← EReal.coe_add]
  refine congrArg (fun r : ℝ => (r : EReal)) ?_
  unfold dxp up
  split_ifs <;> ring

end Cert.ReferenceLruIdeal.LruRef
end
-- ==== Proof.LruEq.lean ====
/- The two programs of the recurrent mixer's gradient end with the same arrays. -/
module

public import proofs.«01_k».proof.Defs
public import proofs.«01_k».proof.Proof.Gen.Pre_finite_lru
public import proofs.«01_k».proof.Proof.Gen.ReferenceLruIdeal.Run
public import proofs.«01_k».proof.Proof.LruKernel
public import proofs.«01_k».proof.Proof.LruCall1
public import proofs.«01_k».proof.Proof.LruRef2

@[expose] public section

set_option maxRecDepth 16384

noncomputable section

open Idealize.ShloMosaic Idealize.ShloMosaic.TcCoe Idealize.SL.Sem

namespace Cert.LruRun

open Cert.KernelLruIdeal Cert.KernelLruIdeal.Gen Cert.Reals Cert.Lru Cert.Shift Cert.Scan

/-- Finite arguments are the images of real arrays. -/
theorem args (m : (ℓ : Loc nD τ sig) → Buf (Elt Ideal) ℓ)
    (h : Cert.Pre_KernelLruIdeal_finite_lru (hPre_finite_lru := Cert.Pre_finite_lru.Gen.facts) m) (c : Dev nD) :
    ∃ X D W B WA BA WX BX Lm, Args m c X D W B WA BA WX BX Lm := by
  obtain ⟨e0, e1, e2, e3, e4, e5, e6, e7, e8⟩ := h c
  obtain ⟨X, hX⟩ := exists_real2 _ (real_of_finite _ _ e0)
  obtain ⟨D, hD⟩ := exists_real2 _ (real_of_finite _ _ e1)
  obtain ⟨W, hW⟩ := exists_real3 _ (real_of_finite _ _ e2)
  obtain ⟨B, hB⟩ := exists_real2 _ (real_of_finite _ _ e3)
  obtain ⟨WA, hWA⟩ := exists_real4 _ (real_of_finite _ _ e4)
  obtain ⟨BA, hBA⟩ := exists_real2 _ (real_of_finite _ _ e5)
  obtain ⟨WX, hWX⟩ := exists_real4 _ (real_of_finite _ _ e6)
  obtain ⟨BX, hBX⟩ := exists_real2 _ (real_of_finite _ _ e7)
  obtain ⟨Lm, hLm⟩ := exists_real2 _ (real_of_finite _ _ e8)
  refine ⟨X, D, W 0, B, WA 0, BA, WX 0, BX, Lm, ⟨hX, hD, fun u p q => ?_, hB, fun u h i j => ?_, hBA, fun u h i j => ?_, hBX, hLm⟩⟩
  · have := hW u p q; rwa [show (u : ℕ) = 0 from by omega] at this
  · have := hWA u h i j; rwa [show (u : ℕ) = 0 from by omega] at this
  · have := hWX u h i j; rwa [show (u : ℕ) = 0 from by omega] at this

/-- The reference's arguments are the same real arrays. -/
theorem rins {m : (ℓ : Loc nD τ sig) → Buf (Elt Ideal) ℓ} {c : Dev nD} {X D W B : ℕ → ℕ → ℝ} {WA : ℕ → ℕ → ℕ → ℝ} {BA : ℕ → ℕ → ℝ} {WX : ℕ → ℕ → ℕ → ℝ} {BX Lm : ℕ → ℕ → ℝ}
    (H : Args m c X D W B WA BA WX BX Lm) : Cert.ReferenceLruIdeal.LruRef.RIns (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) X D W B WA BA WX BX Lm where
  hX := H.hX
  hD := H.hD
  hW := H.hW
  hB u q := by have := H.hB u q; rwa [show (u : ℕ) = 0 from by omega] at this
  hWA := H.hWA
  hBA u q := by have := H.hBA u q; rwa [show (u : ℕ) = 0 from by omega] at this
  hWX := H.hWX
  hBX u q := by have := H.hBX u q; rwa [show (u : ℕ) = 0 from by omega] at this
  hLm u q := by have := H.hLm u q; rwa [show (u : ℕ) = 0 from by omega] at this

/-- The reference runs and leaves its arguments as they were. -/
theorem frame_reference : Cert.quiescent_ReferenceLruIdeal (hReferenceLruIdeal := Cert.ReferenceLruIdeal.Gen.facts) := fun m g _ =>
  (θ_run Cert.ReferenceLruIdeal.defs _ _).mono (fun r h => ⟨fun c => (h c).2.2.2.2.2.2.2.2.2.2, sem_eq_zero_of_no_sems (by decide) r.2⟩)
    (Cert.ReferenceLruIdeal.Value.run (F := Ideal) m g)

section
variable (m : (ℓ : Loc nD τ sig) → Buf (Elt Ideal) ℓ) (c : Dev nD) {X D W B : ℕ → ℕ → ℝ} {WA : ℕ → ℕ → ℕ → ℝ} {BA : ℕ → ℕ → ℝ} {WX : ℕ → ℕ → ℕ → ℝ} {BX Lm : ℕ → ℕ → ℝ}
  (H : Args m c X D W B WA BA WX BX Lm)
include H

/-- The forward call's output is the program's first result. -/
theorem res_y : w5 m c (Proc.devRef .tc main_v31_0) = w2 m c (Proc.devRef .tc main_v31_0) :=
  (w5_of m c _ (by decide)).trans ((w4_of m c _ (by decide +kernel)).trans (w3_of m c _ (by decide)))
theorem eq253 : Cert.ReferenceLruIdeal.Read.val_main_v253 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v31_0) := by
  have Q := rins H
  refine Eq.trans ?_ ((res_y m c H).trans (out0 m c H)).symm
  funext i
  obtain ⟨p, q, rfl⟩ : ∃ (p : Fin 2048) (q : Fin 1024), i = ix2 p q := ⟨i 0, i 1, eq_ix2 i⟩
  exact Cert.ReferenceLruIdeal.LruRef.v128_at Q p q
theorem eq254 : Cert.ReferenceLruIdeal.Read.val_main_v254 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_0) := by
  have Q := rins H
  refine Eq.trans ?_ ((w5_of m c _ (by decide)).trans (arr1_11 m c H)).symm
  funext i
  obtain ⟨p, q, rfl⟩ : ∃ (p : Fin 2048) (q : Fin 1024), i = ix2 p q := ⟨i 0, i 1, eq_ix2 i⟩
  exact Cert.ReferenceLruIdeal.LruRef.v252_at Q p q
theorem eq255 : Cert.ReferenceLruIdeal.Read.val_main_v255 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_1) := by
  have Q := rins H
  refine Eq.trans ?_ ((w5_of m c _ (by decide)).trans (arr1_12 m c H)).symm
  funext i
  obtain ⟨p, q, rfl⟩ : ∃ (p : Fin 2048) (q : Fin 1024), i = ix2 p q := ⟨i 0, i 1, eq_ix2 i⟩
  exact Cert.ReferenceLruIdeal.LruRef.v144_at Q p q
theorem eq248 : Cert.ReferenceLruIdeal.Read.val_main_v248 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_2) := by
  have Q := rins H
  refine Eq.trans ?_ ((w5_of m c _ (by decide)).trans (arr1_13 m c H)).symm
  funext i
  obtain ⟨p, q, rfl⟩ : ∃ (p : Fin 4) (q : Fin 1024), i = ix2 p q := ⟨i 0, i 1, eq_ix2 i⟩
  exact Cert.ReferenceLruIdeal.LruRef.v248_at Q p q
theorem eq256 : Cert.ReferenceLruIdeal.Read.val_main_v256 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_3) := by
  have Q := rins H
  refine Eq.trans ?_ ((w5_of m c _ (by decide)).trans (arr1_14 m c H)).symm
  funext i
  obtain ⟨p, q, rfl⟩ : ∃ (p : Fin 1) (q : Fin 1024), i = ix2 p q := ⟨i 0, i 1, eq_ix2 i⟩
  refine Eq.trans ?_ (Cert.ReferenceLruIdeal.LruRef.v239_at Q q); pointwise [Cert.ReferenceLruIdeal.Read.val_main_v256]
theorem eq203 : Cert.ReferenceLruIdeal.Read.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v42) := by
  have Q := rins H
  funext i
  obtain ⟨h, p, q, rfl⟩ : ∃ (h : Fin 16) (p q : Fin 64), i = ix3 h p q := ⟨i 0, i 1, i 2, eq_ix3 i⟩
  exact (Cert.ReferenceLruIdeal.LruRef.v203_at Q h p q).trans (heads15 m c H h p q).symm
theorem eq257 : Cert.ReferenceLruIdeal.Read.val_main_v257 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_5) := by
  have Q := rins H
  refine Eq.trans ?_ ((w5_of m c _ (by decide)).trans (arr1_16 m c H)).symm
  funext i
  obtain ⟨p, q, rfl⟩ : ∃ (p : Fin 1) (q : Fin 1024), i = ix2 p q := ⟨i 0, i 1, eq_ix2 i⟩
  refine Eq.trans ?_ (Cert.ReferenceLruIdeal.LruRef.v196_at Q q); pointwise [Cert.ReferenceLruIdeal.Read.val_main_v257]
theorem eq193 : Cert.ReferenceLruIdeal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v51) := by
  have Q := rins H
  funext i
  obtain ⟨h, p, q, rfl⟩ : ∃ (h : Fin 16) (p q : Fin 64), i = ix3 h p q := ⟨i 0, i 1, i 2, eq_ix3 i⟩
  exact (Cert.ReferenceLruIdeal.LruRef.v193_at Q h p q).trans (heads17 m c H h p q).symm
theorem eq258 : Cert.ReferenceLruIdeal.Read.val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_7) := by
  have Q := rins H
  refine Eq.trans ?_ ((w5_of m c _ (by decide)).trans (arr1_18 m c H)).symm
  funext i
  obtain ⟨p, q, rfl⟩ : ∃ (p : Fin 1) (q : Fin 1024), i = ix2 p q := ⟨i 0, i 1, eq_ix2 i⟩
  refine Eq.trans ?_ (Cert.ReferenceLruIdeal.LruRef.v187_at Q q); pointwise [Cert.ReferenceLruIdeal.Read.val_main_v258]
theorem eq259 : Cert.ReferenceLruIdeal.Read.val_main_v259 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = w5 m c (Proc.devRef .tc main_v33_8) := by
  have Q := rins H
  refine Eq.trans ?_ ((w5_of m c _ (by decide)).trans (arr1_19 m c H)).symm
  funext i
  obtain ⟨p, q, rfl⟩ : ∃ (p : Fin 1) (q : Fin 1024), i = ix2 p q := ⟨i 0, i 1, eq_ix2 i⟩
  refine Eq.trans ?_ (Cert.ReferenceLruIdeal.LruRef.v180_at Q q); pointwise [Cert.ReferenceLruIdeal.Read.val_main_v259]

end

theorem algebraic : Cert.algebraic_KernelLruIdeal_ReferenceLruIdeal_pre_finite_lru (hKernelLruIdeal := Cert.KernelLruIdeal.Gen.facts)
    (hReferenceLruIdeal := Cert.ReferenceLruIdeal.Gen.facts) (hPre_finite_lru := Cert.Pre_finite_lru.Gen.facts) := by
  intro m g m' g' hpre hargs
  refine ⟨fun c => w5 m c (Proc.devRef .tc main_v31_0), fun c => w5 m c (Proc.devRef .tc main_v33_0), fun c => w5 m c (Proc.devRef .tc main_v33_1), fun c => w5 m c (Proc.devRef .tc main_v33_2), fun c => w5 m c (Proc.devRef .tc main_v33_3), fun c => w5 m c (Proc.devRef .tc main_v42), fun c => w5 m c (Proc.devRef .tc main_v33_5), fun c => w5 m c (Proc.devRef .tc main_v51), fun c => w5 m c (Proc.devRef .tc main_v33_7), fun c => w5 m c (Proc.devRef .tc main_v33_8), ?_, ?_⟩
  · refine (θ_run _ _ _).mono (fun r h c => ?_) (run_all m g)
    have k (b : Ref sig .tc) (hb : ¬ (Proc.devRef .tc b : DevRef τ sig).isScoped) (h0 : b ∉ hostOps0_W) (h1 : b ∉ hostOps1_W) (h2 : b ∉ hostOps2_W)
        (k0 : ∀ w : Fin cfg0.W, Pipeline.arrRef spec0 w = b → (cfg0.win w).isOut = false)
        (k1 : ∀ w : Fin cfg1.W, Pipeline.arrRef spec1 w = b → (cfg1.win w).isOut = false) :
        r.2.mem ((c.tc : Thread nD τ).loc b) = m ((c.tc : Thread nD τ).loc b) := (h.1 c _ (mem_uc b hb)).trans (w5_arg m c b h0 h1 h2 k0 k1)
    exact ⟨h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), k main_arg0 (by decide) (by decide) (by decide) (by decide) (by decide +kernel) (by decide +kernel), k main_arg1 (by decide) (by decide) (by decide) (by decide) (by decide +kernel) (by decide +kernel), k main_arg2 (by decide) (by decide) (by decide) (by decide) (by decide +kernel) (by decide +kernel), k main_arg3 (by decide) (by decide) (by decide) (by decide) (by decide +kernel) (by decide +kernel), k main_arg4 (by decide) (by decide) (by decide) (by decide) (by decide +kernel) (by decide +kernel), k main_arg5 (by decide) (by decide) (by decide) (by decide) (by decide +kernel) (by decide +kernel), k main_arg6 (by decide) (by decide) (by decide) (by decide) (by decide +kernel) (by decide +kernel), k main_arg7 (by decide) (by decide) (by decide) (by decide) (by decide +kernel) (by decide +kernel), k main_arg8 (by decide) (by decide) (by decide) (by decide) (by decide +kernel) (by decide +kernel)⟩
  refine (θ_run _ _ _).mono (fun r h c => ?_) (Cert.ReferenceLruIdeal.Value.run m' g')
  obtain ⟨X, D, W, B, WA, BA, WX, BX, Lm, H⟩ := args m hpre c
  have Q := rins H
  obtain ⟨a0, a1, a2, a3, a4, a5, a6, a7, a8⟩ := hargs c
  change StableHlo.launchContents m' c (Proc.devRef .tc Cert.ReferenceLruIdeal.main_arg0) = m ((c : Thread nD τ).loc main_arg0) at a0
  change StableHlo.launchContents m' c (Proc.devRef .tc Cert.ReferenceLruIdeal.main_arg1) = m ((c : Thread nD τ).loc main_arg1) at a1
  change StableHlo.launchContents m' c (Proc.devRef .tc Cert.ReferenceLruIdeal.main_arg2) = m ((c : Thread nD τ).loc main_arg2) at a2
  change StableHlo.launchContents m' c (Proc.devRef .tc Cert.ReferenceLruIdeal.main_arg3) = m ((c : Thread nD τ).loc main_arg3) at a3
  change StableHlo.launchContents m' c (Proc.devRef .tc Cert.ReferenceLruIdeal.main_arg4) = m ((c : Thread nD τ).loc main_arg4) at a4
  change StableHlo.launchContents m' c (Proc.devRef .tc Cert.ReferenceLruIdeal.main_arg5) = m ((c : Thread nD τ).loc main_arg5) at a5
  change StableHlo.launchContents m' c (Proc.devRef .tc Cert.ReferenceLruIdeal.main_arg6) = m ((c : Thread nD τ).loc main_arg6) at a6
  change StableHlo.launchContents m' c (Proc.devRef .tc Cert.ReferenceLruIdeal.main_arg7) = m ((c : Thread nD τ).loc main_arg7) at a7
  change StableHlo.launchContents m' c (Proc.devRef .tc Cert.ReferenceLruIdeal.main_arg8) = m ((c : Thread nD τ).loc main_arg8) at a8
  obtain ⟨r0, r1, r2, r3, r4, r5, r6, r7, r8, r9, rest⟩ := h c
  refine ⟨r0.trans ?_, r1.trans ?_, r2.trans ?_, r3.trans ?_, r4.trans ?_, r5.trans ?_, r6.trans ?_, r7.trans ?_, r8.trans ?_, r9.trans ?_, rest⟩ <;> clear r0 r1 r2 r3 r4 r5 r6 r7 r8 r9 rest h
  · rw [Cert.ReferenceLruIdeal.Read.val_main_v253_eq, a0, a2, a3, a4, a5, a6, a7, a8]; exact eq253 m c H
  · rw [Cert.ReferenceLruIdeal.Read.val_main_v254_eq, a0, a1, a2, a3, a4, a5, a6, a7, a8]; exact eq254 m c H
  · rw [Cert.ReferenceLruIdeal.Read.val_main_v255_eq, a0, a1, a2, a3, a4, a5, a6, a7, a8]; exact eq255 m c H
  · rw [Cert.ReferenceLruIdeal.Read.val_main_v248_eq, a0, a1, a2, a3, a4, a5, a6, a7, a8]; exact eq248 m c H
  · rw [Cert.ReferenceLruIdeal.Read.val_main_v256_eq, a0, a1, a2, a3, a4, a5, a6, a7, a8]; exact eq256 m c H
  · rw [Cert.ReferenceLruIdeal.Read.val_main_v203_eq, a0, a1, a2, a3, a4, a5, a6, a7, a8]; exact eq203 m c H
  · rw [Cert.ReferenceLruIdeal.Read.val_main_v257_eq, a0, a1, a2, a3, a4, a5, a6, a7, a8]; exact eq257 m c H
  · rw [Cert.ReferenceLruIdeal.Read.val_main_v193_eq, a0, a1, a2, a3, a4, a5, a6, a7, a8]; exact eq193 m c H
  · rw [Cert.ReferenceLruIdeal.Read.val_main_v258_eq, a0, a1, a2, a3, a4, a5, a6, a7, a8]; exact eq258 m c H
  · rw [Cert.ReferenceLruIdeal.Read.val_main_v259_eq, a0, a1, a2, a3, a4, a5, a6, a7, a8]; exact eq259 m c H

end Cert.LruRun
end
-- ==== Proof.LossPay.lean ====
/- What one block of the second half of the channel mixer, the loss and its gradients computes, over the reals. -/
module

public import proofs.«01_k».proof.Proof.Gen.KernelLossIdeal.Frame
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Loss

open Cert.Reals

/-- The hidden layer, before its square. -/
def hid (H W : ℕ → ℕ → ℝ) (s c : ℕ) : ℝ := max (∑ d : Fin 1024, H s d * W d c) 0

/-- The channel mixer's output: the squared hidden layer against the second weights. -/
def mix (H W V : ℕ → ℕ → ℝ) (s d : ℕ) : ℝ := ∑ c : Fin 4096, hid H W s c * hid H W s c * V c d

/-- What the step's output misses the target by. -/
def err (H W V X T : ℕ → ℕ → ℝ) (G : ℕ → ℝ) (s d : ℕ) : ℝ := X s d + mix H W V s d * rinv (mix H W V s) * G d - T s d

/-- The loss's gradient in the step's output. -/
def dy (H W V X T : ℕ → ℕ → ℝ) (G : ℕ → ℝ) (s d : ℕ) : ℝ := err H W V X T G s d * (1 / 1024)

/-- The contraction over the hidden channels, cut at the weights' column shards. -/
theorem mix_pieces (H W V : ℕ → ℕ → ℝ) (s d : ℕ) :
    mix H W V s d = (∑ c : Fin 1024, hid H W s c * hid H W s c * V c d)
      + (∑ c : Fin 1024, hid H W s (1024 + c) * hid H W s (1024 + c) * V (1024 + c) d)
      + (∑ c : Fin 1024, hid H W s (2048 + c) * hid H W s (2048 + c) * V (2048 + c) d)
      + (∑ c : Fin 1024, hid H W s (3072 + c) * hid H W s (3072 + c) * V (3072 + c) d) := by
  unfold mix
  rw [Fin.sum_univ_eq_sum_range (fun c => hid H W s c * hid H W s c * V c d) 4096,
    show 4096 = 1024 + 1024 + 1024 + 1024 from rfl]
  rw [Finset.sum_range_add, Finset.sum_range_add, Finset.sum_range_add]
  simp only [Finset.sum_range]

end Cert.Loss

namespace Cert.KernelLossIdeal.Value

open Cert.KernelLossIdeal Cert.KernelLossIdeal.Gen Cert.Reals Cert.Loss

theorem lit_nil : Ideal.ofBits .f32 0x00000000#32 = ((0 : ℝ) : EReal) := by simp [Ideal.ofBits, Ideal.ieee]
theorem lit_mean : Ideal.ofBits .f32 0x3A800000#32 = ((1 / 1024 : ℝ) : EReal) := by
  simp [Ideal.ofBits, Ideal.ieee, -EReal.coe_mul, -EReal.coe_neg]; try norm_num

section
variable (x0 : Vec Ideal S512x1024 .bf16) (w : Vec Ideal S1x1024x1024 .bf16) (H W : ℕ → ℕ → ℝ) (o : ℕ)
  (h0 : ∀ p q, x0 (ix2 p q) = ((H p q : ℝ) : EReal)) (hw : ∀ u d q, w (ix3 u d q) = ((W d (o + q) : ℝ) : EReal))
include h0 hw

/-- A column shard of the hidden layer. -/
theorem pay2_at (p : Fin 512) (q : Fin 1024) : k0_pay2 (F := Ideal) x0 w (ix2 p q) = ((hid H W p (o + q) : ℝ) : EReal) := by
  pointwise [k0_pay2]
  simp only [h0, hw, lit_nil, ← EReal.coe_mul, coe_sum, ← EReal.coe_strictMono.monotone.map_max]
  rfl
end

/-- The channel mixer's output in a block, as the body writes it. -/
abbrev fBlk (x0 : Vec Ideal S512x1024 .bf16) (x1 : Vec Ideal S4x1024x1024 .bf16) (x2 : Vec Ideal S4096x1024 .bf16) : FVec Ideal S512x1024 .f32 :=
  k0_pay11 (F := Ideal) x0
    (k0_pay6 (F := Ideal) x0
      (View.ld x1 (Rect.unit ![0, 0, 0] ![1, 1024, 1024] inb_S4x1024x1024_S1x1024x1024_0_0_0))
      (View.ld x2 (Rect.unit ![0, 0] ![1024, 1024] inb_S4096x1024_S1024x1024_0_0))
      (View.ld x1 (Rect.unit ![1, 0, 0] ![1, 1024, 1024] inb_S4x1024x1024_S1x1024x1024_1_0_0))
      (View.ld x2 (Rect.unit ![1024, 0] ![1024, 1024] inb_S4096x1024_S1024x1024_1024_0)))
    (View.ld x1 (Rect.unit ![2, 0, 0] ![1, 1024, 1024] inb_S4x1024x1024_S1x1024x1024_2_0_0))
    (View.ld x2 (Rect.unit ![2048, 0] ![1024, 1024] inb_S4096x1024_S1024x1024_2048_0))
    (View.ld x1 (Rect.unit ![3, 0, 0] ![1, 1024, 1024] inb_S4x1024x1024_S1x1024x1024_3_0_0))
    (View.ld x2 (Rect.unit ![3072, 0] ![1024, 1024] inb_S4096x1024_S1024x1024_3072_0))

section
variable (x0 : Vec Ideal S512x1024 .bf16) (x1 : Vec Ideal S4x1024x1024 .bf16) (x2 : Vec Ideal S4096x1024 .bf16) (H W V : ℕ → ℕ → ℝ)
  (h0 : ∀ p q, x0 (ix2 p q) = ((H p q : ℝ) : EReal))
  (h1 : ∀ (k : Fin 4) (d : Fin 1024) (q : Fin 1024), x1 (ix3 k d q) = ((W d (k * 1024 + q) : ℝ) : EReal))
include h0 h1

/-- The four shards the body cuts out of the first weights. -/
theorem shard0 (u : Fin 1) (d q : Fin 1024) :
    (View.ld x1 (Rect.unit ![0, 0, 0] ![1, 1024, 1024] inb_S4x1024x1024_S1x1024x1024_0_0_0) : Vec Ideal S1x1024x1024 .bf16) (ix3 u d q)
      = ((W d (0 + q) : ℝ) : EReal) := by
  pointwise
  simp only [h1]
  rw [show ((0 : Fin 4) : ℕ) = 0 from rfl, zero_mul, zero_add]

theorem shard1 (u : Fin 1) (d q : Fin 1024) :
    (View.ld x1 (Rect.unit ![1, 0, 0] ![1, 1024, 1024] inb_S4x1024x1024_S1x1024x1024_1_0_0) : Vec Ideal S1x1024x1024 .bf16) (ix3 u d q)
      = ((W d (1024 + q) : ℝ) : EReal) := by
  pointwise
  simp only [h1]
  congr 2

theorem shard2 (u : Fin 1) (d q : Fin 1024) :
    (View.ld x1 (Rect.unit ![2, 0, 0] ![1, 1024, 1024] inb_S4x1024x1024_S1x1024x1024_2_0_0) : Vec Ideal S1x1024x1024 .bf16) (ix3 u d q)
      = ((W d (2048 + q) : ℝ) : EReal) := by
  pointwise
  simp only [h1]
  congr 2

theorem shard3 (u : Fin 1) (d q : Fin 1024) :
    (View.ld x1 (Rect.unit ![3, 0, 0] ![1, 1024, 1024] inb_S4x1024x1024_S1x1024x1024_3_0_0) : Vec Ideal S1x1024x1024 .bf16) (ix3 u d q)
      = ((W d (3072 + q) : ℝ) : EReal) := by
  pointwise
  simp only [h1]
  congr 2

variable (h2 : ∀ p q, x2 (ix2 p q) = ((V p q : ℝ) : EReal))
include h2

theorem fBlk_at (p : Fin 512) (d : Fin 1024) : fBlk x0 x1 x2 (ix2 p d) = ((mix H W V p d : ℝ) : EReal) := by
  rw [mix_pieces]
  have a0 := pay2_at x0 _ H W 0 h0 (shard0 x0 x1 H W h0 h1)
  have a1 := pay2_at x0 _ H W 1024 h0 (shard1 x0 x1 H W h0 h1)
  have a2 := pay2_at x0 _ H W 2048 h0 (shard2 x0 x1 H W h0 h1)
  have a3 := pay2_at x0 _ H W 3072 h0 (shard3 x0 x1 H W h0 h1)
  have e4 : k0_pay4 (F := Ideal) = k0_pay2 := rfl
  have e7 : k0_pay7 (F := Ideal) = k0_pay2 := rfl
  have e9 : k0_pay9 (F := Ideal) = k0_pay2 := rfl
  pointwise [fBlk, k0_pay11, k0_pay6, e4, e7, e9]
  simp only [a0, a1, a2, a3, h2, ← EReal.coe_mul, coe_sum, ← EReal.coe_add, zero_add]
end

section
variable (x0 : Vec Ideal S512x1024 .bf16) (v : FVec Ideal S512x1024 .f32) (a b : Vec Ideal S1x1024x1024 .bf16) (y z : Vec Ideal S1024x1024 .bf16)
  (Y : ℕ → ℕ → ℝ) (hf : ∀ p q, k0_pay11 (F := Ideal) x0 v a y b z (ix2 p q) = ((Y p q : ℝ) : EReal))
include hf

/-- A row's mean square. -/
theorem pay12_at (p : Fin 512) (u : Fin 1) :
    k0_pay12 (F := Ideal) x0 v a y b z (ix2 p u) = (((∑ d : Fin 1024, Y p d * Y p d) / 1024 : ℝ) : EReal) := by
  pointwise [k0_pay12]
  simp only [hf, lit_1024, ← EReal.coe_mul, coe_sum, coe_div _ (show (1024 : ℝ) ≠ 0 by norm_num)]
end

section
variable (f : FVec Ideal S512x1024 .f32) (x3 x4 : Vec Ideal S512x1024 .f32) (x5 : Vec Ideal S1x1024 .f32) (ms : FVec Ideal S512x1 .f32)
  (Y X T : ℕ → ℕ → ℝ) (G : ℕ → ℝ) (hf : ∀ p q, f (ix2 p q) = ((Y p q : ℝ) : EReal))
  (hm : ∀ p u, ms (ix2 p u) = (((∑ d : Fin 1024, Y p d * Y p d) / 1024 : ℝ) : EReal))
include hf hm

theorem pay13_at (p : Fin 512) (u : Fin 1) : k0_pay13 (F := Ideal) ms (Ideal.ofBits .f32 0x358637BD#32) (ix2 p u) = ((rinv (Y p) : ℝ) : EReal) := by
  pointwise [k0_pay13]
  simp only [hm, lit_eps, ← EReal.coe_add]
  exact rsqrt_row (Y p)

theorem pay14_at (p : Fin 512) (d : Fin 1024) :
    k0_pay14 (F := Ideal) f ms (Ideal.ofBits .f32 0x358637BD#32) (ix2 p d) = ((Y p d * rinv (Y p) : ℝ) : EReal) := by
  have hr := pay13_at f ms Y hf hm
  pointwise [k0_pay14]
  simp only [hf, hr, ← EReal.coe_mul]

variable (h3 : ∀ p q, x3 (ix2 p q) = ((X p q : ℝ) : EReal)) (h4 : ∀ p q, x4 (ix2 p q) = ((T p q : ℝ) : EReal))
  (h5 : ∀ q, x5 (ix2 0 q) = ((G q : ℝ) : EReal))
include h3 h4 h5

theorem pay15_at (p : Fin 512) (d : Fin 1024) :
    k0_pay15 (F := Ideal) f x5 ms (Ideal.ofBits .f32 0x358637BD#32) x3 x4 (ix2 p d)
      = ((X p d + Y p d * rinv (Y p) * G d - T p d : ℝ) : EReal) := by
  have hn := pay14_at f ms Y hf hm
  pointwise [k0_pay15]
  simp only [hn, h3, h4, h5, ← EReal.coe_mul, ← EReal.coe_add, ← EReal.coe_sub]

/-- A block's part of the loss. -/
theorem pay16_at (u v : Fin 1) :
    k0_pay16 (F := Ideal) f x5 ms (Ideal.ofBits .f32 0x358637BD#32) x3 x4 (ix2 u v)
      = ((∑ p : Fin 512, (∑ d : Fin 1024, (X p d + Y p d * rinv (Y p) * G d - T p d) * (X p d + Y p d * rinv (Y p) * G d - T p d)) / 1024 : ℝ) : EReal) := by
  have he := pay15_at f x3 x4 x5 ms Y X T G hf hm h3 h4 h5
  pointwise [k0_pay16]
  simp only [he, lit_1024, ← EReal.coe_mul, coe_sum, coe_div _ (show (1024 : ℝ) ≠ 0 by norm_num)]

theorem pay19_at (p : Fin 512) (d : Fin 1024) :
    k0_pay19 (F := Ideal) f x5 ms (Ideal.ofBits .f32 0x358637BD#32) x3 x4 (ix2 p d)
      = (((X p d + Y p d * rinv (Y p) * G d - T p d) * (1 / 1024) : ℝ) : EReal) := by
  have he := pay15_at f x3 x4 x5 ms Y X T G hf hm h3 h4 h5
  pointwise [k0_pay19]
  simp only [he, lit_mean, ← EReal.coe_mul]

/-- A block's part of the last norm's weights' gradient. -/
theorem pay21_at (u : Fin 1) (d : Fin 1024) :
    k0_pay21 (F := Ideal) f x5 ms (Ideal.ofBits .f32 0x358637BD#32) x3 x4 (ix2 u d)
      = ((∑ p : Fin 512, (X p d + Y p d * rinv (Y p) * G d - T p d) * (1 / 1024) * (Y p d * rinv (Y p)) : ℝ) : EReal) := by
  have hy := pay19_at f x3 x4 x5 ms Y X T G hf hm h3 h4 h5
  have hn := pay14_at f ms Y hf hm
  pointwise [k0_pay21]
  simp only [hy, hn, ← EReal.coe_mul, coe_sum]

/-- A row of the gradient before the last norm. -/
theorem pay1_at (p : Fin 512) (d : Fin 1024) :
    k0_pay1 (F := Ideal) (k0_pay13 ms (Ideal.ofBits .f32 0x358637BD#32)) (k0_pay14 f ms (Ideal.ofBits .f32 0x358637BD#32))
        (k0_pay24 f x5 ms (Ideal.ofBits .f32 0x358637BD#32) x3 x4) (ix2 p d)
      = ((normGrad (Y p) (fun d => (X p d + Y p d * rinv (Y p) * G d - T p d) * (1 / 1024) * G d) d : ℝ) : EReal) := by
  have hy := pay19_at f x3 x4 x5 ms Y X T G hf hm h3 h4 h5
  have hn := pay14_at f ms Y hf hm
  have hr := pay13_at f ms Y hf hm
  pointwise [k0_pay1, k0_pay24]
  simp only [hy, hn, hr, h5, lit_1024, ← EReal.coe_mul, coe_sum, coe_div _ (show (1024 : ℝ) ≠ 0 by norm_num), ← EReal.coe_sub]
  rfl
end

end Cert.KernelLossIdeal.Value
end
-- ==== Proof.LossRef.lean ====
/- What the reference of the channel mixer's second half, the loss and its gradients computes, over the reals. -/
module

public import proofs.«01_k».proof.Proof.Gen.ReferenceLossIdeal.Read
public import proofs.«01_k».proof.Proof.LossPay

@[expose] public section

set_option maxRecDepth 16384

noncomputable section

open Idealize.ShloMosaic Idealize.ShloMosaic.TcCoe Idealize.SL.Sem

namespace Cert.ReferenceLossIdeal.LossRef

open Cert.ReferenceLossIdeal Cert.ReferenceLossIdeal.Gen Cert.ReferenceLossIdeal.Read Cert.Reals Cert.Loss

theorem lit_nil : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul, -EReal.coe_neg]; try norm_num
theorem lit_half : Ideal.ofBits .f32 0x3F000000#32 = ((1 / 2 : ℝ) : EReal) := by
  simp [Ideal.ofBits, Ideal.ieee, -EReal.coe_mul, -EReal.coe_neg]; try norm_num
theorem lit_two : Ideal.ofBits .f32 0x40000000#32 = ((2 : ℝ) : EReal) := by
  simp [Ideal.ofBits, Ideal.ieee, -EReal.coe_mul, -EReal.coe_neg]; try norm_num

section
variable (x0 : FVec Ideal S2048x1024 .bf16) (x3 : FVec Ideal S1x1024x4096 .f32) (H W : ℕ → ℕ → ℝ)
  (h0 : ∀ (s : Fin 2048) (d : Fin 1024), x0 (ix2 s d) = ((H s d : ℝ) : EReal))
  (h3 : ∀ (u : Fin 1) (d : Fin 1024) (c : Fin 4096), x3 (ix3 u d c) = ((W d c : ℝ) : EReal))
include h0 h3

theorem hid_at (s : Fin 2048) (c : Fin 4096) : val_main_v3 (F := Ideal) x0 x3 (ix2 s c) = ((hid H W s c : ℝ) : EReal) := by
  pointwise [val_main_v3, val_main_v2, val_main_v1, val_main_v0, val_main_call0_v0, val_main_call0_cst]
  simp only [h0, h3, lit_nil, ← EReal.coe_mul, coe_sum, ← EReal.coe_strictMono.monotone.map_max]
  rfl

theorem a1_at (s : Fin 2048) (c : Fin 4096) : val_main_v60 (F := Ideal) x0 x3 (ix2 s c) = ((hid H W s c : ℝ) : EReal) := by
  have h := hid_at x0 x3 H W h0 h3
  pointwise [val_main_v60]
  exact h s c

variable (x4 : FVec Ideal S1x4096x1024 .f32) (V : ℕ → ℕ → ℝ)
  (h4 : ∀ (u : Fin 1) (c : Fin 4096) (d : Fin 1024), x4 (ix3 u c d) = ((V c d : ℝ) : EReal))
include h4

theorem f_at (s : Fin 2048) (d : Fin 1024) : val_main_v6 (F := Ideal) x0 x3 x4 (ix2 s d) = ((mix H W V s d : ℝ) : EReal) := by
  have h := hid_at x0 x3 H W h0 h3
  pointwise [val_main_v6, val_main_v5, val_main_v4]
  simp only [h, h4, ← EReal.coe_mul, coe_sum]
  rfl

theorem ms_at (s : Fin 2048) (u : Fin 1) : val_main_v14 (F := Ideal) x0 x3 x4 (ix2 s u)
    = (((∑ k : Fin 1024, mix H W V s k * mix H W V s k) / 1024 + eps : ℝ) : EReal) := by
  have h := f_at x0 x3 H W h0 h3 x4 V h4
  pointwise [val_main_v14, val_main_v13, val_main_cst_1, val_main_v12, val_main_v11, val_main_cst_0, val_main_v10, val_main_v9, val_main_cst, val_main_v8]
  simp only [h, lit_1024, lit_eps, ← EReal.coe_mul, coe_sum, coe_div _ (show (1024 : ℝ) ≠ 0 by norm_num), ← EReal.coe_add]

theorem r_at (s : Fin 2048) (u : Fin 1) : val_main_v15 (F := Ideal) x0 x3 x4 (ix2 s u) = ((rinv (mix H W V s) : ℝ) : EReal) := by
  have h := ms_at x0 x3 H W h0 h3 x4 V h4
  pointwise [val_main_v15]
  simp only [h]
  exact rsqrt_row (mix H W V s)

theorem half_at (s : Fin 2048) (u : Fin 1) : val_main_v18 (F := Ideal) x0 x3 x4 (ix2 s u)
    = ((-(1 / 2) * (rinv (mix H W V s) / ((∑ k : Fin 1024, mix H W V s k * mix H W V s k) / 1024 + eps)) : ℝ) : EReal) := by
  have hm := ms_at x0 x3 H W h0 h3 x4 V h4
  have hr := r_at x0 x3 H W h0 h3 x4 V h4
  pointwise [val_main_v18, val_main_v17, val_main_cst_2, val_main_v16]
  simp only [hr, hm, lit_neg_half, coe_div _ (ms_pos (mix H W V s)).ne', ← EReal.coe_mul]

theorem fn_at (s : Fin 2048) (d : Fin 1024) :
    val_main_v20 (F := Ideal) x0 x3 x4 (ix2 s d) = ((mix H W V s d * rinv (mix H W V s) : ℝ) : EReal) := by
  have hf := f_at x0 x3 H W h0 h3 x4 V h4
  have hr := r_at x0 x3 H W h0 h3 x4 V h4
  pointwise [val_main_v20, val_main_v19]
  simp only [hf, hr, ← EReal.coe_mul]

variable (x1 x2 : FVec Ideal S2048x1024 .f32) (x5 : FVec Ideal S1x1024 .f32) (X T : ℕ → ℕ → ℝ) (G : ℕ → ℝ)
  (h1 : ∀ (s : Fin 2048) (d : Fin 1024), x1 (ix2 s d) = ((X s d : ℝ) : EReal))
  (h2 : ∀ (s : Fin 2048) (d : Fin 1024), x2 (ix2 s d) = ((T s d : ℝ) : EReal))
  (h5 : ∀ (u : Fin 1) (d : Fin 1024), x5 (ix2 u d) = ((G d : ℝ) : EReal))
include h1 h2 h5

theorem err_at (s : Fin 2048) (d : Fin 1024) :
    val_main_v25 (F := Ideal) x0 x1 x2 x3 x4 x5 (ix2 s d) = ((err H W V X T G s d : ℝ) : EReal) := by
  have hn := fn_at x0 x3 H W h0 h3 x4 V h4
  pointwise [val_main_v25, val_main_v24, val_main_v23, val_main_v22, val_main_v21, val_main_v7]
  simp only [hn, h1, h2, h5, ← EReal.coe_mul, ← EReal.coe_add, ← EReal.coe_sub]
  rfl

/-- The loss. -/
theorem total_at (u v : Fin 1) : val_main_v61 (F := Ideal) x0 x1 x2 x3 x4 x5 (ix2 u v)
    = ((∑ s : Fin 2048, (∑ d : Fin 1024, err H W V X T G s d * err H W V X T G s d) / 1024 : ℝ) : EReal) := by
  have he := err_at x0 x3 H W h0 h3 x4 V h4 x1 x2 x5 X T G h1 h2 h5
  pointwise [val_main_v61, val_main_v32, val_main_cst_6, val_main_v31, val_main_v30, val_main_cst_5, val_main_v29, val_main_cst_4, val_main_v26]
  simp only [he, lit_1024, ← EReal.coe_mul, coe_sum, coe_div _ (show (1024 : ℝ) ≠ 0 by norm_num)]

theorem dy_at (s : Fin 2048) (d : Fin 1024) :
    val_main_v39 (F := Ideal) x0 x1 x2 x3 x4 x5 (ix2 s d) = ((dy H W V X T G s d : ℝ) : EReal) := by
  have he := err_at x0 x3 H W h0 h3 x4 V h4 x1 x2 x5 X T G h1 h2 h5
  pointwise [val_main_v39, val_main_v38, val_main_v37, val_main_v36, val_main_cst_10, val_main_v35, val_main_v34, val_main_cst_9, val_main_cst_8,
    val_main_v28, val_main_v27, val_main_cst_3]
  simp only [he, lit_1024, lit_half, lit_one, lit_two, ← EReal.coe_mul, coe_div _ (show (1024 : ℝ) ≠ 0 by norm_num)]
  refine congrArg Real.toEReal ?_
  unfold dy
  ring

/-- The last norm's weights' gradient. -/
theorem dg_at (u : Fin 1) (d : Fin 1024) : val_main_v63 (F := Ideal) x0 x1 x2 x3 x4 x5 (ix2 u d)
    = ((∑ s : Fin 2048, dy H W V X T G s d * (mix H W V s d * rinv (mix H W V s)) : ℝ) : EReal) := by
  have hy := dy_at x0 x3 H W h0 h3 x4 V h4 x1 x2 x5 X T G h1 h2 h5
  have hn := fn_at x0 x3 H W h0 h3 x4 V h4
  pointwise [val_main_v63, val_main_v45, val_main_cst_12, val_main_v42, val_main_v41, val_main_cst_11, val_main_v40]
  simp only [hy, hn, ← EReal.coe_mul, coe_sum]
  refine congrArg Real.toEReal ((Fin.sum_univ_one _).trans ?_)
  exact Finset.sum_congr rfl fun s _ => mul_comm _ _

theorem t_at (s : Fin 2048) (d : Fin 1024) :
    val_main_v44 (F := Ideal) x0 x1 x2 x3 x4 x5 (ix2 s d) = ((dy H W V X T G s d * G d : ℝ) : EReal) := by
  have hy := dy_at x0 x3 H W h0 h3 x4 V h4 x1 x2 x5 X T G h1 h2 h5
  pointwise [val_main_v44, val_main_v43, val_main_v21, val_main_v7]
  simp only [hy, h5, ← EReal.coe_mul]

theorem ms_grad_at (s : Fin 2048) (d : Fin 1024) : val_main_v55 (F := Ideal) x0 x1 x2 x3 x4 x5 (ix2 s d)
    = (((∑ k : Fin 1024, mix H W V s k * (dy H W V X T G s k * G k))
        * (-(1 / 2) * (rinv (mix H W V s) / ((∑ k : Fin 1024, mix H W V s k * mix H W V s k) / 1024 + eps))) / 1024 : ℝ) : EReal) := by
  have ht := t_at x0 x3 H W h0 h3 x4 V h4 x1 x2 x5 X T G h1 h2 h5
  have hf := f_at x0 x3 H W h0 h3 x4 V h4
  have hh := half_at x0 x3 H W h0 h3 x4 V h4
  pointwise [val_main_v55, val_main_v54, val_main_cst_15, val_main_v53, val_main_v52, val_main_cst_14, val_main_v51, val_main_v48, val_main_v47,
    val_main_cst_13, val_main_v46]
  refine (Fin.sum_univ_one _).trans ?_
  simp only [hh, ht, hf, lit_1024, ← EReal.coe_mul, coe_sum, coe_div _ (show (1024 : ℝ) ≠ 0 by norm_num)]

/-- The gradient before the last norm. -/
theorem df_at (s : Fin 2048) (d : Fin 1024) : val_main_v62 (F := Ideal) x0 x1 x2 x3 x4 x5 (ix2 s d)
    = ((normGrad (mix H W V s) (fun d => dy H W V X T G s d * G d) d : ℝ) : EReal) := by
  have ht := t_at x0 x3 H W h0 h3 x4 V h4 x1 x2 x5 X T G h1 h2 h5
  have hf := f_at x0 x3 H W h0 h3 x4 V h4
  have hm := ms_grad_at x0 x3 H W h0 h3 x4 V h4 x1 x2 x5 X T G h1 h2 h5
  have hr := r_at x0 x3 H W h0 h3 x4 V h4
  pointwise [val_main_v62, val_main_v59, val_main_v58, val_main_v57, val_main_v56, val_main_v50, val_main_v49]
  simp only [ht, hm, hr, hf, ← EReal.coe_mul, ← EReal.coe_add]
  rw [← normGrad_halves]

end
end Cert.ReferenceLossIdeal.LossRef
end
-- ==== Proof.LossKernel.lean ====
/- What the five result arrays of the channel mixer's second half hold after the run. -/
module

public import proofs.«01_k».proof.Proof.LossPay

@[expose] public section

set_option maxRecDepth 16384

noncomputable section

open Idealize.ShloMosaic Idealize.ShloMosaic.TcCoe Idealize.SL.Sem
open Idealize.ShloMosaic.Pipeline (Dat)

namespace Cert.KernelLossIdeal.Value

open Cert.KernelLossIdeal Cert.KernelLossIdeal.Gen Cert.Reals Cert.Loss

theorem idx : ∀ t : Fin cfg0.N, win0_0.index t = ![t.val, 0] ∧ win0_1.index t = ![0, 0, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] ∧ t.val < 4 :=
  (by decide +kernel : ∀ t : Fin grid0.N, _)

theorem lt4 (t : Fin cfg0.N) : t.val < 4 := (idx t).2.2.2.2.2.2.2.2.2.2.2

theorem pay20_eq (f : FVec Ideal S512x1024 .f32) (g : Vec Ideal S1x1024 .f32) (ms : FVec Ideal S512x1 .f32) (e : Ideal .f32) (x y : Vec Ideal S512x1024 .f32) :
    k0_pay20 (F := Ideal) f g ms e x y = k0_pay19 f g ms e x y := by
  unfold k0_pay20; exact shapeCast_self _ _

theorem pay17_eq (f : FVec Ideal S512x1024 .f32) (g : Vec Ideal S1x1024 .f32) (ms : FVec Ideal S512x1 .f32) (e : Ideal .f32) (x y : Vec Ideal S512x1024 .f32) :
    k0_pay17 (F := Ideal) f g ms e x y = k0_pay16 f g ms e x y := by
  unfold k0_pay17; exact shapeCast_self _ _

theorem pay22_eq (f : FVec Ideal S512x1024 .f32) (g : Vec Ideal S1x1024 .f32) (ms : FVec Ideal S512x1 .f32) (e : Ideal .f32) (x y : Vec Ideal S512x1024 .f32) :
    k0_pay22 (F := Ideal) f g ms e x y = k0_pay21 f g ms e x y := by
  unfold k0_pay22; exact shapeCast_self _ _

theorem pay18_eq (f : FVec Ideal S512x1024 .f32) (g : Vec Ideal S1x1024 .f32) (ms : FVec Ideal S512x1 .f32) (e : Ideal .f32) (x y : Vec Ideal S512x1024 .f32)
    (o : Vec Ideal S1x1 .f32) : k0_pay18 (F := Ideal) f g ms e x y o = fun i => o i + k0_pay16 f g ms e x y i := by
  unfold k0_pay18; exact shapeCast_self _ _

theorem pay23_eq (f : FVec Ideal S512x1024 .f32) (g : Vec Ideal S1x1024 .f32) (ms : FVec Ideal S512x1 .f32) (e : Ideal .f32) (x y : Vec Ideal S512x1024 .f32)
    (o : Vec Ideal S1x1024 .f32) : k0_pay23 (F := Ideal) f g ms e x y o = fun i => o i + k0_pay21 f g ms e x y i := by
  unfold k0_pay23; exact shapeCast_self _ _

section
variable (m : (ℓ : Loc nD τ sig) → Buf (Elt Ideal) ℓ) (c : Dev nD) (H W V X T : ℕ → ℕ → ℝ) (G : ℕ → ℝ)

/-- The argument arrays are the images of real ones. -/
structure Args : Prop where
  hH : ∀ (p : Fin 2048) (q : Fin 1024), (m ((c : Thread nD τ).loc main_arg0) : FVec Ideal S2048x1024 .bf16) (ix2 p q) = ((H p q : ℝ) : EReal)
  hX : ∀ (p : Fin 2048) (q : Fin 1024), (m ((c : Thread nD τ).loc main_arg1) : FVec Ideal S2048x1024 .f32) (ix2 p q) = ((X p q : ℝ) : EReal)
  hT : ∀ (p : Fin 2048) (q : Fin 1024), (m ((c : Thread nD τ).loc main_arg2) : FVec Ideal S2048x1024 .f32) (ix2 p q) = ((T p q : ℝ) : EReal)
  hW : ∀ (u : Fin 1) (p : Fin 1024) (q : Fin 4096), (m ((c : Thread nD τ).loc main_arg3) : FVec Ideal S1x1024x4096 .f32) (ix3 u p q) = ((W p q : ℝ) : EReal)
  hV : ∀ (u : Fin 1) (p : Fin 4096) (q : Fin 1024), (m ((c : Thread nD τ).loc main_arg4) : FVec Ideal S1x4096x1024 .f32) (ix3 u p q) = ((V p q : ℝ) : EReal)
  hG : ∀ (u : Fin 1) (q : Fin 1024), (m ((c : Thread nD τ).loc main_arg5) : FVec Ideal S1x1024 .f32) (ix2 u q) = ((G q : ℝ) : EReal)

variable (A : Args m c H W V X T G)
include A

theorem b0 (t : Fin cfg0.N) (p : Fin 512) (q : Fin 1024) :
    (iblk m c 0 t : Vec Ideal S512x1024 .bf16) (ix2 p q) = ((H (t * 512 + p) q : ℝ) : EReal) := by
  have ht := lt4 t
  refine Eq.trans ?_ (A.hH ⟨t * 512 + p, by omega⟩ q)
  blk_ext [iblk, Gen.V, idx t]

theorem b1 (t : Fin cfg0.N) (k : Fin 4) (d : Fin 1024) (q : Fin 1024) :
    (iblk m c 1 t : Vec Ideal S4x1024x1024 .bf16) (ix3 k d q) = ((W d (k * 1024 + q) : ℝ) : EReal) := by
  have ht := lt4 t
  refine Eq.trans ?_ (A.hW 0 d ⟨k * 1024 + q, by omega⟩)
  blk_simp [iblk, idx t]
  entry_read
  pointwise
  blk_ext [Gen.V, idx t]

theorem b2 (t : Fin cfg0.N) (p : Fin 4096) (q : Fin 1024) :
    (iblk m c 2 t : Vec Ideal S4096x1024 .bf16) (ix2 p q) = ((V p q : ℝ) : EReal) := by
  have ht := lt4 t
  refine Eq.trans ?_ (A.hV 0 p q)
  blk_simp [iblk, idx t]
  entry_read
  pointwise
  blk_ext [Gen.V, idx t]

theorem b3 (t : Fin cfg0.N) (p : Fin 512) (q : Fin 1024) :
    (iblk m c 3 t : Vec Ideal S512x1024 .f32) (ix2 p q) = ((X (t * 512 + p) q : ℝ) : EReal) := by
  have ht := lt4 t
  refine Eq.trans ?_ (A.hX ⟨t * 512 + p, by omega⟩ q)
  blk_ext [iblk, Gen.V, idx t]

theorem b4 (t : Fin cfg0.N) (p : Fin 512) (q : Fin 1024) :
    (iblk m c 4 t : Vec Ideal S512x1024 .f32) (ix2 p q) = ((T (t * 512 + p) q : ℝ) : EReal) := by
  have ht := lt4 t
  refine Eq.trans ?_ (A.hT ⟨t * 512 + p, by omega⟩ q)
  blk_ext [iblk, Gen.V, idx t]

theorem b5 (t : Fin cfg0.N) (q : Fin 1024) : (iblk m c 5 t : Vec Ideal S1x1024 .f32) (ix2 0 q) = ((G q : ℝ) : EReal) := by
  refine Eq.trans ?_ (A.hG 0 q)
  blk_ext [iblk, Gen.V, idx t]

/-- The channel mixer's output in a block. -/
theorem F_at (t : Fin cfg0.N) (p : Fin 512) (d : Fin 1024) :
    fBlk (iblk m c 0 t) (iblk m c 1 t) (iblk m c 2 t) (ix2 p d) = ((mix H W V (t * 512 + p) d : ℝ) : EReal) :=
  fBlk_at _ _ _ (fun p q => H (t * 512 + p) q) W V (b0 m c _ _ _ _ _ _ A t) (b1 m c _ _ _ _ _ _ A t) (b2 m c _ _ _ _ _ _ A t) p d

/-- What a block of the loss's gradient in the output holds. -/
theorem block8 (t : Fin cfg0.N) (p : Fin 512) (d : Fin 1024) :
    (outsAt0 m c t.val t.isLt).2.2.1 (ix2 p d) = ((dy H W V X T G (t * 512 + p) d : ℝ) : EReal) := by
  by_cases h0 : t.val % 4 = 0
  · rw [outsAt0_A m c t h0 (by have := lt4 t; omega) h0 (by have := lt4 t; omega)]
    frame_out
    exact (congrFun (pay20_eq _ _ _ _ _ _) _).trans (pay19_at _ _ _ _ _ (fun p q => mix H W V (t * 512 + p) q) (fun p q => X (t * 512 + p) q) (fun p q => T (t * 512 + p) q) G (F_at m c _ _ _ _ _ _ A t)
      (pay12_at _ _ _ _ _ _ (fun p q => mix H W V (t * 512 + p) q) (F_at m c _ _ _ _ _ _ A t)) (b3 m c _ _ _ _ _ _ A t) (b4 m c _ _ _ _ _ _ A t) (b5 m c _ _ _ _ _ _ A t) p d)
  · rw [outsAt0_B m c t h0 (by omega) h0 (by omega)]
    frame_out
    exact (congrFun (pay20_eq _ _ _ _ _ _) _).trans (pay19_at _ _ _ _ _ (fun p q => mix H W V (t * 512 + p) q) (fun p q => X (t * 512 + p) q) (fun p q => T (t * 512 + p) q) G (F_at m c _ _ _ _ _ _ A t)
      (pay12_at _ _ _ _ _ _ (fun p q => mix H W V (t * 512 + p) q) (F_at m c _ _ _ _ _ _ A t)) (b3 m c _ _ _ _ _ _ A t) (b4 m c _ _ _ _ _ _ A t) (b5 m c _ _ _ _ _ _ A t) p d)

/-- What a block of the gradient before the last norm holds. -/
theorem block9 (t : Fin cfg0.N) (p : Fin 512) (d : Fin 1024) :
    (outsAt0 m c t.val t.isLt).2.2.2.1 (ix2 p d)
      = ((normGrad (mix H W V (t * 512 + p)) (fun d => dy H W V X T G (t * 512 + p) d * G d) d : ℝ) : EReal) := by
  by_cases h0 : t.val % 4 = 0
  · rw [outsAt0_A m c t h0 (by have := lt4 t; omega) h0 (by have := lt4 t; omega)]
    frame_out
    exact pay1_at _ _ _ _ _ (fun p q => mix H W V (t * 512 + p) q) (fun p q => X (t * 512 + p) q) (fun p q => T (t * 512 + p) q) G (F_at m c _ _ _ _ _ _ A t)
      (pay12_at _ _ _ _ _ _ (fun p q => mix H W V (t * 512 + p) q) (F_at m c _ _ _ _ _ _ A t)) (b3 m c _ _ _ _ _ _ A t) (b4 m c _ _ _ _ _ _ A t) (b5 m c _ _ _ _ _ _ A t) p d
  · rw [outsAt0_B m c t h0 (by omega) h0 (by omega)]
    frame_out
    exact pay1_at _ _ _ _ _ (fun p q => mix H W V (t * 512 + p) q) (fun p q => X (t * 512 + p) q) (fun p q => T (t * 512 + p) q) G (F_at m c _ _ _ _ _ _ A t)
      (pay12_at _ _ _ _ _ _ (fun p q => mix H W V (t * 512 + p) q) (F_at m c _ _ _ _ _ _ A t)) (b3 m c _ _ _ _ _ _ A t) (b4 m c _ _ _ _ _ _ A t) (b5 m c _ _ _ _ _ _ A t) p d

/-- The hidden layer's block, stored shard by shard. -/
theorem hid_tiles (t : Fin cfg0.N) (p : Fin 512) (q : Fin 4096) :
    (View.canon (s := S512x4096) (e := .bf16) (Val := Elt Ideal)
      [⟨Rect.unit ![0, 3072] ![512, 1024] inb_S512x4096_S512x1024_0_3072,
          k0_pay10 (F := Ideal) (iblk m c 0 t) (View.ld (iblk m c 1 t) (Rect.unit ![3, 0, 0] ![1, 1024, 1024] inb_S4x1024x1024_S1x1024x1024_3_0_0))⟩,
        ⟨Rect.unit ![0, 2048] ![512, 1024] inb_S512x4096_S512x1024_0_2048,
          k0_pay8 (F := Ideal) (iblk m c 0 t) (View.ld (iblk m c 1 t) (Rect.unit ![2, 0, 0] ![1, 1024, 1024] inb_S4x1024x1024_S1x1024x1024_2_0_0))⟩,
        ⟨Rect.unit ![0, 1024] ![512, 1024] inb_S512x4096_S512x1024_0_1024,
          k0_pay5 (F := Ideal) (iblk m c 0 t) (View.ld (iblk m c 1 t) (Rect.unit ![1, 0, 0] ![1, 1024, 1024] inb_S4x1024x1024_S1x1024x1024_1_0_0))⟩,
        ⟨Rect.unit ![0, 0] ![512, 1024] inb_S512x4096_S512x1024_0_0,
          k0_pay3 (F := Ideal) (iblk m c 0 t) (View.ld (iblk m c 1 t) (Rect.unit ![0, 0, 0] ![1, 1024, 1024] inb_S4x1024x1024_S1x1024x1024_0_0_0))⟩] : Vec Ideal S512x4096 .bf16)
      (ix2 p q) = ((hid H W (t * 512 + p) q : ℝ) : EReal) := by
  have a0 := b0 m c _ _ _ _ _ _ A t
  have a1 := b1 m c _ _ _ _ _ _ A t
  have e3 : ∀ a w, k0_pay3 (F := Ideal) a w = k0_pay2 a w := fun a w => shapeCast_self _ _
  have e5 : ∀ a w, k0_pay5 (F := Ideal) a w = k0_pay2 a w := fun a w => shapeCast_self _ _
  have e8 : ∀ a w, k0_pay8 (F := Ideal) a w = k0_pay2 a w := fun a w => shapeCast_self _ _
  have e10 : ∀ a w, k0_pay10 (F := Ideal) a w = k0_pay2 a w := fun a w => shapeCast_self _ _
  canon_tiles x h
  all_goals
    rw [eq_ix2 x]
    change (p : ℕ) = _ at h0
    change (q : ℕ) = _ at h1
  · refine (congrFun (e10 _ _) _).trans ((pay2_at _ _ (fun p q => H (t * 512 + p) q) W 3072 a0 (shard3 (iblk m c 0 t) _ (fun p q => H (t * 512 + p) q) W a0 a1) (x 0) (x 1)).trans ?_)
    rw [show (q : ℕ) = 3072 + (x 1).val by omega, show (p : ℕ) = (x 0).val by omega]; rfl
  · refine (congrFun (e8 _ _) _).trans ((pay2_at _ _ (fun p q => H (t * 512 + p) q) W 2048 a0 (shard2 (iblk m c 0 t) _ (fun p q => H (t * 512 + p) q) W a0 a1) (x 0) (x 1)).trans ?_)
    rw [show (q : ℕ) = 2048 + (x 1).val by omega, show (p : ℕ) = (x 0).val by omega]; rfl
  · refine (congrFun (e5 _ _) _).trans ((pay2_at _ _ (fun p q => H (t * 512 + p) q) W 1024 a0 (shard1 (iblk m c 0 t) _ (fun p q => H (t * 512 + p) q) W a0 a1) (x 0) (x 1)).trans ?_)
    rw [show (q : ℕ) = 1024 + (x 1).val by omega, show (p : ℕ) = (x 0).val by omega]; rfl
  · refine (congrFun (e3 _ _) _).trans ((pay2_at _ _ (fun p q => H (t * 512 + p) q) W 0 a0 (shard0 (iblk m c 0 t) _ (fun p q => H (t * 512 + p) q) W a0 a1) (x 0) (x 1)).trans ?_)
    rw [show (q : ℕ) = 0 + (x 1).val by omega, show (p : ℕ) = (x 0).val by omega]; rfl

/-- What a block of the hidden layer holds. -/
theorem block6 (t : Fin cfg0.N) (p : Fin 512) (q : Fin 4096) :
    (outsAt0 m c t.val t.isLt).1 (ix2 p q) = ((hid H W (t * 512 + p) q : ℝ) : EReal) := by
  by_cases h0 : t.val % 4 = 0
  · rw [outsAt0_A m c t h0 (by have := lt4 t; omega) h0 (by have := lt4 t; omega)]
    frame_out
    exact hid_tiles m c H W V X T G A t p q
  · rw [outsAt0_B m c t h0 (by omega) h0 (by omega)]
    frame_out
    exact hid_tiles m c H W V X T G A t p q

/-- The hidden layer. -/
theorem final6 : (dats m 0 c).arrAt 6 (cfgs 0).N = fun i : S2048x4096.Idx => ((hid H W (i 0).val (i 1).val : ℝ) : EReal) := by
  refine (dats m 0 c).arrAt_eq_of_covers 6 _ (by decide +kernel) fun t _ y => ?_
  blk_simp [idx t]
  rw [after0_6]
  refine (congrArg (outsAt0 m c t.val t.isLt).1 (ix2_eta y).symm).trans ((block6 m c H W V X T G A t (y 0) (y 1)).trans ?_)
  rfl

/-- The loss's gradient in the step's output. -/
theorem final8 : (dats m 0 c).arrAt 8 (cfgs 0).N = fun i : S2048x1024.Idx => ((dy H W V X T G (i 0).val (i 1).val : ℝ) : EReal) := by
  refine (dats m 0 c).arrAt_eq_of_covers 8 _ (by decide +kernel) fun t _ y => ?_
  blk_simp [idx t]
  rw [after0_8]
  refine (congrArg (outsAt0 m c t.val t.isLt).2.2.1 (ix2_eta y).symm).trans ((block8 m c H W V X T G A t (y 0) (y 1)).trans ?_)
  rfl

/-- The gradient before the last norm. -/
theorem final9 : (dats m 0 c).arrAt 9 (cfgs 0).N = fun i : S2048x1024.Idx => ((normGrad (mix H W V (i 0).val) (fun d => dy H W V X T G (i 0).val d * G d) (i 1).val : ℝ) : EReal) := by
  refine (dats m 0 c).arrAt_eq_of_covers 9 _ (by decide +kernel) fun t _ y => ?_
  blk_simp [idx t]
  rw [after0_9]
  refine (congrArg (outsAt0 m c t.val t.isLt).2.2.2.1 (ix2_eta y).symm).trans ((block9 m c H W V X T G A t (y 0) (y 1)).trans ?_)
  rfl

/-- The loss after point `n`: the sum over the rows so far. -/
theorem acc7 : ∀ (n : ℕ) (hn : n < cfg0.N) (u : Fin 1) (v : Fin 1), (outsAt0 m c n hn).2.1 (ix2 u v)
    = ((∑ s ∈ Finset.range ((n + 1) * 512), (∑ d : Fin 1024, err H W V X T G s d * err H W V X T G s d) / 1024 : ℝ) : EReal) := by
  have part (t : Fin cfg0.N) (u : Fin 1) (v : Fin 1) := pay16_at _ _ _ _ _ (fun p q => mix H W V (t * 512 + p) q) (fun p q => X (t * 512 + p) q) (fun p q => T (t * 512 + p) q) G (F_at m c _ _ _ _ _ _ A t)
      (pay12_at _ _ _ _ _ _ (fun p q => mix H W V (t * 512 + p) q) (F_at m c _ _ _ _ _ _ A t)) (b3 m c _ _ _ _ _ _ A t) (b4 m c _ _ _ _ _ _ A t) (b5 m c _ _ _ _ _ _ A t) u v
  intro n
  induction n with
  | zero =>
    intro hn u v
    rw [outsAt0_A m c ⟨0, hn⟩ (by simp) (by simp) (by simp) (by simp)]
    frame_out
    refine Eq.trans (congrFun (pay17_eq _ _ _ _ _ _) _) ((part ⟨0, hn⟩ u v).trans (congrArg Real.toEReal ?_))
    simp only [Finset.sum_range, zero_mul, zero_add, one_mul]
    rfl
  | succ n ih =>
    intro hn u v
    have hN := lt4 ⟨n + 1, hn⟩
    rw [outsAt0_B m c ⟨n + 1, hn⟩ (by dsimp only at hN ⊢; omega) (by simp) (by dsimp only at hN ⊢; omega) (by simp)]
    frame_out
    refine Eq.trans (congrFun (pay18_eq _ _ _ _ _ _ _) _) ((congrArg₂ (fun a b : EReal => a + b) (ih _ u v) (part ⟨n + 1, hn⟩ u v)).trans ?_)
    rw [← EReal.coe_add, add_mul (n + 1) 1 512, one_mul, Finset.sum_range_add, Finset.sum_range (n := 512)]
    rfl

/-- The loss. -/
theorem final7 : (dats m 0 c).arrAt 7 (cfgs 0).N = fun i : S1x1.Idx => ((∑ s : Fin 2048, (∑ d : Fin 1024, err H W V X T G s d * err H W V X T G s d) / 1024 : ℝ) : EReal) := by
  refine (dats m 0 c).arrAt_eq_of_after_last 7 t0_3 (by decide +kernel) _ fun y => ?_
  blk_simp
  rw [after0_7]
  refine (congrArg (outsAt0 m c t0_3.val t0_3.isLt).2.1 (ix2_eta y).symm).trans ?_
  refine (acc7 m c H W V X T G A _ t0_3.isLt (y 0) (y 1)).trans (congrArg Real.toEReal ?_)
  rw [show (t0_3.val + 1) * 512 = 2048 from rfl, Finset.sum_range]

/-- The last norm's weights' gradient after point `n`: the sum over the rows so far. -/
theorem acc10 : ∀ (n : ℕ) (hn : n < cfg0.N) (u : Fin 1) (d : Fin 1024), (outsAt0 m c n hn).2.2.2.2 (ix2 u d)
    = ((∑ s ∈ Finset.range ((n + 1) * 512), dy H W V X T G s d * (mix H W V s d * rinv (mix H W V s)) : ℝ) : EReal) := by
  have part (t : Fin cfg0.N) (u : Fin 1) (d : Fin 1024) := pay21_at _ _ _ _ _ (fun p q => mix H W V (t * 512 + p) q) (fun p q => X (t * 512 + p) q) (fun p q => T (t * 512 + p) q) G (F_at m c _ _ _ _ _ _ A t)
      (pay12_at _ _ _ _ _ _ (fun p q => mix H W V (t * 512 + p) q) (F_at m c _ _ _ _ _ _ A t)) (b3 m c _ _ _ _ _ _ A t) (b4 m c _ _ _ _ _ _ A t) (b5 m c _ _ _ _ _ _ A t) u d
  intro n
  induction n with
  | zero =>
    intro hn u d
    rw [outsAt0_A m c ⟨0, hn⟩ (by simp) (by simp) (by simp) (by simp)]
    frame_out
    refine Eq.trans (congrFun (pay22_eq _ _ _ _ _ _) _) ((part ⟨0, hn⟩ u d).trans (congrArg Real.toEReal ?_))
    simp only [Finset.sum_range, zero_mul, zero_add, one_mul]
    rfl
  | succ n ih =>
    intro hn u d
    have hN := lt4 ⟨n + 1, hn⟩
    rw [outsAt0_B m c ⟨n + 1, hn⟩ (by dsimp only at hN ⊢; omega) (by simp) (by dsimp only at hN ⊢; omega) (by simp)]
    frame_out
    refine Eq.trans (congrFun (pay23_eq _ _ _ _ _ _ _) _) ((congrArg₂ (fun a b : EReal => a + b) (ih _ u d) (part ⟨n + 1, hn⟩ u d)).trans ?_)
    rw [← EReal.coe_add, add_mul (n + 1) 1 512, one_mul, Finset.sum_range_add, Finset.sum_range (n := 512)]
    rfl

/-- The last norm's weights' gradient. -/
theorem final10 : (dats m 0 c).arrAt 10 (cfgs 0).N = fun i : S1x1024.Idx => ((∑ s : Fin 2048, dy H W V X T G s (i 1).val * (mix H W V s (i 1).val * rinv (mix H W V s)) : ℝ) : EReal) := by
  refine (dats m 0 c).arrAt_eq_of_after_last 10 t0_3 (by decide +kernel) _ fun y => ?_
  blk_simp
  rw [after0_10]
  refine (congrArg (outsAt0 m c t0_3.val t0_3.isLt).2.2.2.2 (ix2_eta y).symm).trans ?_
  refine (acc10 m c H W V X T G A _ t0_3.isLt (y 0) (y 1)).trans (congrArg Real.toEReal ?_)
  rw [show (t0_3.val + 1) * 512 = 2048 from rfl, Finset.sum_range]

end
end Cert.KernelLossIdeal.Value
end
-- ==== Proof.LossEq.lean ====
/- The two programs of the channel mixer's second half, the loss and its gradients end with the same arrays. -/
module

public import proofs.«01_k».proof.Defs
public import proofs.«01_k».proof.Proof.Gen.Pre_finite_loss
public import proofs.«01_k».proof.Proof.Gen.ReferenceLossIdeal.Run
public import proofs.«01_k».proof.Proof.Gen.KernelLossIdeal.Value
public import proofs.«01_k».proof.Proof.LossRef
public import proofs.«01_k».proof.Proof.LossKernel

@[expose] public section

set_option maxRecDepth 16384

noncomputable section

open Idealize.ShloMosaic Idealize.ShloMosaic.TcCoe Idealize.SL.Sem

namespace Cert.Loss

open Cert.Reals

/-- Finite arguments are the images of real arrays. -/
theorem args (m : (ℓ : Loc Cert.KernelLossIdeal.nD Cert.KernelLossIdeal.τ Cert.KernelLossIdeal.sig) → Buf (Elt Ideal) ℓ)
    (h : Cert.Pre_KernelLossIdeal_finite_loss (hPre_finite_loss := Cert.Pre_finite_loss.Gen.facts) m) (c : Dev Cert.KernelLossIdeal.nD) :
    ∃ H W V X T G, Cert.KernelLossIdeal.Value.Args m c H W V X T G := by
  obtain ⟨e0, e1, e2, e3, e4, e5⟩ := h c
  obtain ⟨H, hH⟩ := exists_real2 _ (real_of_finite _ _ e0)
  obtain ⟨X, hX⟩ := exists_real2 _ (real_of_finite _ _ e1)
  obtain ⟨T, hT⟩ := exists_real2 _ (real_of_finite _ _ e2)
  obtain ⟨W, hW⟩ := exists_real3 _ (real_of_finite _ _ e3)
  obtain ⟨V, hV⟩ := exists_real3 _ (real_of_finite _ _ e4)
  obtain ⟨G, hG⟩ := exists_real2 _ (real_of_finite _ _ e5)
  refine ⟨H, W 0, V 0, X, T, G 0, ⟨hH, hX, hT, fun u p q => ?_, fun u p q => ?_, fun u q => ?_⟩⟩
  · have := hW u p q; rwa [show (u : ℕ) = 0 from by omega] at this
  · have := hV u p q; rwa [show (u : ℕ) = 0 from by omega] at this
  · have := hG u q; rwa [show (u : ℕ) = 0 from by omega] at this

/-- The reference runs and leaves its arguments as they were. -/
theorem frame_reference : Cert.quiescent_ReferenceLossIdeal (hReferenceLossIdeal := Cert.ReferenceLossIdeal.Gen.facts) := fun m g _ =>
  (θ_run Cert.ReferenceLossIdeal.defs _ _).mono (fun r h => ⟨fun c => (h c).2.2.2.2.2, sem_eq_zero_of_no_sems (by decide) r.2⟩)
    (Cert.ReferenceLossIdeal.Value.run (F := Ideal) m g)

theorem algebraic : Cert.algebraic_KernelLossIdeal_ReferenceLossIdeal_pre_finite_loss (hKernelLossIdeal := Cert.KernelLossIdeal.Gen.facts)
    (hReferenceLossIdeal := Cert.ReferenceLossIdeal.Gen.facts) (hPre_finite_loss := Cert.Pre_finite_loss.Gen.facts) := by
  intro m g m' g' hpre hargs
  refine ⟨fun c => (Cert.KernelLossIdeal.Gen.dats m 0 c).arrAt 6 (Cert.KernelLossIdeal.cfgs 0).N,
    fun c => (Cert.KernelLossIdeal.Gen.dats m 0 c).arrAt 7 (Cert.KernelLossIdeal.cfgs 0).N,
    fun c => (Cert.KernelLossIdeal.Gen.dats m 0 c).arrAt 8 (Cert.KernelLossIdeal.cfgs 0).N,
    fun c => (Cert.KernelLossIdeal.Gen.dats m 0 c).arrAt 9 (Cert.KernelLossIdeal.cfgs 0).N,
    fun c => (Cert.KernelLossIdeal.Gen.dats m 0 c).arrAt 10 (Cert.KernelLossIdeal.cfgs 0).N, Cert.KernelLossIdeal.Value.run_blocks m g, ?_⟩
  refine (θ_run _ _ _).mono (fun r h c => ?_) (Cert.ReferenceLossIdeal.Value.run m' g')
  obtain ⟨H, W, V, X, T, G, A⟩ := args m hpre c
  obtain ⟨a0, a1, a2, a3, a4, a5⟩ := hargs c
  obtain ⟨r0, r1, r2, r3, r4, rest⟩ := h c
  refine ⟨r0.trans ?_, r1.trans ?_, r2.trans ?_, r3.trans ?_, r4.trans ?_, rest⟩
  · rw [Cert.ReferenceLossIdeal.Read.val_main_v60_eq, a0, a3]
    refine Eq.trans ?_ (Cert.KernelLossIdeal.Value.final6 m c H W V X T G A).symm
    funext i
    obtain ⟨s, d, rfl⟩ : ∃ (s : Fin 2048) (d : Fin 4096), i = ix2 s d := ⟨i 0, i 1, eq_ix2 i⟩
    exact Cert.ReferenceLossIdeal.LossRef.a1_at _ _ H W A.hH A.hW s d
  · rw [Cert.ReferenceLossIdeal.Read.val_main_v61_eq, a0, a1, a2, a3, a4, a5]
    refine Eq.trans ?_ (Cert.KernelLossIdeal.Value.final7 m c H W V X T G A).symm
    funext i
    obtain ⟨s, d, rfl⟩ : ∃ (s : Fin 1) (d : Fin 1), i = ix2 s d := ⟨i 0, i 1, eq_ix2 i⟩
    exact Cert.ReferenceLossIdeal.LossRef.total_at _ _ H W A.hH A.hW _ V A.hV _ _ _ X T G A.hX A.hT A.hG s d
  · rw [Cert.ReferenceLossIdeal.Read.val_main_v39_eq, a0, a1, a2, a3, a4, a5]
    refine Eq.trans ?_ (Cert.KernelLossIdeal.Value.final8 m c H W V X T G A).symm
    funext i
    obtain ⟨s, d, rfl⟩ : ∃ (s : Fin 2048) (d : Fin 1024), i = ix2 s d := ⟨i 0, i 1, eq_ix2 i⟩
    exact Cert.ReferenceLossIdeal.LossRef.dy_at _ _ H W A.hH A.hW _ V A.hV _ _ _ X T G A.hX A.hT A.hG s d
  · rw [Cert.ReferenceLossIdeal.Read.val_main_v62_eq, a0, a1, a2, a3, a4, a5]
    refine Eq.trans ?_ (Cert.KernelLossIdeal.Value.final9 m c H W V X T G A).symm
    funext i
    obtain ⟨s, d, rfl⟩ : ∃ (s : Fin 2048) (d : Fin 1024), i = ix2 s d := ⟨i 0, i 1, eq_ix2 i⟩
    exact Cert.ReferenceLossIdeal.LossRef.df_at _ _ H W A.hH A.hW _ V A.hV _ _ _ X T G A.hX A.hT A.hG s d
  · rw [Cert.ReferenceLossIdeal.Read.val_main_v63_eq, a0, a1, a2, a3, a4, a5]
    refine Eq.trans ?_ (Cert.KernelLossIdeal.Value.final10 m c H W V X T G A).symm
    funext i
    obtain ⟨s, d, rfl⟩ : ∃ (s : Fin 1) (d : Fin 1024), i = ix2 s d := ⟨i 0, i 1, eq_ix2 i⟩
    exact Cert.ReferenceLossIdeal.LossRef.dg_at _ _ H W A.hH A.hW _ V A.hV _ _ _ X T G A.hX A.hT A.hG s d

end Cert.Loss
end
-- ==== Proof.MlpxPay.lean ====
/- The gradient of the channel mixer's hidden layer: what the kernel's body computes of one block. -/
module

public import proofs.«01_k».proof.Proof.Gen.KernelMlpxIdeal.Frame
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mlpx

/-- The hidden layer before its square. -/
def hid (H W : ℕ → ℕ → EReal) (s c : ℕ) : EReal := max (∑ d : Fin 1024, H s d * W d c) 0

/-- The gradient before the hidden layer, where the hidden layer is `A`. -/
def pre (D V A : ℕ → ℕ → EReal) (s c : ℕ) : EReal :=
  (∑ d : Fin 1024, D s d * V c d) * (Ideal.ofBits .f32 0x40000000#32 * A s c)

/-- The gradient of the mixer's input. -/
def dh (P W : ℕ → ℕ → EReal) (s d : ℕ) : EReal := ∑ c : Fin 4096, P s c * W d c

/-- The sum over the hidden layer, shard by shard. -/
theorem dh_pieces (P W : ℕ → ℕ → EReal) (s d : ℕ) :
    dh P W s d = (∑ c : Fin 1024, P s (0 + c) * W d (0 + c))
      + (∑ c : Fin 1024, P s (1024 + c) * W d (1024 + c))
      + (∑ c : Fin 1024, P s (2048 + c) * W d (2048 + c))
      + (∑ c : Fin 1024, P s (3072 + c) * W d (3072 + c)) := by
  unfold dh
  rw [Fin.sum_univ_eq_sum_range (fun c => P s c * W d c) 4096, show 4096 = 1024 + 1024 + 1024 + 1024 from rfl]
  rw [Finset.sum_range_add, Finset.sum_range_add, Finset.sum_range_add]
  simp only [Finset.sum_range, zero_add]

/-- Every array is given by a function of its two indices. -/
theorem exists_fun2 {a b : ℕ} {φ : FTy} (x : FVec Ideal ⟨2, ![a, b]⟩ φ) :
    ∃ X : ℕ → ℕ → EReal, ∀ (p : Fin a) (q : Fin b), x (ix2 p q) = X p q :=
  ⟨fun p q => if hp : p < a then if hq : q < b then x (ix2 ⟨p, hp⟩ ⟨q, hq⟩) else 0 else 0, fun p q => by simp⟩

/-- Every array of one matrix is given by a function of its last two indices. -/
theorem exists_fun3 {a b : ℕ} {φ : FTy} (x : FVec Ideal ⟨3, ![1, a, b]⟩ φ) :
    ∃ X : ℕ → ℕ → EReal, ∀ (u : Fin 1) (p : Fin a) (q : Fin b), x (ix3 u p q) = X p q :=
  ⟨fun p q => if hp : p < a then if hq : q < b then x (ix3 0 ⟨p, hp⟩ ⟨q, hq⟩) else 0 else 0, fun u p q => by
    rw [Subsingleton.elim u 0]; simp⟩

end Cert.Mlpx

namespace Cert.KernelMlpxIdeal.Value
open Cert.KernelMlpxIdeal Cert.KernelMlpxIdeal.Gen Cert.Mlpx

theorem pay2_at (x : Vec Ideal S512x1024 .bf16) (y : Vec Ideal S1024x1024 .bf16) (z : Vec Ideal S512x1024 .bf16) (D V A : ℕ → ℕ → EReal) (o : ℕ)
    (hx : ∀ p q, x (ix2 p q) = D p q) (hy : ∀ p q, y (ix2 p q) = V (o + p) q) (hz : ∀ p q, z (ix2 p q) = A p (o + q)) (p : Fin 512) (q : Fin 1024) :
    k0_pay2 (F := Ideal) x y z (ix2 p q) = pre D V A p (o + q) := by
  pointwise [k0_pay2]
  simp only [hx, hy, hz, pre]

section
variable (x0 : Vec Ideal S512x1024 .bf16) (x1 : Vec Ideal S512x4096 .bf16) (x2 : Vec Ideal S4x1024x1024 .bf16) (x3 : Vec Ideal S4096x1024 .bf16)
  (D A W V : ℕ → ℕ → EReal)
  (h0 : ∀ p q, x0 (ix2 p q) = D p q) (h1 : ∀ p q, x1 (ix2 p q) = A p q)
  (h2 : ∀ (k : Fin 4) (d q : Fin 1024), x2 (ix3 k d q) = W d (k * 1024 + q)) (h3 : ∀ p q, x3 (ix2 p q) = V p q)

include h1 in
theorem ld_a (o : ℕ) (h : ∀ a, (![0, o] : Fin 2 → Nat) a + S512x1024.size a ≤ S512x4096.size a) (p : Fin 512) (q : Fin 1024) :
    (View.ld x1 (Rect.unit (s := S512x4096) ![0, o] S512x1024.size h) : Vec Ideal S512x1024 .bf16) (ix2 p q) = A p (o + q) := by
  have ho : o + 1024 ≤ 4096 := h 1
  refine Eq.trans ?_ (h1 p ⟨o + q, by omega⟩)
  pointwise
  blk_ext

include h3 in
theorem ld_v (o : ℕ) (h : ∀ a, (![o, 0] : Fin 2 → Nat) a + S1024x1024.size a ≤ S4096x1024.size a) (p : Fin 1024) (q : Fin 1024) :
    (View.ld x3 (Rect.unit (s := S4096x1024) ![o, 0] S1024x1024.size h) : Vec Ideal S1024x1024 .bf16) (ix2 p q) = V (o + p) q := by
  have ho : o + 1024 ≤ 4096 := h 0
  refine Eq.trans ?_ (h3 ⟨o + p, by omega⟩ q)
  pointwise
  blk_ext

include h0 h1 h3 in
theorem pre_at (o : ℕ) (ha : ∀ a, (![0, o] : Fin 2 → Nat) a + S512x1024.size a ≤ S512x4096.size a)
    (hv : ∀ a, (![o, 0] : Fin 2 → Nat) a + S1024x1024.size a ≤ S4096x1024.size a) (p : Fin 512) (q : Fin 1024) :
    k0_pay2 (F := Ideal) x0 (View.ld x3 (Rect.unit (s := S4096x1024) ![o, 0] S1024x1024.size hv))
      (View.ld x1 (Rect.unit (s := S512x4096) ![0, o] S512x1024.size ha)) (ix2 p q) = pre D V A p (o + q) :=
  pay2_at _ _ _ D V A o h0 (ld_v x3 V h3 o hv) (ld_a x1 A h1 o ha) p q

include h0 h1 h3 in
theorem out5_at (p : Fin 512) (q : Fin 4096) : out0_5 x0 x1 x2 x3 (ix2 p q) = pre D V A p q := by
  have e3 : ∀ a w z, k0_pay3 (F := Ideal) a w z = k0_pay2 a w z := fun a w z => shapeCast_self _ _
  have e6 : ∀ a w z, k0_pay6 (F := Ideal) a w z = k0_pay2 a w z := fun a w z => shapeCast_self _ _
  have e9 : ∀ a w z, k0_pay9 (F := Ideal) a w z = k0_pay2 a w z := fun a w z => shapeCast_self _ _
  have e12 : ∀ a w z, k0_pay12 (F := Ideal) a w z = k0_pay2 a w z := fun a w z => shapeCast_self _ _
  unfold out0_5
  frame_out
  have key := pre_at x0 x1 x3 D A V h0 h1 h3
  clear h0 h1 h3
  canon_tiles x h
  all_goals
    rw [eq_ix2 x]
    change (p : ℕ) = _ at h0
    change (q : ℕ) = _ at h1
  · refine (congrFun (e12 _ _ _) _).trans ((key 3072 _ _ (x 0) (x 1)).trans ?_)
    rw [show (q : ℕ) = 3072 + (x 1).val by omega, show (p : ℕ) = (x 0).val by omega]
  · refine (congrFun (e9 _ _ _) _).trans ((key 2048 _ _ (x 0) (x 1)).trans ?_)
    rw [show (q : ℕ) = 2048 + (x 1).val by omega, show (p : ℕ) = (x 0).val by omega]
  · refine (congrFun (e6 _ _ _) _).trans ((key 1024 _ _ (x 0) (x 1)).trans ?_)
    rw [show (q : ℕ) = 1024 + (x 1).val by omega, show (p : ℕ) = (x 0).val by omega]
  · refine (congrFun (e3 _ _ _) _).trans ((key 0 _ _ (x 0) (x 1)).trans ?_)
    rw [show (q : ℕ) = 0 + (x 1).val by omega, show (p : ℕ) = (x 0).val by omega]

include h0 h1 h2 h3 in
theorem out4_at (p : Fin 512) (d : Fin 1024) : out0_4 x0 x1 x2 x3 (ix2 p d) = dh (pre D V A) W p d := by
  have e5 : k0_pay5 (F := Ideal) = k0_pay2 := rfl
  have e8 : k0_pay8 (F := Ideal) = k0_pay2 := rfl
  have e11 : k0_pay11 (F := Ideal) = k0_pay2 := rfl
  unfold out0_4
  frame_out
  rw [dh_pieces]
  have a0 := pre_at x0 x1 x3 D A V h0 h1 h3 0
  have a1 := pre_at x0 x1 x3 D A V h0 h1 h3 1024
  have a2 := pre_at x0 x1 x3 D A V h0 h1 h3 2048
  have a3 := pre_at x0 x1 x3 D A V h0 h1 h3 3072
  pointwise [k0_pay1, k0_pay10, k0_pay4, k0_pay7, k0_pay13, e5, e8, e11]
  simp [a0, a1, a2, a3, h2]
end
end Cert.KernelMlpxIdeal.Value
end
-- ==== Proof.MlpxRef.lean ====
/- What the reference of the gradient of the channel mixer's hidden layer computes. -/
module

public import proofs.«01_k».proof.Proof.Gen.ReferenceMlpxIdeal.Read
public import proofs.«01_k».proof.Proof.MlpxPay

@[expose] public section

set_option maxRecDepth 16384

noncomputable section

open Idealize.ShloMosaic Idealize.ShloMosaic.TcCoe Idealize.SL.Sem

namespace Cert.ReferenceMlpxIdeal.MlpxRef

open Cert.ReferenceMlpxIdeal Cert.ReferenceMlpxIdeal.Gen Cert.ReferenceMlpxIdeal.Read Cert.Mlpx

theorem lit_nil : Ideal.ofBits .f32 0x00000000#32 = (0 : EReal) := by simp [Ideal.ofBits, Ideal.ieee]

/-- Where the hidden layer is cut off its derivative vanishes, so the choice between the two is none. -/
theorem cut (x g : EReal) : (if 0 < x then g * (Ideal.ofBits .f32 0x40000000#32 * max x 0) else 0) = g * (Ideal.ofBits .f32 0x40000000#32 * max x 0) := by
  by_cases h : 0 < x
  · simp [h]
  · simp [h, max_eq_right (not_lt.mp h)]

section
variable (x0 x1 : FVec Ideal S2048x1024 .bf16) (x2 : FVec Ideal S1x1024x4096 .f32) (x3 : FVec Ideal S1x4096x1024 .f32) (H D W V : ℕ → ℕ → EReal)
  (h0 : ∀ (s : Fin 2048) (d : Fin 1024), x0 (ix2 s d) = H s d)
  (h1 : ∀ (s : Fin 2048) (d : Fin 1024), x1 (ix2 s d) = D s d)
  (h2 : ∀ (u : Fin 1) (d : Fin 1024) (c : Fin 4096), x2 (ix3 u d c) = W d c)
  (h3 : ∀ (u : Fin 1) (c : Fin 4096) (d : Fin 1024), x3 (ix3 u c d) = V c d)
include h0 h1 h2 h3

theorem pre_at (s : Fin 2048) (c : Fin 4096) : val_main_v16 (F := Ideal) x0 x1 x2 x3 (ix2 s c) = pre D V (hid H W) s c := by
  pointwise [val_main_v16, val_main_v15, val_main_cst_2, val_main_v14, val_main_v13, val_main_v12, val_main_v10, val_main_v9, val_main_v8, val_main_cst_1,
    val_main_v5, val_main_v4, val_main_cst, val_main_v3, val_main_v2, val_main_v1, val_main_v0, val_main_call0_v0, val_main_call0_cst]
  simp only [h0, h1, h2, h3, lit_nil]
  exact cut _ _

theorem df1_at (s : Fin 2048) (c : Fin 4096) : val_main_v18 (F := Ideal) x0 x1 x2 x3 (ix2 s c) = pre D V (hid H W) s c := by
  have h := pre_at x0 x1 x2 x3 H D W V h0 h1 h2 h3
  pointwise [val_main_v18]
  exact h s c

theorem dh_at (s : Fin 2048) (d : Fin 1024) : val_main_v17 (F := Ideal) x0 x1 x2 x3 (ix2 s d) = dh (pre D V (hid H W)) W s d := by
  have h := pre_at x0 x1 x2 x3 H D W V h0 h1 h2 h3
  pointwise [val_main_v17, val_main_v1]
  simp only [h, h2]
  rfl
end
end Cert.ReferenceMlpxIdeal.MlpxRef
end
-- ==== Proof.MlpxKernel.lean ====
/- What the two result arrays of the channel mixer's hidden gradient hold after the run. -/
module

public import proofs.«01_k».proof.Proof.MlpxPay

@[expose] public section

set_option maxRecDepth 16384

noncomputable section

open Idealize.ShloMosaic Idealize.ShloMosaic.TcCoe Idealize.SL.Sem
open Idealize.ShloMosaic.Pipeline (Dat)

namespace Cert.KernelMlpxIdeal.Value

open Cert.KernelMlpxIdeal Cert.KernelMlpxIdeal.Gen Cert.Mlpx

theorem lit_nil : Ideal.ofBits .f32 0x00000000#32 = (0 : EReal) := by simp [Ideal.ofBits, Ideal.ieee]

theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![t.val, 0] ∧ t.val < 4 :=
  (by decide +kernel : ∀ t : Fin grid0.N, _)

theorem lt4 (t : Fin cfg0.N) : t.val < 4 := (idx t).2.2.2.2.2.2

theorem hid_host (x0 : FVec Ideal S2048x1024 .bf16) (x2 : FVec Ideal S1x1024x4096 .f32) (H W : ℕ → ℕ → EReal)
    (h0 : ∀ (p : Fin 2048) (q : Fin 1024), x0 (ix2 p q) = H p q) (h2 : ∀ (u : Fin 1) (p : Fin 1024) (q : Fin 4096), x2 (ix3 u p q) = W p q) (p : Fin 2048) (q : Fin 4096) :
    (truncf .bf16 (maximumf (Host.dotGeneral dot_S2048x1024_S1024x4096_S2048x4096_1_0_0_1_n_n none (extf .f32 x0 bitsLt_bf16_f32 : FVec Ideal S2048x1024 .f32)
      (shapeCast S1024x4096 x2 shapeCasts_S1x1024x4096_S1024x4096 : FVec Ideal S1024x4096 .f32))
      (broadcastInDim S2048x4096 ![] bcast_S_S2048x4096 (constant S_ .f32 0x00000000#32))) bitsLt_bf16_f32 : FVec Ideal S2048x4096 .bf16) (ix2 p q) = hid H W p q := by
  pointwise
  simp only [h0, h2, lit_nil]
  rfl

theorem pack_host (x2 : FVec Ideal S1x1024x4096 .f32) (W : ℕ → ℕ → EReal)
    (h2 : ∀ (u : Fin 1) (p : Fin 1024) (q : Fin 4096), x2 (ix3 u p q) = W p q) (k : Fin 4) (d q : Fin 1024) :
    (transpose S4x1024x1024 [1, 0, 2] (shapeCast S1024x4x1024 (truncf .bf16 (shapeCast S1024x4096 x2 shapeCasts_S1x1024x4096_S1024x4096 : FVec Ideal S1024x4096 .f32) bitsLt_bf16_f32 : FVec Ideal S1024x4096 .bf16)
      shapeCasts_S1024x4096_S1024x4x1024) transposes_S1024x4x1024_S4x1024x1024_1_0_2 : FVec Ideal S4x1024x1024 .bf16) (ix3 k d q) = W d (k * 1024 + q) := by
  pointwise
  simp only [h2]

theorem cast_host (x3 : FVec Ideal S1x4096x1024 .f32) (V : ℕ → ℕ → EReal)
    (h3 : ∀ (u : Fin 1) (p : Fin 4096) (q : Fin 1024), x3 (ix3 u p q) = V p q) (p : Fin 4096) (q : Fin 1024) :
    (truncf .bf16 (shapeCast S4096x1024 x3 shapeCasts_S1x4096x1024_S4096x1024 : FVec Ideal S4096x1024 .f32) bitsLt_bf16_f32 : FVec Ideal S4096x1024 .bf16) (ix2 p q) = V p q := by
  pointwise
  simp only [h3]

section
variable (m : (ℓ : Loc nD τ sig) → Buf (Elt Ideal) ℓ) (c : Dev nD) (H D W V : ℕ → ℕ → EReal)

/-- The argument arrays as functions of their indices. -/
structure Args : Prop where
  hH : ∀ (p : Fin 2048) (q : Fin 1024), (m ((c : Thread nD τ).loc main_arg0) : FVec Ideal S2048x1024 .bf16) (ix2 p q) = H p q
  hD : ∀ (p : Fin 2048) (q : Fin 1024), (m ((c : Thread nD τ).loc main_arg1) : FVec Ideal S2048x1024 .bf16) (ix2 p q) = D p q
  hW : ∀ (u : Fin 1) (p : Fin 1024) (q : Fin 4096), (m ((c : Thread nD τ).loc main_arg2) : FVec Ideal S1x1024x4096 .f32) (ix3 u p q) = W p q
  hV : ∀ (u : Fin 1) (p : Fin 4096) (q : Fin 1024), (m ((c : Thread nD τ).loc main_arg3) : FVec Ideal S1x4096x1024 .f32) (ix3 u p q) = V p q

/-- The hidden layer before the call. -/
theorem e4 : Gen.V m c main_v4 = (truncf .bf16 (maximumf (Host.dotGeneral dot_S2048x1024_S1024x4096_S2048x4096_1_0_0_1_n_n none
    (extf .f32 (m ((c : Thread nD τ).loc main_arg0) : FVec Ideal S2048x1024 .bf16) bitsLt_bf16_f32 : FVec Ideal S2048x1024 .f32)
    (shapeCast S1024x4096 (m ((c : Thread nD τ).loc main_arg2) : FVec Ideal S1x1024x4096 .f32) shapeCasts_S1x1024x4096_S1024x4096 : FVec Ideal S1024x4096 .f32))
    (broadcastInDim S2048x4096 ![] bcast_S_S2048x4096 (constant S_ .f32 0x00000000#32))) bitsLt_bf16_f32 : FVec Ideal S2048x4096 .bf16) := by
  show StableHlo.after (hostOps0 ++ (hostOps0_1 ++ hostOps0_2)) _ _ = _
  rw [StableHlo.after_append, StableHlo.after_append]
  after_results
  rfl

/-- The first weights before the call, shard by shard. -/
theorem e8 : Gen.V m c main_v8 = transpose S4x1024x1024 [1, 0, 2] (shapeCast S1024x4x1024 (truncf .bf16
    (shapeCast S1024x4096 (m ((c : Thread nD τ).loc main_arg2) : FVec Ideal S1x1024x4096 .f32) shapeCasts_S1x1024x4096_S1024x4096) bitsLt_bf16_f32 : FVec Ideal S1024x4096 .bf16)
    shapeCasts_S1024x4096_S1024x4x1024) transposes_S1024x4x1024_S4x1024x1024_1_0_2 := by
  show StableHlo.after (hostOps0 ++ (hostOps0_1 ++ hostOps0_2)) _ _ = _
  rw [StableHlo.after_append, StableHlo.after_append]
  after_results
  rfl

/-- The second weights before the call. -/
theorem e10 : Gen.V m c main_v10 = (truncf .bf16 (shapeCast S4096x1024 (m ((c : Thread nD τ).loc main_arg3) : FVec Ideal S1x4096x1024 .f32)
    shapeCasts_S1x4096x1024_S4096x1024) bitsLt_bf16_f32 : FVec Ideal S4096x1024 .bf16) := by
  show StableHlo.after (hostOps0 ++ (hostOps0_1 ++ hostOps0_2)) _ _ = _
  rw [StableHlo.after_append, StableHlo.after_append]
  after_results
  rfl

variable (A : Args m c H D W V)
include A

theorem b0 (t : Fin cfg0.N) (p : Fin 512) (q : Fin 1024) :
    (iblk m c 0 t : Vec Ideal S512x1024 .bf16) (ix2 p q) = D (t * 512 + p) q := by
  have ht := lt4 t
  refine Eq.trans ?_ (A.hD ⟨t * 512 + p, by omega⟩ q)
  blk_ext [iblk, Gen.V, idx t]

theorem v4_at (p : Fin 2048) (q : Fin 4096) : (Gen.V m c main_v4 : FVec Ideal S2048x4096 .bf16) (ix2 p q) = hid H W p q :=
  (congrFun (e4 m c) _).trans (hid_host _ _ H W A.hH A.hW p q)

theorem v8_at (k : Fin 4) (d : Fin 1024) (q : Fin 1024) : (Gen.V m c main_v8 : FVec Ideal S4x1024x1024 .bf16) (ix3 k d q) = W d (k * 1024 + q) :=
  (congrFun (e8 m c) _).trans (pack_host _ W A.hW k d q)

theorem v10_at (p : Fin 4096) (q : Fin 1024) : (Gen.V m c main_v10 : FVec Ideal S4096x1024 .bf16) (ix2 p q) = V p q :=
  (congrFun (e10 m c) _).trans (cast_host _ V A.hV p q)

theorem b1 (t : Fin cfg0.N) (p : Fin 512) (q : Fin 4096) :
    (iblk m c 1 t : Vec Ideal S512x4096 .bf16) (ix2 p q) = hid H W (t * 512 + p) q := by
  have ht := lt4 t
  refine Eq.trans ?_ (v4_at m c H D W V A ⟨t * 512 + p, by omega⟩ q)
  blk_ext [iblk, idx t]

theorem b2 (t : Fin cfg0.N) (k : Fin 4) (d : Fin 1024) (q : Fin 1024) :
    (iblk m c 2 t : Vec Ideal S4x1024x1024 .bf16) (ix3 k d q) = W d (k * 1024 + q) := by
  have ht := lt4 t
  refine Eq.trans ?_ (v8_at m c H D W V A k d q)
  blk_ext [iblk, idx t]

theorem b3 (t : Fin cfg0.N) (p : Fin 4096) (q : Fin 1024) :
    (iblk m c 3 t : Vec Ideal S4096x1024 .bf16) (ix2 p q) = V p q := by
  have ht := lt4 t
  refine Eq.trans ?_ (v10_at m c H D W V A p q)
  blk_ext [iblk, idx t]

/-- The gradient of the mixer's input. -/
theorem final4 : (dats m 0 c).arrAt 4 (cfgs 0).N = fun i : S2048x1024.Idx => dh (pre D V (hid H W)) W (i 0).val (i 1).val := by
  refine (dats m 0 c).arrAt_eq_of_covers 4 _ (by decide +kernel) fun t _ y => ?_
  blk_simp [idx t]
  rw [after0_4]
  refine (congrArg (out0_4 (iblk m c 0 t) (iblk m c 1 t) (iblk m c 2 t) (iblk m c 3 t)) (ix2_eta y).symm).trans
    ((out4_at _ _ _ _ (fun p q => D (t * 512 + p) q) (fun p q => hid H W (t * 512 + p) q) W V
      (b0 m c H D W V A t) (b1 m c H D W V A t) (b2 m c H D W V A t) (b3 m c H D W V A t) (y 0) (y 1)).trans ?_)
  rfl

/-- The gradient before the hidden layer. -/
theorem final5 : (dats m 0 c).arrAt 5 (cfgs 0).N = fun i : S2048x4096.Idx => pre D V (hid H W) (i 0).val (i 1).val := by
  refine (dats m 0 c).arrAt_eq_of_covers 5 _ (by decide +kernel) fun t _ y => ?_
  blk_simp [idx t]
  rw [after0_5]
  refine (congrArg (out0_5 (iblk m c 0 t) (iblk m c 1 t) (iblk m c 2 t) (iblk m c 3 t)) (ix2_eta y).symm).trans
    ((out5_at _ _ _ _ (fun p q => D (t * 512 + p) q) (fun p q => hid H W (t * 512 + p) q) V
      (b0 m c H D W V A t) (b1 m c H D W V A t) (b3 m c H D W V A t) (y 0) (y 1)).trans ?_)
  rfl

end
end Cert.KernelMlpxIdeal.Value
end
-- ==== Proof.MlpxEq.lean ====
/- The two programs of the channel mixer's hidden gradient end with the same arrays, whatever the arguments. -/
module

public import proofs.«01_k».proof.Defs
public import proofs.«01_k».proof.Proof.Gen.ReferenceMlpxIdeal.Run
public import proofs.«01_k».proof.Proof.Gen.KernelMlpxIdeal.Value
public import proofs.«01_k».proof.Proof.MlpxRef
public import proofs.«01_k».proof.Proof.MlpxKernel

@[expose] public section

set_option maxRecDepth 16384

noncomputable section

open Idealize.ShloMosaic Idealize.ShloMosaic.TcCoe Idealize.SL.Sem

namespace Cert.Mlpx

/-- The arguments as functions of their indices. -/
theorem args (m : (ℓ : Loc Cert.KernelMlpxIdeal.nD Cert.KernelMlpxIdeal.τ Cert.KernelMlpxIdeal.sig) → Buf (Elt Ideal) ℓ) (c : Dev Cert.KernelMlpxIdeal.nD) :
    ∃ H D W V, Cert.KernelMlpxIdeal.Value.Args m c H D W V := by
  obtain ⟨H, hH⟩ := exists_fun2 (φ := .bf16) (m ((c : Thread Cert.KernelMlpxIdeal.nD Cert.KernelMlpxIdeal.τ).loc Cert.KernelMlpxIdeal.main_arg0) : FVec Ideal Cert.KernelMlpxIdeal.S2048x1024 .bf16)
  obtain ⟨D, hD⟩ := exists_fun2 (φ := .bf16) (m ((c : Thread Cert.KernelMlpxIdeal.nD Cert.KernelMlpxIdeal.τ).loc Cert.KernelMlpxIdeal.main_arg1) : FVec Ideal Cert.KernelMlpxIdeal.S2048x1024 .bf16)
  obtain ⟨W, hW⟩ := exists_fun3 (φ := .f32) (m ((c : Thread Cert.KernelMlpxIdeal.nD Cert.KernelMlpxIdeal.τ).loc Cert.KernelMlpxIdeal.main_arg2) : FVec Ideal Cert.KernelMlpxIdeal.S1x1024x4096 .f32)
  obtain ⟨V, hV⟩ := exists_fun3 (φ := .f32) (m ((c : Thread Cert.KernelMlpxIdeal.nD Cert.KernelMlpxIdeal.τ).loc Cert.KernelMlpxIdeal.main_arg3) : FVec Ideal Cert.KernelMlpxIdeal.S1x4096x1024 .f32)
  exact ⟨H, D, W, V, ⟨hH, hD, hW, hV⟩⟩

/-- The reference runs and leaves its arguments as they were. -/
theorem frame_reference : Cert.quiescent_ReferenceMlpxIdeal (hReferenceMlpxIdeal := Cert.ReferenceMlpxIdeal.Gen.facts) := fun m g _ =>
  (θ_run Cert.ReferenceMlpxIdeal.defs _ _).mono (fun r h => ⟨fun c => (h c).2.2, sem_eq_zero_of_no_sems (by decide) r.2⟩)
    (Cert.ReferenceMlpxIdeal.Value.run (F := Ideal) m g)

theorem algebraic : Cert.algebraic_KernelMlpxIdeal_ReferenceMlpxIdeal (hKernelMlpxIdeal := Cert.KernelMlpxIdeal.Gen.facts)
    (hReferenceMlpxIdeal := Cert.ReferenceMlpxIdeal.Gen.facts) := by
  intro m g m' g' _ hargs
  refine ⟨fun c => (Cert.KernelMlpxIdeal.Gen.dats m 0 c).arrAt 4 (Cert.KernelMlpxIdeal.cfgs 0).N,
    fun c => (Cert.KernelMlpxIdeal.Gen.dats m 0 c).arrAt 5 (Cert.KernelMlpxIdeal.cfgs 0).N, Cert.KernelMlpxIdeal.Value.run_blocks m g, ?_⟩
  refine (θ_run _ _ _).mono (fun r h c => ?_) (Cert.ReferenceMlpxIdeal.Value.run m' g')
  obtain ⟨H, D, W, V, A⟩ := args m c
  obtain ⟨a0, a1, a2, a3⟩ := hargs c
  obtain ⟨r0, r1, rest⟩ := h c
  refine ⟨r0.trans ?_, r1.trans ?_, rest⟩
  · rw [Cert.ReferenceMlpxIdeal.Read.val_main_v17_eq, a0, a1, a2, a3]
    refine Eq.trans ?_ (Cert.KernelMlpxIdeal.Value.final4 m c H D W V A).symm
    funext i
    obtain ⟨s, d, rfl⟩ : ∃ (s : Fin 2048) (d : Fin 1024), i = ix2 s d := ⟨i 0, i 1, eq_ix2 i⟩
    exact Cert.ReferenceMlpxIdeal.MlpxRef.dh_at _ _ _ _ H D W V A.hH A.hD A.hW A.hV s d
  · rw [Cert.ReferenceMlpxIdeal.Read.val_main_v18_eq, a0, a1, a2, a3]
    refine Eq.trans ?_ (Cert.KernelMlpxIdeal.Value.final5 m c H D W V A).symm
    funext i
    obtain ⟨s, d, rfl⟩ : ∃ (s : Fin 2048) (d : Fin 4096), i = ix2 s d := ⟨i 0, i 1, eq_ix2 i⟩
    exact Cert.ReferenceMlpxIdeal.MlpxRef.df1_at _ _ _ _ H D W V A.hH A.hD A.hW A.hV s d

end Cert.Mlpx
end
-- ==== Proof.MergeRun.lean ====
module

public import proofs.«01_k».proof.Proof.Gen.KernelMergeIdeal.Frame.Runs
public import Idealize.ShloMosaic.Lib.Pipeline.Value
public import Idealize.ShloMosaic.Lib.Pipeline.ValueKit
public import Idealize.ShloMosaic.Lib.VecWindow

/-!
  The merge's backward call, part one: its body at one point of the grid.

  The body reads sixteen blocks and writes ten; three of the ten are row sums that the first point starts and every
  later point adds to.
-/

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMergeIdeal Cert.KernelMergeIdeal.Gen

variable {F : FTy → Type} [FloatOps F]

local notation "𝕄" => MT nD τ sig Unit (Elt F) ℕ (UR sig nD τ) ℕ

/-- What the body of the merge's backward call reads at one point of the grid: its sixteen input blocks. -/
structure Blocks (F : FTy → Type) where
  dh : Vec F S256x1024 .f32
  dy : Vec F S256x1024 .f32
  x2 : Vec F S256x1024 .f32
  mm : Vec F S256x1024 .f32
  bra : Vec F S256x1024 .bf16
  brb : Vec F S256x1024 .bf16
  p0 : Vec F S256x512 .f32
  p1 : Vec F S256x512 .f32
  p2 : Vec F S256x512 .f32
  p3 : Vec F S256x512 .f32
  bg : Vec F S1x2048 .f32
  g2 : Vec F S1x1024 .f32
  g3 : Vec F S1x1024 .f32
  wl : Vec F S1024x1024 .bf16
  wp : Vec F S4x512x256 .bf16
  wo : Vec F S1024x1024 .bf16

/-- The twenty-six buffers the body is called with, all of them whole: sixteen inputs, then ten outputs. -/
structure Bufs where
  a0 : Memref sig .tc .vmem S256x1024 .f32
  h0 : a0.IsWhole
  a1 : Memref sig .tc .vmem S256x1024 .f32
  h1 : a1.IsWhole
  a2 : Memref sig .tc .vmem S256x1024 .f32
  h2 : a2.IsWhole
  a3 : Memref sig .tc .vmem S256x1024 .f32
  h3 : a3.IsWhole
  a4 : Memref sig .tc .vmem S256x1024 .bf16
  h4 : a4.IsWhole
  a5 : Memref sig .tc .vmem S256x1024 .bf16
  h5 : a5.IsWhole
  a6 : Memref sig .tc .vmem S256x512 .f32
  h6 : a6.IsWhole
  a7 : Memref sig .tc .vmem S256x512 .f32
  h7 : a7.IsWhole
  a8 : Memref sig .tc .vmem S256x512 .f32
  h8 : a8.IsWhole
  a9 : Memref sig .tc .vmem S256x512 .f32
  h9 : a9.IsWhole
  a10 : Memref sig .tc .vmem S1x2048 .f32
  h10 : a10.IsWhole
  a11 : Memref sig .tc .vmem S1x1024 .f32
  h11 : a11.IsWhole
  a12 : Memref sig .tc .vmem S1x1024 .f32
  h12 : a12.IsWhole
  a13 : Memref sig .tc .vmem S1024x1024 .bf16
  h13 : a13.IsWhole
  a14 : Memref sig .tc .vmem S4x512x256 .bf16
  h14 : a14.IsWhole
  a15 : Memref sig .tc .vmem S1024x1024 .bf16
  h15 : a15.IsWhole
  a16 : Memref sig .tc .vmem S256x1024 .f32
  h16 : a16.IsWhole
  a17 : Memref sig .tc .vmem S256x2048 .bf16
  h17 : a17.IsWhole
  a18 : Memref sig .tc .vmem S256x1024 .f32
  h18 : a18.IsWhole
  a19 : Memref sig .tc .vmem S256x512 .f32
  h19 : a19.IsWhole
  a20 : Memref sig .tc .vmem S256x1024 .bf16
  h20 : a20.IsWhole
  a21 : Memref sig .tc .vmem S256x1024 .bf16
  h21 : a21.IsWhole
  a22 : Memref sig .tc .vmem S256x1024 .bf16
  h22 : a22.IsWhole
  a23 : Memref sig .tc .vmem S1x1024 .f32
  h23 : a23.IsWhole
  a24 : Memref sig .tc .vmem S1x1024 .f32
  h24 : a24.IsWhole
  a25 : Memref sig .tc .vmem S1x2048 .f32
  h25 : a25.IsWhole

/-- The three row sums carried from point to point: the gradients of the two norms' weights and of the gates' bias. -/
structure Sums (F : FTy → Type) where
  g2 : Vec F S1x1024 .f32
  g3 : Vec F S1x1024 .f32
  bg : Vec F S1x2048 .f32

namespace Blocks

variable (x : Blocks F)

/-- The gradient behind the inner norm, the residual's part included. -/
def dx2 : Vec F S256x1024 .f32 := k0_pay6 x.x2 x.dh x.g3 x.dy
/-- The gradient behind the output norm, in the short format. -/
def dm : Vec F S256x1024 .bf16 := k0_pay17 x.dx2 x.mm x.g2
/-- The merged branches' gradient. -/
def dmg : Vec F S256x1024 .f32 := k0_pay19 x.dm x.wo
/-- The first gate. -/
def ga : Vec F S256x1024 .f32 := k0_pay20 x.bg x.p0 x.p1
/-- The second gate. -/
def gb : Vec F S256x1024 .f32 := k0_pay21 x.bg x.p2 x.p3
/-- The first gate's gradient before its function. -/
def dga : Vec F S256x1024 .f32 := k0_pay22 x.dm x.wo x.bg x.p0 x.p1 x.bra

/-- What the body stores as the gradient of its input. -/
def o16 : Vec F S256x1024 .f32 := k0_pay7 x.x2 x.dh x.g3 x.dy
/-- What it stores as the gates' gradient, the two halves side by side. -/
def o17 : Vec F S256x2048 .bf16 :=
  View.canon [⟨Rect.unit ![0, 1024] S256x1024.size inb_S256x2048_S256x1024_0_1024, k0_pay25 x.dmg x.gb x.brb⟩,
    ⟨Rect.unit ![0, 0] S256x1024.size inb_S256x2048_S256x1024_0_0, k0_pay24 x.dga⟩]
/-- What it stores as the gradient of the recurrent branch's output. -/
def o18 : Vec F S256x1024 .f32 := k0_pay1 (k0_pay29 x.dmg x.ga) x.wl
/-- What it stores as the gradient of the pooled branch's output. -/
def o19 : Vec F S256x512 .f32 :=
  k0_pay2 (k0_pay30 x.dmg x.gb) (View.ld x.wp (Rect.unit ![0, 0, 0] ![1, 512, 256] inb_S4x512x256_S1x512x256_0_0_0))
    (View.ld x.wp (Rect.unit ![1, 0, 0] ![1, 512, 256] inb_S4x512x256_S1x512x256_1_0_0))
    (View.ld x.wp (Rect.unit ![2, 0, 0] ![1, 512, 256] inb_S4x512x256_S1x512x256_2_0_0))
    (View.ld x.wp (Rect.unit ![3, 0, 0] ![1, 512, 256] inb_S4x512x256_S1x512x256_3_0_0))
/-- What it stores as the gradient behind the output norm. -/
def o20 : Vec F S256x1024 .bf16 := k0_pay18 x.dx2 x.mm x.g2
/-- What it stores as the first branch's gradient. -/
def o21 : Vec F S256x1024 .bf16 := k0_pay31 x.dmg x.ga
/-- What it stores as the second branch's gradient. -/
def o22 : Vec F S256x1024 .bf16 := k0_pay32 x.dmg x.gb
/-- The row sums as the first point starts them, -/
def start : Sums F := ⟨k0_pay15 x.dx2 x.mm, k0_pay9 x.x2 x.dh, k0_pay27 x.dmg x.gb x.dga x.brb⟩
/-- and as a later point leaves them. -/
def next (a : Sums F) : Sums F :=
  ⟨k0_pay16 x.dx2 x.mm a.g2, k0_pay10 (k0_pay8 x.x2 x.dh) a.g3, k0_pay28 x.dmg x.gb x.dga x.brb a.bg⟩

end Blocks

/-- The input buffers at their blocks. -/
def holdsIn (c : Dev nD) (M : Bufs) (x : Blocks F) : sProp 𝕄 :=
  iprop(owns (c : Thread nD τ) M.a0 fullShare x.dh ∗ owns (c : Thread nD τ) M.a1 fullShare x.dy ∗ owns (c : Thread nD τ) M.a2 fullShare x.x2 ∗ owns (c : Thread nD τ) M.a3 fullShare x.mm ∗ owns (c : Thread nD τ) M.a4 fullShare x.bra ∗ owns (c : Thread nD τ) M.a5 fullShare x.brb ∗ owns (c : Thread nD τ) M.a6 fullShare x.p0 ∗ owns (c : Thread nD τ) M.a7 fullShare x.p1 ∗ owns (c : Thread nD τ) M.a8 fullShare x.p2 ∗ owns (c : Thread nD τ) M.a9 fullShare x.p3 ∗ owns (c : Thread nD τ) M.a10 fullShare x.bg ∗ owns (c : Thread nD τ) M.a11 fullShare x.g2 ∗ owns (c : Thread nD τ) M.a12 fullShare x.g3 ∗ owns (c : Thread nD τ) M.a13 fullShare x.wl ∗ owns (c : Thread nD τ) M.a14 fullShare x.wp ∗ owns (c : Thread nD τ) M.a15 fullShare x.wo)

/-- The first seven output buffers at anything. -/
def holdsAny (c : Dev nD) (M : Bufs) : sProp 𝕄 :=
  iprop((∃ d, owns (c : Thread nD τ) M.a16 fullShare d) ∗ (∃ d, owns (c : Thread nD τ) M.a17 fullShare d) ∗ (∃ d, owns (c : Thread nD τ) M.a18 fullShare d) ∗ (∃ d, owns (c : Thread nD τ) M.a19 fullShare d) ∗ (∃ d, owns (c : Thread nD τ) M.a20 fullShare d) ∗ (∃ d, owns (c : Thread nD τ) M.a21 fullShare d) ∗ (∃ d, owns (c : Thread nD τ) M.a22 fullShare d))

/-- The first seven output buffers at what the body stores. -/
def holdsOut (c : Dev nD) (M : Bufs) (x : Blocks F) : sProp 𝕄 :=
  iprop(owns (c : Thread nD τ) M.a16 fullShare x.o16 ∗ owns (c : Thread nD τ) M.a17 fullShare x.o17 ∗ owns (c : Thread nD τ) M.a18 fullShare x.o18 ∗ owns (c : Thread nD τ) M.a19 fullShare x.o19 ∗ owns (c : Thread nD τ) M.a20 fullShare x.o20 ∗ owns (c : Thread nD τ) M.a21 fullShare x.o21 ∗ owns (c : Thread nD τ) M.a22 fullShare x.o22)

/-- The last three output buffers at the row sums. -/
def holdsSums (c : Dev nD) (M : Bufs) (a : Sums F) : sProp 𝕄 :=
  iprop(owns (c : Thread nD τ) M.a23 fullShare a.g2 ∗ owns (c : Thread nD τ) M.a24 fullShare a.g3 ∗ owns (c : Thread nD τ) M.a25 fullShare a.bg)

set_option maxHeartbeats 20000000 in
/-- The body at one point: the first starts the row sums, a later one adds to them. -/
theorem run_body (c : Dev nD) (i : grid0.Coords) (M : Bufs) (x : Blocks F) (a b : Sums F)
    (hcase : (conds0_A i ∧ b = x.start) ∨ (conds0_B i ∧ b = x.next a)) (E : Set ℕ) (K : PUnit → sProp 𝕄) :
    iprop(holdsIn c M x ∗ holdsAny c M ∗ holdsSums c M a
        ∗ (iprop(holdsIn c M x ∗ holdsOut c M x ∗ holdsSums c M b) -∗ K ⟨⟩))
      ⊢ wp frame (wpE (defs₀ (F := F)) Variants.none c none) E (cc0_bwd_merge i M.a0 M.h0 M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25⟩ := M
  obtain ⟨dh, dy, x2, mm, bra, brb, p0, p1, p2, p3, bg, g2, g3, wl, wp, wo⟩ := x
  obtain ⟨s2, s3, sg⟩ := a
  rcases hcase with ⟨⟨hc0, hc1, hc2, hc3, hc4, hc5⟩, rfl⟩ | ⟨⟨hc0, hc1, hc2, hc3, hc4, hc5⟩, rfl⟩
  all_goals
    unfold holdsIn holdsAny holdsOut holdsSums owns
    dsimp only
    simp only [cc0_bwd_merge_eq_skeleton]; unfold cc0_bwd_merge_skel
    simp only [k0_part1_eq_skeleton, k0_part2_eq_skeleton, k0_part3_eq_skeleton, k0_part4_eq_skeleton]
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, ⟨⟨%f23, %e23, H23⟩, ⟨%f24, %e24, H24⟩, ⟨%f25, %e25, H25⟩⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h23.eq_unread e23; obtain rfl := h24.eq_unread e24; obtain rfl := h25.eq_unread e25
    sl_exec (disch := first | sl_exact hc0 | sl_exact hc1 | sl_exact hc2 | sl_exact hc3 | sl_exact hc4 | sl_exact hc5)
    sl_step
    iapply Hk
    isplitl [H0 H1 H2 H3 H4 H5 H6 H7 H8 H9 H10 H11 H12 H13 H14 H15]
    · isplitl [H0]; · iexists _; isplitr; swap; (· iexact H0); ipureintro; exact h0.read_unread _
      isplitl [H1]; · iexists _; isplitr; swap; (· iexact H1); ipureintro; exact h1.read_unread _
      isplitl [H2]; · iexists _; isplitr; swap; (· iexact H2); ipureintro; exact h2.read_unread _
      isplitl [H3]; · iexists _; isplitr; swap; (· iexact H3); ipureintro; exact h3.read_unread _
      isplitl [H4]; · iexists _; isplitr; swap; (· iexact H4); ipureintro; exact h4.read_unread _
      isplitl [H5]; · iexists _; isplitr; swap; (· iexact H5); ipureintro; exact h5.read_unread _
      isplitl [H6]; · iexists _; isplitr; swap; (· iexact H6); ipureintro; exact h6.read_unread _
      isplitl [H7]; · iexists _; isplitr; swap; (· iexact H7); ipureintro; exact h7.read_unread _
      isplitl [H8]; · iexists _; isplitr; swap; (· iexact H8); ipureintro; exact h8.read_unread _
      isplitl [H9]; · iexists _; isplitr; swap; (· iexact H9); ipureintro; exact h9.read_unread _
      isplitl [H10]; · iexists _; isplitr; swap; (· iexact H10); ipureintro; exact h10.read_unread _
      isplitl [H11]; · iexists _; isplitr; swap; (· iexact H11); ipureintro; exact h11.read_unread _
      isplitl [H12]; · iexists _; isplitr; swap; (· iexact H12); ipureintro; exact h12.read_unread _
      isplitl [H13]; · iexists _; isplitr; swap; (· iexact H13); ipureintro; exact h13.read_unread _
      isplitl [H14]; · iexists _; isplitr; swap; (· iexact H14); ipureintro; exact h14.read_unread _
      iexists _; isplitr; swap; (· iexact H15); ipureintro; exact h15.read_unread _
    isplitl [H16 H17 H18 H19 H20 H21 H22]
    · isplitl [H16]; · iexists _; isplitr; swap; (· iexact H16); ipureintro; refine (View.read_writes_full _ _ _ _ _).trans ?_; frame_out; rfl
      isplitl [H17]; · iexists _; isplitr; swap; (· iexact H17); ipureintro; refine (View.read_writes_eq_canon _ _ _ (View.cover_of_tiled _ ![256, 1024] (by sl_kernel_rfl))).trans ?_; frame_out; rfl
      isplitl [H18]; · iexists _; isplitr; swap; (· iexact H18); ipureintro; refine (View.read_writes_full _ _ _ _ _).trans ?_; frame_out; rfl
      isplitl [H19]; · iexists _; isplitr; swap; (· iexact H19); ipureintro; refine (View.read_writes_full _ _ _ _ _).trans ?_; frame_out; rfl
      isplitl [H20]; · iexists _; isplitr; swap; (· iexact H20); ipureintro; refine (View.read_writes_full _ _ _ _ _).trans ?_; frame_out; rfl
      isplitl [H21]; · iexists _; isplitr; swap; (· iexact H21); ipureintro; refine (View.read_writes_full _ _ _ _ _).trans ?_; frame_out; rfl
      iexists _; isplitr; swap; (· iexact H22); ipureintro; refine (View.read_writes_full _ _ _ _ _).trans ?_; frame_out; rfl
    · isplitl [H23]; · iexists _; isplitr; swap; (· iexact H23); ipureintro; refine (View.read_writes_full _ _ _ _ _).trans ?_; frame_out; rfl
      isplitl [H24]; · iexists _; isplitr; swap; (· iexact H24); ipureintro; refine (View.read_writes_full _ _ _ _ _).trans ?_; frame_out; rfl
      iexists _; isplitr; swap; (· iexact H25); ipureintro; refine (View.read_writes_full _ _ _ _ _).trans ?_; frame_out; rfl

end Cert.Merge
-- ==== Proof.MergeFrame.lean ====
module

public import proofs.«01_k».proof.Proof.MergeRun

/-!
  The merge's backward call, part two: the run of the whole program, its frame and the arrays it leaves.
-/

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMergeIdeal Cert.KernelMergeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is called with at point `t`. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, ms0_25 t, hs0_25 t⟩

/-- The blocks the body finds in its inputs at point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The row sums after point `n`. -/
def sumsAt (c : Dev nD) : (n : ℕ) → n < cfg0.N → Sums F
  | 0, h => (blocks m c ⟨0, h⟩).start
  | n + 1, h => (blocks m c ⟨n + 1, h⟩).next (sumsAt c n (by omega))

/-- What the run rests on: every input keeps its block, every output holds what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (blocks m c t).o16
    | ⟨17, _⟩ => (blocks m c t).o17
    | ⟨18, _⟩ => (blocks m c t).o18
    | ⟨19, _⟩ => (blocks m c t).o19
    | ⟨20, _⟩ => (blocks m c t).o20
    | ⟨21, _⟩ => (blocks m c t).o21
    | ⟨22, _⟩ => (blocks m c t).o22
    | ⟨23, _⟩ => (sumsAt m c t.val t.isLt).g2
    | ⟨24, _⟩ => (sumsAt m c t.val t.isLt).g3
    | ⟨25, _⟩ => (sumsAt m c t.val t.isLt).bg
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem lt8 (t : Fin cfg0.N) : t.val < 8 := lt_of_lt_of_eq t.isLt (show cfg0.N = 8 from N_0)

/-- The first point takes the first of each pair of branches, -/
theorem conds_first (t : Fin cfg0.N) (h : t.val = 0) : conds0_A (grid0.coords t) :=
  ⟨(hcond0_0 t).mpr (by omega), fun e => by have := (hcond0_1 t).mp e; omega, (hcond0_2 t).mpr (by omega),
    fun e => by have := (hcond0_3 t).mp e; omega, (hcond0_4 t).mpr (by omega), fun e => by have := (hcond0_5 t).mp e; omega⟩

/-- a later one the second. -/
theorem conds_later (t : Fin cfg0.N) (h : t.val ≠ 0) : conds0_B (grid0.coords t) := by
  have hN := lt8 t
  exact ⟨fun e => by have := (hcond0_0 t).mp e; omega, (hcond0_1 t).mpr (by omega), fun e => by have := (hcond0_2 t).mp e; omega,
    (hcond0_3 t).mpr (by omega), fun e => by have := (hcond0_4 t).mp e; omega, (hcond0_5 t).mpr (by omega)⟩

/-- No window is left out at any point. -/
theorem live (t : Fin cfg0.N) (w : Fin cfg0.W) : cfg0.idle w (grid0.coords t) = false := by
  by_cases h : t.val = 0
  · obtain ⟨h0, h1, h2, h3, h4, h5⟩ := conds_first t h
    match w with
    | ⟨23, _⟩ => exact liveAt0_23_A t h0 h1 h2 h3 h4 h5
    | ⟨24, _⟩ => exact liveAt0_24_A t h0 h1 h2 h3 h4 h5
    | ⟨25, _⟩ => exact liveAt0_25_A t h0 h1 h2 h3 h4 h5
    | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ | ⟨14, _⟩ | ⟨15, _⟩ | ⟨16, _⟩ | ⟨17, _⟩ | ⟨18, _⟩ | ⟨19, _⟩ | ⟨20, _⟩ | ⟨21, _⟩ | ⟨22, _⟩ => rfl
    | ⟨_ + 26, h⟩ => exact absurd h (Nat.not_lt.2 (Nat.le_add_left _ _))
  · obtain ⟨h0, h1, h2, h3, h4, h5⟩ := conds_later t h
    match w with
    | ⟨23, _⟩ => exact liveAt0_23_B t h0 h1 h2 h3 h4 h5
    | ⟨24, _⟩ => exact liveAt0_24_B t h0 h1 h2 h3 h4 h5
    | ⟨25, _⟩ => exact liveAt0_25_B t h0 h1 h2 h3 h4 h5
    | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ | ⟨14, _⟩ | ⟨15, _⟩ | ⟨16, _⟩ | ⟨17, _⟩ | ⟨18, _⟩ | ⟨19, _⟩ | ⟨20, _⟩ | ⟨21, _⟩ | ⟨22, _⟩ => rfl
    | ⟨_ + 26, h⟩ => exact absurd h (Nat.not_lt.2 (Nat.le_add_left _ _))

/-- What an output carried from the point before holds: nothing between the two points touches it. -/
theorem before_carried (c : Dev nD) (t : Fin cfg0.N) (w : Fin cfg0.W) (hw : (cfg0.win w).isOut = true) (hf : cfg0.fresh w t.val = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [Dat.before_out_traj _ w hw hclip (fun t _ hi _ => by rw [live t w] at hi; exact absurd hi Bool.false_ne_true) t.val t rfl d,
    if_neg (by rw [hf]; exact Bool.false_ne_true)]

theorem sumsAt_first (c : Dev nD) (t : Fin cfg0.N) (h : t.val = 0) : sumsAt m c t.val t.isLt = (blocks m c t).start := by
  obtain ⟨_ | n, hn⟩ := t
  · rfl
  · exact absurd h (Nat.succ_ne_zero n)

theorem sumsAt_later (c : Dev nD) (t : Fin cfg0.N) (h : t.val ≠ 0) :
    sumsAt m c t.val t.isLt = (blocks m c t).next (sumsAt m c (t.val - 1) (Nat.lt_of_le_of_lt (Nat.sub_le _ _) t.isLt)) := by
  obtain ⟨_ | n, hn⟩ := t
  · exact absurd rfl h
  · rfl

/-- What the body finds in the three carried outputs, and what becomes of it. -/
theorem carried (c : Dev nD) (t : Fin cfg0.N) (d23 d24 d25) :
    ∃ a : Sums F, ((conds0_A (grid0.coords t) ∧ sumsAt m c t.val t.isLt = (blocks m c t).start)
        ∨ (conds0_B (grid0.coords t) ∧ sumsAt m c t.val t.isLt = (blocks m c t).next a))
      ∧ (dats m 0 c).before 23 t d23 = a.g2 ∧ (dats m 0 c).before 24 t d24 = a.g3 ∧ (dats m 0 c).before 25 t d25 = a.bg := by
  by_cases h : t.val = 0
  · exact ⟨⟨(dats m 0 c).before 23 t d23, (dats m 0 c).before 24 t d24, (dats m 0 c).before 25 t d25⟩,
      .inl ⟨conds_first t h, sumsAt_first m c t h⟩, rfl, rfl, rfl⟩
  · have hB := conds_later t h
    refine ⟨sumsAt m c (t.val - 1) (Nat.lt_of_le_of_lt (Nat.sub_le _ _) t.isLt), .inr ⟨hB, sumsAt_later m c t h⟩, ?_, ?_, ?_⟩
    · exact (before_carried m c t 23 rfl (notFresh0_23_B t hB.1 hB.2.1 hB.2.2.1 hB.2.2.2.1 hB.2.2.2.2.1 hB.2.2.2.2.2) (fun _ _ => rfl) d23).trans (by dsimp only [dats])
    · exact (before_carried m c t 24 rfl (notFresh0_24_B t hB.1 hB.2.1 hB.2.2.1 hB.2.2.2.1 hB.2.2.2.2.1 hB.2.2.2.2.2) (fun _ _ => rfl) d24).trans (by dsimp only [dats])
    · exact (before_carried m c t 25 rfl (notFresh0_25_B t hB.1 hB.2.1 hB.2.2.1 hB.2.2.2.1 hB.2.2.2.2.1 hB.2.2.2.2.2) (fun _ _ => rfl) d25).trans (by dsimp only [dats])

/-- What a window's buffer holds when the body is called at point `t`. -/
def found (c : Dev nD) (t : Fin cfg0.N) (w : Fin cfg0.W) : sProp 𝕄 :=
  iprop(∃ d, owns (c : Thread nD τ) ((cfg0.win w).stage (cfg0.slots t w)) fullShare ((dats m 0 c).before w t d))

/-- What it holds afterwards. -/
def leaves (c : Dev nD) (t : Fin cfg0.N) (w : Fin cfg0.W) : sProp 𝕄 :=
  owns (c : Thread nD τ) ((cfg0.win w).stage (cfg0.slots t w)) fullShare ((dats m 0 c).after w t)

theorem leavesExact_eq (c : Dev nD) (t : Fin cfg0.N) (w : Fin cfg0.W) : (dats m 0 c).leavesExact w t = leaves m c t w := by
  unfold Dat.leavesExact leaves; rw [live t w]

set_option maxHeartbeats 8000000 in
/-- The body at any point, between the program's data before and after it. -/
theorem sound_body (c : Dev nD) (t : Fin cfg0.N) :
    iprop((dats m 0 c).Φ t.castSucc ∗ (dats m 0 c).owesAt () t.castSucc ∗ bigSep Finset.univ (found m c t))
      ⊢ wp frame (wpE (defs₀ (F := F)) Variants.none c none) Set.univ (bodyAt0 t)
        (fun _ => iprop((dats m 0 c).Φ t.succ ∗ (dats m 0 c).owesAt () t.succ ∗ bigSep Finset.univ (leaves m c t))) := by
  rw [bigSep_W0, bigSep_W0, show (dats m 0 c).Φ t.succ = (dats m 0 c).Φ t.castSucc from rfl,
    show (dats m 0 c).owesAt () t.succ = (dats m 0 c).owesAt () t.castSucc from rfl]
  unfold found leaves bodyAt0
  simp only [before0_0_of m (dats m 0 c) (A_eq m c 0) (fun t => by dsimp only [dats]) t]
  simp only [before0_1_of m (dats m 0 c) (A_eq m c 1) (fun t => by dsimp only [dats]) t]
  simp only [before0_2_of m (dats m 0 c) (A_eq m c 2) (fun t => by dsimp only [dats]) t]
  simp only [before0_3_of m (dats m 0 c) (A_eq m c 3) (fun t => by dsimp only [dats]) t]
  simp only [before0_4_of m (dats m 0 c) (A_eq m c 4) (fun t => by dsimp only [dats]) t]
  simp only [before0_5_of m (dats m 0 c) (A_eq m c 5) (fun t => by dsimp only [dats]) t]
  simp only [before0_6_of m (dats m 0 c) (A_eq m c 6) (fun t => by dsimp only [dats]) t]
  simp only [before0_7_of m (dats m 0 c) (A_eq m c 7) (fun t => by dsimp only [dats]) t]
  simp only [before0_8_of m (dats m 0 c) (A_eq m c 8) (fun t => by dsimp only [dats]) t]
  simp only [before0_9_of m (dats m 0 c) (A_eq m c 9) (fun t => by dsimp only [dats]) t]
  simp only [before0_10_of m (dats m 0 c) (A_eq m c 10) (fun t => by dsimp only [dats]) t]
  simp only [before0_11_of m (dats m 0 c) (A_eq m c 11) (fun t => by dsimp only [dats]) t]
  simp only [before0_12_of m (dats m 0 c) (A_eq m c 12) (fun t => by dsimp only [dats]) t]
  simp only [before0_13_of m (dats m 0 c) (A_eq m c 13) (fun t => by dsimp only [dats]) t]
  simp only [before0_14_of m (dats m 0 c) (A_eq m c 14) (fun t => by dsimp only [dats]) t]
  simp only [before0_15_of m (dats m 0 c) (A_eq m c 15) (fun t => by dsimp only [dats]) t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  obtain ⟨a, hcase, e23, e24, e25⟩ := carried m c t d23 d24 d25
  rw [e23, e24, e25]
  have R := run_body c (grid0.coords t) (bufs t) (blocks m c t) a (sumsAt m c t.val t.isLt) hcase Set.univ
    (fun _ => iprop((dats m 0 c).Φ t.castSucc ∗ (dats m 0 c).owesAt () t.castSucc ∗ leaves m c t 0 ∗ leaves m c t 1 ∗ leaves m c t 2 ∗ leaves m c t 3 ∗ leaves m c t 4 ∗ leaves m c t 5 ∗ leaves m c t 6 ∗ leaves m c t 7 ∗ leaves m c t 8 ∗ leaves m c t 9 ∗ leaves m c t 10 ∗ leaves m c t 11 ∗ leaves m c t 12 ∗ leaves m c t 13 ∗ leaves m c t 14 ∗ leaves m c t 15 ∗ leaves m c t 16 ∗ leaves m c t 17 ∗ leaves m c t 18 ∗ leaves m c t 19 ∗ leaves m c t 20 ∗ leaves m c t 21 ∗ leaves m c t 22 ∗ leaves m c t 23 ∗ leaves m c t 24 ∗ leaves m c t 25))
  unfold holdsIn holdsAny holdsOut holdsSums bufs leaves at R
  dsimp only at R
  iapply R
  isplitl [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16 H17 H18 H19 H20 H21 H22]
  · isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  isplitl [H23 H24 H25]
  · isplitl [H23]; · iexact H23
    isplitl [H24]; · iexact H24
    iexact H25
  iintro ⟨⟨H0, H1, H2, H3, H4, H5, H6, H7, H8, H9, H10, H11, H12, H13, H14, H15⟩, ⟨H16, H17, H18, H19, H20, H21, H22⟩, ⟨H23, H24, H25⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The row of the body's table at point `t` is the body. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [body_row]
  refine triple_restated (sound_body m c t) rfl .rfl fun _ => ?_
  rw [← funext (leavesExact_eq m c t)]

set_option backward.isDefEq.respectTransparency.types false in
/-- The whole run: every array at what the data say, every counter back at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they were. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) ((θ_run defs _ _).mono (fun _ h => h.1) (run_main m ρ))

/-- The frame's statement over any float values. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (kept m ρ) ((θ_run defs _ _).mono (fun _ h => h.2) (run_main m ρ))

/-- The run with its ten results named. -/
theorem run_blocks : θ_run defs (onTc (τ := τ) (main (F := F))) ⟨m, fun _ => 0, ρ⟩ (fun r => ∀ c : Dev nD,
      r.2.mem ((c.tc : Thread nD τ).loc main_v45_0) = (dats m 0 c).arrAt 16 cfg0.N
      ∧ r.2.mem ((c.tc : Thread nD τ).loc main_v45_1) = (dats m 0 c).arrAt 17 cfg0.N
      ∧ r.2.mem ((c.tc : Thread nD τ).loc main_v45_2) = (dats m 0 c).arrAt 18 cfg0.N
      ∧ r.2.mem ((c.tc : Thread nD τ).loc main_v45_3) = (dats m 0 c).arrAt 19 cfg0.N
      ∧ r.2.mem ((c.tc : Thread nD τ).loc main_v45_4) = (dats m 0 c).arrAt 20 cfg0.N
      ∧ r.2.mem ((c.tc : Thread nD τ).loc main_v45_5) = (dats m 0 c).arrAt 21 cfg0.N
      ∧ r.2.mem ((c.tc : Thread nD τ).loc main_v45_6) = (dats m 0 c).arrAt 22 cfg0.N
      ∧ r.2.mem ((c.tc : Thread nD τ).loc main_v45_7) = (dats m 0 c).arrAt 23 cfg0.N
      ∧ r.2.mem ((c.tc : Thread nD τ).loc main_v45_8) = (dats m 0 c).arrAt 24 cfg0.N
      ∧ r.2.mem ((c.tc : Thread nD τ).loc main_v45_9) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h.2.1 c).1 16, (h.2.1 c).1 17, (h.2.1 c).1 18, (h.2.1 c).1 19, (h.2.1 c).1 20, (h.2.1 c).1 21, (h.2.1 c).1 22, (h.2.1 c).1 23, (h.2.1 c).1 24, (h.2.1 c).1 25, h.1 c⟩)
    (θ_run_and (kept m ρ) (run_main m ρ))

end Cert.Merge
-- ==== Proof.MergeBits.lean ====
/- The merge's backward call: the frames of both programs, from the one run. -/
module

public import proofs.«01_k».proof.Defs
public import proofs.«01_k».proof.Proof.Gen.KernelMerge
public import proofs.«01_k».proof.Proof.Gen.KernelMergeIdeal
public import proofs.«01_k».proof.Proof.Gen.Pre_finite_merge
public import proofs.«01_k».proof.Proof.MergeFrame

@[expose] public section

set_option maxRecDepth 16384

noncomputable section

open Idealize.ShloMosaic Idealize.ShloMosaic.TcCoe Idealize.ShloMosaic.Tactic Idealize.SL.Sem

namespace Cert.Merge

theorem frame_ideal : Cert.quiescent_KernelMergeIdeal (hKernelMergeIdeal := Cert.KernelMergeIdeal.Gen.facts) := fun m ρ _ =>
  (θ_run Cert.KernelMergeIdeal.defs _ _).mono (fun _ h => h) (quiescent (F := Ideal) m ρ)

/-- The printed program's frame, told of the idealised program's names over the machine's floats. -/
def FrameBits : Prop :=
  ∀ (m : (ℓ : Loc Cert.KernelMergeIdeal.nD Cert.KernelMergeIdeal.τ Cert.KernelMergeIdeal.sig) → Buf (Elt Bits) ℓ) (g : Dev Cert.KernelMergeIdeal.nD → PrngReg), True →
    θ_run (Cert.KernelMergeIdeal.defs (F := Bits)) (onTc (τ := Cert.KernelMergeIdeal.τ) (Cert.KernelMergeIdeal.main (F := Bits))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

/-- The two programs have one text. -/
theorem same_text : FrameBits = Cert.quiescent_KernelMerge (hKernelMerge := Cert.KernelMerge.Gen.facts) := by
  sl_kernel_rfl

theorem frame_kernel : Cert.quiescent_KernelMerge (hKernelMerge := Cert.KernelMerge.Gen.facts) := same_text ▸
  fun m ρ _ => quiescent (F := Bits) m ρ

end Cert.Merge
end
-- ==== Proof.MergeMath.lean ====
/- The gated merge, its two norms and their gradients, written over real arrays. -/
module

public import proofs.«01_k».proof.Proof.Reals

@[expose] public section

noncomputable section

namespace Cert.Merge

open Cert.Reals Idealize.ShloMosaic

/-- The logistic gate. -/
def logi (z : ℝ) : ℝ := 1 / (1 + Real.exp (0 - z))
theorem logi_den (z : ℝ) : 1 + Real.exp (0 - z) ≠ 0 := (by positivity : (0 : ℝ) < 1 + Real.exp (0 - z)).ne'

/-- The real arrays behind the arguments. -/
structure Arrs where
  X : ℕ → ℕ → ℝ
  L : ℕ → ℕ → ℝ
  P : ℕ → ℕ → ℝ
  J : ℕ → ℕ → ℝ
  B : ℕ → ℝ
  G2 : ℕ → ℝ
  G3 : ℕ → ℝ
  WL : ℕ → ℕ → ℝ
  WP : ℕ → ℕ → ℝ
  WO : ℕ → ℕ → ℝ
  DY : ℕ → ℕ → ℝ
  DH : ℕ → ℕ → ℝ

namespace Arrs
variable (A : Arrs)

/-- The two branches, each brought up to the model's width. -/
def bra (s c : ℕ) : ℝ := ∑ k : Fin 1024, A.L s k * A.WL k c
def brb (s c : ℕ) : ℝ := ∑ k : Fin 512, A.P s k * A.WP k c
/-- The gates: the first 1024 for one branch, the others for the other. -/
def gate (s c : ℕ) : ℝ := logi (A.J s (2560 + c) + A.B c)
def mg (s c : ℕ) : ℝ := A.gate s c * A.bra s c + A.gate s (1024 + c) * A.brb s c
def mm (s d : ℕ) : ℝ := ∑ c : Fin 1024, A.mg s c * A.WO c d
/-- The stream after the mixer. -/
def x2 (s d : ℕ) : ℝ := A.X s d + A.mm s d * rinv (A.mm s) * A.G2 d
/-- The stream's gradient. -/
def dx (s d : ℕ) : ℝ := A.DY s d + normGrad (A.x2 s) (fun d => A.DH s d * A.G3 d) d
def dm (s d : ℕ) : ℝ := normGrad (A.mm s) (fun d => A.dx s d * A.G2 d) d
def dmg (s c : ℕ) : ℝ := ∑ d : Fin 1024, A.dm s d * A.WO c d
def dga (s c : ℕ) : ℝ := A.dmg s c * A.bra s c * (A.gate s c * (1 - A.gate s c))
def dgb (s c : ℕ) : ℝ := A.dmg s c * A.brb s c * (A.gate s (1024 + c) * (1 - A.gate s (1024 + c)))
def dgt (s c : ℕ) : ℝ := if c < 1024 then A.dga s c else A.dgb s (c - 1024)
def dbra (s c : ℕ) : ℝ := A.dmg s c * A.gate s c
def dbrb (s c : ℕ) : ℝ := A.dmg s c * A.gate s (1024 + c)
def dyl (s k : ℕ) : ℝ := ∑ c : Fin 1024, A.dbra s c * A.WL k c
def dyp (s k : ℕ) : ℝ := ∑ c : Fin 1024, A.dbrb s c * A.WP k c
/-- What one row adds to the gradients of the norms' weights. -/
def row3 (s d : ℕ) : ℝ := A.DH s d * (A.x2 s d * rinv (A.x2 s))
def row2 (s d : ℕ) : ℝ := A.dx s d * (A.mm s d * rinv (A.mm s))

theorem dyp_pieces (s k : ℕ) :
    A.dyp s k = (∑ c : Fin 256, A.dbrb s c * A.WP k c) + (∑ c : Fin 256, A.dbrb s (256 + c) * A.WP k (256 + c))
      + (∑ c : Fin 256, A.dbrb s (512 + c) * A.WP k (512 + c)) + (∑ c : Fin 256, A.dbrb s (768 + c) * A.WP k (768 + c)) := by
  unfold dyp
  rw [Fin.sum_univ_eq_sum_range (fun c => A.dbrb s c * A.WP k c) 1024, show 1024 = 256 + 256 + 256 + 256 from rfl]
  rw [Finset.sum_range_add, Finset.sum_range_add, Finset.sum_range_add]
  simp only [Finset.sum_range]

end Arrs

theorem lit_nil : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul, -EReal.coe_neg]; try norm_num

end Cert.Merge
end
-- ==== Proof.MergeRef.lean ====
/- What the reference of the merge's backward call computes, over the reals. -/
module

public import proofs.«01_k».proof.Proof.Gen.ReferenceMergeIdeal.Read
public import proofs.«01_k».proof.Proof.MergeMath

@[expose] public section

set_option maxRecDepth 16384

noncomputable section

open Idealize.ShloMosaic Idealize.ShloMosaic.TcCoe Idealize.SL.Sem

namespace Cert.MergeRef

open Cert.ReferenceMergeIdeal Cert.ReferenceMergeIdeal.Gen Cert.ReferenceMergeIdeal.Read Cert.Reals Cert.Merge

theorem div1024 (a : ℝ) : Ideal.div (a : EReal) ((1024 : ℝ) : EReal) = ((a / 1024 : ℝ) : EReal) := coe_div a (by norm_num)

variable {A : Arrs} {x0 : FVec Ideal S2048x1024 .f32} {x1 : FVec Ideal S2048x1024 .bf16} {x2 : FVec Ideal S2048x512 .bf16} {x3 : FVec Ideal S2048x4608 .f32} {x4 : FVec Ideal S1x2048 .f32} {x5 : FVec Ideal S1x1024 .f32} {x6 : FVec Ideal S1x1024 .f32} {x7 : FVec Ideal S1x1024x1024 .f32} {x8 : FVec Ideal S1x512x1024 .f32} {x9 : FVec Ideal S1x1024x1024 .f32} {x10 : FVec Ideal S2048x1024 .f32} {x11 : FVec Ideal S2048x1024 .f32}

/-- The arguments are the images of real arrays. -/
structure In (A : Arrs) (x0 : FVec Ideal S2048x1024 .f32) (x1 : FVec Ideal S2048x1024 .bf16) (x2 : FVec Ideal S2048x512 .bf16) (x3 : FVec Ideal S2048x4608 .f32) (x4 : FVec Ideal S1x2048 .f32) (x5 : FVec Ideal S1x1024 .f32) (x6 : FVec Ideal S1x1024 .f32) (x7 : FVec Ideal S1x1024x1024 .f32) (x8 : FVec Ideal S1x512x1024 .f32) (x9 : FVec Ideal S1x1024x1024 .f32) (x10 : FVec Ideal S2048x1024 .f32) (x11 : FVec Ideal S2048x1024 .f32) : Prop where
  h0 : ∀ p q, x0 (ix2 p q) = ((A.X p q : ℝ) : EReal)
  h1 : ∀ p q, x1 (ix2 p q) = ((A.L p q : ℝ) : EReal)
  h2 : ∀ p q, x2 (ix2 p q) = ((A.P p q : ℝ) : EReal)
  h3 : ∀ p q, x3 (ix2 p q) = ((A.J p q : ℝ) : EReal)
  h4 : ∀ u q, x4 (ix2 u q) = ((A.B q : ℝ) : EReal)
  h5 : ∀ u q, x5 (ix2 u q) = ((A.G2 q : ℝ) : EReal)
  h6 : ∀ u q, x6 (ix2 u q) = ((A.G3 q : ℝ) : EReal)
  h7 : ∀ u p q, x7 (ix3 u p q) = ((A.WL p q : ℝ) : EReal)
  h8 : ∀ u p q, x8 (ix3 u p q) = ((A.WP p q : ℝ) : EReal)
  h9 : ∀ u p q, x9 (ix3 u p q) = ((A.WO p q : ℝ) : EReal)
  h10 : ∀ p q, x10 (ix2 p q) = ((A.DY p q : ℝ) : EReal)
  h11 : ∀ p q, x11 (ix2 p q) = ((A.DH p q : ℝ) : EReal)

variable (H : In A x0 x1 x2 x3 x4 x5 x6 x7 x8 x9 x10 x11)
include H

/-- The two branches brought up to the model's width. -/
theorem bra_at (s : Fin 2048) (d : Fin 1024) : val_main_v3 (F := Ideal) x1 x7 (ix2 s d) = ((A.bra s d : ℝ) : EReal) := by
  pointwise [val_main_v3, val_main_v2, val_main_v0]
  simp only [H.h1, H.h7, ← EReal.coe_mul, ← EReal.coe_add, coe_sum, div1024, lit_1024, lit_eps]
  rfl

theorem brb_at (s : Fin 2048) (d : Fin 1024) : val_main_v5 (F := Ideal) x2 x8 (ix2 s d) = ((A.brb s d : ℝ) : EReal) := by
  pointwise [val_main_v5, val_main_v4, val_main_v1]
  simp only [H.h2, H.h8, ← EReal.coe_mul, ← EReal.coe_add, coe_sum, div1024, lit_1024, lit_eps]
  rfl

omit H in
theorem logi_neg (z : ℝ) : Ideal.div 1 (1 + Ideal.exp (-(z : EReal))) = ((logi z : ℝ) : EReal) := by
  rw [← EReal.coe_neg, Ideal.exp_coe, ← EReal.coe_one, ← EReal.coe_add, show -z = 0 - z by ring, coe_div _ (logi_den z)]
  rfl

/-- The gates. -/
theorem gate_at (s c : Fin 2048) : val_main_v16 (F := Ideal) x3 x4 (ix2 s c) = ((A.gate s c : ℝ) : EReal) := by
  pointwise [val_main_v16, val_main_v15, val_main_v14, val_main_v13, val_main_v12, val_main_v11, val_main_v10, val_main_v9, val_main_v8, val_main_v7, val_main_v6, val_main_cst, val_main_cst_0]
  simp only [H.h3, H.h4]
  rw [← EReal.coe_add]
  exact logi_neg _

/-- Their slope. -/
theorem slope_at (s c : Fin 2048) : val_main_v19 (F := Ideal) x3 x4 (ix2 s c) = ((A.gate s c * (1 - A.gate s c) : ℝ) : EReal) := by
  have hg := gate_at H
  pointwise [val_main_v19, val_main_v18, val_main_v17, val_main_cst_1]
  simp only [hg]
  rw [EReal.coe_mul, EReal.coe_sub, EReal.coe_one]

/-- The mixer's output. -/
theorem mm_at (s : Fin 2048) (d : Fin 1024) : val_main_v26 (F := Ideal) x1 x2 x3 x4 x7 x8 x9 (ix2 s d) = ((A.mm s d : ℝ) : EReal) := by
  have ha := bra_at H
  have hb := brb_at H
  have hg := gate_at H
  pointwise [val_main_v26, val_main_v25, val_main_v24, val_main_v23, val_main_v22, val_main_v21, val_main_v20]
  simp only [ha, hb, hg, H.h9, ← EReal.coe_mul, ← EReal.coe_add, coe_sum, div1024, lit_1024, lit_eps]
  rfl

/-- The mixer's norm. -/
theorem m_ms_at (s : Fin 2048) (u : Fin 1) : val_main_v35 (F := Ideal) x1 x2 x3 x4 x7 x8 x9 (ix2 s u) = (((∑ k : Fin 1024, A.mm s k * A.mm s k) / 1024 + eps : ℝ) : EReal) := by
  have h := mm_at H
  pointwise [val_main_v35, val_main_v34, val_main_cst_4, val_main_v33, val_main_v32, val_main_cst_3, val_main_v31, val_main_v30, val_main_cst_2, val_main_v29]
  simp only [h, ← EReal.coe_mul, ← EReal.coe_add, coe_sum, div1024, lit_1024, lit_eps]

theorem m_r_at (s : Fin 2048) (u : Fin 1) : val_main_v36 (F := Ideal) x1 x2 x3 x4 x7 x8 x9 (ix2 s u) = ((rinv (A.mm s) : ℝ) : EReal) := by
  have h := m_ms_at H
  pointwise [val_main_v36]
  simp only [h]
  exact rsqrt_row (A.mm s)

theorem m_half_at (s : Fin 2048) (u : Fin 1) : val_main_v39 (F := Ideal) x1 x2 x3 x4 x7 x8 x9 (ix2 s u) = ((-(1 / 2) * (rinv (A.mm s) / ((∑ k : Fin 1024, A.mm s k * A.mm s k) / 1024 + eps)) : ℝ) : EReal) := by
  have hm := m_ms_at H
  have hr := m_r_at H
  pointwise [val_main_v39, val_main_v38, val_main_cst_5, val_main_v37]
  simp only [hr, hm, lit_neg_half, coe_div _ (ms_pos (A.mm s)).ne', ← EReal.coe_mul]

theorem m_n_at (s : Fin 2048) (d : Fin 1024) : val_main_v41 (F := Ideal) x1 x2 x3 x4 x7 x8 x9 (ix2 s d) = ((A.mm s d * rinv (A.mm s) : ℝ) : EReal) := by
  have hf := mm_at H
  have hr := m_r_at H
  pointwise [val_main_v41, val_main_v40]
  simp only [hf, hr, ← EReal.coe_mul]

/-- The stream after the mixer. -/
theorem x2_at (s : Fin 2048) (d : Fin 1024) : val_main_v45 (F := Ideal) x0 x1 x2 x3 x4 x5 x7 x8 x9 (ix2 s d) = ((A.x2 s d : ℝ) : EReal) := by
  have hn := m_n_at H
  pointwise [val_main_v45, val_main_v44, val_main_v43, val_main_v42, val_main_v27]
  simp only [hn, H.h0, H.h5, ← EReal.coe_mul, ← EReal.coe_add, coe_sum, div1024, lit_1024, lit_eps]
  rfl

/-- The channel mixer's norm. -/
theorem x_ms_at (s : Fin 2048) (u : Fin 1) : val_main_v52 (F := Ideal) x0 x1 x2 x3 x4 x5 x7 x8 x9 (ix2 s u) = (((∑ k : Fin 1024, A.x2 s k * A.x2 s k) / 1024 + eps : ℝ) : EReal) := by
  have h := x2_at H
  pointwise [val_main_v52, val_main_v51, val_main_cst_8, val_main_v50, val_main_v49, val_main_cst_7, val_main_v48, val_main_v47, val_main_cst_6, val_main_v46]
  simp only [h, ← EReal.coe_mul, ← EReal.coe_add, coe_sum, div1024, lit_1024, lit_eps]

theorem x_r_at (s : Fin 2048) (u : Fin 1) : val_main_v53 (F := Ideal) x0 x1 x2 x3 x4 x5 x7 x8 x9 (ix2 s u) = ((rinv (A.x2 s) : ℝ) : EReal) := by
  have h := x_ms_at H
  pointwise [val_main_v53]
  simp only [h]
  exact rsqrt_row (A.x2 s)

theorem x_half_at (s : Fin 2048) (u : Fin 1) : val_main_v56 (F := Ideal) x0 x1 x2 x3 x4 x5 x7 x8 x9 (ix2 s u) = ((-(1 / 2) * (rinv (A.x2 s) / ((∑ k : Fin 1024, A.x2 s k * A.x2 s k) / 1024 + eps)) : ℝ) : EReal) := by
  have hm := x_ms_at H
  have hr := x_r_at H
  pointwise [val_main_v56, val_main_v55, val_main_cst_9, val_main_v54]
  simp only [hr, hm, lit_neg_half, coe_div _ (ms_pos (A.x2 s)).ne', ← EReal.coe_mul]

theorem x_n_at (s : Fin 2048) (d : Fin 1024) : val_main_v58 (F := Ideal) x0 x1 x2 x3 x4 x5 x7 x8 x9 (ix2 s d) = ((A.x2 s d * rinv (A.x2 s) : ℝ) : EReal) := by
  have hf := x2_at H
  have hr := x_r_at H
  pointwise [val_main_v58, val_main_v57]
  simp only [hf, hr, ← EReal.coe_mul]

/-- The gradient of the channel mixer norm's weights. -/
theorem dg3_at (u : Fin 1) (d : Fin 1024) : val_main_v121 (F := Ideal) x0 x1 x2 x3 x4 x5 x7 x8 x9 x11 (ix2 u d) = ((∑ s : Fin 2048, A.row3 s d : ℝ) : EReal) := by
  have hn := x_n_at H
  pointwise [val_main_v121, val_main_v67, val_main_cst_11, val_main_v64, val_main_v63, val_main_cst_10, val_main_v62]
  simp only [hn, H.h11, ← EReal.coe_mul, coe_sum]
  refine congrArg Real.toEReal ((Fin.sum_univ_one _).trans ?_)
  exact Finset.sum_congr rfl fun s _ => mul_comm _ _

theorem t3_at (s : Fin 2048) (d : Fin 1024) : val_main_v66 (F := Ideal) x6 x11 (ix2 s d) = ((A.DH s d * A.G3 d : ℝ) : EReal) := by
  pointwise [val_main_v66, val_main_v65, val_main_v59, val_main_v28]
  simp only [H.h11, H.h6, ← EReal.coe_mul]

theorem x_grad_at (s : Fin 2048) (d : Fin 1024) : val_main_v78 (F := Ideal) x0 x1 x2 x3 x4 x5 x6 x7 x8 x9 x11 (ix2 s d) = (((∑ k : Fin 1024, A.x2 s k * (A.DH s k * A.G3 k)) * (-(1 / 2) * (rinv (A.x2 s) / ((∑ k : Fin 1024, A.x2 s k * A.x2 s k) / 1024 + eps))) / 1024 : ℝ) : EReal) := by
  have ht := t3_at H
  have hf := x2_at H
  have hh := x_half_at H
  pointwise [val_main_v78, val_main_v77, val_main_cst_14, val_main_v76, val_main_v75, val_main_cst_13, val_main_v74, val_main_v70, val_main_v69, val_main_cst_12, val_main_v68]
  refine (Fin.sum_univ_one _).trans ?_
  simp only [hh, ht, hf, ← EReal.coe_mul, ← EReal.coe_add, coe_sum, div1024, lit_1024, lit_eps]

/-- The stream's gradient. -/
theorem dx_at (s : Fin 2048) (d : Fin 1024) : val_main_v82 (F := Ideal) x0 x1 x2 x3 x4 x5 x6 x7 x8 x9 x10 x11 (ix2 s d) = ((A.dx s d : ℝ) : EReal) := by
  have ht := t3_at H
  have hf := x2_at H
  have hm := x_grad_at H
  have hr := x_r_at H
  pointwise [val_main_v82, val_main_v81, val_main_v80, val_main_v79, val_main_v73, val_main_v72, val_main_v71]
  simp only [ht, hm, hr, hf, H.h10, ← EReal.coe_mul, ← EReal.coe_add]
  unfold Arrs.dx
  rw [← normGrad_halves, ← add_assoc, ← add_assoc]

theorem dx_again (s : Fin 2048) (d : Fin 1024) : val_main_v83 (F := Ideal) x0 x1 x2 x3 x4 x5 x6 x7 x8 x9 x10 x11 (ix2 s d) = ((A.dx s d : ℝ) : EReal) := by
  exact (congrFun (shapeCast_self _ _) _).trans (dx_at H s d)

/-- The gradient of the mixer norm's weights. -/
theorem dg2_at (u : Fin 1) (d : Fin 1024) : val_main_v120 (F := Ideal) x0 x1 x2 x3 x4 x5 x6 x7 x8 x9 x10 x11 (ix2 u d) = ((∑ s : Fin 2048, A.row2 s d : ℝ) : EReal) := by
  have hn := m_n_at H
  have hx := dx_again H
  pointwise [val_main_v120, val_main_v89, val_main_cst_16, val_main_v86, val_main_v85, val_main_cst_15, val_main_v84]
  simp only [hn, hx, ← EReal.coe_mul, coe_sum]
  refine congrArg Real.toEReal ((Fin.sum_univ_one _).trans ?_)
  exact Finset.sum_congr rfl fun s _ => mul_comm _ _

theorem t2_at (s : Fin 2048) (d : Fin 1024) : val_main_v88 (F := Ideal) x0 x1 x2 x3 x4 x5 x6 x7 x8 x9 x10 x11 (ix2 s d) = ((A.dx s d * A.G2 d : ℝ) : EReal) := by
  have hx := dx_again H
  pointwise [val_main_v88, val_main_v87, val_main_v42, val_main_v27]
  simp only [hx, H.h5, ← EReal.coe_mul]

theorem m_grad_at (s : Fin 2048) (d : Fin 1024) : val_main_v99 (F := Ideal) x0 x1 x2 x3 x4 x5 x6 x7 x8 x9 x10 x11 (ix2 s d) = (((∑ k : Fin 1024, A.mm s k * (A.dx s k * A.G2 k)) * (-(1 / 2) * (rinv (A.mm s) / ((∑ k : Fin 1024, A.mm s k * A.mm s k) / 1024 + eps))) / 1024 : ℝ) : EReal) := by
  have ht := t2_at H
  have hf := mm_at H
  have hh := m_half_at H
  pointwise [val_main_v99, val_main_v98, val_main_cst_19, val_main_v97, val_main_v96, val_main_cst_18, val_main_v95, val_main_v92, val_main_v91, val_main_cst_17, val_main_v90]
  refine (Fin.sum_univ_one _).trans ?_
  simp only [hh, ht, hf, ← EReal.coe_mul, ← EReal.coe_add, coe_sum, div1024, lit_1024, lit_eps]

/-- The gradient before the mixer's norm. -/
theorem dm_at (s : Fin 2048) (d : Fin 1024) : val_main_v103 (F := Ideal) x0 x1 x2 x3 x4 x5 x6 x7 x8 x9 x10 x11 (ix2 s d) = ((A.dm s d : ℝ) : EReal) := by
  have ht := t2_at H
  have hf := mm_at H
  have hm := m_grad_at H
  have hr := m_r_at H
  pointwise [val_main_v103, val_main_v102, val_main_v101, val_main_v100, val_main_v94, val_main_v93]
  simp only [ht, hm, hr, hf, ← EReal.coe_mul, ← EReal.coe_add]
  unfold Arrs.dm
  rw [← normGrad_halves]

theorem dmg_at (s : Fin 2048) (d : Fin 1024) : val_main_v104 (F := Ideal) x0 x1 x2 x3 x4 x5 x6 x7 x8 x9 x10 x11 (ix2 s d) = ((A.dmg s d : ℝ) : EReal) := by
  have h := dm_at H
  pointwise [val_main_v104, val_main_v25]
  simp only [h, H.h9, ← EReal.coe_mul, ← EReal.coe_add, coe_sum, div1024, lit_1024, lit_eps]
  rfl

/-- The gradients of the two up-projections. -/
theorem dbra_at (s : Fin 2048) (d : Fin 1024) : val_main_v107 (F := Ideal) x0 x1 x2 x3 x4 x5 x6 x7 x8 x9 x10 x11 (ix2 s d) = ((A.dbra s d : ℝ) : EReal) := by
  have h := dmg_at H
  have hg := gate_at H
  pointwise [val_main_v107, val_main_v20]
  simp only [h, hg, ← EReal.coe_mul]
  exact congrArg Real.toEReal (mul_comm _ _)

theorem dbrb_at (s : Fin 2048) (d : Fin 1024) : val_main_v105 (F := Ideal) x0 x1 x2 x3 x4 x5 x6 x7 x8 x9 x10 x11 (ix2 s d) = ((A.dbrb s d : ℝ) : EReal) := by
  have h := dmg_at H
  have hg := gate_at H
  pointwise [val_main_v105, val_main_v21]
  simp only [h, hg, ← EReal.coe_mul]
  exact congrArg Real.toEReal (mul_comm _ _)

theorem dyl_at (s : Fin 2048) (d : Fin 1024) : val_main_v115 (F := Ideal) x0 x1 x2 x3 x4 x5 x6 x7 x8 x9 x10 x11 (ix2 s d) = ((A.dyl s d : ℝ) : EReal) := by
  have h := dbra_at H
  pointwise [val_main_v115, val_main_v2]
  simp only [h, H.h7, ← EReal.coe_mul, ← EReal.coe_add, coe_sum, div1024, lit_1024, lit_eps]
  rfl

theorem dyp_at (s : Fin 2048) (k : Fin 512) : val_main_v114 (F := Ideal) x0 x1 x2 x3 x4 x5 x6 x7 x8 x9 x10 x11 (ix2 s k) = ((A.dyp s k : ℝ) : EReal) := by
  have h := dbrb_at H
  pointwise [val_main_v114, val_main_v4]
  simp only [h, H.h8, ← EReal.coe_mul, ← EReal.coe_add, coe_sum, div1024, lit_1024, lit_eps]
  rfl

/-- The gates' gradient. -/
theorem dgt_at (s c : Fin 2048) : val_main_v110 (F := Ideal) x0 x1 x2 x3 x4 x5 x6 x7 x8 x9 x10 x11 (ix2 s c) = ((A.dgt s c : ℝ) : EReal) := by
  have h := dmg_at H
  have hs := slope_at H
  have ha := bra_at H
  have hb := brb_at H
  pointwise [val_main_v110, val_main_v109, val_main_v108, val_main_v106]
  simp only [h, hs, ha, hb, ← EReal.coe_mul]
  unfold Arrs.dgt Arrs.dga Arrs.dgb
  split
  · rw [← EReal.coe_mul]
  · rename_i hc
    rw [← EReal.coe_mul, show 1024 + (c.val - 1024) = c.val by omega]

/-- The gradient of the gates' bias. -/
theorem dbg_at (u : Fin 1) (c : Fin 2048) : val_main_v122 (F := Ideal) x0 x1 x2 x3 x4 x5 x6 x7 x8 x9 x10 x11 (ix2 u c) = ((∑ s : Fin 2048, A.dgt s c : ℝ) : EReal) := by
  have h := dgt_at H
  pointwise [val_main_v122, val_main_v113, val_main_cst_21, val_main_v112, val_main_v111, val_main_cst_20]
  simp only [h, coe_sum]
  exact congrArg Real.toEReal (Fin.sum_univ_one _)

end Cert.MergeRef
end
-- ==== Proof.MergePay.lean ====
/- The merge's backward call: what the kernel's body computes of one block of rows. -/
module

public import proofs.«01_k».proof.Proof.MergeRun
public import proofs.«01_k».proof.Proof.MergeMath

@[expose] public section

set_option maxRecDepth 16384

noncomputable section

open Idealize.ShloMosaic Idealize.ShloMosaic.TcCoe Idealize.SL.Sem

namespace Cert.Merge

open Cert.KernelMergeIdeal Cert.KernelMergeIdeal.Gen Cert.Reals

theorem div1024 (a : ℝ) : Ideal.div (a : EReal) ((1024 : ℝ) : EReal) = ((a / 1024 : ℝ) : EReal) := coe_div a (by norm_num)

theorem one_sub_coe (a : ℝ) : (1 : EReal) - (a : EReal) = ((1 - a : ℝ) : EReal) := by
  rw [EReal.coe_sub, EReal.coe_one]

theorem logi_coe (z : ℝ) : Ideal.div 1 (1 + Ideal.exp (0 - (z : EReal))) = ((logi z : ℝ) : EReal) := by
  rw [← EReal.coe_zero, ← EReal.coe_sub, Ideal.exp_coe, ← EReal.coe_one, ← EReal.coe_add, coe_div _ (logi_den z)]
  rfl

section norms
variable (v w y : Vec Ideal S256x1024 .f32) (g : Vec Ideal S1x1024 .f32) (X T D : ℕ → ℕ → ℝ) (G : ℕ → ℝ)
  (hv : ∀ p q, v (ix2 p q) = ((X p q : ℝ) : EReal)) (hw : ∀ p q, w (ix2 p q) = ((T p q : ℝ) : EReal))
  (hy : ∀ p q, y (ix2 p q) = ((D p q : ℝ) : EReal)) (hg : ∀ q, g (ix2 0 q) = ((G q : ℝ) : EReal))

include hv in
theorem pay4_at (p : Fin 256) (u : Fin 1) : k0_pay4 (F := Ideal) v (ix2 p u) = ((rinv (X p) : ℝ) : EReal) := by
  pointwise [k0_pay4, k0_pay3]
  simp only [hv, lit_1024, lit_eps, ← EReal.coe_mul, coe_sum, div1024, ← EReal.coe_add]
  exact rsqrt_row (X p)

include hv in
theorem pay12_at (p : Fin 256) (u : Fin 1) : k0_pay12 (F := Ideal) v (ix2 p u) = ((rinv (X p) : ℝ) : EReal) := pay4_at v X hv p u

include hv in
theorem pay5_at (p : Fin 256) (q : Fin 1024) : k0_pay5 (F := Ideal) v (ix2 p q) = ((X p q * rinv (X p) : ℝ) : EReal) := by
  have hr := pay4_at v X hv
  pointwise [k0_pay5, k0_pay3]
  simp only [hv, hr, ← EReal.coe_mul]

include hv in
theorem pay13_at (p : Fin 256) (q : Fin 1024) : k0_pay13 (F := Ideal) v (ix2 p q) = ((X p q * rinv (X p) : ℝ) : EReal) := pay5_at v X hv p q

include hv hw hy hg in
theorem pay6_at (p : Fin 256) (q : Fin 1024) :
    k0_pay6 (F := Ideal) v w g y (ix2 p q) = ((D p q + normGrad (X p) (fun d => T p d * G d) q : ℝ) : EReal) := by
  have hr := pay4_at v X hv
  have hn := pay5_at v X hv
  pointwise [k0_pay6]
  simp only [hw, hy, hg, hr, hn, lit_1024, ← EReal.coe_mul, coe_sum, div1024, ← EReal.coe_sub, ← EReal.coe_add]
  rfl

include hv hw in
theorem pay8_at (u : Fin 1) (q : Fin 1024) :
    k0_pay8 (F := Ideal) v w (ix2 u q) = ((∑ p : Fin 256, T p q * (X p q * rinv (X p)) : ℝ) : EReal) := by
  have hn := pay5_at v X hv
  pointwise [k0_pay8]
  simp only [hw, hn, ← EReal.coe_mul, coe_sum]

include hv hw in
theorem pay14_at (u : Fin 1) (q : Fin 1024) :
    k0_pay14 (F := Ideal) w v (ix2 u q) = ((∑ p : Fin 256, T p q * (X p q * rinv (X p)) : ℝ) : EReal) := by
  have hn := pay13_at v X hv
  pointwise [k0_pay14]
  simp only [hw, hn, ← EReal.coe_mul, coe_sum]

include hv hw hg in
theorem pay17_at (p : Fin 256) (q : Fin 1024) :
    k0_pay17 (F := Ideal) w v g (ix2 p q) = ((normGrad (X p) (fun d => T p d * G d) q : ℝ) : EReal) := by
  have hr := pay12_at v X hv
  have hn := pay13_at v X hv
  pointwise [k0_pay17]
  simp only [hw, hg, hr, hn, lit_1024, ← EReal.coe_mul, coe_sum, div1024, ← EReal.coe_sub]
  rfl
end norms

section gates
variable (p0 p1 : Vec Ideal S256x512 .f32) (bg : Vec Ideal S1x2048 .f32) (Z : ℕ → ℕ → ℝ) (B : ℕ → ℝ)
  (h0 : ∀ p q, p0 (ix2 p q) = ((Z p q : ℝ) : EReal)) (h1 : ∀ p q, p1 (ix2 p q) = ((Z p (512 + q) : ℝ) : EReal))
  (hB : ∀ q, bg (ix2 0 q) = ((B q : ℝ) : EReal))
include h0 h1 hB

theorem pay20_at (p : Fin 256) (q : Fin 1024) : k0_pay20 (F := Ideal) bg p0 p1 (ix2 p q) = ((logi (Z p q + B q) : ℝ) : EReal) := by
  have hz : (if h : q.val < 512 then p0 (ix2 p ⟨q.val, h⟩) else p1 (ix2 p ⟨q.val - 512, by omega⟩)) = ((Z p q : ℝ) : EReal) := by
    split
    · exact h0 p _
    · rw [h1, show 512 + (q.val - 512) = q.val by omega]
  pointwise [k0_pay20]
  simp only [hB]
  erw [hz]
  rw [← EReal.coe_add]
  exact logi_coe _

theorem pay21_at (p : Fin 256) (q : Fin 1024) : k0_pay21 (F := Ideal) bg p0 p1 (ix2 p q) = ((logi (Z p q + B (1024 + q)) : ℝ) : EReal) := by
  have hz : (if h : q.val < 512 then p0 (ix2 p ⟨q.val, h⟩) else p1 (ix2 p ⟨q.val - 512, by omega⟩)) = ((Z p q : ℝ) : EReal) := by
    split
    · exact h0 p _
    · rw [h1, show 512 + (q.val - 512) = q.val by omega]
  pointwise [k0_pay21]
  simp only [hB]
  erw [hz]
  rw [← EReal.coe_add]
  exact logi_coe _
end gates

section grads
variable (d : FVec Ideal S256x1024 .bf16) (w : Vec Ideal S1024x1024 .bf16) (e f : FVec Ideal S256x1024 .f32) (r : Vec Ideal S256x1024 .bf16)
  (D W E S R : ℕ → ℕ → ℝ)
  (hd : ∀ p q, d (ix2 p q) = ((D p q : ℝ) : EReal)) (hw : ∀ p q, w (ix2 p q) = ((W p q : ℝ) : EReal))
  (he : ∀ p q, e (ix2 p q) = ((E p q : ℝ) : EReal)) (hf : ∀ p q, f (ix2 p q) = ((S p q : ℝ) : EReal))
  (hr : ∀ p q, r (ix2 p q) = ((R p q : ℝ) : EReal))

include hd hw in
theorem pay19_at (p : Fin 256) (q : Fin 1024) : k0_pay19 (F := Ideal) d w (ix2 p q) = ((∑ k : Fin 1024, D p k * W q k : ℝ) : EReal) := by
  pointwise [k0_pay19]
  simp only [hd, hw, ← EReal.coe_mul, coe_sum]

include hd hw in
theorem pay1_at (p : Fin 256) (q : Fin 1024) : k0_pay1 (F := Ideal) d w (ix2 p q) = ((∑ k : Fin 1024, D p k * W q k : ℝ) : EReal) := by
  pointwise [k0_pay1]
  simp only [hd, hw, ← EReal.coe_mul, coe_sum]

include he hf hr in
theorem pay23_at (p : Fin 256) (q : Fin 1024) :
    k0_pay23 (F := Ideal) e f r (ix2 p q) = ((E p q * R p q * (S p q * (1 - S p q)) : ℝ) : EReal) := by
  pointwise [k0_pay23]
  simp only [he, hf, hr, ← EReal.coe_mul, one_sub_coe]

include he hf in
theorem pay29_at (p : Fin 256) (q : Fin 1024) : k0_pay29 (F := Ideal) e f (ix2 p q) = ((E p q * S p q : ℝ) : EReal) := by
  pointwise [k0_pay29]
  simp only [he, hf, ← EReal.coe_mul]

include he hf hr in
theorem pay26_at (g : FVec Ideal S256x1024 .f32) (hg : ∀ p q, g (ix2 p q) = ((D p q : ℝ) : EReal)) (u : Fin 1) (q : Fin 2048) :
    k0_pay26 (F := Ideal) e f g r (ix2 u q)
      = ((∑ p : Fin 256, (if q.val < 1024 then D p q else E p (q - 1024) * R p (q - 1024) * (S p (q - 1024) * (1 - S p (q - 1024)))) : ℝ) : EReal) := by
  have h23 := pay23_at e f r E S R he hf hr
  pointwise [k0_pay26]
  simp only [hg, h23, coe_sum]
  split <;> rfl
end grads

theorem pay30_eq : k0_pay30 (F := Ideal) = k0_pay29 := rfl

/-- The body's four-piece contraction. -/
theorem pay2_at (d : FVec Ideal S256x1024 .bf16) (w0 w1 w2 w3 : Vec Ideal S1x512x256 .bf16) (D W : ℕ → ℕ → ℝ)
    (hd : ∀ p q, d (ix2 p q) = ((D p q : ℝ) : EReal)) (h0 : ∀ u i j, w0 (ix3 u i j) = ((W i j : ℝ) : EReal))
    (h1 : ∀ u i j, w1 (ix3 u i j) = ((W i (256 + j) : ℝ) : EReal)) (h2 : ∀ u i j, w2 (ix3 u i j) = ((W i (512 + j) : ℝ) : EReal))
    (h3 : ∀ u i j, w3 (ix3 u i j) = ((W i (768 + j) : ℝ) : EReal)) (p : Fin 256) (k : Fin 512) :
    k0_pay2 (F := Ideal) d w0 w1 w2 w3 (ix2 p k) = (((∑ c : Fin 256, D p c * W k c) + (∑ c : Fin 256, D p (256 + c) * W k (256 + c))
      + (∑ c : Fin 256, D p (512 + c) * W k (512 + c)) + (∑ c : Fin 256, D p (768 + c) * W k (768 + c)) : ℝ) : EReal) := by
  pointwise [k0_pay2]
  simp only [hd, h0, h1, h2, h3, ← EReal.coe_mul, coe_sum, ← EReal.coe_add]

/-- The blocks hold the rows of the arrays from row `o` on. -/
structure At (x : Blocks Ideal) (A : Arrs) (o : ℕ) : Prop where
  dh : ∀ p q, x.dh (ix2 p q) = ((A.DH (o + p) q : ℝ) : EReal)
  dy : ∀ p q, x.dy (ix2 p q) = ((A.DY (o + p) q : ℝ) : EReal)
  x2 : ∀ p q, x.x2 (ix2 p q) = ((A.x2 (o + p) q : ℝ) : EReal)
  mm : ∀ p q, x.mm (ix2 p q) = ((A.mm (o + p) q : ℝ) : EReal)
  bra : ∀ p q, x.bra (ix2 p q) = ((A.bra (o + p) q : ℝ) : EReal)
  brb : ∀ p q, x.brb (ix2 p q) = ((A.brb (o + p) q : ℝ) : EReal)
  p0 : ∀ p q, x.p0 (ix2 p q) = ((A.J (o + p) (2560 + q) : ℝ) : EReal)
  p1 : ∀ p q, x.p1 (ix2 p q) = ((A.J (o + p) (2560 + (512 + q)) : ℝ) : EReal)
  p2 : ∀ p q, x.p2 (ix2 p q) = ((A.J (o + p) (2560 + (1024 + q)) : ℝ) : EReal)
  p3 : ∀ p q, x.p3 (ix2 p q) = ((A.J (o + p) (2560 + (1024 + (512 + q))) : ℝ) : EReal)
  bg : ∀ q, x.bg (ix2 0 q) = ((A.B q : ℝ) : EReal)
  g2 : ∀ q, x.g2 (ix2 0 q) = ((A.G2 q : ℝ) : EReal)
  g3 : ∀ q, x.g3 (ix2 0 q) = ((A.G3 q : ℝ) : EReal)
  wl : ∀ p q, x.wl (ix2 p q) = ((A.WL p q : ℝ) : EReal)
  wp : ∀ k i j, x.wp (ix3 k i j) = ((A.WP i (k * 256 + j) : ℝ) : EReal)
  wo : ∀ p q, x.wo (ix2 p q) = ((A.WO p q : ℝ) : EReal)

/-! The row sums without their reshapes. -/

theorem pay15_eq (v w : Vec Ideal S256x1024 .f32) : k0_pay15 (F := Ideal) v w = k0_pay14 v w := shapeCast_self _ _
theorem pay9_eq (v w : Vec Ideal S256x1024 .f32) : k0_pay9 (F := Ideal) v w = k0_pay8 v w := shapeCast_self _ _
theorem pay27_eq (u v w : FVec Ideal S256x1024 .f32) (r : Vec Ideal S256x1024 .bf16) : k0_pay27 (F := Ideal) u v w r = k0_pay26 u v w r := shapeCast_self _ _
theorem pay16_eq (v w : Vec Ideal S256x1024 .f32) (a : Vec Ideal S1x1024 .f32) : k0_pay16 (F := Ideal) v w a = addf a (k0_pay14 v w) := shapeCast_self _ _
theorem pay10_eq (v : FVec Ideal S1x1024 .f32) (a : Vec Ideal S1x1024 .f32) : k0_pay10 (F := Ideal) v a = addf a v := shapeCast_self _ _
theorem pay28_eq (u v w : FVec Ideal S256x1024 .f32) (r : Vec Ideal S256x1024 .bf16) (a : Vec Ideal S1x2048 .f32) :
    k0_pay28 (F := Ideal) u v w r a = addf a (k0_pay26 u v w r) := shapeCast_self _ _
theorem start_g2 (x : Blocks Ideal) : x.start.g2 = k0_pay14 x.dx2 x.mm := pay15_eq _ _
theorem start_g3 (x : Blocks Ideal) : x.start.g3 = k0_pay8 x.x2 x.dh := pay9_eq _ _
theorem start_bg (x : Blocks Ideal) : x.start.bg = k0_pay26 x.dmg x.gb x.dga x.brb := pay27_eq _ _ _ _
theorem next_g2 (x : Blocks Ideal) (a : Sums Ideal) : (x.next a).g2 = addf a.g2 (k0_pay14 x.dx2 x.mm) := pay16_eq _ _ _
theorem next_g3 (x : Blocks Ideal) (a : Sums Ideal) : (x.next a).g3 = addf a.g3 (k0_pay8 x.x2 x.dh) := pay10_eq _ _
theorem next_bg (x : Blocks Ideal) (a : Sums Ideal) : (x.next a).bg = addf a.bg (k0_pay26 x.dmg x.gb x.dga x.brb) := pay28_eq _ _ _ _ _

namespace At
variable {x : Blocks Ideal} {A : Arrs} {o : ℕ} (h : At x A o)
include h

theorem dx2_at (p : Fin 256) (q : Fin 1024) : x.dx2 (ix2 p q) = ((A.dx (o + p) q : ℝ) : EReal) :=
  pay6_at x.x2 x.dh x.dy x.g3 (fun p q => A.x2 (o + p) q) (fun p q => A.DH (o + p) q) (fun p q => A.DY (o + p) q) A.G3 h.x2 h.dh h.dy h.g3 p q

theorem dm_at (p : Fin 256) (q : Fin 1024) : x.dm (ix2 p q) = ((A.dm (o + p) q : ℝ) : EReal) :=
  pay17_at x.mm x.dx2 x.g2 (fun p q => A.mm (o + p) q) (fun p q => A.dx (o + p) q) A.G2 h.mm h.dx2_at h.g2 p q

theorem dmg_at (p : Fin 256) (q : Fin 1024) : x.dmg (ix2 p q) = ((A.dmg (o + p) q : ℝ) : EReal) :=
  pay19_at x.dm x.wo (fun p q => A.dm (o + p) q) A.WO h.dm_at h.wo p q

theorem ga_at (p : Fin 256) (q : Fin 1024) : x.ga (ix2 p q) = ((A.gate (o + p) q : ℝ) : EReal) :=
  pay20_at x.p0 x.p1 x.bg (fun p q => A.J (o + p) (2560 + q)) A.B h.p0 h.p1 h.bg p q

theorem gb_at (p : Fin 256) (q : Fin 1024) : x.gb (ix2 p q) = ((A.gate (o + p) (1024 + q) : ℝ) : EReal) :=
  pay21_at x.p2 x.p3 x.bg (fun p q => A.J (o + p) (2560 + (1024 + q))) A.B h.p2 h.p3 h.bg p q

theorem dga_at (p : Fin 256) (q : Fin 1024) : x.dga (ix2 p q) = ((A.dga (o + p) q : ℝ) : EReal) :=
  pay23_at x.dmg x.ga x.bra (fun p q => A.dmg (o + p) q) (fun p q => A.gate (o + p) q) (fun p q => A.bra (o + p) q) h.dmg_at h.ga_at h.bra p q

theorem dgb_at (p : Fin 256) (q : Fin 1024) : k0_pay23 (F := Ideal) x.dmg x.gb x.brb (ix2 p q) = ((A.dgb (o + p) q : ℝ) : EReal) :=
  pay23_at x.dmg x.gb x.brb (fun p q => A.dmg (o + p) q) (fun p q => A.gate (o + p) (1024 + q)) (fun p q => A.brb (o + p) q) h.dmg_at h.gb_at h.brb p q

theorem dbra_at (p : Fin 256) (q : Fin 1024) : k0_pay29 (F := Ideal) x.dmg x.ga (ix2 p q) = ((A.dbra (o + p) q : ℝ) : EReal) :=
  pay29_at x.dmg x.ga (fun p q => A.dmg (o + p) q) (fun p q => A.gate (o + p) q) h.dmg_at h.ga_at p q

theorem dbrb_at (p : Fin 256) (q : Fin 1024) : k0_pay30 (F := Ideal) x.dmg x.gb (ix2 p q) = ((A.dbrb (o + p) q : ℝ) : EReal) :=
  pay29_at x.dmg x.gb (fun p q => A.dmg (o + p) q) (fun p q => A.gate (o + p) (1024 + q)) h.dmg_at h.gb_at p q

theorem o16_at (p : Fin 256) (q : Fin 1024) : x.o16 (ix2 p q) = ((A.dx (o + p) q : ℝ) : EReal) :=
  (congrFun (shapeCast_self _ _) _).trans (h.dx2_at p q)

theorem o18_at (p : Fin 256) (q : Fin 1024) : x.o18 (ix2 p q) = ((A.dyl (o + p) q : ℝ) : EReal) :=
  pay1_at _ x.wl (fun p q => A.dbra (o + p) q) A.WL h.dbra_at h.wl p q

theorem piece (k : Fin 4) (inb) (u : Fin 1) (i : Fin 512) (j : Fin 256) :
    (View.ld x.wp (Rect.unit (s := S4x512x256) ![k.val, 0, 0] ![1, 512, 256] inb) : Vec Ideal S1x512x256 .bf16) (ix3 u i j)
      = ((A.WP i (k * 256 + j) : ℝ) : EReal) := by
  refine Eq.trans ?_ (h.wp k i j)
  pointwise
  blk_ext

theorem o19_at (p : Fin 256) (k : Fin 512) : x.o19 (ix2 p k) = ((A.dyp (o + p) k : ℝ) : EReal) := by
  rw [A.dyp_pieces]
  refine pay2_at _ _ _ _ _ (fun p q => A.dbrb (o + p) q) A.WP h.dbrb_at (fun u i j => ?_) (fun u i j => ?_) (fun u i j => ?_) (fun u i j => ?_) p k
  · exact (h.piece 0 _ u i j).trans (by rw [show ((0 : Fin 4) : ℕ) * 256 + j = j from by simp])
  · exact h.piece 1 _ u i j
  · exact h.piece 2 _ u i j
  · exact h.piece 3 _ u i j

theorem o20_at (p : Fin 256) (q : Fin 1024) : x.o20 (ix2 p q) = ((A.dm (o + p) q : ℝ) : EReal) :=
  (congrFun (shapeCast_self _ _) _).trans (h.dm_at p q)

theorem o21_at (p : Fin 256) (q : Fin 1024) : x.o21 (ix2 p q) = ((A.dbra (o + p) q : ℝ) : EReal) :=
  (congrFun (shapeCast_self _ _) _).trans (h.dbra_at p q)

theorem o22_at (p : Fin 256) (q : Fin 1024) : x.o22 (ix2 p q) = ((A.dbrb (o + p) q : ℝ) : EReal) :=
  (congrFun (shapeCast_self _ _) _).trans (h.dbrb_at p q)

theorem o17_at (p : Fin 256) (q : Fin 2048) : x.o17 (ix2 p q) = ((A.dgt (o + p) q : ℝ) : EReal) := by
  have ha := h.dga_at
  have hb := h.dgb_at
  have e24 : ∀ v, k0_pay24 (F := Ideal) v = v := fun v => shapeCast_self _ _
  have e25 : ∀ u v w, k0_pay25 (F := Ideal) u v w = k0_pay23 u v w := fun u v w => shapeCast_self _ _
  clear h
  unfold Blocks.o17 Arrs.dgt
  canon_tiles y h
  all_goals
    rw [eq_ix2 y]
    change (p : ℕ) = _ at h0
    change (q : ℕ) = _ at h1
  · refine (congrFun (e25 _ _ _) _).trans ((hb (y 0) (y 1)).trans ?_)
    rw [show (q : ℕ) = 1024 + (y 1).val by omega, show (p : ℕ) = (y 0).val by omega, if_neg (by omega), Nat.add_sub_cancel_left]
  · have hq : (y 1).val < 1024 := (y 1).isLt
    refine (congrFun (e24 _) _).trans ((ha (y 0) (y 1)).trans ?_)
    rw [show (q : ℕ) = (y 1).val by omega, show (p : ℕ) = (y 0).val by omega, if_pos hq]

/-- What the block adds to the row sums. -/
theorem part2 (u : Fin 1) (q : Fin 1024) : k0_pay14 x.dx2 x.mm (ix2 u q) = ((∑ p : Fin 256, A.row2 (o + p) q : ℝ) : EReal) :=
  pay14_at x.mm x.dx2 (fun p q => A.mm (o + p) q) (fun p q => A.dx (o + p) q) h.mm h.dx2_at u q

theorem part3 (u : Fin 1) (q : Fin 1024) : k0_pay8 x.x2 x.dh (ix2 u q) = ((∑ p : Fin 256, A.row3 (o + p) q : ℝ) : EReal) :=
  pay8_at x.x2 x.dh (fun p q => A.x2 (o + p) q) (fun p q => A.DH (o + p) q) h.x2 h.dh u q

theorem partB (u : Fin 1) (q : Fin 2048) : k0_pay26 x.dmg x.gb x.dga x.brb (ix2 u q) = ((∑ p : Fin 256, A.dgt (o + p) q : ℝ) : EReal) :=
  pay26_at x.dmg x.gb x.brb (fun p q => A.dga (o + p) q) (fun p q => A.dmg (o + p) q) (fun p q => A.gate (o + p) (1024 + q)) (fun p q => A.brb (o + p) q)
    h.dmg_at h.gb_at h.brb x.dga h.dga_at u q
end At

end Cert.Merge
end
-- ==== Proof.MergeHost.lean ====
/- The merge's backward call: what the host lines before the call leave, the forward pass's own lines. -/
module

public import proofs.«01_k».proof.Proof.MergePay

@[expose] public section

set_option maxRecDepth 16384

noncomputable section

open Idealize.ShloMosaic Idealize.ShloMosaic.TcCoe Idealize.SL.Sem

namespace Cert.Merge

open Cert.KernelMergeIdeal Cert.KernelMergeIdeal.Gen Cert.Reals

/-! ## The lines, as functions of arrays -/

/-- The recurrent branch's up-projection. -/
def hostBra (l : FVec Ideal S2048x1024 .bf16) (w : FVec Ideal S1x1024x1024 .f32) : FVec Ideal S2048x1024 .f32 :=
  Host.dotGeneral dot_S2048x1024_S1024x1024_S2048x1024_1_0_0_1_n_n none (extf .f32 l bitsLt_bf16_f32 : FVec Ideal S2048x1024 .f32)
    (shapeCast S1024x1024 w shapeCasts_S1x1024x1024_S1024x1024 : FVec Ideal S1024x1024 .f32)

/-- The pooling branch's up-projection. -/
def hostBrb (l : FVec Ideal S2048x512 .bf16) (w : FVec Ideal S1x512x1024 .f32) : FVec Ideal S2048x1024 .f32 :=
  Host.dotGeneral dot_S2048x512_S512x1024_S2048x1024_1_0_0_1_n_n none (extf .f32 l bitsLt_bf16_f32 : FVec Ideal S2048x512 .f32)
    (shapeCast S512x1024 w shapeCasts_S1x512x1024_S512x1024 : FVec Ideal S512x1024 .f32)

/-- The gates. -/
def hostGate (j : FVec Ideal S2048x4608 .f32) (b : FVec Ideal S1x2048 .f32) : FVec Ideal S2048x2048 .f32 :=
  Host.divf (broadcastInDim S2048x2048 ![] bcast_S_S2048x2048 (constant S_ .f32 0x3F800000#32))
    (addf (broadcastInDim S2048x2048 ![] bcast_S_S2048x2048 (constant S_ .f32 0x3F800000#32))
      (Host.exp (Host.negf (addf (extractStridedSlice S2048x2048 ![0, 2560] j slices_S2048x4608_S2048x2048_0_2560)
        (broadcastInDim S2048x2048 ![0, 1] bcast_S1x2048_S2048x2048_0_1 b)))))

/-- The gated sum brought through the output weights. -/
def hostM (g : FVec Ideal S2048x2048 .f32) (a b : FVec Ideal S2048x1024 .f32) (w : FVec Ideal S1x1024x1024 .f32) : FVec Ideal S2048x1024 .f32 :=
  Host.dotGeneral dot_S2048x1024_S1024x1024_S2048x1024_1_0_0_1_n_n none
    (addf (mulf (extractStridedSlice S2048x1024 ![0, 0] g slices_S2048x2048_S2048x1024_0_0) a)
      (mulf (extractStridedSlice S2048x1024 ![0, 1024] g slices_S2048x2048_S2048x1024_0_1024) b))
    (shapeCast S1024x1024 w shapeCasts_S1x1024x1024_S1024x1024 : FVec Ideal S1024x1024 .f32)

/-- The stream after the mixer. -/
def hostX2 (x mm : FVec Ideal S2048x1024 .f32) (g : FVec Ideal S1x1024 .f32) : FVec Ideal S2048x1024 .f32 :=
  addf x (mulf (mulf mm (broadcastInDim S2048x1024 ![0, 1] bcast_S2048x1_S2048x1024_0_1
    (Host.rsqrt (addf (Host.divf (broadcastInDim S2048x1 ![0] bcast_S2048_S2048x1_0
        (Host.reduceAdd (mulf mm mm) (constant S_ .f32 0x00000000#32) reducesTo_S2048x1024_S2048_d1 h_S_))
      (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 g))

/-- The pooling branch's weights, cut at their columns. -/
def hostWp (w : FVec Ideal S1x512x1024 .f32) : FVec Ideal S4x512x256 .bf16 :=
  transpose S4x512x256 [1, 0, 2] (shapeCast S512x4x256 (truncf .bf16 (shapeCast S512x1024 w shapeCasts_S1x512x1024_S512x1024 : FVec Ideal S512x1024 .f32) bitsLt_bf16_f32 : FVec Ideal S512x1024 .bf16)
    shapeCasts_S512x1024_S512x4x256) transposes_S512x4x256_S4x512x256_1_0_2

section
variable (A : Arrs) (x : FVec Ideal S2048x1024 .f32) (l : FVec Ideal S2048x1024 .bf16) (lp : FVec Ideal S2048x512 .bf16) (j : FVec Ideal S2048x4608 .f32)
  (b : FVec Ideal S1x2048 .f32) (g2 : FVec Ideal S1x1024 .f32) (wl wo : FVec Ideal S1x1024x1024 .f32) (wp : FVec Ideal S1x512x1024 .f32)
  (hx : ∀ p q, x (ix2 p q) = ((A.X p q : ℝ) : EReal)) (hl : ∀ p q, l (ix2 p q) = ((A.L p q : ℝ) : EReal))
  (hlp : ∀ p q, lp (ix2 p q) = ((A.P p q : ℝ) : EReal)) (hj : ∀ p q, j (ix2 p q) = ((A.J p q : ℝ) : EReal))
  (hb : ∀ q, b (ix2 0 q) = ((A.B q : ℝ) : EReal)) (hg : ∀ q, g2 (ix2 0 q) = ((A.G2 q : ℝ) : EReal))
  (hwl : ∀ p q, wl (ix3 0 p q) = ((A.WL p q : ℝ) : EReal)) (hwo : ∀ p q, wo (ix3 0 p q) = ((A.WO p q : ℝ) : EReal))
  (hwp : ∀ p q, wp (ix3 0 p q) = ((A.WP p q : ℝ) : EReal))

include hl hwl in
theorem hostBra_at (p : Fin 2048) (q : Fin 1024) : hostBra l wl (ix2 p q) = ((A.bra p q : ℝ) : EReal) := by
  pointwise [hostBra]
  simp only [hl, hwl, ← EReal.coe_mul, coe_sum]
  rfl

include hlp hwp in
theorem hostBrb_at (p : Fin 2048) (q : Fin 1024) : hostBrb lp wp (ix2 p q) = ((A.brb p q : ℝ) : EReal) := by
  pointwise [hostBrb]
  simp only [hlp, hwp, ← EReal.coe_mul, coe_sum]
  rfl

theorem logi_neg (z : ℝ) : Ideal.div 1 (1 + Ideal.exp (-(z : EReal))) = ((logi z : ℝ) : EReal) := by
  rw [← logi_coe, zero_sub]

include hj hb in
theorem hostGate_at (p q : Fin 2048) : hostGate j b (ix2 p q) = ((A.gate p q : ℝ) : EReal) := by
  pointwise [hostGate]
  simp only [hj, hb]
  rw [← EReal.coe_add]
  exact logi_neg _

include hl hlp hj hb hwl hwo hwp in
theorem hostM_at (p : Fin 2048) (q : Fin 1024) :
    hostM (hostGate j b) (hostBra l wl) (hostBrb lp wp) wo (ix2 p q) = ((A.mm p q : ℝ) : EReal) := by
  have h1 := hostGate_at A j b hj hb
  have h2 := hostBra_at A l wl hl hwl
  have h3 := hostBrb_at A lp wp hlp hwp
  generalize hostGate j b = G at h1
  generalize hostBra l wl = Y at h2
  generalize hostBrb lp wp = Z at h3
  pointwise [hostM]
  simp only [h1, h2, h3, hwo, ← EReal.coe_mul, ← EReal.coe_add, coe_sum]
  rfl

include hx hg in
theorem hostX2_at (mm : FVec Ideal S2048x1024 .f32) (hm : ∀ p q, mm (ix2 p q) = ((A.mm p q : ℝ) : EReal)) (p : Fin 2048) (q : Fin 1024) :
    hostX2 x mm g2 (ix2 p q) = ((A.x2 p q : ℝ) : EReal) := by
  pointwise [hostX2]
  simp only [hx, hm, hg, lit_1024, lit_eps, ← EReal.coe_mul, ← EReal.coe_add, coe_sum, div1024]
  rw [rsqrt_row (A.mm p)]
  simp only [← EReal.coe_mul, ← EReal.coe_add]
  rfl

include hwp in
theorem hostWp_at (k : Fin 4) (d : Fin 512) (q : Fin 256) : hostWp wp (ix3 k d q) = ((A.WP d (k * 256 + q) : ℝ) : EReal) := by
  pointwise [hostWp]
  simp only [hwp]
end

/-! ## What the call finds -/

variable (m : (ℓ : Loc nD τ sig) → Buf (Elt Ideal) ℓ) (c : Dev nD)

abbrev arg0 : FVec Ideal S2048x1024 .f32 := m ((c : Thread nD τ).loc main_arg0)
abbrev arg1 : FVec Ideal S2048x1024 .bf16 := m ((c : Thread nD τ).loc main_arg1)
abbrev arg2 : FVec Ideal S2048x512 .bf16 := m ((c : Thread nD τ).loc main_arg2)
abbrev arg3 : FVec Ideal S2048x4608 .f32 := m ((c : Thread nD τ).loc main_arg3)
abbrev arg4 : FVec Ideal S1x2048 .f32 := m ((c : Thread nD τ).loc main_arg4)
abbrev arg5 : FVec Ideal S1x1024 .f32 := m ((c : Thread nD τ).loc main_arg5)
abbrev arg7 : FVec Ideal S1x1024x1024 .f32 := m ((c : Thread nD τ).loc main_arg7)
abbrev arg8 : FVec Ideal S1x512x1024 .f32 := m ((c : Thread nD τ).loc main_arg8)
abbrev arg9 : FVec Ideal S1x1024x1024 .f32 := m ((c : Thread nD τ).loc main_arg9)

theorem e21 : Gen.V m c main_v21 = hostM (hostGate (arg3 m c) (arg4 m c)) (hostBra (arg1 m c) (arg7 m c)) (hostBrb (arg2 m c) (arg8 m c)) (arg9 m c) := by
  show StableHlo.after hostOps0 _ _ = _
  after_results
  rfl

theorem e34 : Gen.V m c main_v34 = hostX2 (arg0 m c) (hostM (hostGate (arg3 m c) (arg4 m c)) (hostBra (arg1 m c) (arg7 m c)) (hostBrb (arg2 m c) (arg8 m c)) (arg9 m c)) (arg5 m c) := by
  show StableHlo.after hostOps0 _ _ = _
  after_results
  rfl

theorem e43 : Gen.V m c main_v43 = (truncf .bf16 (hostBra (arg1 m c) (arg7 m c)) bitsLt_bf16_f32 : FVec Ideal S2048x1024 .bf16) := by
  show StableHlo.after hostOps0 _ _ = _
  after_results
  rfl

theorem e44 : Gen.V m c main_v44 = (truncf .bf16 (hostBrb (arg2 m c) (arg8 m c)) bitsLt_bf16_f32 : FVec Ideal S2048x1024 .bf16) := by
  show StableHlo.after hostOps0 _ _ = _
  after_results
  rfl

theorem e36 : Gen.V m c main_v36 = (truncf .bf16 (shapeCast S1024x1024 (arg7 m c) shapeCasts_S1x1024x1024_S1024x1024 : FVec Ideal S1024x1024 .f32) bitsLt_bf16_f32 : FVec Ideal S1024x1024 .bf16) := by
  show StableHlo.after hostOps0 _ _ = _
  after_results
  rfl

theorem e38 : Gen.V m c main_v38 = (truncf .bf16 (shapeCast S1024x1024 (arg9 m c) shapeCasts_S1x1024x1024_S1024x1024 : FVec Ideal S1024x1024 .f32) bitsLt_bf16_f32 : FVec Ideal S1024x1024 .bf16) := by
  show StableHlo.after hostOps0 _ _ = _
  after_results
  rfl

theorem e42 : Gen.V m c main_v42 = hostWp (arg8 m c) := by
  show StableHlo.after hostOps0 _ _ = _
  after_results
  rfl

end Cert.Merge
end
-- ==== Proof.MergeKernel.lean ====
/- The merge's backward call: the arrays the kernel ends with, entry by entry. -/
module

public import proofs.«01_k».proof.Proof.MergeFrame
public import proofs.«01_k».proof.Proof.MergeHost

@[expose] public section

set_option maxRecDepth 16384

noncomputable section

open Idealize.ShloMosaic Idealize.ShloMosaic.TcCoe Idealize.SL.Sem
open Idealize.ShloMosaic.Pipeline (Dat)

namespace Cert.Merge

open Cert.KernelMergeIdeal Cert.KernelMergeIdeal.Gen Cert.Reals

/-- Where each window lies at a point. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 5]
    ∧ win0_7.index t = ![t.val, 6] ∧ win0_8.index t = ![t.val, 7] ∧ win0_9.index t = ![t.val, 8] :=
  (by decide +kernel : ∀ t : Fin grid0.N, _)

theorem idx_fixed : ∀ t : Fin cfg0.N, win0_10.index t = ![0, 0] ∧ win0_11.index t = ![0, 0] ∧ win0_12.index t = ![0, 0]
    ∧ win0_13.index t = ![0, 0] ∧ win0_14.index t = ![0, 0, 0] ∧ win0_15.index t = ![0, 0] :=
  (by decide +kernel : ∀ t : Fin grid0.N, _)

theorem idx_out : ∀ t : Fin cfg0.N, win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0] :=
  (by decide +kernel : ∀ t : Fin grid0.N, _)

variable (m : (ℓ : Loc nD τ sig) → Buf (Elt Ideal) ℓ) (c : Dev nD)

abbrev arg6 : FVec Ideal S1x1024 .f32 := m ((c : Thread nD τ).loc main_arg6)
abbrev arg10 : FVec Ideal S2048x1024 .f32 := m ((c : Thread nD τ).loc main_arg10)
abbrev arg11 : FVec Ideal S2048x1024 .f32 := m ((c : Thread nD τ).loc main_arg11)

/-- The argument arrays are the images of real ones. -/
structure Args (A : Arrs) : Prop where
  hX : ∀ p q, arg0 m c (ix2 p q) = ((A.X p q : ℝ) : EReal)
  hL : ∀ p q, arg1 m c (ix2 p q) = ((A.L p q : ℝ) : EReal)
  hP : ∀ p q, arg2 m c (ix2 p q) = ((A.P p q : ℝ) : EReal)
  hJ : ∀ p q, arg3 m c (ix2 p q) = ((A.J p q : ℝ) : EReal)
  hB : ∀ q, arg4 m c (ix2 0 q) = ((A.B q : ℝ) : EReal)
  hG2 : ∀ q, arg5 m c (ix2 0 q) = ((A.G2 q : ℝ) : EReal)
  hG3 : ∀ q, arg6 m c (ix2 0 q) = ((A.G3 q : ℝ) : EReal)
  hWL : ∀ p q, arg7 m c (ix3 0 p q) = ((A.WL p q : ℝ) : EReal)
  hWP : ∀ p q, arg8 m c (ix3 0 p q) = ((A.WP p q : ℝ) : EReal)
  hWO : ∀ p q, arg9 m c (ix3 0 p q) = ((A.WO p q : ℝ) : EReal)
  hDY : ∀ p q, arg10 m c (ix2 p q) = ((A.DY p q : ℝ) : EReal)
  hDH : ∀ p q, arg11 m c (ix2 p q) = ((A.DH p q : ℝ) : EReal)

section
variable {A : Arrs} (H : Args m c A)
include H

theorem v21_at (p : Fin 2048) (q : Fin 1024) : (Gen.V m c main_v21 : FVec Ideal S2048x1024 .f32) (ix2 p q) = ((A.mm p q : ℝ) : EReal) :=
  (congrFun (e21 m c) _).trans (hostM_at A _ _ _ _ _ _ _ H.hL H.hP H.hJ H.hB H.hWL H.hWO H.hWP p q)

theorem v34_at (p : Fin 2048) (q : Fin 1024) : (Gen.V m c main_v34 : FVec Ideal S2048x1024 .f32) (ix2 p q) = ((A.x2 p q : ℝ) : EReal) :=
  (congrFun (e34 m c) _).trans (hostX2_at A _ _ H.hX H.hG2 _ (hostM_at A _ _ _ _ _ _ _ H.hL H.hP H.hJ H.hB H.hWL H.hWO H.hWP) p q)

theorem v43_at (p : Fin 2048) (q : Fin 1024) : (Gen.V m c main_v43 : FVec Ideal S2048x1024 .bf16) (ix2 p q) = ((A.bra p q : ℝ) : EReal) :=
  (congrFun (e43 m c) _).trans (hostBra_at A _ _ H.hL H.hWL p q)

theorem v44_at (p : Fin 2048) (q : Fin 1024) : (Gen.V m c main_v44 : FVec Ideal S2048x1024 .bf16) (ix2 p q) = ((A.brb p q : ℝ) : EReal) :=
  (congrFun (e44 m c) _).trans (hostBrb_at A _ _ H.hP H.hWP p q)

theorem v36_at (p : Fin 1024) (q : Fin 1024) : (Gen.V m c main_v36 : FVec Ideal S1024x1024 .bf16) (ix2 p q) = ((A.WL p q : ℝ) : EReal) := by
  refine (congrFun (e36 m c) _).trans ?_
  pointwise
  exact H.hWL p q

theorem v38_at (p : Fin 1024) (q : Fin 1024) : (Gen.V m c main_v38 : FVec Ideal S1024x1024 .bf16) (ix2 p q) = ((A.WO p q : ℝ) : EReal) := by
  refine (congrFun (e38 m c) _).trans ?_
  pointwise
  exact H.hWO p q

theorem v42_at (k : Fin 4) (d : Fin 512) (q : Fin 256) : (Gen.V m c main_v42 : FVec Ideal S4x512x256 .bf16) (ix3 k d q) = ((A.WP d (k * 256 + q) : ℝ) : EReal) :=
  (congrFun (e42 m c) _).trans (hostWp_at A _ H.hWP k d q)

theorem b0 (t : Fin cfg0.N) (p : Fin 256) (q : Fin 1024) : (iblk m c 0 t : Vec Ideal S256x1024 .f32) (ix2 p q) = ((A.DH (t * 256 + p) q : ℝ) : EReal) := by
  have ht := lt8 t
  refine Eq.trans ?_ (H.hDH ⟨t * 256 + p, by omega⟩ q)
  blk_ext [iblk, Gen.V, idx_rows t]

theorem b1 (t : Fin cfg0.N) (p : Fin 256) (q : Fin 1024) : (iblk m c 1 t : Vec Ideal S256x1024 .f32) (ix2 p q) = ((A.DY (t * 256 + p) q : ℝ) : EReal) := by
  have ht := lt8 t
  refine Eq.trans ?_ (H.hDY ⟨t * 256 + p, by omega⟩ q)
  blk_ext [iblk, Gen.V, idx_rows t]

theorem b2 (t : Fin cfg0.N) (p : Fin 256) (q : Fin 1024) : (iblk m c 2 t : Vec Ideal S256x1024 .f32) (ix2 p q) = ((A.x2 (t * 256 + p) q : ℝ) : EReal) := by
  have ht := lt8 t
  refine Eq.trans ?_ (v34_at m c H ⟨t * 256 + p, by omega⟩ q)
  blk_ext [iblk, idx_rows t]

theorem b3 (t : Fin cfg0.N) (p : Fin 256) (q : Fin 1024) : (iblk m c 3 t : Vec Ideal S256x1024 .f32) (ix2 p q) = ((A.mm (t * 256 + p) q : ℝ) : EReal) := by
  have ht := lt8 t
  refine Eq.trans ?_ (v21_at m c H ⟨t * 256 + p, by omega⟩ q)
  blk_ext [iblk, idx_rows t]

theorem b4 (t : Fin cfg0.N) (p : Fin 256) (q : Fin 1024) : (iblk m c 4 t : Vec Ideal S256x1024 .bf16) (ix2 p q) = ((A.bra (t * 256 + p) q : ℝ) : EReal) := by
  have ht := lt8 t
  refine Eq.trans ?_ (v43_at m c H ⟨t * 256 + p, by omega⟩ q)
  blk_ext [iblk, idx_rows t]

theorem b5 (t : Fin cfg0.N) (p : Fin 256) (q : Fin 1024) : (iblk m c 5 t : Vec Ideal S256x1024 .bf16) (ix2 p q) = ((A.brb (t * 256 + p) q : ℝ) : EReal) := by
  have ht := lt8 t
  refine Eq.trans ?_ (v44_at m c H ⟨t * 256 + p, by omega⟩ q)
  blk_ext [iblk, idx_rows t]

theorem b6 (t : Fin cfg0.N) (p : Fin 256) (q : Fin 512) : (iblk m c 6 t : Vec Ideal S256x512 .f32) (ix2 p q) = ((A.J (t * 256 + p) (2560 + q) : ℝ) : EReal) := by
  have ht := lt8 t
  refine Eq.trans ?_ (H.hJ ⟨t * 256 + p, by omega⟩ ⟨2560 + q, by omega⟩)
  blk_ext [iblk, Gen.V, idx_rows t]

theorem b7 (t : Fin cfg0.N) (p : Fin 256) (q : Fin 512) : (iblk m c 7 t : Vec Ideal S256x512 .f32) (ix2 p q) = ((A.J (t * 256 + p) (2560 + (512 + q)) : ℝ) : EReal) := by
  have ht := lt8 t
  refine Eq.trans ?_ (H.hJ ⟨t * 256 + p, by omega⟩ ⟨2560 + (512 + q), by omega⟩)
  blk_ext [iblk, Gen.V, idx_rows t]

theorem b8 (t : Fin cfg0.N) (p : Fin 256) (q : Fin 512) : (iblk m c 8 t : Vec Ideal S256x512 .f32) (ix2 p q) = ((A.J (t * 256 + p) (2560 + (1024 + q)) : ℝ) : EReal) := by
  have ht := lt8 t
  refine Eq.trans ?_ (H.hJ ⟨t * 256 + p, by omega⟩ ⟨2560 + (1024 + q), by omega⟩)
  blk_ext [iblk, Gen.V, idx_rows t]

theorem b9 (t : Fin cfg0.N) (p : Fin 256) (q : Fin 512) : (iblk m c 9 t : Vec Ideal S256x512 .f32) (ix2 p q) = ((A.J (t * 256 + p) (2560 + (1024 + (512 + q))) : ℝ) : EReal) := by
  have ht := lt8 t
  refine Eq.trans ?_ (H.hJ ⟨t * 256 + p, by omega⟩ ⟨2560 + (1024 + (512 + q)), by omega⟩)
  blk_ext [iblk, Gen.V, idx_rows t]

theorem b10 (t : Fin cfg0.N) (q : Fin 2048) : (iblk m c 10 t : Vec Ideal S1x2048 .f32) (ix2 0 q) = ((A.B q : ℝ) : EReal) := by
  refine Eq.trans ?_ (H.hB q)
  blk_ext [iblk, Gen.V, idx_fixed t]

theorem b11 (t : Fin cfg0.N) (q : Fin 1024) : (iblk m c 11 t : Vec Ideal S1x1024 .f32) (ix2 0 q) = ((A.G2 q : ℝ) : EReal) := by
  refine Eq.trans ?_ (H.hG2 q)
  blk_ext [iblk, Gen.V, idx_fixed t]

theorem b12 (t : Fin cfg0.N) (q : Fin 1024) : (iblk m c 12 t : Vec Ideal S1x1024 .f32) (ix2 0 q) = ((A.G3 q : ℝ) : EReal) := by
  refine Eq.trans ?_ (H.hG3 q)
  blk_ext [iblk, Gen.V, idx_fixed t]

theorem b13 (t : Fin cfg0.N) (p q : Fin 1024) : (iblk m c 13 t : Vec Ideal S1024x1024 .bf16) (ix2 p q) = ((A.WL p q : ℝ) : EReal) := by
  refine Eq.trans ?_ (v36_at m c H p q)
  blk_ext [iblk, idx_fixed t]

theorem b15 (t : Fin cfg0.N) (p q : Fin 1024) : (iblk m c 15 t : Vec Ideal S1024x1024 .bf16) (ix2 p q) = ((A.WO p q : ℝ) : EReal) := by
  refine Eq.trans ?_ (v38_at m c H p q)
  blk_ext [iblk, idx_fixed t]

theorem b14 (t : Fin cfg0.N) (k : Fin 4) (i : Fin 512) (j : Fin 256) : (iblk m c 14 t : Vec Ideal S4x512x256 .bf16) (ix3 k i j) = ((A.WP i (k * 256 + j) : ℝ) : EReal) := by
  refine Eq.trans ?_ (v42_at m c H k i j)
  blk_ext [iblk, idx_fixed t]

set_option maxHeartbeats 3000000 in
/-- The blocks of point `t` are the rows from `256 t` on. -/
theorem at_point (t : Fin cfg0.N) : At (blocks m c t) A (t.val * 256) where
  dh := b0 m c H t
  dy := b1 m c H t
  x2 := b2 m c H t
  mm := b3 m c H t
  bra := b4 m c H t
  brb := b5 m c H t
  p0 := b6 m c H t
  p1 := b7 m c H t
  p2 := b8 m c H t
  p3 := b9 m c H t
  bg := b10 m c H t
  g2 := b11 m c H t
  g3 := b12 m c H t
  wl := b13 m c H t
  wp := b14 m c H t
  wo := b15 m c H t

/-- The stream's gradient. -/
theorem final16 : (dats m 0 c).arrAt 16 (cfgs 0).N = fun i : S2048x1024.Idx => ((A.dx (i 0).val (i 1).val : ℝ) : EReal) := by
  refine (dats m 0 c).arrAt_eq_of_covers 16 _ (by decide +kernel) fun t _ y => ?_
  blk_simp [idx_out t]
  dsimp only [dats]
  refine (congrArg (blocks m c t).o16 (ix2_eta y).symm).trans (((at_point m c H t).o16_at (y 0) (y 1)).trans ?_)
  rfl

/-- The gates' gradient. -/
theorem final17 : (dats m 0 c).arrAt 17 (cfgs 0).N = fun i : S2048x2048.Idx => ((A.dgt (i 0).val (i 1).val : ℝ) : EReal) := by
  refine (dats m 0 c).arrAt_eq_of_covers 17 _ (by decide +kernel) fun t _ y => ?_
  blk_simp [idx_out t]
  dsimp only [dats]
  refine (congrArg (blocks m c t).o17 (ix2_eta y).symm).trans (((at_point m c H t).o17_at (y 0) (y 1)).trans ?_)
  rfl

/-- The recurrent branch's gradient. -/
theorem final18 : (dats m 0 c).arrAt 18 (cfgs 0).N = fun i : S2048x1024.Idx => ((A.dyl (i 0).val (i 1).val : ℝ) : EReal) := by
  refine (dats m 0 c).arrAt_eq_of_covers 18 _ (by decide +kernel) fun t _ y => ?_
  blk_simp [idx_out t]
  dsimp only [dats]
  refine (congrArg (blocks m c t).o18 (ix2_eta y).symm).trans (((at_point m c H t).o18_at (y 0) (y 1)).trans ?_)
  rfl

/-- The pooling branch's gradient. -/
theorem final19 : (dats m 0 c).arrAt 19 (cfgs 0).N = fun i : S2048x512.Idx => ((A.dyp (i 0).val (i 1).val : ℝ) : EReal) := by
  refine (dats m 0 c).arrAt_eq_of_covers 19 _ (by decide +kernel) fun t _ y => ?_
  blk_simp [idx_out t]
  dsimp only [dats]
  refine (congrArg (blocks m c t).o19 (ix2_eta y).symm).trans (((at_point m c H t).o19_at (y 0) (y 1)).trans ?_)
  rfl

/-- The gradient before the mixer's norm. -/
theorem final20 : (dats m 0 c).arrAt 20 (cfgs 0).N = fun i : S2048x1024.Idx => ((A.dm (i 0).val (i 1).val : ℝ) : EReal) := by
  refine (dats m 0 c).arrAt_eq_of_covers 20 _ (by decide +kernel) fun t _ y => ?_
  blk_simp [idx_out t]
  dsimp only [dats]
  refine (congrArg (blocks m c t).o20 (ix2_eta y).symm).trans (((at_point m c H t).o20_at (y 0) (y 1)).trans ?_)
  rfl

/-- The gradients of the two up-projections. -/
theorem final21 : (dats m 0 c).arrAt 21 (cfgs 0).N = fun i : S2048x1024.Idx => ((A.dbra (i 0).val (i 1).val : ℝ) : EReal) := by
  refine (dats m 0 c).arrAt_eq_of_covers 21 _ (by decide +kernel) fun t _ y => ?_
  blk_simp [idx_out t]
  dsimp only [dats]
  refine (congrArg (blocks m c t).o21 (ix2_eta y).symm).trans (((at_point m c H t).o21_at (y 0) (y 1)).trans ?_)
  rfl

theorem final22 : (dats m 0 c).arrAt 22 (cfgs 0).N = fun i : S2048x1024.Idx => ((A.dbrb (i 0).val (i 1).val : ℝ) : EReal) := by
  refine (dats m 0 c).arrAt_eq_of_covers 22 _ (by decide +kernel) fun t _ y => ?_
  blk_simp [idx_out t]
  dsimp only [dats]
  refine (congrArg (blocks m c t).o22 (ix2_eta y).symm).trans (((at_point m c H t).o22_at (y 0) (y 1)).trans ?_)
  rfl

/-- After point `n`, the mixer norm's weights' gradient sums the rows so far. -/
theorem acc_g2 : ∀ (n : ℕ) (hn : n < cfg0.N) (u : Fin 1) (d : Fin 1024), (sumsAt m c n hn).g2 (ix2 u d)
    = ((∑ s ∈ Finset.range ((n + 1) * 256), A.row2 s d : ℝ) : EReal) := by
  intro n
  induction n with
  | zero =>
    intro hn u d
    show (blocks m c ⟨0, hn⟩).start.g2 (ix2 u d) = _
    rw [start_g2]
    refine ((at_point m c H ⟨0, hn⟩).part2 u d).trans (congrArg Real.toEReal ?_)
    simp only [Finset.sum_range, zero_mul, zero_add, one_mul]
  | succ n ih =>
    intro hn u d
    show ((blocks m c ⟨n + 1, hn⟩).next (sumsAt m c n (by omega))).g2 (ix2 u d) = _
    rw [next_g2]
    refine (congrArg₂ (fun a b : EReal => a + b) (ih _ u d) ((at_point m c H ⟨n + 1, hn⟩).part2 u d)).trans ?_
    rw [← EReal.coe_add, add_mul (n + 1) 1 256, one_mul, Finset.sum_range_add, Finset.sum_range (n := 256)]

/-- After point `n`, the channel mixer norm's weights' gradient sums the rows so far. -/
theorem acc_g3 : ∀ (n : ℕ) (hn : n < cfg0.N) (u : Fin 1) (d : Fin 1024), (sumsAt m c n hn).g3 (ix2 u d)
    = ((∑ s ∈ Finset.range ((n + 1) * 256), A.row3 s d : ℝ) : EReal) := by
  intro n
  induction n with
  | zero =>
    intro hn u d
    show (blocks m c ⟨0, hn⟩).start.g3 (ix2 u d) = _
    rw [start_g3]
    refine ((at_point m c H ⟨0, hn⟩).part3 u d).trans (congrArg Real.toEReal ?_)
    simp only [Finset.sum_range, zero_mul, zero_add, one_mul]
  | succ n ih =>
    intro hn u d
    show ((blocks m c ⟨n + 1, hn⟩).next (sumsAt m c n (by omega))).g3 (ix2 u d) = _
    rw [next_g3]
    refine (congrArg₂ (fun a b : EReal => a + b) (ih _ u d) ((at_point m c H ⟨n + 1, hn⟩).part3 u d)).trans ?_
    rw [← EReal.coe_add, add_mul (n + 1) 1 256, one_mul, Finset.sum_range_add, Finset.sum_range (n := 256)]

/-- After point `n`, the gates' bias's gradient sums the rows so far. -/
theorem acc_bg : ∀ (n : ℕ) (hn : n < cfg0.N) (u : Fin 1) (d : Fin 2048), (sumsAt m c n hn).bg (ix2 u d)
    = ((∑ s ∈ Finset.range ((n + 1) * 256), A.dgt s d : ℝ) : EReal) := by
  intro n
  induction n with
  | zero =>
    intro hn u d
    show (blocks m c ⟨0, hn⟩).start.bg (ix2 u d) = _
    rw [start_bg]
    refine ((at_point m c H ⟨0, hn⟩).partB u d).trans (congrArg Real.toEReal ?_)
    simp only [Finset.sum_range, zero_mul, zero_add, one_mul]
  | succ n ih =>
    intro hn u d
    show ((blocks m c ⟨n + 1, hn⟩).next (sumsAt m c n (by omega))).bg (ix2 u d) = _
    rw [next_bg]
    refine (congrArg₂ (fun a b : EReal => a + b) (ih _ u d) ((at_point m c H ⟨n + 1, hn⟩).partB u d)).trans ?_
    rw [← EReal.coe_add, add_mul (n + 1) 1 256, one_mul, Finset.sum_range_add, Finset.sum_range (n := 256)]

theorem final23 : (dats m 0 c).arrAt 23 (cfgs 0).N = fun i : S1x1024.Idx => ((∑ s : Fin 2048, A.row2 s (i 1).val : ℝ) : EReal) := by
  refine (dats m 0 c).arrAt_eq_of_after_last 23 t0_7 (by decide +kernel) _ fun y => ?_
  blk_simp
  dsimp only [dats]
  refine (congrArg (sumsAt m c t0_7.val t0_7.isLt).g2 (ix2_eta y).symm).trans ?_
  refine (acc_g2 m c H _ t0_7.isLt (y 0) (y 1)).trans (congrArg Real.toEReal ?_)
  rw [show (t0_7.val + 1) * 256 = 2048 from rfl, Finset.sum_range]

theorem final24 : (dats m 0 c).arrAt 24 (cfgs 0).N = fun i : S1x1024.Idx => ((∑ s : Fin 2048, A.row3 s (i 1).val : ℝ) : EReal) := by
  refine (dats m 0 c).arrAt_eq_of_after_last 24 t0_7 (by decide +kernel) _ fun y => ?_
  blk_simp
  dsimp only [dats]
  refine (congrArg (sumsAt m c t0_7.val t0_7.isLt).g3 (ix2_eta y).symm).trans ?_
  refine (acc_g3 m c H _ t0_7.isLt (y 0) (y 1)).trans (congrArg Real.toEReal ?_)
  rw [show (t0_7.val + 1) * 256 = 2048 from rfl, Finset.sum_range]

theorem final25 : (dats m 0 c).arrAt 25 (cfgs 0).N = fun i : S1x2048.Idx => ((∑ s : Fin 2048, A.dgt s (i 1).val : ℝ) : EReal) := by
  refine (dats m 0 c).arrAt_eq_of_after_last 25 t0_7 (by decide +kernel) _ fun y => ?_
  blk_simp
  dsimp only [dats]
  refine (congrArg (sumsAt m c t0_7.val t0_7.isLt).bg (ix2_eta y).symm).trans ?_
  refine (acc_bg m c H _ t0_7.isLt (y 0) (y 1)).trans (congrArg Real.toEReal ?_)
  rw [show (t0_7.val + 1) * 256 = 2048 from rfl, Finset.sum_range]
end

end Cert.Merge
end
-- ==== Proof.MergeEq.lean ====
/- The two programs of the merge's backward call end with the same arrays. -/
module

public import proofs.«01_k».proof.Defs
public import proofs.«01_k».proof.Proof.Gen.Pre_finite_merge
public import proofs.«01_k».proof.Proof.Gen.ReferenceMergeIdeal.Run
public import proofs.«01_k».proof.Proof.MergeBits
public import proofs.«01_k».proof.Proof.MergeRef
public import proofs.«01_k».proof.Proof.MergeKernel

@[expose] public section

set_option maxRecDepth 16384

noncomputable section

open Idealize.ShloMosaic Idealize.ShloMosaic.TcCoe Idealize.SL.Sem

namespace Cert.Merge

open Cert.Reals

/-- Finite arguments are the images of real arrays. -/
theorem args (m : (ℓ : Loc Cert.KernelMergeIdeal.nD Cert.KernelMergeIdeal.τ Cert.KernelMergeIdeal.sig) → Buf (Elt Ideal) ℓ)
    (h : Cert.Pre_KernelMergeIdeal_finite_merge (hPre_finite_merge := Cert.Pre_finite_merge.Gen.facts) m) (c : Dev Cert.KernelMergeIdeal.nD) :
    ∃ A : Arrs, MergeRef.In A (arg0 m c) (arg1 m c) (arg2 m c) (arg3 m c) (arg4 m c) (arg5 m c) (arg6 m c) (arg7 m c) (arg8 m c) (arg9 m c) (arg10 m c) (arg11 m c) := by
  obtain ⟨e0, e1, e2, e3, e4, e5, e6, e7, e8, e9, e10, e11⟩ := h c
  obtain ⟨X, hX⟩ := exists_real2 _ (real_of_finite _ _ e0)
  obtain ⟨L, hL⟩ := exists_real2 _ (real_of_finite _ _ e1)
  obtain ⟨P, hP⟩ := exists_real2 _ (real_of_finite _ _ e2)
  obtain ⟨J, hJ⟩ := exists_real2 _ (real_of_finite _ _ e3)
  obtain ⟨B, hB⟩ := exists_real2 _ (real_of_finite _ _ e4)
  obtain ⟨G2, hG2⟩ := exists_real2 _ (real_of_finite _ _ e5)
  obtain ⟨G3, hG3⟩ := exists_real2 _ (real_of_finite _ _ e6)
  obtain ⟨WL, hWL⟩ := exists_real3 _ (real_of_finite _ _ e7)
  obtain ⟨WP, hWP⟩ := exists_real3 _ (real_of_finite _ _ e8)
  obtain ⟨WO, hWO⟩ := exists_real3 _ (real_of_finite _ _ e9)
  obtain ⟨DY, hDY⟩ := exists_real2 _ (real_of_finite _ _ e10)
  obtain ⟨DH, hDH⟩ := exists_real2 _ (real_of_finite _ _ e11)
  refine ⟨⟨X, L, P, J, B 0, G2 0, G3 0, WL 0, WP 0, WO 0, DY, DH⟩,
    ⟨hX, hL, hP, hJ, fun u q => ?_, fun u q => ?_, fun u q => ?_, fun u p q => ?_, fun u p q => ?_, fun u p q => ?_, hDY, hDH⟩⟩
  · have := hB u q; rwa [show (u : ℕ) = 0 from by omega] at this
  · have := hG2 u q; rwa [show (u : ℕ) = 0 from by omega] at this
  · have := hG3 u q; rwa [show (u : ℕ) = 0 from by omega] at this
  · have := hWL u p q; rwa [show (u : ℕ) = 0 from by omega] at this
  · have := hWP u p q; rwa [show (u : ℕ) = 0 from by omega] at this
  · have := hWO u p q; rwa [show (u : ℕ) = 0 from by omega] at this

/-- The same said of the kernel's arguments. -/
theorem kernel_args {m : (ℓ : Loc Cert.KernelMergeIdeal.nD Cert.KernelMergeIdeal.τ Cert.KernelMergeIdeal.sig) → Buf (Elt Ideal) ℓ} {c : Dev Cert.KernelMergeIdeal.nD} {A : Arrs}
    (H : MergeRef.In A (arg0 m c) (arg1 m c) (arg2 m c) (arg3 m c) (arg4 m c) (arg5 m c) (arg6 m c) (arg7 m c) (arg8 m c) (arg9 m c) (arg10 m c) (arg11 m c)) :
    Args m c A :=
  ⟨H.h0, H.h1, H.h2, H.h3, H.h4 0, H.h5 0, H.h6 0, H.h7 0, H.h8 0, H.h9 0, H.h10, H.h11⟩

/-- The reference runs and leaves its arguments as they were. -/
theorem frame_reference : Cert.quiescent_ReferenceMergeIdeal (hReferenceMergeIdeal := Cert.ReferenceMergeIdeal.Gen.facts) := fun m g _ =>
  (θ_run Cert.ReferenceMergeIdeal.defs _ _).mono (fun r h => ⟨fun c => (h c).2.2.2.2.2.2.2.2.2.2, sem_eq_zero_of_no_sems (by decide) r.2⟩)
    (Cert.ReferenceMergeIdeal.Value.run (F := Ideal) m g)

set_option maxHeartbeats 4000000 in
theorem algebraic : Cert.algebraic_KernelMergeIdeal_ReferenceMergeIdeal_pre_finite_merge (hKernelMergeIdeal := Cert.KernelMergeIdeal.Gen.facts)
    (hReferenceMergeIdeal := Cert.ReferenceMergeIdeal.Gen.facts) (hPre_finite_merge := Cert.Pre_finite_merge.Gen.facts) := by
  intro m g m' g' hpre hargs
  refine ⟨fun c => (dats m 0 c).arrAt 16 (Cert.KernelMergeIdeal.cfgs 0).N,
    fun c => (dats m 0 c).arrAt 17 (Cert.KernelMergeIdeal.cfgs 0).N,
    fun c => (dats m 0 c).arrAt 18 (Cert.KernelMergeIdeal.cfgs 0).N,
    fun c => (dats m 0 c).arrAt 19 (Cert.KernelMergeIdeal.cfgs 0).N,
    fun c => (dats m 0 c).arrAt 20 (Cert.KernelMergeIdeal.cfgs 0).N,
    fun c => (dats m 0 c).arrAt 21 (Cert.KernelMergeIdeal.cfgs 0).N,
    fun c => (dats m 0 c).arrAt 22 (Cert.KernelMergeIdeal.cfgs 0).N,
    fun c => (dats m 0 c).arrAt 23 (Cert.KernelMergeIdeal.cfgs 0).N,
    fun c => (dats m 0 c).arrAt 24 (Cert.KernelMergeIdeal.cfgs 0).N,
    fun c => (dats m 0 c).arrAt 25 (Cert.KernelMergeIdeal.cfgs 0).N, run_blocks m g, ?_⟩
  refine (θ_run _ _ _).mono (fun r h c => ?_) (Cert.ReferenceMergeIdeal.Value.run m' g')
  obtain ⟨A, H⟩ := args m hpre c
  have K := kernel_args H
  obtain ⟨a0, a1, a2, a3, a4, a5, a6, a7, a8, a9, a10, a11⟩ := hargs c
  have b0 : StableHlo.launchContents m' c (Proc.devRef .tc Cert.ReferenceMergeIdeal.main_arg0) = arg0 m c := a0
  have b1 : StableHlo.launchContents m' c (Proc.devRef .tc Cert.ReferenceMergeIdeal.main_arg1) = arg1 m c := a1
  have b2 : StableHlo.launchContents m' c (Proc.devRef .tc Cert.ReferenceMergeIdeal.main_arg2) = arg2 m c := a2
  have b3 : StableHlo.launchContents m' c (Proc.devRef .tc Cert.ReferenceMergeIdeal.main_arg3) = arg3 m c := a3
  have b4 : StableHlo.launchContents m' c (Proc.devRef .tc Cert.ReferenceMergeIdeal.main_arg4) = arg4 m c := a4
  have b5 : StableHlo.launchContents m' c (Proc.devRef .tc Cert.ReferenceMergeIdeal.main_arg5) = arg5 m c := a5
  have b6 : StableHlo.launchContents m' c (Proc.devRef .tc Cert.ReferenceMergeIdeal.main_arg6) = arg6 m c := a6
  have b7 : StableHlo.launchContents m' c (Proc.devRef .tc Cert.ReferenceMergeIdeal.main_arg7) = arg7 m c := a7
  have b8 : StableHlo.launchContents m' c (Proc.devRef .tc Cert.ReferenceMergeIdeal.main_arg8) = arg8 m c := a8
  have b9 : StableHlo.launchContents m' c (Proc.devRef .tc Cert.ReferenceMergeIdeal.main_arg9) = arg9 m c := a9
  have b10 : StableHlo.launchContents m' c (Proc.devRef .tc Cert.ReferenceMergeIdeal.main_arg10) = arg10 m c := a10
  have b11 : StableHlo.launchContents m' c (Proc.devRef .tc Cert.ReferenceMergeIdeal.main_arg11) = arg11 m c := a11
  obtain ⟨r0, r1, r2, r3, r4, r5, r6, r7, r8, r9, rest⟩ := h c
  refine ⟨r0.trans ?_, r1.trans ?_, r2.trans ?_, r3.trans ?_, r4.trans ?_, r5.trans ?_, r6.trans ?_, r7.trans ?_, r8.trans ?_, r9.trans ?_, rest⟩
  all_goals clear r0 r1 r2 r3 r4 r5 r6 r7 r8 r9 rest
  · rw [Cert.ReferenceMergeIdeal.Read.val_main_v82_eq, b0, b1, b2, b3, b4, b5, b6, b7, b8, b9, b10, b11]
    refine Eq.trans ?_ (final16 m c K).symm
    funext i
    obtain ⟨s, d, rfl⟩ : ∃ (s : Fin 2048) (d : Fin 1024), i = ix2 s d := ⟨i 0, i 1, eq_ix2 i⟩
    exact MergeRef.dx_at H s d
  · rw [Cert.ReferenceMergeIdeal.Read.val_main_v116_eq, b0, b1, b2, b3, b4, b5, b6, b7, b8, b9, b10, b11]
    refine Eq.trans ?_ (final17 m c K).symm
    funext i
    obtain ⟨s, d, rfl⟩ : ∃ (s : Fin 2048) (d : Fin 2048), i = ix2 s d := ⟨i 0, i 1, eq_ix2 i⟩
    exact MergeRef.dgt_at H s d
  · rw [Cert.ReferenceMergeIdeal.Read.val_main_v115_eq, b0, b1, b2, b3, b4, b5, b6, b7, b8, b9, b10, b11]
    refine Eq.trans ?_ (final18 m c K).symm
    funext i
    obtain ⟨s, d, rfl⟩ : ∃ (s : Fin 2048) (d : Fin 1024), i = ix2 s d := ⟨i 0, i 1, eq_ix2 i⟩
    exact MergeRef.dyl_at H s d
  · rw [Cert.ReferenceMergeIdeal.Read.val_main_v114_eq, b0, b1, b2, b3, b4, b5, b6, b7, b8, b9, b10, b11]
    refine Eq.trans ?_ (final19 m c K).symm
    funext i
    obtain ⟨s, d, rfl⟩ : ∃ (s : Fin 2048) (d : Fin 512), i = ix2 s d := ⟨i 0, i 1, eq_ix2 i⟩
    exact MergeRef.dyp_at H s d
  · rw [Cert.ReferenceMergeIdeal.Read.val_main_v117_eq, b0, b1, b2, b3, b4, b5, b6, b7, b8, b9, b10, b11]
    refine Eq.trans ?_ (final20 m c K).symm
    funext i
    obtain ⟨s, d, rfl⟩ : ∃ (s : Fin 2048) (d : Fin 1024), i = ix2 s d := ⟨i 0, i 1, eq_ix2 i⟩
    exact MergeRef.dm_at H s d
  · rw [Cert.ReferenceMergeIdeal.Read.val_main_v118_eq, b0, b1, b2, b3, b4, b5, b6, b7, b8, b9, b10, b11]
    refine Eq.trans ?_ (final21 m c K).symm
    funext i
    obtain ⟨s, d, rfl⟩ : ∃ (s : Fin 2048) (d : Fin 1024), i = ix2 s d := ⟨i 0, i 1, eq_ix2 i⟩
    exact MergeRef.dbra_at H s d
  · rw [Cert.ReferenceMergeIdeal.Read.val_main_v119_eq, b0, b1, b2, b3, b4, b5, b6, b7, b8, b9, b10, b11]
    refine Eq.trans ?_ (final22 m c K).symm
    funext i
    obtain ⟨s, d, rfl⟩ : ∃ (s : Fin 2048) (d : Fin 1024), i = ix2 s d := ⟨i 0, i 1, eq_ix2 i⟩
    exact MergeRef.dbrb_at H s d
  · rw [Cert.ReferenceMergeIdeal.Read.val_main_v120_eq, b0, b1, b2, b3, b4, b5, b6, b7, b8, b9, b10, b11]
    refine Eq.trans ?_ (final23 m c K).symm
    funext i
    obtain ⟨s, d, rfl⟩ : ∃ (s : Fin 1) (d : Fin 1024), i = ix2 s d := ⟨i 0, i 1, eq_ix2 i⟩
    exact MergeRef.dg2_at H s d
  · rw [Cert.ReferenceMergeIdeal.Read.val_main_v121_eq, b0, b1, b2, b3, b4, b5, b7, b8, b9, b11]
    refine Eq.trans ?_ (final24 m c K).symm
    funext i
    obtain ⟨s, d, rfl⟩ : ∃ (s : Fin 1) (d : Fin 1024), i = ix2 s d := ⟨i 0, i 1, eq_ix2 i⟩
    exact MergeRef.dg3_at H s d
  · rw [Cert.ReferenceMergeIdeal.Read.val_main_v122_eq, b0, b1, b2, b3, b4, b5, b6, b7, b8, b9, b10, b11]
    refine Eq.trans ?_ (final25 m c K).symm
    funext i
    obtain ⟨s, d, rfl⟩ : ∃ (s : Fin 1) (d : Fin 2048), i = ix2 s d := ⟨i 0, i 1, eq_ix2 i⟩
    exact MergeRef.dbg_at H s d

end Cert.Merge
end
-- ==== Proof.FmergeMath.lean ====
/- What the merge computes, row by row. -/
module

public import proofs.«01_k».proof.Proof.MlpxPay

@[expose] public section

set_option maxRecDepth 16384

noncomputable section

open Idealize.ShloMosaic Idealize.ShloMosaic.TcCoe Idealize.SL.Sem

namespace Cert.Fmerge

/-- The arrays the merge reads, by the indices of one device's tokens and of the matrices. -/
structure Arrs where
  (X L P J : ℕ → ℕ → EReal) (B G2 G3 : ℕ → EReal) (WL WP WO : ℕ → ℕ → EReal)

/-- The inverse root of a row's mean square. -/
def scale (v : ℕ → EReal) : EReal :=
  Ideal.rsqrt (Ideal.div (∑ k : Fin 1024, v k * v k) (Ideal.ofBits .f32 0x44800000#32) + Ideal.ofBits .f32 0x358637BD#32)

namespace Arrs
variable (A : Arrs)
/-- The recurrent branch, brought up to the model's width. -/
def bra (s c : ℕ) : EReal := ∑ k : Fin 1024, A.L s k * A.WL k c
/-- The pooling branch. -/
def brb (s c : ℕ) : EReal := ∑ k : Fin 512, A.P s k * A.WP k c
/-- The gates, both branches' side by side. -/
def gate (s c : ℕ) : EReal := Ideal.div 1 (1 + Ideal.exp (-(A.J s (2560 + c) + A.B c)))
/-- The gated sum. -/
def mg (s c : ℕ) : EReal := A.gate s c * A.bra s c + A.gate s (1024 + c) * A.brb s c
/-- The mixer's output. -/
def mm (s d : ℕ) : EReal := ∑ c : Fin 1024, A.mg s c * A.WO c d
/-- The stream after the mixer. -/
def x2 (s d : ℕ) : EReal := A.X s d + A.mm s d * scale (A.mm s) * A.G2 d
/-- The channel mixer's input. -/
def h2 (s d : ℕ) : EReal := A.x2 s d * scale (A.x2 s) * A.G3 d
end Arrs

end Cert.Fmerge
end
-- ==== Proof.FmergeRef.lean ====
/- What the reference of the merge computes. -/
module

public import proofs.«01_k».proof.Proof.Gen.ReferenceFmergeIdeal.Read
public import proofs.«01_k».proof.Proof.FmergeMath

@[expose] public section

set_option maxRecDepth 16384

noncomputable section

open Idealize.ShloMosaic Idealize.ShloMosaic.TcCoe Idealize.SL.Sem

namespace Cert.Fmerge

open Cert.ReferenceFmergeIdeal Cert.ReferenceFmergeIdeal.Gen Cert.ReferenceFmergeIdeal.Read

/-- The arguments as functions of their indices. -/
structure In (A : Arrs) (x0 : FVec Ideal S2048x1024 .f32) (x1 : FVec Ideal S2048x1024 .bf16) (x2 : FVec Ideal S2048x512 .bf16) (x3 : FVec Ideal S2048x4608 .f32) (x4 : FVec Ideal S1x2048 .f32) (x5 : FVec Ideal S1x1024 .f32) (x6 : FVec Ideal S1x1024 .f32) (x7 : FVec Ideal S1x1024x1024 .f32) (x8 : FVec Ideal S1x512x1024 .f32) (x9 : FVec Ideal S1x1024x1024 .f32) : Prop where
  h0 : ∀ p q, x0 (ix2 p q) = A.X p q
  h1 : ∀ p q, x1 (ix2 p q) = A.L p q
  h2 : ∀ p q, x2 (ix2 p q) = A.P p q
  h3 : ∀ p q, x3 (ix2 p q) = A.J p q
  h4 : ∀ u q, x4 (ix2 u q) = A.B q
  h5 : ∀ u q, x5 (ix2 u q) = A.G2 q
  h6 : ∀ u q, x6 (ix2 u q) = A.G3 q
  h7 : ∀ u p q, x7 (ix3 u p q) = A.WL p q
  h8 : ∀ u p q, x8 (ix3 u p q) = A.WP p q
  h9 : ∀ u p q, x9 (ix3 u p q) = A.WO p q

variable {A : Arrs} {x0 : FVec Ideal S2048x1024 .f32} {x1 : FVec Ideal S2048x1024 .bf16} {x2 : FVec Ideal S2048x512 .bf16} {x3 : FVec Ideal S2048x4608 .f32} {x4 : FVec Ideal S1x2048 .f32} {x5 : FVec Ideal S1x1024 .f32} {x6 : FVec Ideal S1x1024 .f32} {x7 : FVec Ideal S1x1024x1024 .f32} {x8 : FVec Ideal S1x512x1024 .f32} {x9 : FVec Ideal S1x1024x1024 .f32}
variable (H : In A x0 x1 x2 x3 x4 x5 x6 x7 x8 x9)
include H

theorem ref_bra (s : Fin 2048) (d : Fin 1024) : val_main_v2 (F := Ideal) x1 x7 (ix2 s d) = A.bra s d := by
  pointwise [val_main_v2, val_main_v1, val_main_v0]
  simp only [H.h1, H.h7]
  rfl

theorem ref_brb (s : Fin 2048) (d : Fin 1024) : val_main_v5 (F := Ideal) x2 x8 (ix2 s d) = A.brb s d := by
  pointwise [val_main_v5, val_main_v4, val_main_v3]
  simp only [H.h2, H.h8]
  rfl

theorem ref_gate (s d : Fin 2048) : val_main_v16 (F := Ideal) x3 x4 (ix2 s d) = A.gate s d := by
  pointwise [val_main_v16, val_main_v15, val_main_v14, val_main_v13, val_main_v12, val_main_v11, val_main_v10, val_main_v9, val_main_v8, val_main_v7, val_main_v6, val_main_cst, val_main_cst_0]
  simp only [H.h3, H.h4]
  rfl

theorem ref_mg (s : Fin 2048) (d : Fin 1024) : val_main_v21 (F := Ideal) x1 x2 x3 x4 x7 x8 (ix2 s d) = A.mg s d := by
  have ha := ref_bra H
  have hb := ref_brb H
  have hg := ref_gate H
  pointwise [val_main_v21, val_main_v20, val_main_v19, val_main_v18, val_main_v17]
  simp only [ha, hb, hg]
  rfl

theorem ref_mm (s : Fin 2048) (d : Fin 1024) : val_main_v23 (F := Ideal) x1 x2 x3 x4 x7 x8 x9 (ix2 s d) = A.mm s d := by
  have hm := ref_mg H
  pointwise [val_main_v23, val_main_v22]
  simp only [hm, H.h9]
  rfl

theorem ref_x2 (s : Fin 2048) (d : Fin 1024) : val_main_v38 (F := Ideal) x0 x1 x2 x3 x4 x5 x7 x8 x9 (ix2 s d) = A.x2 s d := by
  have hm := ref_mm H
  pointwise [val_main_v38, val_main_v37, val_main_v36, val_main_v35, val_main_v34, val_main_v33, val_main_v32, val_main_v31, val_main_v30, val_main_cst_3, val_main_v29, val_main_v28, val_main_cst_2, val_main_v27, val_main_v26, val_main_cst_1, val_main_v25, val_main_v24]
  simp only [hm, H.h0, H.h5]
  rfl

theorem ref_h2 (s : Fin 2048) (d : Fin 1024) : val_main_v53 (F := Ideal) x0 x1 x2 x3 x4 x5 x6 x7 x8 x9 (ix2 s d) = A.h2 s d := by
  have hm := ref_x2 H
  pointwise [val_main_v53, val_main_v52, val_main_v51, val_main_v50, val_main_v49, val_main_v48, val_main_v47, val_main_v46, val_main_v45, val_main_cst_6, val_main_v44, val_main_v43, val_main_cst_5, val_main_v42, val_main_v41, val_main_cst_4, val_main_v40, val_main_v39]
  simp only [hm, H.h6]
  rfl

end Cert.Fmerge
end
-- ==== Proof.FmergePay.lean ====
/- What the body of the merge stores, entry by entry. -/
module

public import proofs.«01_k».proof.Proof.Gen.KernelFmergeIdeal.Frame
public import proofs.«01_k».proof.Proof.FmergeMath

@[expose] public section

set_option maxRecDepth 16384

noncomputable section

open Idealize.ShloMosaic Idealize.ShloMosaic.TcCoe Idealize.SL.Sem

namespace Cert.Fmerge

open Cert.KernelFmergeIdeal Cert.KernelFmergeIdeal.Gen

/-- The blocks of one point hold the rows from `o` on, and the weights. -/
structure At (A : Arrs) (o : ℕ) (x0 : Vec Ideal S512x1024 .f32) (x1 : Vec Ideal S512x1024 .bf16) (x2 : Vec Ideal S512x512 .bf16) (x3 : Vec Ideal S512x512 .f32) (x4 : Vec Ideal S512x512 .f32) (x5 : Vec Ideal S512x512 .f32) (x6 : Vec Ideal S512x512 .f32) (x7 : Vec Ideal S1x2048 .f32) (x8 : Vec Ideal S1x1024 .f32) (x9 : Vec Ideal S1x1024 .f32) (x10 : Vec Ideal S1024x1024 .bf16) (x11 : Vec Ideal S4x512x256 .bf16) (x12 : Vec Ideal S1024x1024 .bf16) : Prop where
  x : ∀ p q, x0 (ix2 p q) = A.X (o + p) q
  l : ∀ p q, x1 (ix2 p q) = A.L (o + p) q
  p : ∀ p q, x2 (ix2 p q) = A.P (o + p) q
  p0 : ∀ p q, x3 (ix2 p q) = A.J (o + p) (2560 + q)
  p1 : ∀ p q, x4 (ix2 p q) = A.J (o + p) (2560 + (512 + q))
  p2 : ∀ p q, x5 (ix2 p q) = A.J (o + p) (2560 + (1024 + q))
  p3 : ∀ p q, x6 (ix2 p q) = A.J (o + p) (2560 + (1024 + (512 + q)))
  bg : ∀ q, x7 (ix2 0 q) = A.B q
  g2 : ∀ q, x8 (ix2 0 q) = A.G2 q
  g3 : ∀ q, x9 (ix2 0 q) = A.G3 q
  wl : ∀ p q, x10 (ix2 p q) = A.WL p q
  wp : ∀ k i j, x11 (ix3 k i j) = A.WP i (k * 256 + j)
  wo : ∀ p q, x12 (ix2 p q) = A.WO p q

section gates
variable (p0 p1 : Vec Ideal S512x512 .f32) (bg : Vec Ideal S1x2048 .f32) (Z : ℕ → ℕ → EReal) (B : ℕ → EReal)
  (h0 : ∀ p q, p0 (ix2 p q) = Z p q) (h1 : ∀ p q, p1 (ix2 p q) = Z p (512 + q)) (hB : ∀ q, bg (ix2 0 q) = B q)
include h0 h1

theorem cols (p : Fin 512) (q : Fin 1024) :
    (if h : q.val < 512 then p0 (ix2 p ⟨q.val, h⟩) else p1 (ix2 p ⟨q.val - 512, by omega⟩)) = Z p q := by
  split
  · exact h0 p _
  · rw [h1, show 512 + (q.val - 512) = q.val by omega]

include hB
theorem pay9_at (p : Fin 512) (q : Fin 1024) : k0_pay9 (F := Ideal) bg p0 p1 (ix2 p q) = Ideal.exp (-(Z p q + B q)) := by
  have hz := cols p0 p1 Z h0 h1 p q
  pointwise [k0_pay9]
  simp only [hB]
  erw [hz]
  rw [zero_sub]

theorem pay10_at (a b e : FVec Ideal S512x1024 .f32) (a' b' e' : ℕ → ℕ → EReal) (ha : ∀ p q, a (ix2 p q) = a' p q) (hb : ∀ p q, b (ix2 p q) = b' p q)
    (he : ∀ p q, e (ix2 p q) = e' p q) (p : Fin 512) (q : Fin 1024) :
    k0_pay10 (F := Ideal) a b bg e (Scalar.ofBits .f32 0x3F800000#32) p0 p1 (ix2 p q)
      = Ideal.div 1 (1 + e' p q) * a' p q + Ideal.div 1 (1 + Ideal.exp (-(Z p q + B (1024 + q)))) * b' p q := by
  have hz := cols p0 p1 Z h0 h1 p q
  pointwise [k0_pay10]
  simp only [hB, ha, hb, he]
  erw [hz]
  rw [zero_sub]
end gates

theorem pay8_at (x : Vec Ideal S512x512 .bf16) (w : Vec Ideal S4x512x256 .bf16) (P W : ℕ → ℕ → EReal) (hx : ∀ p q, x (ix2 p q) = P p q)
    (hw : ∀ k i j, w (ix3 k i j) = W i (k * 256 + j)) (p : Fin 512) (q : Fin 1024) :
    k0_pay8 (F := Ideal) x (View.ld w r0_3) (View.ld w r0_4) (View.ld w r0_5) (View.ld w r0_6) (ix2 p q) = ∑ k : Fin 512, P p k * W k q := by
  pointwise [k0_pay8]
  simp only [hx, hw]
  split_ifs
  all_goals
    refine Finset.sum_congr rfl fun k _ => ?_
    congr 2
    simp
    try omega

section sums
variable {v3 v17 : FVec Ideal S512x1024 .f32} {v18 : Vec Ideal S1x2048 .f32} {v27 : FVec Ideal S512x1024 .f32} {u : Ideal .f32} {v32 v33 : Vec Ideal S512x512 .f32}
  {w : Vec Ideal S1024x1024 .bf16} {x : Vec Ideal S512x1024 .f32} {g : Vec Ideal S1x1024 .f32} {M W : ℕ → ℕ → EReal} {G : ℕ → EReal} {X : ℕ → ℕ → EReal}

theorem pay11_at (hM : ∀ p q, k0_pay10 v3 v17 v18 v27 u v32 v33 (ix2 p q) = M p q) (hw : ∀ p q, w (ix2 p q) = W p q) (p : Fin 512) (q : Fin 1024) :
    k0_pay11 v3 v17 v18 v27 u v32 v33 w (ix2 p q) = ∑ k : Fin 1024, M p k * W k q := by
  pointwise [k0_pay11]
  simp only [hM, hw]

theorem pay12_at (hM : ∀ p q, k0_pay11 v3 v17 v18 v27 u v32 v33 w (ix2 p q) = M p q) (hx : ∀ p q, x (ix2 p q) = X p q) (hg : ∀ q, g (ix2 0 q) = G q)
    (p : Fin 512) (q : Fin 1024) : k0_pay12 v3 v17 v18 v27 u v32 v33 w x g (ix2 p q) = X p q + M p q * scale (M p) * G q := by
  pointwise [k0_pay12]
  simp only [hM, hx, hg]
  rfl

theorem pay13_at (hM : ∀ p q, k0_pay12 v3 v17 v18 v27 u v32 v33 w x g (ix2 p q) = M p q) (p : Fin 512) :
    k0_pay13 v3 v17 v18 v27 u v32 v33 w x g (ix1 p) = ∑ k : Fin 1024, M p k * M p k := by
  pointwise [k0_pay13]
  simp only [hM]

theorem pay2_at {z : FVec Ideal S512x1024 .f32} {r : FVec Ideal S512 .f32} (hz : ∀ p q, z (ix2 p q) = M p q) (hr : ∀ p, r (ix1 p) = ∑ k : Fin 1024, M p k * M p k)
    (hg : ∀ q, g (ix2 0 q) = G q) (p : Fin 512) (q : Fin 1024) : k0_pay2 z r g (ix2 p q) = M p q * scale (M p) * G q := by
  pointwise [k0_pay2]
  simp only [hz, hr, hg]
  rfl
theorem pay1_at {z : FVec Ideal S512x1024 .f32} (hz : ∀ p q, z (ix2 p q) = M p q) (p : Fin 512) (q : Fin 1024) : k0_pay1 z (ix2 p q) = M p q := by
  pointwise [k0_pay1]
  exact hz p q

theorem pay3_at {z : FVec Ideal S512x1024 .f32} (hz : ∀ p q, z (ix2 p q) = M p q) (p : Fin 512) (q : Fin 1024) : k0_pay3 z (ix2 p q) = M p q := by
  pointwise [k0_pay3]
  exact hz p q

theorem pay4_at {z : FVec Ideal S512x1024 .bf16} (hz : ∀ p q, z (ix2 p q) = M p q) (p : Fin 512) (q : Fin 1024) : k0_pay4 z (ix2 p q) = M p q := by
  pointwise [k0_pay4]
  exact hz p q

theorem pay5_at {z : FVec Ideal S512x1024 .f32} (hz : ∀ p q, z (ix2 p q) = M p q) (p : Fin 512) (q : Fin 1024) : k0_pay5 z (ix2 p q) = M p q := by
  pointwise [k0_pay5]
  exact hz p q

theorem pay6_at {z : FVec Ideal S512x1024 .f32} (hz : ∀ p q, z (ix2 p q) = M p q) (p : Fin 512) (q : Fin 1024) : k0_pay6 z (ix2 p q) = M p q := by
  pointwise [k0_pay6]
  exact hz p q
end sums

theorem ld_512 {φ : EltTy} (x : Vec Ideal S512x512 φ) : View.ld x r0_2 = x := by funext i; pointwise
theorem ld_1024 {φ : EltTy} (x : Vec Ideal S1024x1024 φ) : View.ld x r0_1 = x := by funext i; pointwise
theorem ld_row {φ : EltTy} (x : Vec Ideal S512x1024 φ) : View.ld x r0_0 = x := by funext i; pointwise
theorem row_eq {b : ℕ} (i : Shape.Idx ⟨2, ![1, b]⟩) : (ix2 0 (i 1) : Shape.Idx ⟨2, ![1, b]⟩) = i := by
  refine Eq.trans ?_ (ix2_eta i)
  rw [show i 0 = (0 : Fin 1) from Subsingleton.elim (α := Fin 1) _ _]
theorem ld_bias {φ : EltTy} (x : Vec Ideal S1x2048 φ) : View.ld x r0_7 = x := by
  funext i
  pointwise
  exact congrArg x (row_eq (b := 2048) i)
theorem ld_gain {φ : EltTy} (x : Vec Ideal S1x1024 φ) : View.ld x r0_8 = x := by
  funext i
  pointwise
  exact congrArg x (row_eq (b := 1024) i)

variable {A : Arrs} {o : ℕ} {x0 : Vec Ideal S512x1024 .f32} {x1 : Vec Ideal S512x1024 .bf16} {x2 : Vec Ideal S512x512 .bf16} {x3 : Vec Ideal S512x512 .f32} {x4 : Vec Ideal S512x512 .f32} {x5 : Vec Ideal S512x512 .f32} {x6 : Vec Ideal S512x512 .f32} {x7 : Vec Ideal S1x2048 .f32} {x8 : Vec Ideal S1x1024 .f32} {x9 : Vec Ideal S1x1024 .f32} {x10 : Vec Ideal S1024x1024 .bf16} {x11 : Vec Ideal S4x512x256 .bf16} {x12 : Vec Ideal S1024x1024 .bf16} (h : At A o x0 x1 x2 x3 x4 x5 x6 x7 x8 x9 x10 x11 x12)
include h

theorem bra_at (p : Fin 512) (q : Fin 1024) : k0_pay14 x0 x1 x2 x3 x4 x5 x6 x7 x8 x9 x10 x11 x12 (ix2 p q) = A.bra (o + p) q := by
  pointwise [k0_pay14, k0_pay7]
  simp only [h.l, h.wl]
  rfl

theorem brb_at (p : Fin 512) (q : Fin 1024) : k0_pay15 x0 x1 x2 x3 x4 x5 x6 x7 x8 x9 x10 x11 x12 (ix2 p q) = A.brb (o + p) q := by
  unfold k0_pay15
  rw [ld_512]
  exact pay8_at x2 x11 (fun p q => A.P (o + p) q) A.WP h.p h.wp p q

theorem exp_at (p : Fin 512) (q : Fin 1024) : k0_pay16 x0 x1 x2 x3 x4 x5 x6 x7 x8 x9 x10 x11 x12 (ix2 p q) = Ideal.exp (-(A.J (o + p) (2560 + q) + A.B q)) := by
  unfold k0_pay16
  rw [ld_bias, ld_512, ld_512]
  exact pay9_at x3 x4 x7 (fun p q => A.J (o + p) (2560 + q)) A.B h.p0 h.p1 h.bg p q

theorem mg_at (p : Fin 512) (q : Fin 1024) : k0_pay10 (k0_pay14 x0 x1 x2 x3 x4 x5 x6 x7 x8 x9 x10 x11 x12) (k0_pay15 x0 x1 x2 x3 x4 x5 x6 x7 x8 x9 x10 x11 x12) (View.ld x7 r0_7) (k0_pay16 x0 x1 x2 x3 x4 x5 x6 x7 x8 x9 x10 x11 x12) (Scalar.ofBits .f32 0x3F800000#32) (View.ld x5 r0_2) (View.ld x6 r0_2) (ix2 p q)
    = A.mg (o + p) q := by
  rw [ld_bias, ld_512, ld_512]
  exact pay10_at x5 x6 x7 (fun p q => A.J (o + p) (2560 + (1024 + q))) A.B h.p2 h.p3 h.bg _ _ _ (fun p q => A.bra (o + p) q) (fun p q => A.brb (o + p) q)
    (fun p q => Ideal.exp (-(A.J (o + p) (2560 + q) + A.B q))) (bra_at h) (brb_at h) (exp_at h) p q

theorem mm_at (p : Fin 512) (q : Fin 1024) : k0_pay11 (k0_pay14 x0 x1 x2 x3 x4 x5 x6 x7 x8 x9 x10 x11 x12) (k0_pay15 x0 x1 x2 x3 x4 x5 x6 x7 x8 x9 x10 x11 x12) (View.ld x7 r0_7) (k0_pay16 x0 x1 x2 x3 x4 x5 x6 x7 x8 x9 x10 x11 x12) (Scalar.ofBits .f32 0x3F800000#32) (View.ld x5 r0_2) (View.ld x6 r0_2) (View.ld x12 r0_1) (ix2 p q)
    = A.mm (o + p) q := by
  exact pay11_at (M := fun p q => A.mg (o + p) q) (W := A.WO) (mg_at h) (by rw [ld_1024]; exact h.wo) p q

theorem x2_at (p : Fin 512) (q : Fin 1024) : k0_pay17 x0 x1 x2 x3 x4 x5 x6 x7 x8 x9 x10 x11 x12 (ix2 p q) = A.x2 (o + p) q := by
  exact pay12_at (M := fun p q => A.mm (o + p) q) (X := fun p q => A.X (o + p) q) (mm_at h) (by rw [ld_row]; exact h.x) (by rw [ld_gain]; exact h.g2) p q

theorem h2_at (p : Fin 512) (q : Fin 1024) : out0_14 x0 x1 x2 x3 x4 x5 x6 x7 x8 x9 x10 x11 x12 (ix2 p q) = A.h2 (o + p) q := by
  unfold out0_14
  frame_out
  have H := x2_at h
  unfold k0_pay17 at H
  simp only [ld_bias, ld_512, ld_1024, ld_row, ld_gain] at H
  exact pay2_at (M := fun p q => A.x2 (o + p) q) (x2_at h) (pay13_at (M := fun p q => A.x2 (o + p) q) H) h.g3 p q

theorem out13_at (p : Fin 512) (q : Fin 1024) : out0_13 x0 x1 x2 x3 x4 x5 x6 x7 x8 x9 x10 x11 x12 (ix2 p q) = A.x2 (o + p) q := by
  unfold out0_13
  frame_out
  exact pay1_at (M := fun p q => A.x2 (o + p) q) (x2_at h) p q

theorem out15_at (p : Fin 512) (q : Fin 1024) : out0_15 x0 x1 x2 x3 x4 x5 x6 x7 x8 x9 x10 x11 x12 (ix2 p q) = A.mm (o + p) q := by
  unfold out0_15
  frame_out
  have H := mm_at h
  simp only [ld_bias, ld_512, ld_1024, ld_row, ld_gain] at H
  exact pay3_at (M := fun p q => A.mm (o + p) q) H p q

theorem out16_at (p : Fin 512) (q : Fin 1024) : out0_16 x0 x1 x2 x3 x4 x5 x6 x7 x8 x9 x10 x11 x12 (ix2 p q) = A.mg (o + p) q := by
  unfold out0_16
  frame_out
  have H := mg_at h
  simp only [ld_bias, ld_512, ld_1024, ld_row, ld_gain] at H
  exact pay4_at (M := fun p q => A.mg (o + p) q) H p q

theorem out17_at (p : Fin 512) (q : Fin 1024) : out0_17 x0 x1 x2 x3 x4 x5 x6 x7 x8 x9 x10 x11 x12 (ix2 p q) = A.bra (o + p) q := by
  unfold out0_17
  frame_out
  exact pay5_at (M := fun p q => A.bra (o + p) q) (bra_at h) p q

theorem out18_at (p : Fin 512) (q : Fin 1024) : out0_18 x0 x1 x2 x3 x4 x5 x6 x7 x8 x9 x10 x11 x12 (ix2 p q) = A.brb (o + p) q := by
  unfold out0_18
  frame_out
  exact pay6_at (M := fun p q => A.brb (o + p) q) (brb_at h) p q

end Cert.Fmerge
end
-- ==== Proof.FmergeKernel.lean ====
/- What the merge's six result arrays hold after the run. -/
module

public import proofs.«01_k».proof.Proof.Gen.KernelFmergeIdeal.Value
public import proofs.«01_k».proof.Proof.FmergePay

@[expose] public section

set_option maxRecDepth 16384

noncomputable section

open Idealize.ShloMosaic Idealize.ShloMosaic.TcCoe Idealize.SL.Sem
open Idealize.ShloMosaic.Pipeline (Dat)

namespace Cert.Fmerge

open Cert.KernelFmergeIdeal Cert.KernelFmergeIdeal.Gen

/-- Where each window lies at a point. -/
theorem idx : ∀ t : Fin cfg0.N, win0_0.index t = ![t.val, 0]
    ∧ win0_1.index t = ![t.val, 0]
    ∧ win0_2.index t = ![t.val, 0]
    ∧ win0_3.index t = ![t.val, 5]
    ∧ win0_4.index t = ![t.val, 6]
    ∧ win0_5.index t = ![t.val, 7]
    ∧ win0_6.index t = ![t.val, 8]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0] ∧ t.val < 4 :=
  (by decide +kernel : ∀ t : Fin grid0.N, _)

theorem lt4 (t : Fin cfg0.N) : t.val < 4 := lt_of_lt_of_eq t.isLt (by decide +kernel)

variable (m : (ℓ : Loc nD τ sig) → Buf (Elt Ideal) ℓ) (c : Dev nD)

abbrev arg0 : FVec Ideal S2048x1024 .f32 := m ((c : Thread nD τ).loc main_arg0)
abbrev arg1 : FVec Ideal S2048x1024 .bf16 := m ((c : Thread nD τ).loc main_arg1)
abbrev arg2 : FVec Ideal S2048x512 .bf16 := m ((c : Thread nD τ).loc main_arg2)
abbrev arg3 : FVec Ideal S2048x4608 .f32 := m ((c : Thread nD τ).loc main_arg3)
abbrev arg4 : FVec Ideal S1x2048 .f32 := m ((c : Thread nD τ).loc main_arg4)
abbrev arg5 : FVec Ideal S1x1024 .f32 := m ((c : Thread nD τ).loc main_arg5)
abbrev arg6 : FVec Ideal S1x1024 .f32 := m ((c : Thread nD τ).loc main_arg6)
abbrev arg7 : FVec Ideal S1x1024x1024 .f32 := m ((c : Thread nD τ).loc main_arg7)
abbrev arg8 : FVec Ideal S1x512x1024 .f32 := m ((c : Thread nD τ).loc main_arg8)
abbrev arg9 : FVec Ideal S1x1024x1024 .f32 := m ((c : Thread nD τ).loc main_arg9)

/-- The argument arrays as functions of their indices. -/
structure Args (A : Arrs) : Prop where
  hX : ∀ p q, arg0 m c (ix2 p q) = A.X p q
  hL : ∀ p q, arg1 m c (ix2 p q) = A.L p q
  hP : ∀ p q, arg2 m c (ix2 p q) = A.P p q
  hJ : ∀ p q, arg3 m c (ix2 p q) = A.J p q
  hB : ∀ u q, arg4 m c (ix2 u q) = A.B q
  hG2 : ∀ u q, arg5 m c (ix2 u q) = A.G2 q
  hG3 : ∀ u q, arg6 m c (ix2 u q) = A.G3 q
  hWL : ∀ u p q, arg7 m c (ix3 u p q) = A.WL p q
  hWP : ∀ u p q, arg8 m c (ix3 u p q) = A.WP p q
  hWO : ∀ u p q, arg9 m c (ix3 u p q) = A.WO p q

/-- The recurrent branch's weights before the call. -/
theorem e1 : Gen.V m c main_v1 = (truncf .bf16 (shapeCast S1024x1024 (arg7 m c) shapeCasts_S1x1024x1024_S1024x1024 : FVec Ideal S1024x1024 .f32) bitsLt_bf16_f32 : FVec Ideal S1024x1024 .bf16) := by
  show StableHlo.after hostOps0 _ _ = _
  after_results
  rfl

/-- The output weights before the call. -/
theorem e3 : Gen.V m c main_v3 = (truncf .bf16 (shapeCast S1024x1024 (arg9 m c) shapeCasts_S1x1024x1024_S1024x1024 : FVec Ideal S1024x1024 .f32) bitsLt_bf16_f32 : FVec Ideal S1024x1024 .bf16) := by
  show StableHlo.after hostOps0 _ _ = _
  after_results
  rfl

/-- The pooling branch's weights before the call, cut at their columns. -/
theorem e7 : Gen.V m c main_v7 = (transpose S4x512x256 [1, 0, 2] (shapeCast S512x4x256 (truncf .bf16 (shapeCast S512x1024 (arg8 m c) shapeCasts_S1x512x1024_S512x1024 : FVec Ideal S512x1024 .f32) bitsLt_bf16_f32 : FVec Ideal S512x1024 .bf16)
    shapeCasts_S512x1024_S512x4x256) transposes_S512x4x256_S4x512x256_1_0_2 : FVec Ideal S4x512x256 .bf16) := by
  show StableHlo.after hostOps0 _ _ = _
  after_results
  rfl

section
variable {A : Arrs} (H : Args m c A)
include H

theorem v1_at (p q : Fin 1024) : (Gen.V m c main_v1 : FVec Ideal S1024x1024 .bf16) (ix2 p q) = A.WL p q := by
  refine (congrFun (e1 m c) _).trans ?_
  pointwise
  exact H.hWL _ p q

theorem v3_at (p q : Fin 1024) : (Gen.V m c main_v3 : FVec Ideal S1024x1024 .bf16) (ix2 p q) = A.WO p q := by
  refine (congrFun (e3 m c) _).trans ?_
  pointwise
  exact H.hWO _ p q

theorem v7_at (k : Fin 4) (i : Fin 512) (j : Fin 256) : (Gen.V m c main_v7 : FVec Ideal S4x512x256 .bf16) (ix3 k i j) = A.WP i (k * 256 + j) := by
  refine (congrFun (e7 m c) _).trans ?_
  pointwise
  simp only [H.hWP]

theorem b0 (t : Fin cfg0.N) (p : Fin 512) (q : Fin 1024) : (iblk m c 0 t : Vec Ideal S512x1024 .f32) (ix2 p q) = A.X (t.val * 512 + p) q := by
  have ht := lt4 t
  refine Eq.trans ?_ (H.hX ⟨t.val * 512 + p, by omega⟩ q)
  blk_ext [iblk, Gen.V, idx t]

theorem b1 (t : Fin cfg0.N) (p : Fin 512) (q : Fin 1024) : (iblk m c 1 t : Vec Ideal S512x1024 .bf16) (ix2 p q) = A.L (t.val * 512 + p) q := by
  have ht := lt4 t
  refine Eq.trans ?_ (H.hL ⟨t.val * 512 + p, by omega⟩ q)
  blk_ext [iblk, Gen.V, idx t]

theorem b2 (t : Fin cfg0.N) (p : Fin 512) (q : Fin 512) : (iblk m c 2 t : Vec Ideal S512x512 .bf16) (ix2 p q) = A.P (t.val * 512 + p) q := by
  have ht := lt4 t
  refine Eq.trans ?_ (H.hP ⟨t.val * 512 + p, by omega⟩ q)
  blk_ext [iblk, Gen.V, idx t]

theorem b3 (t : Fin cfg0.N) (p : Fin 512) (q : Fin 512) : (iblk m c 3 t : Vec Ideal S512x512 .f32) (ix2 p q) = A.J (t.val * 512 + p) (2560 + q) := by
  have ht := lt4 t
  refine Eq.trans ?_ (H.hJ ⟨t.val * 512 + p, by omega⟩ ⟨2560 + q, by omega⟩)
  blk_ext [iblk, Gen.V, idx t]

theorem b4 (t : Fin cfg0.N) (p : Fin 512) (q : Fin 512) : (iblk m c 4 t : Vec Ideal S512x512 .f32) (ix2 p q) = A.J (t.val * 512 + p) (2560 + (512 + q)) := by
  have ht := lt4 t
  refine Eq.trans ?_ (H.hJ ⟨t.val * 512 + p, by omega⟩ ⟨2560 + (512 + q), by omega⟩)
  blk_ext [iblk, Gen.V, idx t]

theorem b5 (t : Fin cfg0.N) (p : Fin 512) (q : Fin 512) : (iblk m c 5 t : Vec Ideal S512x512 .f32) (ix2 p q) = A.J (t.val * 512 + p) (2560 + (1024 + q)) := by
  have ht := lt4 t
  refine Eq.trans ?_ (H.hJ ⟨t.val * 512 + p, by omega⟩ ⟨2560 + (1024 + q), by omega⟩)
  blk_ext [iblk, Gen.V, idx t]

theorem b6 (t : Fin cfg0.N) (p : Fin 512) (q : Fin 512) : (iblk m c 6 t : Vec Ideal S512x512 .f32) (ix2 p q) = A.J (t.val * 512 + p) (2560 + (1024 + (512 + q))) := by
  have ht := lt4 t
  refine Eq.trans ?_ (H.hJ ⟨t.val * 512 + p, by omega⟩ ⟨2560 + (1024 + (512 + q)), by omega⟩)
  blk_ext [iblk, Gen.V, idx t]

theorem b7 (t : Fin cfg0.N) (q : Fin 2048) : (iblk m c 7 t : Vec Ideal S1x2048 .f32) (ix2 0 q) = A.B q := by
  refine Eq.trans ?_ (H.hB 0 q)
  blk_ext [iblk, Gen.V, idx t]

theorem b8 (t : Fin cfg0.N) (q : Fin 1024) : (iblk m c 8 t : Vec Ideal S1x1024 .f32) (ix2 0 q) = A.G2 q := by
  refine Eq.trans ?_ (H.hG2 0 q)
  blk_ext [iblk, Gen.V, idx t]

theorem b9 (t : Fin cfg0.N) (q : Fin 1024) : (iblk m c 9 t : Vec Ideal S1x1024 .f32) (ix2 0 q) = A.G3 q := by
  refine Eq.trans ?_ (H.hG3 0 q)
  blk_ext [iblk, Gen.V, idx t]

theorem b10 (t : Fin cfg0.N) (p q : Fin 1024) : (iblk m c 10 t : Vec Ideal S1024x1024 .bf16) (ix2 p q) = A.WL p q := by
  refine Eq.trans ?_ (v1_at m c H p q)
  blk_ext [iblk, idx t]

theorem b11 (t : Fin cfg0.N) (k : Fin 4) (i : Fin 512) (j : Fin 256) : (iblk m c 11 t : Vec Ideal S4x512x256 .bf16) (ix3 k i j) = A.WP i (k * 256 + j) := by
  refine Eq.trans ?_ (v7_at m c H k i j)
  blk_ext [iblk, idx t]

theorem b12 (t : Fin cfg0.N) (p q : Fin 1024) : (iblk m c 12 t : Vec Ideal S1024x1024 .bf16) (ix2 p q) = A.WO p q := by
  refine Eq.trans ?_ (v3_at m c H p q)
  blk_ext [iblk, idx t]

/-- The blocks of point `t` are the rows from `512 t` on. -/
theorem at_point (t : Fin cfg0.N) : At A (t.val * 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  x := b0 m c H t
  l := b1 m c H t
  p := b2 m c H t
  p0 := b3 m c H t
  p1 := b4 m c H t
  p2 := b5 m c H t
  p3 := b6 m c H t
  bg := b7 m c H t
  g2 := b8 m c H t
  g3 := b9 m c H t
  wl := b10 m c H t
  wp := b11 m c H t
  wo := b12 m c H t

/-- The stream after the mixer. -/
theorem final13 : (dats m 0 c).arrAt 13 (cfgs 0).N = fun i : S2048x1024.Idx => A.x2 (i 0).val (i 1).val := by
  refine (dats m 0 c).arrAt_eq_of_covers 13 _ (by decide +kernel) fun t _ y => ?_
  blk_simp [idx t]
  rw [after0_13]
  refine (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2_eta y).symm).trans ((out13_at (at_point m c H t) (y 0) (y 1)).trans ?_)
  rfl

/-- The channel mixer's input. -/
theorem final14 : (dats m 0 c).arrAt 14 (cfgs 0).N = fun i : S2048x1024.Idx => A.h2 (i 0).val (i 1).val := by
  refine (dats m 0 c).arrAt_eq_of_covers 14 _ (by decide +kernel) fun t _ y => ?_
  blk_simp [idx t]
  rw [after0_14]
  refine (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2_eta y).symm).trans ((h2_at (at_point m c H t) (y 0) (y 1)).trans ?_)
  rfl

/-- The mixer's output. -/
theorem final15 : (dats m 0 c).arrAt 15 (cfgs 0).N = fun i : S2048x1024.Idx => A.mm (i 0).val (i 1).val := by
  refine (dats m 0 c).arrAt_eq_of_covers 15 _ (by decide +kernel) fun t _ y => ?_
  blk_simp [idx t]
  rw [after0_15]
  refine (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2_eta y).symm).trans ((out15_at (at_point m c H t) (y 0) (y 1)).trans ?_)
  rfl

/-- The gated sum. -/
theorem final16 : (dats m 0 c).arrAt 16 (cfgs 0).N = fun i : S2048x1024.Idx => A.mg (i 0).val (i 1).val := by
  refine (dats m 0 c).arrAt_eq_of_covers 16 _ (by decide +kernel) fun t _ y => ?_
  blk_simp [idx t]
  rw [after0_16]
  refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2_eta y).symm).trans ((out16_at (at_point m c H t) (y 0) (y 1)).trans ?_)
  rfl

/-- The recurrent branch. -/
theorem final17 : (dats m 0 c).arrAt 17 (cfgs 0).N = fun i : S2048x1024.Idx => A.bra (i 0).val (i 1).val := by
  refine (dats m 0 c).arrAt_eq_of_covers 17 _ (by decide +kernel) fun t _ y => ?_
  blk_simp [idx t]
  rw [after0_17]
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2_eta y).symm).trans ((out17_at (at_point m c H t) (y 0) (y 1)).trans ?_)
  rfl

/-- The pooling branch. -/
theorem final18 : (dats m 0 c).arrAt 18 (cfgs 0).N = fun i : S2048x1024.Idx => A.brb (i 0).val (i 1).val := by
  refine (dats m 0 c).arrAt_eq_of_covers 18 _ (by decide +kernel) fun t _ y => ?_
  blk_simp [idx t]
  rw [after0_18]
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2_eta y).symm).trans ((out18_at (at_point m c H t) (y 0) (y 1)).trans ?_)
  rfl
end

end Cert.Fmerge
end
-- ==== Proof.FmergeEq.lean ====
/- The two programs of the merge end with the same arrays. -/
module

public import proofs.«01_k».proof.Defs
public import proofs.«01_k».proof.Proof.Gen.ReferenceFmergeIdeal.Run
public import proofs.«01_k».proof.Proof.FmergeRef
public import proofs.«01_k».proof.Proof.FmergeKernel

@[expose] public section

set_option maxRecDepth 16384

noncomputable section

open Idealize.ShloMosaic Idealize.ShloMosaic.TcCoe Idealize.SL.Sem

namespace Cert.Fmerge

open Cert.Mlpx (exists_fun2 exists_fun3)

/-- Every array of one row is given by a function of its column. -/
theorem exists_row {b : ℕ} {φ : FTy} (x : FVec Ideal ⟨2, ![1, b]⟩ φ) : ∃ X : ℕ → EReal, ∀ (u : Fin 1) (q : Fin b), x (ix2 u q) = X q := by
  obtain ⟨X, hX⟩ := exists_fun2 x
  exact ⟨X 0, fun u q => (hX u q).trans (by rw [show (u : ℕ) = 0 from by omega])⟩

/-- The arguments as functions of their indices. -/
theorem args (m : (ℓ : Loc Cert.KernelFmergeIdeal.nD Cert.KernelFmergeIdeal.τ Cert.KernelFmergeIdeal.sig) → Buf (Elt Ideal) ℓ) (c : Dev Cert.KernelFmergeIdeal.nD) :
    ∃ A : Arrs, In A (arg0 m c) (arg1 m c) (arg2 m c) (arg3 m c) (arg4 m c) (arg5 m c) (arg6 m c) (arg7 m c) (arg8 m c) (arg9 m c) := by
  obtain ⟨X, hX⟩ := exists_fun2 (arg0 m c)
  obtain ⟨L, hL⟩ := exists_fun2 (arg1 m c)
  obtain ⟨P, hP⟩ := exists_fun2 (arg2 m c)
  obtain ⟨J, hJ⟩ := exists_fun2 (arg3 m c)
  obtain ⟨B, hB⟩ := exists_row (arg4 m c)
  obtain ⟨G2, hG2⟩ := exists_row (arg5 m c)
  obtain ⟨G3, hG3⟩ := exists_row (arg6 m c)
  obtain ⟨WL, hWL⟩ := exists_fun3 (arg7 m c)
  obtain ⟨WP, hWP⟩ := exists_fun3 (arg8 m c)
  obtain ⟨WO, hWO⟩ := exists_fun3 (arg9 m c)
  exact ⟨⟨X, L, P, J, B, G2, G3, WL, WP, WO⟩, ⟨hX, hL, hP, hJ, hB, hG2, hG3, hWL, hWP, hWO⟩⟩

/-- The reference runs and leaves its arguments as they were. -/
theorem frame_reference : Cert.quiescent_ReferenceFmergeIdeal (hReferenceFmergeIdeal := Cert.ReferenceFmergeIdeal.Gen.facts) := fun m g _ =>
  (θ_run Cert.ReferenceFmergeIdeal.defs _ _).mono (fun r h => ⟨fun c => (h c).2.2.2.2.2.2, sem_eq_zero_of_no_sems (by decide) r.2⟩)
    (Cert.ReferenceFmergeIdeal.Value.run (F := Ideal) m g)

set_option maxHeartbeats 2000000 in
theorem algebraic : Cert.algebraic_KernelFmergeIdeal_ReferenceFmergeIdeal (hKernelFmergeIdeal := Cert.KernelFmergeIdeal.Gen.facts)
    (hReferenceFmergeIdeal := Cert.ReferenceFmergeIdeal.Gen.facts) := by
  intro m g m' g' _ hargs
  refine ⟨fun c => (Cert.KernelFmergeIdeal.Gen.dats m 0 c).arrAt 13 (Cert.KernelFmergeIdeal.cfgs 0).N,
    fun c => (Cert.KernelFmergeIdeal.Gen.dats m 0 c).arrAt 14 (Cert.KernelFmergeIdeal.cfgs 0).N,
    fun c => (Cert.KernelFmergeIdeal.Gen.dats m 0 c).arrAt 15 (Cert.KernelFmergeIdeal.cfgs 0).N,
    fun c => (Cert.KernelFmergeIdeal.Gen.dats m 0 c).arrAt 16 (Cert.KernelFmergeIdeal.cfgs 0).N,
    fun c => (Cert.KernelFmergeIdeal.Gen.dats m 0 c).arrAt 17 (Cert.KernelFmergeIdeal.cfgs 0).N,
    fun c => (Cert.KernelFmergeIdeal.Gen.dats m 0 c).arrAt 18 (Cert.KernelFmergeIdeal.cfgs 0).N, Cert.KernelFmergeIdeal.Value.run_blocks m g, ?_⟩
  refine (θ_run _ _ _).mono (fun r h c => ?_) (Cert.ReferenceFmergeIdeal.Value.run m' g')
  obtain ⟨A, H⟩ := args m c
  have K : Args m c A := ⟨H.h0, H.h1, H.h2, H.h3, H.h4, H.h5, H.h6, H.h7, H.h8, H.h9⟩
  obtain ⟨a0, a1, a2, a3, a4, a5, a6, a7, a8, a9⟩ := hargs c
  obtain ⟨r0, r1, r2, r3, r4, r5, rest⟩ := h c
  refine ⟨r0.trans ?_, r1.trans ?_, r2.trans ?_, r3.trans ?_, r4.trans ?_, r5.trans ?_, rest⟩
  all_goals clear r0 r1 r2 r3 r4 r5 rest
  · rw [Cert.ReferenceFmergeIdeal.Read.val_main_v38_eq, a0, a1, a2, a3, a4, a5, a7, a8, a9]
    refine Eq.trans ?_ (final13 m c K).symm
    funext i
    obtain ⟨s, d, rfl⟩ : ∃ (s : Fin 2048) (d : Fin 1024), i = ix2 s d := ⟨i 0, i 1, eq_ix2 i⟩
    exact ref_x2 H s d
  · rw [Cert.ReferenceFmergeIdeal.Read.val_main_v53_eq, a0, a1, a2, a3, a4, a5, a6, a7, a8, a9]
    refine Eq.trans ?_ (final14 m c K).symm
    funext i
    obtain ⟨s, d, rfl⟩ : ∃ (s : Fin 2048) (d : Fin 1024), i = ix2 s d := ⟨i 0, i 1, eq_ix2 i⟩
    exact ref_h2 H s d
  · rw [Cert.ReferenceFmergeIdeal.Read.val_main_v23_eq, a1, a2, a3, a4, a7, a8, a9]
    refine Eq.trans ?_ (final15 m c K).symm
    funext i
    obtain ⟨s, d, rfl⟩ : ∃ (s : Fin 2048) (d : Fin 1024), i = ix2 s d := ⟨i 0, i 1, eq_ix2 i⟩
    exact ref_mm H s d
  · rw [Cert.ReferenceFmergeIdeal.Read.val_main_v54_eq, a1, a2, a3, a4, a7, a8]
    refine Eq.trans ?_ (final16 m c K).symm
    funext i
    obtain ⟨s, d, rfl⟩ : ∃ (s : Fin 2048) (d : Fin 1024), i = ix2 s d := ⟨i 0, i 1, eq_ix2 i⟩
    exact ref_mg H s d
  · rw [Cert.ReferenceFmergeIdeal.Read.val_main_v55_eq, a1, a7]
    refine Eq.trans ?_ (final17 m c K).symm
    funext i
    obtain ⟨s, d, rfl⟩ : ∃ (s : Fin 2048) (d : Fin 1024), i = ix2 s d := ⟨i 0, i 1, eq_ix2 i⟩
    exact ref_bra H s d
  · rw [Cert.ReferenceFmergeIdeal.Read.val_main_v56_eq, a2, a8]
    refine Eq.trans ?_ (final18 m c K).symm
    funext i
    obtain ⟨s, d, rfl⟩ : ∃ (s : Fin 2048) (d : Fin 1024), i = ix2 s d := ⟨i 0, i 1, eq_ix2 i⟩
    exact ref_brb H s d

end Cert.Fmerge
end
-- ==== Proof.lean ====
module

public import proofs.«01_k».proof.Defs
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.Pre_finite_in
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.InEq
public import proofs.«01_k».proof.Proof.Gen.KernelPool.Frame
public import proofs.«01_k».proof.Proof.Gen.KernelPoolIdeal.Frame
public import proofs.«01_k».proof.Proof.Gen.KernelPoolIdeal.Value
public import proofs.«01_k».proof.Proof.Gen.ReferencePoolIdeal.Run
public import proofs.«01_k».proof.Proof.Gen.ReferencePoolIdeal.Read
public import proofs.«01_k».proof.Proof.Gen.Pre_finite_pool
public import proofs.«01_k».proof.Proof.Gen.KernelPool.Skeleton
public import proofs.«01_k».proof.Proof.Gen.KernelPoolIdeal.Skeleton
public import proofs.«01_k».proof.Proof.PoolEq
public import proofs.«01_k».proof.Proof.LruEq
public import proofs.«01_k».proof.Proof.LossEq
public import proofs.«01_k».proof.Proof.MlpxEq
public import proofs.«01_k».proof.Proof.MergeBits
public import proofs.«01_k».proof.Proof.MergeEq
public import proofs.«01_k».proof.Proof.FmergeEq
public import proofs.«01_k».proof.Proof.Gen.KernelLru
public import proofs.«01_k».proof.Proof.Gen.KernelLru.Skeleton
public import proofs.«01_k».proof.Proof.Gen.KernelLru.Launch
public import proofs.«01_k».proof.Proof.Gen.KernelLru.Points
public import proofs.«01_k».proof.Proof.Gen.KernelLruIdeal
public import proofs.«01_k».proof.Proof.Gen.KernelLruIdeal.Skeleton
public import proofs.«01_k».proof.Proof.Gen.KernelLruIdeal.Launch
public import proofs.«01_k».proof.Proof.Gen.KernelLruIdeal.Points
public import proofs.«01_k».proof.Proof.Gen.KernelLruIdeal.Regions
public import proofs.«01_k».proof.Proof.Gen.ReferenceLruIdeal
public import proofs.«01_k».proof.Proof.Gen.ReferenceLruIdeal.Run
public import proofs.«01_k».proof.Proof.Gen.ReferenceLruIdeal.Read
public import proofs.«01_k».proof.Proof.Gen.Pre_finite_lru
public import proofs.«01_k».proof.Proof.Gen.KernelLoss.Frame
public import proofs.«01_k».proof.Proof.Gen.KernelLoss.Skeleton
public import proofs.«01_k».proof.Proof.Gen.KernelLossIdeal.Frame
public import proofs.«01_k».proof.Proof.Gen.KernelLossIdeal.Skeleton
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Gen.Pre_finite_loss
public import proofs.«01_k».proof.Proof.Gen.KernelMlpx.Frame
public import proofs.«01_k».proof.Proof.Gen.KernelMlpx.Skeleton
public import proofs.«01_k».proof.Proof.Gen.KernelMlpxIdeal.Frame
public import proofs.«01_k».proof.Proof.Gen.KernelMlpxIdeal.Skeleton
public import proofs.«01_k».proof.Proof.Gen.KernelMlpxIdeal.Value
public import proofs.«01_k».proof.Proof.Gen.ReferenceMlpxIdeal.Run
public import proofs.«01_k».proof.Proof.Gen.ReferenceMlpxIdeal.Read
public import proofs.«01_k».proof.Proof.Gen.KernelMerge
public import proofs.«01_k».proof.Proof.Gen.KernelMerge.Skeleton
public import proofs.«01_k».proof.Proof.Gen.KernelMergeIdeal
public import proofs.«01_k».proof.Proof.Gen.KernelMergeIdeal.Frame.Runs
public import proofs.«01_k».proof.Proof.Gen.KernelMergeIdeal.Skeleton
public import proofs.«01_k».proof.Proof.Gen.ReferenceMergeIdeal.Run
public import proofs.«01_k».proof.Proof.Gen.ReferenceMergeIdeal.Read
public import proofs.«01_k».proof.Proof.Gen.Pre_finite_merge
public import proofs.«01_k».proof.Proof.Gen.KernelFmerge.Frame
public import proofs.«01_k».proof.Proof.Gen.KernelFmerge.Skeleton
public import proofs.«01_k».proof.Proof.Gen.KernelFmergeIdeal.Frame
public import proofs.«01_k».proof.Proof.Gen.KernelFmergeIdeal.Skeleton
public import proofs.«01_k».proof.Proof.Gen.KernelFmergeIdeal.Value
public import proofs.«01_k».proof.Proof.Gen.ReferenceFmergeIdeal.Run
public import proofs.«01_k».proof.Proof.Gen.ReferenceFmergeIdeal.Read
public import Idealize.ShloMosaic.Adequacy
public import Idealize.ShloMosaic.Init

@[expose] public section

noncomputable section

namespace Cert.Proof

open Idealize.ShloMosaic Idealize.SL.Sem Cert.KernelIn

theorem claim : Cert.Claim := ⟨Cert.KernelIn.Gen.facts, Cert.KernelInIdeal.Gen.facts, Cert.ReferenceInIdeal.Gen.facts,
  Cert.KernelPool.Gen.facts, Cert.KernelPoolIdeal.Gen.facts, Cert.ReferencePoolIdeal.Gen.facts, Cert.KernelLru.Gen.facts, Cert.KernelLruIdeal.Gen.facts, Cert.ReferenceLruIdeal.Gen.facts,
  Cert.KernelLoss.Gen.facts, Cert.KernelLossIdeal.Gen.facts, Cert.ReferenceLossIdeal.Gen.facts,
  Cert.KernelMlpx.Gen.facts, Cert.KernelMlpxIdeal.Gen.facts, Cert.ReferenceMlpxIdeal.Gen.facts,
  Cert.KernelMerge.Gen.facts, Cert.KernelMergeIdeal.Gen.facts, Cert.ReferenceMergeIdeal.Gen.facts,
  Cert.KernelFmerge.Gen.facts, Cert.KernelFmergeIdeal.Gen.facts, Cert.ReferenceFmergeIdeal.Gen.facts,
  Cert.Pre_finite_in.Gen.facts, Cert.Pre_finite_pool.Gen.facts, Cert.Pre_finite_lru.Gen.facts, Cert.Pre_finite_loss.Gen.facts, Cert.Pre_finite_merge.Gen.facts,
  fun m ρ _ => Cert.KernelIn.Gen.frame m ρ, fun m ρ _ => Cert.KernelInIdeal.Gen.frame m ρ, fun m ρ _ => Cert.KernelInIdeal.Gen.frame m ρ,
  Cert.InProj.frame_reference, fun m ρ _ => Cert.InProj.frame_reference m ρ trivial,
  fun m ρ _ => Cert.KernelPool.Gen.frame m ρ, fun m ρ _ => Cert.KernelPoolIdeal.Gen.frame m ρ, fun m ρ _ => Cert.KernelPoolIdeal.Gen.frame m ρ,
  Cert.Pool.frame_reference, fun m ρ _ => Cert.Pool.frame_reference m ρ trivial,
  Cert.LruRun.frame_kernel, Cert.LruRun.frame_ideal, fun m ρ _ => Cert.LruRun.frame_ideal m ρ trivial,
  Cert.LruRun.frame_reference, fun m ρ _ => Cert.LruRun.frame_reference m ρ trivial,
  fun m ρ _ => Cert.KernelLoss.Gen.frame m ρ, fun m ρ _ => Cert.KernelLossIdeal.Gen.frame m ρ, fun m ρ _ => Cert.KernelLossIdeal.Gen.frame m ρ,
  Cert.Loss.frame_reference, fun m ρ _ => Cert.Loss.frame_reference m ρ trivial,
  fun m ρ _ => Cert.KernelMlpx.Gen.frame m ρ, fun m ρ _ => Cert.KernelMlpxIdeal.Gen.frame m ρ, Cert.Mlpx.frame_reference,
  Cert.Merge.frame_kernel, Cert.Merge.frame_ideal, fun m ρ _ => Cert.Merge.frame_ideal m ρ trivial,
  Cert.Merge.frame_reference, fun m ρ _ => Cert.Merge.frame_reference m ρ trivial,
  fun m ρ _ => Cert.KernelFmerge.Gen.frame m ρ, fun m ρ _ => Cert.KernelFmergeIdeal.Gen.frame m ρ, Cert.Fmerge.frame_reference,
  trivial, Cert.InProj.algebraic, trivial, Cert.Pool.algebraic,
  ⟨IdealRules.named_const.statement Cert.KernelLruIdeal.κ "gelu_c" .f32 0x3D372713#32 ((8943/200000 : ℝ) : EReal) rfl,
    IdealRules.named_const.statement Cert.KernelLruIdeal.κ "gelu_3c" .f32 0x3E095D4F#32 ((26829/200000 : ℝ) : EReal) rfl⟩,
  Cert.LruRun.algebraic, trivial, Cert.Loss.algebraic, trivial, Cert.Mlpx.algebraic, trivial, Cert.Merge.algebraic, trivial, Cert.Fmerge.algebraic⟩

end Cert.Proof

end
